-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores_sample [hPre_finite_scores_sample : Cert.Pre_finite_scores_sample.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores_sample.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores_sample [hPre_finite_scores_sample : Cert.Pre_finite_scores_sample.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores_sample.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_lse [hPre_finite_lse : Cert.Pre_finite_lse.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_lse.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_lse [hPre_finite_lse : Cert.Pre_finite_lse.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_lse.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores_sample [hKernel3Ideal : Cert.Kernel3Ideal.Facts] [hPre_finite_scores_sample : Cert.Pre_finite_scores_sample.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores_sample m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores_sample [hReference3Ideal : Cert.Reference3Ideal.Facts] [hPre_finite_scores_sample : Cert.Pre_finite_scores_sample.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores_sample m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite_lse [hKernel5Ideal : Cert.Kernel5Ideal.Facts] [hPre_finite_lse : Cert.Pre_finite_lse.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_lse m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite_lse [hReference5Ideal : Cert.Reference5Ideal.Facts] [hPre_finite_lse : Cert.Pre_finite_lse.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_lse m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_scores_sample [hKernel3Ideal : Cert.Kernel3Ideal.Facts] [hReference3Ideal : Cert.Reference3Ideal.Facts] [hPre_finite_scores_sample : Cert.Pre_finite_scores_sample.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores_sample m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_lse [hKernel5Ideal : Cert.Kernel5Ideal.Facts] [hReference5Ideal : Cert.Reference5Ideal.Facts] [hPre_finite_lse : Cert.Pre_finite_lse.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_lse m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v37)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_scores_sample : Cert.Pre_finite_scores_sample.Facts) (hPre_finite_lse : Cert.Pre_finite_lse.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores_sample (hKernel3Ideal := hKernel3Ideal) (hPre_finite_scores_sample := hPre_finite_scores_sample)
    ∧ quiescent_Reference3Ideal (hReference3Ideal := hReference3Ideal)
    ∧ quiescent_Reference3Ideal_pre_finite_scores_sample (hReference3Ideal := hReference3Ideal) (hPre_finite_scores_sample := hPre_finite_scores_sample)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_lse (hKernel5Ideal := hKernel5Ideal) (hPre_finite_lse := hPre_finite_lse)
    ∧ quiescent_Reference5Ideal (hReference5Ideal := hReference5Ideal)
    ∧ quiescent_Reference5Ideal_pre_finite_lse (hReference5Ideal := hReference5Ideal) (hPre_finite_lse := hPre_finite_lse)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores_sample (hKernel3Ideal := hKernel3Ideal) (hReference3Ideal := hReference3Ideal) (hPre_finite_scores_sample := hPre_finite_scores_sample)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_lse (hKernel5Ideal := hKernel5Ideal) (hReference5Ideal := hReference5Ideal) (hPre_finite_lse := hPre_finite_lse)
-- ==== Pre_finite_lse.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S4x8192x512 : Shape := ⟨3, ![4, 8192, 512]⟩
abbrev S1x512 : Shape := ⟨2, ![1, 512]⟩
abbrev S1x1024x1024 : Shape := ⟨3, ![1, 1024, 1024]⟩
abbrev S_ : Shape := ⟨0, ![]⟩

class Facts : Prop where
  bcast_S_S4x8192x8 : S_.BroadcastsInDim S4x8192x8 (![] : Fin 0 → Fin S4x8192x8.rank)
  reducesTo_S4x8192x8_S_d0_1_2 : S4x8192x8.ReducesTo [0, 1, 2] S_
  h_S_ : 0 < S_.numel

variable [Facts]

def fn {F : FTy → Type} [FloatOps F] (main_arg0 : FVec F S4x8192x1024 .f32) (main_arg1 : FVec F S4x8192x8x64 .f32) (main_arg2 : FVec F S4x8192x8x64 .f32) (main_arg3 : FVec F S4x8192x8x64 .f32) (main_arg4 : FVec F S4x8192x8 .f32) (main_arg5 : FVec F S4x8192x8 .f32) (main_arg6 : FVec F S4x8192x8 .f32) (main_arg7 : FVec F S4x8192x512 .f32) (main_arg8 : FVec F S1x512 .f32) (main_arg9 : FVec F S1x512 .f32) (main_arg10 : FVec F S1x1024x1024 .f32) : IVec S_ 1 :=
  let main_v0 : FVec F S4x8192x8 .f32 := Host.absf main_arg4
  let main_cst : FVec F S_ .f32 := constant S_ .f32 0x7F800000#32
  let main_v1 : FVec F S4x8192x8 .f32 := broadcastInDim S4x8192x8 ![] bcast_S_S4x8192x8 main_cst
  let main_v2 : IVec S4x8192x8 1 := cmpf .olt main_v0 main_v1
  let main_c : IVec S_ 1 := constantI S_ 1 1#1
  let main_v3 : IVec S_ 1 := (fun x v => Host.reduce IntOp.andi x v reducesTo_S4x8192x8_S_d0_1_2 h_S_) main_v2 main_c
  let main_v4 : FVec F S4x8192x8 .f32 := Host.absf main_arg5
  let main_cst_0 : FVec F S_ .f32 := constant S_ .f32 0x7F800000#32
  let main_v5 : FVec F S4x8192x8 .f32 := broadcastInDim S4x8192x8 ![] bcast_S_S4x8192x8 main_cst_0
  let main_v6 : IVec S4x8192x8 1 := cmpf .olt main_v4 main_v5
  let main_c_1 : IVec S_ 1 := constantI S_ 1 1#1
  let main_v7 : IVec S_ 1 := (fun x v => Host.reduce IntOp.andi x v reducesTo_S4x8192x8_S_d0_1_2 h_S_) main_v6 main_c_1
  let main_v8 : IVec S_ 1 := andi main_v3 main_v7
  let main_v9 : FVec F S4x8192x8 .f32 := Host.absf main_arg6
  let main_cst_2 : FVec F S_ .f32 := constant S_ .f32 0x7F800000#32
  let main_v10 : FVec F S4x8192x8 .f32 := broadcastInDim S4x8192x8 ![] bcast_S_S4x8192x8 main_cst_2
  let main_v11 : IVec S4x8192x8 1 := cmpf .olt main_v9 main_v10
  let main_c_3 : IVec S_ 1 := constantI S_ 1 1#1
  let main_v12 : IVec S_ 1 := (fun x v => Host.reduce IntOp.andi x v reducesTo_S4x8192x8_S_d0_1_2 h_S_) main_v11 main_c_3
  let main_v13 : IVec S_ 1 := andi main_v8 main_v12
  main_v13
-- ==== Pre_finite_scores.lean ====
abbrev S4x8192x8x96 : Shape := ⟨4, ![4, 8192, 8, 96]⟩
abbrev S4x8192x8x64 : Shape := ⟨4, ![4, 8192, 8, 64]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel

variable [Facts]

def fn {F : FTy → Type} [FloatOps F] (main_arg0 : FVec F S4x8192x8x96 .f32) (main_arg1 : FVec F S4x8192x8x96 .f32) (main_arg2 : FVec F S4x8192x8x64 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  main_v8
-- ==== Pre_finite_scores_sample.lean ====
abbrev S8x8192x8x96 : Shape := ⟨4, ![8, 8192, 8, 96]⟩
abbrev S8x8192x8x64 : Shape := ⟨4, ![8, 8192, 8, 64]⟩
abbrev S_ : Shape := ⟨0, ![]⟩

class Facts : Prop where
  bcast_S_S8x8192x8x96 : S_.BroadcastsInDim S8x8192x8x96 (![] : Fin 0 → Fin S8x8192x8x96.rank)
  reducesTo_S8x8192x8x96_S_d0_1_2_3 : S8x8192x8x96.ReducesTo [0, 1, 2, 3] S_
  h_S_ : 0 < S_.numel

variable [Facts]

def fn {F : FTy → Type} [FloatOps F] (main_arg0 : FVec F S8x8192x8x96 .f32) (main_arg1 : FVec F S8x8192x8x96 .f32) (main_arg2 : FVec F S8x8192x8x64 .f32) : IVec S_ 1 :=
  let main_v0 : FVec F S8x8192x8x96 .f32 := Host.absf main_arg0
  let main_cst : FVec F S_ .f32 := constant S_ .f32 0x7F800000#32
  let main_v1 : FVec F S8x8192x8x96 .f32 := broadcastInDim S8x8192x8x96 ![] bcast_S_S8x8192x8x96 main_cst
  let main_v2 : IVec S8x8192x8x96 1 := cmpf .olt main_v0 main_v1
  let main_c : IVec S_ 1 := constantI S_ 1 1#1
  let main_v3 : IVec S_ 1 := (fun x v => Host.reduce IntOp.andi x v reducesTo_S8x8192x8x96_S_d0_1_2_3 h_S_) main_v2 main_c
  let main_v4 : FVec F S8x8192x8x96 .f32 := Host.absf main_arg1
  let main_cst_0 : FVec F S_ .f32 := constant S_ .f32 0x7F800000#32
  let main_v5 : FVec F S8x8192x8x96 .f32 := broadcastInDim S8x8192x8x96 ![] bcast_S_S8x8192x8x96 main_cst_0
  let main_v6 : IVec S8x8192x8x96 1 := cmpf .olt main_v4 main_v5
  let main_c_1 : IVec S_ 1 := constantI S_ 1 1#1
  let main_v7 : IVec S_ 1 := (fun x v => Host.reduce IntOp.andi x v reducesTo_S8x8192x8x96_S_d0_1_2_3 h_S_) main_v6 main_c_1
  let main_v8 : IVec S_ 1 := andi main_v3 main_v7
  main_v8
-- ==== Kernel.lean ====
abbrev S4x8192x8x96 : Shape := ⟨4, ![4, 8192, 8, 96]⟩
abbrev S4x8192x8x64 : Shape := ⟨4, ![4, 8192, 8, 64]⟩
abbrev S_ : Shape := ⟨0, ![]⟩
abbrev S4x8192x8x65 : Shape := ⟨4, ![4, 8192, 8, 65]⟩
abbrev S4x8192x8x128 : Shape := ⟨4, ![4, 8192, 8, 128]⟩
abbrev S4x8192x1024 : Shape := ⟨3, ![4, 8192, 1024]⟩
abbrev S4x8192x512 : Shape := ⟨3, ![4, 8192, 512]⟩
abbrev S1x512x256 : Shape := ⟨3, ![1, 512, 256]⟩
abbrev S1x8192x256 : Shape := ⟨3, ![1, 8192, 256]⟩
abbrev S1x512x128 : Shape := ⟨3, ![1, 512, 128]⟩
abbrev S2x512x512 : Shape := ⟨3, ![2, 512, 512]⟩
abbrev S512x1 : Shape := ⟨2, ![512, 1]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S1x128 : Shape := ⟨2, ![1, 128]⟩

abbrev nBuf : Space → Nat
  | .hbm => 28
  | .vmem => 12
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x8x65, .f32⟩
  | .hbm, ⟨10, _⟩ => ⟨S_, .i32⟩
  | .hbm, ⟨11, _⟩ => ⟨S_, .f32⟩
  | .hbm, ⟨12, _⟩ => ⟨S4x8192x8x128, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .bf16⟩
  | .hbm, ⟨17, _⟩ => ⟨S_, .i32⟩
  | .hbm, ⟨18, _⟩ => ⟨S_, .f32⟩
  | .hbm, ⟨19, _⟩ => ⟨S4x8192x8x128, .f32⟩
  | .hbm, ⟨20, _⟩ => ⟨S4x8192x1024, .f32⟩
  | .hbm, ⟨21, _⟩ => ⟨S4x8192x1024, .bf16⟩
  | .hbm, ⟨22, _⟩ => ⟨S_, .i32⟩
  | .hbm, ⟨23, _⟩ => ⟨S_, .f32⟩
  | .hbm, ⟨24, _⟩ => ⟨S4x8192x8x128, .f32⟩
  | .hbm, ⟨25, _⟩ => ⟨S4x8192x1024, .f32⟩
  | .hbm, ⟨26, _⟩ => ⟨S4x8192x1024, .bf16⟩
  | .hbm, ⟨27, _⟩ => ⟨S4x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x512, .f32⟩
  | .local _ .vmem, ⟨9, _⟩ => ⟨S2x512x512, .f32⟩
  | .local _ .vmem, ⟨10, _⟩ => ⟨S2x512x512, .bf16⟩
  | .local _ .vmem, ⟨11, _⟩ => ⟨S2x512x512, .bf16⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_call0_v0 : Ref sig .tc := ⟨.hbm, 8, rfl⟩
abbrev main_v2 : Ref sig .tc := ⟨.hbm, 9, rfl⟩
abbrev main_c : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32 : BitVec 32 := 0#32
  c0_i32
def k0_mult2 : BitVec 32 :=
  let c0_i32_11 : BitVec 32 := 0#32
  c0_i32_11
def k0_mult3 : BitVec 32 :=
  let c512_i32 : BitVec 32 := 512#32
  c512_i32
def k0_mult4 : BitVec 32 :=
  let c512_i32_29 : BitVec 32 := 512#32
  c512_i32_29
def k0_mult5 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_55 : BitVec 32 := 512#32
  let v75 : BitVec 32 := Scalar.muli v72 c512_i32_55
  v75
def k0_off1 (c0_i32_50 : BitVec 32) (c1_i32_51 : BitVec 32) : Fin 3 → Nat :=
  let c0_56 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_55 : BitVec 32 := 512#32
  let v75 : BitVec 32 := Scalar.muli v72 c512_i32_55
  let v76 : BitVec 32 := v75
  let v77 : Index := Scalar.indexCast v76
  let c0_57 : Index := 0#32
  ![0, v77.toNat, 0]
def k0_mult6 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_65 : BitVec 32 := 512#32
  let v86 : BitVec 32 := Scalar.muli v72 c512_i32_65
  v86
def k0_off2 (c0_i32_50 : BitVec 32) (c1_i32_51 : BitVec 32) : Fin 3 → Nat :=
  let c0_66 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_65 : BitVec 32 := 512#32
  let v86 : BitVec 32 := Scalar.muli v72 c512_i32_65
  let v87 : BitVec 32 := v86
  let v88 : Index := Scalar.indexCast v87
  let c128_67 : Index := 128#32
  ![0, v88.toNat, 128]
def k0_mult7 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  v128
def k0_off3 (c0_i32_50 : BitVec 32) : Fin 3 → Nat :=
  let c0_91 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  let v129 : BitVec 32 := v128
  let v130 : Index := Scalar.indexCast v129
  let c0_92 : Index := 0#32
  ![0, v130.toNat, 0]
def k0_mult8 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  v139
def k0_off4 (c0_i32_50 : BitVec 32) : Fin 3 → Nat :=
  let c0_98 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  let v140 : BitVec 32 := v139
  let v141 : Index := Scalar.indexCast v140
  let c128_99 : Index := 128#32
  ![0, v141.toNat, 128]
def k0_mult9 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_105 : BitVec 32 := 512#32
  let v149 : BitVec 32 := Scalar.muli v146 c512_i32_105
  v149
def k0_mult10 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_115 : BitVec 32 := 512#32
  let v160 : BitVec 32 := Scalar.muli v146 c512_i32_115
  v160
def k0_mult11 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  v201
def k0_off5 (c0_i32_50 : BitVec 32) : Fin 3 → Nat :=
  let c0_140 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  let v202 : BitVec 32 := v201
  let v203 : Index := Scalar.indexCast v202
  let c0_141 : Index := 0#32
  ![0, v203.toNat, 0]
def k0_mult12 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  v212
def k0_off6 (c0_i32_50 : BitVec 32) : Fin 3 → Nat :=
  let c0_147 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  let v213 : BitVec 32 := v212
  let v214 : Index := Scalar.indexCast v213
  let c128_148 : Index := 128#32
  ![0, v214.toNat, 128]
def k0_mult13 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_157 : BitVec 32 := 512#32
  let v224 : BitVec 32 := Scalar.muli v221 c512_i32_157
  v224
def k0_mult14 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_167 : BitVec 32 := 512#32
  let v235 : BitVec 32 := Scalar.muli v221 c512_i32_167
  v235
def k0_mult15 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_192 : BitVec 32 := 512#32
  let v277 : BitVec 32 := Scalar.muli v272 c512_i32_192
  v277
def k0_mult16 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_199 : BitVec 32 := 512#32
  let v288 : BitVec 32 := Scalar.muli v272 c512_i32_199
  v288
def k0_mult17 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_207 : BitVec 32 := 512#32
  let v298 : BitVec 32 := Scalar.muli v295 c512_i32_207
  v298
def k0_mult18 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_217 : BitVec 32 := 512#32
  let v309 : BitVec 32 := Scalar.muli v295 c512_i32_217
  v309
def k0_mult19 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_241 : BitVec 32 := 512#32
  let v350 : BitVec 32 := Scalar.muli v220 c512_i32_241
  v350
def k0_mult20 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_248 : BitVec 32 := 512#32
  let v361 : BitVec 32 := Scalar.muli v220 c512_i32_248
  v361
def k0_mult21 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_259 : BitVec 32 := 512#32
  let v373 : BitVec 32 := Scalar.muli v370 c512_i32_259
  v373
def k0_mult22 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_269 : BitVec 32 := 512#32
  let v384 : BitVec 32 := Scalar.muli v370 c512_i32_269
  v384
def k0_mult23 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_294 : BitVec 32 := 512#32
  let v426 : BitVec 32 := Scalar.muli v421 c512_i32_294
  v426
def k0_mult24 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_301 : BitVec 32 := 512#32
  let v437 : BitVec 32 := Scalar.muli v421 c512_i32_301
  v437
def k0_mult25 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_309 : BitVec 32 := 512#32
  let v447 : BitVec 32 := Scalar.muli v444 c512_i32_309
  v447
def k0_mult26 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_319 : BitVec 32 := 512#32
  let v458 : BitVec 32 := Scalar.muli v444 c512_i32_319
  v458
def k0_mult27 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_343 : BitVec 32 := 512#32
  let v499 : BitVec 32 := Scalar.muli v369 c512_i32_343
  v499
def k0_mult28 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_350 : BitVec 32 := 512#32
  let v510 : BitVec 32 := Scalar.muli v369 c512_i32_350
  v510
def k0_mult29 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_360 : BitVec 32 := 512#32
  let v522 : BitVec 32 := Scalar.muli v519 c512_i32_360
  v522
def k0_mult30 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_370 : BitVec 32 := 512#32
  let v533 : BitVec 32 := Scalar.muli v519 c512_i32_370
  v533
def k0_mult31 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_395 : BitVec 32 := 512#32
  let v575 : BitVec 32 := Scalar.muli v570 c512_i32_395
  v575
def k0_mult32 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_402 : BitVec 32 := 512#32
  let v586 : BitVec 32 := Scalar.muli v570 c512_i32_402
  v586
def k0_mult33 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_410 : BitVec 32 := 512#32
  let v596 : BitVec 32 := Scalar.muli v593 c512_i32_410
  v596
def k0_mult34 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_420 : BitVec 32 := 512#32
  let v607 : BitVec 32 := Scalar.muli v593 c512_i32_420
  v607
def k0_mult35 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_444 : BitVec 32 := 512#32
  let v648 : BitVec 32 := Scalar.muli v518 c512_i32_444
  v648
def k0_mult36 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_451 : BitVec 32 := 512#32
  let v659 : BitVec 32 := Scalar.muli v518 c512_i32_451
  v659
def k0_mult37 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_461 : BitVec 32 := 512#32
  let v671 : BitVec 32 := Scalar.muli v668 c512_i32_461
  v671
def k0_mult38 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_471 : BitVec 32 := 512#32
  let v682 : BitVec 32 := Scalar.muli v668 c512_i32_471
  v682
def k0_mult39 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_496 : BitVec 32 := 512#32
  let v724 : BitVec 32 := Scalar.muli v719 c512_i32_496
  v724
def k0_mult40 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_503 : BitVec 32 := 512#32
  let v735 : BitVec 32 := Scalar.muli v719 c512_i32_503
  v735
def k0_mult41 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_511 : BitVec 32 := 512#32
  let v745 : BitVec 32 := Scalar.muli v742 c512_i32_511
  v745
def k0_mult42 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_521 : BitVec 32 := 512#32
  let v756 : BitVec 32 := Scalar.muli v742 c512_i32_521
  v756
def k0_mult43 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_545 : BitVec 32 := 512#32
  let v797 : BitVec 32 := Scalar.muli v667 c512_i32_545
  v797
def k0_mult44 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_552 : BitVec 32 := 512#32
  let v808 : BitVec 32 := Scalar.muli v667 c512_i32_552
  v808
def k0_mult45 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_562 : BitVec 32 := 512#32
  let v820 : BitVec 32 := Scalar.muli v817 c512_i32_562
  v820
def k0_mult46 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_572 : BitVec 32 := 512#32
  let v831 : BitVec 32 := Scalar.muli v817 c512_i32_572
  v831
def k0_mult47 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_597 : BitVec 32 := 512#32
  let v873 : BitVec 32 := Scalar.muli v868 c512_i32_597
  v873
def k0_mult48 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_604 : BitVec 32 := 512#32
  let v884 : BitVec 32 := Scalar.muli v868 c512_i32_604
  v884
def k0_mult49 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_612 : BitVec 32 := 512#32
  let v894 : BitVec 32 := Scalar.muli v891 c512_i32_612
  v894
def k0_mult50 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_622 : BitVec 32 := 512#32
  let v905 : BitVec 32 := Scalar.muli v891 c512_i32_622
  v905
def k0_mult51 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_646 : BitVec 32 := 512#32
  let v946 : BitVec 32 := Scalar.muli v816 c512_i32_646
  v946
def k0_mult52 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_653 : BitVec 32 := 512#32
  let v957 : BitVec 32 := Scalar.muli v816 c512_i32_653
  v957
def k0_mult53 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_663 : BitVec 32 := 512#32
  let v969 : BitVec 32 := Scalar.muli v966 c512_i32_663
  v969
def k0_mult54 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_673 : BitVec 32 := 512#32
  let v980 : BitVec 32 := Scalar.muli v966 c512_i32_673
  v980
def k0_mult55 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_698 : BitVec 32 := 512#32
  let v1022 : BitVec 32 := Scalar.muli v1017 c512_i32_698
  v1022
def k0_mult56 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_705 : BitVec 32 := 512#32
  let v1033 : BitVec 32 := Scalar.muli v1017 c512_i32_705
  v1033
def k0_mult57 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_713 : BitVec 32 := 512#32
  let v1043 : BitVec 32 := Scalar.muli v1040 c512_i32_713
  v1043
def k0_mult58 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_723 : BitVec 32 := 512#32
  let v1054 : BitVec 32 := Scalar.muli v1040 c512_i32_723
  v1054
def k0_mult59 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_747 : BitVec 32 := 512#32
  let v1095 : BitVec 32 := Scalar.muli v965 c512_i32_747
  v1095
def k0_mult60 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_754 : BitVec 32 := 512#32
  let v1106 : BitVec 32 := Scalar.muli v965 c512_i32_754
  v1106
def k0_mult61 : BitVec 32 :=
  let c7168_i32 : BitVec 32 := 7168#32
  c7168_i32
def k0_mult62 : BitVec 32 :=
  let c7168_i32_781 : BitVec 32 := 7168#32
  c7168_i32_781
def k0_mult63 : BitVec 32 :=
  let c7680_i32 : BitVec 32 := 7680#32
  c7680_i32
def k0_mult64 : BitVec 32 :=
  let c7680_i32_794 : BitVec 32 := 7680#32
  c7680_i32_794
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
abbrev S4x8192x8x96 : Shape := ⟨4, ![4, 8192, 8, 96]⟩
abbrev S4x8192x8x64 : Shape := ⟨4, ![4, 8192, 8, 64]⟩
abbrev S_ : Shape := ⟨0, ![]⟩
abbrev S4x8192x8x65 : Shape := ⟨4, ![4, 8192, 8, 65]⟩
abbrev S4x8192x8x128 : Shape := ⟨4, ![4, 8192, 8, 128]⟩
abbrev S4x8192x1024 : Shape := ⟨3, ![4, 8192, 1024]⟩
abbrev S4x8192x512 : Shape := ⟨3, ![4, 8192, 512]⟩
abbrev S1x512x256 : Shape := ⟨3, ![1, 512, 256]⟩
abbrev S1x8192x256 : Shape := ⟨3, ![1, 8192, 256]⟩
abbrev S1x512x128 : Shape := ⟨3, ![1, 512, 128]⟩
abbrev S2x512x512 : Shape := ⟨3, ![2, 512, 512]⟩
abbrev S512x1 : Shape := ⟨2, ![512, 1]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S1x128 : Shape := ⟨2, ![1, 128]⟩

abbrev nBuf : Space → Nat
  | .hbm => 28
  | .vmem => 12
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x8x65, .f32⟩
  | .hbm, ⟨10, _⟩ => ⟨S_, .i32⟩
  | .hbm, ⟨11, _⟩ => ⟨S_, .f32⟩
  | .hbm, ⟨12, _⟩ => ⟨S4x8192x8x128, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .bf16⟩
  | .hbm, ⟨17, _⟩ => ⟨S_, .i32⟩
  | .hbm, ⟨18, _⟩ => ⟨S_, .f32⟩
  | .hbm, ⟨19, _⟩ => ⟨S4x8192x8x128, .f32⟩
  | .hbm, ⟨20, _⟩ => ⟨S4x8192x1024, .f32⟩
  | .hbm, ⟨21, _⟩ => ⟨S4x8192x1024, .bf16⟩
  | .hbm, ⟨22, _⟩ => ⟨S_, .i32⟩
  | .hbm, ⟨23, _⟩ => ⟨S_, .f32⟩
  | .hbm, ⟨24, _⟩ => ⟨S4x8192x8x128, .f32⟩
  | .hbm, ⟨25, _⟩ => ⟨S4x8192x1024, .f32⟩
  | .hbm, ⟨26, _⟩ => ⟨S4x8192x1024, .bf16⟩
  | .hbm, ⟨27, _⟩ => ⟨S4x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x512, .f32⟩
  | .local _ .vmem, ⟨9, _⟩ => ⟨S2x512x512, .f32⟩
  | .local _ .vmem, ⟨10, _⟩ => ⟨S2x512x512, .bf16⟩
  | .local _ .vmem, ⟨11, _⟩ => ⟨S2x512x512, .bf16⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_call0_v0 : Ref sig .tc := ⟨.hbm, 8, rfl⟩
abbrev main_v2 : Ref sig .tc := ⟨.hbm, 9, rfl⟩
abbrev main_c : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32 : BitVec 32 := 0#32
  c0_i32
def k0_mult2 : BitVec 32 :=
  let c0_i32_11 : BitVec 32 := 0#32
  c0_i32_11
def k0_mult3 : BitVec 32 :=
  let c512_i32 : BitVec 32 := 512#32
  c512_i32
def k0_mult4 : BitVec 32 :=
  let c512_i32_29 : BitVec 32 := 512#32
  c512_i32_29
def k0_mult5 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_55 : BitVec 32 := 512#32
  let v75 : BitVec 32 := Scalar.muli v72 c512_i32_55
  v75
def k0_off1 (c0_i32_50 : BitVec 32) (c1_i32_51 : BitVec 32) : Fin 3 → Nat :=
  let c0_56 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_55 : BitVec 32 := 512#32
  let v75 : BitVec 32 := Scalar.muli v72 c512_i32_55
  let v76 : BitVec 32 := v75
  let v77 : Index := Scalar.indexCast v76
  let c0_57 : Index := 0#32
  ![0, v77.toNat, 0]
def k0_mult6 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_65 : BitVec 32 := 512#32
  let v86 : BitVec 32 := Scalar.muli v72 c512_i32_65
  v86
def k0_off2 (c0_i32_50 : BitVec 32) (c1_i32_51 : BitVec 32) : Fin 3 → Nat :=
  let c0_66 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_65 : BitVec 32 := 512#32
  let v86 : BitVec 32 := Scalar.muli v72 c512_i32_65
  let v87 : BitVec 32 := v86
  let v88 : Index := Scalar.indexCast v87
  let c128_67 : Index := 128#32
  ![0, v88.toNat, 128]
def k0_mult7 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  v128
def k0_off3 (c0_i32_50 : BitVec 32) : Fin 3 → Nat :=
  let c0_91 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  let v129 : BitVec 32 := v128
  let v130 : Index := Scalar.indexCast v129
  let c0_92 : Index := 0#32
  ![0, v130.toNat, 0]
def k0_mult8 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  v139
def k0_off4 (c0_i32_50 : BitVec 32) : Fin 3 → Nat :=
  let c0_98 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  let v140 : BitVec 32 := v139
  let v141 : Index := Scalar.indexCast v140
  let c128_99 : Index := 128#32
  ![0, v141.toNat, 128]
def k0_mult9 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_105 : BitVec 32 := 512#32
  let v149 : BitVec 32 := Scalar.muli v146 c512_i32_105
  v149
def k0_mult10 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_115 : BitVec 32 := 512#32
  let v160 : BitVec 32 := Scalar.muli v146 c512_i32_115
  v160
def k0_mult11 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  v201
def k0_off5 (c0_i32_50 : BitVec 32) : Fin 3 → Nat :=
  let c0_140 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  let v202 : BitVec 32 := v201
  let v203 : Index := Scalar.indexCast v202
  let c0_141 : Index := 0#32
  ![0, v203.toNat, 0]
def k0_mult12 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  v212
def k0_off6 (c0_i32_50 : BitVec 32) : Fin 3 → Nat :=
  let c0_147 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  let v213 : BitVec 32 := v212
  let v214 : Index := Scalar.indexCast v213
  let c128_148 : Index := 128#32
  ![0, v214.toNat, 128]
def k0_mult13 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_157 : BitVec 32 := 512#32
  let v224 : BitVec 32 := Scalar.muli v221 c512_i32_157
  v224
def k0_mult14 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_167 : BitVec 32 := 512#32
  let v235 : BitVec 32 := Scalar.muli v221 c512_i32_167
  v235
def k0_mult15 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_192 : BitVec 32 := 512#32
  let v277 : BitVec 32 := Scalar.muli v272 c512_i32_192
  v277
def k0_mult16 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_199 : BitVec 32 := 512#32
  let v288 : BitVec 32 := Scalar.muli v272 c512_i32_199
  v288
def k0_mult17 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_207 : BitVec 32 := 512#32
  let v298 : BitVec 32 := Scalar.muli v295 c512_i32_207
  v298
def k0_mult18 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_217 : BitVec 32 := 512#32
  let v309 : BitVec 32 := Scalar.muli v295 c512_i32_217
  v309
def k0_mult19 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_241 : BitVec 32 := 512#32
  let v350 : BitVec 32 := Scalar.muli v220 c512_i32_241
  v350
def k0_mult20 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_248 : BitVec 32 := 512#32
  let v361 : BitVec 32 := Scalar.muli v220 c512_i32_248
  v361
def k0_mult21 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_259 : BitVec 32 := 512#32
  let v373 : BitVec 32 := Scalar.muli v370 c512_i32_259
  v373
def k0_mult22 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_269 : BitVec 32 := 512#32
  let v384 : BitVec 32 := Scalar.muli v370 c512_i32_269
  v384
def k0_mult23 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_294 : BitVec 32 := 512#32
  let v426 : BitVec 32 := Scalar.muli v421 c512_i32_294
  v426
def k0_mult24 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_301 : BitVec 32 := 512#32
  let v437 : BitVec 32 := Scalar.muli v421 c512_i32_301
  v437
def k0_mult25 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_309 : BitVec 32 := 512#32
  let v447 : BitVec 32 := Scalar.muli v444 c512_i32_309
  v447
def k0_mult26 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_319 : BitVec 32 := 512#32
  let v458 : BitVec 32 := Scalar.muli v444 c512_i32_319
  v458
def k0_mult27 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_343 : BitVec 32 := 512#32
  let v499 : BitVec 32 := Scalar.muli v369 c512_i32_343
  v499
def k0_mult28 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_350 : BitVec 32 := 512#32
  let v510 : BitVec 32 := Scalar.muli v369 c512_i32_350
  v510
def k0_mult29 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_360 : BitVec 32 := 512#32
  let v522 : BitVec 32 := Scalar.muli v519 c512_i32_360
  v522
def k0_mult30 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_370 : BitVec 32 := 512#32
  let v533 : BitVec 32 := Scalar.muli v519 c512_i32_370
  v533
def k0_mult31 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_395 : BitVec 32 := 512#32
  let v575 : BitVec 32 := Scalar.muli v570 c512_i32_395
  v575
def k0_mult32 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_402 : BitVec 32 := 512#32
  let v586 : BitVec 32 := Scalar.muli v570 c512_i32_402
  v586
def k0_mult33 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_410 : BitVec 32 := 512#32
  let v596 : BitVec 32 := Scalar.muli v593 c512_i32_410
  v596
def k0_mult34 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_420 : BitVec 32 := 512#32
  let v607 : BitVec 32 := Scalar.muli v593 c512_i32_420
  v607
def k0_mult35 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_444 : BitVec 32 := 512#32
  let v648 : BitVec 32 := Scalar.muli v518 c512_i32_444
  v648
def k0_mult36 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_451 : BitVec 32 := 512#32
  let v659 : BitVec 32 := Scalar.muli v518 c512_i32_451
  v659
def k0_mult37 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_461 : BitVec 32 := 512#32
  let v671 : BitVec 32 := Scalar.muli v668 c512_i32_461
  v671
def k0_mult38 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_471 : BitVec 32 := 512#32
  let v682 : BitVec 32 := Scalar.muli v668 c512_i32_471
  v682
def k0_mult39 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_496 : BitVec 32 := 512#32
  let v724 : BitVec 32 := Scalar.muli v719 c512_i32_496
  v724
def k0_mult40 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_503 : BitVec 32 := 512#32
  let v735 : BitVec 32 := Scalar.muli v719 c512_i32_503
  v735
def k0_mult41 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_511 : BitVec 32 := 512#32
  let v745 : BitVec 32 := Scalar.muli v742 c512_i32_511
  v745
def k0_mult42 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_521 : BitVec 32 := 512#32
  let v756 : BitVec 32 := Scalar.muli v742 c512_i32_521
  v756
def k0_mult43 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_545 : BitVec 32 := 512#32
  let v797 : BitVec 32 := Scalar.muli v667 c512_i32_545
  v797
def k0_mult44 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_552 : BitVec 32 := 512#32
  let v808 : BitVec 32 := Scalar.muli v667 c512_i32_552
  v808
def k0_mult45 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_562 : BitVec 32 := 512#32
  let v820 : BitVec 32 := Scalar.muli v817 c512_i32_562
  v820
def k0_mult46 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_572 : BitVec 32 := 512#32
  let v831 : BitVec 32 := Scalar.muli v817 c512_i32_572
  v831
def k0_mult47 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_597 : BitVec 32 := 512#32
  let v873 : BitVec 32 := Scalar.muli v868 c512_i32_597
  v873
def k0_mult48 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_604 : BitVec 32 := 512#32
  let v884 : BitVec 32 := Scalar.muli v868 c512_i32_604
  v884
def k0_mult49 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_612 : BitVec 32 := 512#32
  let v894 : BitVec 32 := Scalar.muli v891 c512_i32_612
  v894
def k0_mult50 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_622 : BitVec 32 := 512#32
  let v905 : BitVec 32 := Scalar.muli v891 c512_i32_622
  v905
def k0_mult51 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_646 : BitVec 32 := 512#32
  let v946 : BitVec 32 := Scalar.muli v816 c512_i32_646
  v946
def k0_mult52 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_653 : BitVec 32 := 512#32
  let v957 : BitVec 32 := Scalar.muli v816 c512_i32_653
  v957
def k0_mult53 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_663 : BitVec 32 := 512#32
  let v969 : BitVec 32 := Scalar.muli v966 c512_i32_663
  v969
def k0_mult54 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_673 : BitVec 32 := 512#32
  let v980 : BitVec 32 := Scalar.muli v966 c512_i32_673
  v980
def k0_mult55 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_698 : BitVec 32 := 512#32
  let v1022 : BitVec 32 := Scalar.muli v1017 c512_i32_698
  v1022
def k0_mult56 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_705 : BitVec 32 := 512#32
  let v1033 : BitVec 32 := Scalar.muli v1017 c512_i32_705
  v1033
def k0_mult57 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_713 : BitVec 32 := 512#32
  let v1043 : BitVec 32 := Scalar.muli v1040 c512_i32_713
  v1043
def k0_mult58 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_723 : BitVec 32 := 512#32
  let v1054 : BitVec 32 := Scalar.muli v1040 c512_i32_723
  v1054
def k0_mult59 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_747 : BitVec 32 := 512#32
  let v1095 : BitVec 32 := Scalar.muli v965 c512_i32_747
  v1095
def k0_mult60 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_754 : BitVec 32 := 512#32
  let v1106 : BitVec 32 := Scalar.muli v965 c512_i32_754
  v1106
def k0_mult61 : BitVec 32 :=
  let c7168_i32 : BitVec 32 := 7168#32
  c7168_i32
def k0_mult62 : BitVec 32 :=
  let c7168_i32_781 : BitVec 32 := 7168#32
  c7168_i32_781
def k0_mult63 : BitVec 32 :=
  let c7680_i32 : BitVec 32 := 7680#32
  c7680_i32
def k0_mult64 : BitVec 32 :=
  let c7680_i32_794 : BitVec 32 := 7680#32
  c7680_i32_794
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x8x96 : Shape := ⟨4, ![4, 8192, 8, 96]⟩
abbrev S4x8192x8x64 : Shape := ⟨4, ![4, 8192, 8, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8x8192x8192, .f32⟩
  | .hbm, ⟨4, _⟩ => ⟨S_, .f32⟩
  | .hbm, ⟨5, _⟩ => ⟨S4x8x8192x8192, .f32⟩
  | .hbm, ⟨6, _⟩ => ⟨S4x8x8192x8192, .f32⟩
  | .hbm, ⟨7, _⟩ => ⟨S_, .f32⟩
  | .hbm, ⟨8, _⟩ => ⟨S4x8x8192, .f32⟩
  | .hbm, ⟨9, _⟩ => ⟨S_, .f32⟩
  | .hbm, ⟨10, _⟩ => ⟨S4x8x8192, .f32⟩
  | .hbm, ⟨11, _⟩ => ⟨S4x8x8192, .f32⟩
  | .hbm, ⟨12, _⟩ => ⟨S4x8x8192x1, .f32⟩
  | .hbm, ⟨13, _⟩ => ⟨S4x8x8192x8192, .f32⟩
  | .hbm, ⟨14, _⟩ => ⟨S4x8x8192x8192, .f32⟩
  | .hbm, ⟨15, _⟩ => ⟨S4x8x8192x8192, .f32⟩
  | .hbm, ⟨16, _⟩ => ⟨S_, .f32⟩
  | .hbm, ⟨17, _⟩ => ⟨S4x8x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S4x8x64x8192, .f32⟩
  | .hbm, ⟨22, _⟩ => ⟨S4x8192x8x64, .f32⟩
  | .hbm, ⟨23, _⟩ => ⟨S4x8192x512, .f32⟩
  | .hbm, ⟨24, _⟩ => ⟨S4x8192x512, .bf16⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024x1024 : Shape := ⟨3, ![1, 1024, 1024]⟩
abbrev S1x8x1024 : Shape := ⟨3, ![1, 8, 1024]⟩
abbrev S1024x2816 : Shape := ⟨2, ![1024, 2816]⟩
abbrev S1024x1024 : Shape := ⟨2, ![1024, 1024]⟩
abbrev S8x1024 : Shape := ⟨2, ![8, 1024]⟩
abbrev S8 : Shape := ⟨1, ![8]⟩
abbrev S8x1 : Shape := ⟨2, ![8, 1]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 18
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024x1024 : Shape := ⟨3, ![1, 1024, 1024]⟩
abbrev S1x8x1024 : Shape := ⟨3, ![1, 8, 1024]⟩
abbrev S1024x2816 : Shape := ⟨2, ![1024, 2816]⟩
abbrev S1024x1024 : Shape := ⟨2, ![1024, 1024]⟩
abbrev S8x1024 : Shape := ⟨2, ![8, 1024]⟩
abbrev S8 : Shape := ⟨1, ![8]⟩
abbrev S8x1 : Shape := ⟨2, ![8, 1]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 18
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S4x8192x5632 : Shape := ⟨3, ![4, 8192, 5632]⟩
abbrev S3x5632 : Shape := ⟨2, ![3, 5632]⟩
abbrev S5632 : Shape := ⟨1, ![5632]⟩
abbrev S4x8194x5632 : Shape := ⟨3, ![4, 8194, 5632]⟩
abbrev S1x1x5632 : Shape := ⟨3, ![1, 1, 5632]⟩
abbrev S4x8192x2816 : Shape := ⟨3, ![4, 8192, 2816]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x5632, .f32⟩
  | .hbm, ⟨25, _⟩ => ⟨S4x8192x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S4x8194x5632, .f32⟩
  | .hbm, ⟨31, _⟩ => ⟨S4x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S4x8192x5632, .f32⟩
  | .hbm, ⟨36, _⟩ => ⟨S4x8192x5632, .f32⟩
  | .hbm, ⟨37, _⟩ => ⟨S_, .f32⟩
  | .hbm, ⟨38, _⟩ => ⟨S4x8192x5632, .f32⟩
  | .hbm, ⟨39, _⟩ => ⟨S4x8192x5632, .f32⟩
  | .hbm, ⟨40, _⟩ => ⟨S4x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x8192x5632, .f32⟩
  | .hbm, ⟨45, _⟩ => ⟨S4x8192x5632, .f32⟩
  | .hbm, ⟨46, _⟩ => ⟨S4x8192x5632, .f32⟩
  | .hbm, ⟨47, _⟩ => ⟨S4x8192x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S4x8192x5632, .f32⟩
  | .hbm, ⟨52, _⟩ => ⟨S4x8192x5632, .f32⟩
  | .hbm, ⟨53, _⟩ => ⟨S4x8192x5632, .f32⟩
  | .hbm, ⟨54, _⟩ => ⟨S1x1x5632, .f32⟩
  | .hbm, ⟨55, _⟩ => ⟨S4x8192x5632, .f32⟩
  | .hbm, ⟨56, _⟩ => ⟨S4x8192x5632, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S2816x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192, .f32⟩
  | .hbm, ⟨75, _⟩ => ⟨S4x8192x1, .f32⟩
  | .hbm, ⟨76, _⟩ => ⟨S_, .f32⟩
  | .hbm, ⟨77, _⟩ => ⟨S4x8192x1, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S4x8192x1, .f32⟩
  | .hbm, ⟨83, _⟩ => ⟨S4x8192x1024, .f32⟩
  | .hbm, ⟨84, _⟩ => ⟨S4x8192x1024, .f32⟩
  | .hbm, ⟨85, _⟩ => ⟨S1x1x1024, .f32⟩
  | .hbm, ⟨86, _⟩ => ⟨S4x8192x1024, .f32⟩
  | .hbm, ⟨87, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel3.lean ====
abbrev S8x8192x8x96 : Shape := ⟨4, ![8, 8192, 8, 96]⟩
abbrev S8x8192x8x64 : Shape := ⟨4, ![8, 8192, 8, 64]⟩
abbrev S_ : Shape := ⟨0, ![]⟩
abbrev S8x8192x8x65 : Shape := ⟨4, ![8, 8192, 8, 65]⟩
abbrev S8x8192x8x128 : Shape := ⟨4, ![8, 8192, 8, 128]⟩
abbrev S8x8192x1024 : Shape := ⟨3, ![8, 8192, 1024]⟩
abbrev S8x8192x512 : Shape := ⟨3, ![8, 8192, 512]⟩
abbrev S1x512x256 : Shape := ⟨3, ![1, 512, 256]⟩
abbrev S1x8192x256 : Shape := ⟨3, ![1, 8192, 256]⟩
abbrev S1x512x128 : Shape := ⟨3, ![1, 512, 128]⟩
abbrev S2x512x512 : Shape := ⟨3, ![2, 512, 512]⟩
abbrev S512x1 : Shape := ⟨2, ![512, 1]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S1x128 : Shape := ⟨2, ![1, 128]⟩

abbrev nBuf : Space → Nat
  | .hbm => 28
  | .vmem => 12
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x8x65, .f32⟩
  | .hbm, ⟨10, _⟩ => ⟨S_, .i32⟩
  | .hbm, ⟨11, _⟩ => ⟨S_, .f32⟩
  | .hbm, ⟨12, _⟩ => ⟨S8x8192x8x128, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .bf16⟩
  | .hbm, ⟨17, _⟩ => ⟨S_, .i32⟩
  | .hbm, ⟨18, _⟩ => ⟨S_, .f32⟩
  | .hbm, ⟨19, _⟩ => ⟨S8x8192x8x128, .f32⟩
  | .hbm, ⟨20, _⟩ => ⟨S8x8192x1024, .f32⟩
  | .hbm, ⟨21, _⟩ => ⟨S8x8192x1024, .bf16⟩
  | .hbm, ⟨22, _⟩ => ⟨S_, .i32⟩
  | .hbm, ⟨23, _⟩ => ⟨S_, .f32⟩
  | .hbm, ⟨24, _⟩ => ⟨S8x8192x8x128, .f32⟩
  | .hbm, ⟨25, _⟩ => ⟨S8x8192x1024, .f32⟩
  | .hbm, ⟨26, _⟩ => ⟨S8x8192x1024, .bf16⟩
  | .hbm, ⟨27, _⟩ => ⟨S8x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x512, .f32⟩
  | .local _ .vmem, ⟨9, _⟩ => ⟨S2x512x512, .f32⟩
  | .local _ .vmem, ⟨10, _⟩ => ⟨S2x512x512, .bf16⟩
  | .local _ .vmem, ⟨11, _⟩ => ⟨S2x512x512, .bf16⟩
  | _, _ => ⟨S8x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_call0_v0 : Ref sig .tc := ⟨.hbm, 8, rfl⟩
abbrev main_v2 : Ref sig .tc := ⟨.hbm, 9, rfl⟩
abbrev main_c : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_mult1 : BitVec 32 :=
  let c0_i32 : BitVec 32 := 0#32
  c0_i32
def k0_mult2 : BitVec 32 :=
  let c0_i32_11 : BitVec 32 := 0#32
  c0_i32_11
def k0_mult3 : BitVec 32 :=
  let c512_i32 : BitVec 32 := 512#32
  c512_i32
def k0_mult4 : BitVec 32 :=
  let c512_i32_29 : BitVec 32 := 512#32
  c512_i32_29
def k0_mult5 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_55 : BitVec 32 := 512#32
  let v75 : BitVec 32 := Scalar.muli v72 c512_i32_55
  v75
def k0_off1 (c0_i32_50 : BitVec 32) (c1_i32_51 : BitVec 32) : Fin 3 → Nat :=
  let c0_56 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_55 : BitVec 32 := 512#32
  let v75 : BitVec 32 := Scalar.muli v72 c512_i32_55
  let v76 : BitVec 32 := v75
  let v77 : Index := Scalar.indexCast v76
  let c0_57 : Index := 0#32
  ![0, v77.toNat, 0]
def k0_mult6 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_51 : BitVec 32 := 1#32
  let v72 : BitVec 32 := Scalar.addi v71 c1_i32_51
  let c512_i32_65 : BitVec 32 := 512#32
  let v86 : BitVec 32 := Scalar.muli v72 c512_i32_65
  v86
def k0_off2 (c0_i32_50 : BitVec 32) (c1_i32_51 : BitVec 32) : Fin 3 → Nat :=
  let c0_66 : Index := 0#32
  let c2_i32 : BitVec 32 := 2#32
  let v70 : BitVec 32 := Scalar.muli c2_i32 c0_i32_50
  let c1_i32 : BitVec 32 := 1#32
  let v71 : BitVec 32 := Scalar.addi v70 c1_i32
  let v72 : BitVec 32 := Scalar.addi v71 c1_i32_51
  let c512_i32_65 : BitVec 32 := 512#32
  let v86 : BitVec 32 := Scalar.muli v72 c512_i32_65
  let v87 : BitVec 32 := v86
  let v88 : Index := Scalar.indexCast v87
  let c128_67 : Index := 128#32
  ![0, v88.toNat, 128]
def k0_mult7 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  v128
def k0_off3 (c0_i32_50 : BitVec 32) : Fin 3 → Nat :=
  let c0_91 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_90 : BitVec 32 := 512#32
  let v128 : BitVec 32 := Scalar.muli v123 c512_i32_90
  let v129 : BitVec 32 := v128
  let v130 : Index := Scalar.indexCast v129
  let c0_92 : Index := 0#32
  ![0, v130.toNat, 0]
def k0_mult8 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  v139
def k0_off4 (c0_i32_50 : BitVec 32) : Fin 3 → Nat :=
  let c0_98 : Index := 0#32
  let c2_i32 : BitVec 32 := 2#32
  let v70 : BitVec 32 := Scalar.muli c2_i32 c0_i32_50
  let c1_i32 : BitVec 32 := 1#32
  let v71 : BitVec 32 := Scalar.addi v70 c1_i32
  let c1_i32_86 : BitVec 32 := 1#32
  let v123 : BitVec 32 := Scalar.subi v71 c1_i32_86
  let c512_i32_97 : BitVec 32 := 512#32
  let v139 : BitVec 32 := Scalar.muli v123 c512_i32_97
  let v140 : BitVec 32 := v139
  let v141 : Index := Scalar.indexCast v140
  let c128_99 : Index := 128#32
  ![0, v141.toNat, 128]
def k0_mult9 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_105 : BitVec 32 := 512#32
  let v149 : BitVec 32 := Scalar.muli v146 c512_i32_105
  v149
def k0_mult10 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c2_i32_101 : BitVec 32 := 2#32
  let v146 : BitVec 32 := Scalar.addi v71 c2_i32_101
  let c512_i32_115 : BitVec 32 := 512#32
  let v160 : BitVec 32 := Scalar.muli v146 c512_i32_115
  v160
def k0_mult11 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  v201
def k0_off5 (c0_i32_50 : BitVec 32) : Fin 3 → Nat :=
  let c0_140 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_139 : BitVec 32 := 512#32
  let v201 : BitVec 32 := Scalar.muli v71 c512_i32_139
  let v202 : BitVec 32 := v201
  let v203 : Index := Scalar.indexCast v202
  let c0_141 : Index := 0#32
  ![0, v203.toNat, 0]
def k0_mult12 : BitVec 32 :=
  let c2_i32 : BitVec 32 := 2#32
  let c0_i32_50 : BitVec 32 := 0#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  v212
def k0_off6 (c0_i32_50 : BitVec 32) : Fin 3 → Nat :=
  let c0_147 : Index := 0#32
  let c2_i32 : BitVec 32 := 2#32
  let v70 : BitVec 32 := Scalar.muli c2_i32 c0_i32_50
  let c1_i32 : BitVec 32 := 1#32
  let v71 : BitVec 32 := Scalar.addi v70 c1_i32
  let c512_i32_146 : BitVec 32 := 512#32
  let v212 : BitVec 32 := Scalar.muli v71 c512_i32_146
  let v213 : BitVec 32 := v212
  let v214 : Index := Scalar.indexCast v213
  let c128_148 : Index := 128#32
  ![0, v214.toNat, 128]
def k0_mult13 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_157 : BitVec 32 := 512#32
  let v224 : BitVec 32 := Scalar.muli v221 c512_i32_157
  v224
def k0_mult14 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_153 : BitVec 32 := 1#32
  let v221 : BitVec 32 := Scalar.addi v220 c1_i32_153
  let c512_i32_167 : BitVec 32 := 512#32
  let v235 : BitVec 32 := Scalar.muli v221 c512_i32_167
  v235
def k0_mult15 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_192 : BitVec 32 := 512#32
  let v277 : BitVec 32 := Scalar.muli v272 c512_i32_192
  v277
def k0_mult16 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c1_i32_188 : BitVec 32 := 1#32
  let v272 : BitVec 32 := Scalar.subi v220 c1_i32_188
  let c512_i32_199 : BitVec 32 := 512#32
  let v288 : BitVec 32 := Scalar.muli v272 c512_i32_199
  v288
def k0_mult17 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_207 : BitVec 32 := 512#32
  let v298 : BitVec 32 := Scalar.muli v295 c512_i32_207
  v298
def k0_mult18 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c2_i32_203 : BitVec 32 := 2#32
  let v295 : BitVec 32 := Scalar.addi v220 c2_i32_203
  let c512_i32_217 : BitVec 32 := 512#32
  let v309 : BitVec 32 := Scalar.muli v295 c512_i32_217
  v309
def k0_mult19 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_241 : BitVec 32 := 512#32
  let v350 : BitVec 32 := Scalar.muli v220 c512_i32_241
  v350
def k0_mult20 : BitVec 32 :=
  let c2_i32_151 : BitVec 32 := 2#32
  let c1_i32_150 : BitVec 32 := 1#32
  let v219 : BitVec 32 := Scalar.muli c2_i32_151 c1_i32_150
  let c1_i32_152 : BitVec 32 := 1#32
  let v220 : BitVec 32 := Scalar.addi v219 c1_i32_152
  let c512_i32_248 : BitVec 32 := 512#32
  let v361 : BitVec 32 := Scalar.muli v220 c512_i32_248
  v361
def k0_mult21 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_259 : BitVec 32 := 512#32
  let v373 : BitVec 32 := Scalar.muli v370 c512_i32_259
  v373
def k0_mult22 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_255 : BitVec 32 := 1#32
  let v370 : BitVec 32 := Scalar.addi v369 c1_i32_255
  let c512_i32_269 : BitVec 32 := 512#32
  let v384 : BitVec 32 := Scalar.muli v370 c512_i32_269
  v384
def k0_mult23 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_294 : BitVec 32 := 512#32
  let v426 : BitVec 32 := Scalar.muli v421 c512_i32_294
  v426
def k0_mult24 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c1_i32_290 : BitVec 32 := 1#32
  let v421 : BitVec 32 := Scalar.subi v369 c1_i32_290
  let c512_i32_301 : BitVec 32 := 512#32
  let v437 : BitVec 32 := Scalar.muli v421 c512_i32_301
  v437
def k0_mult25 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_309 : BitVec 32 := 512#32
  let v447 : BitVec 32 := Scalar.muli v444 c512_i32_309
  v447
def k0_mult26 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c2_i32_305 : BitVec 32 := 2#32
  let v444 : BitVec 32 := Scalar.addi v369 c2_i32_305
  let c512_i32_319 : BitVec 32 := 512#32
  let v458 : BitVec 32 := Scalar.muli v444 c512_i32_319
  v458
def k0_mult27 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_343 : BitVec 32 := 512#32
  let v499 : BitVec 32 := Scalar.muli v369 c512_i32_343
  v499
def k0_mult28 : BitVec 32 :=
  let c2_i32_253 : BitVec 32 := 2#32
  let c2_i32_252 : BitVec 32 := 2#32
  let v368 : BitVec 32 := Scalar.muli c2_i32_253 c2_i32_252
  let c1_i32_254 : BitVec 32 := 1#32
  let v369 : BitVec 32 := Scalar.addi v368 c1_i32_254
  let c512_i32_350 : BitVec 32 := 512#32
  let v510 : BitVec 32 := Scalar.muli v369 c512_i32_350
  v510
def k0_mult29 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_360 : BitVec 32 := 512#32
  let v522 : BitVec 32 := Scalar.muli v519 c512_i32_360
  v522
def k0_mult30 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_356 : BitVec 32 := 1#32
  let v519 : BitVec 32 := Scalar.addi v518 c1_i32_356
  let c512_i32_370 : BitVec 32 := 512#32
  let v533 : BitVec 32 := Scalar.muli v519 c512_i32_370
  v533
def k0_mult31 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_395 : BitVec 32 := 512#32
  let v575 : BitVec 32 := Scalar.muli v570 c512_i32_395
  v575
def k0_mult32 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c1_i32_391 : BitVec 32 := 1#32
  let v570 : BitVec 32 := Scalar.subi v518 c1_i32_391
  let c512_i32_402 : BitVec 32 := 512#32
  let v586 : BitVec 32 := Scalar.muli v570 c512_i32_402
  v586
def k0_mult33 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_410 : BitVec 32 := 512#32
  let v596 : BitVec 32 := Scalar.muli v593 c512_i32_410
  v596
def k0_mult34 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c2_i32_406 : BitVec 32 := 2#32
  let v593 : BitVec 32 := Scalar.addi v518 c2_i32_406
  let c512_i32_420 : BitVec 32 := 512#32
  let v607 : BitVec 32 := Scalar.muli v593 c512_i32_420
  v607
def k0_mult35 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_444 : BitVec 32 := 512#32
  let v648 : BitVec 32 := Scalar.muli v518 c512_i32_444
  v648
def k0_mult36 : BitVec 32 :=
  let c2_i32_354 : BitVec 32 := 2#32
  let c3_i32 : BitVec 32 := 3#32
  let v517 : BitVec 32 := Scalar.muli c2_i32_354 c3_i32
  let c1_i32_355 : BitVec 32 := 1#32
  let v518 : BitVec 32 := Scalar.addi v517 c1_i32_355
  let c512_i32_451 : BitVec 32 := 512#32
  let v659 : BitVec 32 := Scalar.muli v518 c512_i32_451
  v659
def k0_mult37 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_461 : BitVec 32 := 512#32
  let v671 : BitVec 32 := Scalar.muli v668 c512_i32_461
  v671
def k0_mult38 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_457 : BitVec 32 := 1#32
  let v668 : BitVec 32 := Scalar.addi v667 c1_i32_457
  let c512_i32_471 : BitVec 32 := 512#32
  let v682 : BitVec 32 := Scalar.muli v668 c512_i32_471
  v682
def k0_mult39 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_496 : BitVec 32 := 512#32
  let v724 : BitVec 32 := Scalar.muli v719 c512_i32_496
  v724
def k0_mult40 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c1_i32_492 : BitVec 32 := 1#32
  let v719 : BitVec 32 := Scalar.subi v667 c1_i32_492
  let c512_i32_503 : BitVec 32 := 512#32
  let v735 : BitVec 32 := Scalar.muli v719 c512_i32_503
  v735
def k0_mult41 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_511 : BitVec 32 := 512#32
  let v745 : BitVec 32 := Scalar.muli v742 c512_i32_511
  v745
def k0_mult42 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c2_i32_507 : BitVec 32 := 2#32
  let v742 : BitVec 32 := Scalar.addi v667 c2_i32_507
  let c512_i32_521 : BitVec 32 := 512#32
  let v756 : BitVec 32 := Scalar.muli v742 c512_i32_521
  v756
def k0_mult43 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_545 : BitVec 32 := 512#32
  let v797 : BitVec 32 := Scalar.muli v667 c512_i32_545
  v797
def k0_mult44 : BitVec 32 :=
  let c2_i32_455 : BitVec 32 := 2#32
  let c4_i32 : BitVec 32 := 4#32
  let v666 : BitVec 32 := Scalar.muli c2_i32_455 c4_i32
  let c1_i32_456 : BitVec 32 := 1#32
  let v667 : BitVec 32 := Scalar.addi v666 c1_i32_456
  let c512_i32_552 : BitVec 32 := 512#32
  let v808 : BitVec 32 := Scalar.muli v667 c512_i32_552
  v808
def k0_mult45 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_562 : BitVec 32 := 512#32
  let v820 : BitVec 32 := Scalar.muli v817 c512_i32_562
  v820
def k0_mult46 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_558 : BitVec 32 := 1#32
  let v817 : BitVec 32 := Scalar.addi v816 c1_i32_558
  let c512_i32_572 : BitVec 32 := 512#32
  let v831 : BitVec 32 := Scalar.muli v817 c512_i32_572
  v831
def k0_mult47 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_597 : BitVec 32 := 512#32
  let v873 : BitVec 32 := Scalar.muli v868 c512_i32_597
  v873
def k0_mult48 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c1_i32_593 : BitVec 32 := 1#32
  let v868 : BitVec 32 := Scalar.subi v816 c1_i32_593
  let c512_i32_604 : BitVec 32 := 512#32
  let v884 : BitVec 32 := Scalar.muli v868 c512_i32_604
  v884
def k0_mult49 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_612 : BitVec 32 := 512#32
  let v894 : BitVec 32 := Scalar.muli v891 c512_i32_612
  v894
def k0_mult50 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c2_i32_608 : BitVec 32 := 2#32
  let v891 : BitVec 32 := Scalar.addi v816 c2_i32_608
  let c512_i32_622 : BitVec 32 := 512#32
  let v905 : BitVec 32 := Scalar.muli v891 c512_i32_622
  v905
def k0_mult51 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_646 : BitVec 32 := 512#32
  let v946 : BitVec 32 := Scalar.muli v816 c512_i32_646
  v946
def k0_mult52 : BitVec 32 :=
  let c2_i32_556 : BitVec 32 := 2#32
  let c5_i32 : BitVec 32 := 5#32
  let v815 : BitVec 32 := Scalar.muli c2_i32_556 c5_i32
  let c1_i32_557 : BitVec 32 := 1#32
  let v816 : BitVec 32 := Scalar.addi v815 c1_i32_557
  let c512_i32_653 : BitVec 32 := 512#32
  let v957 : BitVec 32 := Scalar.muli v816 c512_i32_653
  v957
def k0_mult53 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_663 : BitVec 32 := 512#32
  let v969 : BitVec 32 := Scalar.muli v966 c512_i32_663
  v969
def k0_mult54 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_659 : BitVec 32 := 1#32
  let v966 : BitVec 32 := Scalar.addi v965 c1_i32_659
  let c512_i32_673 : BitVec 32 := 512#32
  let v980 : BitVec 32 := Scalar.muli v966 c512_i32_673
  v980
def k0_mult55 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_698 : BitVec 32 := 512#32
  let v1022 : BitVec 32 := Scalar.muli v1017 c512_i32_698
  v1022
def k0_mult56 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c1_i32_694 : BitVec 32 := 1#32
  let v1017 : BitVec 32 := Scalar.subi v965 c1_i32_694
  let c512_i32_705 : BitVec 32 := 512#32
  let v1033 : BitVec 32 := Scalar.muli v1017 c512_i32_705
  v1033
def k0_mult57 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_713 : BitVec 32 := 512#32
  let v1043 : BitVec 32 := Scalar.muli v1040 c512_i32_713
  v1043
def k0_mult58 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c2_i32_709 : BitVec 32 := 2#32
  let v1040 : BitVec 32 := Scalar.addi v965 c2_i32_709
  let c512_i32_723 : BitVec 32 := 512#32
  let v1054 : BitVec 32 := Scalar.muli v1040 c512_i32_723
  v1054
def k0_mult59 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_747 : BitVec 32 := 512#32
  let v1095 : BitVec 32 := Scalar.muli v965 c512_i32_747
  v1095
def k0_mult60 : BitVec 32 :=
  let c2_i32_657 : BitVec 32 := 2#32
  let c6_i32 : BitVec 32 := 6#32
  let v964 : BitVec 32 := Scalar.muli c2_i32_657 c6_i32
  let c1_i32_658 : BitVec 32 := 1#32
  let v965 : BitVec 32 := Scalar.addi v964 c1_i32_658
  let c512_i32_754 : BitVec 32 := 512#32
  let v1106 : BitVec 32 := Scalar.muli v965 c512_i32_754
  v1106
def k0_mult61 : BitVec 32 :=
  let c7168_i32 : BitVec 32 := 7168#32
  c7168_i32
def k0_mult62 : BitVec 32 :=
  let c7168_i32_781 : BitVec 32 := 7168#32
  c7168_i32_781
def k0_mult63 : BitVec 32 :=
  let c7680_i32 : BitVec 32 := 7680#32
  c7680_i32
def k0_mult64 : BitVec 32 :=
  let c7680_i32_794 : BitVec 32 := 7680#32
  c7680_i32_794
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S8x8192x8x96 : Shape := ⟨4, ![8, 8192, 8, 96]⟩
abbrev S8x8192x8x64 : Shape := ⟨4, ![8, 8192, 8, 64]⟩
abbrev S8x8x8192x8192 : Shape := ⟨4, ![8, 8, 8192, 8192]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x512 : Shape := ⟨3, ![8, 8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8x8x8192x8192, .f32⟩
  | .hbm, ⟨4, _⟩ => ⟨S_, .f32⟩
  | .hbm, ⟨5, _⟩ => ⟨S8x8x8192x8192, .f32⟩
  | .hbm, ⟨6, _⟩ => ⟨S8x8x8192x8192, .f32⟩
  | .hbm, ⟨7, _⟩ => ⟨S_, .f32⟩
  | .hbm, ⟨8, _⟩ => ⟨S8x8x8192, .f32⟩
  | .hbm, ⟨9, _⟩ => ⟨S_, .f32⟩
  | .hbm, ⟨10, _⟩ => ⟨S8x8x8192, .f32⟩
  | .hbm, ⟨11, _⟩ => ⟨S8x8x8192, .f32⟩
  | .hbm, ⟨12, _⟩ => ⟨S8x8x8192x1, .f32⟩
  | .hbm, ⟨13, _⟩ => ⟨S8x8x8192x8192, .f32⟩
  | .hbm, ⟨14, _⟩ => ⟨S8x8x8192x8192, .f32⟩
  | .hbm, ⟨15, _⟩ => ⟨S8x8x8192x8192, .f32⟩
  | .hbm, ⟨16, _⟩ => ⟨S_, .f32⟩
  | .hbm, ⟨17, _⟩ => ⟨S8x8x8192, .f32⟩
  | .hbm, ⟨18, _⟩ => ⟨S8x8x8192x1, .f32⟩
  | .hbm, ⟨19, _⟩ => ⟨S8x8x8192x8192, .f32⟩
  | .hbm, ⟨20, _⟩ => ⟨S8x8x8192x8192, .f32⟩
  | .hbm, ⟨21, _⟩ => ⟨S8x8x64x8192, .f32⟩
  | .hbm, ⟨22, _⟩ => ⟨S8x8192x8x64, .f32⟩
  | .hbm, ⟨23, _⟩ => ⟨S8x8192x512, .f32⟩
  | .hbm, ⟨24, _⟩ => ⟨S8x8192x512, .bf16⟩
  | _, _ => ⟨S8x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S8x8192x1024 : Shape := ⟨3, ![8, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024x1024 : Shape := ⟨3, ![1, 1024, 1024]⟩
abbrev S1x8x1024 : Shape := ⟨3, ![1, 8, 1024]⟩
abbrev S1024x2816 : Shape := ⟨2, ![1024, 2816]⟩
abbrev S1024x1024 : Shape := ⟨2, ![1024, 1024]⟩
abbrev S8x1024 : Shape := ⟨2, ![8, 1024]⟩
abbrev S8 : Shape := ⟨1, ![8]⟩
abbrev S8x1 : Shape := ⟨2, ![8, 1]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x8192x1024 : Shape := ⟨3, ![8, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x5632 : Shape := ⟨2, ![1024, 5632]⟩
abbrev S8x8192x5632 : Shape := ⟨3, ![8, 8192, 5632]⟩
abbrev S3x5632 : Shape := ⟨2, ![3, 5632]⟩
abbrev S5632 : Shape := ⟨1, ![5632]⟩
abbrev S8x8194x5632 : Shape := ⟨3, ![8, 8194, 5632]⟩
abbrev S1x1x5632 : Shape := ⟨3, ![1, 1, 5632]⟩
abbrev S8x8192x2816 : Shape := ⟨3, ![8, 8192, 2816]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S1024x5632, .f32⟩
  | .hbm, ⟨25, _⟩ => ⟨S8x8192x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S8x8194x5632, .f32⟩
  | .hbm, ⟨31, _⟩ => ⟨S8x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x8192x5632, .f32⟩
  | .hbm, ⟨36, _⟩ => ⟨S8x8192x5632, .f32⟩
  | .hbm, ⟨37, _⟩ => ⟨S_, .f32⟩
  | .hbm, ⟨38, _⟩ => ⟨S8x8192x5632, .f32⟩
  | .hbm, ⟨39, _⟩ => ⟨S8x8192x5632, .f32⟩
  | .hbm, ⟨40, _⟩ => ⟨S8x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x8192x5632, .f32⟩
  | .hbm, ⟨45, _⟩ => ⟨S8x8192x5632, .f32⟩
  | .hbm, ⟨46, _⟩ => ⟨S8x8192x5632, .f32⟩
  | .hbm, ⟨47, _⟩ => ⟨S8x8192x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x8192x5632, .f32⟩
  | .hbm, ⟨52, _⟩ => ⟨S8x8192x5632, .f32⟩
  | .hbm, ⟨53, _⟩ => ⟨S8x8192x5632, .f32⟩
  | .hbm, ⟨54, _⟩ => ⟨S1x1x5632, .f32⟩
  | .hbm, ⟨55, _⟩ => ⟨S8x8192x5632, .f32⟩
  | .hbm, ⟨56, _⟩ => ⟨S8x8192x5632, .f32⟩
  | .hbm, ⟨57, _⟩ => ⟨S8x8192x2816, .f32⟩
  | .hbm, ⟨58, _⟩ => ⟨S8x8192x2816, .f32⟩
  | .hbm, ⟨59, _⟩ => ⟨S8x8192x2816, .f32⟩
  | .hbm, ⟨60, _⟩ => ⟨S8x8192x2816, .f32⟩
  | .hbm, ⟨61, _⟩ => ⟨S_, .f32⟩
  | .hbm, ⟨62, _⟩ => ⟨S8x8192x2816, .f32⟩
  | .hbm, ⟨63, _⟩ => ⟨S8x8192x2816, .f32⟩
  | .hbm, ⟨64, _⟩ => ⟨S_, .f32⟩
  | .hbm, ⟨65, _⟩ => ⟨S8x8192x2816, .f32⟩
  | .hbm, ⟨66, _⟩ => ⟨S8x8192x2816, .f32⟩
  | .hbm, ⟨67, _⟩ => ⟨S8x8192x2816, .f32⟩
  | .hbm, ⟨68, _⟩ => ⟨S8x8192x2816, .f32⟩
  | .hbm, ⟨69, _⟩ => ⟨S2816x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S_, .f32⟩
  | .hbm, ⟨77, _⟩ => ⟨S8x8192x1, .f32⟩
  | .hbm, ⟨78, _⟩ => ⟨S8x8192x1, .f32⟩
  | .hbm, ⟨79, _⟩ => ⟨S_, .f32⟩
  | .hbm, ⟨80, _⟩ => ⟨S8x8192x1, .f32⟩
  | .hbm, ⟨81, _⟩ => ⟨S8x8192x1, .f32⟩
  | .hbm, ⟨82, _⟩ => ⟨S8x8192x1, .f32⟩
  | .hbm, ⟨83, _⟩ => ⟨S8x8192x1024, .f32⟩
  | .hbm, ⟨84, _⟩ => ⟨S8x8192x1024, .f32⟩
  | .hbm, ⟨85, _⟩ => ⟨S1x1x1024, .f32⟩
  | .hbm, ⟨86, _⟩ => ⟨S8x8192x1024, .f32⟩
  | .hbm, ⟨87, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S4x8192x512 : Shape := ⟨3, ![4, 8192, 512]⟩
abbrev S1x512 : Shape := ⟨2, ![1, 512]⟩
abbrev S1x1024x1024 : Shape := ⟨3, ![1, 1024, 1024]⟩
abbrev S4x8192x1x512 : Shape := ⟨4, ![4, 8192, 1, 512]⟩
abbrev S4x1x8192x512 : Shape := ⟨4, ![4, 1, 8192, 512]⟩
abbrev S4x2048x4x512 : Shape := ⟨4, ![4, 2048, 4, 512]⟩
abbrev S4x4x2048x512 : Shape := ⟨4, ![4, 4, 2048, 512]⟩
abbrev S4x512x16x512 : Shape := ⟨4, ![4, 512, 16, 512]⟩
abbrev S4x16x512x512 : Shape := ⟨4, ![4, 16, 512, 512]⟩
abbrev S_ : Shape := ⟨0, ![]⟩
abbrev S4x8192x8x1 : Shape := ⟨4, ![4, 8192, 8, 1]⟩
abbrev S512 : Shape := ⟨1, ![512]⟩
abbrev S1024x1024 : Shape := ⟨2, ![1024, 1024]⟩
abbrev S1x512x1024 : Shape := ⟨3, ![1, 512, 1024]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S1x512x512 : Shape := ⟨3, ![1, 512, 512]⟩
abbrev S12x512x128 : Shape := ⟨3, ![12, 512, 128]⟩
abbrev S1x1x512x128 : Shape := ⟨4, ![1, 1, 512, 128]⟩
abbrev S512x128 : Shape := ⟨2, ![512, 128]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S512x512 : Shape := ⟨2, ![512, 512]⟩
abbrev S512x1 : Shape := ⟨2, ![512, 1]⟩
abbrev S512x1024 : Shape := ⟨2, ![512, 1024]⟩

abbrev nBuf : Space → Nat
  | .hbm => 52
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x8x64, .f32⟩
  | .hbm, ⟨2, _⟩ => ⟨S4x8192x8x64, .f32⟩
  | .hbm, ⟨3, _⟩ => ⟨S4x8192x8x64, .f32⟩
  | .hbm, ⟨4, _⟩ => ⟨S4x8192x8, .f32⟩
  | .hbm, ⟨5, _⟩ => ⟨S4x8192x8, .f32⟩
  | .hbm, ⟨6, _⟩ => ⟨S4x8192x8, .f32⟩
  | .hbm, ⟨7, _⟩ => ⟨S4x8192x512, .f32⟩
  | .hbm, ⟨8, _⟩ => ⟨S1x512, .f32⟩
  | .hbm, ⟨9, _⟩ => ⟨S1x512, .f32⟩
  | .hbm, ⟨10, _⟩ => ⟨S1x1024x1024, .f32⟩
  | .hbm, ⟨11, _⟩ => ⟨S4x8192x1x512, .f32⟩
  | .hbm, ⟨12, _⟩ => ⟨S4x1x8192x512, .f32⟩
  | .hbm, ⟨13, _⟩ => ⟨S4x1x8192x512, .bf16⟩
  | .hbm, ⟨14, _⟩ => ⟨S4x2048x4x512, .f32⟩
  | .hbm, ⟨15, _⟩ => ⟨S4x4x2048x512, .f32⟩
  | .hbm, ⟨16, _⟩ => ⟨S4x4x2048x512, .bf16⟩
  | .hbm, ⟨17, _⟩ => ⟨S4x512x16x512, .f32⟩
  | .hbm, ⟨18, _⟩ => ⟨S4x16x512x512, .f32⟩
  | .hbm, ⟨19, _⟩ => ⟨S4x16x512x512, .bf16⟩
  | .hbm, ⟨20, _⟩ => ⟨S_, .f32⟩
  | .hbm, ⟨21, _⟩ => ⟨S_, .f32⟩
  | .hbm, ⟨22, _⟩ => ⟨S4x8192x8, .f32⟩
  | .hbm, ⟨23, _⟩ => ⟨S4x8192x8, .f32⟩
  | .hbm, ⟨24, _⟩ => ⟨S4x8192x8x1, .f32⟩
  | .hbm, ⟨25, _⟩ => ⟨S4x8192x8x64, .f32⟩
  | .hbm, ⟨26, _⟩ => ⟨S4x8192x1x512, .f32⟩
  | .hbm, ⟨27, _⟩ => ⟨S4x1x8192x512, .f32⟩
  | .hbm, ⟨28, _⟩ => ⟨S_, .f32⟩
  | .hbm, ⟨29, _⟩ => ⟨S_, .f32⟩
  | .hbm, ⟨30, _⟩ => ⟨S4x8192x8, .f32⟩
  | .hbm, ⟨31, _⟩ => ⟨S4x8192x8, .f32⟩
  | .hbm, ⟨32, _⟩ => ⟨S4x8192x8x1, .f32⟩
  | .hbm, ⟨33, _⟩ => ⟨S4x8192x8x64, .f32⟩
  | .hbm, ⟨34, _⟩ => ⟨S4x2048x4x512, .f32⟩
  | .hbm, ⟨35, _⟩ => ⟨S4x4x2048x512, .f32⟩
  | .hbm, ⟨36, _⟩ => ⟨S_, .f32⟩
  | .hbm, ⟨37, _⟩ => ⟨S_, .f32⟩
  | .hbm, ⟨38, _⟩ => ⟨S4x8192x8, .f32⟩
  | .hbm, ⟨39, _⟩ => ⟨S4x8192x8, .f32⟩
  | .hbm, ⟨40, _⟩ => ⟨S4x8192x8x1, .f32⟩
  | .hbm, ⟨41, _⟩ => ⟨S4x8192x8x64, .f32⟩
  | .hbm, ⟨42, _⟩ => ⟨S4x512x16x512, .f32⟩
  | .hbm, ⟨43, _⟩ => ⟨S4x16x512x512, .f32⟩
  | .hbm, ⟨44, _⟩ => ⟨S4x8192x512, .bf16⟩
  | .hbm, ⟨45, _⟩ => ⟨S512, .f32⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S1024x1024, .f32⟩
  | .hbm, ⟨50, _⟩ => ⟨S1024x1024, .bf16⟩
  | .hbm, ⟨51, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x512, .bf16⟩
  | .local _ .vmem, ⟨3, _⟩ => ⟨S1x1x512x512, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S1x16x32x512, .bf16⟩
  | .local _ .vmem, ⟨7, _⟩ => ⟨S1x16x32x512, .bf16⟩
  | .local _ .vmem, ⟨8, _⟩ => ⟨S1x1x512x512, .f32⟩
  | .local _ .vmem, ⟨9, _⟩ => ⟨S1x1x512x512, .f32⟩
  | .local _ .vmem, ⟨10, _⟩ => ⟨S1x4x128x512, .f32⟩
  | .local _ .vmem, ⟨11, _⟩ => ⟨S1x4x128x512, .f32⟩
  | .local _ .vmem, ⟨12, _⟩ => ⟨S1x16x32x512, .f32⟩
  | .local _ .vmem, ⟨13, _⟩ => ⟨S1x16x32x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512, .f32⟩
  | .local _ .vmem, ⟨17, _⟩ => ⟨S1x512, .f32⟩
  | .local _ .vmem, ⟨18, _⟩ => ⟨S1024x1024, .bf16⟩
  | .local _ .vmem, ⟨19, _⟩ => ⟨S1x512x1024, .f32⟩
  | .local _ .vmem, ⟨20, _⟩ => ⟨S1x512x1024, .f32⟩
  | .local _ .vmem, ⟨21, _⟩ => ⟨S12x512x128, .f32⟩
  | .local _ .vmem, ⟨22, _⟩ => ⟨S12x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S4x8192x512 : Shape := ⟨3, ![4, 8192, 512]⟩
abbrev S1x512 : Shape := ⟨2, ![1, 512]⟩
abbrev S1x1024x1024 : Shape := ⟨3, ![1, 1024, 1024]⟩
abbrev S1x4x8192x8 : Shape := ⟨4, ![1, 4, 8192, 8]⟩
abbrev S3x4x8192x8 : Shape := ⟨4, ![3, 4, 8192, 8]⟩
abbrev S_ : Shape := ⟨0, ![]⟩
abbrev S3x4x8192x8x1 : Shape := ⟨5, ![3, 4, 8192, 8, 1]⟩
abbrev S1x4x8192x8x64 : Shape := ⟨5, ![1, 4, 8192, 8, 64]⟩
abbrev S3x4x8192x8x64 : Shape := ⟨5, ![3, 4, 8192, 8, 64]⟩
abbrev S512 : Shape := ⟨1, ![512]⟩
abbrev S4x8192 : Shape := ⟨2, ![4, 8192]⟩
abbrev S4x8192x1 : Shape := ⟨3, ![4, 8192, 1]⟩
abbrev S1x1x512 : Shape := ⟨3, ![1, 1, 512]⟩
abbrev S1024x1024 : Shape := ⟨2, ![1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x8x64, .f32⟩
  | .hbm, ⟨2, _⟩ => ⟨S4x8192x8x64, .f32⟩
  | .hbm, ⟨3, _⟩ => ⟨S4x8192x8x64, .f32⟩
  | .hbm, ⟨4, _⟩ => ⟨S4x8192x8, .f32⟩
  | .hbm, ⟨5, _⟩ => ⟨S4x8192x8, .f32⟩
  | .hbm, ⟨6, _⟩ => ⟨S4x8192x8, .f32⟩
  | .hbm, ⟨7, _⟩ => ⟨S4x8192x512, .f32⟩
  | .hbm, ⟨8, _⟩ => ⟨S1x512, .f32⟩
  | .hbm, ⟨9, _⟩ => ⟨S1x512, .f32⟩
  | .hbm, ⟨10, _⟩ => ⟨S1x1024x1024, .f32⟩
  | .hbm, ⟨11, _⟩ => ⟨S1x4x8192x8, .f32⟩
  | .hbm, ⟨12, _⟩ => ⟨S1x4x8192x8, .f32⟩
  | .hbm, ⟨13, _⟩ => ⟨S1x4x8192x8, .f32⟩
  | .hbm, ⟨14, _⟩ => ⟨S3x4x8192x8, .f32⟩
  | .hbm, ⟨15, _⟩ => ⟨S_, .f32⟩
  | .hbm, ⟨16, _⟩ => ⟨S4x8192x8, .f32⟩
  | .hbm, ⟨17, _⟩ => ⟨S_, .f32⟩
  | .hbm, ⟨18, _⟩ => ⟨S4x8192x8, .f32⟩
  | .hbm, ⟨19, _⟩ => ⟨S4x8192x8, .f32⟩
  | .hbm, ⟨20, _⟩ => ⟨S1x4x8192x8, .f32⟩
  | .hbm, ⟨21, _⟩ => ⟨S3x4x8192x8, .f32⟩
  | .hbm, ⟨22, _⟩ => ⟨S3x4x8192x8, .f32⟩
  | .hbm, ⟨23, _⟩ => ⟨S3x4x8192x8, .f32⟩
  | .hbm, ⟨24, _⟩ => ⟨S_, .f32⟩
  | .hbm, ⟨25, _⟩ => ⟨S4x8192x8, .f32⟩
  | .hbm, ⟨26, _⟩ => ⟨S1x4x8192x8, .f32⟩
  | .hbm, ⟨27, _⟩ => ⟨S3x4x8192x8, .f32⟩
  | .hbm, ⟨28, _⟩ => ⟨S3x4x8192x8, .f32⟩
  | .hbm, ⟨29, _⟩ => ⟨S3x4x8192x8x1, .f32⟩
  | .hbm, ⟨30, _⟩ => ⟨S1x4x8192x8x64, .f32⟩
  | .hbm, ⟨31, _⟩ => ⟨S1x4x8192x8x64, .f32⟩
  | .hbm, ⟨32, _⟩ => ⟨S1x4x8192x8x64, .f32⟩
  | .hbm, ⟨33, _⟩ => ⟨S3x4x8192x8x64, .f32⟩
  | .hbm, ⟨34, _⟩ => ⟨S3x4x8192x8x64, .f32⟩
  | .hbm, ⟨35, _⟩ => ⟨S3x4x8192x8x64, .f32⟩
  | .hbm, ⟨36, _⟩ => ⟨S_, .f32⟩
  | .hbm, ⟨37, _⟩ => ⟨S4x8192x8x64, .f32⟩
  | .hbm, ⟨38, _⟩ => ⟨S4x8192x512, .f32⟩
  | .hbm, ⟨39, _⟩ => ⟨S512, .f32⟩
  | .hbm, ⟨40, _⟩ => ⟨S4x8192x512, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x512, .f32⟩
  | .hbm, ⟨52, _⟩ => ⟨S4x8192x512, .f32⟩
  | .hbm, ⟨53, _⟩ => ⟨S1x1x512, .f32⟩
  | .hbm, ⟨54, _⟩ => ⟨S4x8192x512, .f32⟩
  | .hbm, ⟨55, _⟩ => ⟨S4x8192x512, .f32⟩
  | .hbm, ⟨56, _⟩ => ⟨S512, .f32⟩
  | .hbm, ⟨57, _⟩ => ⟨S4x8192x512, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S4x8192x512, .f32⟩
  | .hbm, ⟨69, _⟩ => ⟨S4x8192x512, .f32⟩
  | .hbm, ⟨70, _⟩ => ⟨S1x1x512, .f32⟩
  | .hbm, ⟨71, _⟩ => ⟨S4x8192x512, .f32⟩
  | .hbm, ⟨72, _⟩ => ⟨S4x8192x512, .f32⟩
  | .hbm, ⟨73, _⟩ => ⟨S4x8192x1024, .f32⟩
  | .hbm, ⟨74, _⟩ => ⟨S1024x1024, .f32⟩
  | .hbm, ⟨75, _⟩ => ⟨S4x8192x1024, .f32⟩
  | .hbm, ⟨76, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Attn.Block.lean ====
/- One step of the attention region in words: the tiles of a query block and of its keys and values, a chunk's scores, the
   running row maximum, the exponentials of a chunk, the factor the accumulator is rescaled by, and the accumulator. -/
module

public import proofs.«01_k».proof.Proof.Gen.KernelIdeal.Frame
public import Idealize.ShloMosaic.Lib.Pipeline.Value
public import Idealize.ShloMosaic.Lib.Pipeline.ValueKit.Tiles
public import Idealize.ShloMosaic.Lib.ValueIdx

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx

variable {F : FTy → Type} [FloatOps F]

/-- The 128 lanes of head `h` (of the two) of a query block. -/
def qTile (x0 : Vec F S1x512x256 .bf16) (h : Fin 2) : Vec F S1x512x128 .bf16 := fun i =>
  x0 (ix3 (n0 := 1) (n1 := 512) (n2 := 256) 0 ⟨(i 1).val, (i 1).isLt⟩
    ⟨128 * h.val + (i 2).val, by have h2 : (i 2).val < 128 := (i 2).isLt; have := h.isLt; omega⟩)

/-- The 128 lanes of head `h` of chunk `n` (of 512 rows) of the keys or values. -/
def cTile (x : Vec F S1x8192x256 .bf16) (h : Fin 2) (n : ℕ) : Vec F S1x512x128 .bf16 := fun i =>
  x (ix3 (n0 := 1) (n1 := 8192) (n2 := 256) 0 ⟨(512 * n + (i 1).val) % 8192, Nat.mod_lt _ (by norm_num)⟩
    ⟨128 * h.val + (i 2).val, by have h2 : (i 2).val < 128 := (i 2).isLt; have := h.isLt; omega⟩)

abbrev kTile (x1 : Vec F S1x8192x256 .bf16) (h : Fin 2) (n : ℕ) : Vec F S1x512x128 .bf16 := cTile x1 h n
abbrev vTile (x2 : Vec F S1x8192x256 .bf16) (h : Fin 2) (n : ℕ) : Vec F S1x512x128 .bf16 := cTile x2 h n

/-- The scores of a query block against chunk `n`, as they are stored. -/
def scores (x0 : Vec F S1x512x256 .bf16) (x1 : Vec F S1x8192x256 .bf16) (h : Fin 2) (n : ℕ) : FVec F S1x512x512 .f32 :=
  shapeCast S1x512x512
    (matmul dot_S512x128_S512x128_S512x512_1_1_0_0_n_n none (shapeCast S512x128 (qTile x0 h) shapeCasts_S1x512x128_S512x128)
      (shapeCast S512x128 (kTile x1 h n) shapeCasts_S1x512x128_S512x128) (constant S512x512 .f32 0x00000000#32))
    shapeCasts_S512x512_S1x512x512

/-- The row maximum over the chunks before `n`. -/
def rowMax (x0 : Vec F S1x512x256 .bf16) (x1 : Vec F S1x8192x256 .bf16) (h : Fin 2) : ℕ → FVec F S512x1 .f32
  | 0 => k0_pay2
  | n + 1 => maximumf (rowMax x0 x1 h n)
      (shapeCast S512x1 (multiReduction .maximumf [1] S512 (shapeCast S512x512 (scores x0 x1 h n) shapeCasts_S1x512x512_S512x512)
        0xFF800000#32 reduces_S512x512_S512 (.inl rfl) rfl) shapeCasts_S512_S512x1)

/-- The exponentials of chunk `n` against its running maximum, as they are stored. -/
def expo (x0 : Vec F S1x512x256 .bf16) (x1 : Vec F S1x8192x256 .bf16) (h : Fin 2) (n : ℕ) : FVec F S1x512x512 .bf16 :=
  shapeCast S1x512x512 (truncf .bf16 (exp2 (subf (shapeCast S512x512 (scores x0 x1 h n) shapeCasts_S1x512x512_S512x512)
    (broadcastTo S512x512 (rowMax x0 x1 h (n + 1)) broadcasts_S512x1_S512x512))) bitsLt_bf16_f32) shapeCasts_S512x512_S1x512x512

/-- The factor chunk `n`'s new maximum rescales the accumulator by. -/
def decay (x0 : Vec F S1x512x256 .bf16) (x1 : Vec F S1x8192x256 .bf16) (h : Fin 2) (n : ℕ) : FVec F S512x1 .f32 :=
  exp2 (subf (rowMax x0 x1 h n) (rowMax x0 x1 h (n + 1)))

/-- The accumulator over the chunks before `n`. -/
def accum (x0 : Vec F S1x512x256 .bf16) (x1 : Vec F S1x8192x256 .bf16) (x2 : Vec F S1x8192x256 .bf16) (h : Fin 2) :
    ℕ → FVec F S512x128 .f32
  | 0 => k0_pay3
  | n + 1 => addf (mulf (broadcastTo S512x128 (decay x0 x1 h n) broadcasts_S512x1_S512x128) (accum x0 x1 x2 h n))
      (matmul dot_S512x512_S512x128_S512x128_1_0_0_1_n_n none (shapeCast S512x512 (expo x0 x1 h n) shapeCasts_S1x512x512_S512x512)
        (shapeCast S512x128 (vTile x2 h n) shapeCasts_S1x512x128_S512x128) (constant S512x128 .f32 0x00000000#32))

/-- The block the region leaves: the second head's accumulator divided by its column of ones and rotated to the upper
    lanes, beside the first's. -/
def blockOut (x0 : Vec F S1x512x256 .bf16) (x1 x2 : Vec F S1x8192x256 .bf16) : FVec F S1x512x128 .bf16 :=
  k0_pay1 (accum x0 x1 x2 1 16) (iota .tc S1x128 32 [1] iota_S1x128_d1_w32)
    (divf (accum x0 x1 x2 0 16) (broadcastTo S512x128
      (extractStridedSlice S512x1 ![0, 64] (accum x0 x1 x2 0 16) slices_S512x128_o0_64_S512x1) broadcasts_S512x1_S512x128))
    (extractStridedSlice S512x1 ![0, 64] (accum x0 x1 x2 1 16) slices_S512x128_o0_64_S512x1)

/-! ## Loads -/

theorem load_q (a : Memref sig .tc .vmem S1x512x256 .bf16) (ha : a.IsWhole) (x0 : Vec F S1x512x256 .bf16) (h : Fin 2)
    {off : Fin 3 → ℕ} (inb : ∀ x, off x + S1x512x128.size x ≤ S1x512x256.size x) (hoff : off = ![0, 0, 128 * h.val]) :
    View.readAt (Elt F) a.view (Rect.unit (s := S1x512x256) off S1x512x128.size inb).toLoadRect (ha.unread x0) = qTile x0 h := by
  rw [View.readAt_eq_ld, ha.read_unread]
  subst hoff
  funext i
  refine View.ld_unit_apply_of x0 _ _ _ i _ fun a => ?_
  match a with
  | ⟨0, _⟩ => show 0 = 0 + (i 0).val; have : (i 0).val < 1 := (i 0).isLt; omega
  | ⟨1, _⟩ => show (i 1).val = 0 + (i 1).val; omega
  | ⟨2, _⟩ => rfl

theorem load_c (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = cTile x h n := by
  rw [View.readAt_eq_ld, ha.read_unread]
  subst hoff
  funext i
  refine View.ld_unit_apply_of x _ _ _ i _ fun a => ?_
  match a with
  | ⟨0, _⟩ => show 0 = 0 + (i 0).val; have : (i 0).val < 1 := (i 0).isLt; omega
  | ⟨1, _⟩ => show (512 * n + (i 1).val) % 8192 = 512 * n + (i 1).val; have : (i 1).val < 512 := (i 1).isLt; omega
  | ⟨2, _⟩ => rfl

theorem load_k (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = kTile x h n :=
  load_c a ha x h n inb hoff hn

theorem load_v (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = vTile x h n :=
  load_c a ha x h n inb hoff hn

/-- The two head slots of a scratch buffer do not meet. -/
theorem slots_disjoint (inb : ∀ x, (![1, 0, 0] : Fin 3 → ℕ) x + S1x512x512.size x ≤ S2x512x512.size x)
    (inb' : ∀ x, (![0, 0, 0] : Fin 3 → ℕ) x + S1x512x512.size x ≤ S2x512x512.size x) :
    Disjoint (Rect.unit (s := S2x512x512) ![1, 0, 0] S1x512x512.size inb).set
      (Rect.unit (s := S2x512x512) ![0, 0, 0] S1x512x512.size inb').toLoadRect.set :=
  Rect.unit_disjoint (inb := inb) (inb' := inb') 0 (Or.inr (by decide))

end Cert.Attn

end
-- ==== Proof.Attn.Chain1.lean ====
/- The unrolled trips of the attention region, read in order (part 1): each intermediate array is one of the tiles, chunk
   scores, running maxima, exponentials, decay factors or accumulators of `Block`. -/
module

public import proofs.«01_k».proof.Proof.Attn.Block

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v56_eq : kernelRun0_A.sl.v56 c arg3 harg3 arg4 harg4 arg7 x0 x1
    = (scores x0 x1 1 0) := by
  unfold kernelRun0_A.sl.v56 kernelRun0_A.sl.HS0_2
  rw [View.readCov_cons_toLoadRect]
  rw [(load_q _ harg3 x0 1 (off := ![0, 0, 128]) _ rfl), (load_k _ harg4 x1 1 0 (off := ![0, 0, 128]) _ rfl (by decide))]
  all_goals rfl

theorem r_5_eq : kernelRun0_A.sl.r_5 c arg3 harg3 arg4 harg4 arg7 x0 x1
    = (multiReduction .maximumf [1] S512 (shapeCast S512x512 (scores x0 x1 1 0) shapeCasts_S1x512x512_S512x512) 0xFF800000#32 reduces_S512x512_S512 (.inl rfl) rfl) := by
  unfold kernelRun0_A.sl.r_5
  rw [v56_eq]
  all_goals rfl

theorem r_6_eq : kernelRun0_A.sl.r_6 c arg3 harg3 arg4 harg4 arg7 x0 x1
    = (rowMax x0 x1 1 1) := by
  unfold kernelRun0_A.sl.r_6
  rw [r_5_eq]
  all_goals rfl

theorem r_eq : kernelRun0_A.sl.r c arg3 harg3 x0
    = (shapeCast S512x128 (qTile x0 0) shapeCasts_S1x512x128_S512x128) := by
  unfold kernelRun0_A.sl.r
  rw [(load_q _ harg3 x0 0 (off := ![0, 0, 0]) _ rfl)]
  all_goals rfl

theorem r_1_eq : kernelRun0_A.sl.r_1 c arg4 harg4 x1
    = (kTile x1 0 1) := by
  unfold kernelRun0_A.sl.r_1
  rw [(load_k _ harg4 x1 0 1 (off := ![0, 512, 0]) _ rfl (by decide))]
  all_goals rfl

theorem v109_eq : kernelRun0_A.sl.v109 c arg3 harg3 arg4 harg4 arg8 x0 x1
    = (scores x0 x1 1 1) := by
  unfold kernelRun0_A.sl.v109 kernelRun0_A.sl.HS1_2
  rw [View.readCov_cons_toLoadRect]
  rw [(load_q _ harg3 x0 1 (off := ![0, 0, 128]) _ rfl), (load_k _ harg4 x1 1 1 (off := ![0, 512, 128]) _ rfl (by decide))]
  all_goals rfl

theorem r_11_eq : kernelRun0_A.sl.r_11 c arg3 harg3 arg4 harg4 arg7 arg8 x0 x1
    = (rowMax x0 x1 1 2) := by
  unfold kernelRun0_A.sl.r_11
  rw [r_6_eq, v109_eq]
  all_goals rfl

theorem r_8_eq : kernelRun0_A.sl.r_8 c arg3 harg3 arg4 harg4 x0 x1
    = (matmul dot_S512x128_S512x128_S512x512_1_1_0_0_n_n none (shapeCast S512x128 (qTile x0 1) shapeCasts_S1x512x128_S512x128) (shapeCast S512x128 (kTile x1 1 2) shapeCasts_S1x512x128_S512x128) (constant S512x512 .f32 0x00000000#32)) := by
  unfold kernelRun0_A.sl.r_8
  erw [(load_k _ harg4 x1 1 2 (off := ![0, 1024, 128]) _ rfl (by decide))]
  rw [(load_q _ harg3 x0 1 (off := ![0, 0, 128]) _ rfl)]
  all_goals rfl

theorem v183_eq : kernelRun0_A.sl.v183 c arg3 harg3 arg4 harg4 arg7 x0 x1
    = (scores x0 x1 1 2) := by
  unfold kernelRun0_A.sl.v183 kernelRun0_A.sl.HS0_4
  rw [View.readCov_cons_toLoadRect]
  rw [r_8_eq]
  all_goals rfl

theorem r_20_eq : kernelRun0_A.sl.r_20 c arg3 harg3 arg4 harg4 arg7 arg8 x0 x1
    = (rowMax x0 x1 1 3) := by
  unfold kernelRun0_A.sl.r_20
  rw [r_11_eq, v183_eq]
  all_goals rfl

theorem r_17_eq : kernelRun0_A.sl.r_17 c arg3 harg3 x0
    = (shapeCast S512x128 (qTile x0 1) shapeCasts_S1x512x128_S512x128) := by
  unfold kernelRun0_A.sl.r_17
  rw [(load_q _ harg3 x0 1 (off := ![0, 0, 128]) _ rfl)]
  all_goals rfl

theorem v258_eq : kernelRun0_A.sl.v258 c arg3 harg3 arg4 harg4 arg8 x0 x1
    = (scores x0 x1 1 3) := by
  unfold kernelRun0_A.sl.v258 kernelRun0_A.sl.HS1_4
  rw [View.readCov_cons_toLoadRect]
  erw [(load_k _ harg4 x1 1 3 (off := ![0, 1536, 128]) _ rfl (by decide))]
  rw [r_17_eq]
  all_goals rfl

theorem r_28_eq : kernelRun0_A.sl.r_28 c arg3 harg3 arg4 harg4 arg7 arg8 x0 x1
    = (rowMax x0 x1 1 4) := by
  unfold kernelRun0_A.sl.r_28
  rw [r_20_eq, v258_eq]
  all_goals rfl

theorem r_25_eq : kernelRun0_A.sl.r_25 c arg3 harg3 arg4 harg4 x0 x1
    = (matmul dot_S512x128_S512x128_S512x512_1_1_0_0_n_n none (shapeCast S512x128 (qTile x0 0) shapeCasts_S1x512x128_S512x128) (shapeCast S512x128 (kTile x1 0 4) shapeCasts_S1x512x128_S512x128) (constant S512x512 .f32 0x00000000#32)) := by
  unfold kernelRun0_A.sl.r_25
  erw [(load_k _ harg4 x1 0 4 (off := ![0, 2048, 0]) _ rfl (by decide))]
  rw [(load_q _ harg3 x0 0 (off := ![0, 0, 0]) _ rfl)]
  all_goals rfl

theorem v332_eq : kernelRun0_A.sl.v332 c arg3 harg3 arg4 harg4 arg7 x0 x1
    = (scores x0 x1 1 4) := by
  unfold kernelRun0_A.sl.v332 kernelRun0_A.sl.HS0_6
  rw [View.readCov_cons_toLoadRect]
  erw [(load_k _ harg4 x1 1 4 (off := ![0, 2048, 128]) _ rfl (by decide))]
  rw [(load_q _ harg3 x0 1 (off := ![0, 0, 128]) _ rfl)]
  all_goals rfl

theorem r_36_eq : kernelRun0_A.sl.r_36 c arg3 harg3 arg4 harg4 arg7 x0 x1
    = (shapeCast S512x512 (scores x0 x1 1 4) shapeCasts_S1x512x512_S512x512) := by
  unfold kernelRun0_A.sl.r_36
  rw [v332_eq]
  all_goals rfl

theorem r_37_eq : kernelRun0_A.sl.r_37 c arg3 harg3 arg4 harg4 arg7 arg8 x0 x1
    = (rowMax x0 x1 1 5) := by
  unfold kernelRun0_A.sl.r_37
  rw [r_28_eq, r_36_eq]
  all_goals rfl

theorem r_33_eq : kernelRun0_A.sl.r_33 c arg3 harg3 x0
    = (shapeCast S512x128 (qTile x0 0) shapeCasts_S1x512x128_S512x128) := by
  unfold kernelRun0_A.sl.r_33
  rw [(load_q _ harg3 x0 0 (off := ![0, 0, 0]) _ rfl)]
  all_goals rfl

theorem v407_eq : kernelRun0_A.sl.v407 c arg3 harg3 arg4 harg4 arg8 x0 x1
    = (scores x0 x1 1 5) := by
  unfold kernelRun0_A.sl.v407 kernelRun0_A.sl.HS1_6
  rw [View.readCov_cons_toLoadRect]
  erw [(load_k _ harg4 x1 1 5 (off := ![0, 2560, 128]) _ rfl (by decide))]
  rw [(load_q _ harg3 x0 1 (off := ![0, 0, 128]) _ rfl)]
  all_goals rfl

theorem r_44_eq : kernelRun0_A.sl.r_44 c arg3 harg3 arg4 harg4 arg7 arg8 x0 x1
    = (rowMax x0 x1 1 6) := by
  unfold kernelRun0_A.sl.r_44
  rw [r_37_eq, v407_eq]
  all_goals rfl

theorem v481_eq : kernelRun0_A.sl.v481 c arg3 harg3 arg4 harg4 arg7 x0 x1
    = (scores x0 x1 1 6) := by
  unfold kernelRun0_A.sl.v481 kernelRun0_A.sl.HS0_8
  rw [View.readCov_cons_toLoadRect]
  erw [(load_k _ harg4 x1 1 6 (off := ![0, 3072, 128]) _ rfl (by decide))]
  rw [(load_q _ harg3 x0 1 (off := ![0, 0, 128]) _ rfl)]
  all_goals rfl

theorem r_54_eq : kernelRun0_A.sl.r_54 c arg3 harg3 arg4 harg4 arg7 arg8 x0 x1
    = (rowMax x0 x1 1 7) := by
  unfold kernelRun0_A.sl.r_54
  rw [r_44_eq, v481_eq]
  all_goals rfl

theorem v556_eq : kernelRun0_A.sl.v556 c arg3 harg3 arg4 harg4 arg8 x0 x1
    = (scores x0 x1 1 7) := by
  unfold kernelRun0_A.sl.v556 kernelRun0_A.sl.HS1_8
  rw [View.readCov_cons_toLoadRect]
  erw [(load_k _ harg4 x1 1 7 (off := ![0, 3584, 128]) _ rfl (by decide))]
  rw [(load_q _ harg3 x0 1 (off := ![0, 0, 128]) _ rfl)]
  all_goals rfl

theorem r_62_eq : kernelRun0_A.sl.r_62 c arg3 harg3 arg4 harg4 arg7 arg8 x0 x1
    = (rowMax x0 x1 1 8) := by
  unfold kernelRun0_A.sl.r_62
  rw [r_54_eq, v556_eq]
  all_goals rfl

theorem r_59_eq : kernelRun0_A.sl.r_59 c arg3 harg3 arg4 harg4 x0 x1
    = (matmul dot_S512x128_S512x128_S512x512_1_1_0_0_n_n none (shapeCast S512x128 (qTile x0 1) shapeCasts_S1x512x128_S512x128) (shapeCast S512x128 (kTile x1 1 8) shapeCasts_S1x512x128_S512x128) (constant S512x512 .f32 0x00000000#32)) := by
  unfold kernelRun0_A.sl.r_59
  erw [(load_k _ harg4 x1 1 8 (off := ![0, 4096, 128]) _ rfl (by decide))]
  rw [(load_q _ harg3 x0 1 (off := ![0, 0, 128]) _ rfl)]
  all_goals rfl

theorem v630_eq : kernelRun0_A.sl.v630 c arg3 harg3 arg4 harg4 arg7 x0 x1
    = (scores x0 x1 1 8) := by
  unfold kernelRun0_A.sl.v630 kernelRun0_A.sl.HS0_10
  rw [View.readCov_cons_toLoadRect]
  rw [r_59_eq]
  all_goals rfl

theorem r_71_eq : kernelRun0_A.sl.r_71 c arg3 harg3 arg4 harg4 arg7 arg8 x0 x1
    = (rowMax x0 x1 1 9) := by
  unfold kernelRun0_A.sl.r_71
  rw [r_62_eq, v630_eq]
  all_goals rfl

theorem r_68_eq : kernelRun0_A.sl.r_68 c arg3 harg3 x0
    = (shapeCast S512x128 (qTile x0 1) shapeCasts_S1x512x128_S512x128) := by
  unfold kernelRun0_A.sl.r_68
  rw [(load_q _ harg3 x0 1 (off := ![0, 0, 128]) _ rfl)]
  all_goals rfl

theorem v705_eq : kernelRun0_A.sl.v705 c arg3 harg3 arg4 harg4 arg8 x0 x1
    = (scores x0 x1 1 9) := by
  unfold kernelRun0_A.sl.v705 kernelRun0_A.sl.HS1_10
  rw [View.readCov_cons_toLoadRect]
  erw [(load_k _ harg4 x1 1 9 (off := ![0, 4608, 128]) _ rfl (by decide))]
  rw [r_68_eq]
  all_goals rfl

theorem r_78_eq : kernelRun0_A.sl.r_78 c arg3 harg3 arg4 harg4 arg7 arg8 x0 x1
    = (rowMax x0 x1 1 10) := by
  unfold kernelRun0_A.sl.r_78
  rw [r_71_eq, v705_eq]
  all_goals rfl

theorem v779_eq : kernelRun0_A.sl.v779 c arg3 harg3 arg4 harg4 arg7 x0 x1
    = (scores x0 x1 1 10) := by
  unfold kernelRun0_A.sl.v779 kernelRun0_A.sl.HS0_12
  rw [View.readCov_cons_toLoadRect]
  erw [(load_k _ harg4 x1 1 10 (off := ![0, 5120, 128]) _ rfl (by decide))]
  rw [(load_q _ harg3 x0 1 (off := ![0, 0, 128]) _ rfl)]
  all_goals rfl

theorem r_88_eq : kernelRun0_A.sl.r_88 c arg3 harg3 arg4 harg4 arg7 x0 x1
    = (shapeCast S512x1 (multiReduction .maximumf [1] S512 (shapeCast S512x512 (scores x0 x1 1 10) shapeCasts_S1x512x512_S512x512) 0xFF800000#32 reduces_S512x512_S512 (.inl rfl) rfl) shapeCasts_S512_S512x1) := by
  unfold kernelRun0_A.sl.r_88
  rw [v779_eq]
  all_goals rfl

theorem r_89_eq : kernelRun0_A.sl.r_89 c arg3 harg3 arg4 harg4 arg7 arg8 x0 x1
    = (rowMax x0 x1 1 11) := by
  unfold kernelRun0_A.sl.r_89
  rw [r_78_eq, r_88_eq]
  all_goals rfl

theorem r_83_eq : kernelRun0_A.sl.r_83 c arg3 harg3 x0
    = (shapeCast S512x128 (qTile x0 0) shapeCasts_S1x512x128_S512x128) := by
  unfold kernelRun0_A.sl.r_83
  rw [(load_q _ harg3 x0 0 (off := ![0, 0, 0]) _ rfl)]
  all_goals rfl

theorem r_84_eq : kernelRun0_A.sl.r_84 c arg4 harg4 x1
    = (shapeCast S512x128 (kTile x1 0 11) shapeCasts_S1x512x128_S512x128) := by
  unfold kernelRun0_A.sl.r_84
  erw [(load_k _ harg4 x1 0 11 (off := ![0, 5632, 0]) _ rfl (by decide))]
  all_goals rfl

theorem cst_514_eq : kernelRun0_A.sl.cst_514 (F := F)
    = (constant S512x512 .f32 0#32) := by
  unfold kernelRun0_A.sl.cst_514
  all_goals rfl

theorem v854_eq : kernelRun0_A.sl.v854 c arg3 harg3 arg4 harg4 arg8 x0 x1
    = (scores x0 x1 1 11) := by
  unfold kernelRun0_A.sl.v854 kernelRun0_A.sl.HS1_12
  rw [View.readCov_cons_toLoadRect]
  erw [(load_k _ harg4 x1 1 11 (off := ![0, 5632, 128]) _ rfl (by decide))]
  rw [(load_q _ harg3 x0 1 (off := ![0, 0, 128]) _ rfl)]
  all_goals rfl

theorem r_96_eq : kernelRun0_A.sl.r_96 c arg3 harg3 arg4 harg4 arg7 arg8 x0 x1
    = (rowMax x0 x1 1 12) := by
  unfold kernelRun0_A.sl.r_96
  rw [r_89_eq, v854_eq]
  all_goals rfl

theorem v928_eq : kernelRun0_A.sl.v928 c arg3 harg3 arg4 harg4 arg7 x0 x1
    = (scores x0 x1 1 12) := by
  unfold kernelRun0_A.sl.v928 kernelRun0_A.sl.HS0_14
  rw [View.readCov_cons_toLoadRect]
  erw [(load_k _ harg4 x1 1 12 (off := ![0, 6144, 128]) _ rfl (by decide))]
  rw [(load_q _ harg3 x0 1 (off := ![0, 0, 128]) _ rfl)]
  all_goals rfl

theorem r_106_eq : kernelRun0_A.sl.r_106 c arg3 harg3 arg4 harg4 arg7 arg8 x0 x1
    = (rowMax x0 x1 1 13) := by
  unfold kernelRun0_A.sl.r_106
  rw [r_96_eq, v928_eq]
  all_goals rfl

theorem v1003_eq : kernelRun0_A.sl.v1003 c arg3 harg3 arg4 harg4 arg8 x0 x1
    = (scores x0 x1 1 13) := by
  unfold kernelRun0_A.sl.v1003 kernelRun0_A.sl.HS1_14
  rw [View.readCov_cons_toLoadRect]
  erw [(load_k _ harg4 x1 1 13 (off := ![0, 6656, 128]) _ rfl (by decide))]
  rw [(load_q _ harg3 x0 1 (off := ![0, 0, 128]) _ rfl)]
  all_goals rfl

theorem r_114_eq : kernelRun0_A.sl.r_114 c arg3 harg3 arg4 harg4 arg7 arg8 x0 x1
    = (rowMax x0 x1 1 14) := by
  unfold kernelRun0_A.sl.r_114
  rw [r_106_eq, v1003_eq]
  all_goals rfl

theorem v1077_eq : kernelRun0_A.sl.v1077 c arg3 harg3 arg4 harg4 arg7 x0 x1
    = (scores x0 x1 1 14) := by
  unfold kernelRun0_A.sl.v1077 kernelRun0_A.sl.HS0_16
  rw [View.readCov_cons_toLoadRect]
  erw [(load_k _ harg4 x1 1 14 (off := ![0, 7168, 128]) _ rfl (by decide))]
  rw [(load_q _ harg3 x0 1 (off := ![0, 0, 128]) _ rfl)]
  all_goals rfl

theorem r_125_eq : kernelRun0_A.sl.r_125 c arg3 harg3 arg4 harg4 arg7 arg8 x0 x1
    = (rowMax x0 x1 1 15) := by
  unfold kernelRun0_A.sl.r_125
  rw [r_114_eq, v1077_eq]
  all_goals rfl

theorem r_121_eq : kernelRun0_A.sl.r_121 c arg3 harg3 x0
    = (shapeCast S512x128 (qTile x0 1) shapeCasts_S1x512x128_S512x128) := by
  unfold kernelRun0_A.sl.r_121
  rw [(load_q _ harg3 x0 1 (off := ![0, 0, 128]) _ rfl)]
  all_goals rfl

theorem r_122_eq : kernelRun0_A.sl.r_122 c arg4 harg4 x1
    = (shapeCast S512x128 (kTile x1 1 15) shapeCasts_S1x512x128_S512x128) := by
  unfold kernelRun0_A.sl.r_122
  erw [(load_k _ harg4 x1 1 15 (off := ![0, 7680, 128]) _ rfl (by decide))]
  all_goals rfl

theorem v1127_eq : kernelRun0_A.sl.v1127 c arg3 harg3 arg4 harg4 arg8 x0 x1
    = (scores x0 x1 1 15) := by
  unfold kernelRun0_A.sl.v1127 kernelRun0_A.sl.HS1_16
  rw [View.readCov_cons_toLoadRect]
  rw [r_121_eq, r_122_eq, cst_514_eq]
  all_goals rfl

theorem r_133_eq : kernelRun0_A.sl.r_133 c arg3 harg3 arg4 harg4 arg7 arg8 x0 x1
    = (rowMax x0 x1 1 16) := by
  unfold kernelRun0_A.sl.r_133
  rw [r_125_eq, v1127_eq]
  all_goals rfl

theorem r_134_eq : kernelRun0_A.sl.r_134 c arg3 harg3 arg4 harg4 arg7 arg8 x0 x1
    = (decay x0 x1 1 15) := by
  unfold kernelRun0_A.sl.r_134
  rw [r_125_eq, r_133_eq]
  all_goals rfl

theorem r_126_eq : kernelRun0_A.sl.r_126 c arg3 harg3 arg4 harg4 arg7 arg8 x0 x1
    = (decay x0 x1 1 14) := by
  unfold kernelRun0_A.sl.r_126
  rw [r_114_eq, v1077_eq]
  all_goals rfl

theorem r_115_eq : kernelRun0_A.sl.r_115 c arg3 harg3 arg4 harg4 arg7 arg8 x0 x1
    = (decay x0 x1 1 13) := by
  unfold kernelRun0_A.sl.r_115
  rw [r_106_eq, v1003_eq]
  all_goals rfl

theorem r_107_eq : kernelRun0_A.sl.r_107 c arg3 harg3 arg4 harg4 arg7 arg8 x0 x1
    = (decay x0 x1 1 12) := by
  unfold kernelRun0_A.sl.r_107
  rw [r_96_eq, v928_eq]
  all_goals rfl

theorem r_97_eq : kernelRun0_A.sl.r_97 c arg3 harg3 arg4 harg4 arg7 arg8 x0 x1
    = (decay x0 x1 1 11) := by
  unfold kernelRun0_A.sl.r_97
  rw [r_89_eq, v854_eq]
  all_goals rfl

theorem r_90_eq : kernelRun0_A.sl.r_90 c arg3 harg3 arg4 harg4 arg7 arg8 x0 x1
    = (decay x0 x1 1 10) := by
  unfold kernelRun0_A.sl.r_90
  rw [r_78_eq, r_88_eq]
  all_goals rfl

theorem r_80_eq : kernelRun0_A.sl.r_80 c arg3 harg3 arg4 harg4 arg7 arg8 x0 x1
    = (decay x0 x1 1 9) := by
  unfold kernelRun0_A.sl.r_80
  rw [r_71_eq, r_78_eq]
  all_goals rfl

theorem r_72_eq : kernelRun0_A.sl.r_72 c arg3 harg3 arg4 harg4 arg7 arg8 x0 x1
    = (decay x0 x1 1 8) := by
  unfold kernelRun0_A.sl.r_72
  rw [r_62_eq, v630_eq]
  all_goals rfl

theorem r_63_eq : kernelRun0_A.sl.r_63 c arg3 harg3 arg4 harg4 arg7 arg8 x0 x1
    = (decay x0 x1 1 7) := by
  unfold kernelRun0_A.sl.r_63
  rw [r_54_eq, v556_eq]
  all_goals rfl

theorem r_55_eq : kernelRun0_A.sl.r_55 c arg3 harg3 arg4 harg4 arg7 arg8 x0 x1
    = (decay x0 x1 1 6) := by
  unfold kernelRun0_A.sl.r_55
  rw [r_44_eq, v481_eq]
  all_goals rfl

theorem r_45_eq : kernelRun0_A.sl.r_45 c arg3 harg3 arg4 harg4 arg7 arg8 x0 x1
    = (decay x0 x1 1 5) := by
  unfold kernelRun0_A.sl.r_45
  rw [r_37_eq, v407_eq]
  all_goals rfl

theorem r_38_eq : kernelRun0_A.sl.r_38 c arg3 harg3 arg4 harg4 arg7 arg8 x0 x1
    = (decay x0 x1 1 4) := by
  unfold kernelRun0_A.sl.r_38
  rw [r_28_eq, r_36_eq]
  all_goals rfl

theorem r_30_eq : kernelRun0_A.sl.r_30 c arg3 harg3 arg4 harg4 arg7 arg8 x0 x1
    = (decay x0 x1 1 3) := by
  unfold kernelRun0_A.sl.r_30
  rw [r_20_eq, r_28_eq]
  all_goals rfl

end Cert.Attn

end
-- ==== Proof.Attn.Chain2.lean ====
/- The unrolled trips of the attention region, read in order (part 2): each intermediate array is one of the tiles, chunk
   scores, running maxima, exponentials, decay factors or accumulators of `Block`. -/
module

public import proofs.«01_k».proof.Proof.Attn.Chain1

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem r_21_eq : kernelRun0_A.sl.r_21 c arg3 harg3 arg4 harg4 arg7 arg8 x0 x1
    = (decay x0 x1 1 2) := by
  unfold kernelRun0_A.sl.r_21
  rw [r_11_eq, v183_eq]
  all_goals rfl

theorem r_12_eq : kernelRun0_A.sl.r_12 c arg3 harg3 arg4 harg4 arg7 arg8 x0 x1
    = (decay x0 x1 1 1) := by
  unfold kernelRun0_A.sl.r_12
  rw [r_6_eq, v109_eq]
  all_goals rfl

theorem r_7_eq : kernelRun0_A.sl.r_7 c arg3 harg3 arg4 harg4 arg7 x0 x1
    = (decay x0 x1 1 0) := by
  unfold kernelRun0_A.sl.r_7
  rw [r_5_eq]
  all_goals rfl

theorem r_4_eq : kernelRun0_A.sl.r_4 c arg3 harg3 arg4 harg4 arg7 x0 x1
    = (shapeCast S512x512 (scores x0 x1 1 0) shapeCasts_S1x512x512_S512x512) := by
  unfold kernelRun0_A.sl.r_4
  rw [v56_eq]
  all_goals rfl

theorem v42_eq : kernelRun0_A.sl.v42 c arg3 harg3 arg4 harg4 arg7 x0 x1
    = (scores x0 x1 0 0) := by
  unfold kernelRun0_A.sl.v42 kernelRun0_A.sl.HS0_2
  rw [View.readCov_cons_of_disjoint, View.readCov_cons_toLoadRect]
  rotate_left; exact slots_disjoint inb_S2x512x512_S1x512x512_1_0_0 inb_S2x512x512_S1x512x512_0_0_0
  rw [(load_q _ harg3 x0 0 (off := ![0, 0, 0]) _ rfl), (load_k _ harg4 x1 0 0 (off := ![0, 0, 0]) _ rfl (by decide))]
  all_goals rfl

theorem v137_eq : kernelRun0_A.sl.v137 c arg3 harg3 arg4 harg4 arg7 arg9 x0 x1
    = (expo x0 x1 1 0) := by
  unfold kernelRun0_A.sl.v137 kernelRun0_A.sl.HS2_2
  rw [View.readCov_cons_toLoadRect]
  rw [r_4_eq, r_5_eq]
  all_goals rfl

theorem r_16_eq : kernelRun0_A.sl.r_16 c arg3 harg3 arg4 harg4 arg5 harg5 arg7 arg9 x0 x1 x2
    = (accum x0 x1 x2 1 1) := by
  unfold kernelRun0_A.sl.r_16
  erw [(load_v _ harg5 x2 1 0 (off := ![0, 0, 128]) _ rfl (by decide))]
  rw [r_7_eq, v137_eq]
  all_goals rfl

theorem r_2_eq : kernelRun0_A.sl.r_2 c arg3 harg3 arg4 harg4 arg7 x0 x1
    = (rowMax x0 x1 0 1) := by
  unfold kernelRun0_A.sl.r_2
  rw [v42_eq]
  all_goals rfl

theorem v95_eq : kernelRun0_A.sl.v95 c arg3 harg3 arg4 harg4 arg8 x0 x1
    = (scores x0 x1 0 1) := by
  unfold kernelRun0_A.sl.v95 kernelRun0_A.sl.HS1_2
  rw [View.readCov_cons_of_disjoint, View.readCov_cons_toLoadRect]
  rotate_left; exact slots_disjoint inb_S2x512x512_S1x512x512_1_0_0 inb_S2x512x512_S1x512x512_0_0_0
  rw [r_eq, r_1_eq]
  all_goals rfl

theorem v210_eq : kernelRun0_A.sl.v210 c arg3 harg3 arg4 harg4 arg7 arg8 arg10 x0 x1
    = (expo x0 x1 1 1) := by
  unfold kernelRun0_A.sl.v210 kernelRun0_A.sl.HS3_2
  rw [View.readCov_cons_toLoadRect]
  rw [r_6_eq, v109_eq]
  all_goals rfl

theorem r_24_eq : kernelRun0_A.sl.r_24 c arg3 harg3 arg4 harg4 arg5 harg5 arg7 arg8 arg9 arg10 x0 x1 x2
    = (accum x0 x1 x2 1 2) := by
  unfold kernelRun0_A.sl.r_24
  erw [(load_v _ harg5 x2 1 1 (off := ![0, 512, 128]) _ rfl (by decide))]
  rw [r_12_eq, r_16_eq, v210_eq]
  all_goals rfl

theorem r_9_eq : kernelRun0_A.sl.r_9 c arg3 harg3 arg4 harg4 arg7 arg8 x0 x1
    = (rowMax x0 x1 0 2) := by
  unfold kernelRun0_A.sl.r_9
  rw [r_2_eq, v95_eq]
  all_goals rfl

theorem v169_eq : kernelRun0_A.sl.v169 c arg3 harg3 arg4 harg4 arg7 x0 x1
    = (scores x0 x1 0 2) := by
  unfold kernelRun0_A.sl.v169 kernelRun0_A.sl.HS0_4
  rw [View.readCov_cons_of_disjoint, View.readCov_cons_toLoadRect]
  rotate_left; exact slots_disjoint inb_S2x512x512_S1x512x512_1_0_0 inb_S2x512x512_S1x512x512_0_0_0
  erw [(load_k _ harg4 x1 0 2 (off := ![0, 1024, 0]) _ rfl (by decide))]
  rw [(load_q _ harg3 x0 0 (off := ![0, 0, 0]) _ rfl)]
  all_goals rfl

theorem v286_eq : kernelRun0_A.sl.v286 c arg3 harg3 arg4 harg4 arg7 arg8 arg9 x0 x1
    = (expo x0 x1 1 2) := by
  unfold kernelRun0_A.sl.v286 kernelRun0_A.sl.HS2_4
  rw [View.readCov_cons_toLoadRect]
  rw [r_11_eq, v183_eq]
  all_goals rfl

theorem r_32_eq : kernelRun0_A.sl.r_32 c arg3 harg3 arg4 harg4 arg5 harg5 arg7 arg8 arg9 arg10 x0 x1 x2
    = (accum x0 x1 x2 1 3) := by
  unfold kernelRun0_A.sl.r_32
  erw [(load_v _ harg5 x2 1 2 (off := ![0, 1024, 128]) _ rfl (by decide))]
  rw [r_21_eq, r_24_eq, v286_eq]
  all_goals rfl

theorem r_29_eq : kernelRun0_A.sl.r_29 c arg3 harg3 arg4 harg4 arg7 arg8 x0 x1
    = (truncf .bf16 (exp2 (subf (shapeCast S512x512 (scores x0 x1 1 3) shapeCasts_S1x512x512_S512x512) (broadcastTo S512x512 (rowMax x0 x1 1 4) broadcasts_S512x1_S512x512))) bitsLt_bf16_f32) := by
  unfold kernelRun0_A.sl.r_29
  rw [r_20_eq, v258_eq]
  all_goals rfl

theorem r_18_eq : kernelRun0_A.sl.r_18 c arg3 harg3 arg4 harg4 arg7 arg8 x0 x1
    = (rowMax x0 x1 0 3) := by
  unfold kernelRun0_A.sl.r_18
  rw [r_9_eq, v169_eq]
  all_goals rfl

theorem v244_eq : kernelRun0_A.sl.v244 c arg3 harg3 arg4 harg4 arg8 x0 x1
    = (scores x0 x1 0 3) := by
  unfold kernelRun0_A.sl.v244 kernelRun0_A.sl.HS1_4
  rw [View.readCov_cons_of_disjoint, View.readCov_cons_toLoadRect]
  rotate_left; exact slots_disjoint inb_S2x512x512_S1x512x512_1_0_0 inb_S2x512x512_S1x512x512_0_0_0
  erw [(load_k _ harg4 x1 0 3 (off := ![0, 1536, 0]) _ rfl (by decide))]
  rw [(load_q _ harg3 x0 0 (off := ![0, 0, 0]) _ rfl)]
  all_goals rfl

theorem v359_eq : kernelRun0_A.sl.v359 c arg3 harg3 arg4 harg4 arg7 arg8 arg10 x0 x1
    = (expo x0 x1 1 3) := by
  unfold kernelRun0_A.sl.v359 kernelRun0_A.sl.HS3_4
  rw [View.readCov_cons_toLoadRect]
  rw [r_29_eq]
  all_goals rfl

theorem r_40_eq : kernelRun0_A.sl.r_40 c arg3 harg3 arg4 harg4 arg5 harg5 arg7 arg8 arg9 arg10 x0 x1 x2
    = (accum x0 x1 x2 1 4) := by
  unfold kernelRun0_A.sl.r_40
  erw [(load_v _ harg5 x2 1 3 (off := ![0, 1536, 128]) _ rfl (by decide))]
  rw [r_30_eq, r_32_eq, v359_eq]
  all_goals rfl

theorem r_47_eq : kernelRun0_A.sl.r_47 c arg3 harg3 arg4 harg4 arg5 harg5 arg7 arg8 arg9 arg10 x0 x1 x2
    = (mulf (broadcastTo S512x128 (decay x0 x1 1 4) broadcasts_S512x1_S512x128) (accum x0 x1 x2 1 4)) := by
  unfold kernelRun0_A.sl.r_47
  rw [r_38_eq, r_40_eq]
  all_goals rfl

theorem r_26_eq : kernelRun0_A.sl.r_26 c arg3 harg3 arg4 harg4 arg7 arg8 x0 x1
    = (rowMax x0 x1 0 4) := by
  unfold kernelRun0_A.sl.r_26
  rw [r_18_eq, v244_eq]
  all_goals rfl

theorem v318_eq : kernelRun0_A.sl.v318 c arg3 harg3 arg4 harg4 arg7 x0 x1
    = (scores x0 x1 0 4) := by
  unfold kernelRun0_A.sl.v318 kernelRun0_A.sl.HS0_6
  rw [View.readCov_cons_of_disjoint, View.readCov_cons_toLoadRect]
  rotate_left; exact slots_disjoint inb_S2x512x512_S1x512x512_1_0_0 inb_S2x512x512_S1x512x512_0_0_0
  rw [r_25_eq]
  all_goals rfl

theorem v435_eq : kernelRun0_A.sl.v435 c arg3 harg3 arg4 harg4 arg7 arg8 arg9 x0 x1
    = (expo x0 x1 1 4) := by
  unfold kernelRun0_A.sl.v435 kernelRun0_A.sl.HS2_6
  rw [View.readCov_cons_toLoadRect]
  rw [r_28_eq, r_36_eq]
  all_goals rfl

theorem r_48_eq : kernelRun0_A.sl.r_48 c arg3 harg3 arg4 harg4 arg7 arg8 arg9 x0 x1
    = (shapeCast S512x512 (expo x0 x1 1 4) shapeCasts_S1x512x512_S512x512) := by
  unfold kernelRun0_A.sl.r_48
  rw [v435_eq]
  all_goals rfl

theorem r_49_eq : kernelRun0_A.sl.r_49 c arg3 harg3 arg4 harg4 arg5 harg5 arg7 arg8 arg9 arg10 x0 x1 x2
    = (accum x0 x1 x2 1 5) := by
  unfold kernelRun0_A.sl.r_49
  erw [(load_v _ harg5 x2 1 4 (off := ![0, 2048, 128]) _ rfl (by decide))]
  rw [r_47_eq, r_48_eq]
  all_goals rfl

theorem r_57_eq : kernelRun0_A.sl.r_57 c arg3 harg3 arg4 harg4 arg5 harg5 arg7 arg8 arg9 arg10 x0 x1 x2
    = (mulf (broadcastTo S512x128 (decay x0 x1 1 5) broadcasts_S512x1_S512x128) (accum x0 x1 x2 1 5)) := by
  unfold kernelRun0_A.sl.r_57
  rw [r_45_eq, r_49_eq]
  all_goals rfl

theorem r_34_eq : kernelRun0_A.sl.r_34 c arg3 harg3 arg4 harg4 arg7 arg8 x0 x1
    = (rowMax x0 x1 0 5) := by
  unfold kernelRun0_A.sl.r_34
  rw [r_26_eq, v318_eq]
  all_goals rfl

theorem v393_eq : kernelRun0_A.sl.v393 c arg3 harg3 arg4 harg4 arg8 x0 x1
    = (scores x0 x1 0 5) := by
  unfold kernelRun0_A.sl.v393 kernelRun0_A.sl.HS1_6
  rw [View.readCov_cons_of_disjoint, View.readCov_cons_toLoadRect]
  rotate_left; exact slots_disjoint inb_S2x512x512_S1x512x512_1_0_0 inb_S2x512x512_S1x512x512_0_0_0
  erw [(load_k _ harg4 x1 0 5 (off := ![0, 2560, 0]) _ rfl (by decide))]
  rw [r_33_eq]
  all_goals rfl

theorem r_42_eq : kernelRun0_A.sl.r_42 c arg3 harg3 arg4 harg4 arg7 arg8 x0 x1
    = (truncf .bf16 (exp2 (subf (shapeCast S512x512 (scores x0 x1 0 5) shapeCasts_S1x512x512_S512x512) (broadcastTo S512x512 (rowMax x0 x1 0 6) broadcasts_S512x1_S512x512))) bitsLt_bf16_f32) := by
  unfold kernelRun0_A.sl.r_42
  rw [r_34_eq, v393_eq]
  all_goals rfl

theorem v508_eq : kernelRun0_A.sl.v508 c arg3 harg3 arg4 harg4 arg7 arg8 arg10 x0 x1
    = (expo x0 x1 1 5) := by
  unfold kernelRun0_A.sl.v508 kernelRun0_A.sl.HS3_6
  rw [View.readCov_cons_toLoadRect]
  rw [r_37_eq, v407_eq]
  all_goals rfl

theorem r_58_eq : kernelRun0_A.sl.r_58 c arg3 harg3 arg4 harg4 arg5 harg5 arg7 arg8 arg9 arg10 x0 x1 x2
    = (accum x0 x1 x2 1 6) := by
  unfold kernelRun0_A.sl.r_58
  erw [(load_v _ harg5 x2 1 5 (off := ![0, 2560, 128]) _ rfl (by decide))]
  rw [r_57_eq, v508_eq]
  all_goals rfl

theorem r_41_eq : kernelRun0_A.sl.r_41 c arg3 harg3 arg4 harg4 arg7 arg8 x0 x1
    = (rowMax x0 x1 0 6) := by
  unfold kernelRun0_A.sl.r_41
  rw [r_34_eq, v393_eq]
  all_goals rfl

theorem v467_eq : kernelRun0_A.sl.v467 c arg3 harg3 arg4 harg4 arg7 x0 x1
    = (scores x0 x1 0 6) := by
  unfold kernelRun0_A.sl.v467 kernelRun0_A.sl.HS0_8
  rw [View.readCov_cons_of_disjoint, View.readCov_cons_toLoadRect]
  rotate_left; exact slots_disjoint inb_S2x512x512_S1x512x512_1_0_0 inb_S2x512x512_S1x512x512_0_0_0
  erw [(load_k _ harg4 x1 0 6 (off := ![0, 3072, 0]) _ rfl (by decide))]
  rw [(load_q _ harg3 x0 0 (off := ![0, 0, 0]) _ rfl)]
  all_goals rfl

theorem r_50_eq : kernelRun0_A.sl.r_50 c arg3 harg3 arg4 harg4 arg7 x0 x1
    = (shapeCast S512x512 (scores x0 x1 0 6) shapeCasts_S1x512x512_S512x512) := by
  unfold kernelRun0_A.sl.r_50
  rw [v467_eq]
  all_goals rfl

theorem r_51_eq : kernelRun0_A.sl.r_51 c arg3 harg3 arg4 harg4 arg7 x0 x1
    = (shapeCast S512x1 (multiReduction .maximumf [1] S512 (shapeCast S512x512 (scores x0 x1 0 6) shapeCasts_S1x512x512_S512x512) 0xFF800000#32 reduces_S512x512_S512 (.inl rfl) rfl) shapeCasts_S512_S512x1) := by
  unfold kernelRun0_A.sl.r_51
  rw [v467_eq]
  all_goals rfl

theorem v584_eq : kernelRun0_A.sl.v584 c arg3 harg3 arg4 harg4 arg7 arg8 arg9 x0 x1
    = (expo x0 x1 1 6) := by
  unfold kernelRun0_A.sl.v584 kernelRun0_A.sl.HS2_8
  rw [View.readCov_cons_toLoadRect]
  rw [r_44_eq, v481_eq]
  all_goals rfl

theorem r_67_eq : kernelRun0_A.sl.r_67 c arg3 harg3 arg4 harg4 arg5 harg5 arg7 arg8 arg9 arg10 x0 x1 x2
    = (accum x0 x1 x2 1 7) := by
  unfold kernelRun0_A.sl.r_67
  erw [(load_v _ harg5 x2 1 6 (off := ![0, 3072, 128]) _ rfl (by decide))]
  rw [r_55_eq, r_58_eq, v584_eq]
  all_goals rfl

theorem r_52_eq : kernelRun0_A.sl.r_52 c arg3 harg3 arg4 harg4 arg7 arg8 x0 x1
    = (rowMax x0 x1 0 7) := by
  unfold kernelRun0_A.sl.r_52
  rw [r_41_eq, r_51_eq]
  all_goals rfl

theorem v542_eq : kernelRun0_A.sl.v542 c arg3 harg3 arg4 harg4 arg8 x0 x1
    = (scores x0 x1 0 7) := by
  unfold kernelRun0_A.sl.v542 kernelRun0_A.sl.HS1_8
  rw [View.readCov_cons_of_disjoint, View.readCov_cons_toLoadRect]
  rotate_left; exact slots_disjoint inb_S2x512x512_S1x512x512_1_0_0 inb_S2x512x512_S1x512x512_0_0_0
  erw [(load_k _ harg4 x1 0 7 (off := ![0, 3584, 0]) _ rfl (by decide))]
  rw [(load_q _ harg3 x0 0 (off := ![0, 0, 0]) _ rfl)]
  all_goals rfl

theorem v657_eq : kernelRun0_A.sl.v657 c arg3 harg3 arg4 harg4 arg7 arg8 arg10 x0 x1
    = (expo x0 x1 1 7) := by
  unfold kernelRun0_A.sl.v657 kernelRun0_A.sl.HS3_8
  rw [View.readCov_cons_toLoadRect]
  rw [r_54_eq, v556_eq]
  all_goals rfl

theorem r_75_eq : kernelRun0_A.sl.r_75 c arg3 harg3 arg4 harg4 arg5 harg5 arg7 arg8 arg9 arg10 x0 x1 x2
    = (accum x0 x1 x2 1 8) := by
  unfold kernelRun0_A.sl.r_75
  erw [(load_v _ harg5 x2 1 7 (off := ![0, 3584, 128]) _ rfl (by decide))]
  rw [r_63_eq, r_67_eq, v657_eq]
  all_goals rfl

theorem r_60_eq : kernelRun0_A.sl.r_60 c arg3 harg3 arg4 harg4 arg7 arg8 x0 x1
    = (rowMax x0 x1 0 8) := by
  unfold kernelRun0_A.sl.r_60
  rw [r_52_eq, v542_eq]
  all_goals rfl

theorem v616_eq : kernelRun0_A.sl.v616 c arg3 harg3 arg4 harg4 arg7 x0 x1
    = (scores x0 x1 0 8) := by
  unfold kernelRun0_A.sl.v616 kernelRun0_A.sl.HS0_10 kernelRun0_A.sl.HS0_9
  rw [View.readCov_cons_of_disjoint, View.readCov_cons_toLoadRect]
  rotate_left; exact slots_disjoint inb_S2x512x512_S1x512x512_1_0_0 inb_S2x512x512_S1x512x512_0_0_0
  erw [(load_k _ harg4 x1 0 8 (off := ![0, 4096, 0]) _ rfl (by decide))]
  rw [(load_q _ harg3 x0 0 (off := ![0, 0, 0]) _ rfl)]
  all_goals rfl

theorem v733_eq : kernelRun0_A.sl.v733 c arg3 harg3 arg4 harg4 arg7 arg8 arg9 x0 x1
    = (expo x0 x1 1 8) := by
  unfold kernelRun0_A.sl.v733 kernelRun0_A.sl.HS2_10
  rw [View.readCov_cons_toLoadRect]
  rw [r_62_eq, v630_eq]
  all_goals rfl

theorem r_82_eq : kernelRun0_A.sl.r_82 c arg3 harg3 arg4 harg4 arg5 harg5 arg7 arg8 arg9 arg10 x0 x1 x2
    = (accum x0 x1 x2 1 9) := by
  unfold kernelRun0_A.sl.r_82
  erw [(load_v _ harg5 x2 1 8 (off := ![0, 4096, 128]) _ rfl (by decide))]
  rw [r_72_eq, r_75_eq, v733_eq]
  all_goals rfl

theorem r_79_eq : kernelRun0_A.sl.r_79 c arg3 harg3 arg4 harg4 arg7 arg8 x0 x1
    = (truncf .bf16 (exp2 (subf (shapeCast S512x512 (scores x0 x1 1 9) shapeCasts_S1x512x512_S512x512) (broadcastTo S512x512 (rowMax x0 x1 1 10) broadcasts_S512x1_S512x512))) bitsLt_bf16_f32) := by
  unfold kernelRun0_A.sl.r_79
  rw [r_71_eq, v705_eq]
  all_goals rfl

theorem r_69_eq : kernelRun0_A.sl.r_69 c arg3 harg3 arg4 harg4 arg7 arg8 x0 x1
    = (rowMax x0 x1 0 9) := by
  unfold kernelRun0_A.sl.r_69
  rw [r_60_eq, v616_eq]
  all_goals rfl

theorem v691_eq : kernelRun0_A.sl.v691 c arg3 harg3 arg4 harg4 arg8 x0 x1
    = (scores x0 x1 0 9) := by
  unfold kernelRun0_A.sl.v691 kernelRun0_A.sl.HS1_10
  rw [View.readCov_cons_of_disjoint, View.readCov_cons_toLoadRect]
  rotate_left; exact slots_disjoint inb_S2x512x512_S1x512x512_1_0_0 inb_S2x512x512_S1x512x512_0_0_0
  erw [(load_k _ harg4 x1 0 9 (off := ![0, 4608, 0]) _ rfl (by decide))]
  rw [(load_q _ harg3 x0 0 (off := ![0, 0, 0]) _ rfl)]
  all_goals rfl

theorem v806_eq : kernelRun0_A.sl.v806 c arg3 harg3 arg4 harg4 arg7 arg8 arg10 x0 x1
    = (expo x0 x1 1 9) := by
  unfold kernelRun0_A.sl.v806 kernelRun0_A.sl.HS3_10
  rw [View.readCov_cons_toLoadRect]
  rw [r_79_eq]
  all_goals rfl

theorem r_92_eq : kernelRun0_A.sl.r_92 c arg3 harg3 arg4 harg4 arg5 harg5 arg7 arg8 arg9 arg10 x0 x1 x2
    = (accum x0 x1 x2 1 10) := by
  unfold kernelRun0_A.sl.r_92
  erw [(load_v _ harg5 x2 1 9 (off := ![0, 4608, 128]) _ rfl (by decide))]
  rw [r_80_eq, r_82_eq, v806_eq]
  all_goals rfl

theorem r_99_eq : kernelRun0_A.sl.r_99 c arg3 harg3 arg4 harg4 arg5 harg5 arg7 arg8 arg9 arg10 x0 x1 x2
    = (mulf (broadcastTo S512x128 (decay x0 x1 1 10) broadcasts_S512x1_S512x128) (accum x0 x1 x2 1 10)) := by
  unfold kernelRun0_A.sl.r_99
  rw [r_90_eq, r_92_eq]
  all_goals rfl

theorem r_87_eq : kernelRun0_A.sl.r_87 c arg3 harg3 arg4 harg4 arg7 x0 x1
    = (shapeCast S512x512 (scores x0 x1 1 10) shapeCasts_S1x512x512_S512x512) := by
  unfold kernelRun0_A.sl.r_87
  rw [v779_eq]
  all_goals rfl

theorem r_76_eq : kernelRun0_A.sl.r_76 c arg3 harg3 arg4 harg4 arg7 arg8 x0 x1
    = (rowMax x0 x1 0 10) := by
  unfold kernelRun0_A.sl.r_76
  rw [r_69_eq, v691_eq]
  all_goals rfl

theorem v765_eq : kernelRun0_A.sl.v765 c arg3 harg3 arg4 harg4 arg7 x0 x1
    = (scores x0 x1 0 10) := by
  unfold kernelRun0_A.sl.v765 kernelRun0_A.sl.HS0_12
  rw [View.readCov_cons_of_disjoint, View.readCov_cons_toLoadRect]
  rotate_left; exact slots_disjoint inb_S2x512x512_S1x512x512_1_0_0 inb_S2x512x512_S1x512x512_0_0_0
  erw [(load_k _ harg4 x1 0 10 (off := ![0, 5120, 0]) _ rfl (by decide))]
  rw [(load_q _ harg3 x0 0 (off := ![0, 0, 0]) _ rfl)]
  all_goals rfl

theorem v882_eq : kernelRun0_A.sl.v882 c arg3 harg3 arg4 harg4 arg7 arg8 arg9 x0 x1
    = (expo x0 x1 1 10) := by
  unfold kernelRun0_A.sl.v882 kernelRun0_A.sl.HS2_12
  rw [View.readCov_cons_toLoadRect]
  rw [r_78_eq, r_87_eq, r_88_eq]
  all_goals rfl

theorem r_100_eq : kernelRun0_A.sl.r_100 c arg3 harg3 arg4 harg4 arg7 arg8 arg9 x0 x1
    = (shapeCast S512x512 (expo x0 x1 1 10) shapeCasts_S1x512x512_S512x512) := by
  unfold kernelRun0_A.sl.r_100
  rw [v882_eq]
  all_goals rfl

theorem r_101_eq : kernelRun0_A.sl.r_101 c arg5 harg5 x2
    = (shapeCast S512x128 (vTile x2 1 10) shapeCasts_S1x512x128_S512x128) := by
  unfold kernelRun0_A.sl.r_101
  erw [(load_v _ harg5 x2 1 10 (off := ![0, 5120, 128]) _ rfl (by decide))]
  all_goals rfl

theorem r_102_eq : kernelRun0_A.sl.r_102 c arg3 harg3 arg4 harg4 arg5 harg5 arg7 arg8 arg9 arg10 x0 x1 x2
    = (accum x0 x1 x2 1 11) := by
  unfold kernelRun0_A.sl.r_102
  rw [r_99_eq, r_100_eq, r_101_eq]
  all_goals rfl

theorem r_109_eq : kernelRun0_A.sl.r_109 c arg3 harg3 arg4 harg4 arg5 harg5 arg7 arg8 arg9 arg10 x0 x1 x2
    = (mulf (broadcastTo S512x128 (decay x0 x1 1 11) broadcasts_S512x1_S512x128) (accum x0 x1 x2 1 11)) := by
  unfold kernelRun0_A.sl.r_109
  rw [r_97_eq, r_102_eq]
  all_goals rfl

theorem r_85_eq : kernelRun0_A.sl.r_85 c arg3 harg3 arg4 harg4 arg7 arg8 x0 x1
    = (rowMax x0 x1 0 11) := by
  unfold kernelRun0_A.sl.r_85
  rw [r_76_eq, v765_eq]
  all_goals rfl

end Cert.Attn

end
-- ==== Proof.Attn.Chain3.lean ====
/- The unrolled trips of the attention region, read in order (part 3): each intermediate array is one of the tiles, chunk
   scores, running maxima, exponentials, decay factors or accumulators of `Block`. -/
module

public import proofs.«01_k».proof.Proof.Attn.Chain2

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v840_eq : kernelRun0_A.sl.v840 c arg3 harg3 arg4 harg4 arg8 x0 x1
    = (scores x0 x1 0 11) := by
  unfold kernelRun0_A.sl.v840 kernelRun0_A.sl.HS1_12
  rw [View.readCov_cons_of_disjoint, View.readCov_cons_toLoadRect]
  rotate_left; exact slots_disjoint inb_S2x512x512_S1x512x512_1_0_0 inb_S2x512x512_S1x512x512_0_0_0
  rw [r_83_eq, r_84_eq, cst_514_eq]
  all_goals rfl

theorem r_94_eq : kernelRun0_A.sl.r_94 c arg3 harg3 arg4 harg4 arg7 arg8 x0 x1
    = (expo x0 x1 0 11) := by
  unfold kernelRun0_A.sl.r_94
  rw [r_85_eq, v840_eq]
  all_goals rfl

theorem v955_eq : kernelRun0_A.sl.v955 c arg3 harg3 arg4 harg4 arg7 arg8 arg10 x0 x1
    = (expo x0 x1 1 11) := by
  unfold kernelRun0_A.sl.v955 kernelRun0_A.sl.HS3_12
  rw [View.readCov_cons_toLoadRect]
  rw [r_89_eq, v854_eq]
  all_goals rfl

theorem r_110_eq : kernelRun0_A.sl.r_110 c arg3 harg3 arg4 harg4 arg7 arg8 arg10 x0 x1
    = (shapeCast S512x512 (expo x0 x1 1 11) shapeCasts_S1x512x512_S512x512) := by
  unfold kernelRun0_A.sl.r_110
  rw [v955_eq]
  all_goals rfl

theorem r_111_eq : kernelRun0_A.sl.r_111 c arg3 harg3 arg4 harg4 arg5 harg5 arg7 arg8 arg9 arg10 x0 x1 x2
    = (accum x0 x1 x2 1 12) := by
  unfold kernelRun0_A.sl.r_111
  erw [(load_v _ harg5 x2 1 11 (off := ![0, 5632, 128]) _ rfl (by decide))]
  rw [r_109_eq, r_110_eq]
  all_goals rfl

theorem r_93_eq : kernelRun0_A.sl.r_93 c arg3 harg3 arg4 harg4 arg7 arg8 x0 x1
    = (rowMax x0 x1 0 12) := by
  unfold kernelRun0_A.sl.r_93
  rw [r_85_eq, v840_eq]
  all_goals rfl

theorem v914_eq : kernelRun0_A.sl.v914 c arg3 harg3 arg4 harg4 arg7 x0 x1
    = (scores x0 x1 0 12) := by
  unfold kernelRun0_A.sl.v914 kernelRun0_A.sl.HS0_14
  rw [View.readCov_cons_of_disjoint, View.readCov_cons_toLoadRect]
  rotate_left; exact slots_disjoint inb_S2x512x512_S1x512x512_1_0_0 inb_S2x512x512_S1x512x512_0_0_0
  erw [(load_k _ harg4 x1 0 12 (off := ![0, 6144, 0]) _ rfl (by decide))]
  rw [(load_q _ harg3 x0 0 (off := ![0, 0, 0]) _ rfl)]
  all_goals rfl

theorem r_104_eq : kernelRun0_A.sl.r_104 c arg3 harg3 arg4 harg4 arg7 arg8 x0 x1
    = (subf (shapeCast S512x512 (scores x0 x1 0 12) shapeCasts_S1x512x512_S512x512) (broadcastTo S512x512 (rowMax x0 x1 0 13) broadcasts_S512x1_S512x512)) := by
  unfold kernelRun0_A.sl.r_104
  rw [r_93_eq, v914_eq]
  all_goals rfl

theorem v1031_eq : kernelRun0_A.sl.v1031 c arg3 harg3 arg4 harg4 arg7 arg8 arg9 x0 x1
    = (expo x0 x1 1 12) := by
  unfold kernelRun0_A.sl.v1031 kernelRun0_A.sl.HS2_14
  rw [View.readCov_cons_toLoadRect]
  rw [r_96_eq, v928_eq]
  all_goals rfl

theorem r_120_eq : kernelRun0_A.sl.r_120 c arg3 harg3 arg4 harg4 arg5 harg5 arg7 arg8 arg9 arg10 x0 x1 x2
    = (accum x0 x1 x2 1 13) := by
  unfold kernelRun0_A.sl.r_120
  erw [(load_v _ harg5 x2 1 12 (off := ![0, 6144, 128]) _ rfl (by decide))]
  rw [r_107_eq, r_111_eq, v1031_eq]
  all_goals rfl

theorem r_103_eq : kernelRun0_A.sl.r_103 c arg3 harg3 arg4 harg4 arg7 arg8 x0 x1
    = (rowMax x0 x1 0 13) := by
  unfold kernelRun0_A.sl.r_103
  rw [r_93_eq, v914_eq]
  all_goals rfl

theorem v989_eq : kernelRun0_A.sl.v989 c arg3 harg3 arg4 harg4 arg8 x0 x1
    = (scores x0 x1 0 13) := by
  unfold kernelRun0_A.sl.v989 kernelRun0_A.sl.HS1_14
  rw [View.readCov_cons_of_disjoint, View.readCov_cons_toLoadRect]
  rotate_left; exact slots_disjoint inb_S2x512x512_S1x512x512_1_0_0 inb_S2x512x512_S1x512x512_0_0_0
  erw [(load_k _ harg4 x1 0 13 (off := ![0, 6656, 0]) _ rfl (by decide))]
  rw [(load_q _ harg3 x0 0 (off := ![0, 0, 0]) _ rfl)]
  all_goals rfl

theorem v1104_eq : kernelRun0_A.sl.v1104 c arg3 harg3 arg4 harg4 arg7 arg8 arg10 x0 x1
    = (expo x0 x1 1 13) := by
  unfold kernelRun0_A.sl.v1104 kernelRun0_A.sl.HS3_14
  rw [View.readCov_cons_toLoadRect]
  rw [r_106_eq, v1003_eq]
  all_goals rfl

theorem r_130_eq : kernelRun0_A.sl.r_130 c arg3 harg3 arg4 harg4 arg5 harg5 arg7 arg8 arg9 arg10 x0 x1 x2
    = (accum x0 x1 x2 1 14) := by
  unfold kernelRun0_A.sl.r_130
  erw [(load_v _ harg5 x2 1 13 (off := ![0, 6656, 128]) _ rfl (by decide))]
  rw [r_115_eq, r_120_eq, v1104_eq]
  all_goals rfl

theorem r_112_eq : kernelRun0_A.sl.r_112 c arg3 harg3 arg4 harg4 arg7 arg8 x0 x1
    = (rowMax x0 x1 0 14) := by
  unfold kernelRun0_A.sl.r_112
  rw [r_103_eq, v989_eq]
  all_goals rfl

theorem v1063_eq : kernelRun0_A.sl.v1063 c arg3 harg3 arg4 harg4 arg7 x0 x1
    = (scores x0 x1 0 14) := by
  unfold kernelRun0_A.sl.v1063 kernelRun0_A.sl.HS0_16
  rw [View.readCov_cons_of_disjoint, View.readCov_cons_toLoadRect]
  rotate_left; exact slots_disjoint inb_S2x512x512_S1x512x512_1_0_0 inb_S2x512x512_S1x512x512_0_0_0
  erw [(load_k _ harg4 x1 0 14 (off := ![0, 7168, 0]) _ rfl (by decide))]
  rw [(load_q _ harg3 x0 0 (off := ![0, 0, 0]) _ rfl)]
  all_goals rfl

theorem v1153_eq : kernelRun0_A.sl.v1153 c arg3 harg3 arg4 harg4 arg7 arg8 arg9 x0 x1
    = (expo x0 x1 1 14) := by
  unfold kernelRun0_A.sl.v1153 kernelRun0_A.sl.HS2_16
  rw [View.readCov_cons_toLoadRect]
  rw [r_114_eq, v1077_eq]
  all_goals rfl

theorem r_135_eq : kernelRun0_A.sl.r_135 c arg3 harg3 arg4 harg4 arg5 harg5 arg7 arg8 arg9 arg10 x0 x1 x2
    = (accum x0 x1 x2 1 15) := by
  unfold kernelRun0_A.sl.r_135
  rw [r_126_eq, r_130_eq, v1153_eq, (load_v _ harg5 x2 1 14 (off := ![0, 7168, 128]) _ rfl (by decide))]
  all_goals rfl

theorem r_132_eq : kernelRun0_A.sl.r_132 c arg3 harg3 arg4 harg4 arg8 x0 x1
    = (shapeCast S512x512 (scores x0 x1 1 15) shapeCasts_S1x512x512_S512x512) := by
  unfold kernelRun0_A.sl.r_132
  rw [v1127_eq]
  all_goals rfl

theorem r_123_eq : kernelRun0_A.sl.r_123 c arg3 harg3 arg4 harg4 arg7 arg8 x0 x1
    = (rowMax x0 x1 0 15) := by
  unfold kernelRun0_A.sl.r_123
  rw [r_112_eq, v1063_eq]
  all_goals rfl

theorem v1113_eq : kernelRun0_A.sl.v1113 c arg3 harg3 arg4 harg4 arg8 x0 x1
    = (scores x0 x1 0 15) := by
  unfold kernelRun0_A.sl.v1113 kernelRun0_A.sl.HS1_16
  rw [View.readCov_cons_of_disjoint, View.readCov_cons_toLoadRect]
  rotate_left; exact slots_disjoint inb_S2x512x512_S1x512x512_1_0_0 inb_S2x512x512_S1x512x512_0_0_0
  erw [(load_k _ harg4 x1 0 15 (off := ![0, 7680, 0]) _ rfl (by decide))]
  rw [(load_q _ harg3 x0 0 (off := ![0, 0, 0]) _ rfl)]
  all_goals rfl

theorem v1173_eq : kernelRun0_A.sl.v1173 c arg3 harg3 arg4 harg4 arg7 arg8 arg10 x0 x1
    = (expo x0 x1 1 15) := by
  unfold kernelRun0_A.sl.v1173 kernelRun0_A.sl.HS3_16
  rw [View.readCov_cons_toLoadRect]
  rw [r_132_eq, r_133_eq]
  all_goals rfl

theorem r_139_eq : kernelRun0_A.sl.r_139 c arg3 harg3 arg4 harg4 arg5 harg5 arg7 arg8 arg9 arg10 x0 x1 x2
    = (accum x0 x1 x2 1 16) := by
  unfold kernelRun0_A.sl.r_139
  rw [r_134_eq, r_135_eq, v1173_eq, (load_v _ harg5 x2 1 15 (off := ![0, 7680, 128]) _ rfl (by decide))]
  all_goals rfl

theorem v1181_eq : kernelRun0_A.sl.v1181
    = (iota Kind.tc S1x128 32 [1] iota_S1x128_d1_w32) := by
  unfold kernelRun0_A.sl.v1181
  all_goals rfl

theorem r_124_eq : kernelRun0_A.sl.r_124 c arg3 harg3 arg4 harg4 arg7 arg8 x0 x1
    = (decay x0 x1 0 14) := by
  unfold kernelRun0_A.sl.r_124
  rw [r_112_eq, v1063_eq]
  all_goals rfl

theorem r_113_eq : kernelRun0_A.sl.r_113 c arg3 harg3 arg4 harg4 arg7 arg8 x0 x1
    = (decay x0 x1 0 13) := by
  unfold kernelRun0_A.sl.r_113
  rw [r_103_eq, v989_eq]
  all_goals rfl

theorem r_105_eq : kernelRun0_A.sl.r_105 c arg3 harg3 arg4 harg4 arg7 arg8 x0 x1
    = (decay x0 x1 0 12) := by
  unfold kernelRun0_A.sl.r_105
  rw [r_93_eq, r_103_eq]
  all_goals rfl

theorem r_95_eq : kernelRun0_A.sl.r_95 c arg3 harg3 arg4 harg4 arg7 arg8 x0 x1
    = (decay x0 x1 0 11) := by
  unfold kernelRun0_A.sl.r_95
  rw [r_85_eq, r_93_eq]
  all_goals rfl

theorem r_86_eq : kernelRun0_A.sl.r_86 c arg3 harg3 arg4 harg4 arg7 arg8 x0 x1
    = (decay x0 x1 0 10) := by
  unfold kernelRun0_A.sl.r_86
  rw [r_76_eq, v765_eq]
  all_goals rfl

theorem r_77_eq : kernelRun0_A.sl.r_77 c arg3 harg3 arg4 harg4 arg7 arg8 x0 x1
    = (decay x0 x1 0 9) := by
  unfold kernelRun0_A.sl.r_77
  rw [r_69_eq, v691_eq]
  all_goals rfl

theorem r_70_eq : kernelRun0_A.sl.r_70 c arg3 harg3 arg4 harg4 arg7 arg8 x0 x1
    = (decay x0 x1 0 8) := by
  unfold kernelRun0_A.sl.r_70
  rw [r_60_eq, v616_eq]
  all_goals rfl

theorem r_61_eq : kernelRun0_A.sl.r_61 c arg3 harg3 arg4 harg4 arg7 arg8 x0 x1
    = (decay x0 x1 0 7) := by
  unfold kernelRun0_A.sl.r_61
  rw [r_52_eq, v542_eq]
  all_goals rfl

theorem r_53_eq : kernelRun0_A.sl.r_53 c arg3 harg3 arg4 harg4 arg7 arg8 x0 x1
    = (decay x0 x1 0 6) := by
  unfold kernelRun0_A.sl.r_53
  rw [r_41_eq, r_51_eq]
  all_goals rfl

theorem r_43_eq : kernelRun0_A.sl.r_43 c arg3 harg3 arg4 harg4 arg7 arg8 x0 x1
    = (decay x0 x1 0 5) := by
  unfold kernelRun0_A.sl.r_43
  rw [r_34_eq, r_41_eq]
  all_goals rfl

theorem r_35_eq : kernelRun0_A.sl.r_35 c arg3 harg3 arg4 harg4 arg7 arg8 x0 x1
    = (decay x0 x1 0 4) := by
  unfold kernelRun0_A.sl.r_35
  rw [r_26_eq, v318_eq]
  all_goals rfl

theorem r_27_eq : kernelRun0_A.sl.r_27 c arg3 harg3 arg4 harg4 arg7 arg8 x0 x1
    = (decay x0 x1 0 3) := by
  unfold kernelRun0_A.sl.r_27
  rw [r_18_eq, v244_eq]
  all_goals rfl

theorem r_19_eq : kernelRun0_A.sl.r_19 c arg3 harg3 arg4 harg4 arg7 arg8 x0 x1
    = (decay x0 x1 0 2) := by
  unfold kernelRun0_A.sl.r_19
  rw [r_9_eq, v169_eq]
  all_goals rfl

theorem r_10_eq : kernelRun0_A.sl.r_10 c arg3 harg3 arg4 harg4 arg7 arg8 x0 x1
    = (decay x0 x1 0 1) := by
  unfold kernelRun0_A.sl.r_10
  rw [r_2_eq, v95_eq]
  all_goals rfl

theorem r_3_eq : kernelRun0_A.sl.r_3 c arg3 harg3 arg4 harg4 arg7 x0 x1
    = (decay x0 x1 0 0) := by
  unfold kernelRun0_A.sl.r_3
  rw [v42_eq]
  all_goals rfl

theorem r_13_eq : kernelRun0_A.sl.r_13 c arg3 harg3 arg4 harg4 arg7 x0 x1
    = (mulf (broadcastTo S512x128 (decay x0 x1 0 0) broadcasts_S512x1_S512x128) (accum x0 x1 x2 0 0)) := by
  unfold kernelRun0_A.sl.r_13
  rw [r_3_eq]
  all_goals rfl

theorem v126_eq : kernelRun0_A.sl.v126 c arg3 harg3 arg4 harg4 arg7 arg9 x0 x1
    = (expo x0 x1 0 0) := by
  unfold kernelRun0_A.sl.v126 kernelRun0_A.sl.HS2_2
  rw [View.readCov_cons_of_disjoint, View.readCov_cons_toLoadRect]
  rotate_left; exact slots_disjoint inb_S2x512x512_S1x512x512_1_0_0 inb_S2x512x512_S1x512x512_0_0_0
  rw [v42_eq]
  all_goals rfl

theorem r_14_eq : kernelRun0_A.sl.r_14 c arg3 harg3 arg4 harg4 arg7 arg9 x0 x1
    = (shapeCast S512x512 (expo x0 x1 0 0) shapeCasts_S1x512x512_S512x512) := by
  unfold kernelRun0_A.sl.r_14
  rw [v126_eq]
  all_goals rfl

theorem r_15_eq : kernelRun0_A.sl.r_15 c arg3 harg3 arg4 harg4 arg5 harg5 arg7 arg9 x0 x1 x2
    = (accum x0 x1 x2 0 1) := by
  unfold kernelRun0_A.sl.r_15
  erw [(load_v _ harg5 x2 0 0 (off := ![0, 0, 0]) _ rfl (by decide))]
  rw [r_13_eq, r_14_eq]
  all_goals rfl

theorem r_22_eq : kernelRun0_A.sl.r_22 c arg3 harg3 arg4 harg4 arg5 harg5 arg7 arg8 arg9 x0 x1 x2
    = (mulf (broadcastTo S512x128 (decay x0 x1 0 1) broadcasts_S512x1_S512x128) (accum x0 x1 x2 0 1)) := by
  unfold kernelRun0_A.sl.r_22
  rw [r_10_eq, r_15_eq]
  all_goals rfl

theorem v199_eq : kernelRun0_A.sl.v199 c arg3 harg3 arg4 harg4 arg7 arg8 arg10 x0 x1
    = (expo x0 x1 0 1) := by
  unfold kernelRun0_A.sl.v199 kernelRun0_A.sl.HS3_2
  rw [View.readCov_cons_of_disjoint, View.readCov_cons_toLoadRect]
  rotate_left; exact slots_disjoint inb_S2x512x512_S1x512x512_1_0_0 inb_S2x512x512_S1x512x512_0_0_0
  rw [r_2_eq, v95_eq]
  all_goals rfl

theorem r_23_eq : kernelRun0_A.sl.r_23 c arg3 harg3 arg4 harg4 arg5 harg5 arg7 arg8 arg9 arg10 x0 x1 x2
    = (accum x0 x1 x2 0 2) := by
  unfold kernelRun0_A.sl.r_23
  erw [(load_v _ harg5 x2 0 1 (off := ![0, 512, 0]) _ rfl (by decide))]
  rw [r_22_eq, v199_eq]
  all_goals rfl

theorem v275_eq : kernelRun0_A.sl.v275 c arg3 harg3 arg4 harg4 arg7 arg8 arg9 x0 x1
    = (expo x0 x1 0 2) := by
  unfold kernelRun0_A.sl.v275 kernelRun0_A.sl.HS2_4
  rw [View.readCov_cons_of_disjoint, View.readCov_cons_toLoadRect]
  rotate_left; exact slots_disjoint inb_S2x512x512_S1x512x512_1_0_0 inb_S2x512x512_S1x512x512_0_0_0
  rw [r_9_eq, v169_eq]
  all_goals rfl

theorem r_31_eq : kernelRun0_A.sl.r_31 c arg3 harg3 arg4 harg4 arg5 harg5 arg7 arg8 arg9 arg10 x0 x1 x2
    = (accum x0 x1 x2 0 3) := by
  unfold kernelRun0_A.sl.r_31
  erw [(load_v _ harg5 x2 0 2 (off := ![0, 1024, 0]) _ rfl (by decide))]
  rw [r_19_eq, r_23_eq, v275_eq]
  all_goals rfl

theorem v348_eq : kernelRun0_A.sl.v348 c arg3 harg3 arg4 harg4 arg7 arg8 arg10 x0 x1
    = (expo x0 x1 0 3) := by
  unfold kernelRun0_A.sl.v348 kernelRun0_A.sl.HS3_4
  rw [View.readCov_cons_of_disjoint, View.readCov_cons_toLoadRect]
  rotate_left; exact slots_disjoint inb_S2x512x512_S1x512x512_1_0_0 inb_S2x512x512_S1x512x512_0_0_0
  rw [r_18_eq, v244_eq]
  all_goals rfl

theorem r_39_eq : kernelRun0_A.sl.r_39 c arg3 harg3 arg4 harg4 arg5 harg5 arg7 arg8 arg9 arg10 x0 x1 x2
    = (accum x0 x1 x2 0 4) := by
  unfold kernelRun0_A.sl.r_39
  erw [(load_v _ harg5 x2 0 3 (off := ![0, 1536, 0]) _ rfl (by decide))]
  rw [r_27_eq, r_31_eq, v348_eq]
  all_goals rfl

theorem v424_eq : kernelRun0_A.sl.v424 c arg3 harg3 arg4 harg4 arg7 arg8 arg9 x0 x1
    = (expo x0 x1 0 4) := by
  unfold kernelRun0_A.sl.v424 kernelRun0_A.sl.HS2_6
  rw [View.readCov_cons_of_disjoint, View.readCov_cons_toLoadRect]
  rotate_left; exact slots_disjoint inb_S2x512x512_S1x512x512_1_0_0 inb_S2x512x512_S1x512x512_0_0_0
  rw [r_26_eq, v318_eq]
  all_goals rfl

theorem r_46_eq : kernelRun0_A.sl.r_46 c arg3 harg3 arg4 harg4 arg5 harg5 arg7 arg8 arg9 arg10 x0 x1 x2
    = (accum x0 x1 x2 0 5) := by
  unfold kernelRun0_A.sl.r_46
  erw [(load_v _ harg5 x2 0 4 (off := ![0, 2048, 0]) _ rfl (by decide))]
  rw [r_35_eq, r_39_eq, v424_eq]
  all_goals rfl

theorem v497_eq : kernelRun0_A.sl.v497 c arg3 harg3 arg4 harg4 arg7 arg8 arg10 x0 x1
    = (expo x0 x1 0 5) := by
  unfold kernelRun0_A.sl.v497 kernelRun0_A.sl.HS3_6
  rw [View.readCov_cons_of_disjoint, View.readCov_cons_toLoadRect]
  rotate_left; exact slots_disjoint inb_S2x512x512_S1x512x512_1_0_0 inb_S2x512x512_S1x512x512_0_0_0
  rw [r_42_eq]
  all_goals rfl

theorem r_56_eq : kernelRun0_A.sl.r_56 c arg3 harg3 arg4 harg4 arg5 harg5 arg7 arg8 arg9 arg10 x0 x1 x2
    = (accum x0 x1 x2 0 6) := by
  unfold kernelRun0_A.sl.r_56
  erw [(load_v _ harg5 x2 0 5 (off := ![0, 2560, 0]) _ rfl (by decide))]
  rw [r_43_eq, r_46_eq, v497_eq]
  all_goals rfl

theorem r_64_eq : kernelRun0_A.sl.r_64 c arg3 harg3 arg4 harg4 arg5 harg5 arg7 arg8 arg9 arg10 x0 x1 x2
    = (mulf (broadcastTo S512x128 (decay x0 x1 0 6) broadcasts_S512x1_S512x128) (accum x0 x1 x2 0 6)) := by
  unfold kernelRun0_A.sl.r_64
  rw [r_53_eq, r_56_eq]
  all_goals rfl

theorem v573_eq : kernelRun0_A.sl.v573 c arg3 harg3 arg4 harg4 arg7 arg8 arg9 x0 x1
    = (expo x0 x1 0 6) := by
  unfold kernelRun0_A.sl.v573 kernelRun0_A.sl.HS2_8
  rw [View.readCov_cons_of_disjoint, View.readCov_cons_toLoadRect]
  rotate_left; exact slots_disjoint inb_S2x512x512_S1x512x512_1_0_0 inb_S2x512x512_S1x512x512_0_0_0
  rw [r_41_eq, r_50_eq, r_51_eq]
  all_goals rfl

theorem r_65_eq : kernelRun0_A.sl.r_65 c arg3 harg3 arg4 harg4 arg7 arg8 arg9 x0 x1
    = (shapeCast S512x512 (expo x0 x1 0 6) shapeCasts_S1x512x512_S512x512) := by
  unfold kernelRun0_A.sl.r_65
  rw [v573_eq]
  all_goals rfl

theorem r_66_eq : kernelRun0_A.sl.r_66 c arg3 harg3 arg4 harg4 arg5 harg5 arg7 arg8 arg9 arg10 x0 x1 x2
    = (accum x0 x1 x2 0 7) := by
  unfold kernelRun0_A.sl.r_66
  erw [(load_v _ harg5 x2 0 6 (off := ![0, 3072, 0]) _ rfl (by decide))]
  rw [r_64_eq, r_65_eq]
  all_goals rfl

theorem r_73_eq : kernelRun0_A.sl.r_73 c arg3 harg3 arg4 harg4 arg5 harg5 arg7 arg8 arg9 arg10 x0 x1 x2
    = (mulf (broadcastTo S512x128 (decay x0 x1 0 7) broadcasts_S512x1_S512x128) (accum x0 x1 x2 0 7)) := by
  unfold kernelRun0_A.sl.r_73
  rw [r_61_eq, r_66_eq]
  all_goals rfl

theorem v646_eq : kernelRun0_A.sl.v646 c arg3 harg3 arg4 harg4 arg7 arg8 arg10 x0 x1
    = (expo x0 x1 0 7) := by
  unfold kernelRun0_A.sl.v646 kernelRun0_A.sl.HS3_8
  rw [View.readCov_cons_of_disjoint, View.readCov_cons_toLoadRect]
  rotate_left; exact slots_disjoint inb_S2x512x512_S1x512x512_1_0_0 inb_S2x512x512_S1x512x512_0_0_0
  rw [r_52_eq, v542_eq]
  all_goals rfl

theorem r_74_eq : kernelRun0_A.sl.r_74 c arg3 harg3 arg4 harg4 arg5 harg5 arg7 arg8 arg9 arg10 x0 x1 x2
    = (accum x0 x1 x2 0 8) := by
  unfold kernelRun0_A.sl.r_74
  erw [(load_v _ harg5 x2 0 7 (off := ![0, 3584, 0]) _ rfl (by decide))]
  rw [r_73_eq, v646_eq]
  all_goals rfl

end Cert.Attn

end
-- ==== Proof.Attn.Chain4.lean ====
/- The unrolled trips of the attention region, read in order (part 4): each intermediate array is one of the tiles, chunk
   scores, running maxima, exponentials, decay factors or accumulators of `Block`. -/
module

public import proofs.«01_k».proof.Proof.Attn.Chain3

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v722_eq : kernelRun0_A.sl.v722 c arg3 harg3 arg4 harg4 arg7 arg8 arg9 x0 x1
    = (expo x0 x1 0 8) := by
  unfold kernelRun0_A.sl.v722 kernelRun0_A.sl.HS2_10
  rw [View.readCov_cons_of_disjoint, View.readCov_cons_toLoadRect]
  rotate_left; exact slots_disjoint inb_S2x512x512_S1x512x512_1_0_0 inb_S2x512x512_S1x512x512_0_0_0
  rw [r_60_eq, v616_eq]
  all_goals rfl

theorem r_81_eq : kernelRun0_A.sl.r_81 c arg3 harg3 arg4 harg4 arg5 harg5 arg7 arg8 arg9 arg10 x0 x1 x2
    = (accum x0 x1 x2 0 9) := by
  unfold kernelRun0_A.sl.r_81
  erw [(load_v _ harg5 x2 0 8 (off := ![0, 4096, 0]) _ rfl (by decide))]
  rw [r_70_eq, r_74_eq, v722_eq]
  all_goals rfl

theorem v795_eq : kernelRun0_A.sl.v795 c arg3 harg3 arg4 harg4 arg7 arg8 arg10 x0 x1
    = (expo x0 x1 0 9) := by
  unfold kernelRun0_A.sl.v795 kernelRun0_A.sl.HS3_10
  rw [View.readCov_cons_of_disjoint, View.readCov_cons_toLoadRect]
  rotate_left; exact slots_disjoint inb_S2x512x512_S1x512x512_1_0_0 inb_S2x512x512_S1x512x512_0_0_0
  rw [r_69_eq, v691_eq]
  all_goals rfl

theorem r_91_eq : kernelRun0_A.sl.r_91 c arg3 harg3 arg4 harg4 arg5 harg5 arg7 arg8 arg9 arg10 x0 x1 x2
    = (accum x0 x1 x2 0 10) := by
  unfold kernelRun0_A.sl.r_91
  erw [(load_v _ harg5 x2 0 9 (off := ![0, 4608, 0]) _ rfl (by decide))]
  rw [r_77_eq, r_81_eq, v795_eq]
  all_goals rfl

theorem v871_eq : kernelRun0_A.sl.v871 c arg3 harg3 arg4 harg4 arg7 arg8 arg9 x0 x1
    = (expo x0 x1 0 10) := by
  unfold kernelRun0_A.sl.v871 kernelRun0_A.sl.HS2_12
  rw [View.readCov_cons_of_disjoint, View.readCov_cons_toLoadRect]
  rotate_left; exact slots_disjoint inb_S2x512x512_S1x512x512_1_0_0 inb_S2x512x512_S1x512x512_0_0_0
  rw [r_76_eq, v765_eq]
  all_goals rfl

theorem r_98_eq : kernelRun0_A.sl.r_98 c arg3 harg3 arg4 harg4 arg5 harg5 arg7 arg8 arg9 arg10 x0 x1 x2
    = (accum x0 x1 x2 0 11) := by
  unfold kernelRun0_A.sl.r_98
  erw [(load_v _ harg5 x2 0 10 (off := ![0, 5120, 0]) _ rfl (by decide))]
  rw [r_86_eq, r_91_eq, v871_eq]
  all_goals rfl

theorem v944_eq : kernelRun0_A.sl.v944 c arg3 harg3 arg4 harg4 arg7 arg8 arg10 x0 x1
    = (expo x0 x1 0 11) := by
  unfold kernelRun0_A.sl.v944 kernelRun0_A.sl.HS3_12
  rw [View.readCov_cons_of_disjoint, View.readCov_cons_toLoadRect]
  rotate_left; exact slots_disjoint inb_S2x512x512_S1x512x512_1_0_0 inb_S2x512x512_S1x512x512_0_0_0
  rw [r_94_eq]
  all_goals rfl

theorem r_108_eq : kernelRun0_A.sl.r_108 c arg3 harg3 arg4 harg4 arg5 harg5 arg7 arg8 arg9 arg10 x0 x1 x2
    = (accum x0 x1 x2 0 12) := by
  unfold kernelRun0_A.sl.r_108
  erw [(load_v _ harg5 x2 0 11 (off := ![0, 5632, 0]) _ rfl (by decide))]
  rw [r_95_eq, r_98_eq, v944_eq]
  all_goals rfl

theorem r_116_eq : kernelRun0_A.sl.r_116 c arg3 harg3 arg4 harg4 arg5 harg5 arg7 arg8 arg9 arg10 x0 x1 x2
    = (mulf (broadcastTo S512x128 (decay x0 x1 0 12) broadcasts_S512x1_S512x128) (accum x0 x1 x2 0 12)) := by
  unfold kernelRun0_A.sl.r_116
  rw [r_105_eq, r_108_eq]
  all_goals rfl

theorem v1020_eq : kernelRun0_A.sl.v1020 c arg3 harg3 arg4 harg4 arg7 arg8 arg9 x0 x1
    = (expo x0 x1 0 12) := by
  unfold kernelRun0_A.sl.v1020 kernelRun0_A.sl.HS2_14
  rw [View.readCov_cons_of_disjoint, View.readCov_cons_toLoadRect]
  rotate_left; exact slots_disjoint inb_S2x512x512_S1x512x512_1_0_0 inb_S2x512x512_S1x512x512_0_0_0
  rw [r_104_eq]
  all_goals rfl

theorem r_117_eq : kernelRun0_A.sl.r_117 c arg3 harg3 arg4 harg4 arg7 arg8 arg9 x0 x1
    = (shapeCast S512x512 (expo x0 x1 0 12) shapeCasts_S1x512x512_S512x512) := by
  unfold kernelRun0_A.sl.r_117
  rw [v1020_eq]
  all_goals rfl

theorem r_118_eq : kernelRun0_A.sl.r_118 c arg5 harg5 x2
    = (vTile x2 0 12) := by
  unfold kernelRun0_A.sl.r_118
  erw [(load_v _ harg5 x2 0 12 (off := ![0, 6144, 0]) _ rfl (by decide))]
  all_goals rfl

theorem r_119_eq : kernelRun0_A.sl.r_119 c arg3 harg3 arg4 harg4 arg5 harg5 arg7 arg8 arg9 arg10 x0 x1 x2
    = (accum x0 x1 x2 0 13) := by
  unfold kernelRun0_A.sl.r_119
  rw [r_116_eq, r_117_eq, r_118_eq]
  all_goals rfl

theorem r_127_eq : kernelRun0_A.sl.r_127 c arg3 harg3 arg4 harg4 arg5 harg5 arg7 arg8 arg9 arg10 x0 x1 x2
    = (mulf (broadcastTo S512x128 (decay x0 x1 0 13) broadcasts_S512x1_S512x128) (accum x0 x1 x2 0 13)) := by
  unfold kernelRun0_A.sl.r_127
  rw [r_113_eq, r_119_eq]
  all_goals rfl

theorem v1093_eq : kernelRun0_A.sl.v1093 c arg3 harg3 arg4 harg4 arg7 arg8 arg10 x0 x1
    = (expo x0 x1 0 13) := by
  unfold kernelRun0_A.sl.v1093 kernelRun0_A.sl.HS3_14
  rw [View.readCov_cons_of_disjoint, View.readCov_cons_toLoadRect]
  rotate_left; exact slots_disjoint inb_S2x512x512_S1x512x512_1_0_0 inb_S2x512x512_S1x512x512_0_0_0
  rw [r_103_eq, v989_eq]
  all_goals rfl

theorem r_128_eq : kernelRun0_A.sl.r_128 c arg3 harg3 arg4 harg4 arg7 arg8 arg10 x0 x1
    = (shapeCast S512x512 (expo x0 x1 0 13) shapeCasts_S1x512x512_S512x512) := by
  unfold kernelRun0_A.sl.r_128
  rw [v1093_eq]
  all_goals rfl

theorem r_129_eq : kernelRun0_A.sl.r_129 c arg3 harg3 arg4 harg4 arg5 harg5 arg7 arg8 arg9 arg10 x0 x1 x2
    = (accum x0 x1 x2 0 14) := by
  unfold kernelRun0_A.sl.r_129
  erw [(load_v _ harg5 x2 0 13 (off := ![0, 6656, 0]) _ rfl (by decide))]
  rw [r_127_eq, r_128_eq]
  all_goals rfl

theorem r_131_eq : kernelRun0_A.sl.r_131 c arg3 harg3 arg4 harg4 arg7 arg8 x0 x1
    = (decay x0 x1 0 15) := by
  unfold kernelRun0_A.sl.r_131
  rw [r_123_eq, v1113_eq]
  all_goals rfl

theorem v1143_eq : kernelRun0_A.sl.v1143 c arg3 harg3 arg4 harg4 arg7 arg8 arg9 x0 x1
    = (expo x0 x1 0 14) := by
  unfold kernelRun0_A.sl.v1143 kernelRun0_A.sl.HS2_16
  rw [View.readCov_cons_of_disjoint, View.readCov_cons_toLoadRect]
  rotate_left; exact slots_disjoint inb_S2x512x512_S1x512x512_1_0_0 inb_S2x512x512_S1x512x512_0_0_0
  rw [r_112_eq, v1063_eq]
  all_goals rfl

theorem r_136_eq : kernelRun0_A.sl.r_136 c arg3 harg3 arg4 harg4 arg5 harg5 arg7 arg8 arg9 arg10 x0 x1 x2
    = (mulf (broadcastTo S512x128 (decay x0 x1 0 15) broadcasts_S512x1_S512x128) (accum x0 x1 x2 0 15)) := by
  unfold kernelRun0_A.sl.r_136
  rw [r_124_eq, r_129_eq, r_131_eq, v1143_eq, (load_v _ harg5 x2 0 14 (off := ![0, 7168, 0]) _ rfl (by decide))]
  all_goals rfl

theorem v1163_eq : kernelRun0_A.sl.v1163 c arg3 harg3 arg4 harg4 arg7 arg8 arg10 x0 x1
    = (expo x0 x1 0 15) := by
  unfold kernelRun0_A.sl.v1163 kernelRun0_A.sl.HS3_16
  rw [View.readCov_cons_of_disjoint, View.readCov_cons_toLoadRect]
  rotate_left; exact slots_disjoint inb_S2x512x512_S1x512x512_1_0_0 inb_S2x512x512_S1x512x512_0_0_0
  rw [r_123_eq, v1113_eq]
  all_goals rfl

theorem r_137_eq : kernelRun0_A.sl.r_137 c arg3 harg3 arg4 harg4 arg7 arg8 arg10 x0 x1
    = (shapeCast S512x512 (expo x0 x1 0 15) shapeCasts_S1x512x512_S512x512) := by
  unfold kernelRun0_A.sl.r_137
  rw [v1163_eq]
  all_goals rfl

theorem r_138_eq : kernelRun0_A.sl.r_138 c arg5 harg5 x2
    = (vTile x2 0 15) := by
  unfold kernelRun0_A.sl.r_138
  rw [(load_v _ harg5 x2 0 15 (off := ![0, 7680, 0]) _ rfl (by decide))]
  all_goals rfl

theorem r_140_eq : kernelRun0_A.sl.r_140 c arg3 harg3 arg4 harg4 arg5 harg5 arg7 arg8 arg9 arg10 x0 x1 x2
    = (divf (accum x0 x1 x2 0 16) (broadcastTo S512x128 (extractStridedSlice S512x1 ![0, 64] (accum x0 x1 x2 0 16) slices_S512x128_o0_64_S512x1) broadcasts_S512x1_S512x128)) := by
  unfold kernelRun0_A.sl.r_140
  rw [r_136_eq, r_137_eq, r_138_eq]
  all_goals rfl

theorem r_141_eq : kernelRun0_A.sl.r_141 c arg3 harg3 arg4 harg4 arg5 harg5 arg7 arg8 arg9 arg10 x0 x1 x2
    = (extractStridedSlice S512x1 ![0, 64] (accum x0 x1 x2 1 16) slices_S512x128_o0_64_S512x1) := by
  unfold kernelRun0_A.sl.r_141
  rw [r_134_eq, r_135_eq, v1173_eq, (load_v _ harg5 x2 1 15 (off := ![0, 7680, 128]) _ rfl (by decide))]
  all_goals rfl

end Cert.Attn

end
-- ==== Proof.Attn.Region.lean ====
/- What one step of the attention region stores: `Block`'s block of its query, key and value windows. -/
module

public import proofs.«01_k».proof.Proof.Attn.Chain4

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

theorem out_eq (c : Dev nD) (i : grid0.Coords) (arg3 : Memref sig .tc .vmem S1x512x256 .bf16) (harg3 : arg3.IsWhole)
    (arg4 : Memref sig .tc .vmem S1x8192x256 .bf16) (harg4 : arg4.IsWhole) (arg5 : Memref sig .tc .vmem S1x8192x256 .bf16)
    (harg5 : arg5.IsWhole) (arg6 : Memref sig .tc .vmem S1x512x128 .bf16) (harg6 : arg6.IsWhole)
    (arg7 : Memref sig .tc .vmem S2x512x512 .f32) (harg7 : arg7.IsWhole) (arg8 : Memref sig .tc .vmem S2x512x512 .f32)
    (harg8 : arg8.IsWhole) (arg9 : Memref sig .tc .vmem S2x512x512 .bf16) (harg9 : arg9.IsWhole)
    (arg10 : Memref sig .tc .vmem S2x512x512 .bf16) (harg10 : arg10.IsWhole)
    (x0 : Vec F S1x512x256 .bf16) (x1 : Vec F S1x8192x256 .bf16) (x2 : Vec F S1x8192x256 .bf16) :
    out0_A_3 c i arg3 harg3 arg4 harg4 arg5 harg5 arg6 harg6 arg7 harg7 arg8 harg8 arg9 harg9 arg10 harg10 x0 x1 x2
      = blockOut x0 x1 x2 := by
  unfold out0_A_3
  rw [View.read_writes_eq_canon _ _ _ (cover0_A_3 c i arg3 harg3 arg4 harg4 arg5 harg5 arg6 harg6 arg7 harg7 arg8 harg8 arg9 harg9 arg10 harg10 x0 x1 x2)]
  unfold kernelRun0_A
  dsimp only
  rw [r_139_eq, r_140_eq, r_141_eq, v1181_eq, View.canon_unit_zero (by funext a; fin_cases a <;> rfl)]
  rfl

end Cert.Attn

end
-- ==== Proof.Attn.Layout.lean ====
/- The arrays the attention region finds: the host's padding, reshaping and scaling of the queries, keys and values, read at
   an index (batch, position, head, lane). -/
module

public import proofs.«01_k».proof.Proof.Gen.KernelIdeal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The scale the host multiplies the queries by. -/
def qscale : EReal := Ideal.div (Ideal.ofBits .f32 0x3DD105EC#32) (Ideal.log (Ideal.ofBits .f32 0x40000000#32))

/-- A reshape of (batch, position, head, lane) to (batch, position, head · 128 + lane). -/
theorem merge_heads {α : Type} (x : S4x8192x8x128.Idx → α) (h : S4x8192x8x128.ShapeCasts S4x8192x1024)
    (b : Fin 4) (s : Fin 8192) (e : Fin 8) (d : Fin 128) (k : Fin 1024) (hk : k.val = e.val * 128 + d.val) :
    shapeCast S4x8192x1024 x h (ix3 b s k) = x (ix4 b s e d) := by
  refine shapeCast_apply x h _ _ ?_
  rw [Shape.rowMajor_val_three, Shape.rowMajor_val_four]
  show ((b.val * 8192 + s.val) * 8 + e.val) * 128 + d.val = (b.val * 8192 + s.val) * 1024 + k.val
  omega

/-- A lane padding of one head's vector by `z`. -/
theorem pad_lane {α : Type} {n hi t : Nat} (x : (⟨4, ![4, 8192, 8, n]⟩ : Shape).Idx → α) {u : Shape} (z : u.Idx → α)
    (h : (⟨4, ![4, 8192, 8, n]⟩ : Shape).Pads (![0, 0, 0, 0] : Fin 4 → Nat) ![0, 0, 0, hi] ![0, 0, 0, 0] ⟨4, ![4, 8192, 8, t]⟩)
    (hu : 0 < u.numel) (b : Fin 4) (s : Fin 8192) (e : Fin 8) (d : Fin t) :
    pad ⟨4, ![4, 8192, 8, t]⟩ ![0, 0, 0, 0] ![0, 0, 0, hi] ![0, 0, 0, 0] x z h hu (ix4 b s e d)
      = if hd : d.val < n then x (ix4 b s e ⟨d.val, hd⟩) else z (Shape.Idx.first hu) := by
  split_ifs with hd
  · refine pad_apply_of_inside _ _ _ x z h hu _ _ fun a => ?_
    match a with
    | ⟨0, _⟩ => show b.val = 0 + b.val * (0 + 1); omega
    | ⟨1, _⟩ => show s.val = 0 + s.val * (0 + 1); omega
    | ⟨2, _⟩ => show e.val = 0 + e.val * (0 + 1); omega
    | ⟨3, _⟩ => show d.val = 0 + d.val * (0 + 1); omega
  · refine pad_apply_of_not_inside _ _ _ x z h hu _ 3 fun hin => hd ?_
    have : (d.val - 0) / (0 + 1) < n := hin.2.2
    simpa using this

/-- The queries as the region finds them. -/
def qArr (q : FVec Ideal S4x8192x8x96 .f32) : FVec Ideal S4x8192x1024 .bf16 :=
  truncf .bf16 (mulf (shapeCast S4x8192x1024 (pad S4x8192x8x128 ![0, 0, 0, 0] ![0, 0, 0, 32] ![0, 0, 0, 0] q (sitofp .f32 (constantI S_ 32 0#32)) pads_S4x8192x8x96_S4x8192x8x128_000_000_000_0320 h_S_) shapeCasts_S4x8192x8x128_S4x8192x1024)
    (broadcastInDim S4x8192x1024 ![] bcast_S_S4x8192x1024 (Host.divf (constant S_ .f32 0x3DD105EC#32) (Host.log (constant S_ .f32 0x40000000#32))))) bitsLt_bf16_f32

/-- The keys as the region finds them. -/
def kArr (k : FVec Ideal S4x8192x8x96 .f32) : FVec Ideal S4x8192x1024 .bf16 :=
  truncf .bf16 (shapeCast S4x8192x1024 (pad S4x8192x8x128 ![0, 0, 0, 0] ![0, 0, 0, 32] ![0, 0, 0, 0] k (sitofp .f32 (constantI S_ 32 0#32)) pads_S4x8192x8x96_S4x8192x8x128_000_000_000_0320 h_S_) shapeCasts_S4x8192x8x128_S4x8192x1024) bitsLt_bf16_f32

/-- The values, with their column of ones, as the region finds them. -/
def vArr (v : FVec Ideal S4x8192x8x64 .f32) : FVec Ideal S4x8192x1024 .bf16 :=
  truncf .bf16 (shapeCast S4x8192x1024 (pad S4x8192x8x128 ![0, 0, 0, 0] ![0, 0, 0, 63] ![0, 0, 0, 0] (pad S4x8192x8x65 ![0, 0, 0, 0] ![0, 0, 0, 1] ![0, 0, 0, 0] v (constant S_ .f32 0x3F800000#32) pads_S4x8192x8x64_S4x8192x8x65_000_000_000_010 h_S_) (sitofp .f32 (constantI S_ 32 0#32)) pads_S4x8192x8x65_S4x8192x8x128_000_000_000_0630 h_S_) shapeCasts_S4x8192x8x128_S4x8192x1024) bitsLt_bf16_f32

theorem zero_word : (FloatOps.sitofp (F := Ideal) .f32 (0#32 : BitVec 32) : EReal) = 0 := by
  show ((((0#32 : BitVec 32).toInt : ℝ)) : EReal) = 0
  simp

/-- A query's lane: the argument times the scale, and zero beyond the 96 lanes of a head. -/
theorem qArr_apply (q : FVec Ideal S4x8192x8x96 .f32) (b : Fin 4) (s : Fin 8192) (e : Fin 8) (d : Fin 128) (k : Fin 1024)
    (hk : k.val = e.val * 128 + d.val) :
    qArr q (ix3 b s k) = (if hd : d.val < 96 then q (ix4 b s e ⟨d.val, hd⟩) else (0 : EReal)) * qscale := by
  rw [qArr, truncf_apply, mulf_apply, merge_heads _ _ b s e d k hk, pad_lane]
  refine congrArg₂ (· * ·) ?_ rfl
  split_ifs with hd
  · rfl
  · exact zero_word

/-- A key's lane: the argument, and zero beyond the 96 lanes of a head. -/
theorem kArr_apply (x : FVec Ideal S4x8192x8x96 .f32) (b : Fin 4) (s : Fin 8192) (e : Fin 8) (d : Fin 128) (k : Fin 1024)
    (hk : k.val = e.val * 128 + d.val) :
    kArr x (ix3 b s k) = if hd : d.val < 96 then x (ix4 b s e ⟨d.val, hd⟩) else (0 : EReal) := by
  rw [kArr, truncf_apply, merge_heads _ _ b s e d k hk, pad_lane]
  split_ifs with hd
  · rfl
  · exact zero_word

/-- A value's lane: the argument in the 64 lanes of a head, and one in the lane behind them. -/
theorem vArr_apply (v : FVec Ideal S4x8192x8x64 .f32) (b : Fin 4) (s : Fin 8192) (e : Fin 8) (d : Fin 64) (k : Fin 1024)
    (hk : k.val = e.val * 128 + d.val) : vArr v (ix3 b s k) = v (ix4 b s e d) := by
  rw [vArr, truncf_apply, merge_heads _ _ b s e ⟨d.val, by omega⟩ k hk, pad_lane, dif_pos (show d.val < 65 by omega), pad_lane,
    dif_pos d.isLt]

theorem vArr_ones (v : FVec Ideal S4x8192x8x64 .f32) (b : Fin 4) (s : Fin 8192) (e : Fin 8) (k : Fin 1024)
    (hk : k.val = e.val * 128 + 64) : vArr v (ix3 b s k) = (1 : EReal) := by
  rw [vArr, truncf_apply, merge_heads _ _ b s e ⟨64, by omega⟩ k hk, pad_lane, dif_pos (show 64 < 65 by omega), pad_lane,
    dif_neg (show ¬ 64 < 64 by omega)]
  exact Ideal.ofBits_one_f32

end Cert.Attn

end
-- ==== Proof.Attn.Entry.lean ====
/- The arrays the attention region finds: the host's padding, reshaping and scaling of the queries, keys and values, read at
   an index (batch, position, head, lane). -/
module

public import proofs.«01_k».proof.Proof.Attn.Layout
public import proofs.«01_k».proof.Proof.Gen.KernelIdeal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! The host's padding function reads and stores buffers at their own types. -/

theorem to_v3 (h1 h2 h3) (X : (⟨S4x8192x8x128, .f32⟩ : BufTy).Contents (Elt Ideal)) :
    (StableHlo.TRef.of (T := ⟨S4x8192x8x128, .f32⟩) main_v3 h1 h2 h3).toBuf X = X := rfl
theorem to_v8 (h1 h2 h3) (X : (⟨S4x8192x8x128, .f32⟩ : BufTy).Contents (Elt Ideal)) :
    (StableHlo.TRef.of (T := ⟨S4x8192x8x128, .f32⟩) main_v8 h1 h2 h3).toBuf X = X := rfl
theorem to_v11 (h1 h2 h3) (X : (⟨S4x8192x8x128, .f32⟩ : BufTy).Contents (Elt Ideal)) :
    (StableHlo.TRef.of (T := ⟨S4x8192x8x128, .f32⟩) main_v11 h1 h2 h3).toBuf X = X := rfl
theorem of_arg0 (h1 h2 h3) (X : (⟨S4x8192x8x96, .f32⟩ : BufTy).Contents (Elt Ideal)) :
    (StableHlo.TRef.of (T := ⟨S4x8192x8x96, .f32⟩) main_arg0 h1 h2 h3).ofBuf X = X := rfl
theorem of_arg1 (h1 h2 h3) (X : (⟨S4x8192x8x96, .f32⟩ : BufTy).Contents (Elt Ideal)) :
    (StableHlo.TRef.of (T := ⟨S4x8192x8x96, .f32⟩) main_arg1 h1 h2 h3).ofBuf X = X := rfl
theorem of_arg2 (h1 h2 h3) (X : (⟨S4x8192x8x64, .f32⟩ : BufTy).Contents (Elt Ideal)) :
    (StableHlo.TRef.of (T := ⟨S4x8192x8x64, .f32⟩) main_arg2 h1 h2 h3).ofBuf X = X := rfl
theorem of_c (h1 h2 h3) (X : (⟨S_, .i32⟩ : BufTy).Contents (Elt Ideal)) :
    (StableHlo.TRef.of (T := ⟨S_, .i32⟩) main_c h1 h2 h3).ofBuf X = X := rfl
theorem of_c_2 (h1 h2 h3) (X : (⟨S_, .i32⟩ : BufTy).Contents (Elt Ideal)) :
    (StableHlo.TRef.of (T := ⟨S_, .i32⟩) main_c_2 h1 h2 h3).ofBuf X = X := rfl
theorem of_c_3 (h1 h2 h3) (X : (⟨S_, .i32⟩ : BufTy).Contents (Elt Ideal)) :
    (StableHlo.TRef.of (T := ⟨S_, .i32⟩) main_c_3 h1 h2 h3).ofBuf X = X := rfl
theorem of_cst_1 (h1 h2 h3) (X : (⟨S_, .f32⟩ : BufTy).Contents (Elt Ideal)) :
    (StableHlo.TRef.of (T := ⟨S_, .f32⟩) main_cst_1 h1 h2 h3).ofBuf X = X := rfl

theorem V_keys (c : Dev nD) : V m c main_v10 = kArr (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v8, of_arg1, of_c_2]
  rfl

theorem V_queries (c : Dev nD) : V m c main_v7 = qArr (m ((c : Thread nD τ).loc main_arg0)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v3, of_arg0, of_c]
  rfl

theorem V_values (c : Dev nD) : V m c main_v13 = vArr (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v11, of_arg2, of_c_3, of_cst_1, id]
  rfl

end Cert.Attn

end
-- ==== Proof.Attn.Softmax.lean ====
/- The mathematics of the running softmax, on extended reals and away from any program: a weighted sum kept relative to a
   running shift is the plain weighted sum times a power of two, so the quotient of two such sums forgets the shift. -/
module

public import Idealize.ShloMosaic.PureOps.Ideal
public import Mathlib.Analysis.SpecialFunctions.Pow.Real
public import Mathlib.Data.EReal.Operations
public import Mathlib.Data.EReal.Inv

@[expose] public section

noncomputable section

namespace Cert.Attn

open Idealize.ShloMosaic

/-- Two to a real power, as an extended real. -/
def pw (x : ℝ) : EReal := ((2 ^ x : ℝ) : EReal)

theorem pw_pos (x : ℝ) : (0 : ℝ) < 2 ^ x := Real.rpow_pos_of_pos (by norm_num) x

theorem pw_add (x y : ℝ) : pw (x + y) = pw x * pw y := by
  unfold pw; rw [Real.rpow_add (by norm_num), EReal.coe_mul]

theorem exp2_real (x : ℝ) : Ideal.exp2 (x : EReal) = pw x := rfl

theorem exp2_sub (x y : ℝ) : Ideal.exp2 ((x : EReal) - (y : EReal)) = pw (x - y) := by
  rw [← EReal.coe_sub, exp2_real]

/-- A nonnegative real times a sum. -/
theorem real_mul_sum {ι : Type*} (a : ℝ) (ha : 0 ≤ a) (S : Finset ι) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (by exact_mod_cast ha) (EReal.coe_ne_top a), ih]

theorem pw_mul_sum {ι : Type*} (x : ℝ) (S : Finset ι) (f : ι → EReal) :
    pw x * ∑ i ∈ S, f i = ∑ i ∈ S, pw x * f i := real_mul_sum _ (pw_pos x).le S f

theorem pw_mul_add (x : ℝ) (a b : EReal) : pw x * (a + b) = pw x * a + pw x * b :=
  EReal.left_distrib_of_nonneg_of_ne_top (EReal.coe_nonneg.2 (pw_pos x).le) (EReal.coe_ne_top _) a b

/-- One step: rescale what is kept to the new shift `y`, and add the new terms relative to it. -/
theorem rescale_step {ι : Type*} [Fintype ι] (x y : ℝ) (A X : EReal) (hA : A = pw (-x) * X)
    (s : ι → ℝ) (v : ι → EReal) :
    Ideal.exp2 ((x : EReal) - (y : EReal)) * A + ∑ i, Ideal.exp2 ((s i : EReal) - (y : EReal)) * v i
      = pw (-y) * (X + ∑ i, pw (s i) * v i) := by
  rw [pw_mul_add, pw_mul_sum, hA, exp2_sub, ← mul_assoc, ← pw_add]
  congr 1
  · congr 2; ring
  · refine Finset.sum_congr rfl fun i _ => ?_
    rw [exp2_sub, ← mul_assoc, ← pw_add]; congr 2; ring

/-- The state kept over the chunks: after `n` of them, the running sum at the shift `μ n` is the plain sum at that shift. -/
theorem running {ι : Type*} [Fintype ι] (μ : ℕ → ℝ) (s : ℕ → ι → ℝ) (v : ℕ → ι → EReal) (A : ℕ → EReal) (h0 : A 0 = 0) (N : ℕ)
    (hs : ∀ c < N, A (c + 1) = Ideal.exp2 ((μ c : EReal) - (μ (c + 1) : EReal)) * A c
      + ∑ i, Ideal.exp2 ((s c i : EReal) - (μ (c + 1) : EReal)) * v c i) :
    ∀ n ≤ N, A n = pw (-(μ n)) * ∑ c ∈ Finset.range n, ∑ i, pw (s c i) * v c i := by
  intro n
  induction n with
  | zero => intro _; simp [h0]
  | succ c ih =>
    intro hc
    rw [hs c (by omega), rescale_step _ _ _ _ (ih (by omega)), Finset.sum_range_succ]

/-- The quotient of two sums at one shift, the divisor's terms positive reals: the shift cancels. -/
theorem quotient (x : ℝ) (X : EReal) (D : ℝ) (hD : 0 < D) :
    Ideal.div (pw (-x) * X) (pw (-x) * (D : EReal)) = X * ((D⁻¹ : ℝ) : EReal) := by
  have hp := pw_pos (-x)
  have e : pw (-x) * (D : EReal) = (((2 : ℝ) ^ (-x) * D : ℝ) : EReal) := by rw [pw, EReal.coe_mul]
  have hne : (((2 : ℝ) ^ (-x) * D : ℝ) : EReal) ≠ 0 := by
    exact_mod_cast (mul_pos hp hD).ne'
  rw [e, Ideal.div, if_neg hne, ← EReal.coe_inv, pw, mul_comm _ X, mul_assoc, ← EReal.coe_mul]
  congr 2
  field_simp

/-- The softmax weights over all keys at once, at any finite shift `M`: the reference's own sum, with the same quotient. -/
theorem weights {ι : Type*} [Fintype ι] [Nonempty ι] (σ : ι → ℝ) (M : ℝ) (v : ι → EReal) :
    ∑ k, v k * Ideal.div (Ideal.exp (((σ k * Real.log 2 : ℝ) : EReal) - (M : EReal)))
        (0 + ∑ j, Ideal.exp (((σ j * Real.log 2 : ℝ) : EReal) - (M : EReal)))
      = (∑ k, pw (σ k) * v k) * (((∑ k, (2 : ℝ) ^ σ k)⁻¹ : ℝ) : EReal) := by
  have hexp : ∀ k, Ideal.exp (((σ k * Real.log 2 : ℝ) : EReal) - (M : EReal)) = (((2 : ℝ) ^ σ k * Real.exp (-M) : ℝ) : EReal) := by
    intro k
    rw [← EReal.coe_sub, Ideal.exp_coe, Real.rpow_def_of_pos (by norm_num), ← Real.exp_add]
    congr 2; ring
  have hsum : (0 : EReal) + ∑ j, Ideal.exp (((σ j * Real.log 2 : ℝ) : EReal) - (M : EReal))
      = (((∑ j, (2 : ℝ) ^ σ j) * Real.exp (-M) : ℝ) : EReal) := by
    rw [zero_add, Finset.sum_congr rfl fun k _ => hexp k, Finset.sum_mul]
    exact (map_sum (⟨⟨fun x : ℝ => (x : EReal), rfl⟩, fun a b => EReal.coe_add a b⟩ : ℝ →+ EReal) _ _).symm
  have hD : 0 < ∑ j, (2 : ℝ) ^ σ j := Finset.sum_pos (fun k _ => pw_pos _) Finset.univ_nonempty
  have hne : (((∑ j, (2 : ℝ) ^ σ j) * Real.exp (-M) : ℝ) : EReal) ≠ 0 := by
    exact_mod_cast (mul_pos hD (Real.exp_pos _)).ne'
  rw [hsum, mul_comm (∑ k, _) (((_ : ℝ)) : EReal), real_mul_sum _ (inv_pos.2 hD).le]
  refine Finset.sum_congr rfl fun k _ => ?_
  rw [hexp, Ideal.div, if_neg hne, ← EReal.coe_inv, ← EReal.coe_mul, pw, ← mul_assoc, ← EReal.coe_mul, mul_comm]
  congr 2
  have := (Real.exp_pos (-M)).ne'
  field_simp

/-- A finite extended real is a real. -/
theorem exists_real {x : EReal} (h1 : x ≠ ⊥) (h2 : x ≠ ⊤) : ∃ r : ℝ, x = r := ⟨x.toReal, (EReal.coe_toReal h2 h1).symm⟩

/-- A sum of reals is a real. -/
theorem coe_sum {ι : Type*} (S : Finset ι) (f : ι → ℝ) : ∑ i ∈ S, (f i : EReal) = ((∑ i ∈ S, f i : ℝ) : EReal) :=
  (map_sum (⟨⟨fun x : ℝ => (x : EReal), rfl⟩, fun a b => EReal.coe_add a b⟩ : ℝ →+ EReal) _ _).symm

end Cert.Attn

end
-- ==== Proof.Attn.Rows.lean ====
/- One step of the attention region over the extended reals, read at a row and a lane: under finite scores the stored block is
   the plain base-two softmax quotient of its windows. -/
module

public import proofs.«01_k».proof.Proof.Attn.Block
public import proofs.«01_k».proof.Proof.Attn.Softmax
public import Idealize.ShloMosaic.Lib.KernelVsHost
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pipeline.ValueKit.Acc
public import Idealize.ShloMosaic.PureOps.Ideal.Laws

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx

variable (x0 : FVec Ideal S1x512x256 .bf16) (x1 x2 : FVec Ideal S1x8192x256 .bf16)

/-- Row `j` of chunk `n` among the 8192 rows. -/
def crow (n : ℕ) (j : Fin 512) : Fin 8192 := ⟨(512 * n + j.val) % 8192, Nat.mod_lt _ (by norm_num)⟩

/-- Lane `d` of head `h` among the 256 lanes of two heads. -/
def hlane (h : Fin 2) (d : Fin 128) : Fin 256 := ⟨128 * h.val + d.val, by omega⟩

/-- The score of row `r` against row `k` of the keys. -/
def dotQK (h : Fin 2) (r : Fin 512) (k : Fin 8192) : EReal :=
  ∑ d : Fin 128, x0 (ix3 0 r (hlane h d)) * x1 (ix3 0 k (hlane h d))

theorem scores_apply (h : Fin 2) (n : ℕ) (r j : Fin 512) :
    (shapeCast S512x512 (scores (F := Ideal) x0 x1 h n) shapeCasts_S1x512x512_S512x512 (ix2 r j) : EReal) = dotQK x0 x1 h r (crow n j) := by
  rw [shapeCast_1ab_ab_apply, scores, shapeCast_ab_1ab_apply]
  show FloatOps.matmul (DotDims.transposedRhs 512 128 512) _ _ _ _ _ = _
  rw [Ideal.matmul_transposedRhs_apply, constant_apply, Ideal.ofBits_zero_f32, zero_add]
  refine Finset.sum_congr rfl fun d _ => ?_
  rw [shapeCast_1ab_ab_apply, shapeCast_1ab_ab_apply]
  rfl

/-- The values of the running accumulator, one lane. -/
theorem accum_zero (h : Fin 2) (i : S512x128.Idx) : (accum (F := Ideal) x0 x1 x2 h 0 i : EReal) = 0 := Ideal.ofBits_zero_f32

theorem accum_succ (h : Fin 2) (n : ℕ) (r : Fin 512) (l : Fin 128) :
    (accum (F := Ideal) x0 x1 x2 h (n + 1) (ix2 r l) : EReal)
      = Ideal.exp2 (rowMax (F := Ideal) x0 x1 h n (ix2 r 0) - rowMax (F := Ideal) x0 x1 h (n + 1) (ix2 r 0)) * accum (F := Ideal) x0 x1 x2 h n (ix2 r l)
        + ∑ j : Fin 512, Ideal.exp2 (dotQK x0 x1 h r (crow n j) - rowMax (F := Ideal) x0 x1 h (n + 1) (ix2 r 0))
            * x2 (ix3 0 (crow n j) (hlane h l)) := by
  have hb : ∀ (m : ℕ) (x : FVec Ideal S512x1 .f32) (hx : S512x1.Broadcasts ⟨2, ![512, m]⟩) (l : Fin m),
      broadcastTo ⟨2, ![512, m]⟩ x hx (ix2 r l) = x (ix2 r 0) := fun m x hx l =>
    broadcastTo_apply x hx _ _ fun a => by match a with | ⟨0, _⟩ => rfl | ⟨1, _⟩ => rfl
  rw [accum, addf_apply, mulf_apply]
  refine congrArg₂ (· + ·) (congrArg₂ (· * ·) ?_ rfl) ?_
  · exact hb 128 _ _ l
  · show FloatOps.matmul (DotDims.plain 512 512 128) _ _ _ _ _ = _
    rw [Ideal.matmul_plain_apply, constant_apply, Ideal.ofBits_zero_f32, zero_add]
    refine Finset.sum_congr rfl fun j _ => ?_
    rw [shapeCast_1ab_ab_apply, shapeCast_1ab_ab_apply, expo, shapeCast_ab_1ab_apply, truncf_apply]
    refine congrArg₂ (· * ·) ?_ rfl
    refine (congrArg Ideal.exp2 (subf_apply _ _ _)).trans ?_
    rw [scores_apply]
    exact congrArg (fun z => Ideal.exp2 (dotQK x0 x1 h r (crow n j) - z)) (hb 512 _ _ j)

theorem rowMax_succ (h : Fin 2) (n : ℕ) (r : Fin 512) :
    (rowMax (F := Ideal) x0 x1 h (n + 1) (ix2 r 0) : EReal) = max (rowMax (F := Ideal) x0 x1 h n (ix2 r 0))
      ((Finset.univ : Finset (Fin 512)).fold max ⊥ fun j => dotQK x0 x1 h r (crow n j)) := by
  rw [rowMax, maximumf_apply, shapeCast_a_a1_apply]
  refine congrArg (max _) ?_
  refine (Ideal.multiReduction_maximumf_single _ _ _ _ _ _).trans ?_
  have e : (FloatOps.ofBits (F := Ideal) .f32 0xFF800000#32 : EReal) = ⊥ := by
    show Ideal.ofBits .f32 0xFF800000#32 = ⊥
    simp [Ideal.ofBits, Ideal.ieee]
  rw [e]
  refine Finset.fold_congr fun j _ => ?_
  refine Eq.trans ?_ (scores_apply x0 x1 h n r j)
  refine congrArg (shapeCast S512x512 (scores (F := Ideal) x0 x1 h n) shapeCasts_S1x512x512_S512x512) (funext fun a => ?_)
  match a with | ⟨0, _⟩ => rfl | ⟨1, _⟩ => rfl

/-- Finite scores: the running maximum stays a real. -/
theorem rowMax_real (h : Fin 2) (r : Fin 512) (σ : Fin 8192 → ℝ) (hσ : ∀ k, dotQK x0 x1 h r k = (σ k : EReal)) (n : ℕ) :
    ∃ μ : ℝ, (rowMax (F := Ideal) x0 x1 h n (ix2 r 0) : EReal) = μ := by
  induction n with
  | zero =>
    refine exists_real ?_ ?_
    · show Ideal.ofBits .f32 0xF149F2CA#32 ≠ ⊥
      simp [Ideal.ofBits, Ideal.ieee]
      rw [← EReal.coe_pow, ← EReal.coe_mul]
      exact EReal.coe_ne_top _
    · show Ideal.ofBits .f32 0xF149F2CA#32 ≠ ⊤
      simp [Ideal.ofBits, Ideal.ieee]
      rw [← EReal.coe_pow, ← EReal.coe_mul]
      exact EReal.coe_ne_bot _
  | succ n ih =>
    obtain ⟨μ, hμ⟩ := ih
    rw [rowMax_succ, hμ]
    have hf : (Finset.univ : Finset (Fin 512)).fold max ⊥ (fun j => dotQK x0 x1 h r (crow n j)) ≠ ⊤ := by
      refine ne_of_lt ((Finset.fold_max_lt (c := (⊤ : EReal))).2 ⟨bot_lt_top, fun j _ => ?_⟩)
      rw [hσ]; exact EReal.coe_lt_top _
    refine exists_real (ne_of_gt (lt_of_lt_of_le (EReal.bot_lt_coe μ) (le_max_left _ _))) ?_
    exact ne_of_lt (max_lt (EReal.coe_lt_top μ) (lt_top_iff_ne_top.2 hf))

/-- The accumulator after all sixteen chunks. -/
theorem accum_final (h : Fin 2) (r : Fin 512) (l : Fin 128) (σ : Fin 8192 → ℝ)
    (hσ : ∀ k, dotQK x0 x1 h r k = (σ k : EReal)) :
    ∃ x : ℝ, ∀ l : Fin 128, (accum (F := Ideal) x0 x1 x2 h 16 (ix2 r l) : EReal)
      = pw (-x) * ∑ k : Fin 8192, pw (σ k) * x2 (ix3 0 k (hlane h l)) := by
  choose μ hμ using rowMax_real x0 x1 h r σ hσ
  refine ⟨μ 16, fun l => ?_⟩
  rw [running μ (fun n j => σ (crow n j)) (fun n j => x2 (ix3 0 (crow n j) (hlane h l)))
    (fun n => accum (F := Ideal) x0 x1 x2 h n (ix2 r l)) (accum_zero x0 x1 x2 h _) 16 (fun n _ => by
      rw [accum_succ, hμ, hμ]
      simp only [hσ]) 16 le_rfl]
  refine congrArg _ ?_
  rw [Finset.sum_range]
  exact Fin.sum_mul_add_congr (S := 16) (n := 512) fun n j hl => by
    have e : crow n j = ⟨n.val * 512 + j.val, hl⟩ := Fin.ext (by
      show (512 * n.val + j.val) % 8192 = n.val * 512 + j.val
      omega)
    rw [e]

end Cert.Attn

end
-- ==== Proof.Attn.Final.lean ====
/- The block one step of the attention region stores, read at a row and a lane: the base-two softmax quotient of its windows. -/
module

public import proofs.«01_k».proof.Proof.Attn.Rows

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx

/-- A matrix divided by its column 64. -/
theorem column_div (A : FVec Ideal S512x128 .f32) (r : Fin 512) (l : Fin 128) :
    (divf A (broadcastTo S512x128 (extractStridedSlice S512x1 ![0, 64] A slices_S512x128_o0_64_S512x1) broadcasts_S512x1_S512x128) (ix2 r l) : EReal)
      = Ideal.div (A (ix2 r l)) (A (ix2 r 64)) := by
  refine (divf_apply _ _ _).trans ?_
  rw [broadcastTo_apply (extractStridedSlice S512x1 ![0, 64] A slices_S512x128_o0_64_S512x1) broadcasts_S512x1_S512x128 (ix2 r l) (ix2 r 0)
    (fun a => by match a with | ⟨0, _⟩ => rfl | ⟨1, _⟩ => rfl)]
  rw [extractStridedSlice_apply ![0, 64] A slices_S512x128_o0_64_S512x1 (ix2 r 0) (ix2 r 64)
    (fun a => by match a with | ⟨0, _⟩ => (show r.val = 0 + r.val; omega) | ⟨1, _⟩ => rfl)]

/-- The stored payload: the first matrix's quotient in the lower 64 lanes, the second's in the upper 64. -/
theorem pay1_apply (A B : FVec Ideal S512x128 .f32) (r : Fin 512) (k : Fin 128) :
    (k0_pay1 (F := Ideal) B (iota .tc S1x128 32 [1] iota_S1x128_d1_w32)
      (divf A (broadcastTo S512x128 (extractStridedSlice S512x1 ![0, 64] A slices_S512x128_o0_64_S512x1) broadcasts_S512x1_S512x128))
      (extractStridedSlice S512x1 ![0, 64] B slices_S512x128_o0_64_S512x1) (ix3 0 r k) : EReal)
      = if k.val < 64 then Ideal.div (A (ix2 r k)) (A (ix2 r 64))
        else Ideal.div (B (ix2 r ⟨(k.val + 64) % 128, Nat.mod_lt _ (by norm_num)⟩)) (B (ix2 r 64)) := by
  unfold k0_pay1
  dsimp only
  rw [shapeCast_ab_1ab_apply, truncf_apply, select_apply]
  have hc : broadcastTo S512x128 (shapeCast S1x128 (cmpi .slt (iota .tc S1x128 32 [1] iota_S1x128_d1_w32) (broadcast S1x128 64#32)) shapeCasts_S1x128_S1x128)
      broadcasts_S1x128_S512x128 (ix2 r k) = if k.val < 64 then 1#1 else 0#1 := by
    rw [broadcastTo_apply _ broadcasts_S1x128_S512x128 (ix2 r k) (ix2 0 k) (fun a => by match a with | ⟨0, _⟩ => rfl | ⟨1, _⟩ => rfl)]
    rw [shapeCast_apply _ shapeCasts_S1x128_S1x128 (ix2 0 k) (ix2 0 k) rfl]
    show IntOp.cmpi .slt (BitVec.ofNat 32 (0 * 128 + k.val)) 64#32 = _
    have : ∀ k : Fin 128, IntOp.cmpi .slt (BitVec.ofNat 32 (0 * 128 + k.val)) 64#32 = if k.val < 64 then 1#1 else 0#1 := by decide +kernel
    exact this k
  rw [hc]
  split_ifs with hk
  · exact column_div A r k
  · rw [Scalar.select, if_neg (by decide)]
    refine Eq.trans ?_ (column_div B r ⟨(k.val + 64) % 128, Nat.mod_lt _ (by norm_num)⟩)
    exact dynamicRotate_apply (s := S512x128) 1 64#32 _ rotates_S512x128_d1 (ix2 r k) (ix2 r ⟨(k.val + 64) % 128, Nat.mod_lt _ (by norm_num)⟩) (fun b => by
      match b with
      | ⟨0, _⟩ => rfl
      | ⟨1, _⟩ => (show (k.val + 64) % 128 = (k.val + 128 - 64 % 128) % 128; omega))

variable (x0 : FVec Ideal S1x512x256 .bf16) (x1 x2 : FVec Ideal S1x8192x256 .bf16)

/-- The weighted sum of the values' lane, over the sum of the weights. -/
def attnVal (σ : Fin 8192 → ℝ) (v : Fin 8192 → EReal) : EReal :=
  (∑ k, pw (σ k) * v k) * (((∑ k, (2 : ℝ) ^ σ k)⁻¹ : ℝ) : EReal)

theorem head_quotient (h : Fin 2) (r : Fin 512) (l : Fin 128) (σ : Fin 8192 → ℝ) (hσ : ∀ k, dotQK x0 x1 h r k = (σ k : EReal))
    (hone : ∀ k, (x2 (ix3 0 k (hlane h 64)) : EReal) = 1) :
    Ideal.div (accum (F := Ideal) x0 x1 x2 h 16 (ix2 r l)) (accum (F := Ideal) x0 x1 x2 h 16 (ix2 r 64))
      = attnVal σ fun k => x2 (ix3 0 k (hlane h l)) := by
  obtain ⟨x, hx⟩ := accum_final x0 x1 x2 h r l σ hσ
  rw [hx l, hx 64]
  have e : ∑ k : Fin 8192, pw (σ k) * x2 (ix3 0 k (hlane h 64)) = ((∑ k, (2 : ℝ) ^ σ k : ℝ) : EReal) := by
    rw [← coe_sum]
    exact Finset.sum_congr rfl fun k _ => by rw [hone, mul_one]; rfl
  rw [e]
  exact quotient x _ _ (Finset.sum_pos (fun k _ => pw_pos _) Finset.univ_nonempty)

/-- The block stored, at a row and a lane of one of the two heads. -/
theorem blockOut_apply (h : Fin 2) (r : Fin 512) (l : Fin 64) (k : Fin 128) (hk : k.val = h.val * 64 + l.val)
    (σ : Fin 8192 → ℝ) (hσ : ∀ k, dotQK x0 x1 h r k = (σ k : EReal))
    (hone : ∀ k, (x2 (ix3 0 k (hlane h 64)) : EReal) = 1) :
    (blockOut (F := Ideal) x0 x1 x2 (ix3 0 r k) : EReal) = attnVal σ fun k => x2 (ix3 0 k (hlane h ⟨l.val, by omega⟩)) := by
  refine (pay1_apply _ _ r k).trans ?_
  match h, hk, hσ, hone with
  | ⟨0, _⟩, hk, hσ, hone =>
    have hk' : k.val = l.val := by simpa using hk
    rw [if_pos (by omega)]
    have e : k = ⟨l.val, by omega⟩ := Fin.ext hk'
    rw [e]
    exact head_quotient x0 x1 x2 0 r _ σ hσ hone
  | ⟨1, _⟩, hk, hσ, hone =>
    have hk' : k.val = 64 + l.val := by simpa using hk
    rw [if_neg (by omega)]
    have e : (⟨(k.val + 64) % 128, Nat.mod_lt _ (by norm_num)⟩ : Fin 128) = ⟨l.val, by omega⟩ := Fin.ext (by show (k.val + 64) % 128 = l.val; omega)
    rw [e]
    exact head_quotient x0 x1 x2 1 r _ σ hσ hone

end Cert.Attn

end
-- ==== Proof.Attn.Ref.lean ====
/- The reference attention read at a batch, position, head and lane, for finite queries and keys: the base-two softmax
   quotient of the scaled scores. And the precondition read back: it says the queries and keys are finite. -/
module

public import proofs.«01_k».proof.Proof.Attn.Final
public import proofs.«01_k».proof.Proof.Gen.ReferenceIdeal.Read
public import proofs.«01_k».proof.Pre_finite_scores
public import proofs.«01_k».proof.Proof.Gen.Pre_finite_scores
public import Idealize.ShloMosaic.Lib.ReduceAll
public import Idealize.ShloMosaic.Lib.ValueIdx
public import Idealize.ShloMosaic.Lib.IdealHost
public import Idealize.ShloMosaic.PureOps.Ideal.Laws

@[expose] public section

set_option maxRecDepth 16384

noncomputable section

namespace Cert.Attn

open Idealize.ShloMosaic Idealize.ShloMosaic.TcCoe Idealize.SL.Sem
open Idealize.ShloMosaic.ValueIdx
open Cert.ReferenceIdeal.Read

/-- The scale of the scores as a real. -/
theorem scale_real : ∃ w : ℝ, Ideal.ofBits .f32 0x3DD105EC#32 = (w : EReal) := by
  refine exists_real ?_ ?_
  · simp [Ideal.ofBits, Ideal.ieee]
    rw [← EReal.coe_mul]
    exact EReal.coe_ne_bot _
  · simp [Ideal.ofBits, Ideal.ieee]
    rw [← EReal.coe_mul]
    exact EReal.coe_ne_top _

/-- The scale of the scores. -/
def scale : ℝ := scale_real.choose

theorem scale_eq : Ideal.ofBits .f32 0x3DD105EC#32 = (scale : EReal) := scale_real.choose_spec

theorem two_word : Ideal.ofBits .f32 0x40000000#32 = ((2 : ℝ) : EReal) := by
  simp [Ideal.ofBits, Ideal.ieee]
  rw [← EReal.coe_mul]
  norm_num

theorem log2_pos : (0 : ℝ) < Real.log 2 := Real.log_pos (by norm_num)

/-- The scale the kernel's host code multiplies the queries by: the scale over the logarithm of two. -/
theorem qscale_eq : Ideal.div (Ideal.ofBits .f32 0x3DD105EC#32) (Ideal.log (Ideal.ofBits .f32 0x40000000#32)) = ((scale / Real.log 2 : ℝ) : EReal) := by
  rw [scale_eq, two_word, Ideal.log_coe, if_neg (by norm_num), Ideal.div, if_neg (by exact_mod_cast log2_pos.ne'), ← EReal.coe_inv,
    ← EReal.coe_mul, div_eq_mul_inv]

/-- The base-two exponent of query position `s` against key position `j`. -/
def sigma (qr kr : (⟨4, ![4, 8192, 8, 96]⟩ : Shape).Idx → ℝ) (b : Fin 4) (e : Fin 8) (s j : Fin 8192) : ℝ :=
  (∑ d : Fin 96, qr (ix4 b s e d) * kr (ix4 b j e d)) * (scale / Real.log 2)

theorem sigma_log (qr kr : (⟨4, ![4, 8192, 8, 96]⟩ : Shape).Idx → ℝ) (b : Fin 4) (e : Fin 8) (s j : Fin 8192) :
    sigma qr kr b e s j * Real.log 2 = (∑ d : Fin 96, qr (ix4 b s e d) * kr (ix4 b j e d)) * scale := by
  have := log2_pos.ne'
  unfold sigma
  field_simp

variable (q k : (⟨Cert.ReferenceIdeal.S4x8192x8x96, .f32⟩ : BufTy).Contents (Elt Ideal))
  (v : (⟨Cert.ReferenceIdeal.S4x8192x8x64, .f32⟩ : BufTy).Contents (Elt Ideal))
  (qr kr : (⟨4, ![4, 8192, 8, 96]⟩ : Shape).Idx → ℝ)

/-- A scaled score. -/
theorem ref_score (hq : ∀ i, q i = (qr i : EReal)) (hk : ∀ i, k i = (kr i : EReal)) (b : Fin 4) (e : Fin 8) (s j : Fin 8192) :
    (val_main_v2 (F := Ideal) q k (ix4 b e s j) : EReal) = ((sigma qr kr b e s j * Real.log 2 : ℝ) : EReal) := by
  rw [sigma_log, EReal.coe_mul, ← coe_sum]
  rw [val_main_v2_apply, val_main_v1_apply, val_main_cst_apply, val_main_v0_apply]
  refine congrArg₂ (· * ·) (Finset.sum_congr rfl fun d _ => ?_) scale_eq
  rw [hq, hk, EReal.coe_mul]
  refine congrArg₂ (· * ·) (congrArg (fun i => ((qr i : ℝ) : EReal)) ?_) (congrArg (fun i => ((kr i : ℝ) : EReal)) ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The row maximum is a real. -/
theorem ref_max (hq : ∀ i, q i = (qr i : EReal)) (hk : ∀ i, k i = (kr i : EReal)) (b : Fin 4) (e : Fin 8) (s : Fin 8192) :
    ∃ M : ℝ, (val_main_v5 (F := Ideal) q k (ix3 b e s) : EReal) = M := by
  have hr : Cert.ReferenceIdeal.S4x8x8192x8192.Reduces [3] Cert.ReferenceIdeal.S4x8x8192 := by decide
  have e3 : (val_main_v3 (F := Ideal) q k (ix3 b e s) : EReal)
      = (Finset.univ : Finset (Fin 8192)).fold max ⊥ fun j => ((sigma qr kr b e s j * Real.log 2 : ℝ) : EReal) := by
    unfold val_main_v3
    generalize hX : (val_main_v2 (F := Ideal) q k : FVec Ideal Cert.ReferenceIdeal.S4x8x8192x8192 .f32) = X
    unfold val_main_cst_0
    refine (congrFun (hostReduce_maximumf_eq_multiReduction (F := Ideal) (φ := .f32) X 0xFF800000#32 _ _ hr (.inl rfl) rfl) _).trans ?_
    refine (Ideal.multiReduction_maximumf_single _ _ _ _ _ _).trans ?_
    have eb : (FloatOps.ofBits (F := Ideal) .f32 0xFF800000#32 : EReal) = ⊥ := by
      show Ideal.ofBits .f32 0xFF800000#32 = ⊥
      simp [Ideal.ofBits, Ideal.ieee]
    rw [eb]
    refine Finset.fold_congr fun j _ => ?_
    refine Eq.trans ?_ (ref_score q k qr kr hq hk b e s j)
    rw [hX]
    refine congrArg X (funext fun a => ?_)
    match a with | ⟨0, _⟩ => rfl | ⟨1, _⟩ => rfl | ⟨2, _⟩ => rfl | ⟨3, _⟩ => rfl
  have e5 : (val_main_v5 (F := Ideal) q k (ix3 b e s) : EReal)
      = max ⊥ ((Finset.univ : Finset (Fin 8192)).fold max ⊥ fun j => ((sigma qr kr b e s j * Real.log 2 : ℝ) : EReal)) := by
    rw [val_main_v5_apply, val_main_v4_apply, val_main_cst_1_apply]
    refine congrArg₂ max ?_ e3
    show Ideal.ofBits .f32 0xFF800000#32 = ⊥
    simp [Ideal.ofBits, Ideal.ieee]
  rw [e5, bot_sup_eq]
  refine exists_real (ne_of_gt ?_) (ne_of_lt ?_)
  · exact (Finset.lt_fold_max (c := (⊥ : EReal))).2 (Or.inr ⟨0, Finset.mem_univ _, EReal.bot_lt_coe _⟩)
  · exact (Finset.fold_max_lt (c := (⊤ : EReal))).2 ⟨bot_lt_top, fun j _ => EReal.coe_lt_top _⟩

/-- The reference's exponential. -/
theorem ref_exp (hq : ∀ i, q i = (qr i : EReal)) (hk : ∀ i, k i = (kr i : EReal)) (b : Fin 4) (e : Fin 8) (s j : Fin 8192) (M : ℝ)
    (hM : (val_main_v5 (F := Ideal) q k (ix3 b e s) : EReal) = M) :
    (val_main_v9 (F := Ideal) q k (ix4 b e s j) : EReal) = Ideal.exp (((sigma qr kr b e s j * Real.log 2 : ℝ) : EReal) - (M : EReal)) := by
  rw [val_main_v9_apply, val_main_v8_apply, val_main_v7_apply, val_main_v6_apply]
  refine congrArg Ideal.exp (congrArg₂ (· - ·) (ref_score q k qr kr hq hk b e s j) ?_)
  refine Eq.trans (congrArg (val_main_v5 (F := Ideal) q k) (funext fun a => ?_)) hM
  match a with | ⟨0, _⟩ => rfl | ⟨1, _⟩ => rfl | ⟨2, _⟩ => rfl

/-- The reference's result. -/
theorem ref_apply (hq : ∀ i, q i = (qr i : EReal)) (hk : ∀ i, k i = (kr i : EReal)) (b : Fin 4) (s : Fin 8192) (e : Fin 8) (l : Fin 64)
    (p : Fin 512) (hp : p.val = e.val * 64 + l.val) :
    (val_main_v17 (F := Ideal) q k v (ix3 b s p) : EReal) = attnVal (sigma qr kr b e s) fun j => v (ix4 b j e l) := by
  obtain ⟨M, hM⟩ := ref_max q k qr kr hq hk b e s
  have hi : idx_main_v16 (ix3 b s p) = ix4 b s e l := funext fun a => Fin.ext (by
    match a with
    | ⟨0, _⟩ => show ((b.val * 8192 + s.val) * 512 + p.val) / 4194304 = b.val; omega
    | ⟨1, _⟩ => show ((b.val * 8192 + s.val) * 512 + p.val) / 512 % 8192 = s.val; omega
    | ⟨2, _⟩ => show ((b.val * 8192 + s.val) * 512 + p.val) / 64 % 8 = e.val; omega
    | ⟨3, _⟩ => show ((b.val * 8192 + s.val) * 512 + p.val) % 64 = l.val; omega)
  rw [val_main_v17_apply]
  refine Eq.trans (b := (val_main_v16 (F := Ideal) q k v (ix3 b s p) : EReal)) rfl ?_
  rw [val_main_v16_apply, hi, val_main_v15_apply, val_main_v14_apply, attnVal, ← weights (sigma qr kr b e s) M]
  refine Finset.sum_congr rfl fun j _ => congrArg₂ (· * ·) (congrArg v (funext fun a => ?_)) ?_
  · match a with | ⟨0, _⟩ => rfl | ⟨1, _⟩ => rfl | ⟨2, _⟩ => rfl | ⟨3, _⟩ => rfl
  · have h13 : ridx_main_v14 (idx_main_v15 (ix4 b s e l)) j = ix4 b e s j := funext fun a => by
      match a with | ⟨0, _⟩ => rfl | ⟨1, _⟩ => rfl | ⟨2, _⟩ => rfl | ⟨3, _⟩ => rfl
    rw [h13, val_main_v13_apply, val_main_v12_apply, val_main_v11_apply, val_main_v10_apply]
    refine congrArg₂ Ideal.div (ref_exp q k qr kr hq hk b e s j M hM) (congrArg₂ (· + ·) Ideal.ofBits_zero_f32 ?_)
    refine Finset.sum_congr rfl fun j' _ => ?_
    refine Eq.trans (congrArg (val_main_v9 (F := Ideal) q k) (funext fun a => ?_)) (ref_exp q k qr kr hq hk b e s j' M hM)
    match a with | ⟨0, _⟩ => rfl | ⟨1, _⟩ => rfl | ⟨2, _⟩ => rfl | ⟨3, _⟩ => rfl

/-- A number whose absolute value is below plus infinity is a real. -/
theorem real_of_below {x : EReal} (h : FloatOps.cmpf (F := Ideal) (φ := .f32) .olt (FloatOps.hostAbsf (F := Ideal) (φ := .f32) x) (FloatOps.ofBits .f32 0x7F800000#32) = 1#1) : ∃ r : ℝ, x = r := by
  have e : (FloatOps.ofBits (F := Ideal) .f32 0x7F800000#32 : EReal) = ⊤ := by
    show Ideal.ofBits .f32 0x7F800000#32 = ⊤
    simp [Ideal.ofBits, Ideal.ieee]
  rw [e] at h
  have h' : Ideal.cmp .olt (max x (-x)) ⊤ = 1#1 := h
  have hlt : max x (-x) < ⊤ := by
    by_contra hn
    simp [Ideal.cmp, hn] at h'
  refine exists_real (fun hb => ?_) (ne_of_lt (lt_of_le_of_lt (le_max_left _ _) hlt))
  subst hb
  simp at hlt

/-- The precondition says the queries and keys are finite. -/
theorem finite_args [Cert.Pre_finite_scores.Facts] (h : Cert.Pre_finite_scores.fn (F := Ideal) q k v = fun _ => 1#1) :
    (∀ i, ∃ r : ℝ, (q i : EReal) = r) ∧ ∀ i, ∃ r : ℝ, (k i : EReal) = r := by
  unfold Cert.Pre_finite_scores.fn at h
  dsimp only at h
  have h0 := congrFun h (Shape.Idx.first Cert.Pre_finite_scores.Facts.h_S_)
  have hand : ∀ a b : BitVec 1, IntOp.andi a b = 1#1 → a = 1#1 ∧ b = 1#1 := by decide
  obtain ⟨ha, hb⟩ := hand _ _ h0
  haveI : Subsingleton Cert.Pre_finite_scores.S_.Idx := ⟨fun a b => funext fun x => x.elim0⟩
  exact ⟨fun i => real_of_below (Host.reduce_andi_all _ _ _ _ _ ha i), fun i => real_of_below (Host.reduce_andi_all _ _ _ _ _ hb i)⟩

end Cert.Attn

end
-- ==== Proof.Attn.Array.lean ====
/- The attention kernel's whole result: at finite queries and keys, the array the launch leaves is the reference's. -/
module

public import proofs.«01_k».proof.Proof.Attn.Region
public import proofs.«01_k».proof.Proof.Attn.Entry
public import proofs.«01_k».proof.Proof.Attn.Ref
public import proofs.«01_k».proof.Proof.Gen.KernelIdeal.Value
public import Idealize.ShloMosaic.Lib.Pipeline.ValueKit.Geometry
public import Idealize.ShloMosaic.Lib.Pipeline.Covers

@[expose] public section

set_option maxRecDepth 16384

noncomputable section

namespace Cert.Attn

open Cert.KernelIdeal Cert.KernelIdeal.Gen Idealize.ShloMosaic Idealize.ShloMosaic.TcCoe Idealize.SL.Sem
open Idealize.ShloMosaic.ValueIdx Idealize.ShloMosaic.Pipeline

variable (m : (ℓ : Loc nD τ sig) → Buf (Elt Ideal) ℓ)

/-- The batch, head pair and query block of a grid point. -/
abbrev pb (t : Fin cfg0.N) : Fin 4 := grid0.coords t 0
abbrev pg (t : Fin cfg0.N) : Fin 4 := grid0.coords t 1
abbrev pi (t : Fin cfg0.N) : Fin 16 := grid0.coords t 2

/-- Row `r` of a grid point's query block among the 8192 positions. -/
def qrow (t : Fin cfg0.N) (r : Fin 512) : Fin 8192 := ⟨512 * (pi t).val + r.val, by have := (pi t).isLt; omega⟩

/-- Lane `k` of a grid point's head pair among the 1024 lanes. -/
def plane (t : Fin cfg0.N) (k : Fin 256) : Fin 1024 := ⟨256 * (pg t).val + k.val, by have := (pg t).isLt; omega⟩

/-- Head `h` of a grid point's pair. -/
def phead (t : Fin cfg0.N) (h : Fin 2) : Fin 8 := ⟨2 * (pg t).val + h.val, by have := (pg t).isLt; omega⟩

theorem toNat_small (n : ℕ) (h : n < 2 ^ 32) : (BitVec.ofNat 32 n).toNat = n := by
  rw [BitVec.toNat_ofNat]; exact Nat.mod_eq_of_lt h

theorem coord_b (t : Fin cfg0.N) : (BitVec.ofNat 32 (grid0.coords t 0).val).toNat = (pb t).val :=
  toNat_small _ (lt_trans (pb t).isLt (by norm_num))
theorem coord_g (t : Fin cfg0.N) : (BitVec.ofNat 32 (grid0.coords t 1).val).toNat = (pg t).val :=
  toNat_small _ (lt_trans (pg t).isLt (by norm_num))
theorem coord_i (t : Fin cfg0.N) : (BitVec.ofNat 32 (grid0.coords t 2).val).toNat = (pi t).val :=
  toNat_small _ (lt_trans (pi t).isLt (by norm_num))

theorem tr0 (t : Fin cfg0.N) : cc0_transform_0 (grid0.coords t) = ![(pb t).val, (pi t).val, (pg t).val] := by
  unfold cc0_transform_0
  dsimp only
  rw [coord_b, coord_g, coord_i]

theorem tr1 (t : Fin cfg0.N) : cc0_transform_1 (grid0.coords t) = ![(pb t).val, 0, (pg t).val] := by
  unfold cc0_transform_1
  dsimp only
  rw [coord_b, coord_g]
  rfl

theorem tr2 (t : Fin cfg0.N) : cc0_transform_2 (grid0.coords t) = ![(pb t).val, 0, (pg t).val] := by
  unfold cc0_transform_2
  dsimp only
  rw [coord_b, coord_g]
  rfl

theorem tr3 (t : Fin cfg0.N) : cc0_transform_3 (grid0.coords t) = ![(pb t).val, (pi t).val, (pg t).val] := by
  unfold cc0_transform_3
  dsimp only
  rw [coord_b, coord_g, coord_i]

/-- A query window. -/
theorem block_q (c : Dev nD) (t : Fin cfg0.N) (r : Fin 512) (k : Fin 256) :
    (iblk m c 0 t : FVec Ideal S1x512x256 .bf16) (ix3 0 r k) = qArr (m ((c : Thread nD τ).loc main_arg0)) (ix3 (pb t) (qrow t r) (plane t k)) := by
  unfold iblk
  rw [View.read_apply]
  refine Eq.trans (cast_eq _ _) ?_
  refine Eq.trans (congrFun (V_queries m c) _) (congrArg _ (funext fun a => Fin.ext ?_))
  refine (Window.rect_emb_val_off win0_0 t (ix3 0 r k) a).trans ?_
  have e : win0_0.index t = ![(pb t).val, (pi t).val, (pg t).val] := tr0 t
  rw [e]
  match a with
  | ⟨0, _⟩ => show (pb t).val * 1 + 0 = (pb t).val; omega
  | ⟨1, _⟩ => show (pi t).val * 512 + r.val = 512 * (pi t).val + r.val; omega
  | ⟨2, _⟩ => show (pg t).val * 256 + k.val = 256 * (pg t).val + k.val; omega

/-- A key window. -/
theorem block_k (c : Dev nD) (t : Fin cfg0.N) (j : Fin 8192) (k : Fin 256) :
    (iblk m c 1 t : FVec Ideal S1x8192x256 .bf16) (ix3 0 j k) = kArr (m ((c : Thread nD τ).loc main_arg1)) (ix3 (pb t) j (plane t k)) := by
  unfold iblk
  rw [View.read_apply]
  refine Eq.trans (cast_eq _ _) ?_
  refine Eq.trans (congrFun (V_keys m c) _) (congrArg _ (funext fun a => Fin.ext ?_))
  refine (Window.rect_emb_val_off win0_1 t (ix3 0 j k) a).trans ?_
  have e : win0_1.index t = ![(pb t).val, 0, (pg t).val] := tr1 t
  rw [e]
  match a with
  | ⟨0, _⟩ => show (pb t).val * 1 + 0 = (pb t).val; omega
  | ⟨1, _⟩ => show 0 * 8192 + j.val = j.val; omega
  | ⟨2, _⟩ => show (pg t).val * 256 + k.val = 256 * (pg t).val + k.val; omega

/-- A value window. -/
theorem block_v (c : Dev nD) (t : Fin cfg0.N) (j : Fin 8192) (k : Fin 256) :
    (iblk m c 2 t : FVec Ideal S1x8192x256 .bf16) (ix3 0 j k) = vArr (m ((c : Thread nD τ).loc main_arg2)) (ix3 (pb t) j (plane t k)) := by
  unfold iblk
  rw [View.read_apply]
  refine Eq.trans (cast_eq _ _) ?_
  refine Eq.trans (congrFun (V_values m c) _) (congrArg _ (funext fun a => Fin.ext ?_))
  refine (Window.rect_emb_val_off win0_2 t (ix3 0 j k) a).trans ?_
  have e : win0_2.index t = ![(pb t).val, 0, (pg t).val] := tr2 t
  rw [e]
  match a with
  | ⟨0, _⟩ => show (pb t).val * 1 + 0 = (pb t).val; omega
  | ⟨1, _⟩ => show 0 * 8192 + j.val = j.val; omega
  | ⟨2, _⟩ => show (pg t).val * 256 + k.val = 256 * (pg t).val + k.val; omega

variable (qr kr : (⟨4, ![4, 8192, 8, 96]⟩ : Shape).Idx → ℝ)

/-- A sum over the 128 lanes whose lanes from 96 on are zero. -/
theorem sum_lanes (f : Fin 128 → EReal) (g : Fin 96 → EReal) (h1 : ∀ d : Fin 96, f ⟨d.val, by omega⟩ = g d)
    (h0 : ∀ d : Fin 128, ¬ d.val < 96 → f d = 0) : ∑ d, f d = ∑ d, g d := by
  have e : ∑ d : Fin (96 + 32), f d = ∑ d : Fin 96, f (Fin.castAdd 32 d) + ∑ d : Fin 32, f (Fin.natAdd 96 d) :=
    Fin.sum_univ_add (fun d : Fin (96 + 32) => f d)
  refine e.trans ?_
  rw [Finset.sum_eq_zero (s := (Finset.univ : Finset (Fin 32))) (fun d _ => h0 _ (by show ¬ 96 + d.val < 96; omega)), add_zero]
  exact Finset.sum_congr rfl fun d _ => h1 d

/-- A grid point's scores are the reference's exponents. -/
theorem dot_eq (c : Dev nD) (t : Fin cfg0.N) (hq : ∀ i, m ((c : Thread nD τ).loc main_arg0) i = (qr i : EReal))
    (hk : ∀ i, m ((c : Thread nD τ).loc main_arg1) i = (kr i : EReal)) (h : Fin 2) (r : Fin 512) (j : Fin 8192) :
    dotQK (iblk m c 0 t) (iblk m c 1 t) h r j = ((sigma qr kr (pb t) (phead t h) (qrow t r) j : ℝ) : EReal) := by
  have hl : ∀ d : Fin 128, (plane t (hlane h d)).val = (phead t h).val * 128 + d.val := fun d => by
    show 256 * (pg t).val + (128 * h.val + d.val) = (2 * (pg t).val + h.val) * 128 + d.val
    omega
  rw [sigma, Finset.sum_mul, ← coe_sum]
  refine sum_lanes _ _ (fun d => ?_) fun d hd => ?_
  · rw [block_q, block_k, qArr_apply _ _ _ _ _ _ (hl _), kArr_apply _ _ _ _ _ _ (hl _), dif_pos d.isLt, dif_pos d.isLt]
    refine Eq.trans (congrArg₂ (· * ·) (congrArg₂ (· * ·) (hq _) qscale_eq) (hk _)) ?_
    rw [← EReal.coe_mul, ← EReal.coe_mul]
    congr 1
    ring
  · rw [block_q, block_k, qArr_apply _ _ _ _ _ _ (hl _), kArr_apply _ _ _ _ _ _ (hl _), dif_neg hd, dif_neg hd, mul_zero]

/-- Where a grid point's block is written. -/
theorem out_emb (t : Fin cfg0.N) (r : Fin 512) (k : Fin 128) :
    ((cfg0.win 3).blk t).view.emb (ix3 0 r k)
      = ix3 (pb t) (qrow t r) (⟨128 * (pg t).val + k.val, by have := (pg t).isLt; omega⟩ : Fin 512) := funext fun a => Fin.ext (by
  refine (Window.rect_emb_val_off win0_3 t (ix3 0 r k) a).trans ?_
  have e : win0_3.index t = ![(pb t).val, (pi t).val, (pg t).val] := tr3 t
  rw [e]
  match a with
  | ⟨0, _⟩ => show (pb t).val * 1 + 0 = (pb t).val; omega
  | ⟨1, _⟩ => show (pi t).val * 512 + r.val = 512 * (pi t).val + r.val; omega
  | ⟨2, _⟩ => show (pg t).val * 128 + k.val = 128 * (pg t).val + k.val; omega)

/-- What a grid point writes back is its block of the reference's result. -/
theorem flushed_eq (c : Dev nD) (t : Fin cfg0.N) (hq : ∀ i, m ((c : Thread nD τ).loc main_arg0) i = (qr i : EReal))
    (hk : ∀ i, m ((c : Thread nD τ).loc main_arg1) i = (kr i : EReal)) :
    (dats m 0 c).flushed 3 t = ((cfg0.win 3).blk t).view.read (Elt Ideal)
      (Cert.ReferenceIdeal.Read.val_main_v17 (F := Ideal) (m ((c : Thread nD τ).loc main_arg0)) (m ((c : Thread nD τ).loc main_arg1))
        (m ((c : Thread nD τ).loc main_arg2))) := by
  rw [Value.flushed3_A, out_eq]
  funext y
  rw [View.read_apply]
  refine Eq.trans ?_ (cast_eq _ _).symm
  obtain ⟨r, k, rfl⟩ : ∃ (r : Fin 512) (k : Fin 128), y = ix3 0 r k := ⟨y 1, y 2, (eq_ix3 (n0 := 1) (n1 := 512) (n2 := 128) y).trans (by
    congr 1; exact Subsingleton.elim (α := Fin 1) _ _)⟩
  refine Eq.trans (b := (blockOut (F := Ideal) (iblk m c 0 t) (iblk m c 1 t) (iblk m c 2 t) (ix3 0 r k) : EReal)) rfl ?_
  rw [out_emb]
  let h : Fin 2 := ⟨k.val / 64, by omega⟩
  let l : Fin 64 := ⟨k.val % 64, by omega⟩
  have hl : ∀ d : Fin 128, (plane t (hlane h d)).val = (phead t h).val * 128 + d.val := fun d => by
    show 256 * (pg t).val + (128 * h.val + d.val) = (2 * (pg t).val + h.val) * 128 + d.val
    omega
  refine (blockOut_apply _ _ _ h r l k (by show k.val = k.val / 64 * 64 + k.val % 64; omega) (sigma qr kr (pb t) (phead t h) (qrow t r))
    (fun j => dot_eq m qr kr c t hq hk h r j) (fun j => by
      rw [block_v]; exact vArr_ones _ _ _ (phead t h) _ (hl 64))).trans ?_
  refine Eq.trans ?_ (Cert.Attn.ref_apply _ _ (m ((c : Thread nD τ).loc main_arg2)) qr kr hq hk (pb t) (qrow t r) (phead t h) l _
    (by show 128 * (pg t).val + k.val = (2 * (pg t).val + k.val / 64) * 64 + k.val % 64; omega)).symm
  refine congrArg _ (funext fun j => ?_)
  rw [block_v]
  exact vArr_apply _ _ _ (phead t h) l _ (hl ⟨l.val, by omega⟩)

/-- Every element of the result is in some grid point's block. -/
theorem cover (i : S4x8192x512.Idx) : ∃ t : Fin cfg0.N, (cfg0.win 3).flush t = true ∧ i ∈ ((cfg0.win 3).blk t).view.set := by
  have h0 : (i 0 : Nat) < 4 := (i 0).isLt
  have h1 : (i 1 : Nat) < 8192 := (i 1).isLt
  have h2 : (i 2 : Nat) < 512 := (i 2).isLt
  obtain ⟨t, ht⟩ := grid0.coords_surjective (fun a => match a with
    | ⟨0, _⟩ => (⟨(i 0).val, h0⟩ : Fin 4)
    | ⟨1, _⟩ => (⟨(i 2).val / 128, by omega⟩ : Fin 4)
    | ⟨2, _⟩ => (⟨(i 1).val / 512, by omega⟩ : Fin 16))
  have hb : (pb t).val = (i 0).val := congrArg Fin.val (congrFun ht 0)
  have hg : (pg t).val = (i 2).val / 128 := congrArg Fin.val (congrFun ht 1)
  have hi : (pi t).val = (i 1).val / 512 := congrArg Fin.val (congrFun ht 2)
  refine ⟨t, flush0_3 t, Finset.mem_map.mpr ⟨ix3 0 ⟨(i 1).val % 512, by omega⟩ ⟨(i 2).val % 128, by omega⟩, Finset.mem_univ _, ?_⟩⟩
  refine (out_emb t _ _).trans (funext fun a => Fin.ext ?_)
  match a with
  | ⟨0, _⟩ => exact hb
  | ⟨1, _⟩ => show 512 * (pi t).val + (i 1).val % 512 = (i 1).val; omega
  | ⟨2, _⟩ => show 128 * (pg t).val + (i 2).val % 128 = (i 2).val; omega

/-- The result array after the launch. -/
theorem final (c : Dev nD) (hq : ∀ i, m ((c : Thread nD τ).loc main_arg0) i = (qr i : EReal))
    (hk : ∀ i, m ((c : Thread nD τ).loc main_arg1) i = (kr i : EReal)) :
    (dats m 0 c).arrAt 3 cfg0.N = Cert.ReferenceIdeal.Read.val_main_v17 (F := Ideal) (m ((c : Thread nD τ).loc main_arg0))
      (m ((c : Thread nD τ).loc main_arg1)) (m ((c : Thread nD τ).loc main_arg2)) :=
  (dats m 0 c).arrAt_eq_of_cover 3 _ (fun t _ => flushed_eq m qr kr c t hq hk) cover

end Cert.Attn

end
-- ==== Proof.Ffn.Block.lean ====
/- One step of the feed-forward region in words: the tiles of its weights, the normalized rows with their halo, the gated
   product of 256 columns, and the block a step stores. -/
module

public import proofs.«01_k».proof.Proof.Gen.Kernel2Ideal.Frame
public import Idealize.ShloMosaic.Lib.Pipeline.Value
public import Idealize.ShloMosaic.Lib.Pipeline.ValueKit.Tiles
public import Idealize.ShloMosaic.Lib.ValueIdx

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx

variable {F : FTy → Type} [FloatOps F]

/-- Column `n` of the tile of 256 columns from `lo`, among the 5632. -/
def tcol (lo : ℕ) (n : Fin 256) : Fin 5632 := ⟨(lo + n.val) % 5632, Nat.mod_lt _ (by norm_num)⟩

/-- 256 columns of the up projection's weights. -/
def wTile (x : Vec F S1024x5632 .bf16) (lo : ℕ) : Vec F S1024x256 .bf16 := fun i =>
  x (ix2 (n0 := 1024) (n1 := 5632) ⟨(i 0).val, (i 0).isLt⟩ (tcol lo ⟨(i 1).val, (i 1).isLt⟩))

/-- 256 columns of the convolution's weights. -/
def cTile (x : Vec F S3x5632 .f32) (lo : ℕ) : Vec F S3x256 .f32 := fun i =>
  x (ix2 (n0 := 3) (n1 := 5632) ⟨(i 0).val, (i 0).isLt⟩ (tcol lo ⟨(i 1).val, (i 1).isLt⟩))

/-- 256 columns of the convolution's bias. -/
def bTile (x : Vec F S1x5632 .f32) (lo : ℕ) : Vec F S1x256 .f32 := fun i =>
  x (ix2 (n0 := 1) (n1 := 5632) ⟨(i 0).val, (i 0).isLt⟩ (tcol lo ⟨(i 1).val, (i 1).isLt⟩))

/-- The normalized rows of a step's block, with eight rows before it and eight after. -/
def hnB (i : grid0.Coords) (x0 : Vec F S1x1024x1024 .f32) (x1 x2 : Vec F S1x8x1024 .f32) (x3 : Vec F S1x1024 .f32) :
    FVec F S1040x1024 .bf16 :=
  k0_pay7 (k0_pay2 x3) (k0_pay3 x0) (k0_pay4 i x3 x1) (Scalar.cmpi .slt (BitVec.ofNat 32 (i 1).val) 7#32) (k0_pay5 x3 x2) k0_pay6

/-- The convolution of 256 columns. -/
def convT (hn : FVec F S1040x1024 .bf16) (x4 : Vec F S1024x5632 .bf16) (x5 : Vec F S3x5632 .f32) (x6 : Vec F S1x5632 .f32)
    (lo : ℕ) : FVec F S1024x256 .f32 := k0_pay21 hn (wTile x4 lo) (cTile x5 lo) (bTile x6 lo)

/-- The gated product of 256 columns, the values' columns 2816 after the gate's. -/
def actT (hn : FVec F S1040x1024 .bf16) (x4 : Vec F S1024x5632 .bf16) (x5 : Vec F S3x5632 .f32) (x6 : Vec F S1x5632 .f32)
    (lo : ℕ) : FVec F S1024x256 .bf16 :=
  shapeCast S1024x256 (truncf .bf16 (mulf (mulf (convT hn x4 x5 x6 lo) (logistic (convT hn x4 x5 x6 lo)))
    (convT hn x4 x5 x6 (2816 + lo))) bitsLt_bf16_f32) shapeCasts_S1024x256_S1024x256

/-- All 2816 columns of the gated product. -/
def actB (hn : FVec F S1040x1024 .bf16) (x4 : Vec F S1024x5632 .bf16) (x5 : Vec F S3x5632 .f32) (x6 : Vec F S1x5632 .f32) :
    FVec F S1024x2816 .bf16 := fun y =>
  actT hn x4 x5 x6 (256 * ((y 1).val / 256)) (ix2 (n0 := 1024) (n1 := 256) ⟨(y 0).val, (y 0).isLt⟩
    ⟨(y 1).val % 256, Nat.mod_lt _ (by norm_num)⟩)

theorem load_w (a : Memref sig .tc .vmem S1024x5632 .bf16) (ha : a.IsWhole) (x : Vec F S1024x5632 .bf16) (lo : ℕ)
    (inb : ∀ d, (![0, lo] : Fin 2 → ℕ) d + S1024x256.size d ≤ S1024x5632.size d) :
    View.readAt (Elt F) a.view (Rect.unit (s := S1024x5632) ![0, lo] S1024x256.size inb).toLoadRect (ha.unread x) = wTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

theorem load_c (a : Memref sig .tc .vmem S3x5632 .f32) (ha : a.IsWhole) (x : Vec F S3x5632 .f32) (lo : ℕ)
    (inb : ∀ d, (![0, lo] : Fin 2 → ℕ) d + S3x256.size d ≤ S3x5632.size d) :
    View.readAt (Elt F) a.view (Rect.unit (s := S3x5632) ![0, lo] S3x256.size inb).toLoadRect (ha.unread x) = cTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

theorem load_b (a : Memref sig .tc .vmem S1x5632 .f32) (ha : a.IsWhole) (x : Vec F S1x5632 .f32) (lo : ℕ)
    (inb : ∀ d, (![0, lo] : Fin 2 → ℕ) d + S1x256.size d ≤ S1x5632.size d) :
    View.readAt (Elt F) a.view (Rect.unit (s := S1x5632) ![0, lo] S1x256.size inb).toLoadRect (ha.unread x) = bTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

/-- A load of a whole window is its contents. -/
theorem load_whole {S : Shape} {e : EltTy} (a : Memref sig .tc .vmem S e) (ha : a.IsWhole) (x : Vec F S e)
    {off : Fin S.rank → ℕ} (h : off = fun _ => 0) (inb : ∀ d, off d + S.size d ≤ S.size d) :
    View.readAt (Elt F) a.view (Rect.unit (s := S) off S.size inb).toLoadRect (ha.unread x) = x := by
  rw [View.readAt_eq_ld, ha.read_unread, View.ld_unit_zero h]

theorem off2 : (![0, 0] : Fin 2 → ℕ) = fun _ => 0 := by funext a; fin_cases a <;> rfl
theorem off3 : (![0, 0, 0] : Fin 3 → ℕ) = fun _ => 0 := by funext a; fin_cases a <;> rfl

variable (c : Dev nD) (i : grid0.Coords)
variable (arg2 : Memref sig .tc .vmem S1x1024x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (x0 : Vec F S1x1024x1024 .f32) (x1 x2 : Vec F S1x8x1024 .f32) (x3 : Vec F S1x1024 .f32)
variable (x4 : Vec F S1024x5632 .bf16) (x5 : Vec F S3x5632 .f32) (x6 : Vec F S1x5632 .f32)

theorem r_eq : kernelRun0_A.sl.r c arg5 harg5 x3 = k0_pay2 x3 := by
  unfold kernelRun0_A.sl.r
  rw [load_whole arg5 harg5 x3 off2]

theorem r_1_eq : kernelRun0_A.sl.r_1 c arg2 harg2 x0 = k0_pay3 x0 := by
  unfold kernelRun0_A.sl.r_1
  rw [load_whole arg2 harg2 x0 off3]

theorem r_2_eq : kernelRun0_A.sl.r_2 c i arg3 harg3 arg5 harg5 x1 x3 = k0_pay4 i x3 x1 := by
  unfold kernelRun0_A.sl.r_2
  rw [load_whole arg3 harg3 x1 off3, load_whole arg5 harg5 x3 off2]

theorem r_3_eq : kernelRun0_A.sl.r_3 c arg4 harg4 arg5 harg5 x2 x3 = k0_pay5 x3 x2 := by
  unfold kernelRun0_A.sl.r_3
  rw [load_whole arg4 harg4 x2 off3, load_whole arg5 harg5 x3 off2]

theorem r_4_eq : kernelRun0_A.sl.r_4 c i arg2 harg2 arg3 harg3 arg4 harg4 arg5 harg5 x0 x1 x2 x3 = hnB i x0 x1 x2 x3 := by
  unfold kernelRun0_A.sl.r_4
  rw [r_eq, r_1_eq, r_2_eq, r_3_eq]
  rfl

theorem piece_0 : k0_pay10 (kernelRun0_A.sl.r_5 c i arg2 harg2 arg3 harg3 arg4 harg4 arg5 harg5 arg6 harg6 arg7 harg7 arg8 harg8 x0 x1 x2 x3 x4 x5 x6) (kernelRun0_A.sl.r_6 c i arg2 harg2 arg3 harg3 arg4 harg4 arg5 harg5 arg6 harg6 x0 x1 x2 x3 x4) (View.readAt (Elt F) arg7.view (Rect.unit (s := S3x5632) ![0, 2816] S3x256.size inb_S3x5632_S3x256_0_2816).toLoadRect (harg7.unread x5)) (View.readAt (Elt F) arg8.view (Rect.unit (s := S1x5632) ![0, 2816] S1x256.size inb_S1x5632_S1x256_0_2816).toLoadRect (harg8.unread x6))
    = actT (hnB i x0 x1 x2 x3) x4 x5 x6 0 := by
  unfold kernelRun0_A.sl.r_5 kernelRun0_A.sl.r_6
  repeat first | rw [load_w] | rw [load_c] | rw [load_b] | rw [r_4_eq] | rw [r_eq] | rw [r_1_eq] | rw [r_2_eq] | rw [r_3_eq]
  rfl

theorem piece_256 : k0_pay15 (kernelRun0_A.sl.r_4 c i arg2 harg2 arg3 harg3 arg4 harg4 arg5 harg5 x0 x1 x2 x3) (kernelRun0_A.sl.r_7 c arg7 harg7 x5) (kernelRun0_A.sl.r_8 c i arg2 harg2 arg3 harg3 arg4 harg4 arg5 harg5 arg6 harg6 x0 x1 x2 x3 x4) (kernelRun0_A.sl.r_9 c i arg2 harg2 arg3 harg3 arg4 harg4 arg5 harg5 arg6 harg6 arg7 harg7 x0 x1 x2 x3 x4 x5) (View.readAt (Elt F) arg8.view (Rect.unit (s := S1x5632) ![0, 256] S1x256.size inb_S1x5632_S1x256_0_256).toLoadRect (harg8.unread x6)) (View.readAt (Elt F) arg6.view (Rect.unit (s := S1024x5632) ![0, 3072] S1024x256.size inb_S1024x5632_S1024x256_0_3072).toLoadRect (harg6.unread x4)) (View.readAt (Elt F) arg7.view (Rect.unit (s := S3x5632) ![0, 3072] S3x256.size inb_S3x5632_S3x256_0_3072).toLoadRect (harg7.unread x5)) (View.readAt (Elt F) arg8.view (Rect.unit (s := S1x5632) ![0, 3072] S1x256.size inb_S1x5632_S1x256_0_3072).toLoadRect (harg8.unread x6))
    = actT (hnB i x0 x1 x2 x3) x4 x5 x6 256 := by
  unfold kernelRun0_A.sl.r_7 kernelRun0_A.sl.r_8 kernelRun0_A.sl.r_9
  repeat first | rw [load_w] | rw [load_c] | rw [load_b] | rw [r_4_eq]
  rfl

theorem piece_512 : k0_pay20 (kernelRun0_A.sl.r_11 c i arg2 harg2 arg3 harg3 arg4 harg4 arg5 harg5 arg6 harg6 arg7 harg7 arg8 harg8 x0 x1 x2 x3 x4 x5 x6) (kernelRun0_A.sl.r_12 c i arg2 harg2 arg3 harg3 arg4 harg4 arg5 harg5 arg6 harg6 arg7 harg7 x0 x1 x2 x3 x4 x5) (kernelRun0_A.sl.r_13 c arg8 harg8 x6)
    = actT (hnB i x0 x1 x2 x3) x4 x5 x6 512 := by
  unfold kernelRun0_A.sl.r_11 kernelRun0_A.sl.r_10 kernelRun0_A.sl.r_12 kernelRun0_A.sl.r_13
  repeat first | rw [load_w] | rw [load_c] | rw [load_b] | rw [r_4_eq]
  rfl

theorem piece_768 : k0_pay25 (kernelRun0_A.sl.r_14 c i arg2 harg2 arg3 harg3 arg4 harg4 arg5 harg5 arg6 harg6 arg7 harg7 arg8 harg8 x0 x1 x2 x3 x4 x5 x6) (kernelRun0_A.sl.r_15 c i arg2 harg2 arg3 harg3 arg4 harg4 arg5 harg5 arg6 harg6 x0 x1 x2 x3 x4) (kernelRun0_A.sl.r_16 c arg7 harg7 x5) (kernelRun0_A.sl.r_17 c i arg2 harg2 arg3 harg3 arg4 harg4 arg5 harg5 arg6 harg6 x0 x1 x2 x3 x4) (1039#32) (View.readAt (Elt F) arg8.view (Rect.unit (s := S1x5632) ![0, 3584] S1x256.size inb_S1x5632_S1x256_0_3584).toLoadRect (harg8.unread x6))
    = actT (hnB i x0 x1 x2 x3) x4 x5 x6 768 := by
  unfold kernelRun0_A.sl.r_14 kernelRun0_A.sl.r_15 kernelRun0_A.sl.r_16 kernelRun0_A.sl.r_17
  repeat first | rw [load_w] | rw [load_c] | rw [load_b] | rw [r_4_eq]
  rfl

theorem piece_1024 : k0_pay27 (kernelRun0_A.sl.r_4 c i arg2 harg2 arg3 harg3 arg4 harg4 arg5 harg5 x0 x1 x2 x3) (kernelRun0_A.sl.r_18 c i arg2 harg2 arg3 harg3 arg4 harg4 arg5 harg5 arg6 harg6 arg7 harg7 x0 x1 x2 x3 x4 x5) (View.readAt (Elt F) arg8.view (Rect.unit (s := S1x5632) ![0, 1024] S1x256.size inb_S1x5632_S1x256_0_1024).toLoadRect (harg8.unread x6)) (View.readAt (Elt F) arg6.view (Rect.unit (s := S1024x5632) ![0, 3840] S1024x256.size inb_S1024x5632_S1024x256_0_3840).toLoadRect (harg6.unread x4)) (View.readAt (Elt F) arg7.view (Rect.unit (s := S3x5632) ![0, 3840] S3x256.size inb_S3x5632_S3x256_0_3840).toLoadRect (harg7.unread x5)) (View.readAt (Elt F) arg8.view (Rect.unit (s := S1x5632) ![0, 3840] S1x256.size inb_S1x5632_S1x256_0_3840).toLoadRect (harg8.unread x6))
    = actT (hnB i x0 x1 x2 x3) x4 x5 x6 1024 := by
  unfold kernelRun0_A.sl.r_18
  repeat first | rw [load_w] | rw [load_c] | rw [load_b] | rw [r_4_eq]
  rfl

theorem piece_1280 : k0_pay32 (kernelRun0_A.sl.r_22 c i arg2 harg2 arg3 harg3 arg4 harg4 arg5 harg5 arg6 harg6 arg7 harg7 arg8 harg8 x0 x1 x2 x3 x4 x5 x6)
    = actT (hnB i x0 x1 x2 x3) x4 x5 x6 1280 := by
  unfold kernelRun0_A.sl.r_22 kernelRun0_A.sl.r_19 kernelRun0_A.sl.r_20 kernelRun0_A.sl.r_21
  repeat first | rw [load_w] | rw [load_c] | rw [load_b] | rw [r_4_eq]
  rfl

theorem piece_1536 : k0_pay37 (kernelRun0_A.sl.r_24 c i arg2 harg2 arg3 harg3 arg4 harg4 arg5 harg5 arg6 harg6 arg7 harg7 arg8 harg8 x0 x1 x2 x3 x4 x5 x6) (kernelRun0_A.sl.r_25 c i arg2 harg2 arg3 harg3 arg4 harg4 arg5 harg5 arg6 harg6 x0 x1 x2 x3 x4) (kernelRun0_A.sl.r_26 c arg7 harg7 x5) (1#32) (View.readAt (Elt F) arg8.view (Rect.unit (s := S1x5632) ![0, 4352] S1x256.size inb_S1x5632_S1x256_0_4352).toLoadRect (harg8.unread x6))
    = actT (hnB i x0 x1 x2 x3) x4 x5 x6 1536 := by
  unfold kernelRun0_A.sl.r_24 kernelRun0_A.sl.r_25 kernelRun0_A.sl.r_26
  repeat first | rw [load_w] | rw [load_c] | rw [load_b] | rw [r_4_eq]
  rfl

theorem piece_1792 : k0_pay42 (kernelRun0_A.sl.r_4 c i arg2 harg2 arg3 harg3 arg4 harg4 arg5 harg5 x0 x1 x2 x3) (kernelRun0_A.sl.r_27 c i arg2 harg2 arg3 harg3 arg4 harg4 arg5 harg5 arg6 harg6 arg7 harg7 x0 x1 x2 x3 x4 x5) (kernelRun0_A.sl.r_28 c i arg2 harg2 arg3 harg3 arg4 harg4 arg5 harg5 arg6 harg6 arg7 harg7 x0 x1 x2 x3 x4 x5) (View.readAt (Elt F) arg8.view (Rect.unit (s := S1x5632) ![0, 1792] S1x256.size inb_S1x5632_S1x256_0_1792).toLoadRect (harg8.unread x6)) (View.readAt (Elt F) arg6.view (Rect.unit (s := S1024x5632) ![0, 4608] S1024x256.size inb_S1024x5632_S1024x256_0_4608).toLoadRect (harg6.unread x4)) (View.readAt (Elt F) arg7.view (Rect.unit (s := S3x5632) ![0, 4608] S3x256.size inb_S3x5632_S3x256_0_4608).toLoadRect (harg7.unread x5)) (View.readAt (Elt F) arg8.view (Rect.unit (s := S1x5632) ![0, 4608] S1x256.size inb_S1x5632_S1x256_0_4608).toLoadRect (harg8.unread x6))
    = actT (hnB i x0 x1 x2 x3) x4 x5 x6 1792 := by
  unfold kernelRun0_A.sl.r_27 kernelRun0_A.sl.r_28
  repeat first | rw [load_w] | rw [load_c] | rw [load_b] | rw [r_4_eq]
  rfl

theorem piece_2048 : k0_pay47 (kernelRun0_A.sl.r_31 c i arg2 harg2 arg3 harg3 arg4 harg4 arg5 harg5 arg6 harg6 arg7 harg7 arg8 harg8 x0 x1 x2 x3 x4 x5 x6) (kernelRun0_A.sl.r_32 c i arg2 harg2 arg3 harg3 arg4 harg4 arg5 harg5 arg6 harg6 arg7 harg7 arg8 harg8 x0 x1 x2 x3 x4 x5 x6) (kernelRun0_A.sl.r_33 c i arg2 harg2 arg3 harg3 arg4 harg4 arg5 harg5 arg6 harg6 arg7 harg7 arg8 harg8 x0 x1 x2 x3 x4 x5 x6)
    = actT (hnB i x0 x1 x2 x3) x4 x5 x6 2048 := by
  unfold kernelRun0_A.sl.r_31 kernelRun0_A.sl.r_33 kernelRun0_A.sl.r_29 kernelRun0_A.sl.r_30 kernelRun0_A.sl.r_32
  repeat first | rw [load_w] | rw [load_c] | rw [load_b] | rw [r_4_eq]
  rfl

theorem piece_2304 : k0_pay54 (kernelRun0_A.sl.r_34 c i arg2 harg2 arg3 harg3 arg4 harg4 arg5 harg5 arg6 harg6 arg7 harg7 arg8 harg8 x0 x1 x2 x3 x4 x5 x6) (kernelRun0_A.sl.r_35 c i arg2 harg2 arg3 harg3 arg4 harg4 arg5 harg5 arg6 harg6 x0 x1 x2 x3 x4) (kernelRun0_A.sl.r_36 c arg7 harg7 x5) (kernelRun0_A.sl.r_37 c i arg2 harg2 arg3 harg3 arg4 harg4 arg5 harg5 arg6 harg6 x0 x1 x2 x3 x4) (kernelRun0_A.sl.r_38 c i arg2 harg2 arg3 harg3 arg4 harg4 arg5 harg5 arg6 harg6 x0 x1 x2 x3 x4) (kernelRun0_A.sl.r_39 c arg7 harg7 x5) (View.readAt (Elt F) arg8.view (Rect.unit (s := S1x5632) ![0, 5120] S1x256.size inb_S1x5632_S1x256_0_5120).toLoadRect (harg8.unread x6))
    = actT (hnB i x0 x1 x2 x3) x4 x5 x6 2304 := by
  unfold kernelRun0_A.sl.r_34 kernelRun0_A.sl.r_35 kernelRun0_A.sl.r_36 kernelRun0_A.sl.r_37 kernelRun0_A.sl.r_38 kernelRun0_A.sl.r_39
  repeat first | rw [load_w] | rw [load_c] | rw [load_b] | rw [r_4_eq]
  rfl

theorem piece_2560 : k0_pay57 (kernelRun0_A.sl.r_4 c i arg2 harg2 arg3 harg3 arg4 harg4 arg5 harg5 x0 x1 x2 x3) (kernelRun0_A.sl.r_40 c i arg2 harg2 arg3 harg3 arg4 harg4 arg5 harg5 arg6 harg6 arg7 harg7 x0 x1 x2 x3 x4 x5) (kernelRun0_A.sl.r_41 c arg8 harg8 x6) (View.readAt (Elt F) arg6.view (Rect.unit (s := S1024x5632) ![0, 5376] S1024x256.size inb_S1024x5632_S1024x256_0_5376).toLoadRect (harg6.unread x4)) (View.readAt (Elt F) arg7.view (Rect.unit (s := S3x5632) ![0, 5376] S3x256.size inb_S3x5632_S3x256_0_5376).toLoadRect (harg7.unread x5)) (View.readAt (Elt F) arg8.view (Rect.unit (s := S1x5632) ![0, 5376] S1x256.size inb_S1x5632_S1x256_0_5376).toLoadRect (harg8.unread x6))
    = actT (hnB i x0 x1 x2 x3) x4 x5 x6 2560 := by
  unfold kernelRun0_A.sl.r_40 kernelRun0_A.sl.r_41
  repeat first | rw [load_w] | rw [load_c] | rw [load_b] | rw [r_4_eq]
  rfl

end Cert.Ffn

end
-- ==== Proof.Ffn.Region.lean ====
/- The block a step of the feed-forward region stores, from its input windows: the eleven tiles of the gated product read back
   as one array, the two halves of the down projection, and the final normalization. -/
module

public import proofs.«01_k».proof.Proof.Ffn.Block
public import Idealize.ShloMosaic.Lib.Pipeline.Value

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx

variable {F : FTy → Type} [FloatOps F]
variable (c : Dev nD) (i : grid0.Coords)
variable (arg2 : Memref sig .tc .vmem S1x1024x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1x1024x1024 .f32) (harg11 : arg11.IsWhole)
variable (arg12 : Memref sig .tc .vmem S1024x2816 .bf16) (harg12 : arg12.IsWhole)
variable (x0 : Vec F S1x1024x1024 .f32) (x1 x2 : Vec F S1x8x1024 .f32) (x3 : Vec F S1x1024 .f32)
variable (x4 : Vec F S1024x5632 .bf16) (x5 : Vec F S3x5632 .f32) (x6 : Vec F S1x5632 .f32)
variable (x7 : Vec F S2816x1024 .bf16) (x8 : Vec F S1x1024 .f32)

/-- A store of the gated product's tile at column `lo`. -/
def tilePiece (hn : FVec F S1040x1024 .bf16) (lo : ℕ) (inb : ∀ a, (![0, lo] : Fin 2 → ℕ) a + S1024x256.size a ≤ S1024x2816.size a) :
    View.Piece (Elt F) S1024x2816 .bf16 :=
  ⟨Rect.unit (s := S1024x2816) ![0, lo] S1024x256.size inb, actT hn x4 x5 x6 lo⟩

theorem HS0_6_eq : kernelRun0_A.sl.HS0_6 c i arg2 harg2 arg3 harg3 arg4 harg4 arg5 harg5 arg6 harg6 arg7 harg7 arg8 harg8 x0 x1 x2 x3 x4 x5 x6
    = [tilePiece x4 x5 x6 (hnB i x0 x1 x2 x3) 1280 inb_S1024x2816_S1024x256_0_1280,
      tilePiece x4 x5 x6 (hnB i x0 x1 x2 x3) 1024 inb_S1024x2816_S1024x256_0_1024,
      tilePiece x4 x5 x6 (hnB i x0 x1 x2 x3) 768 inb_S1024x2816_S1024x256_0_768,
      tilePiece x4 x5 x6 (hnB i x0 x1 x2 x3) 512 inb_S1024x2816_S1024x256_0_512,
      tilePiece x4 x5 x6 (hnB i x0 x1 x2 x3) 256 inb_S1024x2816_S1024x256_0_256,
      tilePiece x4 x5 x6 (hnB i x0 x1 x2 x3) 0 inb_S1024x2816_S1024x256_0_0] := by
  unfold kernelRun0_A.sl.HS0_6
  rw [piece_1280, piece_1024, piece_768, piece_512, piece_256, piece_0]
  rfl

theorem HS0_11_eq : kernelRun0_A.sl.HS0_11 c i arg2 harg2 arg3 harg3 arg4 harg4 arg5 harg5 arg6 harg6 arg7 harg7 arg8 harg8 x0 x1 x2 x3 x4 x5 x6
    = tilePiece x4 x5 x6 (hnB i x0 x1 x2 x3) 2560 inb_S1024x2816_S1024x256_0_2560 ::
      tilePiece x4 x5 x6 (hnB i x0 x1 x2 x3) 2304 inb_S1024x2816_S1024x256_0_2304 ::
      tilePiece x4 x5 x6 (hnB i x0 x1 x2 x3) 2048 inb_S1024x2816_S1024x256_0_2048 ::
      tilePiece x4 x5 x6 (hnB i x0 x1 x2 x3) 1792 inb_S1024x2816_S1024x256_0_1792 ::
      tilePiece x4 x5 x6 (hnB i x0 x1 x2 x3) 1536 inb_S1024x2816_S1024x256_0_1536 ::
      kernelRun0_A.sl.HS0_6 c i arg2 harg2 arg3 harg3 arg4 harg4 arg5 harg5 arg6 harg6 arg7 harg7 arg8 harg8 x0 x1 x2 x3 x4 x5 x6 := by
  unfold kernelRun0_A.sl.HS0_11
  rw [piece_2560, piece_2304, piece_2048, piece_1792, piece_1536]
  rfl

/-- A tile is the gated product's columns under it. -/
theorem tile_apply (hn : FVec F S1040x1024 .bf16) (lo : ℕ) (inb) (k : ℕ) (hk : lo = 256 * k) (x : S1024x256.Idx) :
    actT hn x4 x5 x6 lo x = actB hn x4 x5 x6 ((Rect.unit (s := S1024x2816) ![0, lo] S1024x256.size inb).emb x) := by
  have h1 : (x 1).val < 256 := (x 1).isLt
  have e0 : ((Rect.unit (s := S1024x2816) ![0, lo] S1024x256.size inb).emb x 0).val = (x 0).val := by
    rw [Rect.emb_apply]; show 0 + 1 * (x 0).val = _; omega
  have e1 : ((Rect.unit (s := S1024x2816) ![0, lo] S1024x256.size inb).emb x 1).val = lo + (x 1).val := by
    rw [Rect.emb_apply]; show lo + 1 * (x 1).val = _; omega
  unfold actB
  have ed : 256 * (((Rect.unit (s := S1024x2816) ![0, lo] S1024x256.size inb).emb x 1).val / 256) = lo := by rw [e1]; omega
  rw [ed]
  refine congrArg _ (funext fun a => Fin.ext ?_)
  match a with
  | ⟨0, _⟩ => exact e0.symm
  | ⟨1, _⟩ =>
    show (x 1).val = ((Rect.unit (s := S1024x2816) ![0, lo] S1024x256.size inb).emb x 1).val % 256
    rw [e1]; omega

theorem tiles6 : ∀ p ∈ kernelRun0_A.sl.HS0_6 c i arg2 harg2 arg3 harg3 arg4 harg4 arg5 harg5 arg6 harg6 arg7 harg7 arg8 harg8 x0 x1 x2 x3 x4 x5 x6, ∀ x : p.1.shape.Idx,
    p.2 x = actB (hnB i x0 x1 x2 x3) x4 x5 x6 (p.1.emb x) := by
  intro p hp x
  rw [HS0_6_eq] at hp
  simp only [List.mem_cons, List.not_mem_nil, or_false] at hp
  rcases hp with rfl | rfl | rfl | rfl | rfl | rfl
  · exact tile_apply x4 x5 x6 _ 1280 inb_S1024x2816_S1024x256_0_1280 5 rfl x
  · exact tile_apply x4 x5 x6 _ 1024 inb_S1024x2816_S1024x256_0_1024 4 rfl x
  · exact tile_apply x4 x5 x6 _ 768 inb_S1024x2816_S1024x256_0_768 3 rfl x
  · exact tile_apply x4 x5 x6 _ 512 inb_S1024x2816_S1024x256_0_512 2 rfl x
  · exact tile_apply x4 x5 x6 _ 256 inb_S1024x2816_S1024x256_0_256 1 rfl x
  · exact tile_apply x4 x5 x6 _ 0 inb_S1024x2816_S1024x256_0_0 0 rfl x

theorem tiles11 : ∀ p ∈ kernelRun0_A.sl.HS0_11 c i arg2 harg2 arg3 harg3 arg4 harg4 arg5 harg5 arg6 harg6 arg7 harg7 arg8 harg8 x0 x1 x2 x3 x4 x5 x6, ∀ x : p.1.shape.Idx,
    p.2 x = actB (hnB i x0 x1 x2 x3) x4 x5 x6 (p.1.emb x) := by
  intro p hp x
  rw [HS0_11_eq] at hp
  simp only [List.mem_cons] at hp
  rcases hp with rfl | rfl | rfl | rfl | rfl | hp
  · exact tile_apply x4 x5 x6 _ 2560 inb_S1024x2816_S1024x256_0_2560 10 rfl x
  · exact tile_apply x4 x5 x6 _ 2304 inb_S1024x2816_S1024x256_0_2304 9 rfl x
  · exact tile_apply x4 x5 x6 _ 2048 inb_S1024x2816_S1024x256_0_2048 8 rfl x
  · exact tile_apply x4 x5 x6 _ 1792 inb_S1024x2816_S1024x256_0_1792 7 rfl x
  · exact tile_apply x4 x5 x6 _ 1536 inb_S1024x2816_S1024x256_0_1536 6 rfl x
  · exact tiles6 c i arg2 harg2 arg3 harg3 arg4 harg4 arg5 harg5 arg6 harg6 arg7 harg7 arg8 harg8 x0 x1 x2 x3 x4 x5 x6 p hp x

/-- The first 1536 columns of the gated product, as the step reads them back. -/
theorem v394_apply (r : Fin 1024) (n : Fin 1536) : kernelRun0_A.sl.v394 c i arg2 harg2 arg3 harg3 arg4 harg4 arg5 harg5 arg6 harg6 arg7 harg7 arg8 harg8 arg12 x0 x1 x2 x3 x4 x5 x6 (ix2 r n)
    = actB (hnB i x0 x1 x2 x3) x4 x5 x6 (ix2 r (⟨n.val, by omega⟩ : Fin 2816)) := by
  unfold kernelRun0_A.sl.v394
  rw [View.readCov_eq_canon']
  have e : (Rect.unit (s := S1024x2816) ![0, 0] S1024x1536.size inb_S1024x2816_S1024x1536_0_0).toLoadRect.idx (ix2 r n)
      = ix2 r (⟨n.val, by omega⟩ : Fin 2816) := funext fun a => Fin.ext (by
    refine (Rect.idx_unit_val _ _ _ _ a).trans ?_
    match a with
    | ⟨0, _⟩ => show 0 + r.val = r.val; omega
    | ⟨1, _⟩ => show 0 + n.val = n.val; omega)
  refine (congrArg _ e).trans ?_
  refine View.canon_apply_of_pieces _ _ (tiles6 c i arg2 harg2 arg3 harg3 arg4 harg4 arg5 harg5 arg6 harg6 arg7 harg7 arg8 harg8 x0 x1 x2 x3 x4 x5 x6) _ ?_
  rw [HS0_6_eq]
  have hn := n.isLt
  have hm : ∀ (lo : ℕ) (inb : ∀ a, (![0, lo] : Fin 2 → ℕ) a + S1024x256.size a ≤ S1024x2816.size a), lo ≤ n.val → n.val < lo + 256 →
      (ix2 r (⟨n.val, by omega⟩ : Fin 2816) : S1024x2816.Idx) ∈ (tilePiece x4 x5 x6 (hnB i x0 x1 x2 x3) lo inb).1.set := fun lo inb h1 h2 => by
    show _ ∈ (Rect.unit (s := S1024x2816) ![0, lo] S1024x256.size inb).set
    rw [Rect.mem_set_unit]
    intro a
    match a with
    | ⟨0, _⟩ => show 0 ≤ r.val ∧ r.val < 0 + 1024; omega
    | ⟨1, _⟩ => exact ⟨h1, h2⟩
  by_cases h1280 : 1280 ≤ n.val
  · exact ⟨_, by simp only [List.mem_cons, true_or, or_true], hm 1280 inb_S1024x2816_S1024x256_0_1280 h1280 (by omega)⟩
  by_cases h1024 : 1024 ≤ n.val
  · exact ⟨_, by simp only [List.mem_cons, true_or, or_true], hm 1024 inb_S1024x2816_S1024x256_0_1024 h1024 (by omega)⟩
  by_cases h768 : 768 ≤ n.val
  · exact ⟨_, by simp only [List.mem_cons, true_or, or_true], hm 768 inb_S1024x2816_S1024x256_0_768 h768 (by omega)⟩
  by_cases h512 : 512 ≤ n.val
  · exact ⟨_, by simp only [List.mem_cons, true_or, or_true], hm 512 inb_S1024x2816_S1024x256_0_512 h512 (by omega)⟩
  by_cases h256 : 256 ≤ n.val
  · exact ⟨_, by simp only [List.mem_cons, true_or, or_true], hm 256 inb_S1024x2816_S1024x256_0_256 h256 (by omega)⟩
  · exact ⟨_, by simp only [List.mem_cons, true_or, or_true], hm 0 inb_S1024x2816_S1024x256_0_0 (by omega) (by omega)⟩

/-- The last 1280 columns of the gated product, as the step reads them back. -/
theorem v683_apply (r : Fin 1024) (n : Fin 1280) : kernelRun0_A.sl.v683 c i arg2 harg2 arg3 harg3 arg4 harg4 arg5 harg5 arg6 harg6 arg7 harg7 arg8 harg8 arg12 x0 x1 x2 x3 x4 x5 x6 (ix2 r n)
    = actB (hnB i x0 x1 x2 x3) x4 x5 x6 (ix2 r (⟨1536 + n.val, by omega⟩ : Fin 2816)) := by
  unfold kernelRun0_A.sl.v683
  rw [View.readCov_eq_canon']
  have e : (Rect.unit (s := S1024x2816) ![0, 1536] S1024x1280.size inb_S1024x2816_S1024x1280_0_1536).toLoadRect.idx (ix2 r n)
      = ix2 r (⟨1536 + n.val, by omega⟩ : Fin 2816) := funext fun a => Fin.ext (by
    refine (Rect.idx_unit_val _ _ _ _ a).trans ?_
    match a with
    | ⟨0, _⟩ => show 0 + r.val = r.val; omega
    | ⟨1, _⟩ => rfl)
  refine (congrArg _ e).trans ?_
  refine View.canon_apply_of_pieces _ _ (tiles11 c i arg2 harg2 arg3 harg3 arg4 harg4 arg5 harg5 arg6 harg6 arg7 harg7 arg8 harg8 x0 x1 x2 x3 x4 x5 x6) _ ?_
  rw [HS0_11_eq]
  have hn := n.isLt
  have hm : ∀ (lo : ℕ) (inb : ∀ a, (![0, lo] : Fin 2 → ℕ) a + S1024x256.size a ≤ S1024x2816.size a), lo ≤ 1536 + n.val → 1536 + n.val < lo + 256 →
      (ix2 r (⟨1536 + n.val, by omega⟩ : Fin 2816) : S1024x2816.Idx) ∈ (tilePiece x4 x5 x6 (hnB i x0 x1 x2 x3) lo inb).1.set := fun lo inb h1 h2 => by
    show _ ∈ (Rect.unit (s := S1024x2816) ![0, lo] S1024x256.size inb).set
    rw [Rect.mem_set_unit]
    intro a
    match a with
    | ⟨0, _⟩ => show 0 ≤ r.val ∧ r.val < 0 + 1024; omega
    | ⟨1, _⟩ => exact ⟨h1, h2⟩
  by_cases h2560 : 2560 ≤ 1536 + n.val
  · exact ⟨_, by simp only [List.mem_cons, true_or, or_true], hm 2560 inb_S1024x2816_S1024x256_0_2560 h2560 (by omega)⟩
  by_cases h2304 : 2304 ≤ 1536 + n.val
  · exact ⟨_, by simp only [List.mem_cons, true_or, or_true], hm 2304 inb_S1024x2816_S1024x256_0_2304 h2304 (by omega)⟩
  by_cases h2048 : 2048 ≤ 1536 + n.val
  · exact ⟨_, by simp only [List.mem_cons, true_or, or_true], hm 2048 inb_S1024x2816_S1024x256_0_2048 h2048 (by omega)⟩
  by_cases h1792 : 1792 ≤ 1536 + n.val
  · exact ⟨_, by simp only [List.mem_cons, true_or, or_true], hm 1792 inb_S1024x2816_S1024x256_0_1792 h1792 (by omega)⟩
  · exact ⟨_, by simp only [List.mem_cons, true_or, or_true], hm 1536 inb_S1024x2816_S1024x256_0_1536 (by omega) (by omega)⟩

/-- The first 1536 rows of the down projection's weights, and the last 1280. -/
def dLo (x7 : Vec F S2816x1024 .bf16) : Vec F S1536x1024 .bf16 := fun i =>
  x7 (ix2 (n0 := 2816) (n1 := 1024) ⟨(i 0).val, lt_trans (i 0).isLt (by decide)⟩ ⟨(i 1).val, (i 1).isLt⟩)
def dHi (x7 : Vec F S2816x1024 .bf16) : Vec F S1280x1024 .bf16 := fun i =>
  x7 (ix2 (n0 := 2816) (n1 := 1024) ⟨1536 + (i 0).val, Nat.add_lt_add_left (i 0).isLt 1536⟩ ⟨(i 1).val, (i 1).isLt⟩)

theorem load_dLo (inb) : View.readAt (Elt F) arg9.view (Rect.unit (s := S2816x1024) ![0, 0] S1536x1024.size inb).toLoadRect (harg9.unread x7) = dLo x7 := by
  rw [View.readAt_eq_ld, harg9.read_unread]
  funext i
  refine View.ld_unit_apply_of x7 _ _ _ i _ fun a => ?_
  match a with
  | ⟨0, _⟩ => show (i 0).val = 0 + (i 0).val; omega
  | ⟨1, _⟩ => show (i 1).val = 0 + (i 1).val; omega

theorem load_dHi (inb) : View.readAt (Elt F) arg9.view (Rect.unit (s := S2816x1024) ![1536, 0] S1280x1024.size inb).toLoadRect (harg9.unread x7) = dHi x7 := by
  rw [View.readAt_eq_ld, harg9.read_unread]
  funext i
  refine View.ld_unit_apply_of x7 _ _ _ i _ fun a => ?_
  match a with
  | ⟨0, _⟩ => show 1536 + (i 0).val = 1536 + (i 0).val; omega
  | ⟨1, _⟩ => show (i 1).val = 0 + (i 1).val; omega

/-- The two stretches of the gated product's columns. -/
def actLo (a : FVec F S1024x2816 .bf16) : FVec F S1024x1536 .bf16 := fun i =>
  a (ix2 (n0 := 1024) (n1 := 2816) ⟨(i 0).val, (i 0).isLt⟩ ⟨(i 1).val, lt_trans (i 1).isLt (by decide)⟩)
def actHi (a : FVec F S1024x2816 .bf16) : FVec F S1024x1280 .bf16 := fun i =>
  a (ix2 (n0 := 1024) (n1 := 2816) ⟨(i 0).val, (i 0).isLt⟩ ⟨1536 + (i 1).val, Nat.add_lt_add_left (i 1).isLt 1536⟩)

/-- The block a step stores. -/
def blockOut (i : grid0.Coords) (x0 : Vec F S1x1024x1024 .f32) (x1 x2 : Vec F S1x8x1024 .f32) (x3 : Vec F S1x1024 .f32)
    (x4 : Vec F S1024x5632 .bf16) (x5 : Vec F S3x5632 .f32) (x6 : Vec F S1x5632 .f32) (x7 : Vec F S2816x1024 .bf16)
    (x8 : Vec F S1x1024 .f32) : FVec F S1x1024x1024 .f32 :=
  k0_pay1 (k0_pay58 (k0_pay3 x0) (k0_pay33 (actLo (actB (hnB i x0 x1 x2 x3) x4 x5 x6)) (dLo x7))
    (actHi (actB (hnB i x0 x1 x2 x3) x4 x5 x6)) (dHi x7)) (k0_pay59 x8)

theorem v394_eq : kernelRun0_A.sl.v394 c i arg2 harg2 arg3 harg3 arg4 harg4 arg5 harg5 arg6 harg6 arg7 harg7 arg8 harg8 arg12 x0 x1 x2 x3 x4 x5 x6 = actLo (actB (hnB i x0 x1 x2 x3) x4 x5 x6) := by
  funext j
  have e : j = ix2 (n0 := 1024) (n1 := 1536) (j 0) (j 1) := eq_ix2 (n0 := 1024) (n1 := 1536) j
  rw [e]
  exact v394_apply c i arg2 harg2 arg3 harg3 arg4 harg4 arg5 harg5 arg6 harg6 arg7 harg7 arg8 harg8 arg12 x0 x1 x2 x3 x4 x5 x6 (j 0) (j 1)

theorem v683_eq : kernelRun0_A.sl.v683 c i arg2 harg2 arg3 harg3 arg4 harg4 arg5 harg5 arg6 harg6 arg7 harg7 arg8 harg8 arg12 x0 x1 x2 x3 x4 x5 x6 = actHi (actB (hnB i x0 x1 x2 x3) x4 x5 x6) := by
  funext j
  have e : j = ix2 (n0 := 1024) (n1 := 1280) (j 0) (j 1) := eq_ix2 (n0 := 1024) (n1 := 1280) j
  rw [e]
  exact v683_apply c i arg2 harg2 arg3 harg3 arg4 harg4 arg5 harg5 arg6 harg6 arg7 harg7 arg8 harg8 arg12 x0 x1 x2 x3 x4 x5 x6 (j 0) (j 1)

/-- THE STEP'S BLOCK. -/
theorem out_eq : out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = blockOut i x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  rw [View.canon_unit_zero off3]
  unfold kernelRun0_A.sl.r_42 kernelRun0_A.sl.r_43 kernelRun0_A.sl.r_23
  rw [v394_eq, v683_eq, r_1_eq, load_dLo, load_dHi, load_whole arg10 harg10 x8 off2]
  rfl

end Cert.Ffn

end
-- ==== Proof.Ffn.Spec.lean ====
/- The feed-forward region's mathematics at one position: the normalized row, the up projection, the convolution over three
   positions, the gated product, the down projection and the final normalization, over the extended reals. -/
module

public import Idealize.ShloMosaic.PureOps.Ideal
public import Idealize.ShloMosaic.PureOps.Ideal.Laws

@[expose] public section

noncomputable section

namespace Cert.FfnSpec

open Idealize.ShloMosaic

/-- The factor a row of 1024 entries is normalized by. -/
def rs (x : Fin 1024 → EReal) : EReal :=
  Ideal.rsqrt (Ideal.div (∑ k, x k * x k) (Ideal.ofBits .f32 0x44800000#32) + Ideal.ofBits .f32 0x358637BD#32)

/-- A row normalized and scaled. -/
def norm (g x : Fin 1024 → EReal) (k : Fin 1024) : EReal := x k * rs x * g k

/-- Row `p` of the normalized sequence with one row of zeros before it and one after. -/
def hrow (g : Fin 1024 → EReal) (x : Fin 8192 → Fin 1024 → EReal) (p : ℕ) (k : Fin 1024) : EReal :=
  if h : 1 ≤ p ∧ p ≤ 8192 then norm g (x ⟨p - 1, by omega⟩) k else 0

/-- The up projection of a row. -/
def up (w : Fin 1024 → Fin 5632 → EReal) (h : Fin 1024 → EReal) (n : Fin 5632) : EReal := ∑ k, h k * w k n

/-- The convolution of three consecutive rows. -/
def conv (w : Fin 1024 → Fin 5632 → EReal) (cw : Fin 3 → Fin 5632 → EReal) (cb : Fin 5632 → EReal) (h0 h1 h2 : Fin 1024 → EReal)
    (n : Fin 5632) : EReal :=
  up w h0 n * cw 0 n + up w h1 n * cw 1 n + up w h2 n * cw 2 n + cb n

/-- The gated product: the first 2816 columns are the gate. -/
def act (c : Fin 5632 → EReal) (n : Fin 2816) : EReal :=
  c ⟨n.val, by omega⟩ * Ideal.logistic (c ⟨n.val, by omega⟩) * c ⟨2816 + n.val, by omega⟩

/-- The row before the final normalization, from the row itself and the three normalized rows around it. -/
def pre (w : Fin 1024 → Fin 5632 → EReal) (cw : Fin 3 → Fin 5632 → EReal) (cb : Fin 5632 → EReal)
    (wd : Fin 2816 → Fin 1024 → EReal) (x h0 h1 h2 : Fin 1024 → EReal) (k : Fin 1024) : EReal :=
  x k + ∑ n, act (conv w cw cb h0 h1 h2) n * wd n k

/-- The region at position `p` and column `k`. -/
def out (g : Fin 1024 → EReal) (w : Fin 1024 → Fin 5632 → EReal) (cw : Fin 3 → Fin 5632 → EReal) (cb : Fin 5632 → EReal)
    (wd : Fin 2816 → Fin 1024 → EReal) (gf : Fin 1024 → EReal) (x : Fin 8192 → Fin 1024 → EReal) (p : Fin 8192) (k : Fin 1024) : EReal :=
  norm gf (pre w cw cb wd (x p) (hrow g x p.val) (hrow g x (p.val + 1)) (hrow g x (p.val + 2))) k

/-- The up projection of a row of zeros. -/
theorem up_zero (w : Fin 1024 → Fin 5632 → EReal) (h : Fin 1024 → EReal) (hh : ∀ k, h k = 0) (n : Fin 5632) : up w h n = 0 :=
  Finset.sum_eq_zero fun k _ => by rw [hh, zero_mul]

end Cert.FfnSpec

end
-- ==== Proof.Ffn.Rows.lean ====
/- One step of the feed-forward region over the extended reals, read at a row and a column. -/
module

public import proofs.«01_k».proof.Proof.Ffn.Region
public import proofs.«01_k».proof.Proof.Ffn.Spec
public import Idealize.ShloMosaic.Lib.KernelVsHost
public import Idealize.ShloMosaic.Lib.ValueLayout
public import Idealize.ShloMosaic.Lib.ValueLayoutCasts
public import Idealize.ShloMosaic.Lib.IdealHost
public import Idealize.ShloMosaic.Lib.MatmulPlain
public import Idealize.ShloMosaic.PureOps.Ideal.Laws

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx Cert.FfnSpec

/-- A normalization of `R` rows, read at a row and a column. -/
theorem norm_apply {R : ℕ} (x : FVec Ideal ⟨2, ![R, 1024]⟩ .f32) (g : FVec Ideal ⟨2, ![1, 1024]⟩ .f32)
    (hr : (⟨2, ![R, 1024]⟩ : Shape).Reduces [1] ⟨1, ![R]⟩) (hsc : (⟨1, ![R]⟩ : Shape).ShapeCasts ⟨2, ![R, 1]⟩)
    (hb : (⟨2, ![R, 1]⟩ : Shape).Broadcasts ⟨2, ![R, 1024]⟩) (hg : (⟨2, ![1, 1024]⟩ : Shape).Broadcasts ⟨2, ![R, 1024]⟩)
    (r : Fin R) (k : Fin 1024) :
    (mulf (mulf x (broadcastTo ⟨2, ![R, 1024]⟩ (rsqrt (addf (divf (shapeCast ⟨2, ![R, 1]⟩
      (multiReduction .add [1] ⟨1, ![R]⟩ (mulf x x) 0x00000000#32 hr (.inl rfl) rfl) hsc)
      (broadcast ⟨2, ![R, 1]⟩ (Scalar.ofBits .f32 0x44800000#32))) (broadcast ⟨2, ![R, 1]⟩ (Scalar.ofBits .f32 0x358637BD#32)))) hb))
      (broadcastTo ⟨2, ![R, 1024]⟩ g hg) (ix2 r k) : EReal)
      = norm (fun k => g (ix2 0 k)) (fun k => x (ix2 r k)) k := by
  have hR : R = 1 → r.val = 0 := fun h => by have := r.isLt; omega
  rw [mulf_apply, mulf_apply]
  refine congrArg₂ (· * ·) (congrArg₂ (· * ·) rfl ?_) ?_
  · refine (broadcastTo_apply _ hb (ix2 r k) (ix2 r 0) fun a => ?_).trans ?_
    · match a with
      | ⟨0, _⟩ =>
        show r.val = if R = 1 then 0 else r.val
        split
        · exact hR ‹_›
        · rfl
      | ⟨1, _⟩ => rfl
    refine congrArg (fun z => Ideal.rsqrt (Ideal.div z _ + _)) ?_
    rw [shapeCast_a_a1_apply]
    refine (Ideal.multiReduction_add_single _ _ _ _ _ _).trans ?_
    refine Finset.sum_congr rfl fun j _ => ?_
    have e : ∀ y : FVec Ideal ⟨2, ![R, 1024]⟩ .f32, y (hr.lift (ix1 r) j) = y (ix2 r j) := fun y => congrArg y (funext fun a => by
      match a with | ⟨0, _⟩ => rfl | ⟨1, _⟩ => rfl)
    exact e _
  · exact broadcastTo_apply _ hg (ix2 r k) (ix2 0 k) fun a => by match a with | ⟨0, _⟩ => rfl | ⟨1, _⟩ => rfl

variable (i : grid0.Coords) (x0 : FVec Ideal S1x1024x1024 .f32) (x1 x2 : FVec Ideal S1x8x1024 .f32) (x3 : FVec Ideal S1x1024 .f32)
variable (x4 : FVec Ideal S1024x5632 .bf16) (x5 : FVec Ideal S3x5632 .f32) (x6 : FVec Ideal S1x5632 .f32)
variable (x7 : FVec Ideal S2816x1024 .bf16) (x8 : FVec Ideal S1x1024 .f32)

theorem pay2_eq (x : FVec Ideal S1x1024 .f32) : k0_pay2 (F := Ideal) x = x := shapeCast_self x _

theorem pay59_eq (x : FVec Ideal S1x1024 .f32) : k0_pay59 (F := Ideal) x = x := shapeCast_self x _

theorem pay3_apply (r k : Fin 1024) : k0_pay3 (F := Ideal) x0 (ix2 r k) = x0 (ix3 0 r k) := shapeCast_1ab_ab_apply _ _ _ _

/-- A grid point is not the first of its row, as the step tests it. -/
theorem sgt_zero : ∀ n : Fin 8, Scalar.cmpi .sgt (BitVec.ofNat 32 n.val) 0#32 = if 0 < n.val then 1#1 else 0#1 := by decide

/-- A grid point is not the last of its row, as the step tests it. -/
theorem slt_seven : ∀ n : Fin 8, Scalar.cmpi .slt (BitVec.ofNat 32 n.val) 7#32 = if n.val < 7 then 1#1 else 0#1 := by decide

/-- The normalized rows before the block: zero for the first block. -/
theorem before_apply (e : Fin 8) (k : Fin 1024) : (k0_pay4 (F := Ideal) i x3 x1 (ix2 e k) : EReal)
    = if 0 < (i 1).val then norm (fun k => x3 (ix2 0 k)) (fun k => x1 (ix3 0 e k)) k else 0 := by
  unfold k0_pay4
  dsimp only
  have hs := sgt_zero (i 1)
  rw [hs, Scalar.select]
  by_cases h : 0 < (i 1).val
  · rw [if_pos h, if_pos h, if_pos (by decide)]
    rw [pay2_eq]
    refine (norm_apply _ x3 _ _ _ _ e k).trans ?_
    refine congrArg (fun y => norm _ y k) (funext fun j => ?_)
    exact shapeCast_1ab_ab_apply _ _ _ _
  · rw [if_neg h, if_neg h, if_neg (by decide)]
    exact Ideal.ofBits_zero_f32

/-- The normalized rows after the block, before they are chosen. -/
theorem after_apply (e : Fin 8) (k : Fin 1024) : (k0_pay5 (F := Ideal) x3 x2 (ix2 e k) : EReal)
    = norm (fun k => x3 (ix2 0 k)) (fun k => x2 (ix3 0 e k)) k := by
  unfold k0_pay5
  dsimp only
  rw [pay2_eq]
  refine (norm_apply _ x3 _ _ _ _ e k).trans ?_
  refine congrArg (fun y => norm _ y k) (funext fun j => ?_)
  exact shapeCast_1ab_ab_apply _ _ _ _

/-! Three stretches of rows laid one after another. -/

theorem cat_before (A C : S8x1024.Idx → EReal) (B : S1024x1024.Idx → EReal) (h) (e : Fin 8) (k : Fin 1024) :
    concatenate S1040x1024 0 [⟨S8x1024, A⟩, ⟨S1024x1024, B⟩, ⟨S8x1024, C⟩] h (ix2 (⟨e.val, by omega⟩ : Fin 1040) k) = A (ix2 e k) :=
  concatenate_apply_piece (t := S1040x1024) 0 [⟨S8x1024, A⟩, ⟨S1024x1024, B⟩, ⟨S8x1024, C⟩] h _ 0 (Nat.zero_lt_succ _) S8x1024 A rfl rfl 0 rfl
    (ix2 e k) (fun b hb => by
      match b with
      | ⟨0, _⟩ => exact absurd rfl hb
      | ⟨1, _⟩ => rfl) (by show 0 + e.val = e.val; omega)

theorem cat_mid (A C : S8x1024.Idx → EReal) (B : S1024x1024.Idx → EReal) (h) (r k : Fin 1024) :
    concatenate S1040x1024 0 [⟨S8x1024, A⟩, ⟨S1024x1024, B⟩, ⟨S8x1024, C⟩] h (ix2 (⟨8 + r.val, by omega⟩ : Fin 1040) k) = B (ix2 r k) :=
  concatenate_apply_piece (t := S1040x1024) 0 [⟨S8x1024, A⟩, ⟨S1024x1024, B⟩, ⟨S8x1024, C⟩] h _ 1 (by simp) S1024x1024 B rfl rfl 8 rfl
    (ix2 r k) (fun b hb => by
      match b with
      | ⟨0, _⟩ => exact absurd rfl hb
      | ⟨1, _⟩ => rfl) rfl

theorem cat_after (A C : S8x1024.Idx → EReal) (B : S1024x1024.Idx → EReal) (h) (e : Fin 8) (k : Fin 1024) :
    concatenate S1040x1024 0 [⟨S8x1024, A⟩, ⟨S1024x1024, B⟩, ⟨S8x1024, C⟩] h (ix2 (⟨1032 + e.val, by omega⟩ : Fin 1040) k) = C (ix2 e k) :=
  concatenate_apply_piece (t := S1040x1024) 0 [⟨S8x1024, A⟩, ⟨S1024x1024, B⟩, ⟨S8x1024, C⟩] h _ 2 (by simp) S8x1024 C rfl rfl 1032 rfl
    (ix2 e k) (fun b hb => by
      match b with
      | ⟨0, _⟩ => exact absurd rfl hb
      | ⟨1, _⟩ => rfl) rfl

theorem hn_before (e : Fin 8) (k : Fin 1024) : (hnB (F := Ideal) i x0 x1 x2 x3 (ix2 (⟨e.val, by omega⟩ : Fin 1040) k) : EReal)
    = if 0 < (i 1).val then norm (fun k => x3 (ix2 0 k)) (fun k => x1 (ix3 0 e k)) k else 0 := by
  unfold hnB k0_pay7
  dsimp only
  rw [truncf_apply]
  exact (cat_before _ _ _ _ e k).trans (before_apply i x1 x3 e k)

theorem hn_mid (r : Fin 1024) (k : Fin 1024) : (hnB (F := Ideal) i x0 x1 x2 x3 (ix2 (⟨8 + r.val, by omega⟩ : Fin 1040) k) : EReal)
    = norm (fun k => x3 (ix2 0 k)) (fun k => x0 (ix3 0 r k)) k := by
  unfold hnB k0_pay7
  dsimp only
  rw [truncf_apply]
  refine (cat_mid _ _ _ _ r k).trans ?_
  · rw [pay2_eq]
    refine (norm_apply _ x3 _ _ _ _ r k).trans ?_
    refine congrArg (fun y => norm _ y k) (funext fun j => ?_)
    exact pay3_apply x0 r j

theorem hn_after (e : Fin 8) (k : Fin 1024) : (hnB (F := Ideal) i x0 x1 x2 x3 (ix2 (⟨1032 + e.val, by omega⟩ : Fin 1040) k) : EReal)
    = if (i 1).val < 7 then norm (fun k => x3 (ix2 0 k)) (fun k => x2 (ix3 0 e k)) k else 0 := by
  unfold hnB k0_pay7
  dsimp only
  rw [truncf_apply]
  refine (cat_after _ _ _ _ e k).trans ?_
  · have hs := slt_seven (i 1)
    rw [hs, Scalar.select]
    by_cases h : (i 1).val < 7
    · rw [if_pos h, if_pos h, if_pos (by decide)]
      exact after_apply x2 x3 e k
    · rw [if_neg h, if_neg h, if_neg (by decide)]
      exact Ideal.ofBits_zero_f32

/-- The up projection of 256 columns. -/
theorem up_apply (hn : FVec Ideal S1040x1024 .bf16) (lo : ℕ) (e : Fin 1040) (n : Fin 256) :
    (matmul (φ₂ := .bf16) dot_S1040x1024_S1024x256_S1040x256_1_0_0_1_n_n none hn
      (shapeCast S1024x256 (wTile (F := Ideal) x4 lo) shapeCasts_S1024x256_S1024x256) (constant S1040x256 .f32 0x00000000#32) (ix2 e n) : EReal)
      = up (fun k n => x4 (ix2 k n)) (fun k => hn (ix2 e k)) (tcol lo n) := by
  rw [shapeCast_self]
  show FloatOps.matmul (DotDims.plain 1040 1024 256) _ _ _ _ _ = _
  rw [Ideal.matmul_plain_apply, constant_apply, Ideal.ofBits_zero_f32, zero_add]
  rfl

/-- A row of the convolution's weights, spread over the block. -/
theorem row_apply (x : FVec Ideal S3x5632 .f32) (lo : ℕ) (j : Fin 3) (hs : S3x256.Slices ![j.val, 0] S1x256) (r : Fin 1024) (n : Fin 256) :
    (broadcastTo S1024x256 (extractStridedSlice S1x256 ![j.val, 0] (shapeCast S3x256 (cTile (F := Ideal) x lo) shapeCasts_S3x256_S3x256) hs)
      broadcasts_S1x256_S1024x256 (ix2 r n) : EReal) = x (ix2 j (tcol lo n)) := by
  rw [shapeCast_self]
  refine (broadcastTo_apply _ _ (ix2 r n) (ix2 (0 : Fin 1) n) fun a => by match a with | ⟨0, _⟩ => rfl | ⟨1, _⟩ => rfl).trans ?_
  refine (extractStridedSlice_apply _ _ _ (ix2 (0 : Fin 1) n) (ix2 j n) fun a => ?_).trans rfl
  match a with
  | ⟨0, _⟩ => rfl
  | ⟨1, _⟩ => show n.val = 0 + n.val; omega

theorem convT_apply (hn : FVec Ideal S1040x1024 .bf16) (lo : ℕ) (r : Fin 1024) (n : Fin 256) :
    (convT (F := Ideal) hn x4 x5 x6 lo (ix2 r n) : EReal)
      = conv (fun k n => x4 (ix2 k n)) (fun j n => x5 (ix2 j n)) (fun n => x6 (ix2 0 n))
          (fun k => hn (ix2 (⟨7 + r.val, by omega⟩ : Fin 1040) k)) (fun k => hn (ix2 (⟨8 + r.val, by omega⟩ : Fin 1040) k))
          (fun k => hn (ix2 (⟨9 + r.val, by omega⟩ : Fin 1040) k)) (tcol lo n) := by
  have hr := r.isLt
  have hsl : ∀ (U : FVec Ideal S1040x256 .f32) (h) (e : Fin 1040), e.val = 8 + r.val →
      extractStridedSlice S1024x256 ![8, 0] U h (ix2 r n) = U (ix2 e n) := fun U h e he =>
    extractStridedSlice_apply _ _ _ (ix2 r n) (ix2 e n) fun a => by
      match a with
      | ⟨0, _⟩ => exact he
      | ⟨1, _⟩ => show n.val = 0 + n.val; omega
  have hrot : ∀ (U : FVec Ideal S1040x256 .f32) (s : BitVec 32) (h) (e e' : Fin 1040), e'.val = (e.val + 1040 - s.toNat % 1040) % 1040 →
      dynamicRotate 0 s none U h (ix2 e n) = U (ix2 e' n) := fun U s h e e' he =>
    dynamicRotate_apply _ _ _ _ (ix2 e n) (ix2 e' n) fun a => by
      match a with
      | ⟨0, _⟩ => exact he
      | ⟨1, _⟩ => rfl
  unfold convT k0_pay21
  dsimp only
  rw [addf_apply, addf_apply, addf_apply, mulf_apply, mulf_apply, mulf_apply]
  refine congrArg₂ (· + ·) (congrArg₂ (· + ·) (congrArg₂ (· + ·) (congrArg₂ (· * ·) ?_ (row_apply x5 lo 0 _ r n))
    (congrArg₂ (· * ·) ?_ (row_apply x5 lo 1 _ r n))) (congrArg₂ (· * ·) ?_ (row_apply x5 lo 2 _ r n))) ?_
  · refine (hsl _ _ ⟨8 + r.val, by omega⟩ rfl).trans ?_
    refine (hrot _ _ _ _ ⟨7 + r.val, by omega⟩ ?_).trans (up_apply x4 hn lo _ n)
    show 7 + r.val = (8 + r.val + 1040 - 1 % 1040) % 1040
    omega
  · exact (hsl _ _ ⟨8 + r.val, by omega⟩ rfl).trans (up_apply x4 hn lo _ n)
  · refine (hsl _ _ ⟨8 + r.val, by omega⟩ rfl).trans ?_
    refine (hrot _ _ _ _ ⟨9 + r.val, by omega⟩ ?_).trans (up_apply x4 hn lo _ n)
    show 9 + r.val = (8 + r.val + 1040 - 1039 % 1040) % 1040
    omega
  · rw [shapeCast_self]
    exact broadcastTo_apply _ _ (ix2 r n) (ix2 (0 : Fin 1) n) fun a => by match a with | ⟨0, _⟩ => rfl | ⟨1, _⟩ => rfl

/-- The three rows of a step's convolution, and the convolution over all columns. -/
def convR (hn : FVec Ideal S1040x1024 .bf16) (x4 : FVec Ideal S1024x5632 .bf16) (x5 : FVec Ideal S3x5632 .f32)
    (x6 : FVec Ideal S1x5632 .f32) (r : Fin 1024) : Fin 5632 → EReal :=
  conv (fun k n => x4 (ix2 k n)) (fun j n => x5 (ix2 j n)) (fun n => x6 (ix2 0 n))
    (fun k => hn (ix2 (⟨7 + r.val, by omega⟩ : Fin 1040) k)) (fun k => hn (ix2 (⟨8 + r.val, by omega⟩ : Fin 1040) k))
    (fun k => hn (ix2 (⟨9 + r.val, by omega⟩ : Fin 1040) k))

theorem actB_apply (hn : FVec Ideal S1040x1024 .bf16) (r : Fin 1024) (n : Fin 2816) :
    (actB (F := Ideal) hn x4 x5 x6 (ix2 r n) : EReal) = act (convR hn x4 x5 x6 r) n := by
  have hn' := n.isLt
  have e1 : tcol (256 * (n.val / 256)) ⟨n.val % 256, Nat.mod_lt _ (by norm_num)⟩ = ⟨n.val, by omega⟩ := Fin.ext (by
    show (256 * (n.val / 256) + n.val % 256) % 5632 = n.val; omega)
  have e2 : tcol (2816 + 256 * (n.val / 256)) ⟨n.val % 256, Nat.mod_lt _ (by norm_num)⟩ = ⟨2816 + n.val, by omega⟩ := Fin.ext (by
    show (2816 + 256 * (n.val / 256) + n.val % 256) % 5632 = 2816 + n.val; omega)
  have c1 := convT_apply x4 x5 x6 hn (256 * (n.val / 256)) r ⟨n.val % 256, Nat.mod_lt _ (by norm_num)⟩
  have c2 := convT_apply x4 x5 x6 hn (2816 + 256 * (n.val / 256)) r ⟨n.val % 256, Nat.mod_lt _ (by norm_num)⟩
  rw [e1] at c1
  rw [e2] at c2
  show actT (F := Ideal) hn x4 x5 x6 (256 * (n.val / 256)) (ix2 r ⟨n.val % 256, Nat.mod_lt _ (by norm_num)⟩) = _
  unfold actT
  rw [shapeCast_self, truncf_apply]
  rw [mulf_apply, mulf_apply]
  exact congrArg₂ (· * ·) (congrArg₂ (· * ·) c1 (congrArg Ideal.logistic c1)) c2

/-- THE STEP'S BLOCK, read at a row and a column. -/
theorem block_apply (r k : Fin 1024) : (blockOut (F := Ideal) i x0 x1 x2 x3 x4 x5 x6 x7 x8 (ix3 0 r k) : EReal)
    = norm (fun k => x8 (ix2 0 k)) (fun k => x0 (ix3 0 r k) + ∑ n, act (convR (hnB i x0 x1 x2 x3) x4 x5 x6 r) n * x7 (ix2 n k)) k := by
  unfold blockOut k0_pay1
  dsimp only
  rw [shapeCast_ab_1ab_apply, pay59_eq]
  refine (norm_apply _ x8 _ _ _ _ r k).trans ?_
  refine congrArg (fun y => norm _ y k) (funext fun j => ?_)
  unfold k0_pay58 k0_pay33
  dsimp only
  rw [addf_apply, addf_apply]
  refine congrArg₂ (· + ·) (pay3_apply x0 r j) ?_
  refine Eq.trans (congrArg₂ (· + ·) ?_ ?_) (Fin.sum_univ_add (a := 1536) (b := 1280)
    (fun n : Fin (1536 + 1280) => act (convR (hnB i x0 x1 x2 x3) x4 x5 x6 r) n * x7 (ix2 n j))).symm
  · rw [shapeCast_self]
    show FloatOps.matmul (DotDims.plain 1024 1536 1024) _ _ _ _ _ = _
    rw [Ideal.matmul_plain_apply, constant_apply, Ideal.ofBits_zero_f32, zero_add]
    refine Finset.sum_congr rfl fun n _ => ?_
    exact congrArg₂ (· * ·) (actB_apply x4 x5 x6 _ r _) rfl
  · rw [shapeCast_self]
    show FloatOps.matmul (DotDims.plain 1024 1280 1024) _ _ _ _ _ = _
    rw [Ideal.matmul_plain_apply, constant_apply, Ideal.ofBits_zero_f32, zero_add]
    refine Finset.sum_congr rfl fun n _ => ?_
    exact congrArg₂ (· * ·) (actB_apply x4 x5 x6 _ r _) rfl

end Cert.Ffn

end
-- ==== Proof.Ffn.Entry.lean ====
/- The arrays the feed-forward region finds: the host's reshaping and truncation of the weights and scales, read at an index. -/
module

public import proofs.«01_k».proof.Proof.Gen.Kernel2Ideal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx

/-! Reshapes that drop or add a leading axis of size one. -/

theorem cast_g (v : FVec Ideal S1x1024 .f32) (k : Fin 1024) :
    (shapeCast S1x1024 (shapeCast S1024 v shapeCasts_S1x1024_S1024) shapeCasts_S1024_S1x1024 (ix2 (0 : Fin 1) k) : EReal)
      = v (ix2 (0 : Fin 1) k) := by
  refine (shapeCast_apply _ shapeCasts_S1024_S1x1024 (ix2 (0 : Fin 1) k) (ix1 k) ?_).trans
    (shapeCast_apply v shapeCasts_S1x1024_S1024 (ix1 k) (ix2 (0 : Fin 1) k) ?_)
  · rw [Shape.rowMajor_val_two, Shape.rowMajor_val_one]
    show k.val = 0 * 1024 + k.val
    omega
  · rw [Shape.rowMajor_val_two, Shape.rowMajor_val_one]
    show 0 * 1024 + k.val = k.val
    omega

theorem cast_b (v : FVec Ideal S1x5632 .f32) (n : Fin 5632) :
    (shapeCast S1x5632 (shapeCast S5632 v shapeCasts_S1x5632_S5632) shapeCasts_S5632_S1x5632 (ix2 (0 : Fin 1) n) : EReal)
      = v (ix2 (0 : Fin 1) n) := by
  refine (shapeCast_apply _ shapeCasts_S5632_S1x5632 (ix2 (0 : Fin 1) n) (ix1 n) ?_).trans
    (shapeCast_apply v shapeCasts_S1x5632_S5632 (ix1 n) (ix2 (0 : Fin 1) n) ?_)
  · rw [Shape.rowMajor_val_two, Shape.rowMajor_val_one]
    show n.val = 0 * 5632 + n.val
    omega
  · rw [Shape.rowMajor_val_two, Shape.rowMajor_val_one]
    show 0 * 5632 + n.val = n.val
    omega

theorem cast_f (v : FVec Ideal S1024 .f32) (k : Fin 1024) :
    (shapeCast S1x1024 v shapeCasts_S1024_S1x1024 (ix2 (0 : Fin 1) k) : EReal) = v (ix1 k) := by
  refine shapeCast_apply _ shapeCasts_S1024_S1x1024 (ix2 (0 : Fin 1) k) (ix1 k) ?_
  rw [Shape.rowMajor_val_two, Shape.rowMajor_val_one]
  show k.val = 0 * 1024 + k.val
  omega

theorem cast_w (v : FVec Ideal S1x1024x5632 .f32) (k : Fin 1024) (n : Fin 5632) :
    (shapeCast S1024x5632 v shapeCasts_S1x1024x5632_S1024x5632 (ix2 k n) : EReal) = v (ix3 (0 : Fin 1) k n) := by
  refine shapeCast_apply _ shapeCasts_S1x1024x5632_S1024x5632 (ix2 k n) (ix3 (0 : Fin 1) k n) ?_
  rw [Shape.rowMajor_val_three, Shape.rowMajor_val_two]
  show (0 * 1024 + k.val) * 5632 + n.val = k.val * 5632 + n.val
  omega

theorem cast_c (v : FVec Ideal S1x3x5632 .f32) (j : Fin 3) (n : Fin 5632) :
    (shapeCast S3x5632 v shapeCasts_S1x3x5632_S3x5632 (ix2 j n) : EReal) = v (ix3 (0 : Fin 1) j n) := by
  refine shapeCast_apply _ shapeCasts_S1x3x5632_S3x5632 (ix2 j n) (ix3 (0 : Fin 1) j n) ?_
  rw [Shape.rowMajor_val_three, Shape.rowMajor_val_two]
  show (0 * 3 + j.val) * 5632 + n.val = j.val * 5632 + n.val
  omega

theorem cast_d (v : FVec Ideal S1x2816x1024 .f32) (n : Fin 2816) (k : Fin 1024) :
    (shapeCast S2816x1024 v shapeCasts_S1x2816x1024_S2816x1024 (ix2 n k) : EReal) = v (ix3 (0 : Fin 1) n k) := by
  refine shapeCast_apply _ shapeCasts_S1x2816x1024_S2816x1024 (ix2 n k) (ix3 (0 : Fin 1) n k) ?_
  rw [Shape.rowMajor_val_three, Shape.rowMajor_val_two]
  show (0 * 2816 + n.val) * 1024 + k.val = n.val * 1024 + k.val
  omega

variable (m : (ℓ : Loc nD τ sig) → Buf (Elt Ideal) ℓ)

/-- The scale of the first normalization. -/
theorem V_g (c : Dev nD) : V m c main_v1
    = shapeCast S1x1024 (shapeCast S1024 (m ((c : Thread nD τ).loc main_arg1) : FVec Ideal S1x1024 .f32) shapeCasts_S1x1024_S1024)
      shapeCasts_S1024_S1x1024 := by
  simp only [V, hostOps0]
  after_results_simp
  rfl

/-- The up projection's weights. -/
theorem V_w (c : Dev nD) : V m c main_v3
    = (truncf (F := Ideal) (φ := .f32) .bf16 (shapeCast S1024x5632 (m ((c : Thread nD τ).loc main_arg2) : FVec Ideal S1x1024x5632 .f32)
      shapeCasts_S1x1024x5632_S1024x5632) bitsLt_bf16_f32 : FVec Ideal S1024x5632 .bf16) := by
  simp only [V, hostOps0]
  after_results_simp
  rfl

/-- The convolution's weights. -/
theorem V_c (c : Dev nD) : V m c main_v4
    = shapeCast S3x5632 (m ((c : Thread nD τ).loc main_arg3) : FVec Ideal S1x3x5632 .f32) shapeCasts_S1x3x5632_S3x5632 := by
  simp only [V, hostOps0]
  after_results_simp
  rfl

/-- The convolution's bias. -/
theorem V_b (c : Dev nD) : V m c main_v6
    = shapeCast S1x5632 (shapeCast S5632 (m ((c : Thread nD τ).loc main_arg4) : FVec Ideal S1x5632 .f32) shapeCasts_S1x5632_S5632)
      shapeCasts_S5632_S1x5632 := by
  simp only [V, hostOps0]
  after_results_simp
  rfl

/-- The down projection's weights. -/
theorem V_d (c : Dev nD) : V m c main_v8
    = (truncf (F := Ideal) (φ := .f32) .bf16 (shapeCast S2816x1024 (m ((c : Thread nD τ).loc main_arg5) : FVec Ideal S1x2816x1024 .f32)
      shapeCasts_S1x2816x1024_S2816x1024) bitsLt_bf16_f32 : FVec Ideal S2816x1024 .bf16) := by
  simp only [V, hostOps0]
  after_results_simp
  rfl

/-- The scale of the last normalization. -/
theorem V_f (c : Dev nD) : V m c main_v9
    = shapeCast S1x1024 (m ((c : Thread nD τ).loc main_arg6) : FVec Ideal S1024 .f32) shapeCasts_S1024_S1x1024 := by
  simp only [V, hostOps0]
  after_results_simp
  rfl

end Cert.Ffn

end
-- ==== Proof.Ffn.Ref.lean ====
/- The reference feed-forward region read at a batch, position and column: the padded convolution of the projected rows is
   the convolution of the projected padded rows, since a row of zeros projects to zeros. -/
module

public import proofs.«01_k».proof.Proof.Ffn.Spec
public import proofs.«01_k».proof.Proof.Gen.Reference2Ideal.Read
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.Ffn

open Idealize.ShloMosaic Idealize.ShloMosaic.TcCoe
open Idealize.ShloMosaic.ValueIdx
open Cert.FfnSpec
open Cert.Reference2Ideal Cert.Reference2Ideal.Read

variable (x0 : (⟨(⟨3, ![4, 8192, 1024]⟩ : Shape), .f32⟩ : BufTy).Contents (Elt Ideal))
  (x1 : (⟨(⟨2, ![1, 1024]⟩ : Shape), .f32⟩ : BufTy).Contents (Elt Ideal))
  (x2 : (⟨(⟨3, ![1, 1024, 5632]⟩ : Shape), .f32⟩ : BufTy).Contents (Elt Ideal))
  (x3 : (⟨(⟨3, ![1, 3, 5632]⟩ : Shape), .f32⟩ : BufTy).Contents (Elt Ideal))
  (x4 : (⟨(⟨2, ![1, 5632]⟩ : Shape), .f32⟩ : BufTy).Contents (Elt Ideal))
  (x5 : (⟨(⟨3, ![1, 2816, 1024]⟩ : Shape), .f32⟩ : BufTy).Contents (Elt Ideal))
  (x6 : (⟨(⟨1, ![1024]⟩ : Shape), .f32⟩ : BufTy).Contents (Elt Ideal))

/-- The rows, weights and scales of the region, read from its arguments. -/
abbrev aX (b : Fin 4) (p : Fin 8192) (k : Fin 1024) : EReal := x0 (ix3 b p k)
abbrev aG (k : Fin 1024) : EReal := x1 (ix2 (0 : Fin 1) k)
abbrev aW (k : Fin 1024) (n : Fin 5632) : EReal := x2 (ix3 (0 : Fin 1) k n)
abbrev aC (j : Fin 3) (n : Fin 5632) : EReal := x3 (ix3 (0 : Fin 1) j n)
abbrev aB (n : Fin 5632) : EReal := x4 (ix2 (0 : Fin 1) n)
abbrev aD (n : Fin 2816) (k : Fin 1024) : EReal := x5 (ix3 (0 : Fin 1) n k)
abbrev aF (k : Fin 1024) : EReal := x6 (ix1 k)

theorem ref_rs (b : Fin 4) (p : Fin 8192) (k : Fin 1024) :
    (val_main_v9 (F := Ideal) x0 (ix3 b p k) : EReal) = rs (aX x0 b p) := by
  rw [val_main_v9_apply, val_main_v8_apply, val_main_v7_apply, val_main_v5_apply, val_main_v3_apply, val_main_v2_apply,
    val_main_v4_apply, val_main_v6_apply, val_main_cst_apply, val_main_cst_0_apply, val_main_cst_1_apply]
  refine congrArg (fun z : EReal => Ideal.rsqrt (Ideal.div z _ + _)) ?_
  refine (congrArg (· + _) Ideal.ofBits_zero_f32).trans ((zero_add _).trans ?_)
  refine Finset.sum_congr rfl fun q _ => ?_
  rw [val_main_v1_apply]
  have e : idx_main_v2 (idx_main_v3 (idx_main_v9 (ix3 b p k))) q = ix3 b p q := funext fun a => Fin.ext (by
    match a with
    | ⟨0, _⟩ => rfl
    | ⟨1, _⟩ => rfl
    | ⟨2, _⟩ => rfl)
  rw [e]
  rfl

theorem ref_norm (b : Fin 4) (p : Fin 8192) (k : Fin 1024) :
    (val_main_v13 (F := Ideal) x0 x1 (ix3 b p k) : EReal) = norm (aG x1) (aX x0 b p) k := by
  rw [val_main_v13_apply, val_main_v10_apply, val_main_v12_apply, val_main_v11_apply, val_main_v0_apply, ref_rs]
  have e : idx_main_v0 (idx_main_v11 (idx_main_v12 (ix3 b p k))) = ix2 (0 : Fin 1) k := funext fun a => Fin.ext (by
    match a with
    | ⟨0, _⟩ => rfl
    | ⟨1, _⟩ => show k.val % 1024 = k.val; omega)
  rw [e]
  rfl

theorem ref_up (b : Fin 4) (p : Fin 8192) (n : Fin 5632) :
    (val_main_v15 (F := Ideal) x0 x1 x2 (ix3 b p n) : EReal) = up (aW x2) (norm (aG x1) (aX x0 b p)) n := by
  rw [val_main_v15_apply]
  refine Finset.sum_congr rfl fun q _ => ?_
  have e : lidx_main_v15 (ix3 b p n) q = ix3 b p q := funext fun a => Fin.ext (by
    match a with
    | ⟨0, _⟩ => rfl
    | ⟨1, _⟩ => rfl
    | ⟨2, _⟩ => rfl)
  have e' : idx_main_v14 (ridx_main_v15 (ix3 b p n) q) = ix3 (0 : Fin 1) q n := funext fun a => Fin.ext (by
    match a with
    | ⟨0, _⟩ => rfl
    | ⟨1, _⟩ => show (q.val * 5632 + n.val) / 5632 % 1024 = q.val; omega
    | ⟨2, _⟩ => show (q.val * 5632 + n.val) % 5632 = n.val; omega)
  rw [e, ref_norm, val_main_v14_apply, e']

/-- The padded projection at a padded row. -/
theorem ref_pad (b : Fin 4) (p : Fin 8194) (n : Fin 5632) :
    (val_main_v18 (F := Ideal) x0 x1 x2 (ix3 b p n) : EReal) = up (aW x2) (hrow (aG x1) (aX x0 b) p.val) n := by
  unfold val_main_v18
  by_cases hp : 1 ≤ p.val ∧ p.val ≤ 8192
  · refine (pad_apply_of_inside ![0, 1, 0] ![0, 1, 0] ![0, 0, 0] _ _ _ _ (ix3 b p n)
      (ix3 b (⟨p.val - 1, by omega⟩ : Fin 8192) n) (fun a => ?_)).trans ?_
    · match a with
      | ⟨0, _⟩ => show b.val = 0 + b.val * 1; omega
      | ⟨1, _⟩ => show p.val = 1 + (p.val - 1) * 1; omega
      | ⟨2, _⟩ => show n.val = 0 + n.val * 1; omega
    · rw [ref_up]
      refine congrArg (fun h => up (aW x2) h n) (funext fun k => ?_)
      unfold hrow
      rw [dif_pos hp]
  · refine (pad_apply_of_not_inside ![0, 1, 0] ![0, 1, 0] ![0, 0, 0] _ _ _ _ (ix3 b p n) (1 : Fin S4x8192x5632.rank) ?_).trans ?_
    · show ¬(1 ≤ p.val ∧ (p.val - 1) % 1 = 0 ∧ (p.val - 1) / 1 < 8192)
      have := p.isLt
      omega
    · rw [up_zero _ _ (fun k => by unfold hrow; rw [dif_neg hp])]
      rw [val_main_call0_v0_apply, val_main_c_apply]
      show ((((0#32 : BitVec 32).toInt : ℝ)) : EReal) = 0
      simp

theorem ref_tap0 (b : Fin 4) (p : Fin 8192) (n : Fin 5632) :
    (val_main_v23 (F := Ideal) x3 (ix3 b p n) : EReal) = aC x3 0 n := by
  rw [val_main_v23_apply, val_main_v22_apply, val_main_v21_apply, val_main_v20_apply, val_main_v16_apply]
  refine congrArg x3 (funext fun a => Fin.ext ?_)
  match a with
  | ⟨0, _⟩ => rfl
  | ⟨1, _⟩ => show (0 * 5632 + n.val % 5632) / 5632 % 3 = 0; omega
  | ⟨2, _⟩ => show (0 * 5632 + n.val % 5632) % 5632 = n.val; omega

theorem ref_tap1 (b : Fin 4) (p : Fin 8192) (n : Fin 5632) :
    (val_main_v31 (F := Ideal) x3 (ix3 b p n) : EReal) = aC x3 1 n := by
  rw [val_main_v31_apply, val_main_v30_apply, val_main_v29_apply, val_main_v28_apply, val_main_v16_apply]
  refine congrArg x3 (funext fun a => Fin.ext ?_)
  match a with
  | ⟨0, _⟩ => rfl
  | ⟨1, _⟩ => show ((1 + 0) * 5632 + n.val % 5632) / 5632 % 3 = 1; omega
  | ⟨2, _⟩ => show ((1 + 0) * 5632 + n.val % 5632) % 5632 = n.val; omega

theorem ref_tap2 (b : Fin 4) (p : Fin 8192) (n : Fin 5632) :
    (val_main_v38 (F := Ideal) x3 (ix3 b p n) : EReal) = aC x3 2 n := by
  rw [val_main_v38_apply, val_main_v37_apply, val_main_v36_apply, val_main_v35_apply, val_main_v16_apply]
  refine congrArg x3 (funext fun a => Fin.ext ?_)
  match a with
  | ⟨0, _⟩ => rfl
  | ⟨1, _⟩ => show ((2 + 0) * 5632 + n.val % 5632) / 5632 % 3 = 2; omega
  | ⟨2, _⟩ => show ((2 + 0) * 5632 + n.val % 5632) % 5632 = n.val; omega

theorem ref_bias (b : Fin 4) (p : Fin 8192) (n : Fin 5632) :
    (val_main_v42 (F := Ideal) x4 (ix3 b p n) : EReal) = aB x4 n := by
  rw [val_main_v42_apply, val_main_v41_apply, val_main_v17_apply]
  refine congrArg x4 (funext fun a => Fin.ext ?_)
  match a with
  | ⟨0, _⟩ => rfl
  | ⟨1, _⟩ => show n.val % 5632 = n.val; omega

/-- The reference's convolution at a position. -/
abbrev rConv (b : Fin 4) (p : Fin 8192) : Fin 5632 → EReal :=
  conv (aW x2) (aC x3) (aB x4) (hrow (aG x1) (aX x0 b) p.val) (hrow (aG x1) (aX x0 b) (p.val + 1)) (hrow (aG x1) (aX x0 b) (p.val + 2))

theorem ref_conv (b : Fin 4) (p : Fin 8192) (n : Fin 5632) :
    (val_main_v43 (F := Ideal) x0 x1 x2 x3 x4 (ix3 b p n) : EReal) = rConv x0 x1 x2 x3 x4 b p n := by
  rw [val_main_v43_apply, val_main_v40_apply, val_main_v33_apply, val_main_v26_apply, val_main_v24_apply, val_main_v32_apply,
    val_main_v39_apply, ref_tap0, ref_tap1, ref_tap2, ref_bias, val_main_v25_apply, val_main_cst_2_apply,
    val_main_v19_apply, val_main_v27_apply, val_main_v34_apply]
  have e0 : idx_main_v19 (ix3 b p n) = ix3 b (⟨p.val, by omega⟩ : Fin 8194) n := funext fun a => Fin.ext (by
    match a with
    | ⟨0, _⟩ => rfl
    | ⟨1, _⟩ => rfl
    | ⟨2, _⟩ => rfl)
  have e1 : idx_main_v27 (ix3 b p n) = ix3 b (⟨p.val + 1, by omega⟩ : Fin 8194) n := funext fun a => Fin.ext (by
    match a with
    | ⟨0, _⟩ => rfl
    | ⟨1, _⟩ => show 1 + p.val = p.val + 1; omega
    | ⟨2, _⟩ => rfl)
  have e2 : idx_main_v34 (ix3 b p n) = ix3 b (⟨p.val + 2, by omega⟩ : Fin 8194) n := funext fun a => Fin.ext (by
    match a with
    | ⟨0, _⟩ => rfl
    | ⟨1, _⟩ => show 2 + p.val = p.val + 2; omega
    | ⟨2, _⟩ => rfl)
  rw [e0, e1, e2, ref_pad, ref_pad, ref_pad]
  refine congrArg (fun z : EReal => z + _ + _ + _) ?_
  exact (congrArg (· + _) Ideal.ofBits_zero_f32).trans (zero_add _)

theorem ref_act (b : Fin 4) (p : Fin 8192) (n : Fin 2816) :
    (val_main_v47 (F := Ideal) x0 x1 x2 x3 x4 (ix3 b p n) : EReal) = act (rConv x0 x1 x2 x3 x4 b p) n := by
  rw [val_main_v47_apply, val_main_v46_apply, val_main_call1_v5_apply, val_main_call1_v3_apply, val_main_call1_v1_apply,
    val_main_call1_v0_apply, val_main_call1_v4_apply, val_main_call1_v2_apply, val_main_call1_cst_apply,
    val_main_call1_cst_0_apply, val_main_v44_apply, val_main_v45_apply]
  have e0 : idx_main_v44 (ix3 b p n) = ix3 b p (⟨n.val, by omega⟩ : Fin 5632) := funext fun a => Fin.ext (by
    match a with
    | ⟨0, _⟩ => rfl
    | ⟨1, _⟩ => rfl
    | ⟨2, _⟩ => rfl)
  have e1 : idx_main_v45 (ix3 b p n) = ix3 b p (⟨2816 + n.val, by omega⟩ : Fin 5632) := funext fun a => Fin.ext (by
    match a with
    | ⟨0, _⟩ => rfl
    | ⟨1, _⟩ => rfl
    | ⟨2, _⟩ => rfl)
  rw [e0, e1, ref_conv, ref_conv]
  unfold act
  generalize rConv x0 x1 x2 x3 x4 b p _ = c
  generalize rConv x0 x1 x2 x3 x4 b p _ = d
  refine congrArg (fun z : EReal => c * z * d) ?_
  show Ideal.div (Ideal.ofBits .f32 0x3F800000#32) (Ideal.ofBits .f32 0x3F800000#32 + Ideal.exp (-c)) = Ideal.logistic c
  rw [Ideal.ofBits_one_f32]
  rfl

/-- The reference's row before its last normalization. -/
abbrev rPre (b : Fin 4) (p : Fin 8192) : Fin 1024 → EReal :=
  pre (aW x2) (aC x3) (aB x4) (aD x5) (aX x0 b p) (hrow (aG x1) (aX x0 b) p.val) (hrow (aG x1) (aX x0 b) (p.val + 1))
    (hrow (aG x1) (aX x0 b) (p.val + 2))

theorem ref_pre (b : Fin 4) (p : Fin 8192) (k : Fin 1024) :
    (val_main_v50 (F := Ideal) x0 x1 x2 x3 x4 x5 (ix3 b p k) : EReal) = rPre x0 x1 x2 x3 x4 x5 b p k := by
  rw [val_main_v50_apply, val_main_v49_apply]
  refine congrArg (fun z : EReal => x0 (ix3 b p k) + z) (Finset.sum_congr rfl fun q _ => ?_)
  have e : lidx_main_v49 (ix3 b p k) q = ix3 b p q := funext fun a => Fin.ext (by
    match a with
    | ⟨0, _⟩ => rfl
    | ⟨1, _⟩ => rfl
    | ⟨2, _⟩ => rfl)
  have e' : idx_main_v48 (ridx_main_v49 (ix3 b p k) q) = ix3 (0 : Fin 1) q k := funext fun a => Fin.ext (by
    match a with
    | ⟨0, _⟩ => rfl
    | ⟨1, _⟩ => show (q.val * 1024 + k.val) / 1024 % 2816 = q.val; omega
    | ⟨2, _⟩ => show (q.val * 1024 + k.val) % 1024 = k.val; omega)
  rw [e, ref_act, val_main_v48_apply, e']

/-- The reference at a batch, position and column. -/
theorem ref_out (b : Fin 4) (p : Fin 8192) (k : Fin 1024) :
    (val_main_v63 (F := Ideal) x0 x1 x2 x3 x4 x5 x6 (ix3 b p k) : EReal) =
      out (aG x1) (aW x2) (aC x3) (aB x4) (aD x5) (aF x6) (aX x0 b) p k := by
  rw [val_main_v63_apply, val_main_v60_apply, val_main_v62_apply, val_main_v61_apply, val_main_v59_apply, val_main_v58_apply,
    val_main_v57_apply, val_main_v55_apply, val_main_v53_apply, val_main_v52_apply,
    val_main_v54_apply, val_main_v56_apply, val_main_cst_3_apply, val_main_cst_4_apply, val_main_cst_5_apply, ref_pre]
  have e6 : idx_main_v61 (idx_main_v62 (ix3 b p k)) = ix1 k := funext fun a => Fin.ext (by
    match a with
    | ⟨0, _⟩ => rfl)
  rw [e6]
  refine congrArg (fun z : EReal => rPre x0 x1 x2 x3 x4 x5 b p k * Ideal.rsqrt (Ideal.div z _ + _) * x6 (ix1 k)) ?_
  refine (congrArg (· + _) Ideal.ofBits_zero_f32).trans ((zero_add _).trans ?_)
  refine Finset.sum_congr rfl fun q _ => ?_
  rw [val_main_v51_apply]
  have e : idx_main_v52 (idx_main_v53 (idx_main_v59 (ix3 b p k))) q = ix3 b p q := funext fun a => Fin.ext (by
    match a with
    | ⟨0, _⟩ => rfl
    | ⟨1, _⟩ => rfl
    | ⟨2, _⟩ => rfl)
  rw [e, ref_pre]
  rfl

end Cert.Ffn

end
-- ==== Proof.Ffn.Array.lean ====
/- The feed-forward kernel's whole result: the array the launch leaves is the reference's. -/
module

public import proofs.«01_k».proof.Proof.Ffn.Rows
public import proofs.«01_k».proof.Proof.Ffn.Entry
public import proofs.«01_k».proof.Proof.Ffn.Ref
public import proofs.«01_k».proof.Proof.Gen.Kernel2Ideal.Value
public import Idealize.ShloMosaic.Lib.Pipeline.ValueKit.Geometry
public import Idealize.ShloMosaic.Lib.Pipeline.Covers

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx Idealize.ShloMosaic.Pipeline
open Cert.FfnSpec

variable (m : (ℓ : Loc nD τ sig) → Buf (Elt Ideal) ℓ)

/-- The batch and block of a grid point. -/
abbrev pb (t : Fin cfg0.N) : Fin 4 := grid0.coords t 0
abbrev pi (t : Fin cfg0.N) : Fin 8 := grid0.coords t 1

/-- Row `r` of a grid point's block among the 8192 positions. -/
def prow (t : Fin cfg0.N) (r : Fin 1024) : Fin 8192 := ⟨1024 * (pi t).val + r.val, by have := (pi t).isLt; omega⟩

theorem toNat_small (n : ℕ) (h : n < 2 ^ 32) : (BitVec.ofNat 32 n).toNat = n := by
  rw [BitVec.toNat_ofNat]; exact Nat.mod_eq_of_lt h

theorem coord_b (t : Fin cfg0.N) : (BitVec.ofNat 32 (grid0.coords t 0).val).toNat = (pb t).val :=
  toNat_small _ (lt_trans (pb t).isLt (by norm_num))
theorem coord_i (t : Fin cfg0.N) : (BitVec.ofNat 32 (grid0.coords t 1).val).toNat = (pi t).val :=
  toNat_small _ (lt_trans (pi t).isLt (by norm_num))

/-- The block of eight rows before a grid point's block, and the one after it. -/
theorem prev_word : ∀ j : Fin 8,
    (Scalar.maxsi (Scalar.subi (Scalar.muli (BitVec.ofNat 32 j.val) 128#32) 1#32) 0#32).toNat = 128 * j.val - 1 := by decide
theorem next_word : ∀ j : Fin 8,
    (Scalar.minsi (Scalar.muli (Scalar.addi (BitVec.ofNat 32 j.val) 1#32) 128#32) 1023#32).toNat = min (128 * (j.val + 1)) 1023 := by
  decide

theorem tr0 (t : Fin cfg0.N) : cc0_transform_0 (grid0.coords t) = ![(pb t).val, (pi t).val, 0] := by
  unfold cc0_transform_0
  dsimp only
  rw [coord_b, coord_i]
  rfl

theorem tr1 (t : Fin cfg0.N) : cc0_transform_1 (grid0.coords t) = ![(pb t).val, 128 * (pi t).val - 1, 0] := by
  unfold cc0_transform_1
  dsimp only
  rw [coord_b]
  exact congrArg (fun n : ℕ => ![(pb t).val, n, 0]) (prev_word (pi t))

theorem tr2 (t : Fin cfg0.N) : cc0_transform_2 (grid0.coords t) = ![(pb t).val, min (128 * ((pi t).val + 1)) 1023, 0] := by
  unfold cc0_transform_2
  dsimp only
  rw [coord_b]
  exact congrArg (fun n : ℕ => ![(pb t).val, n, 0]) (next_word (pi t))

theorem tr3 (t : Fin cfg0.N) : cc0_transform_3 (grid0.coords t) = ![0, 0] := rfl
theorem tr4 (t : Fin cfg0.N) : cc0_transform_4 (grid0.coords t) = ![0, 0] := rfl
theorem tr5 (t : Fin cfg0.N) : cc0_transform_5 (grid0.coords t) = ![0, 0] := rfl
theorem tr6 (t : Fin cfg0.N) : cc0_transform_6 (grid0.coords t) = ![0, 0] := rfl
theorem tr7 (t : Fin cfg0.N) : cc0_transform_7 (grid0.coords t) = ![0, 0] := rfl
theorem tr8 (t : Fin cfg0.N) : cc0_transform_8 (grid0.coords t) = ![0, 0] := rfl

theorem tr9 (t : Fin cfg0.N) : cc0_transform_9 (grid0.coords t) = ![(pb t).val, (pi t).val, 0] := by
  unfold cc0_transform_9
  dsimp only
  rw [coord_b, coord_i]
  rfl

/-- A block of rows. -/
theorem block_x (c : Dev nD) (t : Fin cfg0.N) (r k : Fin 1024) :
    ((iblk m c 0 t : FVec Ideal S1x1024x1024 .f32) (ix3 (0 : Fin 1) r k) : EReal)
      = aX (m ((c : Thread nD τ).loc main_arg0)) (pb t) (prow t r) k := by
  unfold iblk
  rw [View.read_apply]
  refine Eq.trans (cast_eq _ _) ?_
  refine Eq.trans (congrFun (V_main_arg0 m c) _) (congrArg _ (funext fun a => Fin.ext ?_))
  refine (Window.rect_emb_val_off win0_0 t (ix3 (0 : Fin 1) r k) a).trans ?_
  have e : win0_0.index t = ![(pb t).val, (pi t).val, 0] := tr0 t
  rw [e]
  match a with
  | ⟨0, _⟩ => show (pb t).val * 1 + 0 = (pb t).val; omega
  | ⟨1, _⟩ => show (pi t).val * 1024 + r.val = 1024 * (pi t).val + r.val; omega
  | ⟨2, _⟩ => show 0 * 1024 + k.val = k.val; omega

/-- The last of the eight rows before a block. -/
theorem block_prev (c : Dev nD) (t : Fin cfg0.N) (h : 0 < (pi t).val) (p : Fin 8192) (hp : p.val + 1 = 1024 * (pi t).val) (k : Fin 1024) :
    ((iblk m c 1 t : FVec Ideal S1x8x1024 .f32) (ix3 (0 : Fin 1) (7 : Fin 8) k) : EReal)
      = aX (m ((c : Thread nD τ).loc main_arg0)) (pb t) p k := by
  unfold iblk
  rw [View.read_apply]
  refine Eq.trans (cast_eq _ _) ?_
  refine Eq.trans (congrFun (V_main_arg0 m c) _) (congrArg _ (funext fun a => Fin.ext ?_))
  refine (Window.rect_emb_val_off win0_1 t (ix3 (0 : Fin 1) (7 : Fin 8) k) a).trans ?_
  have e : win0_1.index t = ![(pb t).val, 128 * (pi t).val - 1, 0] := tr1 t
  rw [e]
  match a with
  | ⟨0, _⟩ => show (pb t).val * 1 + 0 = (pb t).val; omega
  | ⟨1, _⟩ => show (128 * (pi t).val - 1) * 8 + 7 = p.val; omega
  | ⟨2, _⟩ => show 0 * 1024 + k.val = k.val; omega

/-- The first of the eight rows after a block. -/
theorem block_next (c : Dev nD) (t : Fin cfg0.N) (h : (pi t).val < 7) (p : Fin 8192) (hp : p.val = 1024 * (pi t).val + 1024)
    (k : Fin 1024) :
    ((iblk m c 2 t : FVec Ideal S1x8x1024 .f32) (ix3 (0 : Fin 1) (0 : Fin 8) k) : EReal)
      = aX (m ((c : Thread nD τ).loc main_arg0)) (pb t) p k := by
  unfold iblk
  rw [View.read_apply]
  refine Eq.trans (cast_eq _ _) ?_
  refine Eq.trans (congrFun (V_main_arg0 m c) _) (congrArg _ (funext fun a => Fin.ext ?_))
  refine (Window.rect_emb_val_off win0_2 t (ix3 (0 : Fin 1) (0 : Fin 8) k) a).trans ?_
  have e : win0_2.index t = ![(pb t).val, min (128 * ((pi t).val + 1)) 1023, 0] := tr2 t
  rw [e]
  match a with
  | ⟨0, _⟩ => show (pb t).val * 1 + 0 = (pb t).val; omega
  | ⟨1, _⟩ => show min (128 * ((pi t).val + 1)) 1023 * 8 + 0 = p.val; omega
  | ⟨2, _⟩ => show 0 * 1024 + k.val = k.val; omega

/-! The weights and scales are whole in every grid point. -/

theorem block_g (c : Dev nD) (t : Fin cfg0.N) (q : Fin 1024) :
    ((iblk m c 3 t : FVec Ideal S1x1024 .f32) (ix2 (0 : Fin 1) q) : EReal) = aG (m ((c : Thread nD τ).loc main_arg1)) q := by
  unfold iblk
  rw [View.read_apply]
  refine Eq.trans (cast_eq _ _) ?_
  refine Eq.trans (congrFun (V_g m c) _) ?_
  refine Eq.trans (congrArg _ (funext fun a => Fin.ext ?_)) (cast_g _ q)
  refine (Window.rect_emb_val_off win0_3 t (ix2 (0 : Fin 1) q) a).trans ?_
  have e : win0_3.index t = ![0, 0] := tr3 t
  rw [e]
  match a with
  | ⟨0, _⟩ => show 0 * 1 + 0 = 0; omega
  | ⟨1, _⟩ => show 0 * 1024 + q.val = q.val; omega

theorem block_w (c : Dev nD) (t : Fin cfg0.N) (p : Fin 1024) (q : Fin 5632) :
    ((iblk m c 4 t : FVec Ideal S1024x5632 .bf16) (ix2 p q) : EReal) = aW (m ((c : Thread nD τ).loc main_arg2)) p q := by
  unfold iblk
  rw [View.read_apply]
  refine Eq.trans (cast_eq _ _) ?_
  refine Eq.trans (congrFun (V_w m c) _) ?_
  refine Eq.trans (congrArg _ (funext fun a => Fin.ext ?_)) (cast_w _ p q)
  refine (Window.rect_emb_val_off win0_4 t (ix2 p q) a).trans ?_
  have e : win0_4.index t = ![0, 0] := tr4 t
  rw [e]
  match a with
  | ⟨0, _⟩ => show 0 * 1024 + p.val = p.val; omega
  | ⟨1, _⟩ => show 0 * 5632 + q.val = q.val; omega

theorem block_c (c : Dev nD) (t : Fin cfg0.N) (p : Fin 3) (q : Fin 5632) :
    ((iblk m c 5 t : FVec Ideal S3x5632 .f32) (ix2 p q) : EReal) = aC (m ((c : Thread nD τ).loc main_arg3)) p q := by
  unfold iblk
  rw [View.read_apply]
  refine Eq.trans (cast_eq _ _) ?_
  refine Eq.trans (congrFun (V_c m c) _) ?_
  refine Eq.trans (congrArg _ (funext fun a => Fin.ext ?_)) (cast_c _ p q)
  refine (Window.rect_emb_val_off win0_5 t (ix2 p q) a).trans ?_
  have e : win0_5.index t = ![0, 0] := tr5 t
  rw [e]
  match a with
  | ⟨0, _⟩ => show 0 * 3 + p.val = p.val; omega
  | ⟨1, _⟩ => show 0 * 5632 + q.val = q.val; omega

theorem block_b (c : Dev nD) (t : Fin cfg0.N) (q : Fin 5632) :
    ((iblk m c 6 t : FVec Ideal S1x5632 .f32) (ix2 (0 : Fin 1) q) : EReal) = aB (m ((c : Thread nD τ).loc main_arg4)) q := by
  unfold iblk
  rw [View.read_apply]
  refine Eq.trans (cast_eq _ _) ?_
  refine Eq.trans (congrFun (V_b m c) _) ?_
  refine Eq.trans (congrArg _ (funext fun a => Fin.ext ?_)) (cast_b _ q)
  refine (Window.rect_emb_val_off win0_6 t (ix2 (0 : Fin 1) q) a).trans ?_
  have e : win0_6.index t = ![0, 0] := tr6 t
  rw [e]
  match a with
  | ⟨0, _⟩ => show 0 * 1 + 0 = 0; omega
  | ⟨1, _⟩ => show 0 * 5632 + q.val = q.val; omega

theorem block_d (c : Dev nD) (t : Fin cfg0.N) (p : Fin 2816) (q : Fin 1024) :
    ((iblk m c 7 t : FVec Ideal S2816x1024 .bf16) (ix2 p q) : EReal) = aD (m ((c : Thread nD τ).loc main_arg5)) p q := by
  unfold iblk
  rw [View.read_apply]
  refine Eq.trans (cast_eq _ _) ?_
  refine Eq.trans (congrFun (V_d m c) _) ?_
  refine Eq.trans (congrArg _ (funext fun a => Fin.ext ?_)) (cast_d _ p q)
  refine (Window.rect_emb_val_off win0_7 t (ix2 p q) a).trans ?_
  have e : win0_7.index t = ![0, 0] := tr7 t
  rw [e]
  match a with
  | ⟨0, _⟩ => show 0 * 2816 + p.val = p.val; omega
  | ⟨1, _⟩ => show 0 * 1024 + q.val = q.val; omega

theorem block_f (c : Dev nD) (t : Fin cfg0.N) (q : Fin 1024) :
    ((iblk m c 8 t : FVec Ideal S1x1024 .f32) (ix2 (0 : Fin 1) q) : EReal) = aF (m ((c : Thread nD τ).loc main_arg6)) q := by
  unfold iblk
  rw [View.read_apply]
  refine Eq.trans (cast_eq _ _) ?_
  refine Eq.trans (congrFun (V_f m c) _) ?_
  refine Eq.trans (congrArg _ (funext fun a => Fin.ext ?_)) (cast_f _ q)
  refine (Window.rect_emb_val_off win0_8 t (ix2 (0 : Fin 1) q) a).trans ?_
  have e : win0_8.index t = ![0, 0] := tr8 t
  rw [e]
  match a with
  | ⟨0, _⟩ => show 0 * 1 + 0 = 0; omega
  | ⟨1, _⟩ => show 0 * 1024 + q.val = q.val; omega

/-- The normalized rows a grid point works from, row by row: rows of the normalized sequence between its zeros. -/
theorem hn_row (c : Dev nD) (t : Fin cfg0.N) (j : Fin 1026) (k : Fin 1024) :
    (hnB (F := Ideal) (grid0.coords t) (iblk m c 0 t) (iblk m c 1 t) (iblk m c 2 t) (iblk m c 3 t)
        (ix2 (⟨7 + j.val, by omega⟩ : Fin 1040) k) : EReal)
      = hrow (aG (m ((c : Thread nD τ).loc main_arg1))) (aX (m ((c : Thread nD τ).loc main_arg0)) (pb t))
        (1024 * (pi t).val + j.val) k := by
  have hi := (pi t).isLt
  have hg : (fun k : Fin 1024 => ((iblk m c 3 t : FVec Ideal S1x1024 .f32) (ix2 (0 : Fin 1) k) : EReal))
      = aG (m ((c : Thread nD τ).loc main_arg1)) := funext fun k => block_g m c t k
  unfold hrow
  by_cases h0 : j.val = 0
  · obtain rfl : j = 0 := Fin.ext h0
    refine (hn_before (grid0.coords t) (iblk m c 0 t) (iblk m c 1 t) (iblk m c 2 t) (iblk m c 3 t) (7 : Fin 8) k).trans ?_
    by_cases hz : 0 < (pi t).val
    · refine (if_pos hz).trans ?_
      rw [dif_pos (by show 1 ≤ 1024 * (pi t).val + 0 ∧ 1024 * (pi t).val + 0 ≤ 8192; omega)]
      refine (congrArg (fun g => norm g _ k) hg).trans ?_
      refine congrArg (fun x => norm _ x k) (funext fun q => ?_)
      exact block_prev m c t hz _ (by show 1024 * (pi t).val + 0 - 1 + 1 = 1024 * (pi t).val; omega) q
    · refine (if_neg hz).trans ?_
      rw [dif_neg (by show ¬(1 ≤ 1024 * (pi t).val + 0 ∧ 1024 * (pi t).val + 0 ≤ 8192); omega)]
  · by_cases h1 : j.val = 1025
    · obtain rfl : j = (1025 : Fin 1026) := Fin.ext h1
      refine (hn_after (grid0.coords t) (iblk m c 0 t) (iblk m c 1 t) (iblk m c 2 t) (iblk m c 3 t) (0 : Fin 8) k).trans ?_
      by_cases hz : (pi t).val < 7
      · refine (if_pos hz).trans ?_
        rw [dif_pos (by show 1 ≤ 1024 * (pi t).val + 1025 ∧ 1024 * (pi t).val + 1025 ≤ 8192; omega)]
        refine (congrArg (fun g => norm g _ k) hg).trans ?_
        refine congrArg (fun x => norm _ x k) (funext fun q => ?_)
        exact block_next m c t hz _ (by show 1024 * (pi t).val + 1025 - 1 = 1024 * (pi t).val + 1024; omega) q
      · refine (if_neg hz).trans ?_
        rw [dif_neg (by show ¬(1 ≤ 1024 * (pi t).val + 1025 ∧ 1024 * (pi t).val + 1025 ≤ 8192); omega)]
    · have hj := j.isLt
      rw [dif_pos (by omega)]
      have e : (⟨7 + j.val, by omega⟩ : Fin 1040) = ⟨8 + (⟨j.val - 1, by omega⟩ : Fin 1024).val, by show 8 + (j.val - 1) < 1040; omega⟩ :=
        Fin.ext (by show 7 + j.val = 8 + (j.val - 1); omega)
      rw [e]
      refine (hn_mid (grid0.coords t) (iblk m c 0 t) (iblk m c 1 t) (iblk m c 2 t) (iblk m c 3 t) (⟨j.val - 1, by omega⟩ : Fin 1024) k).trans ?_
      refine (congrArg (fun g => norm g _ k) hg).trans ?_
      refine congrArg (fun x => norm _ x k) (funext fun q => ?_)
      refine (block_x m c t _ q).trans ?_
      refine congrArg (fun p => aX (m ((c : Thread nD τ).loc main_arg0)) (pb t) p q) (Fin.ext ?_)
      show 1024 * (pi t).val + (j.val - 1) = 1024 * (pi t).val + j.val - 1
      omega

/-- A grid point's convolution is the reference's. -/
theorem conv_row (c : Dev nD) (t : Fin cfg0.N) (r : Fin 1024) :
    convR (hnB (F := Ideal) (grid0.coords t) (iblk m c 0 t) (iblk m c 1 t) (iblk m c 2 t) (iblk m c 3 t)) (iblk m c 4 t) (iblk m c 5 t)
        (iblk m c 6 t) r
      = rConv (m ((c : Thread nD τ).loc main_arg0)) (m ((c : Thread nD τ).loc main_arg1)) (m ((c : Thread nD τ).loc main_arg2))
        (m ((c : Thread nD τ).loc main_arg3)) (m ((c : Thread nD τ).loc main_arg4)) (pb t) (prow t r) := by
  have hr := r.isLt
  have hw : (fun k n => ((iblk m c 4 t : FVec Ideal S1024x5632 .bf16) (ix2 k n) : EReal)) = aW (m ((c : Thread nD τ).loc main_arg2)) :=
    funext fun k => funext fun n => block_w m c t k n
  have hc : (fun j n => ((iblk m c 5 t : FVec Ideal S3x5632 .f32) (ix2 j n) : EReal)) = aC (m ((c : Thread nD τ).loc main_arg3)) :=
    funext fun j => funext fun n => block_c m c t j n
  have hb : (fun n => ((iblk m c 6 t : FVec Ideal S1x5632 .f32) (ix2 (0 : Fin 1) n) : EReal)) = aB (m ((c : Thread nD τ).loc main_arg4)) :=
    funext fun n => block_b m c t n
  unfold convR
  refine (congrArg (fun w => conv w _ _ _ _ _) hw).trans ?_
  refine (congrArg (fun w => conv _ w _ _ _ _) hc).trans ?_
  refine (congrArg (fun w => conv _ _ w _ _ _) hb).trans ?_
  have h0 := funext fun k => hn_row m c t (⟨r.val, by omega⟩ : Fin 1026) k
  have h1 := funext fun k => hn_row m c t (⟨1 + r.val, by omega⟩ : Fin 1026) k
  have h2 := funext fun k => hn_row m c t (⟨2 + r.val, by omega⟩ : Fin 1026) k
  have i1 : (⟨7 + (1 + r.val), by omega⟩ : Fin 1040) = ⟨8 + r.val, by omega⟩ := Fin.ext (by show 7 + (1 + r.val) = 8 + r.val; omega)
  have i2 : (⟨7 + (2 + r.val), by omega⟩ : Fin 1040) = ⟨9 + r.val, by omega⟩ := Fin.ext (by show 7 + (2 + r.val) = 9 + r.val; omega)
  have j1 : 1024 * (pi t).val + (1 + r.val) = (prow t r).val + 1 := by show _ = 1024 * (pi t).val + r.val + 1; omega
  have j2 : 1024 * (pi t).val + (2 + r.val) = (prow t r).val + 2 := by show _ = 1024 * (pi t).val + r.val + 2; omega
  dsimp only at h1 h2
  rw [i1, j1] at h1
  rw [i2, j2] at h2
  refine (congrArg (fun w => conv _ _ _ w _ _) h0).trans ?_
  refine (congrArg (fun w => conv _ _ _ _ w _) h1).trans ?_
  exact congrArg (fun w => conv _ _ _ _ _ w) h2

/-- Where a grid point's block is written. -/
theorem out_emb (t : Fin cfg0.N) (r k : Fin 1024) :
    ((cfg0.win 9).blk t).view.emb (ix3 (0 : Fin 1) r k) = ix3 (pb t) (prow t r) k := funext fun a => Fin.ext (by
  refine (Window.rect_emb_val_off win0_9 t (ix3 (0 : Fin 1) r k) a).trans ?_
  have e : win0_9.index t = ![(pb t).val, (pi t).val, 0] := tr9 t
  rw [e]
  match a with
  | ⟨0, _⟩ => show (pb t).val * 1 + 0 = (pb t).val; omega
  | ⟨1, _⟩ => show (pi t).val * 1024 + r.val = 1024 * (pi t).val + r.val; omega
  | ⟨2, _⟩ => show 0 * 1024 + k.val = k.val; omega)

/-- The reference's result of a launch's arguments. -/
abbrev refOf (c : Dev nD) : (⟨(⟨3, ![4, 8192, 1024]⟩ : Shape), .f32⟩ : BufTy).Contents (Elt Ideal) :=
  Cert.Reference2Ideal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- A grid point's block at a row and column. -/
theorem block_out (c : Dev nD) (t : Fin cfg0.N) (r k : Fin 1024) :
    (blockOut (F := Ideal) (grid0.coords t) (iblk m c 0 t) (iblk m c 1 t) (iblk m c 2 t) (iblk m c 3 t) (iblk m c 4 t) (iblk m c 5 t)
        (iblk m c 6 t) (iblk m c 7 t) (iblk m c 8 t) (ix3 (0 : Fin 1) r k) : EReal)
      = refOf m c (ix3 (pb t) (prow t r) k) := by
  refine (block_apply _ _ _ _ _ _ _ _ _ _ r k).trans ?_
  refine Eq.trans ?_ (ref_out _ _ _ _ _ _ _ (pb t) (prow t r) k).symm
  unfold out
  refine (congrArg (fun g => norm g _ k) (funext fun q => block_f m c t q)).trans ?_
  refine congrArg (fun x => norm _ x k) (funext fun q => ?_)
  unfold pre
  refine congrArg₂ (· + ·) (block_x m c t r q) (Finset.sum_congr rfl fun n _ => ?_)
  refine congrArg₂ (· * ·) (congrArg (fun y => act y n) (conv_row m c t r)) (block_d m c t n q)

/-- What a grid point writes back is its block of the reference's result. -/
theorem flushed_eq (c : Dev nD) (t : Fin cfg0.N) :
    (dats m 0 c).flushed 9 t = ((cfg0.win 9).blk t).view.read (Elt Ideal) (refOf m c) := by
  rw [Value.flushed9_A, out_eq]
  funext y
  rw [View.read_apply]
  refine Eq.trans ?_ (cast_eq _ _).symm
  obtain ⟨r, k, rfl⟩ : ∃ (r k : Fin 1024), y = ix3 (0 : Fin 1) r k := ⟨y 1, y 2, (eq_ix3 (n0 := 1) (n1 := 1024) (n2 := 1024) y).trans (by
    congr 1; exact Subsingleton.elim (α := Fin 1) _ _)⟩
  rw [out_emb]
  exact block_out m c t r k

/-- Every element of the result is in some grid point's block. -/
theorem cover (i : S4x8192x1024.Idx) : ∃ t : Fin cfg0.N, (cfg0.win 9).flush t = true ∧ i ∈ ((cfg0.win 9).blk t).view.set := by
  have h0 : (i 0 : Nat) < 4 := (i 0).isLt
  have h1 : (i 1 : Nat) < 8192 := (i 1).isLt
  have h2 : (i 2 : Nat) < 1024 := (i 2).isLt
  obtain ⟨t, ht⟩ := grid0.coords_surjective (fun a => match a with
    | ⟨0, _⟩ => (⟨(i 0).val, h0⟩ : Fin 4)
    | ⟨1, _⟩ => (⟨(i 1).val / 1024, by omega⟩ : Fin 8))
  have hb : (pb t).val = (i 0).val := congrArg Fin.val (congrFun ht 0)
  have hi : (pi t).val = (i 1).val / 1024 := congrArg Fin.val (congrFun ht 1)
  refine ⟨t, flush0_9 t, Finset.mem_map.mpr ⟨ix3 (0 : Fin 1) ⟨(i 1).val % 1024, by omega⟩ ⟨(i 2).val, h2⟩, Finset.mem_univ _, ?_⟩⟩
  refine (out_emb t _ _).trans (funext fun a => Fin.ext ?_)
  match a with
  | ⟨0, _⟩ => exact hb
  | ⟨1, _⟩ => show 1024 * (pi t).val + (i 1).val % 1024 = (i 1).val; omega
  | ⟨2, _⟩ => rfl

/-- The result array after the launch. -/
theorem final (c : Dev nD) : (dats m 0 c).arrAt 9 cfg0.N = refOf m c :=
  (dats m 0 c).arrAt_eq_of_cover 9 _ (fun t _ => flushed_eq m c t) cover

end Cert.Ffn

end
-- ==== Proof.AttnSample.Block.lean ====
/- One step of the attention region in words: the tiles of a query block and of its keys and values, a chunk's scores, the
   running row maximum, the exponentials of a chunk, the factor the accumulator is rescaled by, and the accumulator. -/
module

public import proofs.«01_k».proof.Proof.Gen.Kernel3Ideal.Frame
public import Idealize.ShloMosaic.Lib.Pipeline.Value
public import Idealize.ShloMosaic.Lib.Pipeline.ValueKit.Tiles
public import Idealize.ShloMosaic.Lib.ValueIdx

@[expose] public section

set_option maxRecDepth 16384

noncomputable section

namespace Cert.AttnSample

open Cert.Kernel3Ideal Cert.Kernel3Ideal.Gen Idealize.ShloMosaic Idealize.ShloMosaic.TcCoe Idealize.SL.Sem
open Idealize.ShloMosaic.ValueIdx

variable {F : FTy → Type} [FloatOps F]

/-- The 128 lanes of head `h` (of the two) of a query block. -/
def qTile (x0 : Vec F S1x512x256 .bf16) (h : Fin 2) : Vec F S1x512x128 .bf16 := fun i =>
  x0 (ix3 (n0 := 1) (n1 := 512) (n2 := 256) 0 ⟨(i 1).val, (i 1).isLt⟩
    ⟨128 * h.val + (i 2).val, by have h2 : (i 2).val < 128 := (i 2).isLt; have := h.isLt; omega⟩)

/-- The 128 lanes of head `h` of chunk `n` (of 512 rows) of the keys or values. -/
def cTile (x : Vec F S1x8192x256 .bf16) (h : Fin 2) (n : ℕ) : Vec F S1x512x128 .bf16 := fun i =>
  x (ix3 (n0 := 1) (n1 := 8192) (n2 := 256) 0 ⟨(512 * n + (i 1).val) % 8192, Nat.mod_lt _ (by norm_num)⟩
    ⟨128 * h.val + (i 2).val, by have h2 : (i 2).val < 128 := (i 2).isLt; have := h.isLt; omega⟩)

abbrev kTile (x1 : Vec F S1x8192x256 .bf16) (h : Fin 2) (n : ℕ) : Vec F S1x512x128 .bf16 := cTile x1 h n
abbrev vTile (x2 : Vec F S1x8192x256 .bf16) (h : Fin 2) (n : ℕ) : Vec F S1x512x128 .bf16 := cTile x2 h n

/-- The scores of a query block against chunk `n`, as they are stored. -/
def scores (x0 : Vec F S1x512x256 .bf16) (x1 : Vec F S1x8192x256 .bf16) (h : Fin 2) (n : ℕ) : FVec F S1x512x512 .f32 :=
  shapeCast S1x512x512
    (matmul dot_S512x128_S512x128_S512x512_1_1_0_0_n_n none (shapeCast S512x128 (qTile x0 h) shapeCasts_S1x512x128_S512x128)
      (shapeCast S512x128 (kTile x1 h n) shapeCasts_S1x512x128_S512x128) (constant S512x512 .f32 0x00000000#32))
    shapeCasts_S512x512_S1x512x512

/-- The row maximum over the chunks before `n`. -/
def rowMax (x0 : Vec F S1x512x256 .bf16) (x1 : Vec F S1x8192x256 .bf16) (h : Fin 2) : ℕ → FVec F S512x1 .f32
  | 0 => k0_pay2
  | n + 1 => maximumf (rowMax x0 x1 h n)
      (shapeCast S512x1 (multiReduction .maximumf [1] S512 (shapeCast S512x512 (scores x0 x1 h n) shapeCasts_S1x512x512_S512x512)
        0xFF800000#32 reduces_S512x512_S512 (.inl rfl) rfl) shapeCasts_S512_S512x1)

/-- The exponentials of chunk `n` against its running maximum, as they are stored. -/
def expo (x0 : Vec F S1x512x256 .bf16) (x1 : Vec F S1x8192x256 .bf16) (h : Fin 2) (n : ℕ) : FVec F S1x512x512 .bf16 :=
  shapeCast S1x512x512 (truncf .bf16 (exp2 (subf (shapeCast S512x512 (scores x0 x1 h n) shapeCasts_S1x512x512_S512x512)
    (broadcastTo S512x512 (rowMax x0 x1 h (n + 1)) broadcasts_S512x1_S512x512))) bitsLt_bf16_f32) shapeCasts_S512x512_S1x512x512

/-- The factor chunk `n`'s new maximum rescales the accumulator by. -/
def decay (x0 : Vec F S1x512x256 .bf16) (x1 : Vec F S1x8192x256 .bf16) (h : Fin 2) (n : ℕ) : FVec F S512x1 .f32 :=
  exp2 (subf (rowMax x0 x1 h n) (rowMax x0 x1 h (n + 1)))

/-- The accumulator over the chunks before `n`. -/
def accum (x0 : Vec F S1x512x256 .bf16) (x1 : Vec F S1x8192x256 .bf16) (x2 : Vec F S1x8192x256 .bf16) (h : Fin 2) :
    ℕ → FVec F S512x128 .f32
  | 0 => k0_pay3
  | n + 1 => addf (mulf (broadcastTo S512x128 (decay x0 x1 h n) broadcasts_S512x1_S512x128) (accum x0 x1 x2 h n))
      (matmul dot_S512x512_S512x128_S512x128_1_0_0_1_n_n none (shapeCast S512x512 (expo x0 x1 h n) shapeCasts_S1x512x512_S512x512)
        (shapeCast S512x128 (vTile x2 h n) shapeCasts_S1x512x128_S512x128) (constant S512x128 .f32 0x00000000#32))

/-- The block the region leaves: the second head's accumulator divided by its column of ones and rotated to the upper
    lanes, beside the first's. -/
def blockOut (x0 : Vec F S1x512x256 .bf16) (x1 x2 : Vec F S1x8192x256 .bf16) : FVec F S1x512x128 .bf16 :=
  k0_pay1 (accum x0 x1 x2 1 16) (iota .tc S1x128 32 [1] iota_S1x128_d1_w32)
    (divf (accum x0 x1 x2 0 16) (broadcastTo S512x128
      (extractStridedSlice S512x1 ![0, 64] (accum x0 x1 x2 0 16) slices_S512x128_o0_64_S512x1) broadcasts_S512x1_S512x128))
    (extractStridedSlice S512x1 ![0, 64] (accum x0 x1 x2 1 16) slices_S512x128_o0_64_S512x1)

/-! ## Loads -/

theorem load_q (a : Memref sig .tc .vmem S1x512x256 .bf16) (ha : a.IsWhole) (x0 : Vec F S1x512x256 .bf16) (h : Fin 2)
    {off : Fin 3 → ℕ} (inb : ∀ x, off x + S1x512x128.size x ≤ S1x512x256.size x) (hoff : off = ![0, 0, 128 * h.val]) :
    View.readAt (Elt F) a.view (Rect.unit (s := S1x512x256) off S1x512x128.size inb).toLoadRect (ha.unread x0) = qTile x0 h := by
  rw [View.readAt_eq_ld, ha.read_unread]
  subst hoff
  funext i
  refine View.ld_unit_apply_of x0 _ _ _ i _ fun a => ?_
  match a with
  | ⟨0, _⟩ => show 0 = 0 + (i 0).val; have : (i 0).val < 1 := (i 0).isLt; omega
  | ⟨1, _⟩ => show (i 1).val = 0 + (i 1).val; omega
  | ⟨2, _⟩ => rfl

theorem load_c (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = cTile x h n := by
  rw [View.readAt_eq_ld, ha.read_unread]
  subst hoff
  funext i
  refine View.ld_unit_apply_of x _ _ _ i _ fun a => ?_
  match a with
  | ⟨0, _⟩ => show 0 = 0 + (i 0).val; have : (i 0).val < 1 := (i 0).isLt; omega
  | ⟨1, _⟩ => show (512 * n + (i 1).val) % 8192 = 512 * n + (i 1).val; have : (i 1).val < 512 := (i 1).isLt; omega
  | ⟨2, _⟩ => rfl

theorem load_k (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = kTile x h n :=
  load_c a ha x h n inb hoff hn

theorem load_v (a : Memref sig .tc .vmem S1x8192x256 .bf16) (ha : a.IsWhole) (x : Vec F S1x8192x256 .bf16) (h : Fin 2) (n : ℕ)
    {off : Fin 3 → ℕ} (inb : ∀ x, off x + S1x512x128.size x ≤ S1x8192x256.size x) (hoff : off = ![0, 512 * n, 128 * h.val])
    (hn : n < 16) :
    View.readAt (Elt F) a.view (Rect.unit (s := S1x8192x256) off S1x512x128.size inb).toLoadRect (ha.unread x) = vTile x h n :=
  load_c a ha x h n inb hoff hn

/-- The two head slots of a scratch buffer do not meet. -/
theorem slots_disjoint (inb : ∀ x, (![1, 0, 0] : Fin 3 → ℕ) x + S1x512x512.size x ≤ S2x512x512.size x)
    (inb' : ∀ x, (![0, 0, 0] : Fin 3 → ℕ) x + S1x512x512.size x ≤ S2x512x512.size x) :
    Disjoint (Rect.unit (s := S2x512x512) ![1, 0, 0] S1x512x512.size inb).set
      (Rect.unit (s := S2x512x512) ![0, 0, 0] S1x512x512.size inb').toLoadRect.set :=
  Rect.unit_disjoint (inb := inb) (inb' := inb') 0 (Or.inr (by decide))

end Cert.AttnSample

end
-- ==== Proof.AttnSample.Chain1.lean ====
/- The unrolled trips of the attention region, read in order (part 1): each intermediate array is one of the tiles, chunk
   scores, running maxima, exponentials, decay factors or accumulators of `Block`. -/
module

public import proofs.«01_k».proof.Proof.AttnSample.Block

@[expose] public section

set_option maxRecDepth 16384

noncomputable section

namespace Cert.AttnSample

open Cert.Kernel3Ideal Cert.Kernel3Ideal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v56_eq : kernelRun0_A.sl.v56 c arg3 harg3 arg4 harg4 arg7 x0 x1
    = (scores x0 x1 1 0) := by
  unfold kernelRun0_A.sl.v56 kernelRun0_A.sl.HS0_2
  rw [View.readCov_cons_toLoadRect]
  rw [(load_q _ harg3 x0 1 (off := ![0, 0, 128]) _ rfl), (load_k _ harg4 x1 1 0 (off := ![0, 0, 128]) _ rfl (by decide))]
  all_goals rfl

theorem r_5_eq : kernelRun0_A.sl.r_5 c arg3 harg3 arg4 harg4 arg7 x0 x1
    = (multiReduction .maximumf [1] S512 (shapeCast S512x512 (scores x0 x1 1 0) shapeCasts_S1x512x512_S512x512) 0xFF800000#32 reduces_S512x512_S512 (.inl rfl) rfl) := by
  unfold kernelRun0_A.sl.r_5
  rw [v56_eq]
  all_goals rfl

theorem r_6_eq : kernelRun0_A.sl.r_6 c arg3 harg3 arg4 harg4 arg7 x0 x1
    = (rowMax x0 x1 1 1) := by
  unfold kernelRun0_A.sl.r_6
  rw [r_5_eq]
  all_goals rfl

theorem r_eq : kernelRun0_A.sl.r c arg3 harg3 x0
    = (shapeCast S512x128 (qTile x0 0) shapeCasts_S1x512x128_S512x128) := by
  unfold kernelRun0_A.sl.r
  rw [(load_q _ harg3 x0 0 (off := ![0, 0, 0]) _ rfl)]
  all_goals rfl

theorem r_1_eq : kernelRun0_A.sl.r_1 c arg4 harg4 x1
    = (kTile x1 0 1) := by
  unfold kernelRun0_A.sl.r_1
  rw [(load_k _ harg4 x1 0 1 (off := ![0, 512, 0]) _ rfl (by decide))]
  all_goals rfl

theorem v109_eq : kernelRun0_A.sl.v109 c arg3 harg3 arg4 harg4 arg8 x0 x1
    = (scores x0 x1 1 1) := by
  unfold kernelRun0_A.sl.v109 kernelRun0_A.sl.HS1_2
  rw [View.readCov_cons_toLoadRect]
  rw [(load_q _ harg3 x0 1 (off := ![0, 0, 128]) _ rfl), (load_k _ harg4 x1 1 1 (off := ![0, 512, 128]) _ rfl (by decide))]
  all_goals rfl

theorem r_11_eq : kernelRun0_A.sl.r_11 c arg3 harg3 arg4 harg4 arg7 arg8 x0 x1
    = (rowMax x0 x1 1 2) := by
  unfold kernelRun0_A.sl.r_11
  rw [r_6_eq, v109_eq]
  all_goals rfl

theorem r_8_eq : kernelRun0_A.sl.r_8 c arg3 harg3 arg4 harg4 x0 x1
    = (matmul dot_S512x128_S512x128_S512x512_1_1_0_0_n_n none (shapeCast S512x128 (qTile x0 1) shapeCasts_S1x512x128_S512x128) (shapeCast S512x128 (kTile x1 1 2) shapeCasts_S1x512x128_S512x128) (constant S512x512 .f32 0x00000000#32)) := by
  unfold kernelRun0_A.sl.r_8
  erw [(load_k _ harg4 x1 1 2 (off := ![0, 1024, 128]) _ rfl (by decide))]
  rw [(load_q _ harg3 x0 1 (off := ![0, 0, 128]) _ rfl)]
  all_goals rfl

theorem v183_eq : kernelRun0_A.sl.v183 c arg3 harg3 arg4 harg4 arg7 x0 x1
    = (scores x0 x1 1 2) := by
  unfold kernelRun0_A.sl.v183 kernelRun0_A.sl.HS0_4
  rw [View.readCov_cons_toLoadRect]
  rw [r_8_eq]
  all_goals rfl

theorem r_20_eq : kernelRun0_A.sl.r_20 c arg3 harg3 arg4 harg4 arg7 arg8 x0 x1
    = (rowMax x0 x1 1 3) := by
  unfold kernelRun0_A.sl.r_20
  rw [r_11_eq, v183_eq]
  all_goals rfl

theorem r_17_eq : kernelRun0_A.sl.r_17 c arg3 harg3 x0
    = (shapeCast S512x128 (qTile x0 1) shapeCasts_S1x512x128_S512x128) := by
  unfold kernelRun0_A.sl.r_17
  rw [(load_q _ harg3 x0 1 (off := ![0, 0, 128]) _ rfl)]
  all_goals rfl

theorem v258_eq : kernelRun0_A.sl.v258 c arg3 harg3 arg4 harg4 arg8 x0 x1
    = (scores x0 x1 1 3) := by
  unfold kernelRun0_A.sl.v258 kernelRun0_A.sl.HS1_4
  rw [View.readCov_cons_toLoadRect]
  erw [(load_k _ harg4 x1 1 3 (off := ![0, 1536, 128]) _ rfl (by decide))]
  rw [r_17_eq]
  all_goals rfl

theorem r_28_eq : kernelRun0_A.sl.r_28 c arg3 harg3 arg4 harg4 arg7 arg8 x0 x1
    = (rowMax x0 x1 1 4) := by
  unfold kernelRun0_A.sl.r_28
  rw [r_20_eq, v258_eq]
  all_goals rfl

theorem r_25_eq : kernelRun0_A.sl.r_25 c arg3 harg3 arg4 harg4 x0 x1
    = (matmul dot_S512x128_S512x128_S512x512_1_1_0_0_n_n none (shapeCast S512x128 (qTile x0 0) shapeCasts_S1x512x128_S512x128) (shapeCast S512x128 (kTile x1 0 4) shapeCasts_S1x512x128_S512x128) (constant S512x512 .f32 0x00000000#32)) := by
  unfold kernelRun0_A.sl.r_25
  erw [(load_k _ harg4 x1 0 4 (off := ![0, 2048, 0]) _ rfl (by decide))]
  rw [(load_q _ harg3 x0 0 (off := ![0, 0, 0]) _ rfl)]
  all_goals rfl

theorem v332_eq : kernelRun0_A.sl.v332 c arg3 harg3 arg4 harg4 arg7 x0 x1
    = (scores x0 x1 1 4) := by
  unfold kernelRun0_A.sl.v332 kernelRun0_A.sl.HS0_6
  rw [View.readCov_cons_toLoadRect]
  erw [(load_k _ harg4 x1 1 4 (off := ![0, 2048, 128]) _ rfl (by decide))]
  rw [(load_q _ harg3 x0 1 (off := ![0, 0, 128]) _ rfl)]
  all_goals rfl

theorem r_36_eq : kernelRun0_A.sl.r_36 c arg3 harg3 arg4 harg4 arg7 x0 x1
    = (shapeCast S512x512 (scores x0 x1 1 4) shapeCasts_S1x512x512_S512x512) := by
  unfold kernelRun0_A.sl.r_36
  rw [v332_eq]
  all_goals rfl

theorem r_37_eq : kernelRun0_A.sl.r_37 c arg3 harg3 arg4 harg4 arg7 arg8 x0 x1
    = (rowMax x0 x1 1 5) := by
  unfold kernelRun0_A.sl.r_37
  rw [r_28_eq, r_36_eq]
  all_goals rfl

theorem r_33_eq : kernelRun0_A.sl.r_33 c arg3 harg3 x0
    = (shapeCast S512x128 (qTile x0 0) shapeCasts_S1x512x128_S512x128) := by
  unfold kernelRun0_A.sl.r_33
  rw [(load_q _ harg3 x0 0 (off := ![0, 0, 0]) _ rfl)]
  all_goals rfl

theorem v407_eq : kernelRun0_A.sl.v407 c arg3 harg3 arg4 harg4 arg8 x0 x1
    = (scores x0 x1 1 5) := by
  unfold kernelRun0_A.sl.v407 kernelRun0_A.sl.HS1_6
  rw [View.readCov_cons_toLoadRect]
  erw [(load_k _ harg4 x1 1 5 (off := ![0, 2560, 128]) _ rfl (by decide))]
  rw [(load_q _ harg3 x0 1 (off := ![0, 0, 128]) _ rfl)]
  all_goals rfl

theorem r_44_eq : kernelRun0_A.sl.r_44 c arg3 harg3 arg4 harg4 arg7 arg8 x0 x1
    = (rowMax x0 x1 1 6) := by
  unfold kernelRun0_A.sl.r_44
  rw [r_37_eq, v407_eq]
  all_goals rfl

theorem v481_eq : kernelRun0_A.sl.v481 c arg3 harg3 arg4 harg4 arg7 x0 x1
    = (scores x0 x1 1 6) := by
  unfold kernelRun0_A.sl.v481 kernelRun0_A.sl.HS0_8
  rw [View.readCov_cons_toLoadRect]
  erw [(load_k _ harg4 x1 1 6 (off := ![0, 3072, 128]) _ rfl (by decide))]
  rw [(load_q _ harg3 x0 1 (off := ![0, 0, 128]) _ rfl)]
  all_goals rfl

theorem r_54_eq : kernelRun0_A.sl.r_54 c arg3 harg3 arg4 harg4 arg7 arg8 x0 x1
    = (rowMax x0 x1 1 7) := by
  unfold kernelRun0_A.sl.r_54
  rw [r_44_eq, v481_eq]
  all_goals rfl

theorem v556_eq : kernelRun0_A.sl.v556 c arg3 harg3 arg4 harg4 arg8 x0 x1
    = (scores x0 x1 1 7) := by
  unfold kernelRun0_A.sl.v556 kernelRun0_A.sl.HS1_8
  rw [View.readCov_cons_toLoadRect]
  erw [(load_k _ harg4 x1 1 7 (off := ![0, 3584, 128]) _ rfl (by decide))]
  rw [(load_q _ harg3 x0 1 (off := ![0, 0, 128]) _ rfl)]
  all_goals rfl

theorem r_62_eq : kernelRun0_A.sl.r_62 c arg3 harg3 arg4 harg4 arg7 arg8 x0 x1
    = (rowMax x0 x1 1 8) := by
  unfold kernelRun0_A.sl.r_62
  rw [r_54_eq, v556_eq]
  all_goals rfl

theorem r_59_eq : kernelRun0_A.sl.r_59 c arg3 harg3 arg4 harg4 x0 x1
    = (matmul dot_S512x128_S512x128_S512x512_1_1_0_0_n_n none (shapeCast S512x128 (qTile x0 1) shapeCasts_S1x512x128_S512x128) (shapeCast S512x128 (kTile x1 1 8) shapeCasts_S1x512x128_S512x128) (constant S512x512 .f32 0x00000000#32)) := by
  unfold kernelRun0_A.sl.r_59
  erw [(load_k _ harg4 x1 1 8 (off := ![0, 4096, 128]) _ rfl (by decide))]
  rw [(load_q _ harg3 x0 1 (off := ![0, 0, 128]) _ rfl)]
  all_goals rfl

theorem v630_eq : kernelRun0_A.sl.v630 c arg3 harg3 arg4 harg4 arg7 x0 x1
    = (scores x0 x1 1 8) := by
  unfold kernelRun0_A.sl.v630 kernelRun0_A.sl.HS0_10
  rw [View.readCov_cons_toLoadRect]
  rw [r_59_eq]
  all_goals rfl

theorem r_71_eq : kernelRun0_A.sl.r_71 c arg3 harg3 arg4 harg4 arg7 arg8 x0 x1
    = (rowMax x0 x1 1 9) := by
  unfold kernelRun0_A.sl.r_71
  rw [r_62_eq, v630_eq]
  all_goals rfl

theorem r_68_eq : kernelRun0_A.sl.r_68 c arg3 harg3 x0
    = (shapeCast S512x128 (qTile x0 1) shapeCasts_S1x512x128_S512x128) := by
  unfold kernelRun0_A.sl.r_68
  rw [(load_q _ harg3 x0 1 (off := ![0, 0, 128]) _ rfl)]
  all_goals rfl

theorem v705_eq : kernelRun0_A.sl.v705 c arg3 harg3 arg4 harg4 arg8 x0 x1
    = (scores x0 x1 1 9) := by
  unfold kernelRun0_A.sl.v705 kernelRun0_A.sl.HS1_10
  rw [View.readCov_cons_toLoadRect]
  erw [(load_k _ harg4 x1 1 9 (off := ![0, 4608, 128]) _ rfl (by decide))]
  rw [r_68_eq]
  all_goals rfl

theorem r_78_eq : kernelRun0_A.sl.r_78 c arg3 harg3 arg4 harg4 arg7 arg8 x0 x1
    = (rowMax x0 x1 1 10) := by
  unfold kernelRun0_A.sl.r_78
  rw [r_71_eq, v705_eq]
  all_goals rfl

theorem v779_eq : kernelRun0_A.sl.v779 c arg3 harg3 arg4 harg4 arg7 x0 x1
    = (scores x0 x1 1 10) := by
  unfold kernelRun0_A.sl.v779 kernelRun0_A.sl.HS0_12
  rw [View.readCov_cons_toLoadRect]
  erw [(load_k _ harg4 x1 1 10 (off := ![0, 5120, 128]) _ rfl (by decide))]
  rw [(load_q _ harg3 x0 1 (off := ![0, 0, 128]) _ rfl)]
  all_goals rfl

theorem r_88_eq : kernelRun0_A.sl.r_88 c arg3 harg3 arg4 harg4 arg7 x0 x1
    = (shapeCast S512x1 (multiReduction .maximumf [1] S512 (shapeCast S512x512 (scores x0 x1 1 10) shapeCasts_S1x512x512_S512x512) 0xFF800000#32 reduces_S512x512_S512 (.inl rfl) rfl) shapeCasts_S512_S512x1) := by
  unfold kernelRun0_A.sl.r_88
  rw [v779_eq]
  all_goals rfl

theorem r_89_eq : kernelRun0_A.sl.r_89 c arg3 harg3 arg4 harg4 arg7 arg8 x0 x1
    = (rowMax x0 x1 1 11) := by
  unfold kernelRun0_A.sl.r_89
  rw [r_78_eq, r_88_eq]
  all_goals rfl

theorem r_83_eq : kernelRun0_A.sl.r_83 c arg3 harg3 x0
    = (shapeCast S512x128 (qTile x0 0) shapeCasts_S1x512x128_S512x128) := by
  unfold kernelRun0_A.sl.r_83
  rw [(load_q _ harg3 x0 0 (off := ![0, 0, 0]) _ rfl)]
  all_goals rfl

theorem r_84_eq : kernelRun0_A.sl.r_84 c arg4 harg4 x1
    = (shapeCast S512x128 (kTile x1 0 11) shapeCasts_S1x512x128_S512x128) := by
  unfold kernelRun0_A.sl.r_84
  erw [(load_k _ harg4 x1 0 11 (off := ![0, 5632, 0]) _ rfl (by decide))]
  all_goals rfl

theorem cst_514_eq : kernelRun0_A.sl.cst_514 (F := F)
    = (constant S512x512 .f32 0#32) := by
  unfold kernelRun0_A.sl.cst_514
  all_goals rfl

theorem v854_eq : kernelRun0_A.sl.v854 c arg3 harg3 arg4 harg4 arg8 x0 x1
    = (scores x0 x1 1 11) := by
  unfold kernelRun0_A.sl.v854 kernelRun0_A.sl.HS1_12
  rw [View.readCov_cons_toLoadRect]
  erw [(load_k _ harg4 x1 1 11 (off := ![0, 5632, 128]) _ rfl (by decide))]
  rw [(load_q _ harg3 x0 1 (off := ![0, 0, 128]) _ rfl)]
  all_goals rfl

theorem r_96_eq : kernelRun0_A.sl.r_96 c arg3 harg3 arg4 harg4 arg7 arg8 x0 x1
    = (rowMax x0 x1 1 12) := by
  unfold kernelRun0_A.sl.r_96
  rw [r_89_eq, v854_eq]
  all_goals rfl

theorem v928_eq : kernelRun0_A.sl.v928 c arg3 harg3 arg4 harg4 arg7 x0 x1
    = (scores x0 x1 1 12) := by
  unfold kernelRun0_A.sl.v928 kernelRun0_A.sl.HS0_14
  rw [View.readCov_cons_toLoadRect]
  erw [(load_k _ harg4 x1 1 12 (off := ![0, 6144, 128]) _ rfl (by decide))]
  rw [(load_q _ harg3 x0 1 (off := ![0, 0, 128]) _ rfl)]
  all_goals rfl

theorem r_106_eq : kernelRun0_A.sl.r_106 c arg3 harg3 arg4 harg4 arg7 arg8 x0 x1
    = (rowMax x0 x1 1 13) := by
  unfold kernelRun0_A.sl.r_106
  rw [r_96_eq, v928_eq]
  all_goals rfl

theorem v1003_eq : kernelRun0_A.sl.v1003 c arg3 harg3 arg4 harg4 arg8 x0 x1
    = (scores x0 x1 1 13) := by
  unfold kernelRun0_A.sl.v1003 kernelRun0_A.sl.HS1_14
  rw [View.readCov_cons_toLoadRect]
  erw [(load_k _ harg4 x1 1 13 (off := ![0, 6656, 128]) _ rfl (by decide))]
  rw [(load_q _ harg3 x0 1 (off := ![0, 0, 128]) _ rfl)]
  all_goals rfl

theorem r_114_eq : kernelRun0_A.sl.r_114 c arg3 harg3 arg4 harg4 arg7 arg8 x0 x1
    = (rowMax x0 x1 1 14) := by
  unfold kernelRun0_A.sl.r_114
  rw [r_106_eq, v1003_eq]
  all_goals rfl

theorem v1077_eq : kernelRun0_A.sl.v1077 c arg3 harg3 arg4 harg4 arg7 x0 x1
    = (scores x0 x1 1 14) := by
  unfold kernelRun0_A.sl.v1077 kernelRun0_A.sl.HS0_16
  rw [View.readCov_cons_toLoadRect]
  erw [(load_k _ harg4 x1 1 14 (off := ![0, 7168, 128]) _ rfl (by decide))]
  rw [(load_q _ harg3 x0 1 (off := ![0, 0, 128]) _ rfl)]
  all_goals rfl

theorem r_125_eq : kernelRun0_A.sl.r_125 c arg3 harg3 arg4 harg4 arg7 arg8 x0 x1
    = (rowMax x0 x1 1 15) := by
  unfold kernelRun0_A.sl.r_125
  rw [r_114_eq, v1077_eq]
  all_goals rfl

theorem r_121_eq : kernelRun0_A.sl.r_121 c arg3 harg3 x0
    = (shapeCast S512x128 (qTile x0 1) shapeCasts_S1x512x128_S512x128) := by
  unfold kernelRun0_A.sl.r_121
  rw [(load_q _ harg3 x0 1 (off := ![0, 0, 128]) _ rfl)]
  all_goals rfl

theorem r_122_eq : kernelRun0_A.sl.r_122 c arg4 harg4 x1
    = (shapeCast S512x128 (kTile x1 1 15) shapeCasts_S1x512x128_S512x128) := by
  unfold kernelRun0_A.sl.r_122
  erw [(load_k _ harg4 x1 1 15 (off := ![0, 7680, 128]) _ rfl (by decide))]
  all_goals rfl

theorem v1127_eq : kernelRun0_A.sl.v1127 c arg3 harg3 arg4 harg4 arg8 x0 x1
    = (scores x0 x1 1 15) := by
  unfold kernelRun0_A.sl.v1127 kernelRun0_A.sl.HS1_16
  rw [View.readCov_cons_toLoadRect]
  rw [r_121_eq, r_122_eq, cst_514_eq]
  all_goals rfl

theorem r_133_eq : kernelRun0_A.sl.r_133 c arg3 harg3 arg4 harg4 arg7 arg8 x0 x1
    = (rowMax x0 x1 1 16) := by
  unfold kernelRun0_A.sl.r_133
  rw [r_125_eq, v1127_eq]
  all_goals rfl

theorem r_134_eq : kernelRun0_A.sl.r_134 c arg3 harg3 arg4 harg4 arg7 arg8 x0 x1
    = (decay x0 x1 1 15) := by
  unfold kernelRun0_A.sl.r_134
  rw [r_125_eq, r_133_eq]
  all_goals rfl

theorem r_126_eq : kernelRun0_A.sl.r_126 c arg3 harg3 arg4 harg4 arg7 arg8 x0 x1
    = (decay x0 x1 1 14) := by
  unfold kernelRun0_A.sl.r_126
  rw [r_114_eq, v1077_eq]
  all_goals rfl

theorem r_115_eq : kernelRun0_A.sl.r_115 c arg3 harg3 arg4 harg4 arg7 arg8 x0 x1
    = (decay x0 x1 1 13) := by
  unfold kernelRun0_A.sl.r_115
  rw [r_106_eq, v1003_eq]
  all_goals rfl

theorem r_107_eq : kernelRun0_A.sl.r_107 c arg3 harg3 arg4 harg4 arg7 arg8 x0 x1
    = (decay x0 x1 1 12) := by
  unfold kernelRun0_A.sl.r_107
  rw [r_96_eq, v928_eq]
  all_goals rfl

theorem r_97_eq : kernelRun0_A.sl.r_97 c arg3 harg3 arg4 harg4 arg7 arg8 x0 x1
    = (decay x0 x1 1 11) := by
  unfold kernelRun0_A.sl.r_97
  rw [r_89_eq, v854_eq]
  all_goals rfl

theorem r_90_eq : kernelRun0_A.sl.r_90 c arg3 harg3 arg4 harg4 arg7 arg8 x0 x1
    = (decay x0 x1 1 10) := by
  unfold kernelRun0_A.sl.r_90
  rw [r_78_eq, r_88_eq]
  all_goals rfl

theorem r_80_eq : kernelRun0_A.sl.r_80 c arg3 harg3 arg4 harg4 arg7 arg8 x0 x1
    = (decay x0 x1 1 9) := by
  unfold kernelRun0_A.sl.r_80
  rw [r_71_eq, r_78_eq]
  all_goals rfl

theorem r_72_eq : kernelRun0_A.sl.r_72 c arg3 harg3 arg4 harg4 arg7 arg8 x0 x1
    = (decay x0 x1 1 8) := by
  unfold kernelRun0_A.sl.r_72
  rw [r_62_eq, v630_eq]
  all_goals rfl

theorem r_63_eq : kernelRun0_A.sl.r_63 c arg3 harg3 arg4 harg4 arg7 arg8 x0 x1
    = (decay x0 x1 1 7) := by
  unfold kernelRun0_A.sl.r_63
  rw [r_54_eq, v556_eq]
  all_goals rfl

theorem r_55_eq : kernelRun0_A.sl.r_55 c arg3 harg3 arg4 harg4 arg7 arg8 x0 x1
    = (decay x0 x1 1 6) := by
  unfold kernelRun0_A.sl.r_55
  rw [r_44_eq, v481_eq]
  all_goals rfl

theorem r_45_eq : kernelRun0_A.sl.r_45 c arg3 harg3 arg4 harg4 arg7 arg8 x0 x1
    = (decay x0 x1 1 5) := by
  unfold kernelRun0_A.sl.r_45
  rw [r_37_eq, v407_eq]
  all_goals rfl

theorem r_38_eq : kernelRun0_A.sl.r_38 c arg3 harg3 arg4 harg4 arg7 arg8 x0 x1
    = (decay x0 x1 1 4) := by
  unfold kernelRun0_A.sl.r_38
  rw [r_28_eq, r_36_eq]
  all_goals rfl

theorem r_30_eq : kernelRun0_A.sl.r_30 c arg3 harg3 arg4 harg4 arg7 arg8 x0 x1
    = (decay x0 x1 1 3) := by
  unfold kernelRun0_A.sl.r_30
  rw [r_20_eq, r_28_eq]
  all_goals rfl

end Cert.AttnSample

end
-- ==== Proof.AttnSample.Chain2.lean ====
/- The unrolled trips of the attention region, read in order (part 2): each intermediate array is one of the tiles, chunk
   scores, running maxima, exponentials, decay factors or accumulators of `Block`. -/
module

public import proofs.«01_k».proof.Proof.AttnSample.Chain1

@[expose] public section

set_option maxRecDepth 16384

noncomputable section

namespace Cert.AttnSample

open Cert.Kernel3Ideal Cert.Kernel3Ideal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem r_21_eq : kernelRun0_A.sl.r_21 c arg3 harg3 arg4 harg4 arg7 arg8 x0 x1
    = (decay x0 x1 1 2) := by
  unfold kernelRun0_A.sl.r_21
  rw [r_11_eq, v183_eq]
  all_goals rfl

theorem r_12_eq : kernelRun0_A.sl.r_12 c arg3 harg3 arg4 harg4 arg7 arg8 x0 x1
    = (decay x0 x1 1 1) := by
  unfold kernelRun0_A.sl.r_12
  rw [r_6_eq, v109_eq]
  all_goals rfl

theorem r_7_eq : kernelRun0_A.sl.r_7 c arg3 harg3 arg4 harg4 arg7 x0 x1
    = (decay x0 x1 1 0) := by
  unfold kernelRun0_A.sl.r_7
  rw [r_5_eq]
  all_goals rfl

theorem r_4_eq : kernelRun0_A.sl.r_4 c arg3 harg3 arg4 harg4 arg7 x0 x1
    = (shapeCast S512x512 (scores x0 x1 1 0) shapeCasts_S1x512x512_S512x512) := by
  unfold kernelRun0_A.sl.r_4
  rw [v56_eq]
  all_goals rfl

theorem v42_eq : kernelRun0_A.sl.v42 c arg3 harg3 arg4 harg4 arg7 x0 x1
    = (scores x0 x1 0 0) := by
  unfold kernelRun0_A.sl.v42 kernelRun0_A.sl.HS0_2
  rw [View.readCov_cons_of_disjoint, View.readCov_cons_toLoadRect]
  rotate_left; exact slots_disjoint inb_S2x512x512_S1x512x512_1_0_0 inb_S2x512x512_S1x512x512_0_0_0
  rw [(load_q _ harg3 x0 0 (off := ![0, 0, 0]) _ rfl), (load_k _ harg4 x1 0 0 (off := ![0, 0, 0]) _ rfl (by decide))]
  all_goals rfl

theorem v137_eq : kernelRun0_A.sl.v137 c arg3 harg3 arg4 harg4 arg7 arg9 x0 x1
    = (expo x0 x1 1 0) := by
  unfold kernelRun0_A.sl.v137 kernelRun0_A.sl.HS2_2
  rw [View.readCov_cons_toLoadRect]
  rw [r_4_eq, r_5_eq]
  all_goals rfl

theorem r_16_eq : kernelRun0_A.sl.r_16 c arg3 harg3 arg4 harg4 arg5 harg5 arg7 arg9 x0 x1 x2
    = (accum x0 x1 x2 1 1) := by
  unfold kernelRun0_A.sl.r_16
  erw [(load_v _ harg5 x2 1 0 (off := ![0, 0, 128]) _ rfl (by decide))]
  rw [r_7_eq, v137_eq]
  all_goals rfl

theorem r_2_eq : kernelRun0_A.sl.r_2 c arg3 harg3 arg4 harg4 arg7 x0 x1
    = (rowMax x0 x1 0 1) := by
  unfold kernelRun0_A.sl.r_2
  rw [v42_eq]
  all_goals rfl

theorem v95_eq : kernelRun0_A.sl.v95 c arg3 harg3 arg4 harg4 arg8 x0 x1
    = (scores x0 x1 0 1) := by
  unfold kernelRun0_A.sl.v95 kernelRun0_A.sl.HS1_2
  rw [View.readCov_cons_of_disjoint, View.readCov_cons_toLoadRect]
  rotate_left; exact slots_disjoint inb_S2x512x512_S1x512x512_1_0_0 inb_S2x512x512_S1x512x512_0_0_0
  rw [r_eq, r_1_eq]
  all_goals rfl

theorem v210_eq : kernelRun0_A.sl.v210 c arg3 harg3 arg4 harg4 arg7 arg8 arg10 x0 x1
    = (expo x0 x1 1 1) := by
  unfold kernelRun0_A.sl.v210 kernelRun0_A.sl.HS3_2
  rw [View.readCov_cons_toLoadRect]
  rw [r_6_eq, v109_eq]
  all_goals rfl

theorem r_24_eq : kernelRun0_A.sl.r_24 c arg3 harg3 arg4 harg4 arg5 harg5 arg7 arg8 arg9 arg10 x0 x1 x2
    = (accum x0 x1 x2 1 2) := by
  unfold kernelRun0_A.sl.r_24
  erw [(load_v _ harg5 x2 1 1 (off := ![0, 512, 128]) _ rfl (by decide))]
  rw [r_12_eq, r_16_eq, v210_eq]
  all_goals rfl

theorem r_9_eq : kernelRun0_A.sl.r_9 c arg3 harg3 arg4 harg4 arg7 arg8 x0 x1
    = (rowMax x0 x1 0 2) := by
  unfold kernelRun0_A.sl.r_9
  rw [r_2_eq, v95_eq]
  all_goals rfl

theorem v169_eq : kernelRun0_A.sl.v169 c arg3 harg3 arg4 harg4 arg7 x0 x1
    = (scores x0 x1 0 2) := by
  unfold kernelRun0_A.sl.v169 kernelRun0_A.sl.HS0_4
  rw [View.readCov_cons_of_disjoint, View.readCov_cons_toLoadRect]
  rotate_left; exact slots_disjoint inb_S2x512x512_S1x512x512_1_0_0 inb_S2x512x512_S1x512x512_0_0_0
  erw [(load_k _ harg4 x1 0 2 (off := ![0, 1024, 0]) _ rfl (by decide))]
  rw [(load_q _ harg3 x0 0 (off := ![0, 0, 0]) _ rfl)]
  all_goals rfl

theorem v286_eq : kernelRun0_A.sl.v286 c arg3 harg3 arg4 harg4 arg7 arg8 arg9 x0 x1
    = (expo x0 x1 1 2) := by
  unfold kernelRun0_A.sl.v286 kernelRun0_A.sl.HS2_4
  rw [View.readCov_cons_toLoadRect]
  rw [r_11_eq, v183_eq]
  all_goals rfl

theorem r_32_eq : kernelRun0_A.sl.r_32 c arg3 harg3 arg4 harg4 arg5 harg5 arg7 arg8 arg9 arg10 x0 x1 x2
    = (accum x0 x1 x2 1 3) := by
  unfold kernelRun0_A.sl.r_32
  erw [(load_v _ harg5 x2 1 2 (off := ![0, 1024, 128]) _ rfl (by decide))]
  rw [r_21_eq, r_24_eq, v286_eq]
  all_goals rfl

theorem r_29_eq : kernelRun0_A.sl.r_29 c arg3 harg3 arg4 harg4 arg7 arg8 x0 x1
    = (truncf .bf16 (exp2 (subf (shapeCast S512x512 (scores x0 x1 1 3) shapeCasts_S1x512x512_S512x512) (broadcastTo S512x512 (rowMax x0 x1 1 4) broadcasts_S512x1_S512x512))) bitsLt_bf16_f32) := by
  unfold kernelRun0_A.sl.r_29
  rw [r_20_eq, v258_eq]
  all_goals rfl

theorem r_18_eq : kernelRun0_A.sl.r_18 c arg3 harg3 arg4 harg4 arg7 arg8 x0 x1
    = (rowMax x0 x1 0 3) := by
  unfold kernelRun0_A.sl.r_18
  rw [r_9_eq, v169_eq]
  all_goals rfl

theorem v244_eq : kernelRun0_A.sl.v244 c arg3 harg3 arg4 harg4 arg8 x0 x1
    = (scores x0 x1 0 3) := by
  unfold kernelRun0_A.sl.v244 kernelRun0_A.sl.HS1_4
  rw [View.readCov_cons_of_disjoint, View.readCov_cons_toLoadRect]
  rotate_left; exact slots_disjoint inb_S2x512x512_S1x512x512_1_0_0 inb_S2x512x512_S1x512x512_0_0_0
  erw [(load_k _ harg4 x1 0 3 (off := ![0, 1536, 0]) _ rfl (by decide))]
  rw [(load_q _ harg3 x0 0 (off := ![0, 0, 0]) _ rfl)]
  all_goals rfl

theorem v359_eq : kernelRun0_A.sl.v359 c arg3 harg3 arg4 harg4 arg7 arg8 arg10 x0 x1
    = (expo x0 x1 1 3) := by
  unfold kernelRun0_A.sl.v359 kernelRun0_A.sl.HS3_4
  rw [View.readCov_cons_toLoadRect]
  rw [r_29_eq]
  all_goals rfl

theorem r_40_eq : kernelRun0_A.sl.r_40 c arg3 harg3 arg4 harg4 arg5 harg5 arg7 arg8 arg9 arg10 x0 x1 x2
    = (accum x0 x1 x2 1 4) := by
  unfold kernelRun0_A.sl.r_40
  erw [(load_v _ harg5 x2 1 3 (off := ![0, 1536, 128]) _ rfl (by decide))]
  rw [r_30_eq, r_32_eq, v359_eq]
  all_goals rfl

theorem r_47_eq : kernelRun0_A.sl.r_47 c arg3 harg3 arg4 harg4 arg5 harg5 arg7 arg8 arg9 arg10 x0 x1 x2
    = (mulf (broadcastTo S512x128 (decay x0 x1 1 4) broadcasts_S512x1_S512x128) (accum x0 x1 x2 1 4)) := by
  unfold kernelRun0_A.sl.r_47
  rw [r_38_eq, r_40_eq]
  all_goals rfl

theorem r_26_eq : kernelRun0_A.sl.r_26 c arg3 harg3 arg4 harg4 arg7 arg8 x0 x1
    = (rowMax x0 x1 0 4) := by
  unfold kernelRun0_A.sl.r_26
  rw [r_18_eq, v244_eq]
  all_goals rfl

theorem v318_eq : kernelRun0_A.sl.v318 c arg3 harg3 arg4 harg4 arg7 x0 x1
    = (scores x0 x1 0 4) := by
  unfold kernelRun0_A.sl.v318 kernelRun0_A.sl.HS0_6
  rw [View.readCov_cons_of_disjoint, View.readCov_cons_toLoadRect]
  rotate_left; exact slots_disjoint inb_S2x512x512_S1x512x512_1_0_0 inb_S2x512x512_S1x512x512_0_0_0
  rw [r_25_eq]
  all_goals rfl

theorem v435_eq : kernelRun0_A.sl.v435 c arg3 harg3 arg4 harg4 arg7 arg8 arg9 x0 x1
    = (expo x0 x1 1 4) := by
  unfold kernelRun0_A.sl.v435 kernelRun0_A.sl.HS2_6
  rw [View.readCov_cons_toLoadRect]
  rw [r_28_eq, r_36_eq]
  all_goals rfl

theorem r_48_eq : kernelRun0_A.sl.r_48 c arg3 harg3 arg4 harg4 arg7 arg8 arg9 x0 x1
    = (shapeCast S512x512 (expo x0 x1 1 4) shapeCasts_S1x512x512_S512x512) := by
  unfold kernelRun0_A.sl.r_48
  rw [v435_eq]
  all_goals rfl

theorem r_49_eq : kernelRun0_A.sl.r_49 c arg3 harg3 arg4 harg4 arg5 harg5 arg7 arg8 arg9 arg10 x0 x1 x2
    = (accum x0 x1 x2 1 5) := by
  unfold kernelRun0_A.sl.r_49
  erw [(load_v _ harg5 x2 1 4 (off := ![0, 2048, 128]) _ rfl (by decide))]
  rw [r_47_eq, r_48_eq]
  all_goals rfl

theorem r_57_eq : kernelRun0_A.sl.r_57 c arg3 harg3 arg4 harg4 arg5 harg5 arg7 arg8 arg9 arg10 x0 x1 x2
    = (mulf (broadcastTo S512x128 (decay x0 x1 1 5) broadcasts_S512x1_S512x128) (accum x0 x1 x2 1 5)) := by
  unfold kernelRun0_A.sl.r_57
  rw [r_45_eq, r_49_eq]
  all_goals rfl

theorem r_34_eq : kernelRun0_A.sl.r_34 c arg3 harg3 arg4 harg4 arg7 arg8 x0 x1
    = (rowMax x0 x1 0 5) := by
  unfold kernelRun0_A.sl.r_34
  rw [r_26_eq, v318_eq]
  all_goals rfl

theorem v393_eq : kernelRun0_A.sl.v393 c arg3 harg3 arg4 harg4 arg8 x0 x1
    = (scores x0 x1 0 5) := by
  unfold kernelRun0_A.sl.v393 kernelRun0_A.sl.HS1_6
  rw [View.readCov_cons_of_disjoint, View.readCov_cons_toLoadRect]
  rotate_left; exact slots_disjoint inb_S2x512x512_S1x512x512_1_0_0 inb_S2x512x512_S1x512x512_0_0_0
  erw [(load_k _ harg4 x1 0 5 (off := ![0, 2560, 0]) _ rfl (by decide))]
  rw [r_33_eq]
  all_goals rfl

theorem r_42_eq : kernelRun0_A.sl.r_42 c arg3 harg3 arg4 harg4 arg7 arg8 x0 x1
    = (truncf .bf16 (exp2 (subf (shapeCast S512x512 (scores x0 x1 0 5) shapeCasts_S1x512x512_S512x512) (broadcastTo S512x512 (rowMax x0 x1 0 6) broadcasts_S512x1_S512x512))) bitsLt_bf16_f32) := by
  unfold kernelRun0_A.sl.r_42
  rw [r_34_eq, v393_eq]
  all_goals rfl

theorem v508_eq : kernelRun0_A.sl.v508 c arg3 harg3 arg4 harg4 arg7 arg8 arg10 x0 x1
    = (expo x0 x1 1 5) := by
  unfold kernelRun0_A.sl.v508 kernelRun0_A.sl.HS3_6
  rw [View.readCov_cons_toLoadRect]
  rw [r_37_eq, v407_eq]
  all_goals rfl

theorem r_58_eq : kernelRun0_A.sl.r_58 c arg3 harg3 arg4 harg4 arg5 harg5 arg7 arg8 arg9 arg10 x0 x1 x2
    = (accum x0 x1 x2 1 6) := by
  unfold kernelRun0_A.sl.r_58
  erw [(load_v _ harg5 x2 1 5 (off := ![0, 2560, 128]) _ rfl (by decide))]
  rw [r_57_eq, v508_eq]
  all_goals rfl

theorem r_41_eq : kernelRun0_A.sl.r_41 c arg3 harg3 arg4 harg4 arg7 arg8 x0 x1
    = (rowMax x0 x1 0 6) := by
  unfold kernelRun0_A.sl.r_41
  rw [r_34_eq, v393_eq]
  all_goals rfl

theorem v467_eq : kernelRun0_A.sl.v467 c arg3 harg3 arg4 harg4 arg7 x0 x1
    = (scores x0 x1 0 6) := by
  unfold kernelRun0_A.sl.v467 kernelRun0_A.sl.HS0_8
  rw [View.readCov_cons_of_disjoint, View.readCov_cons_toLoadRect]
  rotate_left; exact slots_disjoint inb_S2x512x512_S1x512x512_1_0_0 inb_S2x512x512_S1x512x512_0_0_0
  erw [(load_k _ harg4 x1 0 6 (off := ![0, 3072, 0]) _ rfl (by decide))]
  rw [(load_q _ harg3 x0 0 (off := ![0, 0, 0]) _ rfl)]
  all_goals rfl

theorem r_50_eq : kernelRun0_A.sl.r_50 c arg3 harg3 arg4 harg4 arg7 x0 x1
    = (shapeCast S512x512 (scores x0 x1 0 6) shapeCasts_S1x512x512_S512x512) := by
  unfold kernelRun0_A.sl.r_50
  rw [v467_eq]
  all_goals rfl

theorem r_51_eq : kernelRun0_A.sl.r_51 c arg3 harg3 arg4 harg4 arg7 x0 x1
    = (shapeCast S512x1 (multiReduction .maximumf [1] S512 (shapeCast S512x512 (scores x0 x1 0 6) shapeCasts_S1x512x512_S512x512) 0xFF800000#32 reduces_S512x512_S512 (.inl rfl) rfl) shapeCasts_S512_S512x1) := by
  unfold kernelRun0_A.sl.r_51
  rw [v467_eq]
  all_goals rfl

theorem v584_eq : kernelRun0_A.sl.v584 c arg3 harg3 arg4 harg4 arg7 arg8 arg9 x0 x1
    = (expo x0 x1 1 6) := by
  unfold kernelRun0_A.sl.v584 kernelRun0_A.sl.HS2_8
  rw [View.readCov_cons_toLoadRect]
  rw [r_44_eq, v481_eq]
  all_goals rfl

theorem r_67_eq : kernelRun0_A.sl.r_67 c arg3 harg3 arg4 harg4 arg5 harg5 arg7 arg8 arg9 arg10 x0 x1 x2
    = (accum x0 x1 x2 1 7) := by
  unfold kernelRun0_A.sl.r_67
  erw [(load_v _ harg5 x2 1 6 (off := ![0, 3072, 128]) _ rfl (by decide))]
  rw [r_55_eq, r_58_eq, v584_eq]
  all_goals rfl

theorem r_52_eq : kernelRun0_A.sl.r_52 c arg3 harg3 arg4 harg4 arg7 arg8 x0 x1
    = (rowMax x0 x1 0 7) := by
  unfold kernelRun0_A.sl.r_52
  rw [r_41_eq, r_51_eq]
  all_goals rfl

theorem v542_eq : kernelRun0_A.sl.v542 c arg3 harg3 arg4 harg4 arg8 x0 x1
    = (scores x0 x1 0 7) := by
  unfold kernelRun0_A.sl.v542 kernelRun0_A.sl.HS1_8
  rw [View.readCov_cons_of_disjoint, View.readCov_cons_toLoadRect]
  rotate_left; exact slots_disjoint inb_S2x512x512_S1x512x512_1_0_0 inb_S2x512x512_S1x512x512_0_0_0
  erw [(load_k _ harg4 x1 0 7 (off := ![0, 3584, 0]) _ rfl (by decide))]
  rw [(load_q _ harg3 x0 0 (off := ![0, 0, 0]) _ rfl)]
  all_goals rfl

theorem v657_eq : kernelRun0_A.sl.v657 c arg3 harg3 arg4 harg4 arg7 arg8 arg10 x0 x1
    = (expo x0 x1 1 7) := by
  unfold kernelRun0_A.sl.v657 kernelRun0_A.sl.HS3_8
  rw [View.readCov_cons_toLoadRect]
  rw [r_54_eq, v556_eq]
  all_goals rfl

theorem r_75_eq : kernelRun0_A.sl.r_75 c arg3 harg3 arg4 harg4 arg5 harg5 arg7 arg8 arg9 arg10 x0 x1 x2
    = (accum x0 x1 x2 1 8) := by
  unfold kernelRun0_A.sl.r_75
  erw [(load_v _ harg5 x2 1 7 (off := ![0, 3584, 128]) _ rfl (by decide))]
  rw [r_63_eq, r_67_eq, v657_eq]
  all_goals rfl

theorem r_60_eq : kernelRun0_A.sl.r_60 c arg3 harg3 arg4 harg4 arg7 arg8 x0 x1
    = (rowMax x0 x1 0 8) := by
  unfold kernelRun0_A.sl.r_60
  rw [r_52_eq, v542_eq]
  all_goals rfl

theorem v616_eq : kernelRun0_A.sl.v616 c arg3 harg3 arg4 harg4 arg7 x0 x1
    = (scores x0 x1 0 8) := by
  unfold kernelRun0_A.sl.v616 kernelRun0_A.sl.HS0_10 kernelRun0_A.sl.HS0_9
  rw [View.readCov_cons_of_disjoint, View.readCov_cons_toLoadRect]
  rotate_left; exact slots_disjoint inb_S2x512x512_S1x512x512_1_0_0 inb_S2x512x512_S1x512x512_0_0_0
  erw [(load_k _ harg4 x1 0 8 (off := ![0, 4096, 0]) _ rfl (by decide))]
  rw [(load_q _ harg3 x0 0 (off := ![0, 0, 0]) _ rfl)]
  all_goals rfl

theorem v733_eq : kernelRun0_A.sl.v733 c arg3 harg3 arg4 harg4 arg7 arg8 arg9 x0 x1
    = (expo x0 x1 1 8) := by
  unfold kernelRun0_A.sl.v733 kernelRun0_A.sl.HS2_10
  rw [View.readCov_cons_toLoadRect]
  rw [r_62_eq, v630_eq]
  all_goals rfl

theorem r_82_eq : kernelRun0_A.sl.r_82 c arg3 harg3 arg4 harg4 arg5 harg5 arg7 arg8 arg9 arg10 x0 x1 x2
    = (accum x0 x1 x2 1 9) := by
  unfold kernelRun0_A.sl.r_82
  erw [(load_v _ harg5 x2 1 8 (off := ![0, 4096, 128]) _ rfl (by decide))]
  rw [r_72_eq, r_75_eq, v733_eq]
  all_goals rfl

theorem r_79_eq : kernelRun0_A.sl.r_79 c arg3 harg3 arg4 harg4 arg7 arg8 x0 x1
    = (truncf .bf16 (exp2 (subf (shapeCast S512x512 (scores x0 x1 1 9) shapeCasts_S1x512x512_S512x512) (broadcastTo S512x512 (rowMax x0 x1 1 10) broadcasts_S512x1_S512x512))) bitsLt_bf16_f32) := by
  unfold kernelRun0_A.sl.r_79
  rw [r_71_eq, v705_eq]
  all_goals rfl

theorem r_69_eq : kernelRun0_A.sl.r_69 c arg3 harg3 arg4 harg4 arg7 arg8 x0 x1
    = (rowMax x0 x1 0 9) := by
  unfold kernelRun0_A.sl.r_69
  rw [r_60_eq, v616_eq]
  all_goals rfl

theorem v691_eq : kernelRun0_A.sl.v691 c arg3 harg3 arg4 harg4 arg8 x0 x1
    = (scores x0 x1 0 9) := by
  unfold kernelRun0_A.sl.v691 kernelRun0_A.sl.HS1_10
  rw [View.readCov_cons_of_disjoint, View.readCov_cons_toLoadRect]
  rotate_left; exact slots_disjoint inb_S2x512x512_S1x512x512_1_0_0 inb_S2x512x512_S1x512x512_0_0_0
  erw [(load_k _ harg4 x1 0 9 (off := ![0, 4608, 0]) _ rfl (by decide))]
  rw [(load_q _ harg3 x0 0 (off := ![0, 0, 0]) _ rfl)]
  all_goals rfl

theorem v806_eq : kernelRun0_A.sl.v806 c arg3 harg3 arg4 harg4 arg7 arg8 arg10 x0 x1
    = (expo x0 x1 1 9) := by
  unfold kernelRun0_A.sl.v806 kernelRun0_A.sl.HS3_10
  rw [View.readCov_cons_toLoadRect]
  rw [r_79_eq]
  all_goals rfl

theorem r_92_eq : kernelRun0_A.sl.r_92 c arg3 harg3 arg4 harg4 arg5 harg5 arg7 arg8 arg9 arg10 x0 x1 x2
    = (accum x0 x1 x2 1 10) := by
  unfold kernelRun0_A.sl.r_92
  erw [(load_v _ harg5 x2 1 9 (off := ![0, 4608, 128]) _ rfl (by decide))]
  rw [r_80_eq, r_82_eq, v806_eq]
  all_goals rfl

theorem r_99_eq : kernelRun0_A.sl.r_99 c arg3 harg3 arg4 harg4 arg5 harg5 arg7 arg8 arg9 arg10 x0 x1 x2
    = (mulf (broadcastTo S512x128 (decay x0 x1 1 10) broadcasts_S512x1_S512x128) (accum x0 x1 x2 1 10)) := by
  unfold kernelRun0_A.sl.r_99
  rw [r_90_eq, r_92_eq]
  all_goals rfl

theorem r_87_eq : kernelRun0_A.sl.r_87 c arg3 harg3 arg4 harg4 arg7 x0 x1
    = (shapeCast S512x512 (scores x0 x1 1 10) shapeCasts_S1x512x512_S512x512) := by
  unfold kernelRun0_A.sl.r_87
  rw [v779_eq]
  all_goals rfl

theorem r_76_eq : kernelRun0_A.sl.r_76 c arg3 harg3 arg4 harg4 arg7 arg8 x0 x1
    = (rowMax x0 x1 0 10) := by
  unfold kernelRun0_A.sl.r_76
  rw [r_69_eq, v691_eq]
  all_goals rfl

theorem v765_eq : kernelRun0_A.sl.v765 c arg3 harg3 arg4 harg4 arg7 x0 x1
    = (scores x0 x1 0 10) := by
  unfold kernelRun0_A.sl.v765 kernelRun0_A.sl.HS0_12
  rw [View.readCov_cons_of_disjoint, View.readCov_cons_toLoadRect]
  rotate_left; exact slots_disjoint inb_S2x512x512_S1x512x512_1_0_0 inb_S2x512x512_S1x512x512_0_0_0
  erw [(load_k _ harg4 x1 0 10 (off := ![0, 5120, 0]) _ rfl (by decide))]
  rw [(load_q _ harg3 x0 0 (off := ![0, 0, 0]) _ rfl)]
  all_goals rfl

theorem v882_eq : kernelRun0_A.sl.v882 c arg3 harg3 arg4 harg4 arg7 arg8 arg9 x0 x1
    = (expo x0 x1 1 10) := by
  unfold kernelRun0_A.sl.v882 kernelRun0_A.sl.HS2_12
  rw [View.readCov_cons_toLoadRect]
  rw [r_78_eq, r_87_eq, r_88_eq]
  all_goals rfl

theorem r_100_eq : kernelRun0_A.sl.r_100 c arg3 harg3 arg4 harg4 arg7 arg8 arg9 x0 x1
    = (shapeCast S512x512 (expo x0 x1 1 10) shapeCasts_S1x512x512_S512x512) := by
  unfold kernelRun0_A.sl.r_100
  rw [v882_eq]
  all_goals rfl

theorem r_101_eq : kernelRun0_A.sl.r_101 c arg5 harg5 x2
    = (shapeCast S512x128 (vTile x2 1 10) shapeCasts_S1x512x128_S512x128) := by
  unfold kernelRun0_A.sl.r_101
  erw [(load_v _ harg5 x2 1 10 (off := ![0, 5120, 128]) _ rfl (by decide))]
  all_goals rfl

theorem r_102_eq : kernelRun0_A.sl.r_102 c arg3 harg3 arg4 harg4 arg5 harg5 arg7 arg8 arg9 arg10 x0 x1 x2
    = (accum x0 x1 x2 1 11) := by
  unfold kernelRun0_A.sl.r_102
  rw [r_99_eq, r_100_eq, r_101_eq]
  all_goals rfl

theorem r_109_eq : kernelRun0_A.sl.r_109 c arg3 harg3 arg4 harg4 arg5 harg5 arg7 arg8 arg9 arg10 x0 x1 x2
    = (mulf (broadcastTo S512x128 (decay x0 x1 1 11) broadcasts_S512x1_S512x128) (accum x0 x1 x2 1 11)) := by
  unfold kernelRun0_A.sl.r_109
  rw [r_97_eq, r_102_eq]
  all_goals rfl

theorem r_85_eq : kernelRun0_A.sl.r_85 c arg3 harg3 arg4 harg4 arg7 arg8 x0 x1
    = (rowMax x0 x1 0 11) := by
  unfold kernelRun0_A.sl.r_85
  rw [r_76_eq, v765_eq]
  all_goals rfl

end Cert.AttnSample

end
-- ==== Proof.AttnSample.Chain3.lean ====
/- The unrolled trips of the attention region, read in order (part 3): each intermediate array is one of the tiles, chunk
   scores, running maxima, exponentials, decay factors or accumulators of `Block`. -/
module

public import proofs.«01_k».proof.Proof.AttnSample.Chain2

@[expose] public section

set_option maxRecDepth 16384

noncomputable section

namespace Cert.AttnSample

open Cert.Kernel3Ideal Cert.Kernel3Ideal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v840_eq : kernelRun0_A.sl.v840 c arg3 harg3 arg4 harg4 arg8 x0 x1
    = (scores x0 x1 0 11) := by
  unfold kernelRun0_A.sl.v840 kernelRun0_A.sl.HS1_12
  rw [View.readCov_cons_of_disjoint, View.readCov_cons_toLoadRect]
  rotate_left; exact slots_disjoint inb_S2x512x512_S1x512x512_1_0_0 inb_S2x512x512_S1x512x512_0_0_0
  rw [r_83_eq, r_84_eq, cst_514_eq]
  all_goals rfl

theorem r_94_eq : kernelRun0_A.sl.r_94 c arg3 harg3 arg4 harg4 arg7 arg8 x0 x1
    = (expo x0 x1 0 11) := by
  unfold kernelRun0_A.sl.r_94
  rw [r_85_eq, v840_eq]
  all_goals rfl

theorem v955_eq : kernelRun0_A.sl.v955 c arg3 harg3 arg4 harg4 arg7 arg8 arg10 x0 x1
    = (expo x0 x1 1 11) := by
  unfold kernelRun0_A.sl.v955 kernelRun0_A.sl.HS3_12
  rw [View.readCov_cons_toLoadRect]
  rw [r_89_eq, v854_eq]
  all_goals rfl

theorem r_110_eq : kernelRun0_A.sl.r_110 c arg3 harg3 arg4 harg4 arg7 arg8 arg10 x0 x1
    = (shapeCast S512x512 (expo x0 x1 1 11) shapeCasts_S1x512x512_S512x512) := by
  unfold kernelRun0_A.sl.r_110
  rw [v955_eq]
  all_goals rfl

theorem r_111_eq : kernelRun0_A.sl.r_111 c arg3 harg3 arg4 harg4 arg5 harg5 arg7 arg8 arg9 arg10 x0 x1 x2
    = (accum x0 x1 x2 1 12) := by
  unfold kernelRun0_A.sl.r_111
  erw [(load_v _ harg5 x2 1 11 (off := ![0, 5632, 128]) _ rfl (by decide))]
  rw [r_109_eq, r_110_eq]
  all_goals rfl

theorem r_93_eq : kernelRun0_A.sl.r_93 c arg3 harg3 arg4 harg4 arg7 arg8 x0 x1
    = (rowMax x0 x1 0 12) := by
  unfold kernelRun0_A.sl.r_93
  rw [r_85_eq, v840_eq]
  all_goals rfl

theorem v914_eq : kernelRun0_A.sl.v914 c arg3 harg3 arg4 harg4 arg7 x0 x1
    = (scores x0 x1 0 12) := by
  unfold kernelRun0_A.sl.v914 kernelRun0_A.sl.HS0_14
  rw [View.readCov_cons_of_disjoint, View.readCov_cons_toLoadRect]
  rotate_left; exact slots_disjoint inb_S2x512x512_S1x512x512_1_0_0 inb_S2x512x512_S1x512x512_0_0_0
  erw [(load_k _ harg4 x1 0 12 (off := ![0, 6144, 0]) _ rfl (by decide))]
  rw [(load_q _ harg3 x0 0 (off := ![0, 0, 0]) _ rfl)]
  all_goals rfl

theorem r_104_eq : kernelRun0_A.sl.r_104 c arg3 harg3 arg4 harg4 arg7 arg8 x0 x1
    = (subf (shapeCast S512x512 (scores x0 x1 0 12) shapeCasts_S1x512x512_S512x512) (broadcastTo S512x512 (rowMax x0 x1 0 13) broadcasts_S512x1_S512x512)) := by
  unfold kernelRun0_A.sl.r_104
  rw [r_93_eq, v914_eq]
  all_goals rfl

theorem v1031_eq : kernelRun0_A.sl.v1031 c arg3 harg3 arg4 harg4 arg7 arg8 arg9 x0 x1
    = (expo x0 x1 1 12) := by
  unfold kernelRun0_A.sl.v1031 kernelRun0_A.sl.HS2_14
  rw [View.readCov_cons_toLoadRect]
  rw [r_96_eq, v928_eq]
  all_goals rfl

theorem r_120_eq : kernelRun0_A.sl.r_120 c arg3 harg3 arg4 harg4 arg5 harg5 arg7 arg8 arg9 arg10 x0 x1 x2
    = (accum x0 x1 x2 1 13) := by
  unfold kernelRun0_A.sl.r_120
  erw [(load_v _ harg5 x2 1 12 (off := ![0, 6144, 128]) _ rfl (by decide))]
  rw [r_107_eq, r_111_eq, v1031_eq]
  all_goals rfl

theorem r_103_eq : kernelRun0_A.sl.r_103 c arg3 harg3 arg4 harg4 arg7 arg8 x0 x1
    = (rowMax x0 x1 0 13) := by
  unfold kernelRun0_A.sl.r_103
  rw [r_93_eq, v914_eq]
  all_goals rfl

theorem v989_eq : kernelRun0_A.sl.v989 c arg3 harg3 arg4 harg4 arg8 x0 x1
    = (scores x0 x1 0 13) := by
  unfold kernelRun0_A.sl.v989 kernelRun0_A.sl.HS1_14
  rw [View.readCov_cons_of_disjoint, View.readCov_cons_toLoadRect]
  rotate_left; exact slots_disjoint inb_S2x512x512_S1x512x512_1_0_0 inb_S2x512x512_S1x512x512_0_0_0
  erw [(load_k _ harg4 x1 0 13 (off := ![0, 6656, 0]) _ rfl (by decide))]
  rw [(load_q _ harg3 x0 0 (off := ![0, 0, 0]) _ rfl)]
  all_goals rfl

theorem v1104_eq : kernelRun0_A.sl.v1104 c arg3 harg3 arg4 harg4 arg7 arg8 arg10 x0 x1
    = (expo x0 x1 1 13) := by
  unfold kernelRun0_A.sl.v1104 kernelRun0_A.sl.HS3_14
  rw [View.readCov_cons_toLoadRect]
  rw [r_106_eq, v1003_eq]
  all_goals rfl

theorem r_130_eq : kernelRun0_A.sl.r_130 c arg3 harg3 arg4 harg4 arg5 harg5 arg7 arg8 arg9 arg10 x0 x1 x2
    = (accum x0 x1 x2 1 14) := by
  unfold kernelRun0_A.sl.r_130
  erw [(load_v _ harg5 x2 1 13 (off := ![0, 6656, 128]) _ rfl (by decide))]
  rw [r_115_eq, r_120_eq, v1104_eq]
  all_goals rfl

theorem r_112_eq : kernelRun0_A.sl.r_112 c arg3 harg3 arg4 harg4 arg7 arg8 x0 x1
    = (rowMax x0 x1 0 14) := by
  unfold kernelRun0_A.sl.r_112
  rw [r_103_eq, v989_eq]
  all_goals rfl

theorem v1063_eq : kernelRun0_A.sl.v1063 c arg3 harg3 arg4 harg4 arg7 x0 x1
    = (scores x0 x1 0 14) := by
  unfold kernelRun0_A.sl.v1063 kernelRun0_A.sl.HS0_16
  rw [View.readCov_cons_of_disjoint, View.readCov_cons_toLoadRect]
  rotate_left; exact slots_disjoint inb_S2x512x512_S1x512x512_1_0_0 inb_S2x512x512_S1x512x512_0_0_0
  erw [(load_k _ harg4 x1 0 14 (off := ![0, 7168, 0]) _ rfl (by decide))]
  rw [(load_q _ harg3 x0 0 (off := ![0, 0, 0]) _ rfl)]
  all_goals rfl

theorem v1153_eq : kernelRun0_A.sl.v1153 c arg3 harg3 arg4 harg4 arg7 arg8 arg9 x0 x1
    = (expo x0 x1 1 14) := by
  unfold kernelRun0_A.sl.v1153 kernelRun0_A.sl.HS2_16
  rw [View.readCov_cons_toLoadRect]
  rw [r_114_eq, v1077_eq]
  all_goals rfl

theorem r_135_eq : kernelRun0_A.sl.r_135 c arg3 harg3 arg4 harg4 arg5 harg5 arg7 arg8 arg9 arg10 x0 x1 x2
    = (accum x0 x1 x2 1 15) := by
  unfold kernelRun0_A.sl.r_135
  rw [r_126_eq, r_130_eq, v1153_eq, (load_v _ harg5 x2 1 14 (off := ![0, 7168, 128]) _ rfl (by decide))]
  all_goals rfl

theorem r_132_eq : kernelRun0_A.sl.r_132 c arg3 harg3 arg4 harg4 arg8 x0 x1
    = (shapeCast S512x512 (scores x0 x1 1 15) shapeCasts_S1x512x512_S512x512) := by
  unfold kernelRun0_A.sl.r_132
  rw [v1127_eq]
  all_goals rfl

theorem r_123_eq : kernelRun0_A.sl.r_123 c arg3 harg3 arg4 harg4 arg7 arg8 x0 x1
    = (rowMax x0 x1 0 15) := by
  unfold kernelRun0_A.sl.r_123
  rw [r_112_eq, v1063_eq]
  all_goals rfl

theorem v1113_eq : kernelRun0_A.sl.v1113 c arg3 harg3 arg4 harg4 arg8 x0 x1
    = (scores x0 x1 0 15) := by
  unfold kernelRun0_A.sl.v1113 kernelRun0_A.sl.HS1_16
  rw [View.readCov_cons_of_disjoint, View.readCov_cons_toLoadRect]
  rotate_left; exact slots_disjoint inb_S2x512x512_S1x512x512_1_0_0 inb_S2x512x512_S1x512x512_0_0_0
  erw [(load_k _ harg4 x1 0 15 (off := ![0, 7680, 0]) _ rfl (by decide))]
  rw [(load_q _ harg3 x0 0 (off := ![0, 0, 0]) _ rfl)]
  all_goals rfl

theorem v1173_eq : kernelRun0_A.sl.v1173 c arg3 harg3 arg4 harg4 arg7 arg8 arg10 x0 x1
    = (expo x0 x1 1 15) := by
  unfold kernelRun0_A.sl.v1173 kernelRun0_A.sl.HS3_16
  rw [View.readCov_cons_toLoadRect]
  rw [r_132_eq, r_133_eq]
  all_goals rfl

theorem r_139_eq : kernelRun0_A.sl.r_139 c arg3 harg3 arg4 harg4 arg5 harg5 arg7 arg8 arg9 arg10 x0 x1 x2
    = (accum x0 x1 x2 1 16) := by
  unfold kernelRun0_A.sl.r_139
  rw [r_134_eq, r_135_eq, v1173_eq, (load_v _ harg5 x2 1 15 (off := ![0, 7680, 128]) _ rfl (by decide))]
  all_goals rfl

theorem v1181_eq : kernelRun0_A.sl.v1181
    = (iota Kind.tc S1x128 32 [1] iota_S1x128_d1_w32) := by
  unfold kernelRun0_A.sl.v1181
  all_goals rfl

theorem r_124_eq : kernelRun0_A.sl.r_124 c arg3 harg3 arg4 harg4 arg7 arg8 x0 x1
    = (decay x0 x1 0 14) := by
  unfold kernelRun0_A.sl.r_124
  rw [r_112_eq, v1063_eq]
  all_goals rfl

theorem r_113_eq : kernelRun0_A.sl.r_113 c arg3 harg3 arg4 harg4 arg7 arg8 x0 x1
    = (decay x0 x1 0 13) := by
  unfold kernelRun0_A.sl.r_113
  rw [r_103_eq, v989_eq]
  all_goals rfl

theorem r_105_eq : kernelRun0_A.sl.r_105 c arg3 harg3 arg4 harg4 arg7 arg8 x0 x1
    = (decay x0 x1 0 12) := by
  unfold kernelRun0_A.sl.r_105
  rw [r_93_eq, r_103_eq]
  all_goals rfl

theorem r_95_eq : kernelRun0_A.sl.r_95 c arg3 harg3 arg4 harg4 arg7 arg8 x0 x1
    = (decay x0 x1 0 11) := by
  unfold kernelRun0_A.sl.r_95
  rw [r_85_eq, r_93_eq]
  all_goals rfl

theorem r_86_eq : kernelRun0_A.sl.r_86 c arg3 harg3 arg4 harg4 arg7 arg8 x0 x1
    = (decay x0 x1 0 10) := by
  unfold kernelRun0_A.sl.r_86
  rw [r_76_eq, v765_eq]
  all_goals rfl

theorem r_77_eq : kernelRun0_A.sl.r_77 c arg3 harg3 arg4 harg4 arg7 arg8 x0 x1
    = (decay x0 x1 0 9) := by
  unfold kernelRun0_A.sl.r_77
  rw [r_69_eq, v691_eq]
  all_goals rfl

theorem r_70_eq : kernelRun0_A.sl.r_70 c arg3 harg3 arg4 harg4 arg7 arg8 x0 x1
    = (decay x0 x1 0 8) := by
  unfold kernelRun0_A.sl.r_70
  rw [r_60_eq, v616_eq]
  all_goals rfl

theorem r_61_eq : kernelRun0_A.sl.r_61 c arg3 harg3 arg4 harg4 arg7 arg8 x0 x1
    = (decay x0 x1 0 7) := by
  unfold kernelRun0_A.sl.r_61
  rw [r_52_eq, v542_eq]
  all_goals rfl

theorem r_53_eq : kernelRun0_A.sl.r_53 c arg3 harg3 arg4 harg4 arg7 arg8 x0 x1
    = (decay x0 x1 0 6) := by
  unfold kernelRun0_A.sl.r_53
  rw [r_41_eq, r_51_eq]
  all_goals rfl

theorem r_43_eq : kernelRun0_A.sl.r_43 c arg3 harg3 arg4 harg4 arg7 arg8 x0 x1
    = (decay x0 x1 0 5) := by
  unfold kernelRun0_A.sl.r_43
  rw [r_34_eq, r_41_eq]
  all_goals rfl

theorem r_35_eq : kernelRun0_A.sl.r_35 c arg3 harg3 arg4 harg4 arg7 arg8 x0 x1
    = (decay x0 x1 0 4) := by
  unfold kernelRun0_A.sl.r_35
  rw [r_26_eq, v318_eq]
  all_goals rfl

theorem r_27_eq : kernelRun0_A.sl.r_27 c arg3 harg3 arg4 harg4 arg7 arg8 x0 x1
    = (decay x0 x1 0 3) := by
  unfold kernelRun0_A.sl.r_27
  rw [r_18_eq, v244_eq]
  all_goals rfl

theorem r_19_eq : kernelRun0_A.sl.r_19 c arg3 harg3 arg4 harg4 arg7 arg8 x0 x1
    = (decay x0 x1 0 2) := by
  unfold kernelRun0_A.sl.r_19
  rw [r_9_eq, v169_eq]
  all_goals rfl

theorem r_10_eq : kernelRun0_A.sl.r_10 c arg3 harg3 arg4 harg4 arg7 arg8 x0 x1
    = (decay x0 x1 0 1) := by
  unfold kernelRun0_A.sl.r_10
  rw [r_2_eq, v95_eq]
  all_goals rfl

theorem r_3_eq : kernelRun0_A.sl.r_3 c arg3 harg3 arg4 harg4 arg7 x0 x1
    = (decay x0 x1 0 0) := by
  unfold kernelRun0_A.sl.r_3
  rw [v42_eq]
  all_goals rfl

theorem r_13_eq : kernelRun0_A.sl.r_13 c arg3 harg3 arg4 harg4 arg7 x0 x1
    = (mulf (broadcastTo S512x128 (decay x0 x1 0 0) broadcasts_S512x1_S512x128) (accum x0 x1 x2 0 0)) := by
  unfold kernelRun0_A.sl.r_13
  rw [r_3_eq]
  all_goals rfl

theorem v126_eq : kernelRun0_A.sl.v126 c arg3 harg3 arg4 harg4 arg7 arg9 x0 x1
    = (expo x0 x1 0 0) := by
  unfold kernelRun0_A.sl.v126 kernelRun0_A.sl.HS2_2
  rw [View.readCov_cons_of_disjoint, View.readCov_cons_toLoadRect]
  rotate_left; exact slots_disjoint inb_S2x512x512_S1x512x512_1_0_0 inb_S2x512x512_S1x512x512_0_0_0
  rw [v42_eq]
  all_goals rfl

theorem r_14_eq : kernelRun0_A.sl.r_14 c arg3 harg3 arg4 harg4 arg7 arg9 x0 x1
    = (shapeCast S512x512 (expo x0 x1 0 0) shapeCasts_S1x512x512_S512x512) := by
  unfold kernelRun0_A.sl.r_14
  rw [v126_eq]
  all_goals rfl

theorem r_15_eq : kernelRun0_A.sl.r_15 c arg3 harg3 arg4 harg4 arg5 harg5 arg7 arg9 x0 x1 x2
    = (accum x0 x1 x2 0 1) := by
  unfold kernelRun0_A.sl.r_15
  erw [(load_v _ harg5 x2 0 0 (off := ![0, 0, 0]) _ rfl (by decide))]
  rw [r_13_eq, r_14_eq]
  all_goals rfl

theorem r_22_eq : kernelRun0_A.sl.r_22 c arg3 harg3 arg4 harg4 arg5 harg5 arg7 arg8 arg9 x0 x1 x2
    = (mulf (broadcastTo S512x128 (decay x0 x1 0 1) broadcasts_S512x1_S512x128) (accum x0 x1 x2 0 1)) := by
  unfold kernelRun0_A.sl.r_22
  rw [r_10_eq, r_15_eq]
  all_goals rfl

theorem v199_eq : kernelRun0_A.sl.v199 c arg3 harg3 arg4 harg4 arg7 arg8 arg10 x0 x1
    = (expo x0 x1 0 1) := by
  unfold kernelRun0_A.sl.v199 kernelRun0_A.sl.HS3_2
  rw [View.readCov_cons_of_disjoint, View.readCov_cons_toLoadRect]
  rotate_left; exact slots_disjoint inb_S2x512x512_S1x512x512_1_0_0 inb_S2x512x512_S1x512x512_0_0_0
  rw [r_2_eq, v95_eq]
  all_goals rfl

theorem r_23_eq : kernelRun0_A.sl.r_23 c arg3 harg3 arg4 harg4 arg5 harg5 arg7 arg8 arg9 arg10 x0 x1 x2
    = (accum x0 x1 x2 0 2) := by
  unfold kernelRun0_A.sl.r_23
  erw [(load_v _ harg5 x2 0 1 (off := ![0, 512, 0]) _ rfl (by decide))]
  rw [r_22_eq, v199_eq]
  all_goals rfl

theorem v275_eq : kernelRun0_A.sl.v275 c arg3 harg3 arg4 harg4 arg7 arg8 arg9 x0 x1
    = (expo x0 x1 0 2) := by
  unfold kernelRun0_A.sl.v275 kernelRun0_A.sl.HS2_4
  rw [View.readCov_cons_of_disjoint, View.readCov_cons_toLoadRect]
  rotate_left; exact slots_disjoint inb_S2x512x512_S1x512x512_1_0_0 inb_S2x512x512_S1x512x512_0_0_0
  rw [r_9_eq, v169_eq]
  all_goals rfl

theorem r_31_eq : kernelRun0_A.sl.r_31 c arg3 harg3 arg4 harg4 arg5 harg5 arg7 arg8 arg9 arg10 x0 x1 x2
    = (accum x0 x1 x2 0 3) := by
  unfold kernelRun0_A.sl.r_31
  erw [(load_v _ harg5 x2 0 2 (off := ![0, 1024, 0]) _ rfl (by decide))]
  rw [r_19_eq, r_23_eq, v275_eq]
  all_goals rfl

theorem v348_eq : kernelRun0_A.sl.v348 c arg3 harg3 arg4 harg4 arg7 arg8 arg10 x0 x1
    = (expo x0 x1 0 3) := by
  unfold kernelRun0_A.sl.v348 kernelRun0_A.sl.HS3_4
  rw [View.readCov_cons_of_disjoint, View.readCov_cons_toLoadRect]
  rotate_left; exact slots_disjoint inb_S2x512x512_S1x512x512_1_0_0 inb_S2x512x512_S1x512x512_0_0_0
  rw [r_18_eq, v244_eq]
  all_goals rfl

theorem r_39_eq : kernelRun0_A.sl.r_39 c arg3 harg3 arg4 harg4 arg5 harg5 arg7 arg8 arg9 arg10 x0 x1 x2
    = (accum x0 x1 x2 0 4) := by
  unfold kernelRun0_A.sl.r_39
  erw [(load_v _ harg5 x2 0 3 (off := ![0, 1536, 0]) _ rfl (by decide))]
  rw [r_27_eq, r_31_eq, v348_eq]
  all_goals rfl

theorem v424_eq : kernelRun0_A.sl.v424 c arg3 harg3 arg4 harg4 arg7 arg8 arg9 x0 x1
    = (expo x0 x1 0 4) := by
  unfold kernelRun0_A.sl.v424 kernelRun0_A.sl.HS2_6
  rw [View.readCov_cons_of_disjoint, View.readCov_cons_toLoadRect]
  rotate_left; exact slots_disjoint inb_S2x512x512_S1x512x512_1_0_0 inb_S2x512x512_S1x512x512_0_0_0
  rw [r_26_eq, v318_eq]
  all_goals rfl

theorem r_46_eq : kernelRun0_A.sl.r_46 c arg3 harg3 arg4 harg4 arg5 harg5 arg7 arg8 arg9 arg10 x0 x1 x2
    = (accum x0 x1 x2 0 5) := by
  unfold kernelRun0_A.sl.r_46
  erw [(load_v _ harg5 x2 0 4 (off := ![0, 2048, 0]) _ rfl (by decide))]
  rw [r_35_eq, r_39_eq, v424_eq]
  all_goals rfl

theorem v497_eq : kernelRun0_A.sl.v497 c arg3 harg3 arg4 harg4 arg7 arg8 arg10 x0 x1
    = (expo x0 x1 0 5) := by
  unfold kernelRun0_A.sl.v497 kernelRun0_A.sl.HS3_6
  rw [View.readCov_cons_of_disjoint, View.readCov_cons_toLoadRect]
  rotate_left; exact slots_disjoint inb_S2x512x512_S1x512x512_1_0_0 inb_S2x512x512_S1x512x512_0_0_0
  rw [r_42_eq]
  all_goals rfl

theorem r_56_eq : kernelRun0_A.sl.r_56 c arg3 harg3 arg4 harg4 arg5 harg5 arg7 arg8 arg9 arg10 x0 x1 x2
    = (accum x0 x1 x2 0 6) := by
  unfold kernelRun0_A.sl.r_56
  erw [(load_v _ harg5 x2 0 5 (off := ![0, 2560, 0]) _ rfl (by decide))]
  rw [r_43_eq, r_46_eq, v497_eq]
  all_goals rfl

theorem r_64_eq : kernelRun0_A.sl.r_64 c arg3 harg3 arg4 harg4 arg5 harg5 arg7 arg8 arg9 arg10 x0 x1 x2
    = (mulf (broadcastTo S512x128 (decay x0 x1 0 6) broadcasts_S512x1_S512x128) (accum x0 x1 x2 0 6)) := by
  unfold kernelRun0_A.sl.r_64
  rw [r_53_eq, r_56_eq]
  all_goals rfl

theorem v573_eq : kernelRun0_A.sl.v573 c arg3 harg3 arg4 harg4 arg7 arg8 arg9 x0 x1
    = (expo x0 x1 0 6) := by
  unfold kernelRun0_A.sl.v573 kernelRun0_A.sl.HS2_8
  rw [View.readCov_cons_of_disjoint, View.readCov_cons_toLoadRect]
  rotate_left; exact slots_disjoint inb_S2x512x512_S1x512x512_1_0_0 inb_S2x512x512_S1x512x512_0_0_0
  rw [r_41_eq, r_50_eq, r_51_eq]
  all_goals rfl

theorem r_65_eq : kernelRun0_A.sl.r_65 c arg3 harg3 arg4 harg4 arg7 arg8 arg9 x0 x1
    = (shapeCast S512x512 (expo x0 x1 0 6) shapeCasts_S1x512x512_S512x512) := by
  unfold kernelRun0_A.sl.r_65
  rw [v573_eq]
  all_goals rfl

theorem r_66_eq : kernelRun0_A.sl.r_66 c arg3 harg3 arg4 harg4 arg5 harg5 arg7 arg8 arg9 arg10 x0 x1 x2
    = (accum x0 x1 x2 0 7) := by
  unfold kernelRun0_A.sl.r_66
  erw [(load_v _ harg5 x2 0 6 (off := ![0, 3072, 0]) _ rfl (by decide))]
  rw [r_64_eq, r_65_eq]
  all_goals rfl

theorem r_73_eq : kernelRun0_A.sl.r_73 c arg3 harg3 arg4 harg4 arg5 harg5 arg7 arg8 arg9 arg10 x0 x1 x2
    = (mulf (broadcastTo S512x128 (decay x0 x1 0 7) broadcasts_S512x1_S512x128) (accum x0 x1 x2 0 7)) := by
  unfold kernelRun0_A.sl.r_73
  rw [r_61_eq, r_66_eq]
  all_goals rfl

theorem v646_eq : kernelRun0_A.sl.v646 c arg3 harg3 arg4 harg4 arg7 arg8 arg10 x0 x1
    = (expo x0 x1 0 7) := by
  unfold kernelRun0_A.sl.v646 kernelRun0_A.sl.HS3_8
  rw [View.readCov_cons_of_disjoint, View.readCov_cons_toLoadRect]
  rotate_left; exact slots_disjoint inb_S2x512x512_S1x512x512_1_0_0 inb_S2x512x512_S1x512x512_0_0_0
  rw [r_52_eq, v542_eq]
  all_goals rfl

theorem r_74_eq : kernelRun0_A.sl.r_74 c arg3 harg3 arg4 harg4 arg5 harg5 arg7 arg8 arg9 arg10 x0 x1 x2
    = (accum x0 x1 x2 0 8) := by
  unfold kernelRun0_A.sl.r_74
  erw [(load_v _ harg5 x2 0 7 (off := ![0, 3584, 0]) _ rfl (by decide))]
  rw [r_73_eq, v646_eq]
  all_goals rfl

end Cert.AttnSample

end
-- ==== Proof.AttnSample.Chain4.lean ====
/- The unrolled trips of the attention region, read in order (part 4): each intermediate array is one of the tiles, chunk
   scores, running maxima, exponentials, decay factors or accumulators of `Block`. -/
module

public import proofs.«01_k».proof.Proof.AttnSample.Chain3

@[expose] public section

set_option maxRecDepth 16384

noncomputable section

namespace Cert.AttnSample

open Cert.Kernel3Ideal Cert.Kernel3Ideal.Gen Idealize.ShloMosaic Idealize.ShloMosaic.TcCoe Idealize.SL.Sem

variable {F : FTy → Type} [FloatOps F] (c : Dev nD)
variable (arg3 : Memref sig .tc .vmem S1x512x256 .bf16) (harg3 : arg3.IsWhole)
variable (arg4 : Memref sig .tc .vmem S1x8192x256 .bf16) (harg4 : arg4.IsWhole)
variable (arg5 : Memref sig .tc .vmem S1x8192x256 .bf16) (harg5 : arg5.IsWhole)
variable (arg7 : Memref sig .tc .vmem S2x512x512 .f32) (arg8 : Memref sig .tc .vmem S2x512x512 .f32)
variable (arg9 : Memref sig .tc .vmem S2x512x512 .bf16) (arg10 : Memref sig .tc .vmem S2x512x512 .bf16)
variable (x0 : Vec F S1x512x256 .bf16) (x1 : Vec F S1x8192x256 .bf16) (x2 : Vec F S1x8192x256 .bf16)

theorem v722_eq : kernelRun0_A.sl.v722 c arg3 harg3 arg4 harg4 arg7 arg8 arg9 x0 x1
    = (expo x0 x1 0 8) := by
  unfold kernelRun0_A.sl.v722 kernelRun0_A.sl.HS2_10
  rw [View.readCov_cons_of_disjoint, View.readCov_cons_toLoadRect]
  rotate_left; exact slots_disjoint inb_S2x512x512_S1x512x512_1_0_0 inb_S2x512x512_S1x512x512_0_0_0
  rw [r_60_eq, v616_eq]
  all_goals rfl

theorem r_81_eq : kernelRun0_A.sl.r_81 c arg3 harg3 arg4 harg4 arg5 harg5 arg7 arg8 arg9 arg10 x0 x1 x2
    = (accum x0 x1 x2 0 9) := by
  unfold kernelRun0_A.sl.r_81
  erw [(load_v _ harg5 x2 0 8 (off := ![0, 4096, 0]) _ rfl (by decide))]
  rw [r_70_eq, r_74_eq, v722_eq]
  all_goals rfl

theorem v795_eq : kernelRun0_A.sl.v795 c arg3 harg3 arg4 harg4 arg7 arg8 arg10 x0 x1
    = (expo x0 x1 0 9) := by
  unfold kernelRun0_A.sl.v795 kernelRun0_A.sl.HS3_10
  rw [View.readCov_cons_of_disjoint, View.readCov_cons_toLoadRect]
  rotate_left; exact slots_disjoint inb_S2x512x512_S1x512x512_1_0_0 inb_S2x512x512_S1x512x512_0_0_0
  rw [r_69_eq, v691_eq]
  all_goals rfl

theorem r_91_eq : kernelRun0_A.sl.r_91 c arg3 harg3 arg4 harg4 arg5 harg5 arg7 arg8 arg9 arg10 x0 x1 x2
    = (accum x0 x1 x2 0 10) := by
  unfold kernelRun0_A.sl.r_91
  erw [(load_v _ harg5 x2 0 9 (off := ![0, 4608, 0]) _ rfl (by decide))]
  rw [r_77_eq, r_81_eq, v795_eq]
  all_goals rfl

theorem v871_eq : kernelRun0_A.sl.v871 c arg3 harg3 arg4 harg4 arg7 arg8 arg9 x0 x1
    = (expo x0 x1 0 10) := by
  unfold kernelRun0_A.sl.v871 kernelRun0_A.sl.HS2_12
  rw [View.readCov_cons_of_disjoint, View.readCov_cons_toLoadRect]
  rotate_left; exact slots_disjoint inb_S2x512x512_S1x512x512_1_0_0 inb_S2x512x512_S1x512x512_0_0_0
  rw [r_76_eq, v765_eq]
  all_goals rfl

theorem r_98_eq : kernelRun0_A.sl.r_98 c arg3 harg3 arg4 harg4 arg5 harg5 arg7 arg8 arg9 arg10 x0 x1 x2
    = (accum x0 x1 x2 0 11) := by
  unfold kernelRun0_A.sl.r_98
  erw [(load_v _ harg5 x2 0 10 (off := ![0, 5120, 0]) _ rfl (by decide))]
  rw [r_86_eq, r_91_eq, v871_eq]
  all_goals rfl

theorem v944_eq : kernelRun0_A.sl.v944 c arg3 harg3 arg4 harg4 arg7 arg8 arg10 x0 x1
    = (expo x0 x1 0 11) := by
  unfold kernelRun0_A.sl.v944 kernelRun0_A.sl.HS3_12
  rw [View.readCov_cons_of_disjoint, View.readCov_cons_toLoadRect]
  rotate_left; exact slots_disjoint inb_S2x512x512_S1x512x512_1_0_0 inb_S2x512x512_S1x512x512_0_0_0
  rw [r_94_eq]
  all_goals rfl

theorem r_108_eq : kernelRun0_A.sl.r_108 c arg3 harg3 arg4 harg4 arg5 harg5 arg7 arg8 arg9 arg10 x0 x1 x2
    = (accum x0 x1 x2 0 12) := by
  unfold kernelRun0_A.sl.r_108
  erw [(load_v _ harg5 x2 0 11 (off := ![0, 5632, 0]) _ rfl (by decide))]
  rw [r_95_eq, r_98_eq, v944_eq]
  all_goals rfl

theorem r_116_eq : kernelRun0_A.sl.r_116 c arg3 harg3 arg4 harg4 arg5 harg5 arg7 arg8 arg9 arg10 x0 x1 x2
    = (mulf (broadcastTo S512x128 (decay x0 x1 0 12) broadcasts_S512x1_S512x128) (accum x0 x1 x2 0 12)) := by
  unfold kernelRun0_A.sl.r_116
  rw [r_105_eq, r_108_eq]
  all_goals rfl

theorem v1020_eq : kernelRun0_A.sl.v1020 c arg3 harg3 arg4 harg4 arg7 arg8 arg9 x0 x1
    = (expo x0 x1 0 12) := by
  unfold kernelRun0_A.sl.v1020 kernelRun0_A.sl.HS2_14
  rw [View.readCov_cons_of_disjoint, View.readCov_cons_toLoadRect]
  rotate_left; exact slots_disjoint inb_S2x512x512_S1x512x512_1_0_0 inb_S2x512x512_S1x512x512_0_0_0
  rw [r_104_eq]
  all_goals rfl

theorem r_117_eq : kernelRun0_A.sl.r_117 c arg3 harg3 arg4 harg4 arg7 arg8 arg9 x0 x1
    = (shapeCast S512x512 (expo x0 x1 0 12) shapeCasts_S1x512x512_S512x512) := by
  unfold kernelRun0_A.sl.r_117
  rw [v1020_eq]
  all_goals rfl

theorem r_118_eq : kernelRun0_A.sl.r_118 c arg5 harg5 x2
    = (vTile x2 0 12) := by
  unfold kernelRun0_A.sl.r_118
  erw [(load_v _ harg5 x2 0 12 (off := ![0, 6144, 0]) _ rfl (by decide))]
  all_goals rfl

theorem r_119_eq : kernelRun0_A.sl.r_119 c arg3 harg3 arg4 harg4 arg5 harg5 arg7 arg8 arg9 arg10 x0 x1 x2
    = (accum x0 x1 x2 0 13) := by
  unfold kernelRun0_A.sl.r_119
  rw [r_116_eq, r_117_eq, r_118_eq]
  all_goals rfl

theorem r_127_eq : kernelRun0_A.sl.r_127 c arg3 harg3 arg4 harg4 arg5 harg5 arg7 arg8 arg9 arg10 x0 x1 x2
    = (mulf (broadcastTo S512x128 (decay x0 x1 0 13) broadcasts_S512x1_S512x128) (accum x0 x1 x2 0 13)) := by
  unfold kernelRun0_A.sl.r_127
  rw [r_113_eq, r_119_eq]
  all_goals rfl

theorem v1093_eq : kernelRun0_A.sl.v1093 c arg3 harg3 arg4 harg4 arg7 arg8 arg10 x0 x1
    = (expo x0 x1 0 13) := by
  unfold kernelRun0_A.sl.v1093 kernelRun0_A.sl.HS3_14
  rw [View.readCov_cons_of_disjoint, View.readCov_cons_toLoadRect]
  rotate_left; exact slots_disjoint inb_S2x512x512_S1x512x512_1_0_0 inb_S2x512x512_S1x512x512_0_0_0
  rw [r_103_eq, v989_eq]
  all_goals rfl

theorem r_128_eq : kernelRun0_A.sl.r_128 c arg3 harg3 arg4 harg4 arg7 arg8 arg10 x0 x1
    = (shapeCast S512x512 (expo x0 x1 0 13) shapeCasts_S1x512x512_S512x512) := by
  unfold kernelRun0_A.sl.r_128
  rw [v1093_eq]
  all_goals rfl

theorem r_129_eq : kernelRun0_A.sl.r_129 c arg3 harg3 arg4 harg4 arg5 harg5 arg7 arg8 arg9 arg10 x0 x1 x2
    = (accum x0 x1 x2 0 14) := by
  unfold kernelRun0_A.sl.r_129
  erw [(load_v _ harg5 x2 0 13 (off := ![0, 6656, 0]) _ rfl (by decide))]
  rw [r_127_eq, r_128_eq]
  all_goals rfl

theorem r_131_eq : kernelRun0_A.sl.r_131 c arg3 harg3 arg4 harg4 arg7 arg8 x0 x1
    = (decay x0 x1 0 15) := by
  unfold kernelRun0_A.sl.r_131
  rw [r_123_eq, v1113_eq]
  all_goals rfl

theorem v1143_eq : kernelRun0_A.sl.v1143 c arg3 harg3 arg4 harg4 arg7 arg8 arg9 x0 x1
    = (expo x0 x1 0 14) := by
  unfold kernelRun0_A.sl.v1143 kernelRun0_A.sl.HS2_16
  rw [View.readCov_cons_of_disjoint, View.readCov_cons_toLoadRect]
  rotate_left; exact slots_disjoint inb_S2x512x512_S1x512x512_1_0_0 inb_S2x512x512_S1x512x512_0_0_0
  rw [r_112_eq, v1063_eq]
  all_goals rfl

theorem r_136_eq : kernelRun0_A.sl.r_136 c arg3 harg3 arg4 harg4 arg5 harg5 arg7 arg8 arg9 arg10 x0 x1 x2
    = (mulf (broadcastTo S512x128 (decay x0 x1 0 15) broadcasts_S512x1_S512x128) (accum x0 x1 x2 0 15)) := by
  unfold kernelRun0_A.sl.r_136
  rw [r_124_eq, r_129_eq, r_131_eq, v1143_eq, (load_v _ harg5 x2 0 14 (off := ![0, 7168, 0]) _ rfl (by decide))]
  all_goals rfl

theorem v1163_eq : kernelRun0_A.sl.v1163 c arg3 harg3 arg4 harg4 arg7 arg8 arg10 x0 x1
    = (expo x0 x1 0 15) := by
  unfold kernelRun0_A.sl.v1163 kernelRun0_A.sl.HS3_16
  rw [View.readCov_cons_of_disjoint, View.readCov_cons_toLoadRect]
  rotate_left; exact slots_disjoint inb_S2x512x512_S1x512x512_1_0_0 inb_S2x512x512_S1x512x512_0_0_0
  rw [r_123_eq, v1113_eq]
  all_goals rfl

theorem r_137_eq : kernelRun0_A.sl.r_137 c arg3 harg3 arg4 harg4 arg7 arg8 arg10 x0 x1
    = (shapeCast S512x512 (expo x0 x1 0 15) shapeCasts_S1x512x512_S512x512) := by
  unfold kernelRun0_A.sl.r_137
  rw [v1163_eq]
  all_goals rfl

theorem r_138_eq : kernelRun0_A.sl.r_138 c arg5 harg5 x2
    = (vTile x2 0 15) := by
  unfold kernelRun0_A.sl.r_138
  rw [(load_v _ harg5 x2 0 15 (off := ![0, 7680, 0]) _ rfl (by decide))]
  all_goals rfl

theorem r_140_eq : kernelRun0_A.sl.r_140 c arg3 harg3 arg4 harg4 arg5 harg5 arg7 arg8 arg9 arg10 x0 x1 x2
    = (divf (accum x0 x1 x2 0 16) (broadcastTo S512x128 (extractStridedSlice S512x1 ![0, 64] (accum x0 x1 x2 0 16) slices_S512x128_o0_64_S512x1) broadcasts_S512x1_S512x128)) := by
  unfold kernelRun0_A.sl.r_140
  rw [r_136_eq, r_137_eq, r_138_eq]
  all_goals rfl

theorem r_141_eq : kernelRun0_A.sl.r_141 c arg3 harg3 arg4 harg4 arg5 harg5 arg7 arg8 arg9 arg10 x0 x1 x2
    = (extractStridedSlice S512x1 ![0, 64] (accum x0 x1 x2 1 16) slices_S512x128_o0_64_S512x1) := by
  unfold kernelRun0_A.sl.r_141
  rw [r_134_eq, r_135_eq, v1173_eq, (load_v _ harg5 x2 1 15 (off := ![0, 7680, 128]) _ rfl (by decide))]
  all_goals rfl

end Cert.AttnSample

end
-- ==== Proof.AttnSample.Region.lean ====
/- What one step of the attention region stores: `Block`'s block of its query, key and value windows. -/
module

public import proofs.«01_k».proof.Proof.AttnSample.Chain4

@[expose] public section

set_option maxRecDepth 16384

noncomputable section

namespace Cert.AttnSample

open Cert.Kernel3Ideal Cert.Kernel3Ideal.Gen Idealize.ShloMosaic Idealize.ShloMosaic.TcCoe Idealize.SL.Sem

variable {F : FTy → Type} [FloatOps F]

theorem out_eq (c : Dev nD) (i : grid0.Coords) (arg3 : Memref sig .tc .vmem S1x512x256 .bf16) (harg3 : arg3.IsWhole)
    (arg4 : Memref sig .tc .vmem S1x8192x256 .bf16) (harg4 : arg4.IsWhole) (arg5 : Memref sig .tc .vmem S1x8192x256 .bf16)
    (harg5 : arg5.IsWhole) (arg6 : Memref sig .tc .vmem S1x512x128 .bf16) (harg6 : arg6.IsWhole)
    (arg7 : Memref sig .tc .vmem S2x512x512 .f32) (harg7 : arg7.IsWhole) (arg8 : Memref sig .tc .vmem S2x512x512 .f32)
    (harg8 : arg8.IsWhole) (arg9 : Memref sig .tc .vmem S2x512x512 .bf16) (harg9 : arg9.IsWhole)
    (arg10 : Memref sig .tc .vmem S2x512x512 .bf16) (harg10 : arg10.IsWhole)
    (x0 : Vec F S1x512x256 .bf16) (x1 : Vec F S1x8192x256 .bf16) (x2 : Vec F S1x8192x256 .bf16) :
    out0_A_3 c i arg3 harg3 arg4 harg4 arg5 harg5 arg6 harg6 arg7 harg7 arg8 harg8 arg9 harg9 arg10 harg10 x0 x1 x2
      = blockOut x0 x1 x2 := by
  unfold out0_A_3
  rw [View.read_writes_eq_canon _ _ _ (cover0_A_3 c i arg3 harg3 arg4 harg4 arg5 harg5 arg6 harg6 arg7 harg7 arg8 harg8 arg9 harg9 arg10 harg10 x0 x1 x2)]
  unfold kernelRun0_A
  dsimp only
  rw [r_139_eq, r_140_eq, r_141_eq, v1181_eq, View.canon_unit_zero (by funext a; fin_cases a <;> rfl)]
  rfl

end Cert.AttnSample

end
-- ==== Proof.AttnSample.Layout.lean ====
/- The arrays the attention region finds: the host's padding, reshaping and scaling of the queries, keys and values, read at
   an index (batch, position, head, lane). -/
module

public import proofs.«01_k».proof.Proof.Gen.Kernel3Ideal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.AttnSample

open Cert.Kernel3Ideal Cert.Kernel3Ideal.Gen Idealize.ShloMosaic Idealize.ShloMosaic.TcCoe Idealize.SL.Sem
open Idealize.ShloMosaic.ValueIdx

variable (m : (ℓ : Loc nD τ sig) → Buf (Elt Ideal) ℓ)

/-- The scale the host multiplies the queries by. -/
def qscale : EReal := Ideal.div (Ideal.ofBits .f32 0x3DD105EC#32) (Ideal.log (Ideal.ofBits .f32 0x40000000#32))

/-- A reshape of (batch, position, head, lane) to (batch, position, head · 128 + lane). -/
theorem merge_heads {α : Type} (x : S8x8192x8x128.Idx → α) (h : S8x8192x8x128.ShapeCasts S8x8192x1024)
    (b : Fin 8) (s : Fin 8192) (e : Fin 8) (d : Fin 128) (k : Fin 1024) (hk : k.val = e.val * 128 + d.val) :
    shapeCast S8x8192x1024 x h (ix3 b s k) = x (ix4 b s e d) := by
  refine shapeCast_apply x h _ _ ?_
  rw [Shape.rowMajor_val_three, Shape.rowMajor_val_four]
  show ((b.val * 8192 + s.val) * 8 + e.val) * 128 + d.val = (b.val * 8192 + s.val) * 1024 + k.val
  omega

/-- A lane padding of one head's vector by `z`. -/
theorem pad_lane {α : Type} {n hi t : Nat} (x : (⟨4, ![8, 8192, 8, n]⟩ : Shape).Idx → α) {u : Shape} (z : u.Idx → α)
    (h : (⟨4, ![8, 8192, 8, n]⟩ : Shape).Pads (![0, 0, 0, 0] : Fin 4 → Nat) ![0, 0, 0, hi] ![0, 0, 0, 0] ⟨4, ![8, 8192, 8, t]⟩)
    (hu : 0 < u.numel) (b : Fin 8) (s : Fin 8192) (e : Fin 8) (d : Fin t) :
    pad ⟨4, ![8, 8192, 8, t]⟩ ![0, 0, 0, 0] ![0, 0, 0, hi] ![0, 0, 0, 0] x z h hu (ix4 b s e d)
      = if hd : d.val < n then x (ix4 b s e ⟨d.val, hd⟩) else z (Shape.Idx.first hu) := by
  split_ifs with hd
  · refine pad_apply_of_inside _ _ _ x z h hu _ _ fun a => ?_
    match a with
    | ⟨0, _⟩ => show b.val = 0 + b.val * (0 + 1); omega
    | ⟨1, _⟩ => show s.val = 0 + s.val * (0 + 1); omega
    | ⟨2, _⟩ => show e.val = 0 + e.val * (0 + 1); omega
    | ⟨3, _⟩ => show d.val = 0 + d.val * (0 + 1); omega
  · refine pad_apply_of_not_inside _ _ _ x z h hu _ 3 fun hin => hd ?_
    have : (d.val - 0) / (0 + 1) < n := hin.2.2
    simpa using this

/-- The queries as the region finds them. -/
def qArr (q : FVec Ideal S8x8192x8x96 .f32) : FVec Ideal S8x8192x1024 .bf16 :=
  truncf .bf16 (mulf (shapeCast S8x8192x1024 (pad S8x8192x8x128 ![0, 0, 0, 0] ![0, 0, 0, 32] ![0, 0, 0, 0] q (sitofp .f32 (constantI S_ 32 0#32)) pads_S8x8192x8x96_S8x8192x8x128_000_000_000_0320 h_S_) shapeCasts_S8x8192x8x128_S8x8192x1024)
    (broadcastInDim S8x8192x1024 ![] bcast_S_S8x8192x1024 (Host.divf (constant S_ .f32 0x3DD105EC#32) (Host.log (constant S_ .f32 0x40000000#32))))) bitsLt_bf16_f32

/-- The keys as the region finds them. -/
def kArr (k : FVec Ideal S8x8192x8x96 .f32) : FVec Ideal S8x8192x1024 .bf16 :=
  truncf .bf16 (shapeCast S8x8192x1024 (pad S8x8192x8x128 ![0, 0, 0, 0] ![0, 0, 0, 32] ![0, 0, 0, 0] k (sitofp .f32 (constantI S_ 32 0#32)) pads_S8x8192x8x96_S8x8192x8x128_000_000_000_0320 h_S_) shapeCasts_S8x8192x8x128_S8x8192x1024) bitsLt_bf16_f32

/-- The values, with their column of ones, as the region finds them. -/
def vArr (v : FVec Ideal S8x8192x8x64 .f32) : FVec Ideal S8x8192x1024 .bf16 :=
  truncf .bf16 (shapeCast S8x8192x1024 (pad S8x8192x8x128 ![0, 0, 0, 0] ![0, 0, 0, 63] ![0, 0, 0, 0] (pad S8x8192x8x65 ![0, 0, 0, 0] ![0, 0, 0, 1] ![0, 0, 0, 0] v (constant S_ .f32 0x3F800000#32) pads_S8x8192x8x64_S8x8192x8x65_000_000_000_010 h_S_) (sitofp .f32 (constantI S_ 32 0#32)) pads_S8x8192x8x65_S8x8192x8x128_000_000_000_0630 h_S_) shapeCasts_S8x8192x8x128_S8x8192x1024) bitsLt_bf16_f32

theorem zero_word : (FloatOps.sitofp (F := Ideal) .f32 (0#32 : BitVec 32) : EReal) = 0 := by
  show ((((0#32 : BitVec 32).toInt : ℝ)) : EReal) = 0
  simp

/-- A query's lane: the argument times the scale, and zero beyond the 96 lanes of a head. -/
theorem qArr_apply (q : FVec Ideal S8x8192x8x96 .f32) (b : Fin 8) (s : Fin 8192) (e : Fin 8) (d : Fin 128) (k : Fin 1024)
    (hk : k.val = e.val * 128 + d.val) :
    qArr q (ix3 b s k) = (if hd : d.val < 96 then q (ix4 b s e ⟨d.val, hd⟩) else (0 : EReal)) * qscale := by
  rw [qArr, truncf_apply, mulf_apply, merge_heads _ _ b s e d k hk, pad_lane]
  refine congrArg₂ (· * ·) ?_ rfl
  split_ifs with hd
  · rfl
  · exact zero_word

/-- A key's lane: the argument, and zero beyond the 96 lanes of a head. -/
theorem kArr_apply (x : FVec Ideal S8x8192x8x96 .f32) (b : Fin 8) (s : Fin 8192) (e : Fin 8) (d : Fin 128) (k : Fin 1024)
    (hk : k.val = e.val * 128 + d.val) :
    kArr x (ix3 b s k) = if hd : d.val < 96 then x (ix4 b s e ⟨d.val, hd⟩) else (0 : EReal) := by
  rw [kArr, truncf_apply, merge_heads _ _ b s e d k hk, pad_lane]
  split_ifs with hd
  · rfl
  · exact zero_word

/-- A value's lane: the argument in the 64 lanes of a head, and one in the lane behind them. -/
theorem vArr_apply (v : FVec Ideal S8x8192x8x64 .f32) (b : Fin 8) (s : Fin 8192) (e : Fin 8) (d : Fin 64) (k : Fin 1024)
    (hk : k.val = e.val * 128 + d.val) : vArr v (ix3 b s k) = v (ix4 b s e d) := by
  rw [vArr, truncf_apply, merge_heads _ _ b s e ⟨d.val, by omega⟩ k hk, pad_lane, dif_pos (show d.val < 65 by omega), pad_lane,
    dif_pos d.isLt]

theorem vArr_ones (v : FVec Ideal S8x8192x8x64 .f32) (b : Fin 8) (s : Fin 8192) (e : Fin 8) (k : Fin 1024)
    (hk : k.val = e.val * 128 + 64) : vArr v (ix3 b s k) = (1 : EReal) := by
  rw [vArr, truncf_apply, merge_heads _ _ b s e ⟨64, by omega⟩ k hk, pad_lane, dif_pos (show 64 < 65 by omega), pad_lane,
    dif_neg (show ¬ 64 < 64 by omega)]
  exact Ideal.ofBits_one_f32

end Cert.AttnSample

end
-- ==== Proof.AttnSample.Entry.lean ====
/- The arrays the attention region finds: the host's padding, reshaping and scaling of the queries, keys and values, read at
   an index (batch, position, head, lane). -/
module

public import proofs.«01_k».proof.Proof.AttnSample.Layout
public import proofs.«01_k».proof.Proof.Gen.Kernel3Ideal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.AttnSample

open Cert.Kernel3Ideal Cert.Kernel3Ideal.Gen Idealize.ShloMosaic Idealize.ShloMosaic.TcCoe Idealize.SL.Sem
open Idealize.ShloMosaic.ValueIdx

variable (m : (ℓ : Loc nD τ sig) → Buf (Elt Ideal) ℓ)

/-! The host's padding function reads and stores buffers at their own types. -/

theorem to_v3 (h1 h2 h3) (X : (⟨S8x8192x8x128, .f32⟩ : BufTy).Contents (Elt Ideal)) :
    (StableHlo.TRef.of (T := ⟨S8x8192x8x128, .f32⟩) main_v3 h1 h2 h3).toBuf X = X := rfl
theorem to_v8 (h1 h2 h3) (X : (⟨S8x8192x8x128, .f32⟩ : BufTy).Contents (Elt Ideal)) :
    (StableHlo.TRef.of (T := ⟨S8x8192x8x128, .f32⟩) main_v8 h1 h2 h3).toBuf X = X := rfl
theorem to_v11 (h1 h2 h3) (X : (⟨S8x8192x8x128, .f32⟩ : BufTy).Contents (Elt Ideal)) :
    (StableHlo.TRef.of (T := ⟨S8x8192x8x128, .f32⟩) main_v11 h1 h2 h3).toBuf X = X := rfl
theorem of_arg0 (h1 h2 h3) (X : (⟨S8x8192x8x96, .f32⟩ : BufTy).Contents (Elt Ideal)) :
    (StableHlo.TRef.of (T := ⟨S8x8192x8x96, .f32⟩) main_arg0 h1 h2 h3).ofBuf X = X := rfl
theorem of_arg1 (h1 h2 h3) (X : (⟨S8x8192x8x96, .f32⟩ : BufTy).Contents (Elt Ideal)) :
    (StableHlo.TRef.of (T := ⟨S8x8192x8x96, .f32⟩) main_arg1 h1 h2 h3).ofBuf X = X := rfl
theorem of_arg2 (h1 h2 h3) (X : (⟨S8x8192x8x64, .f32⟩ : BufTy).Contents (Elt Ideal)) :
    (StableHlo.TRef.of (T := ⟨S8x8192x8x64, .f32⟩) main_arg2 h1 h2 h3).ofBuf X = X := rfl
theorem of_c (h1 h2 h3) (X : (⟨S_, .i32⟩ : BufTy).Contents (Elt Ideal)) :
    (StableHlo.TRef.of (T := ⟨S_, .i32⟩) main_c h1 h2 h3).ofBuf X = X := rfl
theorem of_c_2 (h1 h2 h3) (X : (⟨S_, .i32⟩ : BufTy).Contents (Elt Ideal)) :
    (StableHlo.TRef.of (T := ⟨S_, .i32⟩) main_c_2 h1 h2 h3).ofBuf X = X := rfl
theorem of_c_3 (h1 h2 h3) (X : (⟨S_, .i32⟩ : BufTy).Contents (Elt Ideal)) :
    (StableHlo.TRef.of (T := ⟨S_, .i32⟩) main_c_3 h1 h2 h3).ofBuf X = X := rfl
theorem of_cst_1 (h1 h2 h3) (X : (⟨S_, .f32⟩ : BufTy).Contents (Elt Ideal)) :
    (StableHlo.TRef.of (T := ⟨S_, .f32⟩) main_cst_1 h1 h2 h3).ofBuf X = X := rfl

theorem V_keys (c : Dev nD) : V m c main_v10 = kArr (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v8, of_arg1, of_c_2]
  rfl

theorem V_queries (c : Dev nD) : V m c main_v7 = qArr (m ((c : Thread nD τ).loc main_arg0)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v3, of_arg0, of_c]
  rfl

theorem V_values (c : Dev nD) : V m c main_v13 = vArr (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [StableHlo.TRef.ofBuf_toBuf]
  simp only [to_v11, of_arg2, of_c_3, of_cst_1, id]
  rfl

end Cert.AttnSample

end
-- ==== Proof.AttnSample.Rows.lean ====
/- One step of the attention region over the extended reals, read at a row and a lane: under finite scores the stored block is
   the plain base-two softmax quotient of its windows. -/
module

public import proofs.«01_k».proof.Proof.AttnSample.Block
public import proofs.«01_k».proof.Proof.Attn.Softmax
public import Idealize.ShloMosaic.Lib.KernelVsHost
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pipeline.ValueKit.Acc
public import Idealize.ShloMosaic.PureOps.Ideal.Laws

@[expose] public section

set_option maxRecDepth 16384

noncomputable section

namespace Cert.AttnSample

open Cert.Attn

open Cert.Kernel3Ideal Cert.Kernel3Ideal.Gen Idealize.ShloMosaic Idealize.ShloMosaic.TcCoe Idealize.SL.Sem
open Idealize.ShloMosaic.ValueIdx

variable (x0 : FVec Ideal S1x512x256 .bf16) (x1 x2 : FVec Ideal S1x8192x256 .bf16)

/-- Row `j` of chunk `n` among the 8192 rows. -/
def crow (n : ℕ) (j : Fin 512) : Fin 8192 := ⟨(512 * n + j.val) % 8192, Nat.mod_lt _ (by norm_num)⟩

/-- Lane `d` of head `h` among the 256 lanes of two heads. -/
def hlane (h : Fin 2) (d : Fin 128) : Fin 256 := ⟨128 * h.val + d.val, by omega⟩

/-- The score of row `r` against row `k` of the keys. -/
def dotQK (h : Fin 2) (r : Fin 512) (k : Fin 8192) : EReal :=
  ∑ d : Fin 128, x0 (ix3 0 r (hlane h d)) * x1 (ix3 0 k (hlane h d))

theorem scores_apply (h : Fin 2) (n : ℕ) (r j : Fin 512) :
    (shapeCast S512x512 (scores (F := Ideal) x0 x1 h n) shapeCasts_S1x512x512_S512x512 (ix2 r j) : EReal) = dotQK x0 x1 h r (crow n j) := by
  rw [shapeCast_1ab_ab_apply, scores, shapeCast_ab_1ab_apply]
  show FloatOps.matmul (DotDims.transposedRhs 512 128 512) _ _ _ _ _ = _
  rw [Ideal.matmul_transposedRhs_apply, constant_apply, Ideal.ofBits_zero_f32, zero_add]
  refine Finset.sum_congr rfl fun d _ => ?_
  rw [shapeCast_1ab_ab_apply, shapeCast_1ab_ab_apply]
  rfl

/-- The values of the running accumulator, one lane. -/
theorem accum_zero (h : Fin 2) (i : S512x128.Idx) : (accum (F := Ideal) x0 x1 x2 h 0 i : EReal) = 0 := Ideal.ofBits_zero_f32

theorem accum_succ (h : Fin 2) (n : ℕ) (r : Fin 512) (l : Fin 128) :
    (accum (F := Ideal) x0 x1 x2 h (n + 1) (ix2 r l) : EReal)
      = Ideal.exp2 (rowMax (F := Ideal) x0 x1 h n (ix2 r 0) - rowMax (F := Ideal) x0 x1 h (n + 1) (ix2 r 0)) * accum (F := Ideal) x0 x1 x2 h n (ix2 r l)
        + ∑ j : Fin 512, Ideal.exp2 (dotQK x0 x1 h r (crow n j) - rowMax (F := Ideal) x0 x1 h (n + 1) (ix2 r 0))
            * x2 (ix3 0 (crow n j) (hlane h l)) := by
  have hb : ∀ (m : ℕ) (x : FVec Ideal S512x1 .f32) (hx : S512x1.Broadcasts ⟨2, ![512, m]⟩) (l : Fin m),
      broadcastTo ⟨2, ![512, m]⟩ x hx (ix2 r l) = x (ix2 r 0) := fun m x hx l =>
    broadcastTo_apply x hx _ _ fun a => by match a with | ⟨0, _⟩ => rfl | ⟨1, _⟩ => rfl
  rw [accum, addf_apply, mulf_apply]
  refine congrArg₂ (· + ·) (congrArg₂ (· * ·) ?_ rfl) ?_
  · exact hb 128 _ _ l
  · show FloatOps.matmul (DotDims.plain 512 512 128) _ _ _ _ _ = _
    rw [Ideal.matmul_plain_apply, constant_apply, Ideal.ofBits_zero_f32, zero_add]
    refine Finset.sum_congr rfl fun j _ => ?_
    rw [shapeCast_1ab_ab_apply, shapeCast_1ab_ab_apply, expo, shapeCast_ab_1ab_apply, truncf_apply]
    refine congrArg₂ (· * ·) ?_ rfl
    refine (congrArg Ideal.exp2 (subf_apply _ _ _)).trans ?_
    rw [scores_apply]
    exact congrArg (fun z => Ideal.exp2 (dotQK x0 x1 h r (crow n j) - z)) (hb 512 _ _ j)

theorem rowMax_succ (h : Fin 2) (n : ℕ) (r : Fin 512) :
    (rowMax (F := Ideal) x0 x1 h (n + 1) (ix2 r 0) : EReal) = max (rowMax (F := Ideal) x0 x1 h n (ix2 r 0))
      ((Finset.univ : Finset (Fin 512)).fold max ⊥ fun j => dotQK x0 x1 h r (crow n j)) := by
  rw [rowMax, maximumf_apply, shapeCast_a_a1_apply]
  refine congrArg (max _) ?_
  refine (Ideal.multiReduction_maximumf_single _ _ _ _ _ _).trans ?_
  have e : (FloatOps.ofBits (F := Ideal) .f32 0xFF800000#32 : EReal) = ⊥ := by
    show Ideal.ofBits .f32 0xFF800000#32 = ⊥
    simp [Ideal.ofBits, Ideal.ieee]
  rw [e]
  refine Finset.fold_congr fun j _ => ?_
  refine Eq.trans ?_ (scores_apply x0 x1 h n r j)
  refine congrArg (shapeCast S512x512 (scores (F := Ideal) x0 x1 h n) shapeCasts_S1x512x512_S512x512) (funext fun a => ?_)
  match a with | ⟨0, _⟩ => rfl | ⟨1, _⟩ => rfl

/-- Finite scores: the running maximum stays a real. -/
theorem rowMax_real (h : Fin 2) (r : Fin 512) (σ : Fin 8192 → ℝ) (hσ : ∀ k, dotQK x0 x1 h r k = (σ k : EReal)) (n : ℕ) :
    ∃ μ : ℝ, (rowMax (F := Ideal) x0 x1 h n (ix2 r 0) : EReal) = μ := by
  induction n with
  | zero =>
    refine exists_real ?_ ?_
    · show Ideal.ofBits .f32 0xF149F2CA#32 ≠ ⊥
      simp [Ideal.ofBits, Ideal.ieee]
      rw [← EReal.coe_pow, ← EReal.coe_mul]
      exact EReal.coe_ne_top _
    · show Ideal.ofBits .f32 0xF149F2CA#32 ≠ ⊤
      simp [Ideal.ofBits, Ideal.ieee]
      rw [← EReal.coe_pow, ← EReal.coe_mul]
      exact EReal.coe_ne_bot _
  | succ n ih =>
    obtain ⟨μ, hμ⟩ := ih
    rw [rowMax_succ, hμ]
    have hf : (Finset.univ : Finset (Fin 512)).fold max ⊥ (fun j => dotQK x0 x1 h r (crow n j)) ≠ ⊤ := by
      refine ne_of_lt ((Finset.fold_max_lt (c := (⊤ : EReal))).2 ⟨bot_lt_top, fun j _ => ?_⟩)
      rw [hσ]; exact EReal.coe_lt_top _
    refine exists_real (ne_of_gt (lt_of_lt_of_le (EReal.bot_lt_coe μ) (le_max_left _ _))) ?_
    exact ne_of_lt (max_lt (EReal.coe_lt_top μ) (lt_top_iff_ne_top.2 hf))

/-- The accumulator after all sixteen chunks. -/
theorem accum_final (h : Fin 2) (r : Fin 512) (l : Fin 128) (σ : Fin 8192 → ℝ)
    (hσ : ∀ k, dotQK x0 x1 h r k = (σ k : EReal)) :
    ∃ x : ℝ, ∀ l : Fin 128, (accum (F := Ideal) x0 x1 x2 h 16 (ix2 r l) : EReal)
      = pw (-x) * ∑ k : Fin 8192, pw (σ k) * x2 (ix3 0 k (hlane h l)) := by
  choose μ hμ using rowMax_real x0 x1 h r σ hσ
  refine ⟨μ 16, fun l => ?_⟩
  rw [running μ (fun n j => σ (crow n j)) (fun n j => x2 (ix3 0 (crow n j) (hlane h l)))
    (fun n => accum (F := Ideal) x0 x1 x2 h n (ix2 r l)) (accum_zero x0 x1 x2 h _) 16 (fun n _ => by
      rw [accum_succ, hμ, hμ]
      simp only [hσ]) 16 le_rfl]
  refine congrArg _ ?_
  rw [Finset.sum_range]
  exact Fin.sum_mul_add_congr (S := 16) (n := 512) fun n j hl => by
    have e : crow n j = ⟨n.val * 512 + j.val, hl⟩ := Fin.ext (by
      show (512 * n.val + j.val) % 8192 = n.val * 512 + j.val
      omega)
    rw [e]

end Cert.AttnSample

end
-- ==== Proof.AttnSample.Final.lean ====
/- The block one step of the attention region stores, read at a row and a lane: the base-two softmax quotient of its windows. -/
module

public import proofs.«01_k».proof.Proof.AttnSample.Rows

@[expose] public section

set_option maxRecDepth 16384

noncomputable section

namespace Cert.AttnSample

open Cert.Attn

open Cert.Kernel3Ideal Cert.Kernel3Ideal.Gen Idealize.ShloMosaic Idealize.ShloMosaic.TcCoe Idealize.SL.Sem
open Idealize.ShloMosaic.ValueIdx

/-- A matrix divided by its column 64. -/
theorem column_div (A : FVec Ideal S512x128 .f32) (r : Fin 512) (l : Fin 128) :
    (divf A (broadcastTo S512x128 (extractStridedSlice S512x1 ![0, 64] A slices_S512x128_o0_64_S512x1) broadcasts_S512x1_S512x128) (ix2 r l) : EReal)
      = Ideal.div (A (ix2 r l)) (A (ix2 r 64)) := by
  refine (divf_apply _ _ _).trans ?_
  rw [broadcastTo_apply (extractStridedSlice S512x1 ![0, 64] A slices_S512x128_o0_64_S512x1) broadcasts_S512x1_S512x128 (ix2 r l) (ix2 r 0)
    (fun a => by match a with | ⟨0, _⟩ => rfl | ⟨1, _⟩ => rfl)]
  rw [extractStridedSlice_apply ![0, 64] A slices_S512x128_o0_64_S512x1 (ix2 r 0) (ix2 r 64)
    (fun a => by match a with | ⟨0, _⟩ => (show r.val = 0 + r.val; omega) | ⟨1, _⟩ => rfl)]

/-- The stored payload: the first matrix's quotient in the lower 64 lanes, the second's in the upper 64. -/
theorem pay1_apply (A B : FVec Ideal S512x128 .f32) (r : Fin 512) (k : Fin 128) :
    (k0_pay1 (F := Ideal) B (iota .tc S1x128 32 [1] iota_S1x128_d1_w32)
      (divf A (broadcastTo S512x128 (extractStridedSlice S512x1 ![0, 64] A slices_S512x128_o0_64_S512x1) broadcasts_S512x1_S512x128))
      (extractStridedSlice S512x1 ![0, 64] B slices_S512x128_o0_64_S512x1) (ix3 0 r k) : EReal)
      = if k.val < 64 then Ideal.div (A (ix2 r k)) (A (ix2 r 64))
        else Ideal.div (B (ix2 r ⟨(k.val + 64) % 128, Nat.mod_lt _ (by norm_num)⟩)) (B (ix2 r 64)) := by
  unfold k0_pay1
  dsimp only
  rw [shapeCast_ab_1ab_apply, truncf_apply, select_apply]
  have hc : broadcastTo S512x128 (shapeCast S1x128 (cmpi .slt (iota .tc S1x128 32 [1] iota_S1x128_d1_w32) (broadcast S1x128 64#32)) shapeCasts_S1x128_S1x128)
      broadcasts_S1x128_S512x128 (ix2 r k) = if k.val < 64 then 1#1 else 0#1 := by
    rw [broadcastTo_apply _ broadcasts_S1x128_S512x128 (ix2 r k) (ix2 0 k) (fun a => by match a with | ⟨0, _⟩ => rfl | ⟨1, _⟩ => rfl)]
    rw [shapeCast_apply _ shapeCasts_S1x128_S1x128 (ix2 0 k) (ix2 0 k) rfl]
    show IntOp.cmpi .slt (BitVec.ofNat 32 (0 * 128 + k.val)) 64#32 = _
    have : ∀ k : Fin 128, IntOp.cmpi .slt (BitVec.ofNat 32 (0 * 128 + k.val)) 64#32 = if k.val < 64 then 1#1 else 0#1 := by decide +kernel
    exact this k
  rw [hc]
  split_ifs with hk
  · exact column_div A r k
  · rw [Scalar.select, if_neg (by decide)]
    refine Eq.trans ?_ (column_div B r ⟨(k.val + 64) % 128, Nat.mod_lt _ (by norm_num)⟩)
    exact dynamicRotate_apply (s := S512x128) 1 64#32 _ rotates_S512x128_d1 (ix2 r k) (ix2 r ⟨(k.val + 64) % 128, Nat.mod_lt _ (by norm_num)⟩) (fun b => by
      match b with
      | ⟨0, _⟩ => rfl
      | ⟨1, _⟩ => (show (k.val + 64) % 128 = (k.val + 128 - 64 % 128) % 128; omega))

variable (x0 : FVec Ideal S1x512x256 .bf16) (x1 x2 : FVec Ideal S1x8192x256 .bf16)

/-- The weighted sum of the values' lane, over the sum of the weights. -/
def attnVal (σ : Fin 8192 → ℝ) (v : Fin 8192 → EReal) : EReal :=
  (∑ k, pw (σ k) * v k) * (((∑ k, (2 : ℝ) ^ σ k)⁻¹ : ℝ) : EReal)

theorem head_quotient (h : Fin 2) (r : Fin 512) (l : Fin 128) (σ : Fin 8192 → ℝ) (hσ : ∀ k, dotQK x0 x1 h r k = (σ k : EReal))
    (hone : ∀ k, (x2 (ix3 0 k (hlane h 64)) : EReal) = 1) :
    Ideal.div (accum (F := Ideal) x0 x1 x2 h 16 (ix2 r l)) (accum (F := Ideal) x0 x1 x2 h 16 (ix2 r 64))
      = attnVal σ fun k => x2 (ix3 0 k (hlane h l)) := by
  obtain ⟨x, hx⟩ := accum_final x0 x1 x2 h r l σ hσ
  rw [hx l, hx 64]
  have e : ∑ k : Fin 8192, pw (σ k) * x2 (ix3 0 k (hlane h 64)) = ((∑ k, (2 : ℝ) ^ σ k : ℝ) : EReal) := by
    rw [← coe_sum]
    exact Finset.sum_congr rfl fun k _ => by rw [hone, mul_one]; rfl
  rw [e]
  exact quotient x _ _ (Finset.sum_pos (fun k _ => pw_pos _) Finset.univ_nonempty)

/-- The block stored, at a row and a lane of one of the two heads. -/
theorem blockOut_apply (h : Fin 2) (r : Fin 512) (l : Fin 64) (k : Fin 128) (hk : k.val = h.val * 64 + l.val)
    (σ : Fin 8192 → ℝ) (hσ : ∀ k, dotQK x0 x1 h r k = (σ k : EReal))
    (hone : ∀ k, (x2 (ix3 0 k (hlane h 64)) : EReal) = 1) :
    (blockOut (F := Ideal) x0 x1 x2 (ix3 0 r k) : EReal) = attnVal σ fun k => x2 (ix3 0 k (hlane h ⟨l.val, by omega⟩)) := by
  refine (pay1_apply _ _ r k).trans ?_
  match h, hk, hσ, hone with
  | ⟨0, _⟩, hk, hσ, hone =>
    have hk' : k.val = l.val := by simpa using hk
    rw [if_pos (by omega)]
    have e : k = ⟨l.val, by omega⟩ := Fin.ext hk'
    rw [e]
    exact head_quotient x0 x1 x2 0 r _ σ hσ hone
  | ⟨1, _⟩, hk, hσ, hone =>
    have hk' : k.val = 64 + l.val := by simpa using hk
    rw [if_neg (by omega)]
    have e : (⟨(k.val + 64) % 128, Nat.mod_lt _ (by norm_num)⟩ : Fin 128) = ⟨l.val, by omega⟩ := Fin.ext (by show (k.val + 64) % 128 = l.val; omega)
    rw [e]
    exact head_quotient x0 x1 x2 1 r _ σ hσ hone

end Cert.AttnSample

end
-- ==== Proof.AttnSample.Ref.lean ====
/- The reference attention read at a batch, position, head and lane, for finite queries and keys: the base-two softmax
   quotient of the scaled scores. And the precondition read back: it says the queries and keys are finite. -/
module

public import proofs.«01_k».proof.Proof.AttnSample.Final
public import proofs.«01_k».proof.Proof.Gen.Reference3Ideal.Read
public import proofs.«01_k».proof.Pre_finite_scores_sample
public import proofs.«01_k».proof.Proof.Gen.Pre_finite_scores_sample
public import Idealize.ShloMosaic.Lib.ReduceAll
public import Idealize.ShloMosaic.Lib.ValueIdx
public import Idealize.ShloMosaic.Lib.IdealHost
public import Idealize.ShloMosaic.PureOps.Ideal.Laws

@[expose] public section

set_option maxRecDepth 16384

noncomputable section

namespace Cert.AttnSample

open Cert.Attn

open Idealize.ShloMosaic Idealize.ShloMosaic.TcCoe Idealize.SL.Sem
open Idealize.ShloMosaic.ValueIdx
open Cert.Reference3Ideal.Read

/-- The scale of the scores as a real. -/
theorem scale_real : ∃ w : ℝ, Ideal.ofBits .f32 0x3DD105EC#32 = (w : EReal) := by
  refine exists_real ?_ ?_
  · simp [Ideal.ofBits, Ideal.ieee]
    rw [← EReal.coe_mul]
    exact EReal.coe_ne_bot _
  · simp [Ideal.ofBits, Ideal.ieee]
    rw [← EReal.coe_mul]
    exact EReal.coe_ne_top _

/-- The scale of the scores. -/
def scale : ℝ := scale_real.choose

theorem scale_eq : Ideal.ofBits .f32 0x3DD105EC#32 = (scale : EReal) := scale_real.choose_spec

theorem two_word : Ideal.ofBits .f32 0x40000000#32 = ((2 : ℝ) : EReal) := by
  simp [Ideal.ofBits, Ideal.ieee]
  rw [← EReal.coe_mul]
  norm_num

theorem log2_pos : (0 : ℝ) < Real.log 2 := Real.log_pos (by norm_num)

/-- The scale the kernel's host code multiplies the queries by: the scale over the logarithm of two. -/
theorem qscale_eq : Ideal.div (Ideal.ofBits .f32 0x3DD105EC#32) (Ideal.log (Ideal.ofBits .f32 0x40000000#32)) = ((scale / Real.log 2 : ℝ) : EReal) := by
  rw [scale_eq, two_word, Ideal.log_coe, if_neg (by norm_num), Ideal.div, if_neg (by exact_mod_cast log2_pos.ne'), ← EReal.coe_inv,
    ← EReal.coe_mul, div_eq_mul_inv]

/-- The base-two exponent of query position `s` against key position `j`. -/
def sigma (qr kr : (⟨4, ![8, 8192, 8, 96]⟩ : Shape).Idx → ℝ) (b : Fin 8) (e : Fin 8) (s j : Fin 8192) : ℝ :=
  (∑ d : Fin 96, qr (ix4 b s e d) * kr (ix4 b j e d)) * (scale / Real.log 2)

theorem sigma_log (qr kr : (⟨4, ![8, 8192, 8, 96]⟩ : Shape).Idx → ℝ) (b : Fin 8) (e : Fin 8) (s j : Fin 8192) :
    sigma qr kr b e s j * Real.log 2 = (∑ d : Fin 96, qr (ix4 b s e d) * kr (ix4 b j e d)) * scale := by
  have := log2_pos.ne'
  unfold sigma
  field_simp

variable (q k : (⟨Cert.Reference3Ideal.S8x8192x8x96, .f32⟩ : BufTy).Contents (Elt Ideal))
  (v : (⟨Cert.Reference3Ideal.S8x8192x8x64, .f32⟩ : BufTy).Contents (Elt Ideal))
  (qr kr : (⟨4, ![8, 8192, 8, 96]⟩ : Shape).Idx → ℝ)

/-- A scaled score. -/
theorem ref_score (hq : ∀ i, q i = (qr i : EReal)) (hk : ∀ i, k i = (kr i : EReal)) (b : Fin 8) (e : Fin 8) (s j : Fin 8192) :
    (val_main_v2 (F := Ideal) q k (ix4 b e s j) : EReal) = ((sigma qr kr b e s j * Real.log 2 : ℝ) : EReal) := by
  rw [sigma_log, EReal.coe_mul, ← coe_sum]
  rw [val_main_v2_apply, val_main_v1_apply, val_main_cst_apply, val_main_v0_apply]
  refine congrArg₂ (· * ·) (Finset.sum_congr rfl fun d _ => ?_) scale_eq
  rw [hq, hk, EReal.coe_mul]
  refine congrArg₂ (· * ·) (congrArg (fun i => ((qr i : ℝ) : EReal)) ?_) (congrArg (fun i => ((kr i : ℝ) : EReal)) ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The row maximum is a real. -/
theorem ref_max (hq : ∀ i, q i = (qr i : EReal)) (hk : ∀ i, k i = (kr i : EReal)) (b : Fin 8) (e : Fin 8) (s : Fin 8192) :
    ∃ M : ℝ, (val_main_v5 (F := Ideal) q k (ix3 b e s) : EReal) = M := by
  have hr : Cert.Reference3Ideal.S8x8x8192x8192.Reduces [3] Cert.Reference3Ideal.S8x8x8192 := by decide
  have e3 : (val_main_v3 (F := Ideal) q k (ix3 b e s) : EReal)
      = (Finset.univ : Finset (Fin 8192)).fold max ⊥ fun j => ((sigma qr kr b e s j * Real.log 2 : ℝ) : EReal) := by
    unfold val_main_v3
    generalize hX : (val_main_v2 (F := Ideal) q k : FVec Ideal Cert.Reference3Ideal.S8x8x8192x8192 .f32) = X
    unfold val_main_cst_0
    refine (congrFun (hostReduce_maximumf_eq_multiReduction (F := Ideal) (φ := .f32) X 0xFF800000#32 _ _ hr (.inl rfl) rfl) _).trans ?_
    refine (Ideal.multiReduction_maximumf_single _ _ _ _ _ _).trans ?_
    have eb : (FloatOps.ofBits (F := Ideal) .f32 0xFF800000#32 : EReal) = ⊥ := by
      show Ideal.ofBits .f32 0xFF800000#32 = ⊥
      simp [Ideal.ofBits, Ideal.ieee]
    rw [eb]
    refine Finset.fold_congr fun j _ => ?_
    refine Eq.trans ?_ (ref_score q k qr kr hq hk b e s j)
    rw [hX]
    refine congrArg X (funext fun a => ?_)
    match a with | ⟨0, _⟩ => rfl | ⟨1, _⟩ => rfl | ⟨2, _⟩ => rfl | ⟨3, _⟩ => rfl
  have e5 : (val_main_v5 (F := Ideal) q k (ix3 b e s) : EReal)
      = max ⊥ ((Finset.univ : Finset (Fin 8192)).fold max ⊥ fun j => ((sigma qr kr b e s j * Real.log 2 : ℝ) : EReal)) := by
    rw [val_main_v5_apply, val_main_v4_apply, val_main_cst_1_apply]
    refine congrArg₂ max ?_ e3
    show Ideal.ofBits .f32 0xFF800000#32 = ⊥
    simp [Ideal.ofBits, Ideal.ieee]
  rw [e5, bot_sup_eq]
  refine exists_real (ne_of_gt ?_) (ne_of_lt ?_)
  · exact (Finset.lt_fold_max (c := (⊥ : EReal))).2 (Or.inr ⟨0, Finset.mem_univ _, EReal.bot_lt_coe _⟩)
  · exact (Finset.fold_max_lt (c := (⊤ : EReal))).2 ⟨bot_lt_top, fun j _ => EReal.coe_lt_top _⟩

/-- The reference's exponential. -/
theorem ref_exp (hq : ∀ i, q i = (qr i : EReal)) (hk : ∀ i, k i = (kr i : EReal)) (b : Fin 8) (e : Fin 8) (s j : Fin 8192) (M : ℝ)
    (hM : (val_main_v5 (F := Ideal) q k (ix3 b e s) : EReal) = M) :
    (val_main_v9 (F := Ideal) q k (ix4 b e s j) : EReal) = Ideal.exp (((sigma qr kr b e s j * Real.log 2 : ℝ) : EReal) - (M : EReal)) := by
  rw [val_main_v9_apply, val_main_v8_apply, val_main_v7_apply, val_main_v6_apply]
  refine congrArg Ideal.exp (congrArg₂ (· - ·) (ref_score q k qr kr hq hk b e s j) ?_)
  refine Eq.trans (congrArg (val_main_v5 (F := Ideal) q k) (funext fun a => ?_)) hM
  match a with | ⟨0, _⟩ => rfl | ⟨1, _⟩ => rfl | ⟨2, _⟩ => rfl

/-- The reference's result. -/
theorem ref_apply (hq : ∀ i, q i = (qr i : EReal)) (hk : ∀ i, k i = (kr i : EReal)) (b : Fin 8) (s : Fin 8192) (e : Fin 8) (l : Fin 64)
    (p : Fin 512) (hp : p.val = e.val * 64 + l.val) :
    (val_main_v17 (F := Ideal) q k v (ix3 b s p) : EReal) = attnVal (sigma qr kr b e s) fun j => v (ix4 b j e l) := by
  obtain ⟨M, hM⟩ := ref_max q k qr kr hq hk b e s
  have hi : idx_main_v16 (ix3 b s p) = ix4 b s e l := funext fun a => Fin.ext (by
    match a with
    | ⟨0, _⟩ => show ((b.val * 8192 + s.val) * 512 + p.val) / 4194304 = b.val; omega
    | ⟨1, _⟩ => show ((b.val * 8192 + s.val) * 512 + p.val) / 512 % 8192 = s.val; omega
    | ⟨2, _⟩ => show ((b.val * 8192 + s.val) * 512 + p.val) / 64 % 8 = e.val; omega
    | ⟨3, _⟩ => show ((b.val * 8192 + s.val) * 512 + p.val) % 64 = l.val; omega)
  rw [val_main_v17_apply]
  refine Eq.trans (b := (val_main_v16 (F := Ideal) q k v (ix3 b s p) : EReal)) rfl ?_
  rw [val_main_v16_apply, hi, val_main_v15_apply, val_main_v14_apply, attnVal, ← weights (sigma qr kr b e s) M]
  refine Finset.sum_congr rfl fun j _ => congrArg₂ (· * ·) (congrArg v (funext fun a => ?_)) ?_
  · match a with | ⟨0, _⟩ => rfl | ⟨1, _⟩ => rfl | ⟨2, _⟩ => rfl | ⟨3, _⟩ => rfl
  · have h13 : ridx_main_v14 (idx_main_v15 (ix4 b s e l)) j = ix4 b e s j := funext fun a => by
      match a with | ⟨0, _⟩ => rfl | ⟨1, _⟩ => rfl | ⟨2, _⟩ => rfl | ⟨3, _⟩ => rfl
    rw [h13, val_main_v13_apply, val_main_v12_apply, val_main_v11_apply, val_main_v10_apply]
    refine congrArg₂ Ideal.div (ref_exp q k qr kr hq hk b e s j M hM) (congrArg₂ (· + ·) Ideal.ofBits_zero_f32 ?_)
    refine Finset.sum_congr rfl fun j' _ => ?_
    refine Eq.trans (congrArg (val_main_v9 (F := Ideal) q k) (funext fun a => ?_)) (ref_exp q k qr kr hq hk b e s j' M hM)
    match a with | ⟨0, _⟩ => rfl | ⟨1, _⟩ => rfl | ⟨2, _⟩ => rfl | ⟨3, _⟩ => rfl

/-- A number whose absolute value is below plus infinity is a real. -/
theorem real_of_below {x : EReal} (h : FloatOps.cmpf (F := Ideal) (φ := .f32) .olt (FloatOps.hostAbsf (F := Ideal) (φ := .f32) x) (FloatOps.ofBits .f32 0x7F800000#32) = 1#1) : ∃ r : ℝ, x = r := by
  have e : (FloatOps.ofBits (F := Ideal) .f32 0x7F800000#32 : EReal) = ⊤ := by
    show Ideal.ofBits .f32 0x7F800000#32 = ⊤
    simp [Ideal.ofBits, Ideal.ieee]
  rw [e] at h
  have h' : Ideal.cmp .olt (max x (-x)) ⊤ = 1#1 := h
  have hlt : max x (-x) < ⊤ := by
    by_contra hn
    simp [Ideal.cmp, hn] at h'
  refine exists_real (fun hb => ?_) (ne_of_lt (lt_of_le_of_lt (le_max_left _ _) hlt))
  subst hb
  simp at hlt

/-- The precondition says the queries and keys are finite. -/
theorem finite_args [Cert.Pre_finite_scores_sample.Facts] (h : Cert.Pre_finite_scores_sample.fn (F := Ideal) q k v = fun _ => 1#1) :
    (∀ i, ∃ r : ℝ, (q i : EReal) = r) ∧ ∀ i, ∃ r : ℝ, (k i : EReal) = r := by
  unfold Cert.Pre_finite_scores_sample.fn at h
  dsimp only at h
  have h0 := congrFun h (Shape.Idx.first Cert.Pre_finite_scores_sample.Facts.h_S_)
  have hand : ∀ a b : BitVec 1, IntOp.andi a b = 1#1 → a = 1#1 ∧ b = 1#1 := by decide
  obtain ⟨ha, hb⟩ := hand _ _ h0
  haveI : Subsingleton Cert.Pre_finite_scores_sample.S_.Idx := ⟨fun a b => funext fun x => x.elim0⟩
  exact ⟨fun i => real_of_below (Host.reduce_andi_all _ _ _ _ _ ha i), fun i => real_of_below (Host.reduce_andi_all _ _ _ _ _ hb i)⟩

end Cert.AttnSample

end
-- ==== Proof.AttnSample.Array.lean ====
/- The attention kernel's whole result: at finite queries and keys, the array the launch leaves is the reference's. -/
module

public import proofs.«01_k».proof.Proof.AttnSample.Region
public import proofs.«01_k».proof.Proof.AttnSample.Entry
public import proofs.«01_k».proof.Proof.AttnSample.Ref
public import proofs.«01_k».proof.Proof.Gen.Kernel3Ideal.Value
public import Idealize.ShloMosaic.Lib.Pipeline.ValueKit.Geometry
public import Idealize.ShloMosaic.Lib.Pipeline.Covers

@[expose] public section

set_option maxRecDepth 16384

noncomputable section

namespace Cert.AttnSample

open Cert.Attn

open Cert.Kernel3Ideal Cert.Kernel3Ideal.Gen Idealize.ShloMosaic Idealize.ShloMosaic.TcCoe Idealize.SL.Sem
open Idealize.ShloMosaic.ValueIdx Idealize.ShloMosaic.Pipeline

variable (m : (ℓ : Loc nD τ sig) → Buf (Elt Ideal) ℓ)

/-- The batch, head pair and query block of a grid point. -/
abbrev pb (t : Fin cfg0.N) : Fin 8 := grid0.coords t 0
abbrev pg (t : Fin cfg0.N) : Fin 4 := grid0.coords t 1
abbrev pi (t : Fin cfg0.N) : Fin 16 := grid0.coords t 2

/-- Row `r` of a grid point's query block among the 8192 positions. -/
def qrow (t : Fin cfg0.N) (r : Fin 512) : Fin 8192 := ⟨512 * (pi t).val + r.val, by have := (pi t).isLt; omega⟩

/-- Lane `k` of a grid point's head pair among the 1024 lanes. -/
def plane (t : Fin cfg0.N) (k : Fin 256) : Fin 1024 := ⟨256 * (pg t).val + k.val, by have := (pg t).isLt; omega⟩

/-- Head `h` of a grid point's pair. -/
def phead (t : Fin cfg0.N) (h : Fin 2) : Fin 8 := ⟨2 * (pg t).val + h.val, by have := (pg t).isLt; omega⟩

theorem toNat_small (n : ℕ) (h : n < 2 ^ 32) : (BitVec.ofNat 32 n).toNat = n := by
  rw [BitVec.toNat_ofNat]; exact Nat.mod_eq_of_lt h

theorem coord_b (t : Fin cfg0.N) : (BitVec.ofNat 32 (grid0.coords t 0).val).toNat = (pb t).val :=
  toNat_small _ (lt_trans (pb t).isLt (by norm_num))
theorem coord_g (t : Fin cfg0.N) : (BitVec.ofNat 32 (grid0.coords t 1).val).toNat = (pg t).val :=
  toNat_small _ (lt_trans (pg t).isLt (by norm_num))
theorem coord_i (t : Fin cfg0.N) : (BitVec.ofNat 32 (grid0.coords t 2).val).toNat = (pi t).val :=
  toNat_small _ (lt_trans (pi t).isLt (by norm_num))

theorem tr0 (t : Fin cfg0.N) : cc0_transform_0 (grid0.coords t) = ![(pb t).val, (pi t).val, (pg t).val] := by
  unfold cc0_transform_0
  dsimp only
  rw [coord_b, coord_g, coord_i]

theorem tr1 (t : Fin cfg0.N) : cc0_transform_1 (grid0.coords t) = ![(pb t).val, 0, (pg t).val] := by
  unfold cc0_transform_1
  dsimp only
  rw [coord_b, coord_g]
  rfl

theorem tr2 (t : Fin cfg0.N) : cc0_transform_2 (grid0.coords t) = ![(pb t).val, 0, (pg t).val] := by
  unfold cc0_transform_2
  dsimp only
  rw [coord_b, coord_g]
  rfl

theorem tr3 (t : Fin cfg0.N) : cc0_transform_3 (grid0.coords t) = ![(pb t).val, (pi t).val, (pg t).val] := by
  unfold cc0_transform_3
  dsimp only
  rw [coord_b, coord_g, coord_i]

/-- A query window. -/
theorem block_q (c : Dev nD) (t : Fin cfg0.N) (r : Fin 512) (k : Fin 256) :
    (iblk m c 0 t : FVec Ideal S1x512x256 .bf16) (ix3 0 r k) = qArr (m ((c : Thread nD τ).loc main_arg0)) (ix3 (pb t) (qrow t r) (plane t k)) := by
  unfold iblk
  rw [View.read_apply]
  refine Eq.trans (cast_eq _ _) ?_
  refine Eq.trans (congrFun (V_queries m c) _) (congrArg _ (funext fun a => Fin.ext ?_))
  refine (Window.rect_emb_val_off win0_0 t (ix3 0 r k) a).trans ?_
  have e : win0_0.index t = ![(pb t).val, (pi t).val, (pg t).val] := tr0 t
  rw [e]
  match a with
  | ⟨0, _⟩ => show (pb t).val * 1 + 0 = (pb t).val; omega
  | ⟨1, _⟩ => show (pi t).val * 512 + r.val = 512 * (pi t).val + r.val; omega
  | ⟨2, _⟩ => show (pg t).val * 256 + k.val = 256 * (pg t).val + k.val; omega

/-- A key window. -/
theorem block_k (c : Dev nD) (t : Fin cfg0.N) (j : Fin 8192) (k : Fin 256) :
    (iblk m c 1 t : FVec Ideal S1x8192x256 .bf16) (ix3 0 j k) = kArr (m ((c : Thread nD τ).loc main_arg1)) (ix3 (pb t) j (plane t k)) := by
  unfold iblk
  rw [View.read_apply]
  refine Eq.trans (cast_eq _ _) ?_
  refine Eq.trans (congrFun (V_keys m c) _) (congrArg _ (funext fun a => Fin.ext ?_))
  refine (Window.rect_emb_val_off win0_1 t (ix3 0 j k) a).trans ?_
  have e : win0_1.index t = ![(pb t).val, 0, (pg t).val] := tr1 t
  rw [e]
  match a with
  | ⟨0, _⟩ => show (pb t).val * 1 + 0 = (pb t).val; omega
  | ⟨1, _⟩ => show 0 * 8192 + j.val = j.val; omega
  | ⟨2, _⟩ => show (pg t).val * 256 + k.val = 256 * (pg t).val + k.val; omega

/-- A value window. -/
theorem block_v (c : Dev nD) (t : Fin cfg0.N) (j : Fin 8192) (k : Fin 256) :
    (iblk m c 2 t : FVec Ideal S1x8192x256 .bf16) (ix3 0 j k) = vArr (m ((c : Thread nD τ).loc main_arg2)) (ix3 (pb t) j (plane t k)) := by
  unfold iblk
  rw [View.read_apply]
  refine Eq.trans (cast_eq _ _) ?_
  refine Eq.trans (congrFun (V_values m c) _) (congrArg _ (funext fun a => Fin.ext ?_))
  refine (Window.rect_emb_val_off win0_2 t (ix3 0 j k) a).trans ?_
  have e : win0_2.index t = ![(pb t).val, 0, (pg t).val] := tr2 t
  rw [e]
  match a with
  | ⟨0, _⟩ => show (pb t).val * 1 + 0 = (pb t).val; omega
  | ⟨1, _⟩ => show 0 * 8192 + j.val = j.val; omega
  | ⟨2, _⟩ => show (pg t).val * 256 + k.val = 256 * (pg t).val + k.val; omega

variable (qr kr : (⟨4, ![8, 8192, 8, 96]⟩ : Shape).Idx → ℝ)

/-- A sum over the 128 lanes whose lanes from 96 on are zero. -/
theorem sum_lanes (f : Fin 128 → EReal) (g : Fin 96 → EReal) (h1 : ∀ d : Fin 96, f ⟨d.val, by omega⟩ = g d)
    (h0 : ∀ d : Fin 128, ¬ d.val < 96 → f d = 0) : ∑ d, f d = ∑ d, g d := by
  have e : ∑ d : Fin (96 + 32), f d = ∑ d : Fin 96, f (Fin.castAdd 32 d) + ∑ d : Fin 32, f (Fin.natAdd 96 d) :=
    Fin.sum_univ_add (fun d : Fin (96 + 32) => f d)
  refine e.trans ?_
  rw [Finset.sum_eq_zero (s := (Finset.univ : Finset (Fin 32))) (fun d _ => h0 _ (by show ¬ 96 + d.val < 96; omega)), add_zero]
  exact Finset.sum_congr rfl fun d _ => h1 d

/-- A grid point's scores are the reference's exponents. -/
theorem dot_eq (c : Dev nD) (t : Fin cfg0.N) (hq : ∀ i, m ((c : Thread nD τ).loc main_arg0) i = (qr i : EReal))
    (hk : ∀ i, m ((c : Thread nD τ).loc main_arg1) i = (kr i : EReal)) (h : Fin 2) (r : Fin 512) (j : Fin 8192) :
    dotQK (iblk m c 0 t) (iblk m c 1 t) h r j = ((sigma qr kr (pb t) (phead t h) (qrow t r) j : ℝ) : EReal) := by
  have hl : ∀ d : Fin 128, (plane t (hlane h d)).val = (phead t h).val * 128 + d.val := fun d => by
    show 256 * (pg t).val + (128 * h.val + d.val) = (2 * (pg t).val + h.val) * 128 + d.val
    omega
  rw [sigma, Finset.sum_mul, ← coe_sum]
  refine sum_lanes _ _ (fun d => ?_) fun d hd => ?_
  · rw [block_q, block_k, qArr_apply _ _ _ _ _ _ (hl _), kArr_apply _ _ _ _ _ _ (hl _), dif_pos d.isLt, dif_pos d.isLt]
    refine Eq.trans (congrArg₂ (· * ·) (congrArg₂ (· * ·) (hq _) qscale_eq) (hk _)) ?_
    rw [← EReal.coe_mul, ← EReal.coe_mul]
    congr 1
    ring
  · rw [block_q, block_k, qArr_apply _ _ _ _ _ _ (hl _), kArr_apply _ _ _ _ _ _ (hl _), dif_neg hd, dif_neg hd, mul_zero]

/-- Where a grid point's block is written. -/
theorem out_emb (t : Fin cfg0.N) (r : Fin 512) (k : Fin 128) :
    ((cfg0.win 3).blk t).view.emb (ix3 0 r k)
      = ix3 (pb t) (qrow t r) (⟨128 * (pg t).val + k.val, by have := (pg t).isLt; omega⟩ : Fin 512) := funext fun a => Fin.ext (by
  refine (Window.rect_emb_val_off win0_3 t (ix3 0 r k) a).trans ?_
  have e : win0_3.index t = ![(pb t).val, (pi t).val, (pg t).val] := tr3 t
  rw [e]
  match a with
  | ⟨0, _⟩ => show (pb t).val * 1 + 0 = (pb t).val; omega
  | ⟨1, _⟩ => show (pi t).val * 512 + r.val = 512 * (pi t).val + r.val; omega
  | ⟨2, _⟩ => show (pg t).val * 128 + k.val = 128 * (pg t).val + k.val; omega)

/-- What a grid point writes back is its block of the reference's result. -/
theorem flushed_eq (c : Dev nD) (t : Fin cfg0.N) (hq : ∀ i, m ((c : Thread nD τ).loc main_arg0) i = (qr i : EReal))
    (hk : ∀ i, m ((c : Thread nD τ).loc main_arg1) i = (kr i : EReal)) :
    (dats m 0 c).flushed 3 t = ((cfg0.win 3).blk t).view.read (Elt Ideal)
      (Cert.Reference3Ideal.Read.val_main_v17 (F := Ideal) (m ((c : Thread nD τ).loc main_arg0)) (m ((c : Thread nD τ).loc main_arg1))
        (m ((c : Thread nD τ).loc main_arg2))) := by
  rw [Value.flushed3_A, out_eq]
  funext y
  rw [View.read_apply]
  refine Eq.trans ?_ (cast_eq _ _).symm
  obtain ⟨r, k, rfl⟩ : ∃ (r : Fin 512) (k : Fin 128), y = ix3 0 r k := ⟨y 1, y 2, (eq_ix3 (n0 := 1) (n1 := 512) (n2 := 128) y).trans (by
    congr 1; exact Subsingleton.elim (α := Fin 1) _ _)⟩
  refine Eq.trans (b := (blockOut (F := Ideal) (iblk m c 0 t) (iblk m c 1 t) (iblk m c 2 t) (ix3 0 r k) : EReal)) rfl ?_
  rw [out_emb]
  let h : Fin 2 := ⟨k.val / 64, by omega⟩
  let l : Fin 64 := ⟨k.val % 64, by omega⟩
  have hl : ∀ d : Fin 128, (plane t (hlane h d)).val = (phead t h).val * 128 + d.val := fun d => by
    show 256 * (pg t).val + (128 * h.val + d.val) = (2 * (pg t).val + h.val) * 128 + d.val
    omega
  refine (blockOut_apply _ _ _ h r l k (by show k.val = k.val / 64 * 64 + k.val % 64; omega) (sigma qr kr (pb t) (phead t h) (qrow t r))
    (fun j => dot_eq m qr kr c t hq hk h r j) (fun j => by
      rw [block_v]; exact vArr_ones _ _ _ (phead t h) _ (hl 64))).trans ?_
  refine Eq.trans ?_ (Cert.AttnSample.ref_apply _ _ (m ((c : Thread nD τ).loc main_arg2)) qr kr hq hk (pb t) (qrow t r) (phead t h) l _
    (by show 128 * (pg t).val + k.val = (2 * (pg t).val + k.val / 64) * 64 + k.val % 64; omega)).symm
  refine congrArg _ (funext fun j => ?_)
  rw [block_v]
  exact vArr_apply _ _ _ (phead t h) l _ (hl ⟨l.val, by omega⟩)

/-- Every element of the result is in some grid point's block. -/
theorem cover (i : S8x8192x512.Idx) : ∃ t : Fin cfg0.N, (cfg0.win 3).flush t = true ∧ i ∈ ((cfg0.win 3).blk t).view.set := by
  have h0 : (i 0 : Nat) < 8 := (i 0).isLt
  have h1 : (i 1 : Nat) < 8192 := (i 1).isLt
  have h2 : (i 2 : Nat) < 512 := (i 2).isLt
  obtain ⟨t, ht⟩ := grid0.coords_surjective (fun a => match a with
    | ⟨0, _⟩ => (⟨(i 0).val, h0⟩ : Fin 8)
    | ⟨1, _⟩ => (⟨(i 2).val / 128, by omega⟩ : Fin 4)
    | ⟨2, _⟩ => (⟨(i 1).val / 512, by omega⟩ : Fin 16))
  have hb : (pb t).val = (i 0).val := congrArg Fin.val (congrFun ht 0)
  have hg : (pg t).val = (i 2).val / 128 := congrArg Fin.val (congrFun ht 1)
  have hi : (pi t).val = (i 1).val / 512 := congrArg Fin.val (congrFun ht 2)
  refine ⟨t, flush0_3 t, Finset.mem_map.mpr ⟨ix3 0 ⟨(i 1).val % 512, by omega⟩ ⟨(i 2).val % 128, by omega⟩, Finset.mem_univ _, ?_⟩⟩
  refine (out_emb t _ _).trans (funext fun a => Fin.ext ?_)
  match a with
  | ⟨0, _⟩ => exact hb
  | ⟨1, _⟩ => show 512 * (pi t).val + (i 1).val % 512 = (i 1).val; omega
  | ⟨2, _⟩ => show 128 * (pg t).val + (i 2).val % 128 = (i 2).val; omega

/-- The result array after the launch. -/
theorem final (c : Dev nD) (hq : ∀ i, m ((c : Thread nD τ).loc main_arg0) i = (qr i : EReal))
    (hk : ∀ i, m ((c : Thread nD τ).loc main_arg1) i = (kr i : EReal)) :
    (dats m 0 c).arrAt 3 cfg0.N = Cert.Reference3Ideal.Read.val_main_v17 (F := Ideal) (m ((c : Thread nD τ).loc main_arg0))
      (m ((c : Thread nD τ).loc main_arg1)) (m ((c : Thread nD τ).loc main_arg2)) :=
  (dats m 0 c).arrAt_eq_of_cover 3 _ (fun t _ => flushed_eq m qr kr c t hq hk) cover

end Cert.AttnSample

end
-- ==== Proof.FfnSample.Block.lean ====
/- One step of the feed-forward region in words: the tiles of its weights, the normalized rows with their halo, the gated
   product of 256 columns, and the block a step stores. -/
module

public import proofs.«01_k».proof.Proof.Gen.Kernel4Ideal.Frame
public import Idealize.ShloMosaic.Lib.Pipeline.Value
public import Idealize.ShloMosaic.Lib.Pipeline.ValueKit.Tiles
public import Idealize.ShloMosaic.Lib.ValueIdx

@[expose] public section

set_option maxRecDepth 16384

noncomputable section

namespace Cert.FfnSample

open Cert.Kernel4Ideal Cert.Kernel4Ideal.Gen Idealize.ShloMosaic Idealize.ShloMosaic.TcCoe Idealize.SL.Sem
open Idealize.ShloMosaic.ValueIdx

variable {F : FTy → Type} [FloatOps F]

/-- Column `n` of the tile of 256 columns from `lo`, among the 5632. -/
def tcol (lo : ℕ) (n : Fin 256) : Fin 5632 := ⟨(lo + n.val) % 5632, Nat.mod_lt _ (by norm_num)⟩

/-- 256 columns of the up projection's weights. -/
def wTile (x : Vec F S1024x5632 .bf16) (lo : ℕ) : Vec F S1024x256 .bf16 := fun i =>
  x (ix2 (n0 := 1024) (n1 := 5632) ⟨(i 0).val, (i 0).isLt⟩ (tcol lo ⟨(i 1).val, (i 1).isLt⟩))

/-- 256 columns of the convolution's weights. -/
def cTile (x : Vec F S3x5632 .f32) (lo : ℕ) : Vec F S3x256 .f32 := fun i =>
  x (ix2 (n0 := 3) (n1 := 5632) ⟨(i 0).val, (i 0).isLt⟩ (tcol lo ⟨(i 1).val, (i 1).isLt⟩))

/-- 256 columns of the convolution's bias. -/
def bTile (x : Vec F S1x5632 .f32) (lo : ℕ) : Vec F S1x256 .f32 := fun i =>
  x (ix2 (n0 := 1) (n1 := 5632) ⟨(i 0).val, (i 0).isLt⟩ (tcol lo ⟨(i 1).val, (i 1).isLt⟩))

/-- The normalized rows of a step's block, with eight rows before it and eight after. -/
def hnB (i : grid0.Coords) (x0 : Vec F S1x1024x1024 .f32) (x1 x2 : Vec F S1x8x1024 .f32) (x3 : Vec F S1x1024 .f32) :
    FVec F S1040x1024 .bf16 :=
  k0_pay7 (k0_pay2 x3) (k0_pay3 x0) (k0_pay4 i x3 x1) (Scalar.cmpi .slt (BitVec.ofNat 32 (i 1).val) 7#32) (k0_pay5 x3 x2) k0_pay6

/-- The convolution of 256 columns. -/
def convT (hn : FVec F S1040x1024 .bf16) (x4 : Vec F S1024x5632 .bf16) (x5 : Vec F S3x5632 .f32) (x6 : Vec F S1x5632 .f32)
    (lo : ℕ) : FVec F S1024x256 .f32 := k0_pay21 hn (wTile x4 lo) (cTile x5 lo) (bTile x6 lo)

/-- The gated product of 256 columns, the values' columns 2816 after the gate's. -/
def actT (hn : FVec F S1040x1024 .bf16) (x4 : Vec F S1024x5632 .bf16) (x5 : Vec F S3x5632 .f32) (x6 : Vec F S1x5632 .f32)
    (lo : ℕ) : FVec F S1024x256 .bf16 :=
  shapeCast S1024x256 (truncf .bf16 (mulf (mulf (convT hn x4 x5 x6 lo) (logistic (convT hn x4 x5 x6 lo)))
    (convT hn x4 x5 x6 (2816 + lo))) bitsLt_bf16_f32) shapeCasts_S1024x256_S1024x256

/-- All 2816 columns of the gated product. -/
def actB (hn : FVec F S1040x1024 .bf16) (x4 : Vec F S1024x5632 .bf16) (x5 : Vec F S3x5632 .f32) (x6 : Vec F S1x5632 .f32) :
    FVec F S1024x2816 .bf16 := fun y =>
  actT hn x4 x5 x6 (256 * ((y 1).val / 256)) (ix2 (n0 := 1024) (n1 := 256) ⟨(y 0).val, (y 0).isLt⟩
    ⟨(y 1).val % 256, Nat.mod_lt _ (by norm_num)⟩)

theorem load_w (a : Memref sig .tc .vmem S1024x5632 .bf16) (ha : a.IsWhole) (x : Vec F S1024x5632 .bf16) (lo : ℕ)
    (inb : ∀ d, (![0, lo] : Fin 2 → ℕ) d + S1024x256.size d ≤ S1024x5632.size d) :
    View.readAt (Elt F) a.view (Rect.unit (s := S1024x5632) ![0, lo] S1024x256.size inb).toLoadRect (ha.unread x) = wTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

theorem load_c (a : Memref sig .tc .vmem S3x5632 .f32) (ha : a.IsWhole) (x : Vec F S3x5632 .f32) (lo : ℕ)
    (inb : ∀ d, (![0, lo] : Fin 2 → ℕ) d + S3x256.size d ≤ S3x5632.size d) :
    View.readAt (Elt F) a.view (Rect.unit (s := S3x5632) ![0, lo] S3x256.size inb).toLoadRect (ha.unread x) = cTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

theorem load_b (a : Memref sig .tc .vmem S1x5632 .f32) (ha : a.IsWhole) (x : Vec F S1x5632 .f32) (lo : ℕ)
    (inb : ∀ d, (![0, lo] : Fin 2 → ℕ) d + S1x256.size d ≤ S1x5632.size d) :
    View.readAt (Elt F) a.view (Rect.unit (s := S1x5632) ![0, lo] S1x256.size inb).toLoadRect (ha.unread x) = bTile x lo := by
  have h1 : lo + 256 ≤ 5632 := inb 1
  rw [View.readAt_eq_ld, ha.read_unread]
  funext i
  refine View.ld_unit_apply_of x _ _ _ i _ fun a => ?_
  match a with
  | ⟨0, _⟩ => show (i 0).val = 0 + (i 0).val; omega
  | ⟨1, _⟩ => show (lo + (i 1).val) % 5632 = lo + (i 1).val; have : (i 1).val < 256 := (i 1).isLt; omega

/-- A load of a whole window is its contents. -/
theorem load_whole {S : Shape} {e : EltTy} (a : Memref sig .tc .vmem S e) (ha : a.IsWhole) (x : Vec F S e)
    {off : Fin S.rank → ℕ} (h : off = fun _ => 0) (inb : ∀ d, off d + S.size d ≤ S.size d) :
    View.readAt (Elt F) a.view (Rect.unit (s := S) off S.size inb).toLoadRect (ha.unread x) = x := by
  rw [View.readAt_eq_ld, ha.read_unread, View.ld_unit_zero h]

theorem off2 : (![0, 0] : Fin 2 → ℕ) = fun _ => 0 := by funext a; fin_cases a <;> rfl
theorem off3 : (![0, 0, 0] : Fin 3 → ℕ) = fun _ => 0 := by funext a; fin_cases a <;> rfl

variable (c : Dev nD) (i : grid0.Coords)
variable (arg2 : Memref sig .tc .vmem S1x1024x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (x0 : Vec F S1x1024x1024 .f32) (x1 x2 : Vec F S1x8x1024 .f32) (x3 : Vec F S1x1024 .f32)
variable (x4 : Vec F S1024x5632 .bf16) (x5 : Vec F S3x5632 .f32) (x6 : Vec F S1x5632 .f32)

theorem r_eq : kernelRun0_A.sl.r c arg5 harg5 x3 = k0_pay2 x3 := by
  unfold kernelRun0_A.sl.r
  rw [load_whole arg5 harg5 x3 off2]

theorem r_1_eq : kernelRun0_A.sl.r_1 c arg2 harg2 x0 = k0_pay3 x0 := by
  unfold kernelRun0_A.sl.r_1
  rw [load_whole arg2 harg2 x0 off3]

theorem r_2_eq : kernelRun0_A.sl.r_2 c i arg3 harg3 arg5 harg5 x1 x3 = k0_pay4 i x3 x1 := by
  unfold kernelRun0_A.sl.r_2
  rw [load_whole arg3 harg3 x1 off3, load_whole arg5 harg5 x3 off2]

theorem r_3_eq : kernelRun0_A.sl.r_3 c arg4 harg4 arg5 harg5 x2 x3 = k0_pay5 x3 x2 := by
  unfold kernelRun0_A.sl.r_3
  rw [load_whole arg4 harg4 x2 off3, load_whole arg5 harg5 x3 off2]

theorem r_4_eq : kernelRun0_A.sl.r_4 c i arg2 harg2 arg3 harg3 arg4 harg4 arg5 harg5 x0 x1 x2 x3 = hnB i x0 x1 x2 x3 := by
  unfold kernelRun0_A.sl.r_4
  rw [r_eq, r_1_eq, r_2_eq, r_3_eq]
  rfl

theorem piece_0 : k0_pay10 (kernelRun0_A.sl.r_5 c i arg2 harg2 arg3 harg3 arg4 harg4 arg5 harg5 arg6 harg6 arg7 harg7 arg8 harg8 x0 x1 x2 x3 x4 x5 x6) (kernelRun0_A.sl.r_6 c i arg2 harg2 arg3 harg3 arg4 harg4 arg5 harg5 arg6 harg6 x0 x1 x2 x3 x4) (View.readAt (Elt F) arg7.view (Rect.unit (s := S3x5632) ![0, 2816] S3x256.size inb_S3x5632_S3x256_0_2816).toLoadRect (harg7.unread x5)) (View.readAt (Elt F) arg8.view (Rect.unit (s := S1x5632) ![0, 2816] S1x256.size inb_S1x5632_S1x256_0_2816).toLoadRect (harg8.unread x6))
    = actT (hnB i x0 x1 x2 x3) x4 x5 x6 0 := by
  unfold kernelRun0_A.sl.r_5 kernelRun0_A.sl.r_6
  repeat first | rw [load_w] | rw [load_c] | rw [load_b] | rw [r_4_eq] | rw [r_eq] | rw [r_1_eq] | rw [r_2_eq] | rw [r_3_eq]
  rfl

theorem piece_256 : k0_pay15 (kernelRun0_A.sl.r_4 c i arg2 harg2 arg3 harg3 arg4 harg4 arg5 harg5 x0 x1 x2 x3) (kernelRun0_A.sl.r_7 c arg7 harg7 x5) (kernelRun0_A.sl.r_8 c i arg2 harg2 arg3 harg3 arg4 harg4 arg5 harg5 arg6 harg6 x0 x1 x2 x3 x4) (kernelRun0_A.sl.r_9 c i arg2 harg2 arg3 harg3 arg4 harg4 arg5 harg5 arg6 harg6 arg7 harg7 x0 x1 x2 x3 x4 x5) (View.readAt (Elt F) arg8.view (Rect.unit (s := S1x5632) ![0, 256] S1x256.size inb_S1x5632_S1x256_0_256).toLoadRect (harg8.unread x6)) (View.readAt (Elt F) arg6.view (Rect.unit (s := S1024x5632) ![0, 3072] S1024x256.size inb_S1024x5632_S1024x256_0_3072).toLoadRect (harg6.unread x4)) (View.readAt (Elt F) arg7.view (Rect.unit (s := S3x5632) ![0, 3072] S3x256.size inb_S3x5632_S3x256_0_3072).toLoadRect (harg7.unread x5)) (View.readAt (Elt F) arg8.view (Rect.unit (s := S1x5632) ![0, 3072] S1x256.size inb_S1x5632_S1x256_0_3072).toLoadRect (harg8.unread x6))
    = actT (hnB i x0 x1 x2 x3) x4 x5 x6 256 := by
  unfold kernelRun0_A.sl.r_7 kernelRun0_A.sl.r_8 kernelRun0_A.sl.r_9
  repeat first | rw [load_w] | rw [load_c] | rw [load_b] | rw [r_4_eq]
  rfl

theorem piece_512 : k0_pay20 (kernelRun0_A.sl.r_11 c i arg2 harg2 arg3 harg3 arg4 harg4 arg5 harg5 arg6 harg6 arg7 harg7 arg8 harg8 x0 x1 x2 x3 x4 x5 x6) (kernelRun0_A.sl.r_12 c i arg2 harg2 arg3 harg3 arg4 harg4 arg5 harg5 arg6 harg6 arg7 harg7 x0 x1 x2 x3 x4 x5) (kernelRun0_A.sl.r_13 c arg8 harg8 x6)
    = actT (hnB i x0 x1 x2 x3) x4 x5 x6 512 := by
  unfold kernelRun0_A.sl.r_11 kernelRun0_A.sl.r_10 kernelRun0_A.sl.r_12 kernelRun0_A.sl.r_13
  repeat first | rw [load_w] | rw [load_c] | rw [load_b] | rw [r_4_eq]
  rfl

theorem piece_768 : k0_pay25 (kernelRun0_A.sl.r_14 c i arg2 harg2 arg3 harg3 arg4 harg4 arg5 harg5 arg6 harg6 arg7 harg7 arg8 harg8 x0 x1 x2 x3 x4 x5 x6) (kernelRun0_A.sl.r_15 c i arg2 harg2 arg3 harg3 arg4 harg4 arg5 harg5 arg6 harg6 x0 x1 x2 x3 x4) (kernelRun0_A.sl.r_16 c arg7 harg7 x5) (kernelRun0_A.sl.r_17 c i arg2 harg2 arg3 harg3 arg4 harg4 arg5 harg5 arg6 harg6 x0 x1 x2 x3 x4) (1039#32) (View.readAt (Elt F) arg8.view (Rect.unit (s := S1x5632) ![0, 3584] S1x256.size inb_S1x5632_S1x256_0_3584).toLoadRect (harg8.unread x6))
    = actT (hnB i x0 x1 x2 x3) x4 x5 x6 768 := by
  unfold kernelRun0_A.sl.r_14 kernelRun0_A.sl.r_15 kernelRun0_A.sl.r_16 kernelRun0_A.sl.r_17
  repeat first | rw [load_w] | rw [load_c] | rw [load_b] | rw [r_4_eq]
  rfl

theorem piece_1024 : k0_pay27 (kernelRun0_A.sl.r_4 c i arg2 harg2 arg3 harg3 arg4 harg4 arg5 harg5 x0 x1 x2 x3) (kernelRun0_A.sl.r_18 c i arg2 harg2 arg3 harg3 arg4 harg4 arg5 harg5 arg6 harg6 arg7 harg7 x0 x1 x2 x3 x4 x5) (View.readAt (Elt F) arg8.view (Rect.unit (s := S1x5632) ![0, 1024] S1x256.size inb_S1x5632_S1x256_0_1024).toLoadRect (harg8.unread x6)) (View.readAt (Elt F) arg6.view (Rect.unit (s := S1024x5632) ![0, 3840] S1024x256.size inb_S1024x5632_S1024x256_0_3840).toLoadRect (harg6.unread x4)) (View.readAt (Elt F) arg7.view (Rect.unit (s := S3x5632) ![0, 3840] S3x256.size inb_S3x5632_S3x256_0_3840).toLoadRect (harg7.unread x5)) (View.readAt (Elt F) arg8.view (Rect.unit (s := S1x5632) ![0, 3840] S1x256.size inb_S1x5632_S1x256_0_3840).toLoadRect (harg8.unread x6))
    = actT (hnB i x0 x1 x2 x3) x4 x5 x6 1024 := by
  unfold kernelRun0_A.sl.r_18
  repeat first | rw [load_w] | rw [load_c] | rw [load_b] | rw [r_4_eq]
  rfl

theorem piece_1280 : k0_pay32 (kernelRun0_A.sl.r_22 c i arg2 harg2 arg3 harg3 arg4 harg4 arg5 harg5 arg6 harg6 arg7 harg7 arg8 harg8 x0 x1 x2 x3 x4 x5 x6)
    = actT (hnB i x0 x1 x2 x3) x4 x5 x6 1280 := by
  unfold kernelRun0_A.sl.r_22 kernelRun0_A.sl.r_19 kernelRun0_A.sl.r_20 kernelRun0_A.sl.r_21
  repeat first | rw [load_w] | rw [load_c] | rw [load_b] | rw [r_4_eq]
  rfl

theorem piece_1536 : k0_pay37 (kernelRun0_A.sl.r_24 c i arg2 harg2 arg3 harg3 arg4 harg4 arg5 harg5 arg6 harg6 arg7 harg7 arg8 harg8 x0 x1 x2 x3 x4 x5 x6) (kernelRun0_A.sl.r_25 c i arg2 harg2 arg3 harg3 arg4 harg4 arg5 harg5 arg6 harg6 x0 x1 x2 x3 x4) (kernelRun0_A.sl.r_26 c arg7 harg7 x5) (1#32) (View.readAt (Elt F) arg8.view (Rect.unit (s := S1x5632) ![0, 4352] S1x256.size inb_S1x5632_S1x256_0_4352).toLoadRect (harg8.unread x6))
    = actT (hnB i x0 x1 x2 x3) x4 x5 x6 1536 := by
  unfold kernelRun0_A.sl.r_24 kernelRun0_A.sl.r_25 kernelRun0_A.sl.r_26
  repeat first | rw [load_w] | rw [load_c] | rw [load_b] | rw [r_4_eq]
  rfl

theorem piece_1792 : k0_pay42 (kernelRun0_A.sl.r_4 c i arg2 harg2 arg3 harg3 arg4 harg4 arg5 harg5 x0 x1 x2 x3) (kernelRun0_A.sl.r_27 c i arg2 harg2 arg3 harg3 arg4 harg4 arg5 harg5 arg6 harg6 arg7 harg7 x0 x1 x2 x3 x4 x5) (kernelRun0_A.sl.r_28 c i arg2 harg2 arg3 harg3 arg4 harg4 arg5 harg5 arg6 harg6 arg7 harg7 x0 x1 x2 x3 x4 x5) (View.readAt (Elt F) arg8.view (Rect.unit (s := S1x5632) ![0, 1792] S1x256.size inb_S1x5632_S1x256_0_1792).toLoadRect (harg8.unread x6)) (View.readAt (Elt F) arg6.view (Rect.unit (s := S1024x5632) ![0, 4608] S1024x256.size inb_S1024x5632_S1024x256_0_4608).toLoadRect (harg6.unread x4)) (View.readAt (Elt F) arg7.view (Rect.unit (s := S3x5632) ![0, 4608] S3x256.size inb_S3x5632_S3x256_0_4608).toLoadRect (harg7.unread x5)) (View.readAt (Elt F) arg8.view (Rect.unit (s := S1x5632) ![0, 4608] S1x256.size inb_S1x5632_S1x256_0_4608).toLoadRect (harg8.unread x6))
    = actT (hnB i x0 x1 x2 x3) x4 x5 x6 1792 := by
  unfold kernelRun0_A.sl.r_27 kernelRun0_A.sl.r_28
  repeat first | rw [load_w] | rw [load_c] | rw [load_b] | rw [r_4_eq]
  rfl

theorem piece_2048 : k0_pay47 (kernelRun0_A.sl.r_31 c i arg2 harg2 arg3 harg3 arg4 harg4 arg5 harg5 arg6 harg6 arg7 harg7 arg8 harg8 x0 x1 x2 x3 x4 x5 x6) (kernelRun0_A.sl.r_32 c i arg2 harg2 arg3 harg3 arg4 harg4 arg5 harg5 arg6 harg6 arg7 harg7 arg8 harg8 x0 x1 x2 x3 x4 x5 x6) (kernelRun0_A.sl.r_33 c i arg2 harg2 arg3 harg3 arg4 harg4 arg5 harg5 arg6 harg6 arg7 harg7 arg8 harg8 x0 x1 x2 x3 x4 x5 x6)
    = actT (hnB i x0 x1 x2 x3) x4 x5 x6 2048 := by
  unfold kernelRun0_A.sl.r_31 kernelRun0_A.sl.r_33 kernelRun0_A.sl.r_29 kernelRun0_A.sl.r_30 kernelRun0_A.sl.r_32
  repeat first | rw [load_w] | rw [load_c] | rw [load_b] | rw [r_4_eq]
  rfl

theorem piece_2304 : k0_pay54 (kernelRun0_A.sl.r_34 c i arg2 harg2 arg3 harg3 arg4 harg4 arg5 harg5 arg6 harg6 arg7 harg7 arg8 harg8 x0 x1 x2 x3 x4 x5 x6) (kernelRun0_A.sl.r_35 c i arg2 harg2 arg3 harg3 arg4 harg4 arg5 harg5 arg6 harg6 x0 x1 x2 x3 x4) (kernelRun0_A.sl.r_36 c arg7 harg7 x5) (kernelRun0_A.sl.r_37 c i arg2 harg2 arg3 harg3 arg4 harg4 arg5 harg5 arg6 harg6 x0 x1 x2 x3 x4) (kernelRun0_A.sl.r_38 c i arg2 harg2 arg3 harg3 arg4 harg4 arg5 harg5 arg6 harg6 x0 x1 x2 x3 x4) (kernelRun0_A.sl.r_39 c arg7 harg7 x5) (View.readAt (Elt F) arg8.view (Rect.unit (s := S1x5632) ![0, 5120] S1x256.size inb_S1x5632_S1x256_0_5120).toLoadRect (harg8.unread x6))
    = actT (hnB i x0 x1 x2 x3) x4 x5 x6 2304 := by
  unfold kernelRun0_A.sl.r_34 kernelRun0_A.sl.r_35 kernelRun0_A.sl.r_36 kernelRun0_A.sl.r_37 kernelRun0_A.sl.r_38 kernelRun0_A.sl.r_39
  repeat first | rw [load_w] | rw [load_c] | rw [load_b] | rw [r_4_eq]
  rfl

theorem piece_2560 : k0_pay57 (kernelRun0_A.sl.r_4 c i arg2 harg2 arg3 harg3 arg4 harg4 arg5 harg5 x0 x1 x2 x3) (kernelRun0_A.sl.r_40 c i arg2 harg2 arg3 harg3 arg4 harg4 arg5 harg5 arg6 harg6 arg7 harg7 x0 x1 x2 x3 x4 x5) (kernelRun0_A.sl.r_41 c arg8 harg8 x6) (View.readAt (Elt F) arg6.view (Rect.unit (s := S1024x5632) ![0, 5376] S1024x256.size inb_S1024x5632_S1024x256_0_5376).toLoadRect (harg6.unread x4)) (View.readAt (Elt F) arg7.view (Rect.unit (s := S3x5632) ![0, 5376] S3x256.size inb_S3x5632_S3x256_0_5376).toLoadRect (harg7.unread x5)) (View.readAt (Elt F) arg8.view (Rect.unit (s := S1x5632) ![0, 5376] S1x256.size inb_S1x5632_S1x256_0_5376).toLoadRect (harg8.unread x6))
    = actT (hnB i x0 x1 x2 x3) x4 x5 x6 2560 := by
  unfold kernelRun0_A.sl.r_40 kernelRun0_A.sl.r_41
  repeat first | rw [load_w] | rw [load_c] | rw [load_b] | rw [r_4_eq]
  rfl

end Cert.FfnSample

end
-- ==== Proof.FfnSample.Region.lean ====
/- The block a step of the feed-forward region stores, from its input windows: the eleven tiles of the gated product read back
   as one array, the two halves of the down projection, and the final normalization. -/
module

public import proofs.«01_k».proof.Proof.FfnSample.Block
public import Idealize.ShloMosaic.Lib.Pipeline.Value

@[expose] public section

set_option maxRecDepth 16384

noncomputable section

namespace Cert.FfnSample

open Cert.Kernel4Ideal Cert.Kernel4Ideal.Gen Idealize.ShloMosaic Idealize.ShloMosaic.TcCoe Idealize.SL.Sem
open Idealize.ShloMosaic.ValueIdx

variable {F : FTy → Type} [FloatOps F]
variable (c : Dev nD) (i : grid0.Coords)
variable (arg2 : Memref sig .tc .vmem S1x1024x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1x1024x1024 .f32) (harg11 : arg11.IsWhole)
variable (arg12 : Memref sig .tc .vmem S1024x2816 .bf16) (harg12 : arg12.IsWhole)
variable (x0 : Vec F S1x1024x1024 .f32) (x1 x2 : Vec F S1x8x1024 .f32) (x3 : Vec F S1x1024 .f32)
variable (x4 : Vec F S1024x5632 .bf16) (x5 : Vec F S3x5632 .f32) (x6 : Vec F S1x5632 .f32)
variable (x7 : Vec F S2816x1024 .bf16) (x8 : Vec F S1x1024 .f32)

/-- A store of the gated product's tile at column `lo`. -/
def tilePiece (hn : FVec F S1040x1024 .bf16) (lo : ℕ) (inb : ∀ a, (![0, lo] : Fin 2 → ℕ) a + S1024x256.size a ≤ S1024x2816.size a) :
    View.Piece (Elt F) S1024x2816 .bf16 :=
  ⟨Rect.unit (s := S1024x2816) ![0, lo] S1024x256.size inb, actT hn x4 x5 x6 lo⟩

theorem HS0_6_eq : kernelRun0_A.sl.HS0_6 c i arg2 harg2 arg3 harg3 arg4 harg4 arg5 harg5 arg6 harg6 arg7 harg7 arg8 harg8 x0 x1 x2 x3 x4 x5 x6
    = [tilePiece x4 x5 x6 (hnB i x0 x1 x2 x3) 1280 inb_S1024x2816_S1024x256_0_1280,
      tilePiece x4 x5 x6 (hnB i x0 x1 x2 x3) 1024 inb_S1024x2816_S1024x256_0_1024,
      tilePiece x4 x5 x6 (hnB i x0 x1 x2 x3) 768 inb_S1024x2816_S1024x256_0_768,
      tilePiece x4 x5 x6 (hnB i x0 x1 x2 x3) 512 inb_S1024x2816_S1024x256_0_512,
      tilePiece x4 x5 x6 (hnB i x0 x1 x2 x3) 256 inb_S1024x2816_S1024x256_0_256,
      tilePiece x4 x5 x6 (hnB i x0 x1 x2 x3) 0 inb_S1024x2816_S1024x256_0_0] := by
  unfold kernelRun0_A.sl.HS0_6
  rw [piece_1280, piece_1024, piece_768, piece_512, piece_256, piece_0]
  rfl

theorem HS0_11_eq : kernelRun0_A.sl.HS0_11 c i arg2 harg2 arg3 harg3 arg4 harg4 arg5 harg5 arg6 harg6 arg7 harg7 arg8 harg8 x0 x1 x2 x3 x4 x5 x6
    = tilePiece x4 x5 x6 (hnB i x0 x1 x2 x3) 2560 inb_S1024x2816_S1024x256_0_2560 ::
      tilePiece x4 x5 x6 (hnB i x0 x1 x2 x3) 2304 inb_S1024x2816_S1024x256_0_2304 ::
      tilePiece x4 x5 x6 (hnB i x0 x1 x2 x3) 2048 inb_S1024x2816_S1024x256_0_2048 ::
      tilePiece x4 x5 x6 (hnB i x0 x1 x2 x3) 1792 inb_S1024x2816_S1024x256_0_1792 ::
      tilePiece x4 x5 x6 (hnB i x0 x1 x2 x3) 1536 inb_S1024x2816_S1024x256_0_1536 ::
      kernelRun0_A.sl.HS0_6 c i arg2 harg2 arg3 harg3 arg4 harg4 arg5 harg5 arg6 harg6 arg7 harg7 arg8 harg8 x0 x1 x2 x3 x4 x5 x6 := by
  unfold kernelRun0_A.sl.HS0_11
  rw [piece_2560, piece_2304, piece_2048, piece_1792, piece_1536]
  rfl

/-- A tile is the gated product's columns under it. -/
theorem tile_apply (hn : FVec F S1040x1024 .bf16) (lo : ℕ) (inb) (k : ℕ) (hk : lo = 256 * k) (x : S1024x256.Idx) :
    actT hn x4 x5 x6 lo x = actB hn x4 x5 x6 ((Rect.unit (s := S1024x2816) ![0, lo] S1024x256.size inb).emb x) := by
  have h1 : (x 1).val < 256 := (x 1).isLt
  have e0 : ((Rect.unit (s := S1024x2816) ![0, lo] S1024x256.size inb).emb x 0).val = (x 0).val := by
    rw [Rect.emb_apply]; show 0 + 1 * (x 0).val = _; omega
  have e1 : ((Rect.unit (s := S1024x2816) ![0, lo] S1024x256.size inb).emb x 1).val = lo + (x 1).val := by
    rw [Rect.emb_apply]; show lo + 1 * (x 1).val = _; omega
  unfold actB
  have ed : 256 * (((Rect.unit (s := S1024x2816) ![0, lo] S1024x256.size inb).emb x 1).val / 256) = lo := by rw [e1]; omega
  rw [ed]
  refine congrArg _ (funext fun a => Fin.ext ?_)
  match a with
  | ⟨0, _⟩ => exact e0.symm
  | ⟨1, _⟩ =>
    show (x 1).val = ((Rect.unit (s := S1024x2816) ![0, lo] S1024x256.size inb).emb x 1).val % 256
    rw [e1]; omega

theorem tiles6 : ∀ p ∈ kernelRun0_A.sl.HS0_6 c i arg2 harg2 arg3 harg3 arg4 harg4 arg5 harg5 arg6 harg6 arg7 harg7 arg8 harg8 x0 x1 x2 x3 x4 x5 x6, ∀ x : p.1.shape.Idx,
    p.2 x = actB (hnB i x0 x1 x2 x3) x4 x5 x6 (p.1.emb x) := by
  intro p hp x
  rw [HS0_6_eq] at hp
  simp only [List.mem_cons, List.not_mem_nil, or_false] at hp
  rcases hp with rfl | rfl | rfl | rfl | rfl | rfl
  · exact tile_apply x4 x5 x6 _ 1280 inb_S1024x2816_S1024x256_0_1280 5 rfl x
  · exact tile_apply x4 x5 x6 _ 1024 inb_S1024x2816_S1024x256_0_1024 4 rfl x
  · exact tile_apply x4 x5 x6 _ 768 inb_S1024x2816_S1024x256_0_768 3 rfl x
  · exact tile_apply x4 x5 x6 _ 512 inb_S1024x2816_S1024x256_0_512 2 rfl x
  · exact tile_apply x4 x5 x6 _ 256 inb_S1024x2816_S1024x256_0_256 1 rfl x
  · exact tile_apply x4 x5 x6 _ 0 inb_S1024x2816_S1024x256_0_0 0 rfl x

theorem tiles11 : ∀ p ∈ kernelRun0_A.sl.HS0_11 c i arg2 harg2 arg3 harg3 arg4 harg4 arg5 harg5 arg6 harg6 arg7 harg7 arg8 harg8 x0 x1 x2 x3 x4 x5 x6, ∀ x : p.1.shape.Idx,
    p.2 x = actB (hnB i x0 x1 x2 x3) x4 x5 x6 (p.1.emb x) := by
  intro p hp x
  rw [HS0_11_eq] at hp
  simp only [List.mem_cons] at hp
  rcases hp with rfl | rfl | rfl | rfl | rfl | hp
  · exact tile_apply x4 x5 x6 _ 2560 inb_S1024x2816_S1024x256_0_2560 10 rfl x
  · exact tile_apply x4 x5 x6 _ 2304 inb_S1024x2816_S1024x256_0_2304 9 rfl x
  · exact tile_apply x4 x5 x6 _ 2048 inb_S1024x2816_S1024x256_0_2048 8 rfl x
  · exact tile_apply x4 x5 x6 _ 1792 inb_S1024x2816_S1024x256_0_1792 7 rfl x
  · exact tile_apply x4 x5 x6 _ 1536 inb_S1024x2816_S1024x256_0_1536 6 rfl x
  · exact tiles6 c i arg2 harg2 arg3 harg3 arg4 harg4 arg5 harg5 arg6 harg6 arg7 harg7 arg8 harg8 x0 x1 x2 x3 x4 x5 x6 p hp x

/-- The first 1536 columns of the gated product, as the step reads them back. -/
theorem v394_apply (r : Fin 1024) (n : Fin 1536) : kernelRun0_A.sl.v394 c i arg2 harg2 arg3 harg3 arg4 harg4 arg5 harg5 arg6 harg6 arg7 harg7 arg8 harg8 arg12 x0 x1 x2 x3 x4 x5 x6 (ix2 r n)
    = actB (hnB i x0 x1 x2 x3) x4 x5 x6 (ix2 r (⟨n.val, by omega⟩ : Fin 2816)) := by
  unfold kernelRun0_A.sl.v394
  rw [View.readCov_eq_canon']
  have e : (Rect.unit (s := S1024x2816) ![0, 0] S1024x1536.size inb_S1024x2816_S1024x1536_0_0).toLoadRect.idx (ix2 r n)
      = ix2 r (⟨n.val, by omega⟩ : Fin 2816) := funext fun a => Fin.ext (by
    refine (Rect.idx_unit_val _ _ _ _ a).trans ?_
    match a with
    | ⟨0, _⟩ => show 0 + r.val = r.val; omega
    | ⟨1, _⟩ => show 0 + n.val = n.val; omega)
  refine (congrArg _ e).trans ?_
  refine View.canon_apply_of_pieces _ _ (tiles6 c i arg2 harg2 arg3 harg3 arg4 harg4 arg5 harg5 arg6 harg6 arg7 harg7 arg8 harg8 x0 x1 x2 x3 x4 x5 x6) _ ?_
  rw [HS0_6_eq]
  have hn := n.isLt
  have hm : ∀ (lo : ℕ) (inb : ∀ a, (![0, lo] : Fin 2 → ℕ) a + S1024x256.size a ≤ S1024x2816.size a), lo ≤ n.val → n.val < lo + 256 →
      (ix2 r (⟨n.val, by omega⟩ : Fin 2816) : S1024x2816.Idx) ∈ (tilePiece x4 x5 x6 (hnB i x0 x1 x2 x3) lo inb).1.set := fun lo inb h1 h2 => by
    show _ ∈ (Rect.unit (s := S1024x2816) ![0, lo] S1024x256.size inb).set
    rw [Rect.mem_set_unit]
    intro a
    match a with
    | ⟨0, _⟩ => show 0 ≤ r.val ∧ r.val < 0 + 1024; omega
    | ⟨1, _⟩ => exact ⟨h1, h2⟩
  by_cases h1280 : 1280 ≤ n.val
  · exact ⟨_, by simp only [List.mem_cons, true_or, or_true], hm 1280 inb_S1024x2816_S1024x256_0_1280 h1280 (by omega)⟩
  by_cases h1024 : 1024 ≤ n.val
  · exact ⟨_, by simp only [List.mem_cons, true_or, or_true], hm 1024 inb_S1024x2816_S1024x256_0_1024 h1024 (by omega)⟩
  by_cases h768 : 768 ≤ n.val
  · exact ⟨_, by simp only [List.mem_cons, true_or, or_true], hm 768 inb_S1024x2816_S1024x256_0_768 h768 (by omega)⟩
  by_cases h512 : 512 ≤ n.val
  · exact ⟨_, by simp only [List.mem_cons, true_or, or_true], hm 512 inb_S1024x2816_S1024x256_0_512 h512 (by omega)⟩
  by_cases h256 : 256 ≤ n.val
  · exact ⟨_, by simp only [List.mem_cons, true_or, or_true], hm 256 inb_S1024x2816_S1024x256_0_256 h256 (by omega)⟩
  · exact ⟨_, by simp only [List.mem_cons, true_or, or_true], hm 0 inb_S1024x2816_S1024x256_0_0 (by omega) (by omega)⟩

/-- The last 1280 columns of the gated product, as the step reads them back. -/
theorem v683_apply (r : Fin 1024) (n : Fin 1280) : kernelRun0_A.sl.v683 c i arg2 harg2 arg3 harg3 arg4 harg4 arg5 harg5 arg6 harg6 arg7 harg7 arg8 harg8 arg12 x0 x1 x2 x3 x4 x5 x6 (ix2 r n)
    = actB (hnB i x0 x1 x2 x3) x4 x5 x6 (ix2 r (⟨1536 + n.val, by omega⟩ : Fin 2816)) := by
  unfold kernelRun0_A.sl.v683
  rw [View.readCov_eq_canon']
  have e : (Rect.unit (s := S1024x2816) ![0, 1536] S1024x1280.size inb_S1024x2816_S1024x1280_0_1536).toLoadRect.idx (ix2 r n)
      = ix2 r (⟨1536 + n.val, by omega⟩ : Fin 2816) := funext fun a => Fin.ext (by
    refine (Rect.idx_unit_val _ _ _ _ a).trans ?_
    match a with
    | ⟨0, _⟩ => show 0 + r.val = r.val; omega
    | ⟨1, _⟩ => rfl)
  refine (congrArg _ e).trans ?_
  refine View.canon_apply_of_pieces _ _ (tiles11 c i arg2 harg2 arg3 harg3 arg4 harg4 arg5 harg5 arg6 harg6 arg7 harg7 arg8 harg8 x0 x1 x2 x3 x4 x5 x6) _ ?_
  rw [HS0_11_eq]
  have hn := n.isLt
  have hm : ∀ (lo : ℕ) (inb : ∀ a, (![0, lo] : Fin 2 → ℕ) a + S1024x256.size a ≤ S1024x2816.size a), lo ≤ 1536 + n.val → 1536 + n.val < lo + 256 →
      (ix2 r (⟨1536 + n.val, by omega⟩ : Fin 2816) : S1024x2816.Idx) ∈ (tilePiece x4 x5 x6 (hnB i x0 x1 x2 x3) lo inb).1.set := fun lo inb h1 h2 => by
    show _ ∈ (Rect.unit (s := S1024x2816) ![0, lo] S1024x256.size inb).set
    rw [Rect.mem_set_unit]
    intro a
    match a with
    | ⟨0, _⟩ => show 0 ≤ r.val ∧ r.val < 0 + 1024; omega
    | ⟨1, _⟩ => exact ⟨h1, h2⟩
  by_cases h2560 : 2560 ≤ 1536 + n.val
  · exact ⟨_, by simp only [List.mem_cons, true_or, or_true], hm 2560 inb_S1024x2816_S1024x256_0_2560 h2560 (by omega)⟩
  by_cases h2304 : 2304 ≤ 1536 + n.val
  · exact ⟨_, by simp only [List.mem_cons, true_or, or_true], hm 2304 inb_S1024x2816_S1024x256_0_2304 h2304 (by omega)⟩
  by_cases h2048 : 2048 ≤ 1536 + n.val
  · exact ⟨_, by simp only [List.mem_cons, true_or, or_true], hm 2048 inb_S1024x2816_S1024x256_0_2048 h2048 (by omega)⟩
  by_cases h1792 : 1792 ≤ 1536 + n.val
  · exact ⟨_, by simp only [List.mem_cons, true_or, or_true], hm 1792 inb_S1024x2816_S1024x256_0_1792 h1792 (by omega)⟩
  · exact ⟨_, by simp only [List.mem_cons, true_or, or_true], hm 1536 inb_S1024x2816_S1024x256_0_1536 (by omega) (by omega)⟩

/-- The first 1536 rows of the down projection's weights, and the last 1280. -/
def dLo (x7 : Vec F S2816x1024 .bf16) : Vec F S1536x1024 .bf16 := fun i =>
  x7 (ix2 (n0 := 2816) (n1 := 1024) ⟨(i 0).val, lt_trans (i 0).isLt (by decide)⟩ ⟨(i 1).val, (i 1).isLt⟩)
def dHi (x7 : Vec F S2816x1024 .bf16) : Vec F S1280x1024 .bf16 := fun i =>
  x7 (ix2 (n0 := 2816) (n1 := 1024) ⟨1536 + (i 0).val, Nat.add_lt_add_left (i 0).isLt 1536⟩ ⟨(i 1).val, (i 1).isLt⟩)

theorem load_dLo (inb) : View.readAt (Elt F) arg9.view (Rect.unit (s := S2816x1024) ![0, 0] S1536x1024.size inb).toLoadRect (harg9.unread x7) = dLo x7 := by
  rw [View.readAt_eq_ld, harg9.read_unread]
  funext i
  refine View.ld_unit_apply_of x7 _ _ _ i _ fun a => ?_
  match a with
  | ⟨0, _⟩ => show (i 0).val = 0 + (i 0).val; omega
  | ⟨1, _⟩ => show (i 1).val = 0 + (i 1).val; omega

theorem load_dHi (inb) : View.readAt (Elt F) arg9.view (Rect.unit (s := S2816x1024) ![1536, 0] S1280x1024.size inb).toLoadRect (harg9.unread x7) = dHi x7 := by
  rw [View.readAt_eq_ld, harg9.read_unread]
  funext i
  refine View.ld_unit_apply_of x7 _ _ _ i _ fun a => ?_
  match a with
  | ⟨0, _⟩ => show 1536 + (i 0).val = 1536 + (i 0).val; omega
  | ⟨1, _⟩ => show (i 1).val = 0 + (i 1).val; omega

/-- The two stretches of the gated product's columns. -/
def actLo (a : FVec F S1024x2816 .bf16) : FVec F S1024x1536 .bf16 := fun i =>
  a (ix2 (n0 := 1024) (n1 := 2816) ⟨(i 0).val, (i 0).isLt⟩ ⟨(i 1).val, lt_trans (i 1).isLt (by decide)⟩)
def actHi (a : FVec F S1024x2816 .bf16) : FVec F S1024x1280 .bf16 := fun i =>
  a (ix2 (n0 := 1024) (n1 := 2816) ⟨(i 0).val, (i 0).isLt⟩ ⟨1536 + (i 1).val, Nat.add_lt_add_left (i 1).isLt 1536⟩)

/-- The block a step stores. -/
def blockOut (i : grid0.Coords) (x0 : Vec F S1x1024x1024 .f32) (x1 x2 : Vec F S1x8x1024 .f32) (x3 : Vec F S1x1024 .f32)
    (x4 : Vec F S1024x5632 .bf16) (x5 : Vec F S3x5632 .f32) (x6 : Vec F S1x5632 .f32) (x7 : Vec F S2816x1024 .bf16)
    (x8 : Vec F S1x1024 .f32) : FVec F S1x1024x1024 .f32 :=
  k0_pay1 (k0_pay58 (k0_pay3 x0) (k0_pay33 (actLo (actB (hnB i x0 x1 x2 x3) x4 x5 x6)) (dLo x7))
    (actHi (actB (hnB i x0 x1 x2 x3) x4 x5 x6)) (dHi x7)) (k0_pay59 x8)

theorem v394_eq : kernelRun0_A.sl.v394 c i arg2 harg2 arg3 harg3 arg4 harg4 arg5 harg5 arg6 harg6 arg7 harg7 arg8 harg8 arg12 x0 x1 x2 x3 x4 x5 x6 = actLo (actB (hnB i x0 x1 x2 x3) x4 x5 x6) := by
  funext j
  have e : j = ix2 (n0 := 1024) (n1 := 1536) (j 0) (j 1) := eq_ix2 (n0 := 1024) (n1 := 1536) j
  rw [e]
  exact v394_apply c i arg2 harg2 arg3 harg3 arg4 harg4 arg5 harg5 arg6 harg6 arg7 harg7 arg8 harg8 arg12 x0 x1 x2 x3 x4 x5 x6 (j 0) (j 1)

theorem v683_eq : kernelRun0_A.sl.v683 c i arg2 harg2 arg3 harg3 arg4 harg4 arg5 harg5 arg6 harg6 arg7 harg7 arg8 harg8 arg12 x0 x1 x2 x3 x4 x5 x6 = actHi (actB (hnB i x0 x1 x2 x3) x4 x5 x6) := by
  funext j
  have e : j = ix2 (n0 := 1024) (n1 := 1280) (j 0) (j 1) := eq_ix2 (n0 := 1024) (n1 := 1280) j
  rw [e]
  exact v683_apply c i arg2 harg2 arg3 harg3 arg4 harg4 arg5 harg5 arg6 harg6 arg7 harg7 arg8 harg8 arg12 x0 x1 x2 x3 x4 x5 x6 (j 0) (j 1)

/-- THE STEP'S BLOCK. -/
theorem out_eq : out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = blockOut i x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  rw [View.canon_unit_zero off3]
  unfold kernelRun0_A.sl.r_42 kernelRun0_A.sl.r_43 kernelRun0_A.sl.r_23
  rw [v394_eq, v683_eq, r_1_eq, load_dLo, load_dHi, load_whole arg10 harg10 x8 off2]
  rfl

end Cert.FfnSample

end
-- ==== Proof.FfnSample.Rows.lean ====
/- One step of the feed-forward region over the extended reals, read at a row and a column. -/
module

public import proofs.«01_k».proof.Proof.FfnSample.Region
public import proofs.«01_k».proof.Proof.Ffn.Spec
public import Idealize.ShloMosaic.Lib.KernelVsHost
public import Idealize.ShloMosaic.Lib.ValueLayout
public import Idealize.ShloMosaic.Lib.ValueLayoutCasts
public import Idealize.ShloMosaic.Lib.IdealHost
public import Idealize.ShloMosaic.Lib.MatmulPlain
public import Idealize.ShloMosaic.PureOps.Ideal.Laws

@[expose] public section

set_option maxRecDepth 16384

noncomputable section

namespace Cert.FfnSample

open Cert.Kernel4Ideal Cert.Kernel4Ideal.Gen Idealize.ShloMosaic Idealize.ShloMosaic.TcCoe Idealize.SL.Sem
open Idealize.ShloMosaic.ValueIdx Cert.FfnSpec

/-- A normalization of `R` rows, read at a row and a column. -/
theorem norm_apply {R : ℕ} (x : FVec Ideal ⟨2, ![R, 1024]⟩ .f32) (g : FVec Ideal ⟨2, ![1, 1024]⟩ .f32)
    (hr : (⟨2, ![R, 1024]⟩ : Shape).Reduces [1] ⟨1, ![R]⟩) (hsc : (⟨1, ![R]⟩ : Shape).ShapeCasts ⟨2, ![R, 1]⟩)
    (hb : (⟨2, ![R, 1]⟩ : Shape).Broadcasts ⟨2, ![R, 1024]⟩) (hg : (⟨2, ![1, 1024]⟩ : Shape).Broadcasts ⟨2, ![R, 1024]⟩)
    (r : Fin R) (k : Fin 1024) :
    (mulf (mulf x (broadcastTo ⟨2, ![R, 1024]⟩ (rsqrt (addf (divf (shapeCast ⟨2, ![R, 1]⟩
      (multiReduction .add [1] ⟨1, ![R]⟩ (mulf x x) 0x00000000#32 hr (.inl rfl) rfl) hsc)
      (broadcast ⟨2, ![R, 1]⟩ (Scalar.ofBits .f32 0x44800000#32))) (broadcast ⟨2, ![R, 1]⟩ (Scalar.ofBits .f32 0x358637BD#32)))) hb))
      (broadcastTo ⟨2, ![R, 1024]⟩ g hg) (ix2 r k) : EReal)
      = norm (fun k => g (ix2 0 k)) (fun k => x (ix2 r k)) k := by
  have hR : R = 1 → r.val = 0 := fun h => by have := r.isLt; omega
  rw [mulf_apply, mulf_apply]
  refine congrArg₂ (· * ·) (congrArg₂ (· * ·) rfl ?_) ?_
  · refine (broadcastTo_apply _ hb (ix2 r k) (ix2 r 0) fun a => ?_).trans ?_
    · match a with
      | ⟨0, _⟩ =>
        show r.val = if R = 1 then 0 else r.val
        split
        · exact hR ‹_›
        · rfl
      | ⟨1, _⟩ => rfl
    refine congrArg (fun z => Ideal.rsqrt (Ideal.div z _ + _)) ?_
    rw [shapeCast_a_a1_apply]
    refine (Ideal.multiReduction_add_single _ _ _ _ _ _).trans ?_
    refine Finset.sum_congr rfl fun j _ => ?_
    have e : ∀ y : FVec Ideal ⟨2, ![R, 1024]⟩ .f32, y (hr.lift (ix1 r) j) = y (ix2 r j) := fun y => congrArg y (funext fun a => by
      match a with | ⟨0, _⟩ => rfl | ⟨1, _⟩ => rfl)
    exact e _
  · exact broadcastTo_apply _ hg (ix2 r k) (ix2 0 k) fun a => by match a with | ⟨0, _⟩ => rfl | ⟨1, _⟩ => rfl

variable (i : grid0.Coords) (x0 : FVec Ideal S1x1024x1024 .f32) (x1 x2 : FVec Ideal S1x8x1024 .f32) (x3 : FVec Ideal S1x1024 .f32)
variable (x4 : FVec Ideal S1024x5632 .bf16) (x5 : FVec Ideal S3x5632 .f32) (x6 : FVec Ideal S1x5632 .f32)
variable (x7 : FVec Ideal S2816x1024 .bf16) (x8 : FVec Ideal S1x1024 .f32)

theorem pay2_eq (x : FVec Ideal S1x1024 .f32) : k0_pay2 (F := Ideal) x = x := shapeCast_self x _

theorem pay59_eq (x : FVec Ideal S1x1024 .f32) : k0_pay59 (F := Ideal) x = x := shapeCast_self x _

theorem pay3_apply (r k : Fin 1024) : k0_pay3 (F := Ideal) x0 (ix2 r k) = x0 (ix3 0 r k) := shapeCast_1ab_ab_apply _ _ _ _

/-- A grid point is not the first of its row, as the step tests it. -/
theorem sgt_zero : ∀ n : Fin 8, Scalar.cmpi .sgt (BitVec.ofNat 32 n.val) 0#32 = if 0 < n.val then 1#1 else 0#1 := by decide

/-- A grid point is not the last of its row, as the step tests it. -/
theorem slt_seven : ∀ n : Fin 8, Scalar.cmpi .slt (BitVec.ofNat 32 n.val) 7#32 = if n.val < 7 then 1#1 else 0#1 := by decide

/-- The normalized rows before the block: zero for the first block. -/
theorem before_apply (e : Fin 8) (k : Fin 1024) : (k0_pay4 (F := Ideal) i x3 x1 (ix2 e k) : EReal)
    = if 0 < (i 1).val then norm (fun k => x3 (ix2 0 k)) (fun k => x1 (ix3 0 e k)) k else 0 := by
  unfold k0_pay4
  dsimp only
  have hs := sgt_zero (i 1)
  rw [hs, Scalar.select]
  by_cases h : 0 < (i 1).val
  · rw [if_pos h, if_pos h, if_pos (by decide)]
    rw [pay2_eq]
    refine (norm_apply _ x3 _ _ _ _ e k).trans ?_
    refine congrArg (fun y => norm _ y k) (funext fun j => ?_)
    exact shapeCast_1ab_ab_apply _ _ _ _
  · rw [if_neg h, if_neg h, if_neg (by decide)]
    exact Ideal.ofBits_zero_f32

/-- The normalized rows after the block, before they are chosen. -/
theorem after_apply (e : Fin 8) (k : Fin 1024) : (k0_pay5 (F := Ideal) x3 x2 (ix2 e k) : EReal)
    = norm (fun k => x3 (ix2 0 k)) (fun k => x2 (ix3 0 e k)) k := by
  unfold k0_pay5
  dsimp only
  rw [pay2_eq]
  refine (norm_apply _ x3 _ _ _ _ e k).trans ?_
  refine congrArg (fun y => norm _ y k) (funext fun j => ?_)
  exact shapeCast_1ab_ab_apply _ _ _ _

/-! Three stretches of rows laid one after another. -/

theorem cat_before (A C : S8x1024.Idx → EReal) (B : S1024x1024.Idx → EReal) (h) (e : Fin 8) (k : Fin 1024) :
    concatenate S1040x1024 0 [⟨S8x1024, A⟩, ⟨S1024x1024, B⟩, ⟨S8x1024, C⟩] h (ix2 (⟨e.val, by omega⟩ : Fin 1040) k) = A (ix2 e k) :=
  concatenate_apply_piece (t := S1040x1024) 0 [⟨S8x1024, A⟩, ⟨S1024x1024, B⟩, ⟨S8x1024, C⟩] h _ 0 (Nat.zero_lt_succ _) S8x1024 A rfl rfl 0 rfl
    (ix2 e k) (fun b hb => by
      match b with
      | ⟨0, _⟩ => exact absurd rfl hb
      | ⟨1, _⟩ => rfl) (by show 0 + e.val = e.val; omega)

theorem cat_mid (A C : S8x1024.Idx → EReal) (B : S1024x1024.Idx → EReal) (h) (r k : Fin 1024) :
    concatenate S1040x1024 0 [⟨S8x1024, A⟩, ⟨S1024x1024, B⟩, ⟨S8x1024, C⟩] h (ix2 (⟨8 + r.val, by omega⟩ : Fin 1040) k) = B (ix2 r k) :=
  concatenate_apply_piece (t := S1040x1024) 0 [⟨S8x1024, A⟩, ⟨S1024x1024, B⟩, ⟨S8x1024, C⟩] h _ 1 (by simp) S1024x1024 B rfl rfl 8 rfl
    (ix2 r k) (fun b hb => by
      match b with
      | ⟨0, _⟩ => exact absurd rfl hb
      | ⟨1, _⟩ => rfl) rfl

theorem cat_after (A C : S8x1024.Idx → EReal) (B : S1024x1024.Idx → EReal) (h) (e : Fin 8) (k : Fin 1024) :
    concatenate S1040x1024 0 [⟨S8x1024, A⟩, ⟨S1024x1024, B⟩, ⟨S8x1024, C⟩] h (ix2 (⟨1032 + e.val, by omega⟩ : Fin 1040) k) = C (ix2 e k) :=
  concatenate_apply_piece (t := S1040x1024) 0 [⟨S8x1024, A⟩, ⟨S1024x1024, B⟩, ⟨S8x1024, C⟩] h _ 2 (by simp) S8x1024 C rfl rfl 1032 rfl
    (ix2 e k) (fun b hb => by
      match b with
      | ⟨0, _⟩ => exact absurd rfl hb
      | ⟨1, _⟩ => rfl) rfl

theorem hn_before (e : Fin 8) (k : Fin 1024) : (hnB (F := Ideal) i x0 x1 x2 x3 (ix2 (⟨e.val, by omega⟩ : Fin 1040) k) : EReal)
    = if 0 < (i 1).val then norm (fun k => x3 (ix2 0 k)) (fun k => x1 (ix3 0 e k)) k else 0 := by
  unfold hnB k0_pay7
  dsimp only
  rw [truncf_apply]
  exact (cat_before _ _ _ _ e k).trans (before_apply i x1 x3 e k)

theorem hn_mid (r : Fin 1024) (k : Fin 1024) : (hnB (F := Ideal) i x0 x1 x2 x3 (ix2 (⟨8 + r.val, by omega⟩ : Fin 1040) k) : EReal)
    = norm (fun k => x3 (ix2 0 k)) (fun k => x0 (ix3 0 r k)) k := by
  unfold hnB k0_pay7
  dsimp only
  rw [truncf_apply]
  refine (cat_mid _ _ _ _ r k).trans ?_
  · rw [pay2_eq]
    refine (norm_apply _ x3 _ _ _ _ r k).trans ?_
    refine congrArg (fun y => norm _ y k) (funext fun j => ?_)
    exact pay3_apply x0 r j

theorem hn_after (e : Fin 8) (k : Fin 1024) : (hnB (F := Ideal) i x0 x1 x2 x3 (ix2 (⟨1032 + e.val, by omega⟩ : Fin 1040) k) : EReal)
    = if (i 1).val < 7 then norm (fun k => x3 (ix2 0 k)) (fun k => x2 (ix3 0 e k)) k else 0 := by
  unfold hnB k0_pay7
  dsimp only
  rw [truncf_apply]
  refine (cat_after _ _ _ _ e k).trans ?_
  · have hs := slt_seven (i 1)
    rw [hs, Scalar.select]
    by_cases h : (i 1).val < 7
    · rw [if_pos h, if_pos h, if_pos (by decide)]
      exact after_apply x2 x3 e k
    · rw [if_neg h, if_neg h, if_neg (by decide)]
      exact Ideal.ofBits_zero_f32

/-- The up projection of 256 columns. -/
theorem up_apply (hn : FVec Ideal S1040x1024 .bf16) (lo : ℕ) (e : Fin 1040) (n : Fin 256) :
    (matmul (φ₂ := .bf16) dot_S1040x1024_S1024x256_S1040x256_1_0_0_1_n_n none hn
      (shapeCast S1024x256 (wTile (F := Ideal) x4 lo) shapeCasts_S1024x256_S1024x256) (constant S1040x256 .f32 0x00000000#32) (ix2 e n) : EReal)
      = up (fun k n => x4 (ix2 k n)) (fun k => hn (ix2 e k)) (tcol lo n) := by
  rw [shapeCast_self]
  show FloatOps.matmul (DotDims.plain 1040 1024 256) _ _ _ _ _ = _
  rw [Ideal.matmul_plain_apply, constant_apply, Ideal.ofBits_zero_f32, zero_add]
  rfl

/-- A row of the convolution's weights, spread over the block. -/
theorem row_apply (x : FVec Ideal S3x5632 .f32) (lo : ℕ) (j : Fin 3) (hs : S3x256.Slices ![j.val, 0] S1x256) (r : Fin 1024) (n : Fin 256) :
    (broadcastTo S1024x256 (extractStridedSlice S1x256 ![j.val, 0] (shapeCast S3x256 (cTile (F := Ideal) x lo) shapeCasts_S3x256_S3x256) hs)
      broadcasts_S1x256_S1024x256 (ix2 r n) : EReal) = x (ix2 j (tcol lo n)) := by
  rw [shapeCast_self]
  refine (broadcastTo_apply _ _ (ix2 r n) (ix2 (0 : Fin 1) n) fun a => by match a with | ⟨0, _⟩ => rfl | ⟨1, _⟩ => rfl).trans ?_
  refine (extractStridedSlice_apply _ _ _ (ix2 (0 : Fin 1) n) (ix2 j n) fun a => ?_).trans rfl
  match a with
  | ⟨0, _⟩ => rfl
  | ⟨1, _⟩ => show n.val = 0 + n.val; omega

theorem convT_apply (hn : FVec Ideal S1040x1024 .bf16) (lo : ℕ) (r : Fin 1024) (n : Fin 256) :
    (convT (F := Ideal) hn x4 x5 x6 lo (ix2 r n) : EReal)
      = conv (fun k n => x4 (ix2 k n)) (fun j n => x5 (ix2 j n)) (fun n => x6 (ix2 0 n))
          (fun k => hn (ix2 (⟨7 + r.val, by omega⟩ : Fin 1040) k)) (fun k => hn (ix2 (⟨8 + r.val, by omega⟩ : Fin 1040) k))
          (fun k => hn (ix2 (⟨9 + r.val, by omega⟩ : Fin 1040) k)) (tcol lo n) := by
  have hr := r.isLt
  have hsl : ∀ (U : FVec Ideal S1040x256 .f32) (h) (e : Fin 1040), e.val = 8 + r.val →
      extractStridedSlice S1024x256 ![8, 0] U h (ix2 r n) = U (ix2 e n) := fun U h e he =>
    extractStridedSlice_apply _ _ _ (ix2 r n) (ix2 e n) fun a => by
      match a with
      | ⟨0, _⟩ => exact he
      | ⟨1, _⟩ => show n.val = 0 + n.val; omega
  have hrot : ∀ (U : FVec Ideal S1040x256 .f32) (s : BitVec 32) (h) (e e' : Fin 1040), e'.val = (e.val + 1040 - s.toNat % 1040) % 1040 →
      dynamicRotate 0 s none U h (ix2 e n) = U (ix2 e' n) := fun U s h e e' he =>
    dynamicRotate_apply _ _ _ _ (ix2 e n) (ix2 e' n) fun a => by
      match a with
      | ⟨0, _⟩ => exact he
      | ⟨1, _⟩ => rfl
  unfold convT k0_pay21
  dsimp only
  rw [addf_apply, addf_apply, addf_apply, mulf_apply, mulf_apply, mulf_apply]
  refine congrArg₂ (· + ·) (congrArg₂ (· + ·) (congrArg₂ (· + ·) (congrArg₂ (· * ·) ?_ (row_apply x5 lo 0 _ r n))
    (congrArg₂ (· * ·) ?_ (row_apply x5 lo 1 _ r n))) (congrArg₂ (· * ·) ?_ (row_apply x5 lo 2 _ r n))) ?_
  · refine (hsl _ _ ⟨8 + r.val, by omega⟩ rfl).trans ?_
    refine (hrot _ _ _ _ ⟨7 + r.val, by omega⟩ ?_).trans (up_apply x4 hn lo _ n)
    show 7 + r.val = (8 + r.val + 1040 - 1 % 1040) % 1040
    omega
  · exact (hsl _ _ ⟨8 + r.val, by omega⟩ rfl).trans (up_apply x4 hn lo _ n)
  · refine (hsl _ _ ⟨8 + r.val, by omega⟩ rfl).trans ?_
    refine (hrot _ _ _ _ ⟨9 + r.val, by omega⟩ ?_).trans (up_apply x4 hn lo _ n)
    show 9 + r.val = (8 + r.val + 1040 - 1039 % 1040) % 1040
    omega
  · rw [shapeCast_self]
    exact broadcastTo_apply _ _ (ix2 r n) (ix2 (0 : Fin 1) n) fun a => by match a with | ⟨0, _⟩ => rfl | ⟨1, _⟩ => rfl

/-- The three rows of a step's convolution, and the convolution over all columns. -/
def convR (hn : FVec Ideal S1040x1024 .bf16) (x4 : FVec Ideal S1024x5632 .bf16) (x5 : FVec Ideal S3x5632 .f32)
    (x6 : FVec Ideal S1x5632 .f32) (r : Fin 1024) : Fin 5632 → EReal :=
  conv (fun k n => x4 (ix2 k n)) (fun j n => x5 (ix2 j n)) (fun n => x6 (ix2 0 n))
    (fun k => hn (ix2 (⟨7 + r.val, by omega⟩ : Fin 1040) k)) (fun k => hn (ix2 (⟨8 + r.val, by omega⟩ : Fin 1040) k))
    (fun k => hn (ix2 (⟨9 + r.val, by omega⟩ : Fin 1040) k))

theorem actB_apply (hn : FVec Ideal S1040x1024 .bf16) (r : Fin 1024) (n : Fin 2816) :
    (actB (F := Ideal) hn x4 x5 x6 (ix2 r n) : EReal) = act (convR hn x4 x5 x6 r) n := by
  have hn' := n.isLt
  have e1 : tcol (256 * (n.val / 256)) ⟨n.val % 256, Nat.mod_lt _ (by norm_num)⟩ = ⟨n.val, by omega⟩ := Fin.ext (by
    show (256 * (n.val / 256) + n.val % 256) % 5632 = n.val; omega)
  have e2 : tcol (2816 + 256 * (n.val / 256)) ⟨n.val % 256, Nat.mod_lt _ (by norm_num)⟩ = ⟨2816 + n.val, by omega⟩ := Fin.ext (by
    show (2816 + 256 * (n.val / 256) + n.val % 256) % 5632 = 2816 + n.val; omega)
  have c1 := convT_apply x4 x5 x6 hn (256 * (n.val / 256)) r ⟨n.val % 256, Nat.mod_lt _ (by norm_num)⟩
  have c2 := convT_apply x4 x5 x6 hn (2816 + 256 * (n.val / 256)) r ⟨n.val % 256, Nat.mod_lt _ (by norm_num)⟩
  rw [e1] at c1
  rw [e2] at c2
  show actT (F := Ideal) hn x4 x5 x6 (256 * (n.val / 256)) (ix2 r ⟨n.val % 256, Nat.mod_lt _ (by norm_num)⟩) = _
  unfold actT
  rw [shapeCast_self, truncf_apply]
  rw [mulf_apply, mulf_apply]
  exact congrArg₂ (· * ·) (congrArg₂ (· * ·) c1 (congrArg Ideal.logistic c1)) c2

/-- THE STEP'S BLOCK, read at a row and a column. -/
theorem block_apply (r k : Fin 1024) : (blockOut (F := Ideal) i x0 x1 x2 x3 x4 x5 x6 x7 x8 (ix3 0 r k) : EReal)
    = norm (fun k => x8 (ix2 0 k)) (fun k => x0 (ix3 0 r k) + ∑ n, act (convR (hnB i x0 x1 x2 x3) x4 x5 x6 r) n * x7 (ix2 n k)) k := by
  unfold blockOut k0_pay1
  dsimp only
  rw [shapeCast_ab_1ab_apply, pay59_eq]
  refine (norm_apply _ x8 _ _ _ _ r k).trans ?_
  refine congrArg (fun y => norm _ y k) (funext fun j => ?_)
  unfold k0_pay58 k0_pay33
  dsimp only
  rw [addf_apply, addf_apply]
  refine congrArg₂ (· + ·) (pay3_apply x0 r j) ?_
  refine Eq.trans (congrArg₂ (· + ·) ?_ ?_) (Fin.sum_univ_add (a := 1536) (b := 1280)
    (fun n : Fin (1536 + 1280) => act (convR (hnB i x0 x1 x2 x3) x4 x5 x6 r) n * x7 (ix2 n j))).symm
  · rw [shapeCast_self]
    show FloatOps.matmul (DotDims.plain 1024 1536 1024) _ _ _ _ _ = _
    rw [Ideal.matmul_plain_apply, constant_apply, Ideal.ofBits_zero_f32, zero_add]
    refine Finset.sum_congr rfl fun n _ => ?_
    exact congrArg₂ (· * ·) (actB_apply x4 x5 x6 _ r _) rfl
  · rw [shapeCast_self]
    show FloatOps.matmul (DotDims.plain 1024 1280 1024) _ _ _ _ _ = _
    rw [Ideal.matmul_plain_apply, constant_apply, Ideal.ofBits_zero_f32, zero_add]
    refine Finset.sum_congr rfl fun n _ => ?_
    exact congrArg₂ (· * ·) (actB_apply x4 x5 x6 _ r _) rfl

end Cert.FfnSample

end
-- ==== Proof.FfnSample.Entry.lean ====
/- The arrays the feed-forward region finds: the host's reshaping and truncation of the weights and scales, read at an index. -/
module

public import proofs.«01_k».proof.Proof.Gen.Kernel4Ideal.Frame.Runs
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.FfnSample

open Cert.Kernel4Ideal Cert.Kernel4Ideal.Gen Idealize.ShloMosaic Idealize.ShloMosaic.TcCoe Idealize.SL.Sem
open Idealize.ShloMosaic.ValueIdx

/-! Reshapes that drop or add a leading axis of size one. -/

theorem cast_g (v : FVec Ideal S1x1024 .f32) (k : Fin 1024) :
    (shapeCast S1x1024 (shapeCast S1024 v shapeCasts_S1x1024_S1024) shapeCasts_S1024_S1x1024 (ix2 (0 : Fin 1) k) : EReal)
      = v (ix2 (0 : Fin 1) k) := by
  refine (shapeCast_apply _ shapeCasts_S1024_S1x1024 (ix2 (0 : Fin 1) k) (ix1 k) ?_).trans
    (shapeCast_apply v shapeCasts_S1x1024_S1024 (ix1 k) (ix2 (0 : Fin 1) k) ?_)
  · rw [Shape.rowMajor_val_two, Shape.rowMajor_val_one]
    show k.val = 0 * 1024 + k.val
    omega
  · rw [Shape.rowMajor_val_two, Shape.rowMajor_val_one]
    show 0 * 1024 + k.val = k.val
    omega

theorem cast_b (v : FVec Ideal S1x5632 .f32) (n : Fin 5632) :
    (shapeCast S1x5632 (shapeCast S5632 v shapeCasts_S1x5632_S5632) shapeCasts_S5632_S1x5632 (ix2 (0 : Fin 1) n) : EReal)
      = v (ix2 (0 : Fin 1) n) := by
  refine (shapeCast_apply _ shapeCasts_S5632_S1x5632 (ix2 (0 : Fin 1) n) (ix1 n) ?_).trans
    (shapeCast_apply v shapeCasts_S1x5632_S5632 (ix1 n) (ix2 (0 : Fin 1) n) ?_)
  · rw [Shape.rowMajor_val_two, Shape.rowMajor_val_one]
    show n.val = 0 * 5632 + n.val
    omega
  · rw [Shape.rowMajor_val_two, Shape.rowMajor_val_one]
    show 0 * 5632 + n.val = n.val
    omega

theorem cast_f (v : FVec Ideal S1024 .f32) (k : Fin 1024) :
    (shapeCast S1x1024 v shapeCasts_S1024_S1x1024 (ix2 (0 : Fin 1) k) : EReal) = v (ix1 k) := by
  refine shapeCast_apply _ shapeCasts_S1024_S1x1024 (ix2 (0 : Fin 1) k) (ix1 k) ?_
  rw [Shape.rowMajor_val_two, Shape.rowMajor_val_one]
  show k.val = 0 * 1024 + k.val
  omega

theorem cast_w (v : FVec Ideal S1x1024x5632 .f32) (k : Fin 1024) (n : Fin 5632) :
    (shapeCast S1024x5632 v shapeCasts_S1x1024x5632_S1024x5632 (ix2 k n) : EReal) = v (ix3 (0 : Fin 1) k n) := by
  refine shapeCast_apply _ shapeCasts_S1x1024x5632_S1024x5632 (ix2 k n) (ix3 (0 : Fin 1) k n) ?_
  rw [Shape.rowMajor_val_three, Shape.rowMajor_val_two]
  show (0 * 1024 + k.val) * 5632 + n.val = k.val * 5632 + n.val
  omega

theorem cast_c (v : FVec Ideal S1x3x5632 .f32) (j : Fin 3) (n : Fin 5632) :
    (shapeCast S3x5632 v shapeCasts_S1x3x5632_S3x5632 (ix2 j n) : EReal) = v (ix3 (0 : Fin 1) j n) := by
  refine shapeCast_apply _ shapeCasts_S1x3x5632_S3x5632 (ix2 j n) (ix3 (0 : Fin 1) j n) ?_
  rw [Shape.rowMajor_val_three, Shape.rowMajor_val_two]
  show (0 * 3 + j.val) * 5632 + n.val = j.val * 5632 + n.val
  omega

theorem cast_d (v : FVec Ideal S1x2816x1024 .f32) (n : Fin 2816) (k : Fin 1024) :
    (shapeCast S2816x1024 v shapeCasts_S1x2816x1024_S2816x1024 (ix2 n k) : EReal) = v (ix3 (0 : Fin 1) n k) := by
  refine shapeCast_apply _ shapeCasts_S1x2816x1024_S2816x1024 (ix2 n k) (ix3 (0 : Fin 1) n k) ?_
  rw [Shape.rowMajor_val_three, Shape.rowMajor_val_two]
  show (0 * 2816 + n.val) * 1024 + k.val = n.val * 1024 + k.val
  omega

variable (m : (ℓ : Loc nD τ sig) → Buf (Elt Ideal) ℓ)

/-- The scale of the first normalization. -/
theorem V_g (c : Dev nD) : V m c main_v1
    = shapeCast S1x1024 (shapeCast S1024 (m ((c : Thread nD τ).loc main_arg1) : FVec Ideal S1x1024 .f32) shapeCasts_S1x1024_S1024)
      shapeCasts_S1024_S1x1024 := by
  simp only [V, hostOps0]
  after_results_simp
  rfl

/-- The up projection's weights. -/
theorem V_w (c : Dev nD) : V m c main_v3
    = (truncf (F := Ideal) (φ := .f32) .bf16 (shapeCast S1024x5632 (m ((c : Thread nD τ).loc main_arg2) : FVec Ideal S1x1024x5632 .f32)
      shapeCasts_S1x1024x5632_S1024x5632) bitsLt_bf16_f32 : FVec Ideal S1024x5632 .bf16) := by
  simp only [V, hostOps0]
  after_results_simp
  rfl

/-- The convolution's weights. -/
theorem V_c (c : Dev nD) : V m c main_v4
    = shapeCast S3x5632 (m ((c : Thread nD τ).loc main_arg3) : FVec Ideal S1x3x5632 .f32) shapeCasts_S1x3x5632_S3x5632 := by
  simp only [V, hostOps0]
  after_results_simp
  rfl

/-- The convolution's bias. -/
theorem V_b (c : Dev nD) : V m c main_v6
    = shapeCast S1x5632 (shapeCast S5632 (m ((c : Thread nD τ).loc main_arg4) : FVec Ideal S1x5632 .f32) shapeCasts_S1x5632_S5632)
      shapeCasts_S5632_S1x5632 := by
  simp only [V, hostOps0]
  after_results_simp
  rfl

/-- The down projection's weights. -/
theorem V_d (c : Dev nD) : V m c main_v8
    = (truncf (F := Ideal) (φ := .f32) .bf16 (shapeCast S2816x1024 (m ((c : Thread nD τ).loc main_arg5) : FVec Ideal S1x2816x1024 .f32)
      shapeCasts_S1x2816x1024_S2816x1024) bitsLt_bf16_f32 : FVec Ideal S2816x1024 .bf16) := by
  simp only [V, hostOps0]
  after_results_simp
  rfl

/-- The scale of the last normalization. -/
theorem V_f (c : Dev nD) : V m c main_v9
    = shapeCast S1x1024 (m ((c : Thread nD τ).loc main_arg6) : FVec Ideal S1024 .f32) shapeCasts_S1024_S1x1024 := by
  simp only [V, hostOps0]
  after_results_simp
  rfl

end Cert.FfnSample

end
-- ==== Proof.FfnSample.Ref.lean ====
/- The reference feed-forward region read at a batch, position and column: the padded convolution of the projected rows is
   the convolution of the projected padded rows, since a row of zeros projects to zeros. -/
module

public import proofs.«01_k».proof.Proof.Ffn.Spec
public import proofs.«01_k».proof.Proof.Gen.Reference4Ideal.Read
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.FfnSample

open Idealize.ShloMosaic Idealize.ShloMosaic.TcCoe
open Idealize.ShloMosaic.ValueIdx
open Cert.FfnSpec
open Cert.Reference4Ideal Cert.Reference4Ideal.Read

variable (x0 : (⟨(⟨3, ![8, 8192, 1024]⟩ : Shape), .f32⟩ : BufTy).Contents (Elt Ideal))
  (x1 : (⟨(⟨2, ![1, 1024]⟩ : Shape), .f32⟩ : BufTy).Contents (Elt Ideal))
  (x2 : (⟨(⟨3, ![1, 1024, 5632]⟩ : Shape), .f32⟩ : BufTy).Contents (Elt Ideal))
  (x3 : (⟨(⟨3, ![1, 3, 5632]⟩ : Shape), .f32⟩ : BufTy).Contents (Elt Ideal))
  (x4 : (⟨(⟨2, ![1, 5632]⟩ : Shape), .f32⟩ : BufTy).Contents (Elt Ideal))
  (x5 : (⟨(⟨3, ![1, 2816, 1024]⟩ : Shape), .f32⟩ : BufTy).Contents (Elt Ideal))
  (x6 : (⟨(⟨1, ![1024]⟩ : Shape), .f32⟩ : BufTy).Contents (Elt Ideal))

/-- The rows, weights and scales of the region, read from its arguments. -/
abbrev aX (b : Fin 8) (p : Fin 8192) (k : Fin 1024) : EReal := x0 (ix3 b p k)
abbrev aG (k : Fin 1024) : EReal := x1 (ix2 (0 : Fin 1) k)
abbrev aW (k : Fin 1024) (n : Fin 5632) : EReal := x2 (ix3 (0 : Fin 1) k n)
abbrev aC (j : Fin 3) (n : Fin 5632) : EReal := x3 (ix3 (0 : Fin 1) j n)
abbrev aB (n : Fin 5632) : EReal := x4 (ix2 (0 : Fin 1) n)
abbrev aD (n : Fin 2816) (k : Fin 1024) : EReal := x5 (ix3 (0 : Fin 1) n k)
abbrev aF (k : Fin 1024) : EReal := x6 (ix1 k)

theorem ref_rs (b : Fin 8) (p : Fin 8192) (k : Fin 1024) :
    (val_main_v9 (F := Ideal) x0 (ix3 b p k) : EReal) = rs (aX x0 b p) := by
  rw [val_main_v9_apply, val_main_v8_apply, val_main_v7_apply, val_main_v5_apply, val_main_v3_apply, val_main_v2_apply,
    val_main_v4_apply, val_main_v6_apply, val_main_cst_apply, val_main_cst_0_apply, val_main_cst_1_apply]
  refine congrArg (fun z : EReal => Ideal.rsqrt (Ideal.div z _ + _)) ?_
  refine (congrArg (· + _) Ideal.ofBits_zero_f32).trans ((zero_add _).trans ?_)
  refine Finset.sum_congr rfl fun q _ => ?_
  rw [val_main_v1_apply]
  have e : idx_main_v2 (idx_main_v3 (idx_main_v9 (ix3 b p k))) q = ix3 b p q := funext fun a => Fin.ext (by
    match a with
    | ⟨0, _⟩ => rfl
    | ⟨1, _⟩ => rfl
    | ⟨2, _⟩ => rfl)
  rw [e]
  rfl

theorem ref_norm (b : Fin 8) (p : Fin 8192) (k : Fin 1024) :
    (val_main_v13 (F := Ideal) x0 x1 (ix3 b p k) : EReal) = norm (aG x1) (aX x0 b p) k := by
  rw [val_main_v13_apply, val_main_v10_apply, val_main_v12_apply, val_main_v11_apply, val_main_v0_apply, ref_rs]
  have e : idx_main_v0 (idx_main_v11 (idx_main_v12 (ix3 b p k))) = ix2 (0 : Fin 1) k := funext fun a => Fin.ext (by
    match a with
    | ⟨0, _⟩ => rfl
    | ⟨1, _⟩ => show k.val % 1024 = k.val; omega)
  rw [e]
  rfl

theorem ref_up (b : Fin 8) (p : Fin 8192) (n : Fin 5632) :
    (val_main_v15 (F := Ideal) x0 x1 x2 (ix3 b p n) : EReal) = up (aW x2) (norm (aG x1) (aX x0 b p)) n := by
  rw [val_main_v15_apply]
  refine Finset.sum_congr rfl fun q _ => ?_
  have e : lidx_main_v15 (ix3 b p n) q = ix3 b p q := funext fun a => Fin.ext (by
    match a with
    | ⟨0, _⟩ => rfl
    | ⟨1, _⟩ => rfl
    | ⟨2, _⟩ => rfl)
  have e' : idx_main_v14 (ridx_main_v15 (ix3 b p n) q) = ix3 (0 : Fin 1) q n := funext fun a => Fin.ext (by
    match a with
    | ⟨0, _⟩ => rfl
    | ⟨1, _⟩ => show (q.val * 5632 + n.val) / 5632 % 1024 = q.val; omega
    | ⟨2, _⟩ => show (q.val * 5632 + n.val) % 5632 = n.val; omega)
  rw [e, ref_norm, val_main_v14_apply, e']

/-- The padded projection at a padded row. -/
theorem ref_pad (b : Fin 8) (p : Fin 8194) (n : Fin 5632) :
    (val_main_v18 (F := Ideal) x0 x1 x2 (ix3 b p n) : EReal) = up (aW x2) (hrow (aG x1) (aX x0 b) p.val) n := by
  unfold val_main_v18
  by_cases hp : 1 ≤ p.val ∧ p.val ≤ 8192
  · refine (pad_apply_of_inside ![0, 1, 0] ![0, 1, 0] ![0, 0, 0] _ _ _ _ (ix3 b p n)
      (ix3 b (⟨p.val - 1, by omega⟩ : Fin 8192) n) (fun a => ?_)).trans ?_
    · match a with
      | ⟨0, _⟩ => show b.val = 0 + b.val * 1; omega
      | ⟨1, _⟩ => show p.val = 1 + (p.val - 1) * 1; omega
      | ⟨2, _⟩ => show n.val = 0 + n.val * 1; omega
    · rw [ref_up]
      refine congrArg (fun h => up (aW x2) h n) (funext fun k => ?_)
      unfold hrow
      rw [dif_pos hp]
  · refine (pad_apply_of_not_inside ![0, 1, 0] ![0, 1, 0] ![0, 0, 0] _ _ _ _ (ix3 b p n) (1 : Fin S8x8192x5632.rank) ?_).trans ?_
    · show ¬(1 ≤ p.val ∧ (p.val - 1) % 1 = 0 ∧ (p.val - 1) / 1 < 8192)
      have := p.isLt
      omega
    · rw [up_zero _ _ (fun k => by unfold hrow; rw [dif_neg hp])]
      rw [val_main_call0_v0_apply, val_main_c_apply]
      show ((((0#32 : BitVec 32).toInt : ℝ)) : EReal) = 0
      simp

theorem ref_tap0 (b : Fin 8) (p : Fin 8192) (n : Fin 5632) :
    (val_main_v23 (F := Ideal) x3 (ix3 b p n) : EReal) = aC x3 0 n := by
  rw [val_main_v23_apply, val_main_v22_apply, val_main_v21_apply, val_main_v20_apply, val_main_v16_apply]
  refine congrArg x3 (funext fun a => Fin.ext ?_)
  match a with
  | ⟨0, _⟩ => rfl
  | ⟨1, _⟩ => show (0 * 5632 + n.val % 5632) / 5632 % 3 = 0; omega
  | ⟨2, _⟩ => show (0 * 5632 + n.val % 5632) % 5632 = n.val; omega

theorem ref_tap1 (b : Fin 8) (p : Fin 8192) (n : Fin 5632) :
    (val_main_v31 (F := Ideal) x3 (ix3 b p n) : EReal) = aC x3 1 n := by
  rw [val_main_v31_apply, val_main_v30_apply, val_main_v29_apply, val_main_v28_apply, val_main_v16_apply]
  refine congrArg x3 (funext fun a => Fin.ext ?_)
  match a with
  | ⟨0, _⟩ => rfl
  | ⟨1, _⟩ => show ((1 + 0) * 5632 + n.val % 5632) / 5632 % 3 = 1; omega
  | ⟨2, _⟩ => show ((1 + 0) * 5632 + n.val % 5632) % 5632 = n.val; omega

theorem ref_tap2 (b : Fin 8) (p : Fin 8192) (n : Fin 5632) :
    (val_main_v38 (F := Ideal) x3 (ix3 b p n) : EReal) = aC x3 2 n := by
  rw [val_main_v38_apply, val_main_v37_apply, val_main_v36_apply, val_main_v35_apply, val_main_v16_apply]
  refine congrArg x3 (funext fun a => Fin.ext ?_)
  match a with
  | ⟨0, _⟩ => rfl
  | ⟨1, _⟩ => show ((2 + 0) * 5632 + n.val % 5632) / 5632 % 3 = 2; omega
  | ⟨2, _⟩ => show ((2 + 0) * 5632 + n.val % 5632) % 5632 = n.val; omega

theorem ref_bias (b : Fin 8) (p : Fin 8192) (n : Fin 5632) :
    (val_main_v42 (F := Ideal) x4 (ix3 b p n) : EReal) = aB x4 n := by
  rw [val_main_v42_apply, val_main_v41_apply, val_main_v17_apply]
  refine congrArg x4 (funext fun a => Fin.ext ?_)
  match a with
  | ⟨0, _⟩ => rfl
  | ⟨1, _⟩ => show n.val % 5632 = n.val; omega

/-- The reference's convolution at a position. -/
abbrev rConv (b : Fin 8) (p : Fin 8192) : Fin 5632 → EReal :=
  conv (aW x2) (aC x3) (aB x4) (hrow (aG x1) (aX x0 b) p.val) (hrow (aG x1) (aX x0 b) (p.val + 1)) (hrow (aG x1) (aX x0 b) (p.val + 2))

theorem ref_conv (b : Fin 8) (p : Fin 8192) (n : Fin 5632) :
    (val_main_v43 (F := Ideal) x0 x1 x2 x3 x4 (ix3 b p n) : EReal) = rConv x0 x1 x2 x3 x4 b p n := by
  rw [val_main_v43_apply, val_main_v40_apply, val_main_v33_apply, val_main_v26_apply, val_main_v24_apply, val_main_v32_apply,
    val_main_v39_apply, ref_tap0, ref_tap1, ref_tap2, ref_bias, val_main_v25_apply, val_main_cst_2_apply,
    val_main_v19_apply, val_main_v27_apply, val_main_v34_apply]
  have e0 : idx_main_v19 (ix3 b p n) = ix3 b (⟨p.val, by omega⟩ : Fin 8194) n := funext fun a => Fin.ext (by
    match a with
    | ⟨0, _⟩ => rfl
    | ⟨1, _⟩ => rfl
    | ⟨2, _⟩ => rfl)
  have e1 : idx_main_v27 (ix3 b p n) = ix3 b (⟨p.val + 1, by omega⟩ : Fin 8194) n := funext fun a => Fin.ext (by
    match a with
    | ⟨0, _⟩ => rfl
    | ⟨1, _⟩ => show 1 + p.val = p.val + 1; omega
    | ⟨2, _⟩ => rfl)
  have e2 : idx_main_v34 (ix3 b p n) = ix3 b (⟨p.val + 2, by omega⟩ : Fin 8194) n := funext fun a => Fin.ext (by
    match a with
    | ⟨0, _⟩ => rfl
    | ⟨1, _⟩ => show 2 + p.val = p.val + 2; omega
    | ⟨2, _⟩ => rfl)
  rw [e0, e1, e2, ref_pad, ref_pad, ref_pad]
  refine congrArg (fun z : EReal => z + _ + _ + _) ?_
  exact (congrArg (· + _) Ideal.ofBits_zero_f32).trans (zero_add _)

theorem ref_act (b : Fin 8) (p : Fin 8192) (n : Fin 2816) :
    (val_main_v47 (F := Ideal) x0 x1 x2 x3 x4 (ix3 b p n) : EReal) = act (rConv x0 x1 x2 x3 x4 b p) n := by
  rw [val_main_v47_apply, val_main_v46_apply, val_main_call1_v5_apply, val_main_call1_v3_apply, val_main_call1_v1_apply,
    val_main_call1_v0_apply, val_main_call1_v4_apply, val_main_call1_v2_apply, val_main_call1_cst_apply,
    val_main_call1_cst_0_apply, val_main_v44_apply, val_main_v45_apply]
  have e0 : idx_main_v44 (ix3 b p n) = ix3 b p (⟨n.val, by omega⟩ : Fin 5632) := funext fun a => Fin.ext (by
    match a with
    | ⟨0, _⟩ => rfl
    | ⟨1, _⟩ => rfl
    | ⟨2, _⟩ => rfl)
  have e1 : idx_main_v45 (ix3 b p n) = ix3 b p (⟨2816 + n.val, by omega⟩ : Fin 5632) := funext fun a => Fin.ext (by
    match a with
    | ⟨0, _⟩ => rfl
    | ⟨1, _⟩ => rfl
    | ⟨2, _⟩ => rfl)
  rw [e0, e1, ref_conv, ref_conv]
  unfold act
  generalize rConv x0 x1 x2 x3 x4 b p _ = c
  generalize rConv x0 x1 x2 x3 x4 b p _ = d
  refine congrArg (fun z : EReal => c * z * d) ?_
  show Ideal.div (Ideal.ofBits .f32 0x3F800000#32) (Ideal.ofBits .f32 0x3F800000#32 + Ideal.exp (-c)) = Ideal.logistic c
  rw [Ideal.ofBits_one_f32]
  rfl

/-- The reference's row before its last normalization. -/
abbrev rPre (b : Fin 8) (p : Fin 8192) : Fin 1024 → EReal :=
  pre (aW x2) (aC x3) (aB x4) (aD x5) (aX x0 b p) (hrow (aG x1) (aX x0 b) p.val) (hrow (aG x1) (aX x0 b) (p.val + 1))
    (hrow (aG x1) (aX x0 b) (p.val + 2))

theorem ref_pre (b : Fin 8) (p : Fin 8192) (k : Fin 1024) :
    (val_main_v50 (F := Ideal) x0 x1 x2 x3 x4 x5 (ix3 b p k) : EReal) = rPre x0 x1 x2 x3 x4 x5 b p k := by
  rw [val_main_v50_apply, val_main_v49_apply]
  refine congrArg (fun z : EReal => x0 (ix3 b p k) + z) (Finset.sum_congr rfl fun q _ => ?_)
  have e : lidx_main_v49 (ix3 b p k) q = ix3 b p q := funext fun a => Fin.ext (by
    match a with
    | ⟨0, _⟩ => rfl
    | ⟨1, _⟩ => rfl
    | ⟨2, _⟩ => rfl)
  have e' : idx_main_v48 (ridx_main_v49 (ix3 b p k) q) = ix3 (0 : Fin 1) q k := funext fun a => Fin.ext (by
    match a with
    | ⟨0, _⟩ => rfl
    | ⟨1, _⟩ => show (q.val * 1024 + k.val) / 1024 % 2816 = q.val; omega
    | ⟨2, _⟩ => show (q.val * 1024 + k.val) % 1024 = k.val; omega)
  rw [e, ref_act, val_main_v48_apply, e']

/-- The reference at a batch, position and column. -/
theorem ref_out (b : Fin 8) (p : Fin 8192) (k : Fin 1024) :
    (val_main_v63 (F := Ideal) x0 x1 x2 x3 x4 x5 x6 (ix3 b p k) : EReal) =
      out (aG x1) (aW x2) (aC x3) (aB x4) (aD x5) (aF x6) (aX x0 b) p k := by
  rw [val_main_v63_apply, val_main_v60_apply, val_main_v62_apply, val_main_v61_apply, val_main_v59_apply, val_main_v58_apply,
    val_main_v57_apply, val_main_v55_apply, val_main_v53_apply, val_main_v52_apply,
    val_main_v54_apply, val_main_v56_apply, val_main_cst_3_apply, val_main_cst_4_apply, val_main_cst_5_apply, ref_pre]
  have e6 : idx_main_v61 (idx_main_v62 (ix3 b p k)) = ix1 k := funext fun a => Fin.ext (by
    match a with
    | ⟨0, _⟩ => rfl)
  rw [e6]
  refine congrArg (fun z : EReal => rPre x0 x1 x2 x3 x4 x5 b p k * Ideal.rsqrt (Ideal.div z _ + _) * x6 (ix1 k)) ?_
  refine (congrArg (· + _) Ideal.ofBits_zero_f32).trans ((zero_add _).trans ?_)
  refine Finset.sum_congr rfl fun q _ => ?_
  rw [val_main_v51_apply]
  have e : idx_main_v52 (idx_main_v53 (idx_main_v59 (ix3 b p k))) q = ix3 b p q := funext fun a => Fin.ext (by
    match a with
    | ⟨0, _⟩ => rfl
    | ⟨1, _⟩ => rfl
    | ⟨2, _⟩ => rfl)
  rw [e, ref_pre]
  rfl

end Cert.FfnSample

end
-- ==== Proof.FfnSample.Array.lean ====
/- The feed-forward kernel's whole result: the array the launch leaves is the reference's. -/
module

public import proofs.«01_k».proof.Proof.FfnSample.Rows
public import proofs.«01_k».proof.Proof.FfnSample.Entry
public import proofs.«01_k».proof.Proof.FfnSample.Ref
public import proofs.«01_k».proof.Proof.Gen.Kernel4Ideal.Value
public import Idealize.ShloMosaic.Lib.Pipeline.ValueKit.Geometry
public import Idealize.ShloMosaic.Lib.Pipeline.Covers

@[expose] public section

set_option maxRecDepth 16384

noncomputable section

namespace Cert.FfnSample

open Cert.Kernel4Ideal Cert.Kernel4Ideal.Gen Idealize.ShloMosaic Idealize.ShloMosaic.TcCoe Idealize.SL.Sem
open Idealize.ShloMosaic.ValueIdx Idealize.ShloMosaic.Pipeline
open Cert.FfnSpec

variable (m : (ℓ : Loc nD τ sig) → Buf (Elt Ideal) ℓ)

/-- The batch and block of a grid point. -/
abbrev pb (t : Fin cfg0.N) : Fin 8 := grid0.coords t 0
abbrev pi (t : Fin cfg0.N) : Fin 8 := grid0.coords t 1

/-- Row `r` of a grid point's block among the 8192 positions. -/
def prow (t : Fin cfg0.N) (r : Fin 1024) : Fin 8192 := ⟨1024 * (pi t).val + r.val, by have := (pi t).isLt; omega⟩

theorem toNat_small (n : ℕ) (h : n < 2 ^ 32) : (BitVec.ofNat 32 n).toNat = n := by
  rw [BitVec.toNat_ofNat]; exact Nat.mod_eq_of_lt h

theorem coord_b (t : Fin cfg0.N) : (BitVec.ofNat 32 (grid0.coords t 0).val).toNat = (pb t).val :=
  toNat_small _ (lt_trans (pb t).isLt (by norm_num))
theorem coord_i (t : Fin cfg0.N) : (BitVec.ofNat 32 (grid0.coords t 1).val).toNat = (pi t).val :=
  toNat_small _ (lt_trans (pi t).isLt (by norm_num))

/-- The block of eight rows before a grid point's block, and the one after it. -/
theorem prev_word : ∀ j : Fin 8,
    (Scalar.maxsi (Scalar.subi (Scalar.muli (BitVec.ofNat 32 j.val) 128#32) 1#32) 0#32).toNat = 128 * j.val - 1 := by decide
theorem next_word : ∀ j : Fin 8,
    (Scalar.minsi (Scalar.muli (Scalar.addi (BitVec.ofNat 32 j.val) 1#32) 128#32) 1023#32).toNat = min (128 * (j.val + 1)) 1023 := by
  decide

theorem tr0 (t : Fin cfg0.N) : cc0_transform_0 (grid0.coords t) = ![(pb t).val, (pi t).val, 0] := by
  unfold cc0_transform_0
  dsimp only
  rw [coord_b, coord_i]
  rfl

theorem tr1 (t : Fin cfg0.N) : cc0_transform_1 (grid0.coords t) = ![(pb t).val, 128 * (pi t).val - 1, 0] := by
  unfold cc0_transform_1
  dsimp only
  rw [coord_b]
  exact congrArg (fun n : ℕ => ![(pb t).val, n, 0]) (prev_word (pi t))

theorem tr2 (t : Fin cfg0.N) : cc0_transform_2 (grid0.coords t) = ![(pb t).val, min (128 * ((pi t).val + 1)) 1023, 0] := by
  unfold cc0_transform_2
  dsimp only
  rw [coord_b]
  exact congrArg (fun n : ℕ => ![(pb t).val, n, 0]) (next_word (pi t))

theorem tr3 (t : Fin cfg0.N) : cc0_transform_3 (grid0.coords t) = ![0, 0] := rfl
theorem tr4 (t : Fin cfg0.N) : cc0_transform_4 (grid0.coords t) = ![0, 0] := rfl
theorem tr5 (t : Fin cfg0.N) : cc0_transform_5 (grid0.coords t) = ![0, 0] := rfl
theorem tr6 (t : Fin cfg0.N) : cc0_transform_6 (grid0.coords t) = ![0, 0] := rfl
theorem tr7 (t : Fin cfg0.N) : cc0_transform_7 (grid0.coords t) = ![0, 0] := rfl
theorem tr8 (t : Fin cfg0.N) : cc0_transform_8 (grid0.coords t) = ![0, 0] := rfl

theorem tr9 (t : Fin cfg0.N) : cc0_transform_9 (grid0.coords t) = ![(pb t).val, (pi t).val, 0] := by
  unfold cc0_transform_9
  dsimp only
  rw [coord_b, coord_i]
  rfl

/-- A block of rows. -/
theorem block_x (c : Dev nD) (t : Fin cfg0.N) (r k : Fin 1024) :
    ((iblk m c 0 t : FVec Ideal S1x1024x1024 .f32) (ix3 (0 : Fin 1) r k) : EReal)
      = aX (m ((c : Thread nD τ).loc main_arg0)) (pb t) (prow t r) k := by
  unfold iblk
  rw [View.read_apply]
  refine Eq.trans (cast_eq _ _) ?_
  refine Eq.trans (congrFun (V_main_arg0 m c) _) (congrArg _ (funext fun a => Fin.ext ?_))
  refine (Window.rect_emb_val_off win0_0 t (ix3 (0 : Fin 1) r k) a).trans ?_
  have e : win0_0.index t = ![(pb t).val, (pi t).val, 0] := tr0 t
  rw [e]
  match a with
  | ⟨0, _⟩ => show (pb t).val * 1 + 0 = (pb t).val; omega
  | ⟨1, _⟩ => show (pi t).val * 1024 + r.val = 1024 * (pi t).val + r.val; omega
  | ⟨2, _⟩ => show 0 * 1024 + k.val = k.val; omega

/-- The last of the eight rows before a block. -/
theorem block_prev (c : Dev nD) (t : Fin cfg0.N) (h : 0 < (pi t).val) (p : Fin 8192) (hp : p.val + 1 = 1024 * (pi t).val) (k : Fin 1024) :
    ((iblk m c 1 t : FVec Ideal S1x8x1024 .f32) (ix3 (0 : Fin 1) (7 : Fin 8) k) : EReal)
      = aX (m ((c : Thread nD τ).loc main_arg0)) (pb t) p k := by
  unfold iblk
  rw [View.read_apply]
  refine Eq.trans (cast_eq _ _) ?_
  refine Eq.trans (congrFun (V_main_arg0 m c) _) (congrArg _ (funext fun a => Fin.ext ?_))
  refine (Window.rect_emb_val_off win0_1 t (ix3 (0 : Fin 1) (7 : Fin 8) k) a).trans ?_
  have e : win0_1.index t = ![(pb t).val, 128 * (pi t).val - 1, 0] := tr1 t
  rw [e]
  match a with
  | ⟨0, _⟩ => show (pb t).val * 1 + 0 = (pb t).val; omega
  | ⟨1, _⟩ => show (128 * (pi t).val - 1) * 8 + 7 = p.val; omega
  | ⟨2, _⟩ => show 0 * 1024 + k.val = k.val; omega

/-- The first of the eight rows after a block. -/
theorem block_next (c : Dev nD) (t : Fin cfg0.N) (h : (pi t).val < 7) (p : Fin 8192) (hp : p.val = 1024 * (pi t).val + 1024)
    (k : Fin 1024) :
    ((iblk m c 2 t : FVec Ideal S1x8x1024 .f32) (ix3 (0 : Fin 1) (0 : Fin 8) k) : EReal)
      = aX (m ((c : Thread nD τ).loc main_arg0)) (pb t) p k := by
  unfold iblk
  rw [View.read_apply]
  refine Eq.trans (cast_eq _ _) ?_
  refine Eq.trans (congrFun (V_main_arg0 m c) _) (congrArg _ (funext fun a => Fin.ext ?_))
  refine (Window.rect_emb_val_off win0_2 t (ix3 (0 : Fin 1) (0 : Fin 8) k) a).trans ?_
  have e : win0_2.index t = ![(pb t).val, min (128 * ((pi t).val + 1)) 1023, 0] := tr2 t
  rw [e]
  match a with
  | ⟨0, _⟩ => show (pb t).val * 1 + 0 = (pb t).val; omega
  | ⟨1, _⟩ => show min (128 * ((pi t).val + 1)) 1023 * 8 + 0 = p.val; omega
  | ⟨2, _⟩ => show 0 * 1024 + k.val = k.val; omega

/-! The weights and scales are whole in every grid point. -/

theorem block_g (c : Dev nD) (t : Fin cfg0.N) (q : Fin 1024) :
    ((iblk m c 3 t : FVec Ideal S1x1024 .f32) (ix2 (0 : Fin 1) q) : EReal) = aG (m ((c : Thread nD τ).loc main_arg1)) q := by
  unfold iblk
  rw [View.read_apply]
  refine Eq.trans (cast_eq _ _) ?_
  refine Eq.trans (congrFun (V_g m c) _) ?_
  refine Eq.trans (congrArg _ (funext fun a => Fin.ext ?_)) (cast_g _ q)
  refine (Window.rect_emb_val_off win0_3 t (ix2 (0 : Fin 1) q) a).trans ?_
  have e : win0_3.index t = ![0, 0] := tr3 t
  rw [e]
  match a with
  | ⟨0, _⟩ => show 0 * 1 + 0 = 0; omega
  | ⟨1, _⟩ => show 0 * 1024 + q.val = q.val; omega

theorem block_w (c : Dev nD) (t : Fin cfg0.N) (p : Fin 1024) (q : Fin 5632) :
    ((iblk m c 4 t : FVec Ideal S1024x5632 .bf16) (ix2 p q) : EReal) = aW (m ((c : Thread nD τ).loc main_arg2)) p q := by
  unfold iblk
  rw [View.read_apply]
  refine Eq.trans (cast_eq _ _) ?_
  refine Eq.trans (congrFun (V_w m c) _) ?_
  refine Eq.trans (congrArg _ (funext fun a => Fin.ext ?_)) (cast_w _ p q)
  refine (Window.rect_emb_val_off win0_4 t (ix2 p q) a).trans ?_
  have e : win0_4.index t = ![0, 0] := tr4 t
  rw [e]
  match a with
  | ⟨0, _⟩ => show 0 * 1024 + p.val = p.val; omega
  | ⟨1, _⟩ => show 0 * 5632 + q.val = q.val; omega

theorem block_c (c : Dev nD) (t : Fin cfg0.N) (p : Fin 3) (q : Fin 5632) :
    ((iblk m c 5 t : FVec Ideal S3x5632 .f32) (ix2 p q) : EReal) = aC (m ((c : Thread nD τ).loc main_arg3)) p q := by
  unfold iblk
  rw [View.read_apply]
  refine Eq.trans (cast_eq _ _) ?_
  refine Eq.trans (congrFun (V_c m c) _) ?_
  refine Eq.trans (congrArg _ (funext fun a => Fin.ext ?_)) (cast_c _ p q)
  refine (Window.rect_emb_val_off win0_5 t (ix2 p q) a).trans ?_
  have e : win0_5.index t = ![0, 0] := tr5 t
  rw [e]
  match a with
  | ⟨0, _⟩ => show 0 * 3 + p.val = p.val; omega
  | ⟨1, _⟩ => show 0 * 5632 + q.val = q.val; omega

theorem block_b (c : Dev nD) (t : Fin cfg0.N) (q : Fin 5632) :
    ((iblk m c 6 t : FVec Ideal S1x5632 .f32) (ix2 (0 : Fin 1) q) : EReal) = aB (m ((c : Thread nD τ).loc main_arg4)) q := by
  unfold iblk
  rw [View.read_apply]
  refine Eq.trans (cast_eq _ _) ?_
  refine Eq.trans (congrFun (V_b m c) _) ?_
  refine Eq.trans (congrArg _ (funext fun a => Fin.ext ?_)) (cast_b _ q)
  refine (Window.rect_emb_val_off win0_6 t (ix2 (0 : Fin 1) q) a).trans ?_
  have e : win0_6.index t = ![0, 0] := tr6 t
  rw [e]
  match a with
  | ⟨0, _⟩ => show 0 * 1 + 0 = 0; omega
  | ⟨1, _⟩ => show 0 * 5632 + q.val = q.val; omega

theorem block_d (c : Dev nD) (t : Fin cfg0.N) (p : Fin 2816) (q : Fin 1024) :
    ((iblk m c 7 t : FVec Ideal S2816x1024 .bf16) (ix2 p q) : EReal) = aD (m ((c : Thread nD τ).loc main_arg5)) p q := by
  unfold iblk
  rw [View.read_apply]
  refine Eq.trans (cast_eq _ _) ?_
  refine Eq.trans (congrFun (V_d m c) _) ?_
  refine Eq.trans (congrArg _ (funext fun a => Fin.ext ?_)) (cast_d _ p q)
  refine (Window.rect_emb_val_off win0_7 t (ix2 p q) a).trans ?_
  have e : win0_7.index t = ![0, 0] := tr7 t
  rw [e]
  match a with
  | ⟨0, _⟩ => show 0 * 2816 + p.val = p.val; omega
  | ⟨1, _⟩ => show 0 * 1024 + q.val = q.val; omega

theorem block_f (c : Dev nD) (t : Fin cfg0.N) (q : Fin 1024) :
    ((iblk m c 8 t : FVec Ideal S1x1024 .f32) (ix2 (0 : Fin 1) q) : EReal) = aF (m ((c : Thread nD τ).loc main_arg6)) q := by
  unfold iblk
  rw [View.read_apply]
  refine Eq.trans (cast_eq _ _) ?_
  refine Eq.trans (congrFun (V_f m c) _) ?_
  refine Eq.trans (congrArg _ (funext fun a => Fin.ext ?_)) (cast_f _ q)
  refine (Window.rect_emb_val_off win0_8 t (ix2 (0 : Fin 1) q) a).trans ?_
  have e : win0_8.index t = ![0, 0] := tr8 t
  rw [e]
  match a with
  | ⟨0, _⟩ => show 0 * 1 + 0 = 0; omega
  | ⟨1, _⟩ => show 0 * 1024 + q.val = q.val; omega

/-- The normalized rows a grid point works from, row by row: rows of the normalized sequence between its zeros. -/
theorem hn_row (c : Dev nD) (t : Fin cfg0.N) (j : Fin 1026) (k : Fin 1024) :
    (hnB (F := Ideal) (grid0.coords t) (iblk m c 0 t) (iblk m c 1 t) (iblk m c 2 t) (iblk m c 3 t)
        (ix2 (⟨7 + j.val, by omega⟩ : Fin 1040) k) : EReal)
      = hrow (aG (m ((c : Thread nD τ).loc main_arg1))) (aX (m ((c : Thread nD τ).loc main_arg0)) (pb t))
        (1024 * (pi t).val + j.val) k := by
  have hi := (pi t).isLt
  have hg : (fun k : Fin 1024 => ((iblk m c 3 t : FVec Ideal S1x1024 .f32) (ix2 (0 : Fin 1) k) : EReal))
      = aG (m ((c : Thread nD τ).loc main_arg1)) := funext fun k => block_g m c t k
  unfold hrow
  by_cases h0 : j.val = 0
  · obtain rfl : j = 0 := Fin.ext h0
    refine (hn_before (grid0.coords t) (iblk m c 0 t) (iblk m c 1 t) (iblk m c 2 t) (iblk m c 3 t) (7 : Fin 8) k).trans ?_
    by_cases hz : 0 < (pi t).val
    · refine (if_pos hz).trans ?_
      rw [dif_pos (by show 1 ≤ 1024 * (pi t).val + 0 ∧ 1024 * (pi t).val + 0 ≤ 8192; omega)]
      refine (congrArg (fun g => norm g _ k) hg).trans ?_
      refine congrArg (fun x => norm _ x k) (funext fun q => ?_)
      exact block_prev m c t hz _ (by show 1024 * (pi t).val + 0 - 1 + 1 = 1024 * (pi t).val; omega) q
    · refine (if_neg hz).trans ?_
      rw [dif_neg (by show ¬(1 ≤ 1024 * (pi t).val + 0 ∧ 1024 * (pi t).val + 0 ≤ 8192); omega)]
  · by_cases h1 : j.val = 1025
    · obtain rfl : j = (1025 : Fin 1026) := Fin.ext h1
      refine (hn_after (grid0.coords t) (iblk m c 0 t) (iblk m c 1 t) (iblk m c 2 t) (iblk m c 3 t) (0 : Fin 8) k).trans ?_
      by_cases hz : (pi t).val < 7
      · refine (if_pos hz).trans ?_
        rw [dif_pos (by show 1 ≤ 1024 * (pi t).val + 1025 ∧ 1024 * (pi t).val + 1025 ≤ 8192; omega)]
        refine (congrArg (fun g => norm g _ k) hg).trans ?_
        refine congrArg (fun x => norm _ x k) (funext fun q => ?_)
        exact block_next m c t hz _ (by show 1024 * (pi t).val + 1025 - 1 = 1024 * (pi t).val + 1024; omega) q
      · refine (if_neg hz).trans ?_
        rw [dif_neg (by show ¬(1 ≤ 1024 * (pi t).val + 1025 ∧ 1024 * (pi t).val + 1025 ≤ 8192); omega)]
    · have hj := j.isLt
      rw [dif_pos (by omega)]
      have e : (⟨7 + j.val, by omega⟩ : Fin 1040) = ⟨8 + (⟨j.val - 1, by omega⟩ : Fin 1024).val, by show 8 + (j.val - 1) < 1040; omega⟩ :=
        Fin.ext (by show 7 + j.val = 8 + (j.val - 1); omega)
      rw [e]
      refine (hn_mid (grid0.coords t) (iblk m c 0 t) (iblk m c 1 t) (iblk m c 2 t) (iblk m c 3 t) (⟨j.val - 1, by omega⟩ : Fin 1024) k).trans ?_
      refine (congrArg (fun g => norm g _ k) hg).trans ?_
      refine congrArg (fun x => norm _ x k) (funext fun q => ?_)
      refine (block_x m c t _ q).trans ?_
      refine congrArg (fun p => aX (m ((c : Thread nD τ).loc main_arg0)) (pb t) p q) (Fin.ext ?_)
      show 1024 * (pi t).val + (j.val - 1) = 1024 * (pi t).val + j.val - 1
      omega

/-- A grid point's convolution is the reference's. -/
theorem conv_row (c : Dev nD) (t : Fin cfg0.N) (r : Fin 1024) :
    convR (hnB (F := Ideal) (grid0.coords t) (iblk m c 0 t) (iblk m c 1 t) (iblk m c 2 t) (iblk m c 3 t)) (iblk m c 4 t) (iblk m c 5 t)
        (iblk m c 6 t) r
      = rConv (m ((c : Thread nD τ).loc main_arg0)) (m ((c : Thread nD τ).loc main_arg1)) (m ((c : Thread nD τ).loc main_arg2))
        (m ((c : Thread nD τ).loc main_arg3)) (m ((c : Thread nD τ).loc main_arg4)) (pb t) (prow t r) := by
  have hr := r.isLt
  have hw : (fun k n => ((iblk m c 4 t : FVec Ideal S1024x5632 .bf16) (ix2 k n) : EReal)) = aW (m ((c : Thread nD τ).loc main_arg2)) :=
    funext fun k => funext fun n => block_w m c t k n
  have hc : (fun j n => ((iblk m c 5 t : FVec Ideal S3x5632 .f32) (ix2 j n) : EReal)) = aC (m ((c : Thread nD τ).loc main_arg3)) :=
    funext fun j => funext fun n => block_c m c t j n
  have hb : (fun n => ((iblk m c 6 t : FVec Ideal S1x5632 .f32) (ix2 (0 : Fin 1) n) : EReal)) = aB (m ((c : Thread nD τ).loc main_arg4)) :=
    funext fun n => block_b m c t n
  unfold convR
  refine (congrArg (fun w => conv w _ _ _ _ _) hw).trans ?_
  refine (congrArg (fun w => conv _ w _ _ _ _) hc).trans ?_
  refine (congrArg (fun w => conv _ _ w _ _ _) hb).trans ?_
  have h0 := funext fun k => hn_row m c t (⟨r.val, by omega⟩ : Fin 1026) k
  have h1 := funext fun k => hn_row m c t (⟨1 + r.val, by omega⟩ : Fin 1026) k
  have h2 := funext fun k => hn_row m c t (⟨2 + r.val, by omega⟩ : Fin 1026) k
  have i1 : (⟨7 + (1 + r.val), by omega⟩ : Fin 1040) = ⟨8 + r.val, by omega⟩ := Fin.ext (by show 7 + (1 + r.val) = 8 + r.val; omega)
  have i2 : (⟨7 + (2 + r.val), by omega⟩ : Fin 1040) = ⟨9 + r.val, by omega⟩ := Fin.ext (by show 7 + (2 + r.val) = 9 + r.val; omega)
  have j1 : 1024 * (pi t).val + (1 + r.val) = (prow t r).val + 1 := by show _ = 1024 * (pi t).val + r.val + 1; omega
  have j2 : 1024 * (pi t).val + (2 + r.val) = (prow t r).val + 2 := by show _ = 1024 * (pi t).val + r.val + 2; omega
  dsimp only at h1 h2
  rw [i1, j1] at h1
  rw [i2, j2] at h2
  refine (congrArg (fun w => conv _ _ _ w _ _) h0).trans ?_
  refine (congrArg (fun w => conv _ _ _ _ w _) h1).trans ?_
  exact congrArg (fun w => conv _ _ _ _ _ w) h2

/-- Where a grid point's block is written. -/
theorem out_emb (t : Fin cfg0.N) (r k : Fin 1024) :
    ((cfg0.win 9).blk t).view.emb (ix3 (0 : Fin 1) r k) = ix3 (pb t) (prow t r) k := funext fun a => Fin.ext (by
  refine (Window.rect_emb_val_off win0_9 t (ix3 (0 : Fin 1) r k) a).trans ?_
  have e : win0_9.index t = ![(pb t).val, (pi t).val, 0] := tr9 t
  rw [e]
  match a with
  | ⟨0, _⟩ => show (pb t).val * 1 + 0 = (pb t).val; omega
  | ⟨1, _⟩ => show (pi t).val * 1024 + r.val = 1024 * (pi t).val + r.val; omega
  | ⟨2, _⟩ => show 0 * 1024 + k.val = k.val; omega)

/-- The reference's result of a launch's arguments. -/
abbrev refOf (c : Dev nD) : (⟨(⟨3, ![8, 8192, 1024]⟩ : Shape), .f32⟩ : BufTy).Contents (Elt Ideal) :=
  Cert.Reference4Ideal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- A grid point's block at a row and column. -/
theorem block_out (c : Dev nD) (t : Fin cfg0.N) (r k : Fin 1024) :
    (blockOut (F := Ideal) (grid0.coords t) (iblk m c 0 t) (iblk m c 1 t) (iblk m c 2 t) (iblk m c 3 t) (iblk m c 4 t) (iblk m c 5 t)
        (iblk m c 6 t) (iblk m c 7 t) (iblk m c 8 t) (ix3 (0 : Fin 1) r k) : EReal)
      = refOf m c (ix3 (pb t) (prow t r) k) := by
  refine (block_apply _ _ _ _ _ _ _ _ _ _ r k).trans ?_
  refine Eq.trans ?_ (ref_out _ _ _ _ _ _ _ (pb t) (prow t r) k).symm
  unfold out
  refine (congrArg (fun g => norm g _ k) (funext fun q => block_f m c t q)).trans ?_
  refine congrArg (fun x => norm _ x k) (funext fun q => ?_)
  unfold pre
  refine congrArg₂ (· + ·) (block_x m c t r q) (Finset.sum_congr rfl fun n _ => ?_)
  refine congrArg₂ (· * ·) (congrArg (fun y => act y n) (conv_row m c t r)) (block_d m c t n q)

/-- What a grid point writes back is its block of the reference's result. -/
theorem flushed_eq (c : Dev nD) (t : Fin cfg0.N) :
    (dats m 0 c).flushed 9 t = ((cfg0.win 9).blk t).view.read (Elt Ideal) (refOf m c) := by
  rw [Value.flushed9_A, out_eq]
  funext y
  rw [View.read_apply]
  refine Eq.trans ?_ (cast_eq _ _).symm
  obtain ⟨r, k, rfl⟩ : ∃ (r k : Fin 1024), y = ix3 (0 : Fin 1) r k := ⟨y 1, y 2, (eq_ix3 (n0 := 1) (n1 := 1024) (n2 := 1024) y).trans (by
    congr 1; exact Subsingleton.elim (α := Fin 1) _ _)⟩
  rw [out_emb]
  exact block_out m c t r k

/-- Every element of the result is in some grid point's block. -/
theorem cover (i : S8x8192x1024.Idx) : ∃ t : Fin cfg0.N, (cfg0.win 9).flush t = true ∧ i ∈ ((cfg0.win 9).blk t).view.set := by
  have h0 : (i 0 : Nat) < 8 := (i 0).isLt
  have h1 : (i 1 : Nat) < 8192 := (i 1).isLt
  have h2 : (i 2 : Nat) < 1024 := (i 2).isLt
  obtain ⟨t, ht⟩ := grid0.coords_surjective (fun a => match a with
    | ⟨0, _⟩ => (⟨(i 0).val, h0⟩ : Fin 8)
    | ⟨1, _⟩ => (⟨(i 1).val / 1024, by omega⟩ : Fin 8))
  have hb : (pb t).val = (i 0).val := congrArg Fin.val (congrFun ht 0)
  have hi : (pi t).val = (i 1).val / 1024 := congrArg Fin.val (congrFun ht 1)
  refine ⟨t, flush0_9 t, Finset.mem_map.mpr ⟨ix3 (0 : Fin 1) ⟨(i 1).val % 1024, by omega⟩ ⟨(i 2).val, h2⟩, Finset.mem_univ _, ?_⟩⟩
  refine (out_emb t _ _).trans (funext fun a => Fin.ext ?_)
  match a with
  | ⟨0, _⟩ => exact hb
  | ⟨1, _⟩ => show 1024 * (pi t).val + (i 1).val % 1024 = (i 1).val; omega
  | ⟨2, _⟩ => rfl

/-- The result array after the launch. -/
theorem final (c : Dev nD) : (dats m 0 c).arrAt 9 cfg0.N = refOf m c :=
  (dats m 0 c).arrAt_eq_of_cover 9 _ (fun t _ => flushed_eq m c t) cover

end Cert.FfnSample

end
-- ==== Proof.Merge.Planes.lean ====
/- The two scratch planes of a step of the merge: twelve planes of 512 rows and 128 lanes, for each dilation and group of heads
   one, the rows laid back in their order by the strided stores. -/
module

public import proofs.«01_k».proof.Proof.Gen.Kernel5Ideal.Value
public import Idealize.ShloMosaic.Lib.Pipeline.Value
public import Idealize.ShloMosaic.Lib.Pipeline.StridedRows
public import Idealize.ShloMosaic.Lib.Pipeline.ValueKit.Tiles
public import Idealize.ShloMosaic.Lib.ValueIdx
public import Idealize.ShloMosaic.Lib.ValueLayout

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx

/-- Plane `q` at row `r` and lane `l`: group `q % 4` of dilation 1, 4 or 16, whose windows hold the rows by residue. -/
def planes (A : S1x1x512x512.Idx → EReal) (B : S1x4x128x512.Idx → EReal) (C : S1x16x32x512.Idx → EReal)
    (q : Fin 12) (r : Fin 512) (l : Fin 128) : EReal :=
  if q.val < 4 then A (ix4 (0 : Fin 1) (0 : Fin 1) r (⟨128 * (q.val % 4) + l.val, by omega⟩ : Fin 512))
  else if q.val < 8 then B (ix4 (0 : Fin 1) (⟨r.val % 4, by omega⟩ : Fin 4) (⟨r.val / 4, by omega⟩ : Fin 128) (⟨128 * (q.val % 4) + l.val, by omega⟩ : Fin 512))
  else C (ix4 (0 : Fin 1) (⟨r.val % 16, by omega⟩ : Fin 16) (⟨r.val / 16, by omega⟩ : Fin 32) (⟨128 * (q.val % 4) + l.val, by omega⟩ : Fin 512))

/-- The planes as one array. -/
def plane (A : S1x1x512x512.Idx → EReal) (B : S1x4x128x512.Idx → EReal) (C : S1x16x32x512.Idx → EReal)
    (y : S12x512x128.Idx) : EReal := planes A B C ⟨(y 0).val, (y 0).isLt⟩ ⟨(y 1).val, (y 1).isLt⟩ ⟨(y 2).val, (y 2).isLt⟩

/-- A load's rows through the casts of a store. -/
theorem cast_apply {N : ℕ} {α : Type} (ld : (⟨4, ![1, 1, N, 128]⟩ : Shape).Idx → α)
    (h : (⟨4, ![1, 1, N, 128]⟩ : Shape).ShapeCasts ⟨2, ![N, 128]⟩) (h' : (⟨2, ![N, 128]⟩ : Shape).ShapeCasts ⟨3, ![1, N, 128]⟩)
    (x : (⟨3, ![1, N, 128]⟩ : Shape).Idx) :
    shapeCast ⟨3, ![1, N, 128]⟩ (shapeCast ⟨2, ![N, 128]⟩ ld h) h' x = ld (ix4 (0 : Fin 1) (0 : Fin 1) (x 1) (x 2)) := by
  obtain ⟨a, r, l, rfl⟩ : ∃ (a : Fin 1) (r : Fin N) (l : Fin 128), x = ix3 a r l := ⟨x 0, x 1, x 2, eq_ix3 x⟩
  obtain rfl : a = 0 := Subsingleton.elim _ _
  rw [shapeCast_ab_1ab_apply]
  refine shapeCast_apply ld h _ _ ?_
  rw [Shape.rowMajor_val_four, Shape.rowMajor_val_two]
  show ((0 * 1 + 0) * N + r.val) * 128 + l.val = r.val * 128 + l.val
  omega

variable (A : S1x1x512x512.Idx → EReal) (B : S1x4x128x512.Idx → EReal) (C : S1x16x32x512.Idx → EReal)

/-- The planes at an index of given coordinates. -/
theorem plane_of (y : S12x512x128.Idx) (q : Fin 12) (r : Fin 512) (l : Fin 128) (h0 : (y 0).val = q.val) (h1 : (y 1).val = r.val)
    (h2 : (y 2).val = l.val) : plane A B C y = planes A B C q r l := by
  unfold plane
  congr 1
  · exact Fin.ext h0
  · exact Fin.ext h1
  · exact Fin.ext h2

theorem o1 (p lo : ℕ) (hp : 0 ≤ p ∧ p < 4) (hlo : lo = 128 * (p % 4)) (inb) (inbS)
    (a : Memref sig .tc .vmem S1x1x512x512 .bf16) (ha : a.IsWhole) (x : Vec Ideal S1x1x512x512 .bf16) (y : S1x512x128.Idx) :
    (shapeCast S1x512x128 (extf (F := Ideal) .f32 (φ := .bf16) (shapeCast S512x128 (View.readAt (Elt Ideal) a.view (Rect.unit (s := S1x1x512x512) ![0, 0, 0, lo] S1x1x512x128.size inb).toLoadRect (ha.unread x)) shapeCasts_S1x1x512x128_S512x128) bitsLt_bf16_f32) shapeCasts_S512x128_S1x512x128 y : EReal)
      = plane x B C ((Rect.unit (s := S12x512x128) ![p, 0, 0] S1x512x128.size inbS).emb y) := by
  have hy1 : (y 1).val < 512 := (y 1).isLt
  have hy2 : (y 2).val < 128 := (y 2).isLt
  have hy0 : (y 0).val < 1 := (y 0).isLt
  have e := plane_of x B C ((Rect.unit (s := S12x512x128) ![p, 0, 0] S1x512x128.size inbS).emb y) (⟨p, by omega⟩ : Fin 12) (⟨0 + 1 * (y 1).val, by omega⟩ : Fin 512) (⟨(y 2).val, hy2⟩ : Fin 128)
    (show p + 1 * (y 0).val = p by omega) rfl (show 0 + 1 * (y 2).val = (y 2).val by omega)
  rw [e]
  refine (cast_apply (N := 512) (α := EReal) (View.readAt (Elt Ideal) a.view (Rect.unit (s := S1x1x512x512) ![0, 0, 0, lo] S1x1x512x128.size inb).toLoadRect (ha.unread x)) shapeCasts_S1x1x512x128_S512x128 shapeCasts_S512x128_S1x512x128 y).trans ?_
  unfold planes
  simp only
  rw [if_pos (by omega)]
  rw [View.readAt_eq_ld, ha.read_unread]
  refine View.ld_unit_apply_of x _ _ _ _ _ fun d => ?_
  match d with
  | ⟨0, _⟩ => rfl
  | ⟨1, _⟩ => rfl
  | ⟨2, _⟩ => show 0 + 1 * (y 1).val = 0 + (y 1).val; omega
  | ⟨3, _⟩ => show 128 * (p % 4) + (y 2).val = lo + (y 2).val; omega

theorem o4 (p lo : ℕ) (r : ℕ) (hp : 4 ≤ p ∧ p < 8) (hlo : lo = 128 * (p % 4)) (hr : r < 4) (inb) (inbS) (sp)
    (a : Memref sig .tc .vmem S1x4x128x512 .bf16) (ha : a.IsWhole) (x : Vec Ideal S1x4x128x512 .bf16) (y : S1x128x128.Idx) :
    (shapeCast S1x128x128 (extf (F := Ideal) .f32 (φ := .bf16) (shapeCast S128x128 (View.readAt (Elt Ideal) a.view (Rect.unit (s := S1x4x128x512) ![0, r, 0, lo] S1x1x128x128.size inb).toLoadRect (ha.unread x)) shapeCasts_S1x1x128x128_S128x128) bitsLt_bf16_f32) shapeCasts_S128x128_S1x128x128 y : EReal)
      = plane A x C (({ off := ![p, r, 0], size := S1x128x128.size, stride := ![1, 4, 1], inb := inbS, stride_pos := sp } : Rect S12x512x128).emb y) := by
  have hy1 : (y 1).val < 128 := (y 1).isLt
  have hy2 : (y 2).val < 128 := (y 2).isLt
  have hy0 : (y 0).val < 1 := (y 0).isLt
  have e := plane_of A x C (({ off := ![p, r, 0], size := S1x128x128.size, stride := ![1, 4, 1], inb := inbS, stride_pos := sp } : Rect S12x512x128).emb y) (⟨p, by omega⟩ : Fin 12) (⟨r + 4 * (y 1).val, by omega⟩ : Fin 512) (⟨(y 2).val, hy2⟩ : Fin 128)
    (show p + 1 * (y 0).val = p by omega) rfl (show 0 + 1 * (y 2).val = (y 2).val by omega)
  rw [e]
  refine (cast_apply (N := 128) (α := EReal) (View.readAt (Elt Ideal) a.view (Rect.unit (s := S1x4x128x512) ![0, r, 0, lo] S1x1x128x128.size inb).toLoadRect (ha.unread x)) shapeCasts_S1x1x128x128_S128x128 shapeCasts_S128x128_S1x128x128 y).trans ?_
  unfold planes
  simp only
  rw [if_neg (by omega), if_pos (by omega)]
  rw [View.readAt_eq_ld, ha.read_unread]
  refine View.ld_unit_apply_of x _ _ _ _ _ fun d => ?_
  match d with
  | ⟨0, _⟩ => rfl
  | ⟨1, _⟩ => show (r + 4 * (y 1).val) % 4 = r + 0; omega
  | ⟨2, _⟩ => show (r + 4 * (y 1).val) / 4 = 0 + (y 1).val; omega
  | ⟨3, _⟩ => show 128 * (p % 4) + (y 2).val = lo + (y 2).val; omega

theorem o16 (p lo : ℕ) (r : ℕ) (hp : 8 ≤ p ∧ p < 12) (hlo : lo = 128 * (p % 4)) (hr : r < 16) (inb) (inbS) (sp)
    (a : Memref sig .tc .vmem S1x16x32x512 .bf16) (ha : a.IsWhole) (x : Vec Ideal S1x16x32x512 .bf16) (y : S1x32x128.Idx) :
    (shapeCast S1x32x128 (extf (F := Ideal) .f32 (φ := .bf16) (shapeCast S32x128 (View.readAt (Elt Ideal) a.view (Rect.unit (s := S1x16x32x512) ![0, r, 0, lo] S1x1x32x128.size inb).toLoadRect (ha.unread x)) shapeCasts_S1x1x32x128_S32x128) bitsLt_bf16_f32) shapeCasts_S32x128_S1x32x128 y : EReal)
      = plane A B x (({ off := ![p, r, 0], size := S1x32x128.size, stride := ![1, 16, 1], inb := inbS, stride_pos := sp } : Rect S12x512x128).emb y) := by
  have hy1 : (y 1).val < 32 := (y 1).isLt
  have hy2 : (y 2).val < 128 := (y 2).isLt
  have hy0 : (y 0).val < 1 := (y 0).isLt
  have e := plane_of A B x (({ off := ![p, r, 0], size := S1x32x128.size, stride := ![1, 16, 1], inb := inbS, stride_pos := sp } : Rect S12x512x128).emb y) (⟨p, by omega⟩ : Fin 12) (⟨r + 16 * (y 1).val, by omega⟩ : Fin 512) (⟨(y 2).val, hy2⟩ : Fin 128)
    (show p + 1 * (y 0).val = p by omega) rfl (show 0 + 1 * (y 2).val = (y 2).val by omega)
  rw [e]
  refine (cast_apply (N := 32) (α := EReal) (View.readAt (Elt Ideal) a.view (Rect.unit (s := S1x16x32x512) ![0, r, 0, lo] S1x1x32x128.size inb).toLoadRect (ha.unread x)) shapeCasts_S1x1x32x128_S32x128 shapeCasts_S32x128_S1x32x128 y).trans ?_
  unfold planes
  simp only
  rw [if_neg (by omega), if_neg (by omega)]
  rw [View.readAt_eq_ld, ha.read_unread]
  refine View.ld_unit_apply_of x _ _ _ _ _ fun d => ?_
  match d with
  | ⟨0, _⟩ => rfl
  | ⟨1, _⟩ => show (r + 16 * (y 1).val) % 16 = r + 0; omega
  | ⟨2, _⟩ => show (r + 16 * (y 1).val) / 16 = 0 + (y 1).val; omega
  | ⟨3, _⟩ => show 128 * (p % 4) + (y 2).val = lo + (y 2).val; omega

theorem l1 (p lo : ℕ) (hp : 0 ≤ p ∧ p < 4) (hlo : lo = 128 * (p % 4)) (inb) (inbS)
    (a : Memref sig .tc .vmem S1x1x512x512 .f32) (ha : a.IsWhole) (x : Vec Ideal S1x1x512x512 .f32) (y : S1x512x128.Idx) :
    (shapeCast S1x512x128 (shapeCast S512x128 (View.readAt (Elt Ideal) a.view (Rect.unit (s := S1x1x512x512) ![0, 0, 0, lo] S1x1x512x128.size inb).toLoadRect (ha.unread x)) shapeCasts_S1x1x512x128_S512x128) shapeCasts_S512x128_S1x512x128 y : EReal)
      = plane x B C ((Rect.unit (s := S12x512x128) ![p, 0, 0] S1x512x128.size inbS).emb y) := by
  have hy1 : (y 1).val < 512 := (y 1).isLt
  have hy2 : (y 2).val < 128 := (y 2).isLt
  have hy0 : (y 0).val < 1 := (y 0).isLt
  have e := plane_of x B C ((Rect.unit (s := S12x512x128) ![p, 0, 0] S1x512x128.size inbS).emb y) (⟨p, by omega⟩ : Fin 12) (⟨0 + 1 * (y 1).val, by omega⟩ : Fin 512) (⟨(y 2).val, hy2⟩ : Fin 128)
    (show p + 1 * (y 0).val = p by omega) rfl (show 0 + 1 * (y 2).val = (y 2).val by omega)
  rw [e]
  refine (cast_apply (N := 512) (α := EReal) (View.readAt (Elt Ideal) a.view (Rect.unit (s := S1x1x512x512) ![0, 0, 0, lo] S1x1x512x128.size inb).toLoadRect (ha.unread x)) shapeCasts_S1x1x512x128_S512x128 shapeCasts_S512x128_S1x512x128 y).trans ?_
  unfold planes
  simp only
  rw [if_pos (by omega)]
  rw [View.readAt_eq_ld, ha.read_unread]
  refine View.ld_unit_apply_of x _ _ _ _ _ fun d => ?_
  match d with
  | ⟨0, _⟩ => rfl
  | ⟨1, _⟩ => rfl
  | ⟨2, _⟩ => show 0 + 1 * (y 1).val = 0 + (y 1).val; omega
  | ⟨3, _⟩ => show 128 * (p % 4) + (y 2).val = lo + (y 2).val; omega

theorem l4 (p lo : ℕ) (r : ℕ) (hp : 4 ≤ p ∧ p < 8) (hlo : lo = 128 * (p % 4)) (hr : r < 4) (inb) (inbS) (sp)
    (a : Memref sig .tc .vmem S1x4x128x512 .f32) (ha : a.IsWhole) (x : Vec Ideal S1x4x128x512 .f32) (y : S1x128x128.Idx) :
    (shapeCast S1x128x128 (shapeCast S128x128 (View.readAt (Elt Ideal) a.view (Rect.unit (s := S1x4x128x512) ![0, r, 0, lo] S1x1x128x128.size inb).toLoadRect (ha.unread x)) shapeCasts_S1x1x128x128_S128x128) shapeCasts_S128x128_S1x128x128 y : EReal)
      = plane A x C (({ off := ![p, r, 0], size := S1x128x128.size, stride := ![1, 4, 1], inb := inbS, stride_pos := sp } : Rect S12x512x128).emb y) := by
  have hy1 : (y 1).val < 128 := (y 1).isLt
  have hy2 : (y 2).val < 128 := (y 2).isLt
  have hy0 : (y 0).val < 1 := (y 0).isLt
  have e := plane_of A x C (({ off := ![p, r, 0], size := S1x128x128.size, stride := ![1, 4, 1], inb := inbS, stride_pos := sp } : Rect S12x512x128).emb y) (⟨p, by omega⟩ : Fin 12) (⟨r + 4 * (y 1).val, by omega⟩ : Fin 512) (⟨(y 2).val, hy2⟩ : Fin 128)
    (show p + 1 * (y 0).val = p by omega) rfl (show 0 + 1 * (y 2).val = (y 2).val by omega)
  rw [e]
  refine (cast_apply (N := 128) (α := EReal) (View.readAt (Elt Ideal) a.view (Rect.unit (s := S1x4x128x512) ![0, r, 0, lo] S1x1x128x128.size inb).toLoadRect (ha.unread x)) shapeCasts_S1x1x128x128_S128x128 shapeCasts_S128x128_S1x128x128 y).trans ?_
  unfold planes
  simp only
  rw [if_neg (by omega), if_pos (by omega)]
  rw [View.readAt_eq_ld, ha.read_unread]
  refine View.ld_unit_apply_of x _ _ _ _ _ fun d => ?_
  match d with
  | ⟨0, _⟩ => rfl
  | ⟨1, _⟩ => show (r + 4 * (y 1).val) % 4 = r + 0; omega
  | ⟨2, _⟩ => show (r + 4 * (y 1).val) / 4 = 0 + (y 1).val; omega
  | ⟨3, _⟩ => show 128 * (p % 4) + (y 2).val = lo + (y 2).val; omega

theorem l16 (p lo : ℕ) (r : ℕ) (hp : 8 ≤ p ∧ p < 12) (hlo : lo = 128 * (p % 4)) (hr : r < 16) (inb) (inbS) (sp)
    (a : Memref sig .tc .vmem S1x16x32x512 .f32) (ha : a.IsWhole) (x : Vec Ideal S1x16x32x512 .f32) (y : S1x32x128.Idx) :
    (shapeCast S1x32x128 (shapeCast S32x128 (View.readAt (Elt Ideal) a.view (Rect.unit (s := S1x16x32x512) ![0, r, 0, lo] S1x1x32x128.size inb).toLoadRect (ha.unread x)) shapeCasts_S1x1x32x128_S32x128) shapeCasts_S32x128_S1x32x128 y : EReal)
      = plane A B x (({ off := ![p, r, 0], size := S1x32x128.size, stride := ![1, 16, 1], inb := inbS, stride_pos := sp } : Rect S12x512x128).emb y) := by
  have hy1 : (y 1).val < 32 := (y 1).isLt
  have hy2 : (y 2).val < 128 := (y 2).isLt
  have hy0 : (y 0).val < 1 := (y 0).isLt
  have e := plane_of A B x (({ off := ![p, r, 0], size := S1x32x128.size, stride := ![1, 16, 1], inb := inbS, stride_pos := sp } : Rect S12x512x128).emb y) (⟨p, by omega⟩ : Fin 12) (⟨r + 16 * (y 1).val, by omega⟩ : Fin 512) (⟨(y 2).val, hy2⟩ : Fin 128)
    (show p + 1 * (y 0).val = p by omega) rfl (show 0 + 1 * (y 2).val = (y 2).val by omega)
  rw [e]
  refine (cast_apply (N := 32) (α := EReal) (View.readAt (Elt Ideal) a.view (Rect.unit (s := S1x16x32x512) ![0, r, 0, lo] S1x1x32x128.size inb).toLoadRect (ha.unread x)) shapeCasts_S1x1x32x128_S32x128 shapeCasts_S32x128_S1x32x128 y).trans ?_
  unfold planes
  simp only
  rw [if_neg (by omega), if_neg (by omega)]
  rw [View.readAt_eq_ld, ha.read_unread]
  refine View.ld_unit_apply_of x _ _ _ _ _ fun d => ?_
  match d with
  | ⟨0, _⟩ => rfl
  | ⟨1, _⟩ => show (r + 16 * (y 1).val) % 16 = r + 0; omega
  | ⟨2, _⟩ => show (r + 16 * (y 1).val) / 16 = 0 + (y 1).val; omega
  | ⟨3, _⟩ => show 128 * (p % 4) + (y 2).val = lo + (y 2).val; omega

/-! Which store covers an index: the stores in their order. -/

/-- The store that covers a row of a plane. -/
def key (q r : ℕ) : ℕ := if q < 4 then q else if q < 8 then 4 + 4 * (q - 4) + r % 4 else 20 + 16 * (q - 8) + r % 16

theorem in1 (p : ℕ) (y : S12x512x128.Idx) (hp : p < 4) (h : key (y 0).val (y 1).val = p) (inbS) :
    y ∈ (Rect.unit (s := S12x512x128) ![p, 0, 0] S1x512x128.size inbS).set := by
  have h0 : (y 0).val < 12 := (y 0).isLt
  have h1 : (y 1).val < 512 := (y 1).isLt
  have h2 : (y 2).val < 128 := (y 2).isLt
  have e : (y 0).val = p := by unfold key at h; split at h <;> [omega; (split at h <;> omega)]
  rw [LoadRect.mem_set]
  intro a
  match a with
  | ⟨0, _⟩ => exact ⟨0, Nat.one_pos, show (y 0).val = p + 1 * 0 by omega⟩
  | ⟨1, _⟩ => exact ⟨(y 1).val, h1, show (y 1).val = 0 + 1 * (y 1).val by omega⟩
  | ⟨2, _⟩ => exact ⟨(y 2).val, h2, show (y 2).val = 0 + 1 * (y 2).val by omega⟩

theorem in4 (p r : ℕ) (y : S12x512x128.Idx) (hp : 4 ≤ p ∧ p < 8) (hr : r < 4) (h : key (y 0).val (y 1).val = 4 + 4 * (p - 4) + r) (inbS) (sp) :
    y ∈ ({ off := ![p, r, 0], size := S1x128x128.size, stride := ![1, 4, 1], inb := inbS, stride_pos := sp } : Rect S12x512x128).set := by
  have h0 : (y 0).val < 12 := (y 0).isLt
  have h1 : (y 1).val < 512 := (y 1).isLt
  have h2 : (y 2).val < 128 := (y 2).isLt
  have e : (y 0).val = p ∧ (y 1).val % 4 = r := by unfold key at h; split at h <;> [omega; (split at h <;> omega)]
  rw [LoadRect.mem_set]
  intro a
  match a with
  | ⟨0, _⟩ => exact ⟨0, Nat.one_pos, show (y 0).val = p + 1 * 0 by omega⟩
  | ⟨1, _⟩ => exact ⟨(y 1).val / 4, show (y 1).val / 4 < 128 by omega, show (y 1).val = r + 4 * ((y 1).val / 4) by omega⟩
  | ⟨2, _⟩ => exact ⟨(y 2).val, h2, show (y 2).val = 0 + 1 * (y 2).val by omega⟩

theorem in16 (p r : ℕ) (y : S12x512x128.Idx) (hp : 8 ≤ p ∧ p < 12) (hr : r < 16) (h : key (y 0).val (y 1).val = 20 + 16 * (p - 8) + r) (inbS) (sp) :
    y ∈ ({ off := ![p, r, 0], size := S1x32x128.size, stride := ![1, 16, 1], inb := inbS, stride_pos := sp } : Rect S12x512x128).set := by
  have h0 : (y 0).val < 12 := (y 0).isLt
  have h1 : (y 1).val < 512 := (y 1).isLt
  have h2 : (y 2).val < 128 := (y 2).isLt
  have e : (y 0).val = p ∧ (y 1).val % 16 = r := by unfold key at h; split at h <;> [omega; (split at h <;> omega)]
  rw [LoadRect.mem_set]
  intro a
  match a with
  | ⟨0, _⟩ => exact ⟨0, Nat.one_pos, show (y 0).val = p + 1 * 0 by omega⟩
  | ⟨1, _⟩ => exact ⟨(y 1).val / 16, show (y 1).val / 16 < 32 by omega, show (y 1).val = r + 16 * ((y 1).val / 16) by omega⟩
  | ⟨2, _⟩ => exact ⟨(y 2).val, h2, show (y 2).val = 0 + 1 * (y 2).val by omega⟩

theorem key_lt (y : S12x512x128.Idx) : key (y 0).val (y 1).val < 84 := by
  have h0 : (y 0).val < 12 := (y 0).isLt
  unfold key
  split
  · omega
  · split <;> omega

/-- A covering store found from the last one on. -/
theorem cov_cons {y : S12x512x128.Idx} {n : ℕ} {a : View.Piece (Elt Ideal) S12x512x128 .f32} {L : List (View.Piece (Elt Ideal) S12x512x128 .f32)}
    (hk : key (y 0).val (y 1).val < n + 1) (h1 : key (y 0).val (y 1).val = n → y ∈ a.1.set)
    (h2 : key (y 0).val (y 1).val < n → ∃ p ∈ L, y ∈ p.1.set) : ∃ p ∈ a :: L, y ∈ p.1.set := by
  rcases Nat.lt_or_eq_of_le (Nat.lt_succ_iff.1 hk) with h | h
  · obtain ⟨p, hp, hy⟩ := h2 h
    exact ⟨p, List.mem_cons_of_mem _ hp, hy⟩
  · exact ⟨a, List.mem_cons_self, h1 h⟩

end Cert.Merge

end
-- ==== Proof.Merge.Scratch.lean ====
/- What a step of the merge reads back of its two scratch planes, from the stores. -/
module

public import proofs.«01_k».proof.Proof.Merge.Planes

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx

variable (c : Dev nD)
variable (arg3 : Memref sig .tc .vmem S1x1x512x512 .bf16) (harg3 : arg3.IsWhole)
variable (arg4 : Memref sig .tc .vmem S1x4x128x512 .bf16) (harg4 : arg4.IsWhole)
variable (arg5 : Memref sig .tc .vmem S1x16x32x512 .bf16) (harg5 : arg5.IsWhole)
variable (arg6 : Memref sig .tc .vmem S1x1x512x512 .f32) (harg6 : arg6.IsWhole)
variable (arg7 : Memref sig .tc .vmem S1x4x128x512 .f32) (harg7 : arg7.IsWhole)
variable (arg8 : Memref sig .tc .vmem S1x16x32x512 .f32) (harg8 : arg8.IsWhole)
variable (arg14 arg15 : Memref sig .tc .vmem S12x512x128 .f32)
variable (x1 : Vec Ideal S1x1x512x512 .bf16) (x2 : Vec Ideal S1x4x128x512 .bf16) (x3 : Vec Ideal S1x16x32x512 .bf16)
variable (x4 : Vec Ideal S1x1x512x512 .f32) (x5 : Vec Ideal S1x4x128x512 .f32) (x6 : Vec Ideal S1x16x32x512 .f32)

set_option maxHeartbeats 2000000 in
theorem pieces_o : ∀ p ∈ kernelRun0_A.sl.HS0_84 (F := Ideal) c arg3 harg3 arg4 harg4 arg5 harg5 x1 x2 x3, ∀ x : p.1.shape.Idx, p.2 x = plane x1 x2 x3 (p.1.emb x) := by
  unfold kernelRun0_A.sl.HS0_84
  refine List.forall_mem_cons.2 ⟨fun y => o16 x1 x2 11 384 15 (by decide) rfl (by decide) _ _ _ _ _ _ y, ?_⟩
  refine List.forall_mem_cons.2 ⟨fun y => o16 x1 x2 11 384 14 (by decide) rfl (by decide) _ _ _ _ _ _ y, ?_⟩
  refine List.forall_mem_cons.2 ⟨fun y => o16 x1 x2 11 384 13 (by decide) rfl (by decide) _ _ _ _ _ _ y, ?_⟩
  refine List.forall_mem_cons.2 ⟨fun y => o16 x1 x2 11 384 12 (by decide) rfl (by decide) _ _ _ _ _ _ y, ?_⟩
  refine List.forall_mem_cons.2 ⟨fun y => o16 x1 x2 11 384 11 (by decide) rfl (by decide) _ _ _ _ _ _ y, ?_⟩
  refine List.forall_mem_cons.2 ⟨fun y => o16 x1 x2 11 384 10 (by decide) rfl (by decide) _ _ _ _ _ _ y, ?_⟩
  refine List.forall_mem_cons.2 ⟨fun y => o16 x1 x2 11 384 9 (by decide) rfl (by decide) _ _ _ _ _ _ y, ?_⟩
  refine List.forall_mem_cons.2 ⟨fun y => o16 x1 x2 11 384 8 (by decide) rfl (by decide) _ _ _ _ _ _ y, ?_⟩
  refine List.forall_mem_cons.2 ⟨fun y => o16 x1 x2 11 384 7 (by decide) rfl (by decide) _ _ _ _ _ _ y, ?_⟩
  refine List.forall_mem_cons.2 ⟨fun y => o16 x1 x2 11 384 6 (by decide) rfl (by decide) _ _ _ _ _ _ y, ?_⟩
  refine List.forall_mem_cons.2 ⟨fun y => o16 x1 x2 11 384 5 (by decide) rfl (by decide) _ _ _ _ _ _ y, ?_⟩
  refine List.forall_mem_cons.2 ⟨fun y => o16 x1 x2 11 384 4 (by decide) rfl (by decide) _ _ _ _ _ _ y, ?_⟩
  refine List.forall_mem_cons.2 ⟨fun y => o16 x1 x2 11 384 3 (by decide) rfl (by decide) _ _ _ _ _ _ y, ?_⟩
  refine List.forall_mem_cons.2 ⟨fun y => o16 x1 x2 11 384 2 (by decide) rfl (by decide) _ _ _ _ _ _ y, ?_⟩
  refine List.forall_mem_cons.2 ⟨fun y => o16 x1 x2 11 384 1 (by decide) rfl (by decide) _ _ _ _ _ _ y, ?_⟩
  refine List.forall_mem_cons.2 ⟨fun y => o16 x1 x2 11 384 0 (by decide) rfl (by decide) _ _ _ _ _ _ y, ?_⟩
  refine List.forall_mem_cons.2 ⟨fun y => o16 x1 x2 10 256 15 (by decide) rfl (by decide) _ _ _ _ _ _ y, ?_⟩
  refine List.forall_mem_cons.2 ⟨fun y => o16 x1 x2 10 256 14 (by decide) rfl (by decide) _ _ _ _ _ _ y, ?_⟩
  refine List.forall_mem_cons.2 ⟨fun y => o16 x1 x2 10 256 13 (by decide) rfl (by decide) _ _ _ _ _ _ y, ?_⟩
  refine List.forall_mem_cons.2 ⟨fun y => o16 x1 x2 10 256 12 (by decide) rfl (by decide) _ _ _ _ _ _ y, ?_⟩
  refine List.forall_mem_cons.2 ⟨fun y => o16 x1 x2 10 256 11 (by decide) rfl (by decide) _ _ _ _ _ _ y, ?_⟩
  refine List.forall_mem_cons.2 ⟨fun y => o16 x1 x2 10 256 10 (by decide) rfl (by decide) _ _ _ _ _ _ y, ?_⟩
  refine List.forall_mem_cons.2 ⟨fun y => o16 x1 x2 10 256 9 (by decide) rfl (by decide) _ _ _ _ _ _ y, ?_⟩
  refine List.forall_mem_cons.2 ⟨fun y => o16 x1 x2 10 256 8 (by decide) rfl (by decide) _ _ _ _ _ _ y, ?_⟩
  refine List.forall_mem_cons.2 ⟨fun y => o16 x1 x2 10 256 7 (by decide) rfl (by decide) _ _ _ _ _ _ y, ?_⟩
  refine List.forall_mem_cons.2 ⟨fun y => o16 x1 x2 10 256 6 (by decide) rfl (by decide) _ _ _ _ _ _ y, ?_⟩
  refine List.forall_mem_cons.2 ⟨fun y => o16 x1 x2 10 256 5 (by decide) rfl (by decide) _ _ _ _ _ _ y, ?_⟩
  refine List.forall_mem_cons.2 ⟨fun y => o16 x1 x2 10 256 4 (by decide) rfl (by decide) _ _ _ _ _ _ y, ?_⟩
  refine List.forall_mem_cons.2 ⟨fun y => o16 x1 x2 10 256 3 (by decide) rfl (by decide) _ _ _ _ _ _ y, ?_⟩
  refine List.forall_mem_cons.2 ⟨fun y => o16 x1 x2 10 256 2 (by decide) rfl (by decide) _ _ _ _ _ _ y, ?_⟩
  refine List.forall_mem_cons.2 ⟨fun y => o16 x1 x2 10 256 1 (by decide) rfl (by decide) _ _ _ _ _ _ y, ?_⟩
  refine List.forall_mem_cons.2 ⟨fun y => o16 x1 x2 10 256 0 (by decide) rfl (by decide) _ _ _ _ _ _ y, ?_⟩
  refine List.forall_mem_cons.2 ⟨fun y => o16 x1 x2 9 128 15 (by decide) rfl (by decide) _ _ _ _ _ _ y, ?_⟩
  refine List.forall_mem_cons.2 ⟨fun y => o16 x1 x2 9 128 14 (by decide) rfl (by decide) _ _ _ _ _ _ y, ?_⟩
  refine List.forall_mem_cons.2 ⟨fun y => o16 x1 x2 9 128 13 (by decide) rfl (by decide) _ _ _ _ _ _ y, ?_⟩
  refine List.forall_mem_cons.2 ⟨fun y => o16 x1 x2 9 128 12 (by decide) rfl (by decide) _ _ _ _ _ _ y, ?_⟩
  refine List.forall_mem_cons.2 ⟨fun y => o16 x1 x2 9 128 11 (by decide) rfl (by decide) _ _ _ _ _ _ y, ?_⟩
  refine List.forall_mem_cons.2 ⟨fun y => o16 x1 x2 9 128 10 (by decide) rfl (by decide) _ _ _ _ _ _ y, ?_⟩
  refine List.forall_mem_cons.2 ⟨fun y => o16 x1 x2 9 128 9 (by decide) rfl (by decide) _ _ _ _ _ _ y, ?_⟩
  refine List.forall_mem_cons.2 ⟨fun y => o16 x1 x2 9 128 8 (by decide) rfl (by decide) _ _ _ _ _ _ y, ?_⟩
  refine List.forall_mem_cons.2 ⟨fun y => o16 x1 x2 9 128 7 (by decide) rfl (by decide) _ _ _ _ _ _ y, ?_⟩
  refine List.forall_mem_cons.2 ⟨fun y => o16 x1 x2 9 128 6 (by decide) rfl (by decide) _ _ _ _ _ _ y, ?_⟩
  refine List.forall_mem_cons.2 ⟨fun y => o16 x1 x2 9 128 5 (by decide) rfl (by decide) _ _ _ _ _ _ y, ?_⟩
  refine List.forall_mem_cons.2 ⟨fun y => o16 x1 x2 9 128 4 (by decide) rfl (by decide) _ _ _ _ _ _ y, ?_⟩
  refine List.forall_mem_cons.2 ⟨fun y => o16 x1 x2 9 128 3 (by decide) rfl (by decide) _ _ _ _ _ _ y, ?_⟩
  refine List.forall_mem_cons.2 ⟨fun y => o16 x1 x2 9 128 2 (by decide) rfl (by decide) _ _ _ _ _ _ y, ?_⟩
  refine List.forall_mem_cons.2 ⟨fun y => o16 x1 x2 9 128 1 (by decide) rfl (by decide) _ _ _ _ _ _ y, ?_⟩
  refine List.forall_mem_cons.2 ⟨fun y => o16 x1 x2 9 128 0 (by decide) rfl (by decide) _ _ _ _ _ _ y, ?_⟩
  refine List.forall_mem_cons.2 ⟨fun y => o16 x1 x2 8 0 15 (by decide) rfl (by decide) _ _ _ _ _ _ y, ?_⟩
  refine List.forall_mem_cons.2 ⟨fun y => o16 x1 x2 8 0 14 (by decide) rfl (by decide) _ _ _ _ _ _ y, ?_⟩
  refine List.forall_mem_cons.2 ⟨fun y => o16 x1 x2 8 0 13 (by decide) rfl (by decide) _ _ _ _ _ _ y, ?_⟩
  refine List.forall_mem_cons.2 ⟨fun y => o16 x1 x2 8 0 12 (by decide) rfl (by decide) _ _ _ _ _ _ y, ?_⟩
  refine List.forall_mem_cons.2 ⟨fun y => o16 x1 x2 8 0 11 (by decide) rfl (by decide) _ _ _ _ _ _ y, ?_⟩
  refine List.forall_mem_cons.2 ⟨fun y => o16 x1 x2 8 0 10 (by decide) rfl (by decide) _ _ _ _ _ _ y, ?_⟩
  refine List.forall_mem_cons.2 ⟨fun y => o16 x1 x2 8 0 9 (by decide) rfl (by decide) _ _ _ _ _ _ y, ?_⟩
  refine List.forall_mem_cons.2 ⟨fun y => o16 x1 x2 8 0 8 (by decide) rfl (by decide) _ _ _ _ _ _ y, ?_⟩
  refine List.forall_mem_cons.2 ⟨fun y => o16 x1 x2 8 0 7 (by decide) rfl (by decide) _ _ _ _ _ _ y, ?_⟩
  refine List.forall_mem_cons.2 ⟨fun y => o16 x1 x2 8 0 6 (by decide) rfl (by decide) _ _ _ _ _ _ y, ?_⟩
  refine List.forall_mem_cons.2 ⟨fun y => o16 x1 x2 8 0 5 (by decide) rfl (by decide) _ _ _ _ _ _ y, ?_⟩
  refine List.forall_mem_cons.2 ⟨fun y => o16 x1 x2 8 0 4 (by decide) rfl (by decide) _ _ _ _ _ _ y, ?_⟩
  refine List.forall_mem_cons.2 ⟨fun y => o16 x1 x2 8 0 3 (by decide) rfl (by decide) _ _ _ _ _ _ y, ?_⟩
  refine List.forall_mem_cons.2 ⟨fun y => o16 x1 x2 8 0 2 (by decide) rfl (by decide) _ _ _ _ _ _ y, ?_⟩
  refine List.forall_mem_cons.2 ⟨fun y => o16 x1 x2 8 0 1 (by decide) rfl (by decide) _ _ _ _ _ _ y, ?_⟩
  refine List.forall_mem_cons.2 ⟨fun y => o16 x1 x2 8 0 0 (by decide) rfl (by decide) _ _ _ _ _ _ y, ?_⟩
  refine List.forall_mem_cons.2 ⟨fun y => o4 x1 x3 7 384 3 (by decide) rfl (by decide) _ _ _ _ _ _ y, ?_⟩
  refine List.forall_mem_cons.2 ⟨fun y => o4 x1 x3 7 384 2 (by decide) rfl (by decide) _ _ _ _ _ _ y, ?_⟩
  refine List.forall_mem_cons.2 ⟨fun y => o4 x1 x3 7 384 1 (by decide) rfl (by decide) _ _ _ _ _ _ y, ?_⟩
  refine List.forall_mem_cons.2 ⟨fun y => o4 x1 x3 7 384 0 (by decide) rfl (by decide) _ _ _ _ _ _ y, ?_⟩
  refine List.forall_mem_cons.2 ⟨fun y => o4 x1 x3 6 256 3 (by decide) rfl (by decide) _ _ _ _ _ _ y, ?_⟩
  refine List.forall_mem_cons.2 ⟨fun y => o4 x1 x3 6 256 2 (by decide) rfl (by decide) _ _ _ _ _ _ y, ?_⟩
  refine List.forall_mem_cons.2 ⟨fun y => o4 x1 x3 6 256 1 (by decide) rfl (by decide) _ _ _ _ _ _ y, ?_⟩
  refine List.forall_mem_cons.2 ⟨fun y => o4 x1 x3 6 256 0 (by decide) rfl (by decide) _ _ _ _ _ _ y, ?_⟩
  refine List.forall_mem_cons.2 ⟨fun y => o4 x1 x3 5 128 3 (by decide) rfl (by decide) _ _ _ _ _ _ y, ?_⟩
  refine List.forall_mem_cons.2 ⟨fun y => o4 x1 x3 5 128 2 (by decide) rfl (by decide) _ _ _ _ _ _ y, ?_⟩
  refine List.forall_mem_cons.2 ⟨fun y => o4 x1 x3 5 128 1 (by decide) rfl (by decide) _ _ _ _ _ _ y, ?_⟩
  refine List.forall_mem_cons.2 ⟨fun y => o4 x1 x3 5 128 0 (by decide) rfl (by decide) _ _ _ _ _ _ y, ?_⟩
  refine List.forall_mem_cons.2 ⟨fun y => o4 x1 x3 4 0 3 (by decide) rfl (by decide) _ _ _ _ _ _ y, ?_⟩
  refine List.forall_mem_cons.2 ⟨fun y => o4 x1 x3 4 0 2 (by decide) rfl (by decide) _ _ _ _ _ _ y, ?_⟩
  refine List.forall_mem_cons.2 ⟨fun y => o4 x1 x3 4 0 1 (by decide) rfl (by decide) _ _ _ _ _ _ y, ?_⟩
  refine List.forall_mem_cons.2 ⟨fun y => o4 x1 x3 4 0 0 (by decide) rfl (by decide) _ _ _ _ _ _ y, ?_⟩
  refine List.forall_mem_cons.2 ⟨fun y => o1 x2 x3 3 384 (by decide) rfl _ inb_S12x512x128_S1x512x128_3_0_0 _ _ _ y, ?_⟩
  refine List.forall_mem_cons.2 ⟨fun y => o1 x2 x3 2 256 (by decide) rfl _ inb_S12x512x128_S1x512x128_2_0_0 _ _ _ y, ?_⟩
  refine List.forall_mem_cons.2 ⟨fun y => o1 x2 x3 1 128 (by decide) rfl _ inb_S12x512x128_S1x512x128_1_0_0 _ _ _ y, ?_⟩
  refine List.forall_mem_cons.2 ⟨fun y => o1 x2 x3 0 0 (by decide) rfl _ inb_S12x512x128_S1x512x128_0_0_0 _ _ _ y, ?_⟩
  exact fun p hp => absurd hp List.not_mem_nil

set_option maxHeartbeats 2000000 in
theorem cover_o (y : S12x512x128.Idx) : ∃ p ∈ kernelRun0_A.sl.HS0_84 (F := Ideal) c arg3 harg3 arg4 harg4 arg5 harg5 x1 x2 x3, y ∈ p.1.set := by
  have hk := key_lt y
  unfold kernelRun0_A.sl.HS0_84
  refine cov_cons hk (fun h => in16 11 15 y (by decide) (by decide) h _ _) fun hn => ?_
  replace hk := hn; clear hn
  refine cov_cons hk (fun h => in16 11 14 y (by decide) (by decide) h _ _) fun hn => ?_
  replace hk := hn; clear hn
  refine cov_cons hk (fun h => in16 11 13 y (by decide) (by decide) h _ _) fun hn => ?_
  replace hk := hn; clear hn
  refine cov_cons hk (fun h => in16 11 12 y (by decide) (by decide) h _ _) fun hn => ?_
  replace hk := hn; clear hn
  refine cov_cons hk (fun h => in16 11 11 y (by decide) (by decide) h _ _) fun hn => ?_
  replace hk := hn; clear hn
  refine cov_cons hk (fun h => in16 11 10 y (by decide) (by decide) h _ _) fun hn => ?_
  replace hk := hn; clear hn
  refine cov_cons hk (fun h => in16 11 9 y (by decide) (by decide) h _ _) fun hn => ?_
  replace hk := hn; clear hn
  refine cov_cons hk (fun h => in16 11 8 y (by decide) (by decide) h _ _) fun hn => ?_
  replace hk := hn; clear hn
  refine cov_cons hk (fun h => in16 11 7 y (by decide) (by decide) h _ _) fun hn => ?_
  replace hk := hn; clear hn
  refine cov_cons hk (fun h => in16 11 6 y (by decide) (by decide) h _ _) fun hn => ?_
  replace hk := hn; clear hn
  refine cov_cons hk (fun h => in16 11 5 y (by decide) (by decide) h _ _) fun hn => ?_
  replace hk := hn; clear hn
  refine cov_cons hk (fun h => in16 11 4 y (by decide) (by decide) h _ _) fun hn => ?_
  replace hk := hn; clear hn
  refine cov_cons hk (fun h => in16 11 3 y (by decide) (by decide) h _ _) fun hn => ?_
  replace hk := hn; clear hn
  refine cov_cons hk (fun h => in16 11 2 y (by decide) (by decide) h _ _) fun hn => ?_
  replace hk := hn; clear hn
  refine cov_cons hk (fun h => in16 11 1 y (by decide) (by decide) h _ _) fun hn => ?_
  replace hk := hn; clear hn
  refine cov_cons hk (fun h => in16 11 0 y (by decide) (by decide) h _ _) fun hn => ?_
  replace hk := hn; clear hn
  refine cov_cons hk (fun h => in16 10 15 y (by decide) (by decide) h _ _) fun hn => ?_
  replace hk := hn; clear hn
  refine cov_cons hk (fun h => in16 10 14 y (by decide) (by decide) h _ _) fun hn => ?_
  replace hk := hn; clear hn
  refine cov_cons hk (fun h => in16 10 13 y (by decide) (by decide) h _ _) fun hn => ?_
  replace hk := hn; clear hn
  refine cov_cons hk (fun h => in16 10 12 y (by decide) (by decide) h _ _) fun hn => ?_
  replace hk := hn; clear hn
  refine cov_cons hk (fun h => in16 10 11 y (by decide) (by decide) h _ _) fun hn => ?_
  replace hk := hn; clear hn
  refine cov_cons hk (fun h => in16 10 10 y (by decide) (by decide) h _ _) fun hn => ?_
  replace hk := hn; clear hn
  refine cov_cons hk (fun h => in16 10 9 y (by decide) (by decide) h _ _) fun hn => ?_
  replace hk := hn; clear hn
  refine cov_cons hk (fun h => in16 10 8 y (by decide) (by decide) h _ _) fun hn => ?_
  replace hk := hn; clear hn
  refine cov_cons hk (fun h => in16 10 7 y (by decide) (by decide) h _ _) fun hn => ?_
  replace hk := hn; clear hn
  refine cov_cons hk (fun h => in16 10 6 y (by decide) (by decide) h _ _) fun hn => ?_
  replace hk := hn; clear hn
  refine cov_cons hk (fun h => in16 10 5 y (by decide) (by decide) h _ _) fun hn => ?_
  replace hk := hn; clear hn
  refine cov_cons hk (fun h => in16 10 4 y (by decide) (by decide) h _ _) fun hn => ?_
  replace hk := hn; clear hn
  refine cov_cons hk (fun h => in16 10 3 y (by decide) (by decide) h _ _) fun hn => ?_
  replace hk := hn; clear hn
  refine cov_cons hk (fun h => in16 10 2 y (by decide) (by decide) h _ _) fun hn => ?_
  replace hk := hn; clear hn
  refine cov_cons hk (fun h => in16 10 1 y (by decide) (by decide) h _ _) fun hn => ?_
  replace hk := hn; clear hn
  refine cov_cons hk (fun h => in16 10 0 y (by decide) (by decide) h _ _) fun hn => ?_
  replace hk := hn; clear hn
  refine cov_cons hk (fun h => in16 9 15 y (by decide) (by decide) h _ _) fun hn => ?_
  replace hk := hn; clear hn
  refine cov_cons hk (fun h => in16 9 14 y (by decide) (by decide) h _ _) fun hn => ?_
  replace hk := hn; clear hn
  refine cov_cons hk (fun h => in16 9 13 y (by decide) (by decide) h _ _) fun hn => ?_
  replace hk := hn; clear hn
  refine cov_cons hk (fun h => in16 9 12 y (by decide) (by decide) h _ _) fun hn => ?_
  replace hk := hn; clear hn
  refine cov_cons hk (fun h => in16 9 11 y (by decide) (by decide) h _ _) fun hn => ?_
  replace hk := hn; clear hn
  refine cov_cons hk (fun h => in16 9 10 y (by decide) (by decide) h _ _) fun hn => ?_
  replace hk := hn; clear hn
  refine cov_cons hk (fun h => in16 9 9 y (by decide) (by decide) h _ _) fun hn => ?_
  replace hk := hn; clear hn
  refine cov_cons hk (fun h => in16 9 8 y (by decide) (by decide) h _ _) fun hn => ?_
  replace hk := hn; clear hn
  refine cov_cons hk (fun h => in16 9 7 y (by decide) (by decide) h _ _) fun hn => ?_
  replace hk := hn; clear hn
  refine cov_cons hk (fun h => in16 9 6 y (by decide) (by decide) h _ _) fun hn => ?_
  replace hk := hn; clear hn
  refine cov_cons hk (fun h => in16 9 5 y (by decide) (by decide) h _ _) fun hn => ?_
  replace hk := hn; clear hn
  refine cov_cons hk (fun h => in16 9 4 y (by decide) (by decide) h _ _) fun hn => ?_
  replace hk := hn; clear hn
  refine cov_cons hk (fun h => in16 9 3 y (by decide) (by decide) h _ _) fun hn => ?_
  replace hk := hn; clear hn
  refine cov_cons hk (fun h => in16 9 2 y (by decide) (by decide) h _ _) fun hn => ?_
  replace hk := hn; clear hn
  refine cov_cons hk (fun h => in16 9 1 y (by decide) (by decide) h _ _) fun hn => ?_
  replace hk := hn; clear hn
  refine cov_cons hk (fun h => in16 9 0 y (by decide) (by decide) h _ _) fun hn => ?_
  replace hk := hn; clear hn
  refine cov_cons hk (fun h => in16 8 15 y (by decide) (by decide) h _ _) fun hn => ?_
  replace hk := hn; clear hn
  refine cov_cons hk (fun h => in16 8 14 y (by decide) (by decide) h _ _) fun hn => ?_
  replace hk := hn; clear hn
  refine cov_cons hk (fun h => in16 8 13 y (by decide) (by decide) h _ _) fun hn => ?_
  replace hk := hn; clear hn
  refine cov_cons hk (fun h => in16 8 12 y (by decide) (by decide) h _ _) fun hn => ?_
  replace hk := hn; clear hn
  refine cov_cons hk (fun h => in16 8 11 y (by decide) (by decide) h _ _) fun hn => ?_
  replace hk := hn; clear hn
  refine cov_cons hk (fun h => in16 8 10 y (by decide) (by decide) h _ _) fun hn => ?_
  replace hk := hn; clear hn
  refine cov_cons hk (fun h => in16 8 9 y (by decide) (by decide) h _ _) fun hn => ?_
  replace hk := hn; clear hn
  refine cov_cons hk (fun h => in16 8 8 y (by decide) (by decide) h _ _) fun hn => ?_
  replace hk := hn; clear hn
  refine cov_cons hk (fun h => in16 8 7 y (by decide) (by decide) h _ _) fun hn => ?_
  replace hk := hn; clear hn
  refine cov_cons hk (fun h => in16 8 6 y (by decide) (by decide) h _ _) fun hn => ?_
  replace hk := hn; clear hn
  refine cov_cons hk (fun h => in16 8 5 y (by decide) (by decide) h _ _) fun hn => ?_
  replace hk := hn; clear hn
  refine cov_cons hk (fun h => in16 8 4 y (by decide) (by decide) h _ _) fun hn => ?_
  replace hk := hn; clear hn
  refine cov_cons hk (fun h => in16 8 3 y (by decide) (by decide) h _ _) fun hn => ?_
  replace hk := hn; clear hn
  refine cov_cons hk (fun h => in16 8 2 y (by decide) (by decide) h _ _) fun hn => ?_
  replace hk := hn; clear hn
  refine cov_cons hk (fun h => in16 8 1 y (by decide) (by decide) h _ _) fun hn => ?_
  replace hk := hn; clear hn
  refine cov_cons hk (fun h => in16 8 0 y (by decide) (by decide) h _ _) fun hn => ?_
  replace hk := hn; clear hn
  refine cov_cons hk (fun h => in4 7 3 y (by decide) (by decide) h _ _) fun hn => ?_
  replace hk := hn; clear hn
  refine cov_cons hk (fun h => in4 7 2 y (by decide) (by decide) h _ _) fun hn => ?_
  replace hk := hn; clear hn
  refine cov_cons hk (fun h => in4 7 1 y (by decide) (by decide) h _ _) fun hn => ?_
  replace hk := hn; clear hn
  refine cov_cons hk (fun h => in4 7 0 y (by decide) (by decide) h _ _) fun hn => ?_
  replace hk := hn; clear hn
  refine cov_cons hk (fun h => in4 6 3 y (by decide) (by decide) h _ _) fun hn => ?_
  replace hk := hn; clear hn
  refine cov_cons hk (fun h => in4 6 2 y (by decide) (by decide) h _ _) fun hn => ?_
  replace hk := hn; clear hn
  refine cov_cons hk (fun h => in4 6 1 y (by decide) (by decide) h _ _) fun hn => ?_
  replace hk := hn; clear hn
  refine cov_cons hk (fun h => in4 6 0 y (by decide) (by decide) h _ _) fun hn => ?_
  replace hk := hn; clear hn
  refine cov_cons hk (fun h => in4 5 3 y (by decide) (by decide) h _ _) fun hn => ?_
  replace hk := hn; clear hn
  refine cov_cons hk (fun h => in4 5 2 y (by decide) (by decide) h _ _) fun hn => ?_
  replace hk := hn; clear hn
  refine cov_cons hk (fun h => in4 5 1 y (by decide) (by decide) h _ _) fun hn => ?_
  replace hk := hn; clear hn
  refine cov_cons hk (fun h => in4 5 0 y (by decide) (by decide) h _ _) fun hn => ?_
  replace hk := hn; clear hn
  refine cov_cons hk (fun h => in4 4 3 y (by decide) (by decide) h _ _) fun hn => ?_
  replace hk := hn; clear hn
  refine cov_cons hk (fun h => in4 4 2 y (by decide) (by decide) h _ _) fun hn => ?_
  replace hk := hn; clear hn
  refine cov_cons hk (fun h => in4 4 1 y (by decide) (by decide) h _ _) fun hn => ?_
  replace hk := hn; clear hn
  refine cov_cons hk (fun h => in4 4 0 y (by decide) (by decide) h _ _) fun hn => ?_
  replace hk := hn; clear hn
  refine cov_cons hk (fun h => in1 3 y (by decide) h inb_S12x512x128_S1x512x128_3_0_0) fun hn => ?_
  replace hk := hn; clear hn
  refine cov_cons hk (fun h => in1 2 y (by decide) h inb_S12x512x128_S1x512x128_2_0_0) fun hn => ?_
  replace hk := hn; clear hn
  refine cov_cons hk (fun h => in1 1 y (by decide) h inb_S12x512x128_S1x512x128_1_0_0) fun hn => ?_
  replace hk := hn; clear hn
  refine cov_cons hk (fun h => in1 0 y (by decide) h inb_S12x512x128_S1x512x128_0_0_0) fun hn => ?_
  replace hk := hn; clear hn
  exact absurd hk (Nat.not_lt_zero _)

/-- A plane as the step reads it back. -/
theorem read_o (q : Fin 12) (inb) : arg14.view.readCov (kernelRun0_A.sl.HS0_84 (F := Ideal) c arg3 harg3 arg4 harg4 arg5 harg5 x1 x2 x3) (Rect.unit (s := S12x512x128) ![q.val, 0, 0] S1x512x128.size inb).toLoadRect
    = fun x => planes x1 x2 x3 q ⟨(x 1).val, (x 1).isLt⟩ ⟨(x 2).val, (x 2).isLt⟩ := by
  rw [View.readCov_eq_canon']
  funext x
  have h0 : (x 0).val < 1 := (x 0).isLt
  refine (View.canon_apply_of_pieces _ _ (pieces_o c arg3 harg3 arg4 harg4 arg5 harg5 x1 x2 x3) _ (cover_o c arg3 harg3 arg4 harg4 arg5 harg5 x1 x2 x3 _)).trans ?_
  unfold plane
  congr 1
  · exact Fin.ext ((Rect.idx_unit_val _ _ _ _ 0).trans (show q.val + (x 0).val = q.val by omega))
  · exact Fin.ext ((Rect.idx_unit_val _ _ _ _ 1).trans (show 0 + (x 1).val = (x 1).val by omega))
  · exact Fin.ext ((Rect.idx_unit_val _ _ _ _ 2).trans (show 0 + (x 2).val = (x 2).val by omega))

set_option maxHeartbeats 2000000 in
theorem pieces_l : ∀ p ∈ kernelRun0_A.sl.HS1_84 (F := Ideal) c arg6 harg6 arg7 harg7 arg8 harg8 x4 x5 x6, ∀ x : p.1.shape.Idx, p.2 x = plane x4 x5 x6 (p.1.emb x) := by
  unfold kernelRun0_A.sl.HS1_84
  refine List.forall_mem_cons.2 ⟨fun y => l16 x4 x5 11 384 15 (by decide) rfl (by decide) _ _ _ _ _ _ y, ?_⟩
  refine List.forall_mem_cons.2 ⟨fun y => l16 x4 x5 11 384 14 (by decide) rfl (by decide) _ _ _ _ _ _ y, ?_⟩
  refine List.forall_mem_cons.2 ⟨fun y => l16 x4 x5 11 384 13 (by decide) rfl (by decide) _ _ _ _ _ _ y, ?_⟩
  refine List.forall_mem_cons.2 ⟨fun y => l16 x4 x5 11 384 12 (by decide) rfl (by decide) _ _ _ _ _ _ y, ?_⟩
  refine List.forall_mem_cons.2 ⟨fun y => l16 x4 x5 11 384 11 (by decide) rfl (by decide) _ _ _ _ _ _ y, ?_⟩
  refine List.forall_mem_cons.2 ⟨fun y => l16 x4 x5 11 384 10 (by decide) rfl (by decide) _ _ _ _ _ _ y, ?_⟩
  refine List.forall_mem_cons.2 ⟨fun y => l16 x4 x5 11 384 9 (by decide) rfl (by decide) _ _ _ _ _ _ y, ?_⟩
  refine List.forall_mem_cons.2 ⟨fun y => l16 x4 x5 11 384 8 (by decide) rfl (by decide) _ _ _ _ _ _ y, ?_⟩
  refine List.forall_mem_cons.2 ⟨fun y => l16 x4 x5 11 384 7 (by decide) rfl (by decide) _ _ _ _ _ _ y, ?_⟩
  refine List.forall_mem_cons.2 ⟨fun y => l16 x4 x5 11 384 6 (by decide) rfl (by decide) _ _ _ _ _ _ y, ?_⟩
  refine List.forall_mem_cons.2 ⟨fun y => l16 x4 x5 11 384 5 (by decide) rfl (by decide) _ _ _ _ _ _ y, ?_⟩
  refine List.forall_mem_cons.2 ⟨fun y => l16 x4 x5 11 384 4 (by decide) rfl (by decide) _ _ _ _ _ _ y, ?_⟩
  refine List.forall_mem_cons.2 ⟨fun y => l16 x4 x5 11 384 3 (by decide) rfl (by decide) _ _ _ _ _ _ y, ?_⟩
  refine List.forall_mem_cons.2 ⟨fun y => l16 x4 x5 11 384 2 (by decide) rfl (by decide) _ _ _ _ _ _ y, ?_⟩
  refine List.forall_mem_cons.2 ⟨fun y => l16 x4 x5 11 384 1 (by decide) rfl (by decide) _ _ _ _ _ _ y, ?_⟩
  refine List.forall_mem_cons.2 ⟨fun y => l16 x4 x5 11 384 0 (by decide) rfl (by decide) _ _ _ _ _ _ y, ?_⟩
  refine List.forall_mem_cons.2 ⟨fun y => l16 x4 x5 10 256 15 (by decide) rfl (by decide) _ _ _ _ _ _ y, ?_⟩
  refine List.forall_mem_cons.2 ⟨fun y => l16 x4 x5 10 256 14 (by decide) rfl (by decide) _ _ _ _ _ _ y, ?_⟩
  refine List.forall_mem_cons.2 ⟨fun y => l16 x4 x5 10 256 13 (by decide) rfl (by decide) _ _ _ _ _ _ y, ?_⟩
  refine List.forall_mem_cons.2 ⟨fun y => l16 x4 x5 10 256 12 (by decide) rfl (by decide) _ _ _ _ _ _ y, ?_⟩
  refine List.forall_mem_cons.2 ⟨fun y => l16 x4 x5 10 256 11 (by decide) rfl (by decide) _ _ _ _ _ _ y, ?_⟩
  refine List.forall_mem_cons.2 ⟨fun y => l16 x4 x5 10 256 10 (by decide) rfl (by decide) _ _ _ _ _ _ y, ?_⟩
  refine List.forall_mem_cons.2 ⟨fun y => l16 x4 x5 10 256 9 (by decide) rfl (by decide) _ _ _ _ _ _ y, ?_⟩
  refine List.forall_mem_cons.2 ⟨fun y => l16 x4 x5 10 256 8 (by decide) rfl (by decide) _ _ _ _ _ _ y, ?_⟩
  refine List.forall_mem_cons.2 ⟨fun y => l16 x4 x5 10 256 7 (by decide) rfl (by decide) _ _ _ _ _ _ y, ?_⟩
  refine List.forall_mem_cons.2 ⟨fun y => l16 x4 x5 10 256 6 (by decide) rfl (by decide) _ _ _ _ _ _ y, ?_⟩
  refine List.forall_mem_cons.2 ⟨fun y => l16 x4 x5 10 256 5 (by decide) rfl (by decide) _ _ _ _ _ _ y, ?_⟩
  refine List.forall_mem_cons.2 ⟨fun y => l16 x4 x5 10 256 4 (by decide) rfl (by decide) _ _ _ _ _ _ y, ?_⟩
  refine List.forall_mem_cons.2 ⟨fun y => l16 x4 x5 10 256 3 (by decide) rfl (by decide) _ _ _ _ _ _ y, ?_⟩
  refine List.forall_mem_cons.2 ⟨fun y => l16 x4 x5 10 256 2 (by decide) rfl (by decide) _ _ _ _ _ _ y, ?_⟩
  refine List.forall_mem_cons.2 ⟨fun y => l16 x4 x5 10 256 1 (by decide) rfl (by decide) _ _ _ _ _ _ y, ?_⟩
  refine List.forall_mem_cons.2 ⟨fun y => l16 x4 x5 10 256 0 (by decide) rfl (by decide) _ _ _ _ _ _ y, ?_⟩
  refine List.forall_mem_cons.2 ⟨fun y => l16 x4 x5 9 128 15 (by decide) rfl (by decide) _ _ _ _ _ _ y, ?_⟩
  refine List.forall_mem_cons.2 ⟨fun y => l16 x4 x5 9 128 14 (by decide) rfl (by decide) _ _ _ _ _ _ y, ?_⟩
  refine List.forall_mem_cons.2 ⟨fun y => l16 x4 x5 9 128 13 (by decide) rfl (by decide) _ _ _ _ _ _ y, ?_⟩
  refine List.forall_mem_cons.2 ⟨fun y => l16 x4 x5 9 128 12 (by decide) rfl (by decide) _ _ _ _ _ _ y, ?_⟩
  refine List.forall_mem_cons.2 ⟨fun y => l16 x4 x5 9 128 11 (by decide) rfl (by decide) _ _ _ _ _ _ y, ?_⟩
  refine List.forall_mem_cons.2 ⟨fun y => l16 x4 x5 9 128 10 (by decide) rfl (by decide) _ _ _ _ _ _ y, ?_⟩
  refine List.forall_mem_cons.2 ⟨fun y => l16 x4 x5 9 128 9 (by decide) rfl (by decide) _ _ _ _ _ _ y, ?_⟩
  refine List.forall_mem_cons.2 ⟨fun y => l16 x4 x5 9 128 8 (by decide) rfl (by decide) _ _ _ _ _ _ y, ?_⟩
  refine List.forall_mem_cons.2 ⟨fun y => l16 x4 x5 9 128 7 (by decide) rfl (by decide) _ _ _ _ _ _ y, ?_⟩
  refine List.forall_mem_cons.2 ⟨fun y => l16 x4 x5 9 128 6 (by decide) rfl (by decide) _ _ _ _ _ _ y, ?_⟩
  refine List.forall_mem_cons.2 ⟨fun y => l16 x4 x5 9 128 5 (by decide) rfl (by decide) _ _ _ _ _ _ y, ?_⟩
  refine List.forall_mem_cons.2 ⟨fun y => l16 x4 x5 9 128 4 (by decide) rfl (by decide) _ _ _ _ _ _ y, ?_⟩
  refine List.forall_mem_cons.2 ⟨fun y => l16 x4 x5 9 128 3 (by decide) rfl (by decide) _ _ _ _ _ _ y, ?_⟩
  refine List.forall_mem_cons.2 ⟨fun y => l16 x4 x5 9 128 2 (by decide) rfl (by decide) _ _ _ _ _ _ y, ?_⟩
  refine List.forall_mem_cons.2 ⟨fun y => l16 x4 x5 9 128 1 (by decide) rfl (by decide) _ _ _ _ _ _ y, ?_⟩
  refine List.forall_mem_cons.2 ⟨fun y => l16 x4 x5 9 128 0 (by decide) rfl (by decide) _ _ _ _ _ _ y, ?_⟩
  refine List.forall_mem_cons.2 ⟨fun y => l16 x4 x5 8 0 15 (by decide) rfl (by decide) _ _ _ _ _ _ y, ?_⟩
  refine List.forall_mem_cons.2 ⟨fun y => l16 x4 x5 8 0 14 (by decide) rfl (by decide) _ _ _ _ _ _ y, ?_⟩
  refine List.forall_mem_cons.2 ⟨fun y => l16 x4 x5 8 0 13 (by decide) rfl (by decide) _ _ _ _ _ _ y, ?_⟩
  refine List.forall_mem_cons.2 ⟨fun y => l16 x4 x5 8 0 12 (by decide) rfl (by decide) _ _ _ _ _ _ y, ?_⟩
  refine List.forall_mem_cons.2 ⟨fun y => l16 x4 x5 8 0 11 (by decide) rfl (by decide) _ _ _ _ _ _ y, ?_⟩
  refine List.forall_mem_cons.2 ⟨fun y => l16 x4 x5 8 0 10 (by decide) rfl (by decide) _ _ _ _ _ _ y, ?_⟩
  refine List.forall_mem_cons.2 ⟨fun y => l16 x4 x5 8 0 9 (by decide) rfl (by decide) _ _ _ _ _ _ y, ?_⟩
  refine List.forall_mem_cons.2 ⟨fun y => l16 x4 x5 8 0 8 (by decide) rfl (by decide) _ _ _ _ _ _ y, ?_⟩
  refine List.forall_mem_cons.2 ⟨fun y => l16 x4 x5 8 0 7 (by decide) rfl (by decide) _ _ _ _ _ _ y, ?_⟩
  refine List.forall_mem_cons.2 ⟨fun y => l16 x4 x5 8 0 6 (by decide) rfl (by decide) _ _ _ _ _ _ y, ?_⟩
  refine List.forall_mem_cons.2 ⟨fun y => l16 x4 x5 8 0 5 (by decide) rfl (by decide) _ _ _ _ _ _ y, ?_⟩
  refine List.forall_mem_cons.2 ⟨fun y => l16 x4 x5 8 0 4 (by decide) rfl (by decide) _ _ _ _ _ _ y, ?_⟩
  refine List.forall_mem_cons.2 ⟨fun y => l16 x4 x5 8 0 3 (by decide) rfl (by decide) _ _ _ _ _ _ y, ?_⟩
  refine List.forall_mem_cons.2 ⟨fun y => l16 x4 x5 8 0 2 (by decide) rfl (by decide) _ _ _ _ _ _ y, ?_⟩
  refine List.forall_mem_cons.2 ⟨fun y => l16 x4 x5 8 0 1 (by decide) rfl (by decide) _ _ _ _ _ _ y, ?_⟩
  refine List.forall_mem_cons.2 ⟨fun y => l16 x4 x5 8 0 0 (by decide) rfl (by decide) _ _ _ _ _ _ y, ?_⟩
  refine List.forall_mem_cons.2 ⟨fun y => l4 x4 x6 7 384 3 (by decide) rfl (by decide) _ _ _ _ _ _ y, ?_⟩
  refine List.forall_mem_cons.2 ⟨fun y => l4 x4 x6 7 384 2 (by decide) rfl (by decide) _ _ _ _ _ _ y, ?_⟩
  refine List.forall_mem_cons.2 ⟨fun y => l4 x4 x6 7 384 1 (by decide) rfl (by decide) _ _ _ _ _ _ y, ?_⟩
  refine List.forall_mem_cons.2 ⟨fun y => l4 x4 x6 7 384 0 (by decide) rfl (by decide) _ _ _ _ _ _ y, ?_⟩
  refine List.forall_mem_cons.2 ⟨fun y => l4 x4 x6 6 256 3 (by decide) rfl (by decide) _ _ _ _ _ _ y, ?_⟩
  refine List.forall_mem_cons.2 ⟨fun y => l4 x4 x6 6 256 2 (by decide) rfl (by decide) _ _ _ _ _ _ y, ?_⟩
  refine List.forall_mem_cons.2 ⟨fun y => l4 x4 x6 6 256 1 (by decide) rfl (by decide) _ _ _ _ _ _ y, ?_⟩
  refine List.forall_mem_cons.2 ⟨fun y => l4 x4 x6 6 256 0 (by decide) rfl (by decide) _ _ _ _ _ _ y, ?_⟩
  refine List.forall_mem_cons.2 ⟨fun y => l4 x4 x6 5 128 3 (by decide) rfl (by decide) _ _ _ _ _ _ y, ?_⟩
  refine List.forall_mem_cons.2 ⟨fun y => l4 x4 x6 5 128 2 (by decide) rfl (by decide) _ _ _ _ _ _ y, ?_⟩
  refine List.forall_mem_cons.2 ⟨fun y => l4 x4 x6 5 128 1 (by decide) rfl (by decide) _ _ _ _ _ _ y, ?_⟩
  refine List.forall_mem_cons.2 ⟨fun y => l4 x4 x6 5 128 0 (by decide) rfl (by decide) _ _ _ _ _ _ y, ?_⟩
  refine List.forall_mem_cons.2 ⟨fun y => l4 x4 x6 4 0 3 (by decide) rfl (by decide) _ _ _ _ _ _ y, ?_⟩
  refine List.forall_mem_cons.2 ⟨fun y => l4 x4 x6 4 0 2 (by decide) rfl (by decide) _ _ _ _ _ _ y, ?_⟩
  refine List.forall_mem_cons.2 ⟨fun y => l4 x4 x6 4 0 1 (by decide) rfl (by decide) _ _ _ _ _ _ y, ?_⟩
  refine List.forall_mem_cons.2 ⟨fun y => l4 x4 x6 4 0 0 (by decide) rfl (by decide) _ _ _ _ _ _ y, ?_⟩
  refine List.forall_mem_cons.2 ⟨fun y => l1 x5 x6 3 384 (by decide) rfl _ inb_S12x512x128_S1x512x128_3_0_0 _ _ _ y, ?_⟩
  refine List.forall_mem_cons.2 ⟨fun y => l1 x5 x6 2 256 (by decide) rfl _ inb_S12x512x128_S1x512x128_2_0_0 _ _ _ y, ?_⟩
  refine List.forall_mem_cons.2 ⟨fun y => l1 x5 x6 1 128 (by decide) rfl _ inb_S12x512x128_S1x512x128_1_0_0 _ _ _ y, ?_⟩
  refine List.forall_mem_cons.2 ⟨fun y => l1 x5 x6 0 0 (by decide) rfl _ inb_S12x512x128_S1x512x128_0_0_0 _ _ _ y, ?_⟩
  exact fun p hp => absurd hp List.not_mem_nil

set_option maxHeartbeats 2000000 in
theorem cover_l (y : S12x512x128.Idx) : ∃ p ∈ kernelRun0_A.sl.HS1_84 (F := Ideal) c arg6 harg6 arg7 harg7 arg8 harg8 x4 x5 x6, y ∈ p.1.set := by
  have hk := key_lt y
  unfold kernelRun0_A.sl.HS1_84
  refine cov_cons hk (fun h => in16 11 15 y (by decide) (by decide) h _ _) fun hn => ?_
  replace hk := hn; clear hn
  refine cov_cons hk (fun h => in16 11 14 y (by decide) (by decide) h _ _) fun hn => ?_
  replace hk := hn; clear hn
  refine cov_cons hk (fun h => in16 11 13 y (by decide) (by decide) h _ _) fun hn => ?_
  replace hk := hn; clear hn
  refine cov_cons hk (fun h => in16 11 12 y (by decide) (by decide) h _ _) fun hn => ?_
  replace hk := hn; clear hn
  refine cov_cons hk (fun h => in16 11 11 y (by decide) (by decide) h _ _) fun hn => ?_
  replace hk := hn; clear hn
  refine cov_cons hk (fun h => in16 11 10 y (by decide) (by decide) h _ _) fun hn => ?_
  replace hk := hn; clear hn
  refine cov_cons hk (fun h => in16 11 9 y (by decide) (by decide) h _ _) fun hn => ?_
  replace hk := hn; clear hn
  refine cov_cons hk (fun h => in16 11 8 y (by decide) (by decide) h _ _) fun hn => ?_
  replace hk := hn; clear hn
  refine cov_cons hk (fun h => in16 11 7 y (by decide) (by decide) h _ _) fun hn => ?_
  replace hk := hn; clear hn
  refine cov_cons hk (fun h => in16 11 6 y (by decide) (by decide) h _ _) fun hn => ?_
  replace hk := hn; clear hn
  refine cov_cons hk (fun h => in16 11 5 y (by decide) (by decide) h _ _) fun hn => ?_
  replace hk := hn; clear hn
  refine cov_cons hk (fun h => in16 11 4 y (by decide) (by decide) h _ _) fun hn => ?_
  replace hk := hn; clear hn
  refine cov_cons hk (fun h => in16 11 3 y (by decide) (by decide) h _ _) fun hn => ?_
  replace hk := hn; clear hn
  refine cov_cons hk (fun h => in16 11 2 y (by decide) (by decide) h _ _) fun hn => ?_
  replace hk := hn; clear hn
  refine cov_cons hk (fun h => in16 11 1 y (by decide) (by decide) h _ _) fun hn => ?_
  replace hk := hn; clear hn
  refine cov_cons hk (fun h => in16 11 0 y (by decide) (by decide) h _ _) fun hn => ?_
  replace hk := hn; clear hn
  refine cov_cons hk (fun h => in16 10 15 y (by decide) (by decide) h _ _) fun hn => ?_
  replace hk := hn; clear hn
  refine cov_cons hk (fun h => in16 10 14 y (by decide) (by decide) h _ _) fun hn => ?_
  replace hk := hn; clear hn
  refine cov_cons hk (fun h => in16 10 13 y (by decide) (by decide) h _ _) fun hn => ?_
  replace hk := hn; clear hn
  refine cov_cons hk (fun h => in16 10 12 y (by decide) (by decide) h _ _) fun hn => ?_
  replace hk := hn; clear hn
  refine cov_cons hk (fun h => in16 10 11 y (by decide) (by decide) h _ _) fun hn => ?_
  replace hk := hn; clear hn
  refine cov_cons hk (fun h => in16 10 10 y (by decide) (by decide) h _ _) fun hn => ?_
  replace hk := hn; clear hn
  refine cov_cons hk (fun h => in16 10 9 y (by decide) (by decide) h _ _) fun hn => ?_
  replace hk := hn; clear hn
  refine cov_cons hk (fun h => in16 10 8 y (by decide) (by decide) h _ _) fun hn => ?_
  replace hk := hn; clear hn
  refine cov_cons hk (fun h => in16 10 7 y (by decide) (by decide) h _ _) fun hn => ?_
  replace hk := hn; clear hn
  refine cov_cons hk (fun h => in16 10 6 y (by decide) (by decide) h _ _) fun hn => ?_
  replace hk := hn; clear hn
  refine cov_cons hk (fun h => in16 10 5 y (by decide) (by decide) h _ _) fun hn => ?_
  replace hk := hn; clear hn
  refine cov_cons hk (fun h => in16 10 4 y (by decide) (by decide) h _ _) fun hn => ?_
  replace hk := hn; clear hn
  refine cov_cons hk (fun h => in16 10 3 y (by decide) (by decide) h _ _) fun hn => ?_
  replace hk := hn; clear hn
  refine cov_cons hk (fun h => in16 10 2 y (by decide) (by decide) h _ _) fun hn => ?_
  replace hk := hn; clear hn
  refine cov_cons hk (fun h => in16 10 1 y (by decide) (by decide) h _ _) fun hn => ?_
  replace hk := hn; clear hn
  refine cov_cons hk (fun h => in16 10 0 y (by decide) (by decide) h _ _) fun hn => ?_
  replace hk := hn; clear hn
  refine cov_cons hk (fun h => in16 9 15 y (by decide) (by decide) h _ _) fun hn => ?_
  replace hk := hn; clear hn
  refine cov_cons hk (fun h => in16 9 14 y (by decide) (by decide) h _ _) fun hn => ?_
  replace hk := hn; clear hn
  refine cov_cons hk (fun h => in16 9 13 y (by decide) (by decide) h _ _) fun hn => ?_
  replace hk := hn; clear hn
  refine cov_cons hk (fun h => in16 9 12 y (by decide) (by decide) h _ _) fun hn => ?_
  replace hk := hn; clear hn
  refine cov_cons hk (fun h => in16 9 11 y (by decide) (by decide) h _ _) fun hn => ?_
  replace hk := hn; clear hn
  refine cov_cons hk (fun h => in16 9 10 y (by decide) (by decide) h _ _) fun hn => ?_
  replace hk := hn; clear hn
  refine cov_cons hk (fun h => in16 9 9 y (by decide) (by decide) h _ _) fun hn => ?_
  replace hk := hn; clear hn
  refine cov_cons hk (fun h => in16 9 8 y (by decide) (by decide) h _ _) fun hn => ?_
  replace hk := hn; clear hn
  refine cov_cons hk (fun h => in16 9 7 y (by decide) (by decide) h _ _) fun hn => ?_
  replace hk := hn; clear hn
  refine cov_cons hk (fun h => in16 9 6 y (by decide) (by decide) h _ _) fun hn => ?_
  replace hk := hn; clear hn
  refine cov_cons hk (fun h => in16 9 5 y (by decide) (by decide) h _ _) fun hn => ?_
  replace hk := hn; clear hn
  refine cov_cons hk (fun h => in16 9 4 y (by decide) (by decide) h _ _) fun hn => ?_
  replace hk := hn; clear hn
  refine cov_cons hk (fun h => in16 9 3 y (by decide) (by decide) h _ _) fun hn => ?_
  replace hk := hn; clear hn
  refine cov_cons hk (fun h => in16 9 2 y (by decide) (by decide) h _ _) fun hn => ?_
  replace hk := hn; clear hn
  refine cov_cons hk (fun h => in16 9 1 y (by decide) (by decide) h _ _) fun hn => ?_
  replace hk := hn; clear hn
  refine cov_cons hk (fun h => in16 9 0 y (by decide) (by decide) h _ _) fun hn => ?_
  replace hk := hn; clear hn
  refine cov_cons hk (fun h => in16 8 15 y (by decide) (by decide) h _ _) fun hn => ?_
  replace hk := hn; clear hn
  refine cov_cons hk (fun h => in16 8 14 y (by decide) (by decide) h _ _) fun hn => ?_
  replace hk := hn; clear hn
  refine cov_cons hk (fun h => in16 8 13 y (by decide) (by decide) h _ _) fun hn => ?_
  replace hk := hn; clear hn
  refine cov_cons hk (fun h => in16 8 12 y (by decide) (by decide) h _ _) fun hn => ?_
  replace hk := hn; clear hn
  refine cov_cons hk (fun h => in16 8 11 y (by decide) (by decide) h _ _) fun hn => ?_
  replace hk := hn; clear hn
  refine cov_cons hk (fun h => in16 8 10 y (by decide) (by decide) h _ _) fun hn => ?_
  replace hk := hn; clear hn
  refine cov_cons hk (fun h => in16 8 9 y (by decide) (by decide) h _ _) fun hn => ?_
  replace hk := hn; clear hn
  refine cov_cons hk (fun h => in16 8 8 y (by decide) (by decide) h _ _) fun hn => ?_
  replace hk := hn; clear hn
  refine cov_cons hk (fun h => in16 8 7 y (by decide) (by decide) h _ _) fun hn => ?_
  replace hk := hn; clear hn
  refine cov_cons hk (fun h => in16 8 6 y (by decide) (by decide) h _ _) fun hn => ?_
  replace hk := hn; clear hn
  refine cov_cons hk (fun h => in16 8 5 y (by decide) (by decide) h _ _) fun hn => ?_
  replace hk := hn; clear hn
  refine cov_cons hk (fun h => in16 8 4 y (by decide) (by decide) h _ _) fun hn => ?_
  replace hk := hn; clear hn
  refine cov_cons hk (fun h => in16 8 3 y (by decide) (by decide) h _ _) fun hn => ?_
  replace hk := hn; clear hn
  refine cov_cons hk (fun h => in16 8 2 y (by decide) (by decide) h _ _) fun hn => ?_
  replace hk := hn; clear hn
  refine cov_cons hk (fun h => in16 8 1 y (by decide) (by decide) h _ _) fun hn => ?_
  replace hk := hn; clear hn
  refine cov_cons hk (fun h => in16 8 0 y (by decide) (by decide) h _ _) fun hn => ?_
  replace hk := hn; clear hn
  refine cov_cons hk (fun h => in4 7 3 y (by decide) (by decide) h _ _) fun hn => ?_
  replace hk := hn; clear hn
  refine cov_cons hk (fun h => in4 7 2 y (by decide) (by decide) h _ _) fun hn => ?_
  replace hk := hn; clear hn
  refine cov_cons hk (fun h => in4 7 1 y (by decide) (by decide) h _ _) fun hn => ?_
  replace hk := hn; clear hn
  refine cov_cons hk (fun h => in4 7 0 y (by decide) (by decide) h _ _) fun hn => ?_
  replace hk := hn; clear hn
  refine cov_cons hk (fun h => in4 6 3 y (by decide) (by decide) h _ _) fun hn => ?_
  replace hk := hn; clear hn
  refine cov_cons hk (fun h => in4 6 2 y (by decide) (by decide) h _ _) fun hn => ?_
  replace hk := hn; clear hn
  refine cov_cons hk (fun h => in4 6 1 y (by decide) (by decide) h _ _) fun hn => ?_
  replace hk := hn; clear hn
  refine cov_cons hk (fun h => in4 6 0 y (by decide) (by decide) h _ _) fun hn => ?_
  replace hk := hn; clear hn
  refine cov_cons hk (fun h => in4 5 3 y (by decide) (by decide) h _ _) fun hn => ?_
  replace hk := hn; clear hn
  refine cov_cons hk (fun h => in4 5 2 y (by decide) (by decide) h _ _) fun hn => ?_
  replace hk := hn; clear hn
  refine cov_cons hk (fun h => in4 5 1 y (by decide) (by decide) h _ _) fun hn => ?_
  replace hk := hn; clear hn
  refine cov_cons hk (fun h => in4 5 0 y (by decide) (by decide) h _ _) fun hn => ?_
  replace hk := hn; clear hn
  refine cov_cons hk (fun h => in4 4 3 y (by decide) (by decide) h _ _) fun hn => ?_
  replace hk := hn; clear hn
  refine cov_cons hk (fun h => in4 4 2 y (by decide) (by decide) h _ _) fun hn => ?_
  replace hk := hn; clear hn
  refine cov_cons hk (fun h => in4 4 1 y (by decide) (by decide) h _ _) fun hn => ?_
  replace hk := hn; clear hn
  refine cov_cons hk (fun h => in4 4 0 y (by decide) (by decide) h _ _) fun hn => ?_
  replace hk := hn; clear hn
  refine cov_cons hk (fun h => in1 3 y (by decide) h inb_S12x512x128_S1x512x128_3_0_0) fun hn => ?_
  replace hk := hn; clear hn
  refine cov_cons hk (fun h => in1 2 y (by decide) h inb_S12x512x128_S1x512x128_2_0_0) fun hn => ?_
  replace hk := hn; clear hn
  refine cov_cons hk (fun h => in1 1 y (by decide) h inb_S12x512x128_S1x512x128_1_0_0) fun hn => ?_
  replace hk := hn; clear hn
  refine cov_cons hk (fun h => in1 0 y (by decide) h inb_S12x512x128_S1x512x128_0_0_0) fun hn => ?_
  replace hk := hn; clear hn
  exact absurd hk (Nat.not_lt_zero _)

/-- A plane as the step reads it back. -/
theorem read_l (q : Fin 12) (inb) : arg15.view.readCov (kernelRun0_A.sl.HS1_84 (F := Ideal) c arg6 harg6 arg7 harg7 arg8 harg8 x4 x5 x6) (Rect.unit (s := S12x512x128) ![q.val, 0, 0] S1x512x128.size inb).toLoadRect
    = fun x => planes x4 x5 x6 q ⟨(x 1).val, (x 1).isLt⟩ ⟨(x 2).val, (x 2).isLt⟩ := by
  rw [View.readCov_eq_canon']
  funext x
  have h0 : (x 0).val < 1 := (x 0).isLt
  refine (View.canon_apply_of_pieces _ _ (pieces_l c arg6 harg6 arg7 harg7 arg8 harg8 x4 x5 x6) _ (cover_l c arg6 harg6 arg7 harg7 arg8 harg8 x4 x5 x6 _)).trans ?_
  unfold plane
  congr 1
  · exact Fin.ext ((Rect.idx_unit_val _ _ _ _ 0).trans (show q.val + (x 0).val = q.val by omega))
  · exact Fin.ext ((Rect.idx_unit_val _ _ _ _ 1).trans (show 0 + (x 1).val = (x 1).val by omega))
  · exact Fin.ext ((Rect.idx_unit_val _ _ _ _ 2).trans (show 0 + (x 2).val = (x 2).val by omega))

end Cert.Merge

end
-- ==== Proof.Merge.Spec.lean ====
/- The mathematics of the merge at one position: the softmax-weighted sum of three outputs, the normalization of a row of 512
   entries, and the projection of two normalized rows, over the extended reals. -/
module

public import proofs.«01_k».proof.Proof.Attn.Softmax
public import Idealize.ShloMosaic.PureOps.Ideal
public import Idealize.ShloMosaic.PureOps.Ideal.Laws

@[expose] public section

noncomputable section

namespace Cert.Merge

open Idealize.ShloMosaic Cert.Attn

/-- The weighted sum of three outputs, the weights two to the exponents. -/
def mixed (σ : Fin 3 → ℝ) (v : Fin 3 → EReal) : EReal :=
  (∑ k, pw (σ k) * v k) * (((∑ k, (2 : ℝ) ^ σ k)⁻¹ : ℝ) : EReal)

/-- The same from weights relative to any real, numerator and denominator apart. -/
theorem quot_mixed (σ : Fin 3 → ℝ) (v : Fin 3 → EReal) (T : EReal) (hT : ∃ t : ℝ, T = t) :
    Ideal.div (0 + Ideal.exp2 ((σ 0 : EReal) - T) * v 0 + Ideal.exp2 ((σ 1 : EReal) - T) * v 1 + Ideal.exp2 ((σ 2 : EReal) - T) * v 2)
        (0 + Ideal.exp2 ((σ 0 : EReal) - T) + Ideal.exp2 ((σ 1 : EReal) - T) + Ideal.exp2 ((σ 2 : EReal) - T))
      = mixed σ v := by
  obtain ⟨t, rfl⟩ := hT
  have hD : 0 < ∑ k, (2 : ℝ) ^ σ k := Finset.sum_pos (fun k _ => pw_pos _) Finset.univ_nonempty
  have e : ∀ k, Ideal.exp2 ((σ k : EReal) - (t : EReal)) = pw (-t) * pw (σ k) := fun k => by
    rw [exp2_sub, ← pw_add]; congr 1; ring
  have hn : pw (-t) * ∑ k, pw (σ k) * v k
      = 0 + pw (-t) * pw (σ 0) * v 0 + pw (-t) * pw (σ 1) * v 1 + pw (-t) * pw (σ 2) * v 2 := by
    rw [pw_mul_sum, Fin.sum_univ_three, zero_add, mul_assoc, mul_assoc, mul_assoc]
  have hd : pw (-t) * ((∑ k, (2 : ℝ) ^ σ k : ℝ) : EReal)
      = 0 + pw (-t) * pw (σ 0) + pw (-t) * pw (σ 1) + pw (-t) * pw (σ 2) := by
    rw [← coe_sum, pw_mul_sum, Fin.sum_univ_three, zero_add]
    rfl
  rw [e, e, e, ← hn, ← hd, quotient _ _ _ hD]
  rfl

/-- The greatest of three reals is a real. -/
theorem max_real (a b c : ℝ) : ∃ t : ℝ, max (max (a : EReal) (b : EReal)) (c : EReal) = t :=
  ⟨max (max a b) c, by
    rw [EReal.coe_strictMono.monotone.map_max, EReal.coe_strictMono.monotone.map_max]⟩

/-- The factor a row of 512 entries is normalized by. -/
def rs (x : Fin 512 → EReal) : EReal :=
  Ideal.rsqrt (Ideal.div (∑ k, x k * x k) (Ideal.ofBits .f32 0x44000000#32) + Ideal.ofBits .f32 0x358637BD#32)

/-- A row normalized and scaled. -/
def norm (g x : Fin 512 → EReal) (k : Fin 512) : EReal := x k * rs x * g k

/-- The merge at a column, from the row it is added to and the two normalized rows. -/
def out (w : Fin 1024 → Fin 1024 → EReal) (x : Fin 1024 → EReal) (na nb : Fin 512 → EReal) (k : Fin 1024) : EReal :=
  x k + (∑ n : Fin 512, na n * w ⟨n.val, by omega⟩ k) + ∑ n : Fin 512, nb n * w ⟨512 + n.val, by omega⟩ k

/-- The same with the two rows laid one after the other. -/
theorem out_cat (w : Fin 1024 → Fin 1024 → EReal) (x : Fin 1024 → EReal) (na nb : Fin 512 → EReal) (c : Fin 1024 → EReal)
    (ha : ∀ n : Fin 512, c ⟨n.val, by omega⟩ = na n) (hb : ∀ n : Fin 512, c ⟨512 + n.val, by omega⟩ = nb n) (k : Fin 1024) :
    x k + ∑ n, c n * w n k = out w x na nb k := by
  unfold out
  rw [add_assoc]
  refine congrArg (x k + ·) ?_
  rw [show (∑ n : Fin 1024, c n * w n k) = ∑ n : Fin (512 + 512), c n * w n k from rfl, Fin.sum_univ_add]
  refine congrArg₂ (· + ·) (Finset.sum_congr rfl fun n _ => ?_) (Finset.sum_congr rfl fun n _ => ?_)
  · rw [← ha]; rfl
  · rw [← hb]; rfl

end Cert.Merge

end
-- ==== Proof.Merge.Rows.lean ====
/- The block a step of the merge stores, from its input windows, and its value at a row and a column over the extended reals. -/
module

public import proofs.«01_k».proof.Proof.Merge.Planes
public import proofs.«01_k».proof.Proof.Merge.Spec
public import Idealize.ShloMosaic.Lib.KernelVsHost
public import Idealize.ShloMosaic.Lib.ValueLayout
public import Idealize.ShloMosaic.Lib.ValueLayoutCasts
public import Idealize.ShloMosaic.Lib.IdealHost
public import Idealize.ShloMosaic.Lib.MatmulPlain
public import Idealize.ShloMosaic.PureOps.Ideal.Laws

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx

/-- One plane as it is loaded. -/
def pl (A : S1x1x512x512.Idx → EReal) (B : S1x4x128x512.Idx → EReal) (C : S1x16x32x512.Idx → EReal) (q : Fin 12) :
    Vec Ideal S1x512x128 .f32 := fun x => planes A B C q ⟨(x 1).val, (x 1).isLt⟩ ⟨(x 2).val, (x 2).isLt⟩

/-- A group of two heads: the weighted sum of the three outputs, from the planes of the exponents and the outputs. -/
def mixG (l0 l1 l2 o0 o1 o2 : Vec Ideal S1x512x128 .f32) : FVec Ideal S512x128 .f32 :=
  k0_pay188 (k0_pay186 l0) (k0_pay187 l1) l2 o0 o1 o2

/-- A row of 512 entries normalized and scaled, in the block's spelling. -/
def normB (x : FVec Ideal S512x512 .f32) (g : FVec Ideal S1x512 .f32) : FVec Ideal S512x512 .bf16 :=
  truncf .bf16 (mulf (mulf x (broadcastTo S512x512 (rsqrt (addf (divf (shapeCast S512x1
      (multiReduction .add [1] S512 (mulf x x) 0x00000000#32 reduces_S512x512_S512 (.inl rfl) rfl) shapeCasts_S512_S512x1)
      (broadcast S512x1 (Scalar.ofBits .f32 0x44000000#32))) (broadcast S512x1 (Scalar.ofBits .f32 0x358637BD#32))))
      broadcasts_S512x1_S512x512)) (broadcastTo S512x512 (shapeCast S1x512 g shapeCasts_S1x512_S1x512) broadcasts_S1x512_S512x512))
    bitsLt_bf16_f32

/-- The four groups side by side. -/
def cat (M : Fin 4 → FVec Ideal S512x128 .f32) : FVec Ideal S512x512 .f32 :=
  concatenate S512x512 1 [⟨S512x128, M 0⟩, ⟨S512x128, M 1⟩, ⟨S512x128, M 2⟩, ⟨S512x128, M 3⟩]
    concatenates_S512x128_S512x128_S512x128_S512x128_S512x512_d1

/-- The two halves of the projection. -/
def wLo (x10 : Vec Ideal S1024x1024 .bf16) : Vec Ideal S512x1024 .bf16 :=
  fun y => x10 (ix2 (⟨(y 0).val, lt_trans (show (y 0).val < 512 from (y 0).isLt) (by norm_num)⟩ : Fin 1024) (⟨(y 1).val, (y 1).isLt⟩ : Fin 1024))
def wHi (x10 : Vec Ideal S1024x1024 .bf16) : Vec Ideal S512x1024 .bf16 :=
  fun y => x10 (ix2 (⟨512 + (y 0).val, by have h : (y 0).val < 512 := (y 0).isLt; omega⟩ : Fin 1024) (⟨(y 1).val, (y 1).isLt⟩ : Fin 1024))

variable (x0 : Vec Ideal S1x512x1024 .f32) (x1 : Vec Ideal S1x1x512x512 .bf16) (x2 : Vec Ideal S1x4x128x512 .bf16)
variable (x3 : Vec Ideal S1x16x32x512 .bf16) (x4 : Vec Ideal S1x1x512x512 .f32) (x5 : Vec Ideal S1x4x128x512 .f32)
variable (x6 : Vec Ideal S1x16x32x512 .f32) (x7 : Vec Ideal S1x512x512 .bf16) (x8 x9 : Vec Ideal S1x512 .f32)
variable (x10 : Vec Ideal S1024x1024 .bf16)

/-- The four groups of heads of a block. -/
def grp (g : Fin 4) : FVec Ideal S512x128 .f32 :=
  mixG (pl x4 x5 x6 ⟨g.val, by omega⟩) (pl x4 x5 x6 ⟨4 + g.val, by omega⟩) (pl x4 x5 x6 ⟨8 + g.val, by omega⟩)
    (pl x1 x2 x3 ⟨g.val, by omega⟩) (pl x1 x2 x3 ⟨4 + g.val, by omega⟩) (pl x1 x2 x3 ⟨8 + g.val, by omega⟩)

/-- The block a step stores. -/
def blockOut : FVec Ideal S1x512x1024 .f32 :=
  k0_pay1 (normB (k0_pay212 x7) x9) (k0_pay216 (normB (cat (grp x1 x2 x3 x4 x5 x6)) x8) x0 (wLo x10)) (wHi x10)

/-- A group at a row and a lane. -/
theorem mixG_apply (l0 l1 l2 o0 o1 o2 : Vec Ideal S1x512x128 .f32) (σ : Fin 3 → ℝ) (r : Fin 512) (l : Fin 128)
    (h0 : (l0 (ix3 (0 : Fin 1) r l) : EReal) = σ 0) (h1 : (l1 (ix3 (0 : Fin 1) r l) : EReal) = σ 1)
    (h2 : (l2 (ix3 (0 : Fin 1) r l) : EReal) = σ 2) :
    (mixG l0 l1 l2 o0 o1 o2 (ix2 r l) : EReal)
      = mixed σ ![o0 (ix3 (0 : Fin 1) r l), o1 (ix3 (0 : Fin 1) r l), o2 (ix3 (0 : Fin 1) r l)] := by
  have s : ∀ y : Vec Ideal S1x512x128 .f32, (shapeCast S512x128 y shapeCasts_S1x512x128_S512x128 (ix2 r l) : EReal) = y (ix3 (0 : Fin 1) r l) :=
    fun y => shapeCast_1ab_ab_apply _ _ _ _
  unfold mixG k0_pay186 k0_pay187 k0_pay188
  dsimp only
  have a0 := (s l0).trans h0
  have a1 := (s l1).trans h1
  have a2 := (s l2).trans h2
  have b0 := s o0
  have b1 := s o1
  have b2 := s o2
  generalize shapeCast S512x128 l0 shapeCasts_S1x512x128_S512x128 = A0 at *
  generalize shapeCast S512x128 l1 shapeCasts_S1x512x128_S512x128 = A1 at *
  generalize shapeCast S512x128 l2 shapeCasts_S1x512x128_S512x128 = A2 at *
  generalize shapeCast S512x128 o0 shapeCasts_S1x512x128_S512x128 = B0 at *
  generalize shapeCast S512x128 o1 shapeCasts_S1x512x128_S512x128 = B1 at *
  generalize shapeCast S512x128 o2 shapeCasts_S1x512x128_S512x128 = B2 at *
  show Ideal.div (Ideal.ofBits .f32 0x00000000#32
        + Ideal.exp2 ((A0 (ix2 r l) : EReal) - max (max (A0 (ix2 r l) : EReal) (A1 (ix2 r l))) (A2 (ix2 r l))) * (B0 (ix2 r l) : EReal)
        + Ideal.exp2 ((A1 (ix2 r l) : EReal) - max (max (A0 (ix2 r l) : EReal) (A1 (ix2 r l))) (A2 (ix2 r l))) * (B1 (ix2 r l) : EReal)
        + Ideal.exp2 ((A2 (ix2 r l) : EReal) - max (max (A0 (ix2 r l) : EReal) (A1 (ix2 r l))) (A2 (ix2 r l))) * (B2 (ix2 r l) : EReal))
      (Ideal.ofBits .f32 0x00000000#32
        + Ideal.exp2 ((A0 (ix2 r l) : EReal) - max (max (A0 (ix2 r l) : EReal) (A1 (ix2 r l))) (A2 (ix2 r l)))
        + Ideal.exp2 ((A1 (ix2 r l) : EReal) - max (max (A0 (ix2 r l) : EReal) (A1 (ix2 r l))) (A2 (ix2 r l)))
        + Ideal.exp2 ((A2 (ix2 r l) : EReal) - max (max (A0 (ix2 r l) : EReal) (A1 (ix2 r l))) (A2 (ix2 r l)))) = _
  rw [a0, a1, a2, b0, b1, b2, Ideal.ofBits_zero_f32]
  exact quot_mixed σ ![o0 (ix3 (0 : Fin 1) r l), o1 (ix3 (0 : Fin 1) r l), o2 (ix3 (0 : Fin 1) r l)] _ (max_real _ _ _)

/-- A normalization at a row and a column. -/
theorem normB_apply (x : FVec Ideal S512x512 .f32) (g : FVec Ideal S1x512 .f32) (r k : Fin 512) :
    (normB x g (ix2 r k) : EReal) = norm (fun k => g (ix2 (0 : Fin 1) k)) (fun k => x (ix2 r k)) k := by
  unfold normB
  rw [truncf_apply, mulf_apply, mulf_apply, shapeCast_self]
  refine congrArg₂ (· * ·) (congrArg₂ (· * ·) rfl ?_) ?_
  · refine (broadcastTo_apply _ broadcasts_S512x1_S512x512 (ix2 r k) (ix2 r (0 : Fin 1)) fun a => ?_).trans ?_
    · match a with
      | ⟨0, _⟩ => rfl
      | ⟨1, _⟩ => rfl
    refine congrArg (fun z => Ideal.rsqrt (Ideal.div z _ + _)) ?_
    refine (shapeCast_a_a1_apply _ _ _ _).trans ?_
    refine (Ideal.multiReduction_add_single _ _ _ _ _ _).trans ?_
    refine Finset.sum_congr rfl fun j _ => ?_
    have e : ∀ y : FVec Ideal S512x512 .f32, y (reduces_S512x512_S512.lift (ix1 r) j) = y (ix2 r j) := fun y => congrArg y (funext fun a => by
      match a with | ⟨0, _⟩ => rfl | ⟨1, _⟩ => rfl)
    exact e _
  · exact broadcastTo_apply _ broadcasts_S1x512_S512x512 (ix2 r k) (ix2 (0 : Fin 1) k) fun a => by match a with | ⟨0, _⟩ => rfl | ⟨1, _⟩ => rfl

/-- The four groups at a row and a column. -/
theorem cat_apply (M : Fin 4 → FVec Ideal S512x128 .f32) (r : Fin 512) (g : Fin 4) (l : Fin 128) :
    (cat M (ix2 r (⟨128 * g.val + l.val, by omega⟩ : Fin 512)) : EReal) = M g (ix2 r l) := by
  unfold cat
  match g with
  | ⟨0, _⟩ =>
    exact concatenate_apply_piece (t := S512x512) 1 [⟨S512x128, M 0⟩, ⟨S512x128, M 1⟩, ⟨S512x128, M 2⟩, ⟨S512x128, M 3⟩] _ _ 0 (by simp) S512x128 (M 0) rfl rfl 0 rfl
      (ix2 r l) (fun d hd => by
        match d with
        | ⟨0, _⟩ => rfl
        | ⟨1, _⟩ => exact absurd rfl hd) (by show 0 + l.val = 128 * 0 + l.val; omega)
  | ⟨1, _⟩ =>
    exact concatenate_apply_piece (t := S512x512) 1 [⟨S512x128, M 0⟩, ⟨S512x128, M 1⟩, ⟨S512x128, M 2⟩, ⟨S512x128, M 3⟩] _ _ 1 (by simp) S512x128 (M 1) rfl rfl 128 rfl
      (ix2 r l) (fun d hd => by
        match d with
        | ⟨0, _⟩ => rfl
        | ⟨1, _⟩ => exact absurd rfl hd) (by show 128 + l.val = 128 * 1 + l.val; omega)
  | ⟨2, _⟩ =>
    exact concatenate_apply_piece (t := S512x512) 1 [⟨S512x128, M 0⟩, ⟨S512x128, M 1⟩, ⟨S512x128, M 2⟩, ⟨S512x128, M 3⟩] _ _ 2 (by simp) S512x128 (M 2) rfl rfl 256 rfl
      (ix2 r l) (fun d hd => by
        match d with
        | ⟨0, _⟩ => rfl
        | ⟨1, _⟩ => exact absurd rfl hd) (by show 256 + l.val = 128 * 2 + l.val; omega)
  | ⟨3, _⟩ =>
    exact concatenate_apply_piece (t := S512x512) 1 [⟨S512x128, M 0⟩, ⟨S512x128, M 1⟩, ⟨S512x128, M 2⟩, ⟨S512x128, M 3⟩] _ _ 3 (by simp) S512x128 (M 3) rfl rfl 384 rfl
      (ix2 r l) (fun d hd => by
        match d with
        | ⟨0, _⟩ => rfl
        | ⟨1, _⟩ => exact absurd rfl hd) (by show 384 + l.val = 128 * 3 + l.val; omega)

/-- A product of 512 rows with half the projection. -/
theorem matmul_apply (y : FVec Ideal S512x512 .bf16) (w : Vec Ideal S512x1024 .bf16) (r : Fin 512) (k : Fin 1024) :
    (matmul (F := Ideal) (φ₁ := .bf16) (φ₂ := .bf16) dot_S512x512_S512x1024_S512x1024_1_0_0_1_n_n none y (shapeCast S512x1024 w shapeCasts_S512x1024_S512x1024)
        (constant S512x1024 .f32 0x00000000#32) (ix2 r k) : EReal)
      = ∑ n : Fin 512, (y (ix2 r n) : EReal) * (w (ix2 n k) : EReal) := by
  rw [shapeCast_self]
  show FloatOps.matmul (F := Ideal) (DotDims.plain 512 512 1024) _ _ _ _ _ = _
  rw [Ideal.matmul_plain_apply, constant_apply, Ideal.ofBits_zero_f32, zero_add]

/-- The block at a row and a column. -/
theorem block_apply (r : Fin 512) (k : Fin 1024) :
    (blockOut x0 x1 x2 x3 x4 x5 x6 x7 x8 x9 x10 (ix3 (0 : Fin 1) r k) : EReal)
      = out (fun n k => x10 (ix2 n k)) (fun k => x0 (ix3 (0 : Fin 1) r k))
          (norm (fun k => x8 (ix2 (0 : Fin 1) k)) (fun n => cat (grp x1 x2 x3 x4 x5 x6) (ix2 r n)))
          (norm (fun k => x9 (ix2 (0 : Fin 1) k)) (fun n => x7 (ix3 (0 : Fin 1) r n))) k := by
  unfold blockOut k0_pay1 k0_pay216
  dsimp only
  refine (shapeCast_ab_1ab_apply _ _ _ _ _).trans ?_
  rw [addf_apply, addf_apply]
  unfold out
  refine congrArg₂ (· + ·) (congrArg₂ (· + ·) (shapeCast_1ab_ab_apply _ _ _ _) ?_) ?_
  · refine (matmul_apply _ _ r k).trans (Finset.sum_congr rfl fun n _ => ?_)
    exact congrArg₂ (· * ·) (normB_apply _ _ r n) rfl
  · refine (matmul_apply _ _ r k).trans (Finset.sum_congr rfl fun n _ => ?_)
    refine congrArg₂ (· * ·) ((normB_apply _ _ r n).trans ?_) rfl
    refine congrArg (fun y => norm _ y n) (funext fun j => ?_)
    unfold k0_pay212
    exact shapeCast_1ab_ab_apply _ _ _ _

end Cert.Merge

end
-- ==== Proof.Merge.Region.lean ====
/- The block a step of the merge stores, from its input windows: the planes read back from the scratch, the four groups of heads,
   the two normalizations and the two halves of the projection. -/
module

public import proofs.«01_k».proof.Proof.Merge.Scratch
public import proofs.«01_k».proof.Proof.Merge.Rows

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx

/-- A load of a whole buffer. -/
theorem load_whole {S : Shape} {e : EltTy} (a : Memref sig .tc .vmem S e) (ha : a.IsWhole) (x : Vec Ideal S e)
    {off : Fin S.rank → ℕ} (h : off = fun _ => 0) (inb : ∀ d, off d + S.size d ≤ S.size d) :
    View.readAt (Elt Ideal) a.view (Rect.unit (s := S) off S.size inb).toLoadRect (ha.unread x) = x := by
  rw [View.readAt_eq_ld, ha.read_unread, View.ld_unit_zero h]

theorem off2 : (![0, 0] : Fin 2 → ℕ) = fun _ => 0 := by funext a; fin_cases a <;> rfl
theorem off3 : (![0, 0, 0] : Fin 3 → ℕ) = fun _ => 0 := by funext a; fin_cases a <;> rfl

theorem load_lo (a : Memref sig .tc .vmem S1024x1024 .bf16) (ha : a.IsWhole) (x : Vec Ideal S1024x1024 .bf16) (inb) :
    View.readAt (Elt Ideal) a.view (Rect.unit (s := S1024x1024) ![0, 0] S512x1024.size inb).toLoadRect (ha.unread x) = wLo x := by
  rw [View.readAt_eq_ld, ha.read_unread]
  funext i
  refine View.ld_unit_apply_of x _ _ _ i _ fun a => ?_
  match a with
  | ⟨0, _⟩ => show (i 0).val = 0 + (i 0).val; omega
  | ⟨1, _⟩ => show (i 1).val = 0 + (i 1).val; omega

theorem load_hi (a : Memref sig .tc .vmem S1024x1024 .bf16) (ha : a.IsWhole) (x : Vec Ideal S1024x1024 .bf16) (inb) :
    View.readAt (Elt Ideal) a.view (Rect.unit (s := S1024x1024) ![512, 0] S512x1024.size inb).toLoadRect (ha.unread x) = wHi x := by
  rw [View.readAt_eq_ld, ha.read_unread]
  funext i
  refine View.ld_unit_apply_of x _ _ _ i _ fun a => ?_
  match a with
  | ⟨0, _⟩ => rfl
  | ⟨1, _⟩ => show (i 1).val = 0 + (i 1).val; omega

variable (c : Dev nD) (i : grid0.Coords)
variable (arg2 : Memref sig .tc .vmem S1x512x1024 .f32) (harg2 : arg2.IsWhole)
variable (arg3 : Memref sig .tc .vmem S1x1x512x512 .bf16) (harg3 : arg3.IsWhole)
variable (arg4 : Memref sig .tc .vmem S1x4x128x512 .bf16) (harg4 : arg4.IsWhole)
variable (arg5 : Memref sig .tc .vmem S1x16x32x512 .bf16) (harg5 : arg5.IsWhole)
variable (arg6 : Memref sig .tc .vmem S1x1x512x512 .f32) (harg6 : arg6.IsWhole)
variable (arg7 : Memref sig .tc .vmem S1x4x128x512 .f32) (harg7 : arg7.IsWhole)
variable (arg8 : Memref sig .tc .vmem S1x16x32x512 .f32) (harg8 : arg8.IsWhole)
variable (arg9 : Memref sig .tc .vmem S1x512x512 .bf16) (harg9 : arg9.IsWhole)
variable (arg10 : Memref sig .tc .vmem S1x512 .f32) (harg10 : arg10.IsWhole)
variable (arg11 : Memref sig .tc .vmem S1x512 .f32) (harg11 : arg11.IsWhole)
variable (arg12 : Memref sig .tc .vmem S1024x1024 .bf16) (harg12 : arg12.IsWhole)
variable (arg13 : Memref sig .tc .vmem S1x512x1024 .f32) (harg13 : arg13.IsWhole)
variable (arg14 : Memref sig .tc .vmem S12x512x128 .f32) (harg14 : arg14.IsWhole)
variable (arg15 : Memref sig .tc .vmem S12x512x128 .f32) (harg15 : arg15.IsWhole)
variable (x0 : Vec Ideal S1x512x1024 .f32) (x1 : Vec Ideal S1x1x512x512 .bf16) (x2 : Vec Ideal S1x4x128x512 .bf16)
variable (x3 : Vec Ideal S1x16x32x512 .bf16) (x4 : Vec Ideal S1x1x512x512 .f32) (x5 : Vec Ideal S1x4x128x512 .f32)
variable (x6 : Vec Ideal S1x16x32x512 .f32) (x7 : Vec Ideal S1x512x512 .bf16) (x8 x9 : Vec Ideal S1x512 .f32)
variable (x10 : Vec Ideal S1024x1024 .bf16)

/-! The planes of the exponents as they are read back. -/

theorem v924_eq : kernelRun0_A.sl.v924 (F := Ideal) c arg6 harg6 arg7 harg7 arg8 harg8 arg15 x4 x5 x6 = pl x4 x5 x6 0 := by
  unfold kernelRun0_A.sl.v924
  exact read_l c arg6 harg6 arg7 harg7 arg8 harg8 arg15 x4 x5 x6 0 _

theorem v926_eq : kernelRun0_A.sl.v926 (F := Ideal) c arg6 harg6 arg7 harg7 arg8 harg8 arg15 x4 x5 x6 = pl x4 x5 x6 4 := by
  unfold kernelRun0_A.sl.v926
  exact read_l c arg6 harg6 arg7 harg7 arg8 harg8 arg15 x4 x5 x6 4 _

theorem v928_eq : kernelRun0_A.sl.v928 (F := Ideal) c arg6 harg6 arg7 harg7 arg8 harg8 arg15 x4 x5 x6 = pl x4 x5 x6 8 := by
  unfold kernelRun0_A.sl.v928
  exact read_l c arg6 harg6 arg7 harg7 arg8 harg8 arg15 x4 x5 x6 8 _

theorem v956_eq : kernelRun0_A.sl.v956 (F := Ideal) c arg6 harg6 arg7 harg7 arg8 harg8 arg15 x4 x5 x6 = pl x4 x5 x6 1 := by
  unfold kernelRun0_A.sl.v956
  exact read_l c arg6 harg6 arg7 harg7 arg8 harg8 arg15 x4 x5 x6 1 _

theorem v958_eq : kernelRun0_A.sl.v958 (F := Ideal) c arg6 harg6 arg7 harg7 arg8 harg8 arg15 x4 x5 x6 = pl x4 x5 x6 5 := by
  unfold kernelRun0_A.sl.v958
  exact read_l c arg6 harg6 arg7 harg7 arg8 harg8 arg15 x4 x5 x6 5 _

theorem v960_eq : kernelRun0_A.sl.v960 (F := Ideal) c arg6 harg6 arg7 harg7 arg8 harg8 arg15 x4 x5 x6 = pl x4 x5 x6 9 := by
  unfold kernelRun0_A.sl.v960
  exact read_l c arg6 harg6 arg7 harg7 arg8 harg8 arg15 x4 x5 x6 9 _

theorem v988_eq : kernelRun0_A.sl.v988 (F := Ideal) c arg6 harg6 arg7 harg7 arg8 harg8 arg15 x4 x5 x6 = pl x4 x5 x6 2 := by
  unfold kernelRun0_A.sl.v988
  exact read_l c arg6 harg6 arg7 harg7 arg8 harg8 arg15 x4 x5 x6 2 _

theorem v990_eq : kernelRun0_A.sl.v990 (F := Ideal) c arg6 harg6 arg7 harg7 arg8 harg8 arg15 x4 x5 x6 = pl x4 x5 x6 6 := by
  unfold kernelRun0_A.sl.v990
  exact read_l c arg6 harg6 arg7 harg7 arg8 harg8 arg15 x4 x5 x6 6 _

theorem v992_eq : kernelRun0_A.sl.v992 (F := Ideal) c arg6 harg6 arg7 harg7 arg8 harg8 arg15 x4 x5 x6 = pl x4 x5 x6 10 := by
  unfold kernelRun0_A.sl.v992
  exact read_l c arg6 harg6 arg7 harg7 arg8 harg8 arg15 x4 x5 x6 10 _

theorem v1020_eq : kernelRun0_A.sl.v1020 (F := Ideal) c arg6 harg6 arg7 harg7 arg8 harg8 arg15 x4 x5 x6 = pl x4 x5 x6 3 := by
  unfold kernelRun0_A.sl.v1020
  exact read_l c arg6 harg6 arg7 harg7 arg8 harg8 arg15 x4 x5 x6 3 _

theorem v1022_eq : kernelRun0_A.sl.v1022 (F := Ideal) c arg6 harg6 arg7 harg7 arg8 harg8 arg15 x4 x5 x6 = pl x4 x5 x6 7 := by
  unfold kernelRun0_A.sl.v1022
  exact read_l c arg6 harg6 arg7 harg7 arg8 harg8 arg15 x4 x5 x6 7 _

theorem v1024_eq : kernelRun0_A.sl.v1024 (F := Ideal) c arg6 harg6 arg7 harg7 arg8 harg8 arg15 x4 x5 x6 = pl x4 x5 x6 11 := by
  unfold kernelRun0_A.sl.v1024
  exact read_l c arg6 harg6 arg7 harg7 arg8 harg8 arg15 x4 x5 x6 11 _

/-! The planes of the outputs. -/

theorem v938_eq : kernelRun0_A.sl.v938 (F := Ideal) c arg3 harg3 arg4 harg4 arg5 harg5 arg14 x1 x2 x3 = pl x1 x2 x3 0 := by
  unfold kernelRun0_A.sl.v938
  exact read_o c arg3 harg3 arg4 harg4 arg5 harg5 arg14 x1 x2 x3 0 _

theorem v943_eq : kernelRun0_A.sl.v943 (F := Ideal) c arg3 harg3 arg4 harg4 arg5 harg5 arg14 x1 x2 x3 = pl x1 x2 x3 4 := by
  unfold kernelRun0_A.sl.v943
  exact read_o c arg3 harg3 arg4 harg4 arg5 harg5 arg14 x1 x2 x3 4 _

theorem v947_eq : kernelRun0_A.sl.v947 (F := Ideal) c arg3 harg3 arg4 harg4 arg5 harg5 arg14 x1 x2 x3 = pl x1 x2 x3 8 := by
  unfold kernelRun0_A.sl.v947
  exact read_o c arg3 harg3 arg4 harg4 arg5 harg5 arg14 x1 x2 x3 8 _

theorem v970_eq : kernelRun0_A.sl.v970 (F := Ideal) c arg3 harg3 arg4 harg4 arg5 harg5 arg14 x1 x2 x3 = pl x1 x2 x3 1 := by
  unfold kernelRun0_A.sl.v970
  exact read_o c arg3 harg3 arg4 harg4 arg5 harg5 arg14 x1 x2 x3 1 _

theorem v975_eq : kernelRun0_A.sl.v975 (F := Ideal) c arg3 harg3 arg4 harg4 arg5 harg5 arg14 x1 x2 x3 = pl x1 x2 x3 5 := by
  unfold kernelRun0_A.sl.v975
  exact read_o c arg3 harg3 arg4 harg4 arg5 harg5 arg14 x1 x2 x3 5 _

theorem v979_eq : kernelRun0_A.sl.v979 (F := Ideal) c arg3 harg3 arg4 harg4 arg5 harg5 arg14 x1 x2 x3 = pl x1 x2 x3 9 := by
  unfold kernelRun0_A.sl.v979
  exact read_o c arg3 harg3 arg4 harg4 arg5 harg5 arg14 x1 x2 x3 9 _

theorem v1002_eq : kernelRun0_A.sl.v1002 (F := Ideal) c arg3 harg3 arg4 harg4 arg5 harg5 arg14 x1 x2 x3 = pl x1 x2 x3 2 := by
  unfold kernelRun0_A.sl.v1002
  exact read_o c arg3 harg3 arg4 harg4 arg5 harg5 arg14 x1 x2 x3 2 _

theorem v1007_eq : kernelRun0_A.sl.v1007 (F := Ideal) c arg3 harg3 arg4 harg4 arg5 harg5 arg14 x1 x2 x3 = pl x1 x2 x3 6 := by
  unfold kernelRun0_A.sl.v1007
  exact read_o c arg3 harg3 arg4 harg4 arg5 harg5 arg14 x1 x2 x3 6 _

theorem v1011_eq : kernelRun0_A.sl.v1011 (F := Ideal) c arg3 harg3 arg4 harg4 arg5 harg5 arg14 x1 x2 x3 = pl x1 x2 x3 10 := by
  unfold kernelRun0_A.sl.v1011
  exact read_o c arg3 harg3 arg4 harg4 arg5 harg5 arg14 x1 x2 x3 10 _

theorem v1034_eq : kernelRun0_A.sl.v1034 (F := Ideal) c arg3 harg3 arg4 harg4 arg5 harg5 arg14 x1 x2 x3 = pl x1 x2 x3 3 := by
  unfold kernelRun0_A.sl.v1034
  exact read_o c arg3 harg3 arg4 harg4 arg5 harg5 arg14 x1 x2 x3 3 _

theorem v1039_eq : kernelRun0_A.sl.v1039 (F := Ideal) c arg3 harg3 arg4 harg4 arg5 harg5 arg14 x1 x2 x3 = pl x1 x2 x3 7 := by
  unfold kernelRun0_A.sl.v1039
  exact read_o c arg3 harg3 arg4 harg4 arg5 harg5 arg14 x1 x2 x3 7 _

theorem v1043_eq : kernelRun0_A.sl.v1043 (F := Ideal) c arg3 harg3 arg4 harg4 arg5 harg5 arg14 x1 x2 x3 = pl x1 x2 x3 11 := by
  unfold kernelRun0_A.sl.v1043
  exact read_o c arg3 harg3 arg4 harg4 arg5 harg5 arg14 x1 x2 x3 11 _

/-! The groups of heads. -/

theorem r_26_eq : kernelRun0_A.sl.r_26 (F := Ideal) c arg3 harg3 arg4 harg4 arg5 harg5 arg6 harg6 arg7 harg7 arg8 harg8 arg14 arg15 x1 x2 x3 x4 x5 x6 = grp x1 x2 x3 x4 x5 x6 0 := by
  unfold kernelRun0_A.sl.r_26 kernelRun0_A.sl.r_24 kernelRun0_A.sl.r_25
  rw [v924_eq, v926_eq, v928_eq, v938_eq, v943_eq, v947_eq]
  rfl

theorem r_31_eq : kernelRun0_A.sl.r_31 (F := Ideal) c arg3 harg3 arg4 harg4 arg5 harg5 arg6 harg6 arg7 harg7 arg8 harg8 arg14 arg15 x1 x2 x3 x4 x5 x6 = grp x1 x2 x3 x4 x5 x6 1 := by
  unfold kernelRun0_A.sl.r_31 kernelRun0_A.sl.r_27 kernelRun0_A.sl.r_28 kernelRun0_A.sl.r_29 kernelRun0_A.sl.r_30
  rw [v956_eq, v958_eq, v960_eq, v970_eq, v975_eq, v979_eq]
  rfl

theorem r_35_eq : kernelRun0_A.sl.r_35 (F := Ideal) c arg3 harg3 arg4 harg4 arg5 harg5 arg6 harg6 arg7 harg7 arg8 harg8 arg14 arg15 x1 x2 x3 x4 x5 x6 = grp x1 x2 x3 x4 x5 x6 2 := by
  unfold kernelRun0_A.sl.r_35 kernelRun0_A.sl.r_32 kernelRun0_A.sl.r_33 kernelRun0_A.sl.r_34
  rw [v988_eq, v990_eq, v992_eq, v1002_eq, v1007_eq, v1011_eq]
  rfl

/-- The last group, normalized with the others. -/
theorem pay211_eq (m0 m1 m2 : FVec Ideal S512x128 .f32) (l0 l1 l2 o0 o1 o2 : Vec Ideal S1x512x128 .f32) (g : Vec Ideal S1x512 .f32) :
    k0_pay211 (F := Ideal) m0 m1 m2 (k0_pay207 l0 l1 l2) (k0_pay208 l0 l1 l2) (k0_pay209 l0 l1 l2) (k0_pay210 l0 l1 l2 o0) o1 o2 g
      = normB (concatenate S512x512 1 [⟨S512x128, m0⟩, ⟨S512x128, m1⟩, ⟨S512x128, m2⟩, ⟨S512x128, mixG l0 l1 l2 o0 o1 o2⟩]
          concatenates_S512x128_S512x128_S512x128_S512x128_S512x512_d1) g := rfl

theorem r_40_eq : kernelRun0_A.sl.r_40 (F := Ideal) c arg3 harg3 arg4 harg4 arg5 harg5 arg6 harg6 arg7 harg7 arg8 harg8 arg10 harg10 arg14 arg15 x1 x2 x3 x4 x5 x6 x8
    = normB (cat (grp x1 x2 x3 x4 x5 x6)) x8 := by
  unfold kernelRun0_A.sl.r_40 kernelRun0_A.sl.r_36 kernelRun0_A.sl.r_37 kernelRun0_A.sl.r_38 kernelRun0_A.sl.r_39
  rw [r_26_eq, r_31_eq, r_35_eq, v1020_eq, v1022_eq, v1024_eq, v1034_eq, v1039_eq, v1043_eq, load_whole arg10 harg10 x8 off2, pay211_eq]
  rfl

theorem r_44_eq : kernelRun0_A.sl.r_44 (F := Ideal) c arg9 harg9 arg11 harg11 x7 x9 = normB (k0_pay212 x7) x9 := by
  unfold kernelRun0_A.sl.r_44 kernelRun0_A.sl.r_41 kernelRun0_A.sl.r_42 kernelRun0_A.sl.r_43
  rw [load_whole arg9 harg9 x7 off3, load_whole arg11 harg11 x9 off2]
  rfl

/-- THE STEP'S BLOCK. -/
theorem out_eq : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
      = blockOut x0 x1 x2 x3 x4 x5 x6 x7 x8 x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)]
  unfold kernelRun0_A
  dsimp only
  rw [View.canon_unit_zero off3]
  unfold kernelRun0_A.sl.r_45
  rw [r_44_eq, r_40_eq, load_lo, load_hi, load_whole arg2 harg2 x0 off3]
  rfl

end Cert.Merge

end
-- ==== Proof.Merge.Ref.lean ====
/- The reference merge read at a batch, position and column, for finite log-sum-exps; and the precondition read back: it says
   the log-sum-exps are finite. -/
module

public import proofs.«01_k».proof.Proof.Merge.Spec
public import proofs.«01_k».proof.Proof.Gen.Reference5Ideal.Read
public import proofs.«01_k».proof.Pre_finite_lse
public import proofs.«01_k».proof.Proof.Gen.Pre_finite_lse
public import Idealize.ShloMosaic.Lib.ReduceAll
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.Merge

open Idealize.ShloMosaic Idealize.ShloMosaic.TcCoe
open Idealize.ShloMosaic.ValueIdx
open Cert.Attn (pw pw_pos weights exists_real)
open Cert.Reference5Ideal Cert.Reference5Ideal.Read

abbrev VO : Type := (⟨(⟨4, ![4, 8192, 8, 64]⟩ : Shape), .f32⟩ : BufTy).Contents (Elt Ideal)
abbrev VL : Type := (⟨(⟨3, ![4, 8192, 8]⟩ : Shape), .f32⟩ : BufTy).Contents (Elt Ideal)

variable (x0 : (⟨(⟨3, ![4, 8192, 1024]⟩ : Shape), .f32⟩ : BufTy).Contents (Elt Ideal))
  (x1 x2 x3 : VO) (x4 x5 x6 : VL)
  (x7 : (⟨(⟨3, ![4, 8192, 512]⟩ : Shape), .f32⟩ : BufTy).Contents (Elt Ideal))
  (x8 x9 : (⟨(⟨2, ![1, 512]⟩ : Shape), .f32⟩ : BufTy).Contents (Elt Ideal))
  (x10 : (⟨(⟨3, ![1, 1024, 1024]⟩ : Shape), .f32⟩ : BufTy).Contents (Elt Ideal))
  (lr : Fin 3 → (⟨3, ![4, 8192, 8]⟩ : Shape).Idx → ℝ)

theorem log2_pos : (0 : ℝ) < Real.log 2 := Real.log_pos (by norm_num)

/-- The head and lane of a column. -/
def head (n : Fin 512) : Fin 8 := ⟨n.val / 64, by omega⟩
def lane (n : Fin 512) : Fin 64 := ⟨n.val % 64, by omega⟩

/-- The merged row before its normalization. -/
def mrow (b : Fin 4) (p : Fin 8192) (n : Fin 512) : EReal :=
  mixed (fun j => lr j (ix3 b p (head n)) / Real.log 2)
    ![x1 (ix4 b p (head n) (lane n)), x2 (ix4 b p (head n) (lane n)), x3 (ix4 b p (head n) (lane n))]

/-- The arguments' other rows. -/
abbrev aX (b : Fin 4) (p : Fin 8192) (k : Fin 1024) : EReal := x0 (ix3 b p k)
abbrev aB (b : Fin 4) (p : Fin 8192) (k : Fin 512) : EReal := x7 (ix3 b p k)
abbrev aG (g : (⟨(⟨2, ![1, 512]⟩ : Shape), .f32⟩ : BufTy).Contents (Elt Ideal)) (k : Fin 512) : EReal := g (ix2 (0 : Fin 1) k)
abbrev aW (n k : Fin 1024) : EReal := x10 (ix3 (0 : Fin 1) n k)

/-- The log-sum-exps are the reals `lr`. -/
def IsReal : Prop := (∀ i, (x4 i : EReal) = lr 0 i) ∧ (∀ i, (x5 i : EReal) = lr 1 i) ∧ ∀ i, (x6 i : EReal) = lr 2 i

theorem ref_lse (h : IsReal x4 x5 x6 lr) (j : Fin 3) (b : Fin 4) (p : Fin 8192) (e : Fin 8) :
    (val_main_v3 (F := Ideal) x4 x5 x6 (ix4 j b p e) : EReal) = lr j (ix3 b p e) := by
  unfold val_main_v3
  have h0 : (val_main_v0 (F := Ideal) x4 (ix4 (0 : Fin 1) b p e) : EReal) = lr 0 (ix3 b p e) := by
    rw [val_main_v0_apply]
    exact (congrArg x4 (funext fun a => by match a with | ⟨0, _⟩ => rfl | ⟨1, _⟩ => rfl | ⟨2, _⟩ => rfl)).trans (h.1 _)
  have h1 : (val_main_v1 (F := Ideal) x5 (ix4 (0 : Fin 1) b p e) : EReal) = lr 1 (ix3 b p e) := by
    rw [val_main_v1_apply]
    exact (congrArg x5 (funext fun a => by match a with | ⟨0, _⟩ => rfl | ⟨1, _⟩ => rfl | ⟨2, _⟩ => rfl)).trans (h.2.1 _)
  have h2 : (val_main_v2 (F := Ideal) x6 (ix4 (0 : Fin 1) b p e) : EReal) = lr 2 (ix3 b p e) := by
    rw [val_main_v2_apply]
    exact (congrArg x6 (funext fun a => by match a with | ⟨0, _⟩ => rfl | ⟨1, _⟩ => rfl | ⟨2, _⟩ => rfl)).trans (h.2.2 _)
  generalize val_main_v0 (F := Ideal) x4 = A at h0 ⊢
  generalize val_main_v1 (F := Ideal) x5 = B at h1 ⊢
  generalize val_main_v2 (F := Ideal) x6 = C at h2 ⊢
  match j with
  | ⟨0, _⟩ =>
    exact (concatenate_apply_piece (t := S3x4x8192x8) 0 [⟨S1x4x8192x8, A⟩, ⟨S1x4x8192x8, B⟩, ⟨S1x4x8192x8, C⟩] _ _ 0 (by simp) S1x4x8192x8 A rfl rfl 0 rfl
      (ix4 (0 : Fin 1) b p e) (fun d hd => by
        match d with
        | ⟨0, _⟩ => exact absurd rfl hd
        | ⟨1, _⟩ => rfl
        | ⟨2, _⟩ => rfl
        | ⟨3, _⟩ => rfl) rfl).trans h0
  | ⟨1, _⟩ =>
    exact (concatenate_apply_piece (t := S3x4x8192x8) 0 [⟨S1x4x8192x8, A⟩, ⟨S1x4x8192x8, B⟩, ⟨S1x4x8192x8, C⟩] _ _ 1 (by simp) S1x4x8192x8 B rfl rfl 1 rfl
      (ix4 (0 : Fin 1) b p e) (fun d hd => by
        match d with
        | ⟨0, _⟩ => exact absurd rfl hd
        | ⟨1, _⟩ => rfl
        | ⟨2, _⟩ => rfl
        | ⟨3, _⟩ => rfl) rfl).trans h1
  | ⟨2, _⟩ =>
    exact (concatenate_apply_piece (t := S3x4x8192x8) 0 [⟨S1x4x8192x8, A⟩, ⟨S1x4x8192x8, B⟩, ⟨S1x4x8192x8, C⟩] _ _ 2 (by simp) S1x4x8192x8 C rfl rfl 2 rfl
      (ix4 (0 : Fin 1) b p e) (fun d hd => by
        match d with
        | ⟨0, _⟩ => exact absurd rfl hd
        | ⟨1, _⟩ => rfl
        | ⟨2, _⟩ => rfl
        | ⟨3, _⟩ => rfl) rfl).trans h2

theorem ref_outs (j : Fin 3) (b : Fin 4) (p : Fin 8192) (e : Fin 8) (l : Fin 64) :
    (val_main_v19 (F := Ideal) x1 x2 x3 (ix5 j b p e l) : EReal) = ![x1 (ix4 b p e l), x2 (ix4 b p e l), x3 (ix4 b p e l)] j := by
  unfold val_main_v19
  have h0 : (val_main_v16 (F := Ideal) x1 (ix5 (0 : Fin 1) b p e l) : EReal) = x1 (ix4 b p e l) := by
    rw [val_main_v16_apply]
    exact congrArg x1 (funext fun a => by match a with | ⟨0, _⟩ => rfl | ⟨1, _⟩ => rfl | ⟨2, _⟩ => rfl | ⟨3, _⟩ => rfl)
  have h1 : (val_main_v17 (F := Ideal) x2 (ix5 (0 : Fin 1) b p e l) : EReal) = x2 (ix4 b p e l) := by
    rw [val_main_v17_apply]
    exact congrArg x2 (funext fun a => by match a with | ⟨0, _⟩ => rfl | ⟨1, _⟩ => rfl | ⟨2, _⟩ => rfl | ⟨3, _⟩ => rfl)
  have h2 : (val_main_v18 (F := Ideal) x3 (ix5 (0 : Fin 1) b p e l) : EReal) = x3 (ix4 b p e l) := by
    rw [val_main_v18_apply]
    exact congrArg x3 (funext fun a => by match a with | ⟨0, _⟩ => rfl | ⟨1, _⟩ => rfl | ⟨2, _⟩ => rfl | ⟨3, _⟩ => rfl)
  generalize val_main_v16 (F := Ideal) x1 = A at h0 ⊢
  generalize val_main_v17 (F := Ideal) x2 = B at h1 ⊢
  generalize val_main_v18 (F := Ideal) x3 = C at h2 ⊢
  match j with
  | ⟨0, _⟩ =>
    exact (concatenate_apply_piece (t := S3x4x8192x8x64) 0 [⟨S1x4x8192x8x64, A⟩, ⟨S1x4x8192x8x64, B⟩, ⟨S1x4x8192x8x64, C⟩] _ _ 0 (by simp) S1x4x8192x8x64 A rfl rfl 0 rfl
      (ix5 (0 : Fin 1) b p e l) (fun d hd => by
        match d with
        | ⟨0, _⟩ => exact absurd rfl hd
        | ⟨1, _⟩ => rfl
        | ⟨2, _⟩ => rfl
        | ⟨3, _⟩ => rfl
        | ⟨4, _⟩ => rfl) rfl).trans h0
  | ⟨1, _⟩ =>
    exact (concatenate_apply_piece (t := S3x4x8192x8x64) 0 [⟨S1x4x8192x8x64, A⟩, ⟨S1x4x8192x8x64, B⟩, ⟨S1x4x8192x8x64, C⟩] _ _ 1 (by simp) S1x4x8192x8x64 B rfl rfl 1 rfl
      (ix5 (0 : Fin 1) b p e l) (fun d hd => by
        match d with
        | ⟨0, _⟩ => exact absurd rfl hd
        | ⟨1, _⟩ => rfl
        | ⟨2, _⟩ => rfl
        | ⟨3, _⟩ => rfl
        | ⟨4, _⟩ => rfl) rfl).trans h1
  | ⟨2, _⟩ =>
    exact (concatenate_apply_piece (t := S3x4x8192x8x64) 0 [⟨S1x4x8192x8x64, A⟩, ⟨S1x4x8192x8x64, B⟩, ⟨S1x4x8192x8x64, C⟩] _ _ 2 (by simp) S1x4x8192x8x64 C rfl rfl 2 rfl
      (ix5 (0 : Fin 1) b p e l) (fun d hd => by
        match d with
        | ⟨0, _⟩ => exact absurd rfl hd
        | ⟨1, _⟩ => rfl
        | ⟨2, _⟩ => rfl
        | ⟨3, _⟩ => rfl
        | ⟨4, _⟩ => rfl) rfl).trans h2

/-- The greatest log-sum-exp is a real. -/
theorem ref_max (h : IsReal x4 x5 x6 lr) (b : Fin 4) (p : Fin 8192) (e : Fin 8) :
    ∃ M : ℝ, (val_main_v6 (F := Ideal) x4 x5 x6 (ix3 b p e) : EReal) = M := by
  have hr : S3x4x8192x8.Reduces [0] S4x8192x8 := by decide
  have eb : (FloatOps.ofBits (F := Ideal) .f32 0xFF800000#32 : EReal) = ⊥ := by
    show Ideal.ofBits .f32 0xFF800000#32 = ⊥
    simp [Ideal.ofBits, Ideal.ieee]
  have e4 : (val_main_v4 (F := Ideal) x4 x5 x6 (ix3 b p e) : EReal)
      = (Finset.univ : Finset (Fin 3)).fold max ⊥ fun j => ((lr j (ix3 b p e) : ℝ) : EReal) := by
    unfold val_main_v4
    have hl := fun j => ref_lse x4 x5 x6 lr h j b p e
    generalize (val_main_v3 (F := Ideal) x4 x5 x6 : FVec Ideal S3x4x8192x8 .f32) = X at hl ⊢
    unfold val_main_cst
    refine (congrFun (hostReduce_maximumf_eq_multiReduction (F := Ideal) (φ := .f32) X 0xFF800000#32 _ _ hr (.inl rfl) rfl) _).trans ?_
    refine (Ideal.multiReduction_maximumf_single _ _ _ _ _ _).trans ?_
    rw [eb]
    refine Finset.fold_congr fun j _ => ?_
    refine Eq.trans ?_ (hl j)
    refine congrArg X (funext fun a => ?_)
    match a with | ⟨0, _⟩ => rfl | ⟨1, _⟩ => rfl | ⟨2, _⟩ => rfl | ⟨3, _⟩ => rfl
  have e5 : (val_main_v6 (F := Ideal) x4 x5 x6 (ix3 b p e) : EReal)
      = max ⊥ ((Finset.univ : Finset (Fin 3)).fold max ⊥ fun j => ((lr j (ix3 b p e) : ℝ) : EReal)) := by
    rw [val_main_v6_apply, val_main_v5_apply, val_main_cst_0_apply]
    exact congrArg₂ max eb e4
  rw [e5, bot_sup_eq]
  refine exists_real (ne_of_gt ?_) (ne_of_lt ?_)
  · exact (Finset.lt_fold_max (c := (⊥ : EReal))).2 (Or.inr ⟨0, Finset.mem_univ _, EReal.bot_lt_coe _⟩)
  · exact (Finset.fold_max_lt (c := (⊤ : EReal))).2 ⟨bot_lt_top, fun j _ => EReal.coe_lt_top _⟩

/-- The reference's exponential. -/
theorem ref_exp (h : IsReal x4 x5 x6 lr) (b : Fin 4) (p : Fin 8192) (e : Fin 8) (j : Fin 3) (M : ℝ)
    (hM : (val_main_v6 (F := Ideal) x4 x5 x6 (ix3 b p e) : EReal) = M) :
    (val_main_v10 (F := Ideal) x4 x5 x6 (ix4 j b p e) : EReal)
      = Ideal.exp (((lr j (ix3 b p e) / Real.log 2 * Real.log 2 : ℝ) : EReal) - (M : EReal)) := by
  have hl := log2_pos.ne'
  rw [val_main_v10_apply, val_main_v9_apply, val_main_v8_apply, val_main_v7_apply, ref_lse x4 x5 x6 lr h, div_mul_cancel₀ _ hl]
  have e : idx_main_v7 (idx_main_v8 (ix4 j b p e)) = ix3 b p e := funext fun a => by
    match a with | ⟨0, _⟩ => rfl | ⟨1, _⟩ => rfl | ⟨2, _⟩ => rfl
  rw [e, hM]
  rfl

/-- The merged row. -/
theorem ref_mix (h : IsReal x4 x5 x6 lr) (b : Fin 4) (p : Fin 8192) (n : Fin 512) :
    (val_main_v23 (F := Ideal) x1 x2 x3 x4 x5 x6 (ix3 b p n) : EReal) = mrow x1 x2 x3 lr b p n := by
  obtain ⟨M, hM⟩ := ref_max x4 x5 x6 lr h b p (head n)
  have hi : idx_main_v23 (ix3 b p n) = ix4 b p (head n) (lane n) := funext fun a => Fin.ext (by
    have hb := b.isLt
    have hp := p.isLt
    have hn := n.isLt
    match a with
    | ⟨0, _⟩ => show ((b.val * 8192 + p.val) * 512 + n.val) / 4194304 = b.val; omega
    | ⟨1, _⟩ => show ((b.val * 8192 + p.val) * 512 + n.val) / 512 % 8192 = p.val; omega
    | ⟨2, _⟩ => show ((b.val * 8192 + p.val) * 512 + n.val) / 64 % 8 = n.val / 64; omega
    | ⟨3, _⟩ => show ((b.val * 8192 + p.val) * 512 + n.val) % 64 = n.val % 64; omega)
  rw [val_main_v23_apply, hi, val_main_v22_apply]
  refine (congrArg (· + _) Ideal.ofBits_zero_f32).trans ((zero_add _).trans ?_)
  unfold mrow mixed
  refine Eq.trans ?_ (weights (fun j => lr j (ix3 b p (head n)) / Real.log 2) M _)
  refine Finset.sum_congr rfl fun j _ => ?_
  rw [val_main_v21_apply]
  refine (mul_comm _ _).trans ?_
  refine congrArg₂ (· * ·) ?_ ?_
  · refine Eq.trans (congrArg (val_main_v19 (F := Ideal) x1 x2 x3) (funext fun a => ?_)) (ref_outs x1 x2 x3 j b p (head n) (lane n))
    match a with | ⟨0, _⟩ => rfl | ⟨1, _⟩ => rfl | ⟨2, _⟩ => rfl | ⟨3, _⟩ => rfl | ⟨4, _⟩ => rfl
  · have hj : idx_main_v15 (idx_main_v20 (idx_main_v22 (ix4 b p (head n) (lane n)) j)) = ix4 j b p (head n) := funext fun a => by
      match a with | ⟨0, _⟩ => rfl | ⟨1, _⟩ => rfl | ⟨2, _⟩ => rfl | ⟨3, _⟩ => rfl
    rw [val_main_v20_apply, val_main_v15_apply, hj, val_main_v14_apply, val_main_v13_apply, val_main_v12_apply, val_main_v11_apply]
    refine congrArg₂ Ideal.div (ref_exp x4 x5 x6 lr h b p (head n) j M hM) (congrArg₂ (· + ·) Ideal.ofBits_zero_f32 ?_)
    refine Finset.sum_congr rfl fun j' _ => ?_
    refine Eq.trans (congrArg (val_main_v10 (F := Ideal) x4 x5 x6) (funext fun a => ?_)) (ref_exp x4 x5 x6 lr h b p (head n) j' M hM)
    match a with | ⟨0, _⟩ => rfl | ⟨1, _⟩ => rfl | ⟨2, _⟩ => rfl | ⟨3, _⟩ => rfl

theorem ref_rs_a (h : IsReal x4 x5 x6 lr) (b : Fin 4) (p : Fin 8192) (n : Fin 512) :
    (val_main_v33 (F := Ideal) x1 x2 x3 x4 x5 x6 (ix3 b p n) : EReal) = rs (mrow x1 x2 x3 lr b p) := by
  rw [val_main_v33_apply, val_main_v32_apply, val_main_v31_apply, val_main_v29_apply, val_main_v27_apply, val_main_v26_apply,
    val_main_v28_apply, val_main_v30_apply, val_main_cst_3_apply, val_main_cst_4_apply, val_main_cst_5_apply]
  refine congrArg (fun z : EReal => Ideal.rsqrt (Ideal.div z _ + _)) ?_
  refine (congrArg (· + _) Ideal.ofBits_zero_f32).trans ((zero_add _).trans ?_)
  refine Finset.sum_congr rfl fun q _ => ?_
  rw [val_main_v25_apply]
  have e : idx_main_v26 (idx_main_v27 (idx_main_v33 (ix3 b p n))) q = ix3 b p q := funext fun a => by
    match a with | ⟨0, _⟩ => rfl | ⟨1, _⟩ => rfl | ⟨2, _⟩ => rfl
  rw [e, ref_mix x1 x2 x3 x4 x5 x6 lr h]
  rfl

theorem ref_norm_a (h : IsReal x4 x5 x6 lr) (b : Fin 4) (p : Fin 8192) (n : Fin 512) :
    (val_main_v37 (F := Ideal) x1 x2 x3 x4 x5 x6 x8 (ix3 b p n) : EReal) = norm (aG x8) (mrow x1 x2 x3 lr b p) n := by
  rw [val_main_v37_apply, val_main_v34_apply, val_main_v36_apply, val_main_v35_apply, val_main_v24_apply, ref_mix x1 x2 x3 x4 x5 x6 lr h,
    ref_rs_a x1 x2 x3 x4 x5 x6 lr h]
  have e : idx_main_v24 (idx_main_v35 (idx_main_v36 (ix3 b p n))) = ix2 (0 : Fin 1) n := funext fun a => Fin.ext (by
    match a with
    | ⟨0, _⟩ => rfl
    | ⟨1, _⟩ => show n.val % 512 = n.val; omega)
  rw [e]
  rfl

theorem ref_rs_b (b : Fin 4) (p : Fin 8192) (n : Fin 512) :
    (val_main_v47 (F := Ideal) x7 (ix3 b p n) : EReal) = rs (aB x7 b p) := by
  rw [val_main_v47_apply, val_main_v46_apply, val_main_v45_apply, val_main_v43_apply, val_main_v41_apply, val_main_v40_apply,
    val_main_v42_apply, val_main_v44_apply, val_main_cst_6_apply, val_main_cst_7_apply, val_main_cst_8_apply]
  refine congrArg (fun z : EReal => Ideal.rsqrt (Ideal.div z _ + _)) ?_
  refine (congrArg (· + _) Ideal.ofBits_zero_f32).trans ((zero_add _).trans ?_)
  refine Finset.sum_congr rfl fun q _ => ?_
  rw [val_main_v39_apply]
  have e : idx_main_v40 (idx_main_v41 (idx_main_v47 (ix3 b p n))) q = ix3 b p q := funext fun a => by
    match a with | ⟨0, _⟩ => rfl | ⟨1, _⟩ => rfl | ⟨2, _⟩ => rfl
  rw [e]
  rfl

theorem ref_norm_b (b : Fin 4) (p : Fin 8192) (n : Fin 512) :
    (val_main_v51 (F := Ideal) x7 x9 (ix3 b p n) : EReal) = norm (aG x9) (aB x7 b p) n := by
  rw [val_main_v51_apply, val_main_v48_apply, val_main_v50_apply, val_main_v49_apply, val_main_v38_apply, ref_rs_b]
  have e : idx_main_v38 (idx_main_v49 (idx_main_v50 (ix3 b p n))) = ix2 (0 : Fin 1) n := funext fun a => Fin.ext (by
    match a with
    | ⟨0, _⟩ => rfl
    | ⟨1, _⟩ => show n.val % 512 = n.val; omega)
  rw [e]
  rfl

/-- The reference at a batch, position and column. -/
theorem ref_out (h : IsReal x4 x5 x6 lr) (b : Fin 4) (p : Fin 8192) (k : Fin 1024) :
    (val_main_v55 (F := Ideal) x0 x1 x2 x3 x4 x5 x6 x7 x8 x9 x10 (ix3 b p k) : EReal)
      = out (aW x10) (aX x0 b p) (norm (aG x8) (mrow x1 x2 x3 lr b p)) (norm (aG x9) (aB x7 b p)) k := by
  rw [val_main_v55_apply, val_main_v54_apply]
  refine Eq.trans ?_ (out_cat (aW x10) (aX x0 b p) _ _ (fun n => val_main_v52 (F := Ideal) x1 x2 x3 x4 x5 x6 x7 x8 x9 (ix3 b p n)) ?_ ?_ k)
  · refine congrArg (fun z : EReal => x0 (ix3 b p k) + z) (Finset.sum_congr rfl fun q _ => ?_)
    have e : lidx_main_v54 (ix3 b p k) q = ix3 b p q := funext fun a => by
      match a with | ⟨0, _⟩ => rfl | ⟨1, _⟩ => rfl | ⟨2, _⟩ => rfl
    have e' : idx_main_v53 (ridx_main_v54 (ix3 b p k) q) = ix3 (0 : Fin 1) q k := funext fun a => Fin.ext (by
      match a with
      | ⟨0, _⟩ => rfl
      | ⟨1, _⟩ => show (q.val * 1024 + k.val) / 1024 % 1024 = q.val; omega
      | ⟨2, _⟩ => show (q.val * 1024 + k.val) % 1024 = k.val; omega)
    rw [e, val_main_v53_apply, e']
  · intro n
    refine Eq.trans ?_ (ref_norm_a x1 x2 x3 x4 x5 x6 x8 lr h b p n)
    show val_main_v52 (F := Ideal) x1 x2 x3 x4 x5 x6 x7 x8 x9 (ix3 b p (⟨n.val, _⟩ : Fin 1024)) = _
    unfold val_main_v52
    generalize val_main_v37 (F := Ideal) x1 x2 x3 x4 x5 x6 x8 = A
    generalize val_main_v51 (F := Ideal) x7 x9 = B
    exact concatenate_apply_piece (t := S4x8192x1024) 2 [⟨S4x8192x512, A⟩, ⟨S4x8192x512, B⟩] _ _ 0 (by simp) S4x8192x512 A rfl rfl 0 rfl
      (ix3 b p n) (fun d hd => by
        match d with
        | ⟨0, _⟩ => rfl
        | ⟨1, _⟩ => rfl
        | ⟨2, _⟩ => exact absurd rfl hd) (by show 0 + n.val = n.val; omega)
  · intro n
    refine Eq.trans ?_ (ref_norm_b x7 x9 b p n)
    show val_main_v52 (F := Ideal) x1 x2 x3 x4 x5 x6 x7 x8 x9 (ix3 b p (⟨512 + n.val, _⟩ : Fin 1024)) = _
    unfold val_main_v52
    generalize val_main_v37 (F := Ideal) x1 x2 x3 x4 x5 x6 x8 = A
    generalize val_main_v51 (F := Ideal) x7 x9 = B
    exact concatenate_apply_piece (t := S4x8192x1024) 2 [⟨S4x8192x512, A⟩, ⟨S4x8192x512, B⟩] _ _ 1 (by simp) S4x8192x512 B rfl rfl 512 rfl
      (ix3 b p n) (fun d hd => by
        match d with
        | ⟨0, _⟩ => rfl
        | ⟨1, _⟩ => rfl
        | ⟨2, _⟩ => exact absurd rfl hd) rfl

/-- A number whose absolute value is below plus infinity is a real. -/
theorem real_of_below {x : EReal} (h : FloatOps.cmpf (F := Ideal) (φ := .f32) .olt (FloatOps.hostAbsf (F := Ideal) (φ := .f32) x) (FloatOps.ofBits .f32 0x7F800000#32) = 1#1) : ∃ r : ℝ, x = r := by
  have e : (FloatOps.ofBits (F := Ideal) .f32 0x7F800000#32 : EReal) = ⊤ := by
    show Ideal.ofBits .f32 0x7F800000#32 = ⊤
    simp [Ideal.ofBits, Ideal.ieee]
  rw [e] at h
  have h' : Ideal.cmp .olt (max x (-x)) ⊤ = 1#1 := h
  have hlt : max x (-x) < ⊤ := by
    by_contra hn
    simp [Ideal.cmp, hn] at h'
  refine exists_real (fun hb => ?_) (ne_of_lt (lt_of_le_of_lt (le_max_left _ _) hlt))
  subst hb
  simp at hlt

/-- The precondition says the log-sum-exps are finite. -/
theorem finite_args [Cert.Pre_finite_lse.Facts]
    (h : Cert.Pre_finite_lse.fn (F := Ideal) x0 x1 x2 x3 x4 x5 x6 x7 x8 x9 x10 = fun _ => 1#1) : ∃ lr, IsReal x4 x5 x6 lr := by
  unfold Cert.Pre_finite_lse.fn at h
  dsimp only at h
  have h0 := congrFun h (Shape.Idx.first Cert.Pre_finite_lse.Facts.h_S_)
  have hand : ∀ a b : BitVec 1, IntOp.andi a b = 1#1 → a = 1#1 ∧ b = 1#1 := by decide
  obtain ⟨hab, hc⟩ := hand _ _ h0
  obtain ⟨ha, hb⟩ := hand _ _ hab
  haveI : Subsingleton Cert.Pre_finite_lse.S_.Idx := ⟨fun a b => funext fun x => x.elim0⟩
  have r4 : ∀ i, ∃ r : ℝ, (x4 i : EReal) = r := fun i => real_of_below (Host.reduce_andi_all _ _ _ _ _ ha i)
  have r5 : ∀ i, ∃ r : ℝ, (x5 i : EReal) = r := fun i => real_of_below (Host.reduce_andi_all _ _ _ _ _ hb i)
  have r6 : ∀ i, ∃ r : ℝ, (x6 i : EReal) = r := fun i => real_of_below (Host.reduce_andi_all _ _ _ _ _ hc i)
  choose l4 h4 using r4
  choose l5 h5 using r5
  choose l6 h6 using r6
  exact ⟨![l4, l5, l6], h4, h5, h6⟩

end Cert.Merge

end
-- ==== Proof.Merge.Entry.lean ====
/- The arrays the merge finds: the host's layout of the outputs and the log-sum-exps by residue of the position, the scaling of
   the log-sum-exps and the truncations, read at an index. -/
module

public import proofs.«01_k».proof.Proof.Gen.Kernel5Ideal.Frame.Runs
public import proofs.«01_k».proof.Proof.Merge.Ref
public import Idealize.ShloMosaic.Lib.KernelVsHost
public import Idealize.ShloMosaic.Lib.Pipeline.Value
public import Idealize.ShloMosaic.Lib.ValueIdx
public import Idealize.ShloMosaic.Lib.IdealHost

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx

/-! Positions laid by residue, heads and lanes side by side. -/

def lay1 (X : S4x8192x8x64.Idx → EReal) : S4x1x8192x512.Idx → EReal :=
  transpose S4x1x8192x512 [0, 2, 1, 3] (shapeCast S4x8192x1x512 X shapeCasts_S4x8192x8x64_S4x8192x1x512) transposes_S4x8192x1x512_S4x1x8192x512_0_2_1_3

theorem lay1_apply (X : S4x8192x8x64.Idx → EReal) (b : Fin 4) (a : Fin 1) (j : Fin 8192) (n : Fin 512) (p : Fin 8192)
    (hp : p.val = 1 * j.val + a.val) : lay1 X (ix4 b a j n) = X (ix4 b p (head n) (lane n)) := by
  unfold lay1
  refine (transpose_apply _ _ _ (ix4 b a j n) (ix4 b j a n) fun d => ?_).trans ?_
  · match d with
    | ⟨0, _⟩ => rfl
    | ⟨1, _⟩ => rfl
    | ⟨2, _⟩ => rfl
    | ⟨3, _⟩ => rfl
  · refine shapeCast_apply X _ _ _ ?_
    rw [Shape.rowMajor_val_four, Shape.rowMajor_val_four]
    show ((b.val * 8192 + p.val) * 8 + n.val / 64) * 64 + n.val % 64 = ((b.val * 8192 + j.val) * 1 + a.val) * 512 + n.val
    have := n.isLt
    omega

def lay4 (X : S4x8192x8x64.Idx → EReal) : S4x4x2048x512.Idx → EReal :=
  transpose S4x4x2048x512 [0, 2, 1, 3] (shapeCast S4x2048x4x512 X shapeCasts_S4x8192x8x64_S4x2048x4x512) transposes_S4x2048x4x512_S4x4x2048x512_0_2_1_3

theorem lay4_apply (X : S4x8192x8x64.Idx → EReal) (b : Fin 4) (a : Fin 4) (j : Fin 2048) (n : Fin 512) (p : Fin 8192)
    (hp : p.val = 4 * j.val + a.val) : lay4 X (ix4 b a j n) = X (ix4 b p (head n) (lane n)) := by
  unfold lay4
  refine (transpose_apply _ _ _ (ix4 b a j n) (ix4 b j a n) fun d => ?_).trans ?_
  · match d with
    | ⟨0, _⟩ => rfl
    | ⟨1, _⟩ => rfl
    | ⟨2, _⟩ => rfl
    | ⟨3, _⟩ => rfl
  · refine shapeCast_apply X _ _ _ ?_
    rw [Shape.rowMajor_val_four, Shape.rowMajor_val_four]
    show ((b.val * 8192 + p.val) * 8 + n.val / 64) * 64 + n.val % 64 = ((b.val * 2048 + j.val) * 4 + a.val) * 512 + n.val
    have := n.isLt
    omega

def lay16 (X : S4x8192x8x64.Idx → EReal) : S4x16x512x512.Idx → EReal :=
  transpose S4x16x512x512 [0, 2, 1, 3] (shapeCast S4x512x16x512 X shapeCasts_S4x8192x8x64_S4x512x16x512) transposes_S4x512x16x512_S4x16x512x512_0_2_1_3

theorem lay16_apply (X : S4x8192x8x64.Idx → EReal) (b : Fin 4) (a : Fin 16) (j : Fin 512) (n : Fin 512) (p : Fin 8192)
    (hp : p.val = 16 * j.val + a.val) : lay16 X (ix4 b a j n) = X (ix4 b p (head n) (lane n)) := by
  unfold lay16
  refine (transpose_apply _ _ _ (ix4 b a j n) (ix4 b j a n) fun d => ?_).trans ?_
  · match d with
    | ⟨0, _⟩ => rfl
    | ⟨1, _⟩ => rfl
    | ⟨2, _⟩ => rfl
    | ⟨3, _⟩ => rfl
  · refine shapeCast_apply X _ _ _ ?_
    rw [Shape.rowMajor_val_four, Shape.rowMajor_val_four]
    show ((b.val * 8192 + p.val) * 8 + n.val / 64) * 64 + n.val % 64 = ((b.val * 512 + j.val) * 16 + a.val) * 512 + n.val
    have := n.isLt
    omega

/-- The log-sum-exps over the logarithm of two, repeated along the lanes. -/
def scaled (x : FVec Ideal S4x8192x8 .f32) : FVec Ideal S4x8192x8x64 .f32 :=
  broadcastInDim S4x8192x8x64 ![0, 1, 2, 3] bcast_S4x8192x8x1_S4x8192x8x64_0_1_2_3
    (broadcastInDim S4x8192x8x1 ![0, 1, 2] bcast_S4x8192x8_S4x8192x8x1_0_1_2
      (Host.divf x (broadcastInDim S4x8192x8 ![] bcast_S_S4x8192x8 (Host.log (constant (F := Ideal) S_ .f32 0x40000000#32)))))

theorem two_word : Ideal.ofBits .f32 0x40000000#32 = ((2 : ℝ) : EReal) := by
  simp [Ideal.ofBits, Ideal.ieee]
  rw [← EReal.coe_mul]
  norm_num

theorem scaled_apply (x : FVec Ideal S4x8192x8 .f32) (b : Fin 4) (p : Fin 8192) (e : Fin 8) (l : Fin 64) (t : ℝ)
    (h : (x (ix3 b p e) : EReal) = t) : (scaled x (ix4 b p e l) : EReal) = ((t / Real.log 2 : ℝ) : EReal) := by
  unfold scaled
  refine (broadcastInDim_apply _ _ _ (ix4 b p e l) (ix4 b p e (0 : Fin 1)) fun a => ?_).trans ?_
  · match a with
    | ⟨0, _⟩ => rfl
    | ⟨1, _⟩ => rfl
    | ⟨2, _⟩ => rfl
    | ⟨3, _⟩ => rfl
  refine (broadcastInDim_apply _ _ _ (ix4 b p e (0 : Fin 1)) (ix3 b p e) fun a => ?_).trans ?_
  · match a with
    | ⟨0, _⟩ => rfl
    | ⟨1, _⟩ => rfl
    | ⟨2, _⟩ => rfl
  show Ideal.div (x (ix3 b p e)) (Ideal.log (Ideal.ofBits .f32 0x40000000#32)) = _
  rw [h, two_word, Ideal.log_coe, if_neg (by norm_num), Ideal.div, if_neg (by exact_mod_cast log2_pos.ne'), ← EReal.coe_inv,
    ← EReal.coe_mul, div_eq_mul_inv]

/-! Reshapes that drop or add a leading axis of size one. -/

theorem cast_g (v : FVec Ideal S1x512 .f32) (k : Fin 512) :
    (shapeCast S1x512 (shapeCast S512 v shapeCasts_S1x512_S512) shapeCasts_S512_S1x512 (ix2 (0 : Fin 1) k) : EReal)
      = v (ix2 (0 : Fin 1) k) := by
  refine (shapeCast_apply _ shapeCasts_S512_S1x512 (ix2 (0 : Fin 1) k) (ix1 k) ?_).trans
    (shapeCast_apply v shapeCasts_S1x512_S512 (ix1 k) (ix2 (0 : Fin 1) k) ?_)
  · rw [Shape.rowMajor_val_two, Shape.rowMajor_val_one]
    show k.val = 0 * 512 + k.val
    omega
  · rw [Shape.rowMajor_val_two, Shape.rowMajor_val_one]
    show 0 * 512 + k.val = k.val
    omega

theorem cast_w (v : FVec Ideal S1x1024x1024 .f32) (n k : Fin 1024) :
    (shapeCast S1024x1024 v shapeCasts_S1x1024x1024_S1024x1024 (ix2 n k) : EReal) = v (ix3 (0 : Fin 1) n k) := by
  refine shapeCast_apply _ shapeCasts_S1x1024x1024_S1024x1024 (ix2 n k) (ix3 (0 : Fin 1) n k) ?_
  rw [Shape.rowMajor_val_three, Shape.rowMajor_val_two]
  show (0 * 1024 + n.val) * 1024 + k.val = n.val * 1024 + k.val
  omega

variable (m : (ℓ : Loc nD τ sig) → Buf (Elt Ideal) ℓ)

/-! What each of the launch's arrays holds. -/

theorem V_2 (c : Dev nD) : V m c main_v2
    = (truncf (F := Ideal) (φ := .f32) .bf16 (lay1 (m ((c : Thread nD τ).loc main_arg1) : FVec Ideal S4x8192x8x64 .f32)) bitsLt_bf16_f32 : FVec Ideal S4x1x8192x512 .bf16) := by
  simp only [V, hostOps0]
  after_results_simp
  rfl

theorem V_5 (c : Dev nD) : V m c main_v5
    = (truncf (F := Ideal) (φ := .f32) .bf16 (lay4 (m ((c : Thread nD τ).loc main_arg2) : FVec Ideal S4x8192x8x64 .f32)) bitsLt_bf16_f32 : FVec Ideal S4x4x2048x512 .bf16) := by
  simp only [V, hostOps0]
  after_results_simp
  rfl

theorem V_8 (c : Dev nD) : V m c main_v8
    = (truncf (F := Ideal) (φ := .f32) .bf16 (lay16 (m ((c : Thread nD τ).loc main_arg3) : FVec Ideal S4x8192x8x64 .f32)) bitsLt_bf16_f32 : FVec Ideal S4x16x512x512 .bf16) := by
  simp only [V, hostOps0]
  after_results_simp
  rfl

theorem V_15 (c : Dev nD) : V m c main_v15
    = (lay1 (scaled (m ((c : Thread nD τ).loc main_arg4) : FVec Ideal S4x8192x8 .f32)) : FVec Ideal S4x1x8192x512 .f32) := by
  simp only [V, hostOps0]
  after_results_simp
  rfl

theorem V_22 (c : Dev nD) : V m c main_v22
    = (lay4 (scaled (m ((c : Thread nD τ).loc main_arg5) : FVec Ideal S4x8192x8 .f32)) : FVec Ideal S4x4x2048x512 .f32) := by
  simp only [V, hostOps0]
  after_results_simp
  rfl

theorem V_29 (c : Dev nD) : V m c main_v29
    = (lay16 (scaled (m ((c : Thread nD τ).loc main_arg6) : FVec Ideal S4x8192x8 .f32)) : FVec Ideal S4x16x512x512 .f32) := by
  simp only [V, hostOps0]
  after_results_simp
  rfl

theorem V_30 (c : Dev nD) : V m c main_v30
    = (truncf (F := Ideal) (φ := .f32) .bf16 (m ((c : Thread nD τ).loc main_arg7) : FVec Ideal S4x8192x512 .f32) bitsLt_bf16_f32 : FVec Ideal S4x8192x512 .bf16) := by
  simp only [V, hostOps0]
  after_results_simp

theorem V_32 (c : Dev nD) : V m c main_v32
    = shapeCast S1x512 (shapeCast S512 (m ((c : Thread nD τ).loc main_arg8) : FVec Ideal S1x512 .f32) shapeCasts_S1x512_S512)
      shapeCasts_S512_S1x512 := by
  simp only [V, hostOps0]
  after_results_simp
  rfl

theorem V_34 (c : Dev nD) : V m c main_v34
    = shapeCast S1x512 (shapeCast S512 (m ((c : Thread nD τ).loc main_arg9) : FVec Ideal S1x512 .f32) shapeCasts_S1x512_S512)
      shapeCasts_S512_S1x512 := by
  simp only [V, hostOps0]
  after_results_simp
  rfl

theorem V_36 (c : Dev nD) : V m c main_v36
    = (truncf (F := Ideal) (φ := .f32) .bf16 (shapeCast S1024x1024 (m ((c : Thread nD τ).loc main_arg10) : FVec Ideal S1x1024x1024 .f32)
      shapeCasts_S1x1024x1024_S1024x1024) bitsLt_bf16_f32 : FVec Ideal S1024x1024 .bf16) := by
  simp only [V, hostOps0]
  after_results_simp
  rfl

end Cert.Merge

end
-- ==== Proof.Merge.Array.lean ====
/- The merge kernel's whole result: the array the launch leaves is the reference's. -/
module

public import proofs.«01_k».proof.Proof.Merge.Region
public import proofs.«01_k».proof.Proof.Merge.Entry
public import proofs.«01_k».proof.Proof.Merge.Ref
public import proofs.«01_k».proof.Proof.Gen.Kernel5Ideal.Value
public import Idealize.ShloMosaic.Lib.Pipeline.ValueKit.Geometry
public import Idealize.ShloMosaic.Lib.Pipeline.Covers

@[expose] public section

set_option maxRecDepth 16384

noncomputable section

namespace Cert.Merge

open Cert.Kernel5Ideal Cert.Kernel5Ideal.Gen Idealize.ShloMosaic Idealize.ShloMosaic.TcCoe Idealize.SL.Sem
open Idealize.ShloMosaic.ValueIdx Idealize.ShloMosaic.Pipeline

variable (m : (ℓ : Loc nD τ sig) → Buf (Elt Ideal) ℓ)

/-- The batch and block of a grid point. -/
abbrev pb (t : Fin cfg0.N) : Fin 4 := grid0.coords t 0
abbrev pi (t : Fin cfg0.N) : Fin 16 := grid0.coords t 1

/-- Row `r` of a grid point's block among the 8192 positions. -/
def prow (t : Fin cfg0.N) (r : Fin 512) : Fin 8192 := ⟨512 * (pi t).val + r.val, by have := (pi t).isLt; omega⟩

theorem toNat_small (n : ℕ) (h : n < 2 ^ 32) : (BitVec.ofNat 32 n).toNat = n := by
  rw [BitVec.toNat_ofNat]; exact Nat.mod_eq_of_lt h

theorem coord_b (t : Fin cfg0.N) : (BitVec.ofNat 32 (grid0.coords t 0).val).toNat = (pb t).val :=
  toNat_small _ (lt_trans (pb t).isLt (by norm_num))
theorem coord_i (t : Fin cfg0.N) : (BitVec.ofNat 32 (grid0.coords t 1).val).toNat = (pi t).val :=
  toNat_small _ (lt_trans (pi t).isLt (by norm_num))

theorem tr0 (t : Fin cfg0.N) : cc0_transform_0 (grid0.coords t) = ![(pb t).val, (pi t).val, 0] := by
  unfold cc0_transform_0
  dsimp only
  rw [coord_b, coord_i]
  rfl

theorem tr7 (t : Fin cfg0.N) : cc0_transform_7 (grid0.coords t) = ![(pb t).val, (pi t).val, 0] := by
  unfold cc0_transform_7
  dsimp only
  rw [coord_b, coord_i]
  rfl

theorem tr11 (t : Fin cfg0.N) : cc0_transform_11 (grid0.coords t) = ![(pb t).val, (pi t).val, 0] := by
  unfold cc0_transform_11
  dsimp only
  rw [coord_b, coord_i]
  rfl

theorem tr1 (t : Fin cfg0.N) : cc0_transform_1 (grid0.coords t) = ![(pb t).val, 0, (pi t).val, 0] := by
  unfold cc0_transform_1
  dsimp only
  rw [coord_b, coord_i]
  rfl

theorem tr2 (t : Fin cfg0.N) : cc0_transform_2 (grid0.coords t) = ![(pb t).val, 0, (pi t).val, 0] := by
  unfold cc0_transform_2
  dsimp only
  rw [coord_b, coord_i]
  rfl

theorem tr3 (t : Fin cfg0.N) : cc0_transform_3 (grid0.coords t) = ![(pb t).val, 0, (pi t).val, 0] := by
  unfold cc0_transform_3
  dsimp only
  rw [coord_b, coord_i]
  rfl

theorem tr4 (t : Fin cfg0.N) : cc0_transform_4 (grid0.coords t) = ![(pb t).val, 0, (pi t).val, 0] := by
  unfold cc0_transform_4
  dsimp only
  rw [coord_b, coord_i]
  rfl

theorem tr5 (t : Fin cfg0.N) : cc0_transform_5 (grid0.coords t) = ![(pb t).val, 0, (pi t).val, 0] := by
  unfold cc0_transform_5
  dsimp only
  rw [coord_b, coord_i]
  rfl

theorem tr6 (t : Fin cfg0.N) : cc0_transform_6 (grid0.coords t) = ![(pb t).val, 0, (pi t).val, 0] := by
  unfold cc0_transform_6
  dsimp only
  rw [coord_b, coord_i]
  rfl

theorem tr8 (t : Fin cfg0.N) : cc0_transform_8 (grid0.coords t) = ![0, 0] := rfl
theorem tr9 (t : Fin cfg0.N) : cc0_transform_9 (grid0.coords t) = ![0, 0] := rfl
theorem tr10 (t : Fin cfg0.N) : cc0_transform_10 (grid0.coords t) = ![0, 0] := rfl

/-- A block of rows of the residual. -/
theorem block_x (c : Dev nD) (t : Fin cfg0.N) (r : Fin 512) (k : Fin 1024) :
    ((iblk m c 0 t : FVec Ideal S1x512x1024 .f32) (ix3 (0 : Fin 1) r k) : EReal)
      = aX (m ((c : Thread nD τ).loc main_arg0)) (pb t) (prow t r) k := by
  unfold iblk
  rw [View.read_apply]
  refine Eq.trans (cast_eq _ _) ?_
  refine Eq.trans (congrFun (V_main_arg0 m c) _) (congrArg _ (funext fun a => Fin.ext ?_))
  refine (Window.rect_emb_val_off win0_0 t (ix3 (0 : Fin 1) r k) a).trans ?_
  have e : win0_0.index t = ![(pb t).val, (pi t).val, 0] := tr0 t
  rw [e]
  match a with
  | ⟨0, _⟩ => show (pb t).val * 1 + 0 = (pb t).val; omega
  | ⟨1, _⟩ => show (pi t).val * 512 + r.val = 512 * (pi t).val + r.val; omega
  | ⟨2, _⟩ => show 0 * 1024 + k.val = k.val; omega

/-- A block of rows of the second part. -/
theorem block_b (c : Dev nD) (t : Fin cfg0.N) (r : Fin 512) (k : Fin 512) :
    ((iblk m c 7 t : FVec Ideal S1x512x512 .bf16) (ix3 (0 : Fin 1) r k) : EReal)
      = aB (m ((c : Thread nD τ).loc main_arg7)) (pb t) (prow t r) k := by
  unfold iblk
  rw [View.read_apply]
  refine Eq.trans (cast_eq _ _) ?_
  refine Eq.trans (congrFun (V_30 m c) _) ?_
  rw [truncf_apply]
  refine congrArg _ (funext fun a => Fin.ext ?_)
  refine (Window.rect_emb_val_off win0_7 t (ix3 (0 : Fin 1) r k) a).trans ?_
  have e : win0_7.index t = ![(pb t).val, (pi t).val, 0] := tr7 t
  rw [e]
  match a with
  | ⟨0, _⟩ => show (pb t).val * 1 + 0 = (pb t).val; omega
  | ⟨1, _⟩ => show (pi t).val * 512 + r.val = 512 * (pi t).val + r.val; omega
  | ⟨2, _⟩ => show 0 * 512 + k.val = k.val; omega

/-! The outputs and the exponents by residue of the position. -/

theorem block_o1 (c : Dev nD) (t : Fin cfg0.N) (a : Fin 1) (j : Fin 512) (n : Fin 512) (r : Fin 512) (hr : r.val = 1 * j.val + a.val) :
    ((iblk m c 1 t : FVec Ideal S1x1x512x512 .bf16) (ix4 (0 : Fin 1) a j n) : EReal)
      = (m ((c : Thread nD τ).loc main_arg1) : FVec Ideal S4x8192x8x64 .f32) (ix4 (pb t) (prow t r) (head n) (lane n)) := by
  have hi := (pi t).isLt
  unfold iblk
  rw [View.read_apply]
  refine Eq.trans (cast_eq _ _) ?_
  refine Eq.trans (congrFun (V_2 m c) _) ?_
  rw [truncf_apply]
  refine Eq.trans (congrArg _ (funext fun x => Fin.ext ?_)) (lay1_apply _ (pb t) a (⟨512 * (pi t).val + j.val, by omega⟩ : Fin 8192) n (prow t r)
    (by show 512 * (pi t).val + r.val = 1 * (512 * (pi t).val + j.val) + a.val; omega))
  refine (Window.rect_emb_val_off win0_1 t (ix4 (0 : Fin 1) a j n) x).trans ?_
  have e : win0_1.index t = ![(pb t).val, 0, (pi t).val, 0] := tr1 t
  rw [e]
  match x with
  | ⟨0, _⟩ => show (pb t).val * 1 + 0 = (pb t).val; omega
  | ⟨1, _⟩ => show 0 * 1 + a.val = a.val; omega
  | ⟨2, _⟩ => show (pi t).val * 512 + j.val = 512 * (pi t).val + j.val; omega
  | ⟨3, _⟩ => show 0 * 512 + n.val = n.val; omega

theorem block_o4 (c : Dev nD) (t : Fin cfg0.N) (a : Fin 4) (j : Fin 128) (n : Fin 512) (r : Fin 512) (hr : r.val = 4 * j.val + a.val) :
    ((iblk m c 2 t : FVec Ideal S1x4x128x512 .bf16) (ix4 (0 : Fin 1) a j n) : EReal)
      = (m ((c : Thread nD τ).loc main_arg2) : FVec Ideal S4x8192x8x64 .f32) (ix4 (pb t) (prow t r) (head n) (lane n)) := by
  have hi := (pi t).isLt
  unfold iblk
  rw [View.read_apply]
  refine Eq.trans (cast_eq _ _) ?_
  refine Eq.trans (congrFun (V_5 m c) _) ?_
  rw [truncf_apply]
  refine Eq.trans (congrArg _ (funext fun x => Fin.ext ?_)) (lay4_apply _ (pb t) a (⟨128 * (pi t).val + j.val, by omega⟩ : Fin 2048) n (prow t r)
    (by show 512 * (pi t).val + r.val = 4 * (128 * (pi t).val + j.val) + a.val; omega))
  refine (Window.rect_emb_val_off win0_2 t (ix4 (0 : Fin 1) a j n) x).trans ?_
  have e : win0_2.index t = ![(pb t).val, 0, (pi t).val, 0] := tr2 t
  rw [e]
  match x with
  | ⟨0, _⟩ => show (pb t).val * 1 + 0 = (pb t).val; omega
  | ⟨1, _⟩ => show 0 * 4 + a.val = a.val; omega
  | ⟨2, _⟩ => show (pi t).val * 128 + j.val = 128 * (pi t).val + j.val; omega
  | ⟨3, _⟩ => show 0 * 512 + n.val = n.val; omega

theorem block_o16 (c : Dev nD) (t : Fin cfg0.N) (a : Fin 16) (j : Fin 32) (n : Fin 512) (r : Fin 512) (hr : r.val = 16 * j.val + a.val) :
    ((iblk m c 3 t : FVec Ideal S1x16x32x512 .bf16) (ix4 (0 : Fin 1) a j n) : EReal)
      = (m ((c : Thread nD τ).loc main_arg3) : FVec Ideal S4x8192x8x64 .f32) (ix4 (pb t) (prow t r) (head n) (lane n)) := by
  have hi := (pi t).isLt
  unfold iblk
  rw [View.read_apply]
  refine Eq.trans (cast_eq _ _) ?_
  refine Eq.trans (congrFun (V_8 m c) _) ?_
  rw [truncf_apply]
  refine Eq.trans (congrArg _ (funext fun x => Fin.ext ?_)) (lay16_apply _ (pb t) a (⟨32 * (pi t).val + j.val, by omega⟩ : Fin 512) n (prow t r)
    (by show 512 * (pi t).val + r.val = 16 * (32 * (pi t).val + j.val) + a.val; omega))
  refine (Window.rect_emb_val_off win0_3 t (ix4 (0 : Fin 1) a j n) x).trans ?_
  have e : win0_3.index t = ![(pb t).val, 0, (pi t).val, 0] := tr3 t
  rw [e]
  match x with
  | ⟨0, _⟩ => show (pb t).val * 1 + 0 = (pb t).val; omega
  | ⟨1, _⟩ => show 0 * 16 + a.val = a.val; omega
  | ⟨2, _⟩ => show (pi t).val * 32 + j.val = 32 * (pi t).val + j.val; omega
  | ⟨3, _⟩ => show 0 * 512 + n.val = n.val; omega

theorem block_l1 (lr : Fin 3 → (⟨3, ![4, 8192, 8]⟩ : Shape).Idx → ℝ) (c : Dev nD)
    (h : ∀ i, @Eq EReal ((m ((c : Thread nD τ).loc main_arg4) : FVec Ideal S4x8192x8 .f32) i) ((lr 0 i : ℝ) : EReal))
    (t : Fin cfg0.N) (a : Fin 1) (j : Fin 512) (n : Fin 512) (r : Fin 512) (hr : r.val = 1 * j.val + a.val) :
    ((iblk m c 4 t : FVec Ideal S1x1x512x512 .f32) (ix4 (0 : Fin 1) a j n) : EReal)
      = ((lr 0 (ix3 (pb t) (prow t r) (head n)) / Real.log 2 : ℝ) : EReal) := by
  have hi := (pi t).isLt
  unfold iblk
  rw [View.read_apply]
  refine Eq.trans (cast_eq _ _) ?_
  refine Eq.trans (congrFun (V_15 m c) _) ?_
  refine Eq.trans (congrArg _ (funext fun x => Fin.ext ?_)) ((lay1_apply _ (pb t) a (⟨512 * (pi t).val + j.val, by omega⟩ : Fin 8192) n (prow t r)
    (by show 512 * (pi t).val + r.val = 1 * (512 * (pi t).val + j.val) + a.val; omega)).trans (scaled_apply _ _ _ _ _ _ (h _)))
  refine (Window.rect_emb_val_off win0_4 t (ix4 (0 : Fin 1) a j n) x).trans ?_
  have e : win0_4.index t = ![(pb t).val, 0, (pi t).val, 0] := tr4 t
  rw [e]
  match x with
  | ⟨0, _⟩ => show (pb t).val * 1 + 0 = (pb t).val; omega
  | ⟨1, _⟩ => show 0 * 1 + a.val = a.val; omega
  | ⟨2, _⟩ => show (pi t).val * 512 + j.val = 512 * (pi t).val + j.val; omega
  | ⟨3, _⟩ => show 0 * 512 + n.val = n.val; omega

theorem block_l4 (lr : Fin 3 → (⟨3, ![4, 8192, 8]⟩ : Shape).Idx → ℝ) (c : Dev nD)
    (h : ∀ i, @Eq EReal ((m ((c : Thread nD τ).loc main_arg5) : FVec Ideal S4x8192x8 .f32) i) ((lr 1 i : ℝ) : EReal))
    (t : Fin cfg0.N) (a : Fin 4) (j : Fin 128) (n : Fin 512) (r : Fin 512) (hr : r.val = 4 * j.val + a.val) :
    ((iblk m c 5 t : FVec Ideal S1x4x128x512 .f32) (ix4 (0 : Fin 1) a j n) : EReal)
      = ((lr 1 (ix3 (pb t) (prow t r) (head n)) / Real.log 2 : ℝ) : EReal) := by
  have hi := (pi t).isLt
  unfold iblk
  rw [View.read_apply]
  refine Eq.trans (cast_eq _ _) ?_
  refine Eq.trans (congrFun (V_22 m c) _) ?_
  refine Eq.trans (congrArg _ (funext fun x => Fin.ext ?_)) ((lay4_apply _ (pb t) a (⟨128 * (pi t).val + j.val, by omega⟩ : Fin 2048) n (prow t r)
    (by show 512 * (pi t).val + r.val = 4 * (128 * (pi t).val + j.val) + a.val; omega)).trans (scaled_apply _ _ _ _ _ _ (h _)))
  refine (Window.rect_emb_val_off win0_5 t (ix4 (0 : Fin 1) a j n) x).trans ?_
  have e : win0_5.index t = ![(pb t).val, 0, (pi t).val, 0] := tr5 t
  rw [e]
  match x with
  | ⟨0, _⟩ => show (pb t).val * 1 + 0 = (pb t).val; omega
  | ⟨1, _⟩ => show 0 * 4 + a.val = a.val; omega
  | ⟨2, _⟩ => show (pi t).val * 128 + j.val = 128 * (pi t).val + j.val; omega
  | ⟨3, _⟩ => show 0 * 512 + n.val = n.val; omega

theorem block_l16 (lr : Fin 3 → (⟨3, ![4, 8192, 8]⟩ : Shape).Idx → ℝ) (c : Dev nD)
    (h : ∀ i, @Eq EReal ((m ((c : Thread nD τ).loc main_arg6) : FVec Ideal S4x8192x8 .f32) i) ((lr 2 i : ℝ) : EReal))
    (t : Fin cfg0.N) (a : Fin 16) (j : Fin 32) (n : Fin 512) (r : Fin 512) (hr : r.val = 16 * j.val + a.val) :
    ((iblk m c 6 t : FVec Ideal S1x16x32x512 .f32) (ix4 (0 : Fin 1) a j n) : EReal)
      = ((lr 2 (ix3 (pb t) (prow t r) (head n)) / Real.log 2 : ℝ) : EReal) := by
  have hi := (pi t).isLt
  unfold iblk
  rw [View.read_apply]
  refine Eq.trans (cast_eq _ _) ?_
  refine Eq.trans (congrFun (V_29 m c) _) ?_
  refine Eq.trans (congrArg _ (funext fun x => Fin.ext ?_)) ((lay16_apply _ (pb t) a (⟨32 * (pi t).val + j.val, by omega⟩ : Fin 512) n (prow t r)
    (by show 512 * (pi t).val + r.val = 16 * (32 * (pi t).val + j.val) + a.val; omega)).trans (scaled_apply _ _ _ _ _ _ (h _)))
  refine (Window.rect_emb_val_off win0_6 t (ix4 (0 : Fin 1) a j n) x).trans ?_
  have e : win0_6.index t = ![(pb t).val, 0, (pi t).val, 0] := tr6 t
  rw [e]
  match x with
  | ⟨0, _⟩ => show (pb t).val * 1 + 0 = (pb t).val; omega
  | ⟨1, _⟩ => show 0 * 16 + a.val = a.val; omega
  | ⟨2, _⟩ => show (pi t).val * 32 + j.val = 32 * (pi t).val + j.val; omega
  | ⟨3, _⟩ => show 0 * 512 + n.val = n.val; omega

/-! The weights and scales are whole in every grid point. -/

theorem block_g (c : Dev nD) (t : Fin cfg0.N) (q : Fin 512) :
    ((iblk m c 8 t : FVec Ideal S1x512 .f32) (ix2 (0 : Fin 1) q) : EReal) = aG (m ((c : Thread nD τ).loc main_arg8)) q := by
  unfold iblk
  rw [View.read_apply]
  refine Eq.trans (cast_eq _ _) ?_
  refine Eq.trans (congrFun (V_32 m c) _) ?_
  refine Eq.trans (congrArg _ (funext fun a => Fin.ext ?_)) (cast_g _ q)
  refine (Window.rect_emb_val_off win0_8 t (ix2 (0 : Fin 1) q) a).trans ?_
  have e : win0_8.index t = ![0, 0] := tr8 t
  rw [e]
  match a with
  | ⟨0, _⟩ => show 0 * 1 + 0 = 0; omega
  | ⟨1, _⟩ => show 0 * 512 + q.val = q.val; omega

theorem block_h (c : Dev nD) (t : Fin cfg0.N) (q : Fin 512) :
    ((iblk m c 9 t : FVec Ideal S1x512 .f32) (ix2 (0 : Fin 1) q) : EReal) = aG (m ((c : Thread nD τ).loc main_arg9)) q := by
  unfold iblk
  rw [View.read_apply]
  refine Eq.trans (cast_eq _ _) ?_
  refine Eq.trans (congrFun (V_34 m c) _) ?_
  refine Eq.trans (congrArg _ (funext fun a => Fin.ext ?_)) (cast_g _ q)
  refine (Window.rect_emb_val_off win0_9 t (ix2 (0 : Fin 1) q) a).trans ?_
  have e : win0_9.index t = ![0, 0] := tr9 t
  rw [e]
  match a with
  | ⟨0, _⟩ => show 0 * 1 + 0 = 0; omega
  | ⟨1, _⟩ => show 0 * 512 + q.val = q.val; omega

theorem block_w (c : Dev nD) (t : Fin cfg0.N) (p q : Fin 1024) :
    ((iblk m c 10 t : FVec Ideal S1024x1024 .bf16) (ix2 p q) : EReal) = aW (m ((c : Thread nD τ).loc main_arg10)) p q := by
  unfold iblk
  rw [View.read_apply]
  refine Eq.trans (cast_eq _ _) ?_
  refine Eq.trans (congrFun (V_36 m c) _) ?_
  refine Eq.trans (congrArg _ (funext fun a => Fin.ext ?_)) (cast_w _ p q)
  refine (Window.rect_emb_val_off win0_10 t (ix2 p q) a).trans ?_
  have e : win0_10.index t = ![0, 0] := tr10 t
  rw [e]
  match a with
  | ⟨0, _⟩ => show 0 * 1024 + p.val = p.val; omega
  | ⟨1, _⟩ => show 0 * 1024 + q.val = q.val; omega

/-! Planes of the three dilations, the lane of group `g` at column `n`. -/

theorem pl_1 (A : S1x1x512x512.Idx → EReal) (B : S1x4x128x512.Idx → EReal) (C : S1x16x32x512.Idx → EReal) (g : Fin 4) (r : Fin 512)
    (l : Fin 128) (hq) : (pl A B C ⟨g.val, hq⟩ (ix3 (0 : Fin 1) r l) : EReal)
      = A (ix4 (0 : Fin 1) (0 : Fin 1) r (⟨128 * g.val + l.val, by omega⟩ : Fin 512)) := by
  unfold pl planes
  rw [if_pos (show g.val < 4 from g.isLt)]
  refine congrArg A (congrArg (ix4 (0 : Fin 1) (0 : Fin 1) r) (Fin.ext ?_))
  show 128 * (g.val % 4) + l.val = 128 * g.val + l.val
  omega

theorem pl_4 (A : S1x1x512x512.Idx → EReal) (B : S1x4x128x512.Idx → EReal) (C : S1x16x32x512.Idx → EReal) (g : Fin 4) (r : Fin 512)
    (l : Fin 128) (hq) : (pl A B C ⟨4 + g.val, hq⟩ (ix3 (0 : Fin 1) r l) : EReal)
      = B (ix4 (0 : Fin 1) (⟨r.val % 4, by omega⟩ : Fin 4) (⟨r.val / 4, by omega⟩ : Fin 128) (⟨128 * g.val + l.val, by omega⟩ : Fin 512)) := by
  unfold pl planes
  rw [if_neg (show ¬ 4 + g.val < 4 by omega), if_pos (show 4 + g.val < 8 by omega)]
  refine congrArg B (congrArg (ix4 (0 : Fin 1) (⟨r.val % 4, by omega⟩ : Fin 4) (⟨r.val / 4, by omega⟩ : Fin 128)) (Fin.ext ?_))
  show 128 * ((4 + g.val) % 4) + l.val = 128 * g.val + l.val
  omega

theorem pl_16 (A : S1x1x512x512.Idx → EReal) (B : S1x4x128x512.Idx → EReal) (C : S1x16x32x512.Idx → EReal) (g : Fin 4) (r : Fin 512)
    (l : Fin 128) (hq) : (pl A B C ⟨8 + g.val, hq⟩ (ix3 (0 : Fin 1) r l) : EReal)
      = C (ix4 (0 : Fin 1) (⟨r.val % 16, by omega⟩ : Fin 16) (⟨r.val / 16, by omega⟩ : Fin 32) (⟨128 * g.val + l.val, by omega⟩ : Fin 512)) := by
  unfold pl planes
  rw [if_neg (show ¬ 8 + g.val < 4 by omega), if_neg (show ¬ 8 + g.val < 8 by omega)]
  refine congrArg C (congrArg (ix4 (0 : Fin 1) (⟨r.val % 16, by omega⟩ : Fin 16) (⟨r.val / 16, by omega⟩ : Fin 32)) (Fin.ext ?_))
  show 128 * ((8 + g.val) % 4) + l.val = 128 * g.val + l.val
  omega

variable (lr : Fin 3 → (⟨3, ![4, 8192, 8]⟩ : Shape).Idx → ℝ)

/-- A block's merged row is the reference's. -/
theorem row_eq (c : Dev nD)
    (h : IsReal (m ((c : Thread nD τ).loc main_arg4)) (m ((c : Thread nD τ).loc main_arg5)) (m ((c : Thread nD τ).loc main_arg6)) lr)
    (t : Fin cfg0.N) (r n : Fin 512) :
    (cat (grp (iblk m c 1 t) (iblk m c 2 t) (iblk m c 3 t) (iblk m c 4 t) (iblk m c 5 t) (iblk m c 6 t)) (ix2 r n) : EReal)
      = mrow (m ((c : Thread nD τ).loc main_arg1)) (m ((c : Thread nD τ).loc main_arg2)) (m ((c : Thread nD τ).loc main_arg3)) lr
          (pb t) (prow t r) n := by
  obtain ⟨h4, h5, h6⟩ := h
  obtain ⟨g, l, rfl⟩ : ∃ (g : Fin 4) (l : Fin 128), n = (⟨128 * g.val + l.val, by omega⟩ : Fin 512) :=
    ⟨⟨n.val / 128, by omega⟩, ⟨n.val % 128, by omega⟩, Fin.ext (by show n.val = 128 * (n.val / 128) + n.val % 128; omega)⟩
  refine (cat_apply _ r g l).trans ?_
  unfold grp
  have e4 : r.val = 4 * (r.val / 4) + r.val % 4 := by omega
  have e16 : r.val = 16 * (r.val / 16) + r.val % 16 := by omega
  refine (mixG_apply _ _ _ _ _ _
    (fun j => lr j (ix3 (pb t) (prow t r) (head (⟨128 * g.val + l.val, by omega⟩ : Fin 512))) / Real.log 2) r l
    ((pl_1 _ _ _ g r l _).trans (block_l1 m lr c h4 t (0 : Fin 1) r _ r (by show r.val = 1 * r.val + 0; omega)))
    ((pl_4 _ _ _ g r l _).trans (block_l4 m lr c h5 t _ _ _ r e4))
    ((pl_16 _ _ _ g r l _).trans (block_l16 m lr c h6 t _ _ _ r e16))).trans ?_
  unfold mrow
  refine congrArg (mixed _) (funext fun j => ?_)
  match j with
  | ⟨0, _⟩ => exact (pl_1 _ _ _ g r l _).trans (block_o1 m c t (0 : Fin 1) r _ r (by show r.val = 1 * r.val + 0; omega))
  | ⟨1, _⟩ => exact (pl_4 _ _ _ g r l _).trans (block_o4 m c t _ _ _ r e4)
  | ⟨2, _⟩ => exact (pl_16 _ _ _ g r l _).trans (block_o16 m c t _ _ _ r e16)

/-- Where a grid point's block is written. -/
theorem out_emb (t : Fin cfg0.N) (r : Fin 512) (k : Fin 1024) :
    ((cfg0.win 11).blk t).view.emb (ix3 (0 : Fin 1) r k) = ix3 (pb t) (prow t r) k := funext fun a => Fin.ext (by
  refine (Window.rect_emb_val_off win0_11 t (ix3 (0 : Fin 1) r k) a).trans ?_
  have e : win0_11.index t = ![(pb t).val, (pi t).val, 0] := tr11 t
  rw [e]
  match a with
  | ⟨0, _⟩ => show (pb t).val * 1 + 0 = (pb t).val; omega
  | ⟨1, _⟩ => show (pi t).val * 512 + r.val = 512 * (pi t).val + r.val; omega
  | ⟨2, _⟩ => show 0 * 1024 + k.val = k.val; omega)

/-- The reference's result of a launch's arguments. -/
abbrev refOf (c : Dev nD) : (⟨(⟨3, ![4, 8192, 1024]⟩ : Shape), .f32⟩ : BufTy).Contents (Elt Ideal) :=
  Cert.Reference5Ideal.Read.val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The merge of equal arguments. -/
theorem out_congr {w w' : Fin 1024 → Fin 1024 → EReal} {x x' : Fin 1024 → EReal} {g g' a a' h h' b b' : Fin 512 → EReal}
    (hw : ∀ n k, w n k = w' n k) (hx : ∀ k, x k = x' k) (hg : ∀ k, g k = g' k) (ha : ∀ k, a k = a' k) (hh : ∀ k, h k = h' k)
    (hb : ∀ k, b k = b' k) (k : Fin 1024) : out w x (norm g a) (norm h b) k = out w' x' (norm g' a') (norm h' b') k := by
  obtain rfl : w = w' := funext fun n => funext fun k => hw n k
  obtain rfl : x = x' := funext hx
  obtain rfl : g = g' := funext hg
  obtain rfl : a = a' := funext ha
  obtain rfl : h = h' := funext hh
  obtain rfl : b = b' := funext hb
  rfl

/-- A grid point's block at a row and column. -/
theorem block_out (c : Dev nD)
    (h : IsReal (m ((c : Thread nD τ).loc main_arg4)) (m ((c : Thread nD τ).loc main_arg5)) (m ((c : Thread nD τ).loc main_arg6)) lr)
    (t : Fin cfg0.N) (r : Fin 512) (k : Fin 1024) :
    (blockOut (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix3 (0 : Fin 1) r k) : EReal)
      = refOf m c (ix3 (pb t) (prow t r) k) := by
  refine (block_apply _ _ _ _ _ _ _ _ _ _ _ r k).trans ?_
  refine Eq.trans ?_ (ref_out _ _ _ _ _ _ _ _ _ _ _ lr h (pb t) (prow t r) k).symm
  exact out_congr (fun p q => block_w m c t p q) (fun q => block_x m c t r q) (fun q => block_g m c t q)
    (fun q => row_eq m lr c h t r q) (fun q => block_h m c t q) (fun q => block_b m c t r q) k

/-- What a grid point writes back is its block of the reference's result. -/
theorem flushed_eq (c : Dev nD)
    (h : IsReal (m ((c : Thread nD τ).loc main_arg4)) (m ((c : Thread nD τ).loc main_arg5)) (m ((c : Thread nD τ).loc main_arg6)) lr)
    (t : Fin cfg0.N) :
    (dats m 0 c).flushed 11 t = ((cfg0.win 11).blk t).view.read (Elt Ideal) (refOf m c) := by
  rw [Value.flushed11_A, out_eq]
  funext y
  rw [View.read_apply]
  refine Eq.trans ?_ (cast_eq _ _).symm
  obtain ⟨r, k, rfl⟩ : ∃ (r : Fin 512) (k : Fin 1024), y = ix3 (0 : Fin 1) r k := ⟨y 1, y 2, (eq_ix3 (n0 := 1) (n1 := 512) (n2 := 1024) y).trans (by
    congr 1; exact Subsingleton.elim (α := Fin 1) _ _)⟩
  rw [out_emb]
  exact block_out m lr c h t r k

/-- Every element of the result is in some grid point's block. -/
theorem cover (i : S4x8192x1024.Idx) : ∃ t : Fin cfg0.N, (cfg0.win 11).flush t = true ∧ i ∈ ((cfg0.win 11).blk t).view.set := by
  have h0 : (i 0 : Nat) < 4 := (i 0).isLt
  have h1 : (i 1 : Nat) < 8192 := (i 1).isLt
  have h2 : (i 2 : Nat) < 1024 := (i 2).isLt
  obtain ⟨t, ht⟩ := grid0.coords_surjective (fun a => match a with
    | ⟨0, _⟩ => (⟨(i 0).val, h0⟩ : Fin 4)
    | ⟨1, _⟩ => (⟨(i 1).val / 512, by omega⟩ : Fin 16))
  have hb : (pb t).val = (i 0).val := congrArg Fin.val (congrFun ht 0)
  have hi : (pi t).val = (i 1).val / 512 := congrArg Fin.val (congrFun ht 1)
  refine ⟨t, flush0_11 t, Finset.mem_map.mpr ⟨ix3 (0 : Fin 1) ⟨(i 1).val % 512, by omega⟩ ⟨(i 2).val, h2⟩, Finset.mem_univ _, ?_⟩⟩
  refine (out_emb t _ _).trans (funext fun a => Fin.ext ?_)
  match a with
  | ⟨0, _⟩ => exact hb
  | ⟨1, _⟩ => show 512 * (pi t).val + (i 1).val % 512 = (i 1).val; omega
  | ⟨2, _⟩ => rfl

/-- The result array after the launch. -/
theorem final (c : Dev nD)
    (h : IsReal (m ((c : Thread nD τ).loc main_arg4)) (m ((c : Thread nD τ).loc main_arg5)) (m ((c : Thread nD τ).loc main_arg6)) lr) :
    (dats m 0 c).arrAt 11 cfg0.N = refOf m c :=
  (dats m 0 c).arrAt_eq_of_cover 11 _ (fun t _ => flushed_eq m lr c h t) cover

end Cert.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_scores
public import proofs.«01_k».proof.Proof.Attn.Array
public import proofs.«01_k».proof.Proof.Ffn.Array
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_lse
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_scores_sample
public import proofs.«01_k».proof.Proof.AttnSample.Array
public import proofs.«01_k».proof.Proof.FfnSample.Array
public import proofs.«01_k».proof.Proof.Merge.Array
public import Idealize.ShloMosaic.Adequacy
public import Idealize.ShloMosaic.Init

@[expose] public section

noncomputable section

namespace Cert.Proof

open Idealize.ShloMosaic Idealize.SL.Sem

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => Cert.ReferenceIdeal.Read.val_main_v17 (F := Ideal) (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · refine (θ_run (Cert.KernelIdeal.defs (F := Ideal)) _ _).mono (fun r h c => ?_) (Cert.KernelIdeal.Value.run_blocks (F := Ideal) m g)
    obtain ⟨hv, h0, h1, h2⟩ := h c
    obtain ⟨hq, hk⟩ := Cert.Attn.finite_args _ _ _ (hpre c)
    choose qr hq using hq
    choose kr hk using hk
    exact ⟨hv.trans (Cert.Attn.final m qr kr c hq hk), h0, h1, h2⟩
  · refine (θ_run (Cert.ReferenceIdeal.defs (F := Ideal)) _ _).mono (fun r h c => ?_) (Cert.ReferenceIdeal.Value.run (F := Ideal) m' g')
    obtain ⟨hv, h0, h1, h2⟩ := h c
    obtain ⟨e0, e1, e2⟩ := hargs c
    refine ⟨(hv.trans (Cert.ReferenceIdeal.Read.val_main_v17_eq _ _ _)).trans ?_, h0, h1, h2⟩
    rw [e0, e1, e2]

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Ffn.refOf m c, ?_, ?_⟩
  · refine (θ_run (Cert.Kernel2Ideal.defs (F := Ideal)) _ _).mono (fun r h c => ?_) (Cert.Kernel2Ideal.Value.run_blocks (F := Ideal) m g)
    obtain ⟨hv, hrest⟩ := h c
    exact ⟨hv.trans (Cert.Ffn.final m c), hrest⟩
  · refine (θ_run (Cert.Reference2Ideal.defs (F := Ideal)) _ _).mono (fun r h c => ?_) (Cert.Reference2Ideal.Value.run (F := Ideal) m' g')
    obtain ⟨hv, hrest⟩ := h c
    obtain ⟨e0, e1, e2, e3, e4, e5, e6⟩ := hargs c
    refine ⟨(hv.trans (Cert.Reference2Ideal.Read.val_main_v63_eq _ _)).trans ?_, hrest⟩
    rw [e0, e1, e2, e3, e4, e5, e6]

theorem frame_ref3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal_pre_finite_scores_sample (hKernel3Ideal := Cert.Kernel3Ideal.Gen.facts)
    (hReference3Ideal := Cert.Reference3Ideal.Gen.facts) (hPre_finite_scores_sample := Cert.Pre_finite_scores_sample.Gen.facts) := by
  intro m g m' g' hpre hargs
  refine ⟨fun c => Cert.Reference3Ideal.Read.val_main_v17 (F := Ideal) (m ((c.tc : Thread _ _).loc Cert.Kernel3Ideal.main_arg0))
    (m ((c.tc : Thread _ _).loc Cert.Kernel3Ideal.main_arg1)) (m ((c.tc : Thread _ _).loc Cert.Kernel3Ideal.main_arg2)), ?_, ?_⟩
  · refine (θ_run (Cert.Kernel3Ideal.defs (F := Ideal)) _ _).mono (fun r h c => ?_) (Cert.Kernel3Ideal.Value.run_blocks (F := Ideal) m g)
    obtain ⟨hv, h0, h1, h2⟩ := h c
    obtain ⟨hq, hk⟩ := Cert.AttnSample.finite_args _ _ _ (hpre c)
    choose qr hq using hq
    choose kr hk using hk
    exact ⟨hv.trans (Cert.AttnSample.final m qr kr c hq hk), h0, h1, h2⟩
  · refine (θ_run (Cert.Reference3Ideal.defs (F := Ideal)) _ _).mono (fun r h c => ?_) (Cert.Reference3Ideal.Value.run (F := Ideal) m' g')
    obtain ⟨hv, h0, h1, h2⟩ := h c
    obtain ⟨e0, e1, e2⟩ := hargs c
    refine ⟨(hv.trans (Cert.Reference3Ideal.Read.val_main_v17_eq _ _ _)).trans ?_, h0, h1, h2⟩
    rw [e0, e1, e2]

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.FfnSample.refOf m c, ?_, ?_⟩
  · refine (θ_run (Cert.Kernel4Ideal.defs (F := Ideal)) _ _).mono (fun r h c => ?_) (Cert.Kernel4Ideal.Value.run_blocks (F := Ideal) m g)
    obtain ⟨hv, hrest⟩ := h c
    exact ⟨hv.trans (Cert.FfnSample.final m c), hrest⟩
  · refine (θ_run (Cert.Reference4Ideal.defs (F := Ideal)) _ _).mono (fun r h c => ?_) (Cert.Reference4Ideal.Value.run (F := Ideal) m' g')
    obtain ⟨hv, hrest⟩ := h c
    obtain ⟨e0, e1, e2, e3, e4, e5, e6⟩ := hargs c
    refine ⟨(hv.trans (Cert.Reference4Ideal.Read.val_main_v63_eq _ _)).trans ?_, hrest⟩
    rw [e0, e1, e2, e3, e4, e5, e6]

theorem algebraic5 : Cert.algebraic_Kernel5Ideal_Reference5Ideal_pre_finite_lse (hKernel5Ideal := Cert.Kernel5Ideal.Gen.facts)
    (hReference5Ideal := Cert.Reference5Ideal.Gen.facts) (hPre_finite_lse := Cert.Pre_finite_lse.Gen.facts) := by
  intro m g m' g' hpre hargs
  refine ⟨fun c => Cert.Merge.refOf m c, ?_, ?_⟩
  · refine (θ_run (Cert.Kernel5Ideal.defs (F := Ideal)) _ _).mono (fun r h c => ?_) (Cert.Kernel5Ideal.Value.run_blocks (F := Ideal) m g)
    obtain ⟨hv, hrest⟩ := h c
    obtain ⟨lr, hl⟩ := Cert.Merge.finite_args _ _ _ _ _ _ _ _ _ _ _ (hpre c)
    exact ⟨hv.trans (Cert.Merge.final m lr c hl), hrest⟩
  · refine (θ_run (Cert.Reference5Ideal.defs (F := Ideal)) _ _).mono (fun r h c => ?_) (Cert.Reference5Ideal.Value.run (F := Ideal) m' g')
    obtain ⟨hv, hrest⟩ := h c
    obtain ⟨e0, e1, e2, e3, e4, e5, e6, e7, e8, e9, e10⟩ := hargs c
    refine ⟨(hv.trans (Cert.Reference5Ideal.Read.val_main_v55_eq _ _)).trans ?_, hrest⟩
    rw [e0, e1, e2, e3, e4, e5, e6, e7, e8, e9, e10]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_scores.Gen.facts,
    Cert.Pre_finite_scores_sample.Gen.facts, Cert.Pre_finite_lse.Gen.facts,
    fun m g _ => Cert.Kernel.Gen.frame m g, fun m g _ => Cert.KernelIdeal.Gen.frame m g, fun m g _ => Cert.KernelIdeal.Gen.frame m g,
    fun m g _ => frame_ref m g, fun m g _ => frame_ref m g,
    fun m g _ => Cert.Kernel2.Gen.frame m g, fun m g _ => Cert.Kernel2Ideal.Gen.frame m g,
    fun m g _ => (θ_run Cert.Reference2Ideal.defs _ _).mono (fun r h => ⟨fun c => (h c).2, sem_eq_zero_of_no_sems (by decide) r.2⟩)
      (Cert.Reference2Ideal.Value.run (F := Ideal) m g),
    fun m g _ => Cert.Kernel3.Gen.frame m g, fun m g _ => Cert.Kernel3Ideal.Gen.frame m g, fun m g _ => Cert.Kernel3Ideal.Gen.frame m g,
    fun m g _ => frame_ref3 m g, fun m g _ => frame_ref3 m g,
    fun m g _ => Cert.Kernel4.Gen.frame m g, fun m g _ => Cert.Kernel4Ideal.Gen.frame m g,
    fun m g _ => (θ_run Cert.Reference4Ideal.defs _ _).mono (fun r h => ⟨fun c => (h c).2, sem_eq_zero_of_no_sems (by decide) r.2⟩)
      (Cert.Reference4Ideal.Value.run (F := Ideal) m g),
    fun m g _ => Cert.Kernel5.Gen.frame m g, fun m g _ => Cert.Kernel5Ideal.Gen.frame m g, fun m g _ => Cert.Kernel5Ideal.Gen.frame m g,
    fun m g _ => (θ_run Cert.Reference5Ideal.defs _ _).mono (fun r h => ⟨fun c => (h c).2, sem_eq_zero_of_no_sems (by decide) r.2⟩)
      (Cert.Reference5Ideal.Value.run (F := Ideal) m g),
    fun m g _ => (θ_run Cert.Reference5Ideal.defs _ _).mono (fun r h => ⟨fun c => (h c).2, sem_eq_zero_of_no_sems (by decide) r.2⟩)
      (Cert.Reference5Ideal.Value.run (F := Ideal) m g),
    trivial, algebraic, trivial, algebraic2, trivial, algebraic3, trivial, algebraic4, trivial, algebraic5⟩

end Cert.Proof

end
